-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_AttnRef (m : (ℓ : Loc Cert.AttnRef.nD Cert.AttnRef.τ Cert.AttnRef.sig) → Buf (Elt Bits) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.2.2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10))).2.2.2.2.2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.2.2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10))).2.2.2.2.2.2.2.2.2 = (fun _ => 1#1)

def Pre_MlpRef (m : (ℓ : Loc Cert.MlpRef.nD Cert.MlpRef.τ Cert.MlpRef.sig) → Buf (Elt Bits) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.2.2.2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13)) (m ((c.tc : Thread Cert.InprojIdeal.nD Cert.InprojIdeal.τ).loc Cert.InprojIdeal.main_arg14)) (m ((c.tc : Thread Cert.InprojIdeal.nD Cert.InprojIdeal.τ).loc Cert.InprojIdeal.main_arg15)) (m ((c.tc : Thread Cert.InprojIdeal.nD Cert.InprojIdeal.τ).loc Cert.InprojIdeal.main_arg16)) (m ((c.tc : Thread Cert.InprojIdeal.nD Cert.InprojIdeal.τ).loc Cert.InprojIdeal.main_arg17))).2.2.2.2.2.2.2.2.2.2.2.2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.2.2.2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12)) (m ((c.tc : Thread Cert.InprojRefIdeal.nD Cert.InprojRefIdeal.τ).loc Cert.InprojRefIdeal.main_arg13)) (m ((c.tc : Thread Cert.InprojRefIdeal.nD Cert.InprojRefIdeal.τ).loc Cert.InprojRefIdeal.main_arg14)) (m ((c.tc : Thread Cert.InprojRefIdeal.nD Cert.InprojRefIdeal.τ).loc Cert.InprojRefIdeal.main_arg15)) (m ((c.tc : Thread Cert.InprojRefIdeal.nD Cert.InprojRefIdeal.τ).loc Cert.InprojRefIdeal.main_arg16)) (m ((c.tc : Thread Cert.InprojRefIdeal.nD Cert.InprojRefIdeal.τ).loc Cert.InprojRefIdeal.main_arg17))).2.2.2.2.2.2.2.2.2.2.2.2.2.2 = (fun _ => 1#1)

def Pre_InprojRef (m : (ℓ : Loc Cert.InprojRef.nD Cert.InprojRef.τ Cert.InprojRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRef [hAttnRef : Cert.AttnRef.Facts] : Prop :=
  ∀ (m : (ℓ : Loc Cert.AttnRef.nD Cert.AttnRef.τ Cert.AttnRef.sig) → Buf (Elt Bits) ℓ) (g : Dev Cert.AttnRef.nD → PrngReg), Pre_AttnRef m →
    θ_run (Cert.AttnRef.defs (F := Bits)) (onTc (τ := Cert.AttnRef.τ) (Cert.AttnRef.main (F := Bits))) ⟨m, fun _ => 0, g⟩ (fun r => (∀ c : Dev Cert.AttnRef.nD,
      r.2.mem ((c.tc : Thread Cert.AttnRef.nD Cert.AttnRef.τ).loc Cert.AttnRef.main_arg0) = m ((c.tc : Thread Cert.AttnRef.nD Cert.AttnRef.τ).loc Cert.AttnRef.main_arg0)
      ∧ r.2.mem ((c.tc : Thread Cert.AttnRef.nD Cert.AttnRef.τ).loc Cert.AttnRef.main_arg1) = m ((c.tc : Thread Cert.AttnRef.nD Cert.AttnRef.τ).loc Cert.AttnRef.main_arg1)
      ∧ r.2.mem ((c.tc : Thread Cert.AttnRef.nD Cert.AttnRef.τ).loc Cert.AttnRef.main_arg2) = m ((c.tc : Thread Cert.AttnRef.nD Cert.AttnRef.τ).loc Cert.AttnRef.main_arg2)
      ∧ r.2.mem ((c.tc : Thread Cert.AttnRef.nD Cert.AttnRef.τ).loc Cert.AttnRef.main_arg3) = m ((c.tc : Thread Cert.AttnRef.nD Cert.AttnRef.τ).loc Cert.AttnRef.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10))
      ∧ r.2.sem = fun _ => 0)

def quiescent_MlpRef [hMlpRef : Cert.MlpRef.Facts] : Prop :=
  ∀ (m : (ℓ : Loc Cert.MlpRef.nD Cert.MlpRef.τ Cert.MlpRef.sig) → Buf (Elt Bits) ℓ) (g : Dev Cert.MlpRef.nD → PrngReg), Pre_MlpRef m →
    θ_run (Cert.MlpRef.defs (F := Bits)) (onTc (τ := Cert.MlpRef.τ) (Cert.MlpRef.main (F := Bits))) ⟨m, fun _ => 0, g⟩ (fun r => (∀ c : Dev Cert.MlpRef.nD,
      r.2.mem ((c.tc : Thread Cert.MlpRef.nD Cert.MlpRef.τ).loc Cert.MlpRef.main_arg0) = m ((c.tc : Thread Cert.MlpRef.nD Cert.MlpRef.τ).loc Cert.MlpRef.main_arg0)
      ∧ r.2.mem ((c.tc : Thread Cert.MlpRef.nD Cert.MlpRef.τ).loc Cert.MlpRef.main_arg1) = m ((c.tc : Thread Cert.MlpRef.nD Cert.MlpRef.τ).loc Cert.MlpRef.main_arg1)
      ∧ r.2.mem ((c.tc : Thread Cert.MlpRef.nD Cert.MlpRef.τ).loc Cert.MlpRef.main_arg2) = m ((c.tc : Thread Cert.MlpRef.nD Cert.MlpRef.τ).loc Cert.MlpRef.main_arg2)
      ∧ r.2.mem ((c.tc : Thread Cert.MlpRef.nD Cert.MlpRef.τ).loc Cert.MlpRef.main_arg3) = m ((c.tc : Thread Cert.MlpRef.nD Cert.MlpRef.τ).loc Cert.MlpRef.main_arg3)
      ∧ r.2.mem ((c.tc : Thread Cert.MlpRef.nD Cert.MlpRef.τ).loc Cert.MlpRef.main_arg4) = m ((c.tc : Thread Cert.MlpRef.nD Cert.MlpRef.τ).loc Cert.MlpRef.main_arg4)
      ∧ r.2.mem ((c.tc : Thread Cert.MlpRef.nD Cert.MlpRef.τ).loc Cert.MlpRef.main_arg5) = m ((c.tc : Thread Cert.MlpRef.nD Cert.MlpRef.τ).loc Cert.MlpRef.main_arg5)
      ∧ r.2.mem ((c.tc : Thread Cert.MlpRef.nD Cert.MlpRef.τ).loc Cert.MlpRef.main_arg6) = m ((c.tc : Thread Cert.MlpRef.nD Cert.MlpRef.τ).loc Cert.MlpRef.main_arg6)
      ∧ r.2.mem ((c.tc : Thread Cert.MlpRef.nD Cert.MlpRef.τ).loc Cert.MlpRef.main_arg7) = m ((c.tc : Thread Cert.MlpRef.nD Cert.MlpRef.τ).loc Cert.MlpRef.main_arg7)
      ∧ r.2.mem ((c.tc : Thread Cert.MlpRef.nD Cert.MlpRef.τ).loc Cert.MlpRef.main_arg8) = m ((c.tc : Thread Cert.MlpRef.nD Cert.MlpRef.τ).loc Cert.MlpRef.main_arg8)
      ∧ r.2.mem ((c.tc : Thread Cert.MlpRef.nD Cert.MlpRef.τ).loc Cert.MlpRef.main_arg9) = m ((c.tc : Thread Cert.MlpRef.nD Cert.MlpRef.τ).loc Cert.MlpRef.main_arg9)
      ∧ r.2.mem ((c.tc : Thread Cert.MlpRef.nD Cert.MlpRef.τ).loc Cert.MlpRef.main_arg10) = m ((c.tc : Thread Cert.MlpRef.nD Cert.MlpRef.τ).loc Cert.MlpRef.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13)
      ∧ r.2.mem ((c.tc : Thread Cert.Inproj.nD Cert.Inproj.τ).loc Cert.Inproj.main_arg14) = m ((c.tc : Thread Cert.Inproj.nD Cert.Inproj.τ).loc Cert.Inproj.main_arg14)
      ∧ r.2.mem ((c.tc : Thread Cert.Inproj.nD Cert.Inproj.τ).loc Cert.Inproj.main_arg15) = m ((c.tc : Thread Cert.Inproj.nD Cert.Inproj.τ).loc Cert.Inproj.main_arg15)
      ∧ r.2.mem ((c.tc : Thread Cert.Inproj.nD Cert.Inproj.τ).loc Cert.Inproj.main_arg16) = m ((c.tc : Thread Cert.Inproj.nD Cert.Inproj.τ).loc Cert.Inproj.main_arg16)
      ∧ r.2.mem ((c.tc : Thread Cert.Inproj.nD Cert.Inproj.τ).loc Cert.Inproj.main_arg17) = m ((c.tc : Thread Cert.Inproj.nD Cert.Inproj.τ).loc Cert.Inproj.main_arg17))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
      ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16)
      ∧ r.2.mem ((c.tc : Thread Cert.InprojIdeal.nD Cert.InprojIdeal.τ).loc Cert.InprojIdeal.main_arg17) = m ((c.tc : Thread Cert.InprojIdeal.nD Cert.InprojIdeal.τ).loc Cert.InprojIdeal.main_arg17))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
      ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16)
      ∧ r.2.mem ((c.tc : Thread Cert.InprojIdeal.nD Cert.InprojIdeal.τ).loc Cert.InprojIdeal.main_arg17) = m ((c.tc : Thread Cert.InprojIdeal.nD Cert.InprojIdeal.τ).loc Cert.InprojIdeal.main_arg17))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14)
      ∧ r.2.mem ((c.tc : Thread Cert.InprojRefIdeal.nD Cert.InprojRefIdeal.τ).loc Cert.InprojRefIdeal.main_arg15) = m ((c.tc : Thread Cert.InprojRefIdeal.nD Cert.InprojRefIdeal.τ).loc Cert.InprojRefIdeal.main_arg15)
      ∧ r.2.mem ((c.tc : Thread Cert.InprojRefIdeal.nD Cert.InprojRefIdeal.τ).loc Cert.InprojRefIdeal.main_arg16) = m ((c.tc : Thread Cert.InprojRefIdeal.nD Cert.InprojRefIdeal.τ).loc Cert.InprojRefIdeal.main_arg16)
      ∧ r.2.mem ((c.tc : Thread Cert.InprojRefIdeal.nD Cert.InprojRefIdeal.τ).loc Cert.InprojRefIdeal.main_arg17) = m ((c.tc : Thread Cert.InprojRefIdeal.nD Cert.InprojRefIdeal.τ).loc Cert.InprojRefIdeal.main_arg17))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13)
      ∧ r.2.mem ((c.tc : Thread Cert.InprojRefIdeal.nD Cert.InprojRefIdeal.τ).loc Cert.InprojRefIdeal.main_arg14) = m ((c.tc : Thread Cert.InprojRefIdeal.nD Cert.InprojRefIdeal.τ).loc Cert.InprojRefIdeal.main_arg14)
      ∧ r.2.mem ((c.tc : Thread Cert.InprojRefIdeal.nD Cert.InprojRefIdeal.τ).loc Cert.InprojRefIdeal.main_arg15) = m ((c.tc : Thread Cert.InprojRefIdeal.nD Cert.InprojRefIdeal.τ).loc Cert.InprojRefIdeal.main_arg15)
      ∧ r.2.mem ((c.tc : Thread Cert.InprojRefIdeal.nD Cert.InprojRefIdeal.τ).loc Cert.InprojRefIdeal.main_arg16) = m ((c.tc : Thread Cert.InprojRefIdeal.nD Cert.InprojRefIdeal.τ).loc Cert.InprojRefIdeal.main_arg16)
      ∧ r.2.mem ((c.tc : Thread Cert.InprojRefIdeal.nD Cert.InprojRefIdeal.τ).loc Cert.InprojRefIdeal.main_arg17) = m ((c.tc : Thread Cert.InprojRefIdeal.nD Cert.InprojRefIdeal.τ).loc Cert.InprojRefIdeal.main_arg17))
      ∧ r.2.sem = fun _ => 0)

def quiescent_InprojRef [hInprojRef : Cert.InprojRef.Facts] : Prop :=
  ∀ (m : (ℓ : Loc Cert.InprojRef.nD Cert.InprojRef.τ Cert.InprojRef.sig) → Buf (Elt Bits) ℓ) (g : Dev Cert.InprojRef.nD → PrngReg), Pre_InprojRef m →
    θ_run (Cert.InprojRef.defs (F := Bits)) (onTc (τ := Cert.InprojRef.τ) (Cert.InprojRef.main (F := Bits))) ⟨m, fun _ => 0, g⟩ (fun r => (∀ c : Dev Cert.InprojRef.nD,
      r.2.mem ((c.tc : Thread Cert.InprojRef.nD Cert.InprojRef.τ).loc Cert.InprojRef.main_arg0) = m ((c.tc : Thread Cert.InprojRef.nD Cert.InprojRef.τ).loc Cert.InprojRef.main_arg0)
      ∧ r.2.mem ((c.tc : Thread Cert.InprojRef.nD Cert.InprojRef.τ).loc Cert.InprojRef.main_arg1) = m ((c.tc : Thread Cert.InprojRef.nD Cert.InprojRef.τ).loc Cert.InprojRef.main_arg1)
      ∧ r.2.mem ((c.tc : Thread Cert.InprojRef.nD Cert.InprojRef.τ).loc Cert.InprojRef.main_arg2) = m ((c.tc : Thread Cert.InprojRef.nD Cert.InprojRef.τ).loc Cert.InprojRef.main_arg2)
      ∧ r.2.mem ((c.tc : Thread Cert.InprojRef.nD Cert.InprojRef.τ).loc Cert.InprojRef.main_arg3) = m ((c.tc : Thread Cert.InprojRef.nD Cert.InprojRef.τ).loc Cert.InprojRef.main_arg3)
      ∧ r.2.mem ((c.tc : Thread Cert.InprojRef.nD Cert.InprojRef.τ).loc Cert.InprojRef.main_arg4) = m ((c.tc : Thread Cert.InprojRef.nD Cert.InprojRef.τ).loc Cert.InprojRef.main_arg4)
      ∧ r.2.mem ((c.tc : Thread Cert.InprojRef.nD Cert.InprojRef.τ).loc Cert.InprojRef.main_arg5) = m ((c.tc : Thread Cert.InprojRef.nD Cert.InprojRef.τ).loc Cert.InprojRef.main_arg5)
      ∧ r.2.mem ((c.tc : Thread Cert.InprojRef.nD Cert.InprojRef.τ).loc Cert.InprojRef.main_arg6) = m ((c.tc : Thread Cert.InprojRef.nD Cert.InprojRef.τ).loc Cert.InprojRef.main_arg6)
      ∧ r.2.mem ((c.tc : Thread Cert.InprojRef.nD Cert.InprojRef.τ).loc Cert.InprojRef.main_arg7) = m ((c.tc : Thread Cert.InprojRef.nD Cert.InprojRef.τ).loc Cert.InprojRef.main_arg7)
      ∧ r.2.mem ((c.tc : Thread Cert.InprojRef.nD Cert.InprojRef.τ).loc Cert.InprojRef.main_arg8) = m ((c.tc : Thread Cert.InprojRef.nD Cert.InprojRef.τ).loc Cert.InprojRef.main_arg8)
      ∧ r.2.mem ((c.tc : Thread Cert.InprojRef.nD Cert.InprojRef.τ).loc Cert.InprojRef.main_arg9) = m ((c.tc : Thread Cert.InprojRef.nD Cert.InprojRef.τ).loc Cert.InprojRef.main_arg9)
      ∧ r.2.mem ((c.tc : Thread Cert.InprojRef.nD Cert.InprojRef.τ).loc Cert.InprojRef.main_arg10) = m ((c.tc : Thread Cert.InprojRef.nD Cert.InprojRef.τ).loc Cert.InprojRef.main_arg10)
      ∧ r.2.mem ((c.tc : Thread Cert.InprojRef.nD Cert.InprojRef.τ).loc Cert.InprojRef.main_arg11) = m ((c.tc : Thread Cert.InprojRef.nD Cert.InprojRef.τ).loc Cert.InprojRef.main_arg11)
      ∧ r.2.mem ((c.tc : Thread Cert.InprojRef.nD Cert.InprojRef.τ).loc Cert.InprojRef.main_arg12) = m ((c.tc : Thread Cert.InprojRef.nD Cert.InprojRef.τ).loc Cert.InprojRef.main_arg12)
      ∧ r.2.mem ((c.tc : Thread Cert.InprojRef.nD Cert.InprojRef.τ).loc Cert.InprojRef.main_arg13) = m ((c.tc : Thread Cert.InprojRef.nD Cert.InprojRef.τ).loc Cert.InprojRef.main_arg13)
      ∧ r.2.mem ((c.tc : Thread Cert.InprojRef.nD Cert.InprojRef.τ).loc Cert.InprojRef.main_arg14) = m ((c.tc : Thread Cert.InprojRef.nD Cert.InprojRef.τ).loc Cert.InprojRef.main_arg14)
      ∧ r.2.mem ((c.tc : Thread Cert.InprojRef.nD Cert.InprojRef.τ).loc Cert.InprojRef.main_arg15) = m ((c.tc : Thread Cert.InprojRef.nD Cert.InprojRef.τ).loc Cert.InprojRef.main_arg15)
      ∧ r.2.mem ((c.tc : Thread Cert.InprojRef.nD Cert.InprojRef.τ).loc Cert.InprojRef.main_arg16) = m ((c.tc : Thread Cert.InprojRef.nD Cert.InprojRef.τ).loc Cert.InprojRef.main_arg16)
      ∧ r.2.mem ((c.tc : Thread Cert.InprojRef.nD Cert.InprojRef.τ).loc Cert.InprojRef.main_arg17) = m ((c.tc : Thread Cert.InprojRef.nD Cert.InprojRef.τ).loc Cert.InprojRef.main_arg17))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0)
      ∧ r.2.mem ((c.tc : Thread Cert.SmallRef.nD Cert.SmallRef.τ).loc Cert.SmallRef.main_arg1) = m ((c.tc : Thread Cert.SmallRef.nD Cert.SmallRef.τ).loc Cert.SmallRef.main_arg1)
      ∧ r.2.mem ((c.tc : Thread Cert.SmallRef.nD Cert.SmallRef.τ).loc Cert.SmallRef.main_arg2) = m ((c.tc : Thread Cert.SmallRef.nD Cert.SmallRef.τ).loc Cert.SmallRef.main_arg2)
      ∧ r.2.mem ((c.tc : Thread Cert.SmallRef.nD Cert.SmallRef.τ).loc Cert.SmallRef.main_arg3) = m ((c.tc : Thread Cert.SmallRef.nD Cert.SmallRef.τ).loc Cert.SmallRef.main_arg3)
      ∧ r.2.mem ((c.tc : Thread Cert.SmallRef.nD Cert.SmallRef.τ).loc Cert.SmallRef.main_arg4) = m ((c.tc : Thread Cert.SmallRef.nD Cert.SmallRef.τ).loc Cert.SmallRef.main_arg4)
      ∧ r.2.mem ((c.tc : Thread Cert.SmallRef.nD Cert.SmallRef.τ).loc Cert.SmallRef.main_arg5) = m ((c.tc : Thread Cert.SmallRef.nD Cert.SmallRef.τ).loc Cert.SmallRef.main_arg5)
      ∧ r.2.mem ((c.tc : Thread Cert.SmallRef.nD Cert.SmallRef.τ).loc Cert.SmallRef.main_arg6) = m ((c.tc : Thread Cert.SmallRef.nD Cert.SmallRef.τ).loc Cert.SmallRef.main_arg6)
      ∧ r.2.mem ((c.tc : Thread Cert.SmallRef.nD Cert.SmallRef.τ).loc Cert.SmallRef.main_arg7) = m ((c.tc : Thread Cert.SmallRef.nD Cert.SmallRef.τ).loc Cert.SmallRef.main_arg7)
      ∧ r.2.mem ((c.tc : Thread Cert.SmallRef.nD Cert.SmallRef.τ).loc Cert.SmallRef.main_arg8) = m ((c.tc : Thread Cert.SmallRef.nD Cert.SmallRef.τ).loc Cert.SmallRef.main_arg8)
      ∧ r.2.mem ((c.tc : Thread Cert.SmallRef.nD Cert.SmallRef.τ).loc Cert.SmallRef.main_arg9) = m ((c.tc : Thread Cert.SmallRef.nD Cert.SmallRef.τ).loc Cert.SmallRef.main_arg9)
      ∧ r.2.mem ((c.tc : Thread Cert.SmallRef.nD Cert.SmallRef.τ).loc Cert.SmallRef.main_arg10) = m ((c.tc : Thread Cert.SmallRef.nD Cert.SmallRef.τ).loc Cert.SmallRef.main_arg10)
      ∧ r.2.mem ((c.tc : Thread Cert.SmallRef.nD Cert.SmallRef.τ).loc Cert.SmallRef.main_arg11) = m ((c.tc : Thread Cert.SmallRef.nD Cert.SmallRef.τ).loc Cert.SmallRef.main_arg11)
      ∧ r.2.mem ((c.tc : Thread Cert.SmallRef.nD Cert.SmallRef.τ).loc Cert.SmallRef.main_arg12) = m ((c.tc : Thread Cert.SmallRef.nD Cert.SmallRef.τ).loc Cert.SmallRef.main_arg12)
      ∧ r.2.mem ((c.tc : Thread Cert.SmallRef.nD Cert.SmallRef.τ).loc Cert.SmallRef.main_arg13) = m ((c.tc : Thread Cert.SmallRef.nD Cert.SmallRef.τ).loc Cert.SmallRef.main_arg13)
      ∧ r.2.mem ((c.tc : Thread Cert.SmallRef.nD Cert.SmallRef.τ).loc Cert.SmallRef.main_arg14) = m ((c.tc : Thread Cert.SmallRef.nD Cert.SmallRef.τ).loc Cert.SmallRef.main_arg14)
      ∧ r.2.mem ((c.tc : Thread Cert.SmallRef.nD Cert.SmallRef.τ).loc Cert.SmallRef.main_arg15) = m ((c.tc : Thread Cert.SmallRef.nD Cert.SmallRef.τ).loc Cert.SmallRef.main_arg15)
      ∧ r.2.mem ((c.tc : Thread Cert.SmallRef.nD Cert.SmallRef.τ).loc Cert.SmallRef.main_arg16) = m ((c.tc : Thread Cert.SmallRef.nD Cert.SmallRef.τ).loc Cert.SmallRef.main_arg16))
      ∧ r.2.sem = fun _ => 0)

def preserves_Attn_AttnIdeal : Prop :=
  IdealRules.named_const.Statement Cert.AttnIdeal.κ "scale_log2e" .f32 0x3E16C740#32 (((3424635 / 33554432) * (Real.log 2)⁻¹ : ℝ) : EReal)
  ∧ IdealRules.named_const.Statement Cert.AttnIdeal.κ "log2e" .f32 0x3FB8AA3B#32 (((Real.log 2)⁻¹ : ℝ) : EReal)

def preserves_AttnRef_AttnRefIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v18_0)) (v1 : (c : Dev Cert.AttnIdeal.nD) → Buf (Elt Ideal) ((c.tc : Thread Cert.AttnIdeal.nD Cert.AttnIdeal.τ).loc Cert.AttnIdeal.main_v21_0)) (v2 : (c : Dev Cert.AttnIdeal.nD) → Buf (Elt Ideal) ((c.tc : Thread Cert.AttnIdeal.nD Cert.AttnIdeal.τ).loc Cert.AttnIdeal.main_v21_1)) (v3 : (c : Dev Cert.AttnIdeal.nD) → Buf (Elt Ideal) ((c.tc : Thread Cert.AttnIdeal.nD Cert.AttnIdeal.τ).loc Cert.AttnIdeal.main_v21_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v18_0) = v0 c
          ∧ r.2.mem ((c.tc : Thread Cert.AttnIdeal.nD Cert.AttnIdeal.τ).loc Cert.AttnIdeal.main_v21_0) = v1 c
          ∧ r.2.mem ((c.tc : Thread Cert.AttnIdeal.nD Cert.AttnIdeal.τ).loc Cert.AttnIdeal.main_v21_1) = v2 c
          ∧ r.2.mem ((c.tc : Thread Cert.AttnIdeal.nD Cert.AttnIdeal.τ).loc Cert.AttnIdeal.main_v21_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v73) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v68) = v2 c
          ∧ r.2.mem ((c.tc : Thread Cert.AttnRefIdeal.nD Cert.AttnRefIdeal.τ).loc Cert.AttnRefIdeal.main_v71) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mlp_MlpIdeal : Prop :=
  True

def preserves_MlpRef_MlpRefIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)) →
    ∃ (v0 : (c : Dev Cert.MlpIdeal.nD) → Buf (Elt Ideal) ((c.tc : Thread Cert.MlpIdeal.nD Cert.MlpIdeal.τ).loc Cert.MlpIdeal.main_v24_0)) (v1 : (c : Dev Cert.MlpIdeal.nD) → Buf (Elt Ideal) ((c.tc : Thread Cert.MlpIdeal.nD Cert.MlpIdeal.τ).loc Cert.MlpIdeal.main_v24_1)) (v2 : (c : Dev Cert.MlpIdeal.nD) → Buf (Elt Ideal) ((c.tc : Thread Cert.MlpIdeal.nD Cert.MlpIdeal.τ).loc Cert.MlpIdeal.main_v24_2)) (v3 : (c : Dev Cert.MlpIdeal.nD) → Buf (Elt Ideal) ((c.tc : Thread Cert.MlpIdeal.nD Cert.MlpIdeal.τ).loc Cert.MlpIdeal.main_v24_3)) (v4 : (c : Dev Cert.MlpIdeal.nD) → Buf (Elt Ideal) ((c.tc : Thread Cert.MlpIdeal.nD Cert.MlpIdeal.τ).loc Cert.MlpIdeal.main_v24_4)) (v5 : (c : Dev Cert.MlpIdeal.nD) → Buf (Elt Ideal) ((c.tc : Thread Cert.MlpIdeal.nD Cert.MlpIdeal.τ).loc Cert.MlpIdeal.main_v24_5)) (v6 : (c : Dev Cert.MlpIdeal.nD) → Buf (Elt Ideal) ((c.tc : Thread Cert.MlpIdeal.nD Cert.MlpIdeal.τ).loc Cert.MlpIdeal.main_v24_6)) (v7 : (c : Dev Cert.MlpIdeal.nD) → Buf (Elt Ideal) ((c.tc : Thread Cert.MlpIdeal.nD Cert.MlpIdeal.τ).loc Cert.MlpIdeal.main_v24_7)) (v8 : (c : Dev Cert.MlpIdeal.nD) → Buf (Elt Ideal) ((c.tc : Thread Cert.MlpIdeal.nD Cert.MlpIdeal.τ).loc Cert.MlpIdeal.main_v24_8)) (v9 : (c : Dev Cert.MlpIdeal.nD) → Buf (Elt Ideal) ((c.tc : Thread Cert.MlpIdeal.nD Cert.MlpIdeal.τ).loc Cert.MlpIdeal.main_v24_9)) (v10 : (c : Dev Cert.MlpIdeal.nD) → Buf (Elt Ideal) ((c.tc : Thread Cert.MlpIdeal.nD Cert.MlpIdeal.τ).loc Cert.MlpIdeal.main_v24_10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v24_0) = v0 c
          ∧ r.2.mem ((c.tc : Thread Cert.MlpIdeal.nD Cert.MlpIdeal.τ).loc Cert.MlpIdeal.main_v24_1) = v1 c
          ∧ r.2.mem ((c.tc : Thread Cert.MlpIdeal.nD Cert.MlpIdeal.τ).loc Cert.MlpIdeal.main_v24_2) = v2 c
          ∧ r.2.mem ((c.tc : Thread Cert.MlpIdeal.nD Cert.MlpIdeal.τ).loc Cert.MlpIdeal.main_v24_3) = v3 c
          ∧ r.2.mem ((c.tc : Thread Cert.MlpIdeal.nD Cert.MlpIdeal.τ).loc Cert.MlpIdeal.main_v24_4) = v4 c
          ∧ r.2.mem ((c.tc : Thread Cert.MlpIdeal.nD Cert.MlpIdeal.τ).loc Cert.MlpIdeal.main_v24_5) = v5 c
          ∧ r.2.mem ((c.tc : Thread Cert.MlpIdeal.nD Cert.MlpIdeal.τ).loc Cert.MlpIdeal.main_v24_6) = v6 c
          ∧ r.2.mem ((c.tc : Thread Cert.MlpIdeal.nD Cert.MlpIdeal.τ).loc Cert.MlpIdeal.main_v24_7) = v7 c
          ∧ r.2.mem ((c.tc : Thread Cert.MlpIdeal.nD Cert.MlpIdeal.τ).loc Cert.MlpIdeal.main_v24_8) = v8 c
          ∧ r.2.mem ((c.tc : Thread Cert.MlpIdeal.nD Cert.MlpIdeal.τ).loc Cert.MlpIdeal.main_v24_9) = v9 c
          ∧ r.2.mem ((c.tc : Thread Cert.MlpIdeal.nD Cert.MlpIdeal.τ).loc Cert.MlpIdeal.main_v24_10) = v10 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v232) = v0 c
          ∧ r.2.mem ((c.tc : Thread Cert.MlpRefIdeal.nD Cert.MlpRefIdeal.τ).loc Cert.MlpRefIdeal.main_v234) = v1 c
          ∧ r.2.mem ((c.tc : Thread Cert.MlpRefIdeal.nD Cert.MlpRefIdeal.τ).loc Cert.MlpRefIdeal.main_v236) = v2 c
          ∧ r.2.mem ((c.tc : Thread Cert.MlpRefIdeal.nD Cert.MlpRefIdeal.τ).loc Cert.MlpRefIdeal.main_v238) = v3 c
          ∧ r.2.mem ((c.tc : Thread Cert.MlpRefIdeal.nD Cert.MlpRefIdeal.τ).loc Cert.MlpRefIdeal.main_v239) = v4 c
          ∧ r.2.mem ((c.tc : Thread Cert.MlpRefIdeal.nD Cert.MlpRefIdeal.τ).loc Cert.MlpRefIdeal.main_v241) = v5 c
          ∧ r.2.mem ((c.tc : Thread Cert.MlpRefIdeal.nD Cert.MlpRefIdeal.τ).loc Cert.MlpRefIdeal.main_v230) = v6 c
          ∧ r.2.mem ((c.tc : Thread Cert.MlpRefIdeal.nD Cert.MlpRefIdeal.τ).loc Cert.MlpRefIdeal.main_v243) = v7 c
          ∧ r.2.mem ((c.tc : Thread Cert.MlpRefIdeal.nD Cert.MlpRefIdeal.τ).loc Cert.MlpRefIdeal.main_v245) = v8 c
          ∧ r.2.mem ((c.tc : Thread Cert.MlpRefIdeal.nD Cert.MlpRefIdeal.τ).loc Cert.MlpRefIdeal.main_v247) = v9 c
          ∧ r.2.mem ((c.tc : Thread Cert.MlpRefIdeal.nD Cert.MlpRefIdeal.τ).loc Cert.MlpRefIdeal.main_v248) = v10 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10))

def preserves_Inproj_InprojIdeal : Prop :=
  True

def preserves_InprojRef_InprojRefIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)
      ∧ m' ((c.tc : Thread Cert.InprojRefIdeal.nD Cert.InprojRefIdeal.τ).loc Cert.InprojRefIdeal.main_arg14) = m ((c.tc : Thread Cert.InprojIdeal.nD Cert.InprojIdeal.τ).loc Cert.InprojIdeal.main_arg14)
      ∧ m' ((c.tc : Thread Cert.InprojRefIdeal.nD Cert.InprojRefIdeal.τ).loc Cert.InprojRefIdeal.main_arg15) = m ((c.tc : Thread Cert.InprojIdeal.nD Cert.InprojIdeal.τ).loc Cert.InprojIdeal.main_arg15)
      ∧ m' ((c.tc : Thread Cert.InprojRefIdeal.nD Cert.InprojRefIdeal.τ).loc Cert.InprojRefIdeal.main_arg16) = m ((c.tc : Thread Cert.InprojIdeal.nD Cert.InprojIdeal.τ).loc Cert.InprojIdeal.main_arg16)
      ∧ m' ((c.tc : Thread Cert.InprojRefIdeal.nD Cert.InprojRefIdeal.τ).loc Cert.InprojRefIdeal.main_arg17) = m ((c.tc : Thread Cert.InprojIdeal.nD Cert.InprojIdeal.τ).loc Cert.InprojIdeal.main_arg17)) →
    ∃ (v0 : (c : Dev Cert.InprojIdeal.nD) → Buf (Elt Ideal) ((c.tc : Thread Cert.InprojIdeal.nD Cert.InprojIdeal.τ).loc Cert.InprojIdeal.main_v124_0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v124_0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
          ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
          ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
          ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16)
          ∧ r.2.mem ((c.tc : Thread Cert.InprojIdeal.nD Cert.InprojIdeal.τ).loc Cert.InprojIdeal.main_arg17) = m ((c.tc : Thread Cert.InprojIdeal.nD Cert.InprojIdeal.τ).loc Cert.InprojIdeal.main_arg17))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v285) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13)
          ∧ r.2.mem ((c.tc : Thread Cert.InprojRefIdeal.nD Cert.InprojRefIdeal.τ).loc Cert.InprojRefIdeal.main_arg14) = m' ((c.tc : Thread Cert.InprojRefIdeal.nD Cert.InprojRefIdeal.τ).loc Cert.InprojRefIdeal.main_arg14)
          ∧ r.2.mem ((c.tc : Thread Cert.InprojRefIdeal.nD Cert.InprojRefIdeal.τ).loc Cert.InprojRefIdeal.main_arg15) = m' ((c.tc : Thread Cert.InprojRefIdeal.nD Cert.InprojRefIdeal.τ).loc Cert.InprojRefIdeal.main_arg15)
          ∧ r.2.mem ((c.tc : Thread Cert.InprojRefIdeal.nD Cert.InprojRefIdeal.τ).loc Cert.InprojRefIdeal.main_arg16) = m' ((c.tc : Thread Cert.InprojRefIdeal.nD Cert.InprojRefIdeal.τ).loc Cert.InprojRefIdeal.main_arg16)
          ∧ r.2.mem ((c.tc : Thread Cert.InprojRefIdeal.nD Cert.InprojRefIdeal.τ).loc Cert.InprojRefIdeal.main_arg17) = m' ((c.tc : Thread Cert.InprojRefIdeal.nD Cert.InprojRefIdeal.τ).loc Cert.InprojRefIdeal.main_arg17))

def preserves_Small_SmallIdeal : Prop :=
  True

def preserves_SmallRef_SmallRefIdeal : Prop :=
  True

def Claim : Prop :=
  ∃ (hAttn : Cert.Attn.Facts) (hAttnIdeal : Cert.AttnIdeal.Facts) (hAttnRefIdeal : Cert.AttnRefIdeal.Facts) (hAttnRef : Cert.AttnRef.Facts) (hMlp : Cert.Mlp.Facts) (hMlpIdeal : Cert.MlpIdeal.Facts) (hMlpRefIdeal : Cert.MlpRefIdeal.Facts) (hMlpRef : Cert.MlpRef.Facts) (hInproj : Cert.Inproj.Facts) (hInprojIdeal : Cert.InprojIdeal.Facts) (hInprojRefIdeal : Cert.InprojRefIdeal.Facts) (hInprojRef : Cert.InprojRef.Facts) (hSmall : Cert.Small.Facts) (hSmallIdeal : Cert.SmallIdeal.Facts) (hSmallRefIdeal : Cert.SmallRefIdeal.Facts) (hSmallRef : Cert.SmallRef.Facts) (hPre_attn_finite : Cert.Pre_attn_finite.Facts) (hPre_mlp_finite : Cert.Pre_mlp_finite.Facts) (hPre_inproj_finite : Cert.Pre_inproj_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnRef (hAttnRef := hAttnRef)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_MlpRef (hMlpRef := hMlpRef)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_InprojRef (hInprojRef := hInprojRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ preserves_Attn_AttnIdeal
    ∧ preserves_AttnRef_AttnRefIdeal
    ∧ algebraic_AttnIdeal_AttnRefIdeal_pre_attn_finite (hAttnIdeal := hAttnIdeal) (hAttnRefIdeal := hAttnRefIdeal) (hPre_attn_finite := hPre_attn_finite)
    ∧ preserves_Mlp_MlpIdeal
    ∧ preserves_MlpRef_MlpRefIdeal
    ∧ algebraic_MlpIdeal_MlpRefIdeal_pre_mlp_finite (hMlpIdeal := hMlpIdeal) (hMlpRefIdeal := hMlpRefIdeal) (hPre_mlp_finite := hPre_mlp_finite)
    ∧ preserves_Inproj_InprojIdeal
    ∧ preserves_InprojRef_InprojRefIdeal
    ∧ algebraic_InprojIdeal_InprojRefIdeal_pre_inproj_finite (hInprojIdeal := hInprojIdeal) (hInprojRefIdeal := hInprojRefIdeal) (hPre_inproj_finite := hPre_inproj_finite)
    ∧ preserves_Small_SmallIdeal
    ∧ preserves_SmallRef_SmallRefIdeal
-- ==== Pre_attn_finite.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1x4096x512 : Shape := ⟨3, ![1, 4096, 512]⟩
abbrev S_ : Shape := ⟨0, ![]⟩

class Facts : Prop where
  bcast_S_S1x4096x8x96 : S_.BroadcastsInDim S1x4096x8x96 (![] : Fin 0 → Fin S1x4096x8x96.rank)
  bcast_S_S1x4352x8x96 : S_.BroadcastsInDim S1x4352x8x96 (![] : Fin 0 → Fin S1x4352x8x96.rank)
  bcast_S_S1x4352x8x64 : S_.BroadcastsInDim S1x4352x8x64 (![] : Fin 0 → Fin S1x4352x8x64.rank)
  bcast_S_S1x4096x512 : S_.BroadcastsInDim S1x4096x512 (![] : Fin 0 → Fin S1x4096x512.rank)

variable [Facts]

def fn {F : FTy → Type} [FloatOps F] (main_arg0 : FVec F S1x4096x8x96 .f32) (main_arg1 : FVec F S1x4352x8x96 .f32) (main_arg2 : FVec F S1x4352x8x64 .f32) (main_arg3 : FVec F S1x4096x512 .f32) : IVec S1x4096x8x96 1 × IVec S1x4352x8x96 1 × IVec S1x4352x8x64 1 × IVec S1x4096x512 1 :=
  let main_v0 : FVec F S1x4096x8x96 .f32 := Host.absf main_arg0
  let main_cst : FVec F S_ .f32 := constant S_ .f32 0x7F800000#32
  let main_v1 : FVec F S1x4096x8x96 .f32 := broadcastInDim S1x4096x8x96 ![] bcast_S_S1x4096x8x96 main_cst
  let main_v2 : IVec S1x4096x8x96 1 := cmpf .olt main_v0 main_v1
  let main_v3 : FVec F S1x4352x8x96 .f32 := Host.absf main_arg1
  let main_cst_0 : FVec F S_ .f32 := constant S_ .f32 0x7F800000#32
  let main_v4 : FVec F S1x4352x8x96 .f32 := broadcastInDim S1x4352x8x96 ![] bcast_S_S1x4352x8x96 main_cst_0
  let main_v5 : IVec S1x4352x8x96 1 := cmpf .olt main_v3 main_v4
  let main_v6 : FVec F S1x4352x8x64 .f32 := Host.absf main_arg2
  let main_cst_1 : FVec F S_ .f32 := constant S_ .f32 0x7F800000#32
  let main_v7 : FVec F S1x4352x8x64 .f32 := broadcastInDim S1x4352x8x64 ![] bcast_S_S1x4352x8x64 main_cst_1
  let main_v8 : IVec S1x4352x8x64 1 := cmpf .olt main_v6 main_v7
  let main_v9 : FVec F S1x4096x512 .f32 := Host.absf main_arg3
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  (main_v2, main_v5, main_v8, main_v11)
-- ==== Pre_inproj_finite.lean ====
abbrev S1x4096x1024 : Shape := ⟨3, ![1, 4096, 1024]⟩
abbrev S1x256x1024 : Shape := ⟨3, ![1, 256, 1024]⟩
abbrev S1x6144 : Shape := ⟨2, ![1, 6144]⟩
abbrev S6144 : Shape := ⟨1, ![6144]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x512 : Shape := ⟨2, ![3, 512]⟩
abbrev S4096x1x2x8 : Shape := ⟨4, ![4096, 1, 2, 8]⟩
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1x4096x512 : Shape := ⟨3, ![1, 4096, 512]⟩
abbrev S_ : Shape := ⟨0, ![]⟩

class Facts : Prop where
  bcast_S_S1x4096x1024 : S_.BroadcastsInDim S1x4096x1024 (![] : Fin 0 → Fin S1x4096x1024.rank)
  bcast_S_S1x6144 : S_.BroadcastsInDim S1x6144 (![] : Fin 0 → Fin S1x6144.rank)
  bcast_S_S1024x1952 : S_.BroadcastsInDim S1024x1952 (![] : Fin 0 → Fin S1024x1952.rank)
  bcast_S_S256 : S_.BroadcastsInDim S256 (![] : Fin 0 → Fin S256.rank)
  bcast_S_S256x768 : S_.BroadcastsInDim S256x768 (![] : Fin 0 → Fin S256x768.rank)
  bcast_S_S128 : S_.BroadcastsInDim S128 (![] : Fin 0 → Fin S128.rank)
  bcast_S_S128x1024 : S_.BroadcastsInDim S128x1024 (![] : Fin 0 → Fin S128x1024.rank)
  bcast_S_S3x512 : S_.BroadcastsInDim S3x512 (![] : Fin 0 → Fin S3x512.rank)
  bcast_S_S4096x1x2x8 : S_.BroadcastsInDim S4096x1x2x8 (![] : Fin 0 → Fin S4096x1x2x8.rank)
  bcast_S_S1x4096x8x96 : S_.BroadcastsInDim S1x4096x8x96 (![] : Fin 0 → Fin S1x4096x8x96.rank)
  bcast_S_S1x4352x8x96 : S_.BroadcastsInDim S1x4352x8x96 (![] : Fin 0 → Fin S1x4352x8x96.rank)
  bcast_S_S1x4352x8x64 : S_.BroadcastsInDim S1x4352x8x64 (![] : Fin 0 → Fin S1x4352x8x64.rank)
  bcast_S_S1x4096x512 : S_.BroadcastsInDim S1x4096x512 (![] : Fin 0 → Fin S1x4096x512.rank)

variable [Facts]

def fn_part2 {F : FTy → Type} [FloatOps F] (main_arg14 : FVec F S1x4352x8x64 .f32) (main_arg15 : FVec F S1x4096x512 .f32) (main_arg16 : FVec F S1x4096x512 .f32) (main_v2 : IVec S1x4096x1024 1) (main_v5 : IVec S1x6144 1) (main_v8 : IVec S1024x1952 1) (main_v11 : IVec S256 1) (main_v14 : IVec S256x768 1) (main_v17 : IVec S128 1) (main_v20 : IVec S128x1024 1) (main_v23 : IVec S3x512 1) (main_v26 : IVec S4096x1x2x8 1) (main_v29 : IVec S4096x1x2x8 1) (main_v32 : IVec S1x4096x8x96 1) (main_v35 : IVec S1x4352x8x96 1) : IVec S1x4096x1024 1 × IVec S1x6144 1 × IVec S1024x1952 1 × IVec S256 1 × IVec S256x768 1 × IVec S128 1 × IVec S128x1024 1 × IVec S3x512 1 × IVec S4096x1x2x8 1 × IVec S4096x1x2x8 1 × IVec S1x4096x8x96 1 × IVec S1x4352x8x96 1 × IVec S1x4352x8x64 1 × IVec S1x4096x512 1 × IVec S1x4096x512 1 :=
  let main_v36 : FVec F S1x4352x8x64 .f32 := Host.absf main_arg14
  let main_cst_11 : FVec F S_ .f32 := constant S_ .f32 0x7F800000#32
  let main_v37 : FVec F S1x4352x8x64 .f32 := broadcastInDim S1x4352x8x64 ![] bcast_S_S1x4352x8x64 main_cst_11
  let main_v38 : IVec S1x4352x8x64 1 := cmpf .olt main_v36 main_v37
  let main_v39 : FVec F S1x4096x512 .f32 := Host.absf main_arg15
  let main_cst_12 : FVec F S_ .f32 := constant S_ .f32 0x7F800000#32
  let main_v40 : FVec F S1x4096x512 .f32 := broadcastInDim S1x4096x512 ![] bcast_S_S1x4096x512 main_cst_12
  let main_v41 : IVec S1x4096x512 1 := cmpf .olt main_v39 main_v40
  let main_v42 : FVec F S1x4096x512 .f32 := Host.absf main_arg16
  let main_cst_13 : FVec F S_ .f32 := constant S_ .f32 0x7F800000#32
  let main_v43 : FVec F S1x4096x512 .f32 := broadcastInDim S1x4096x512 ![] bcast_S_S1x4096x512 main_cst_13
  let main_v44 : IVec S1x4096x512 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg8 : FVec F S128x1024 .f32) (main_arg9 : FVec F S3x512 .f32) (main_arg10 : FVec F S4096x1x2x8 .f32) (main_arg11 : FVec F S4096x1x2x8 .f32) (main_arg12 : FVec F S1x4096x8x96 .f32) (main_arg13 : FVec F S1x4352x8x96 .f32) (main_arg14 : FVec F S1x4352x8x64 .f32) (main_arg15 : FVec F S1x4096x512 .f32) (main_arg16 : FVec F S1x4096x512 .f32) (main_v2 : IVec S1x4096x1024 1) (main_v5 : IVec S1x6144 1) (main_v8 : IVec S1024x1952 1) (main_v11 : IVec S256 1) (main_v14 : IVec S256x768 1) (main_v17 : IVec S128 1) : IVec S1x4096x1024 1 × IVec S1x6144 1 × IVec S1024x1952 1 × IVec S256 1 × IVec S256x768 1 × IVec S128 1 × IVec S128x1024 1 × IVec S3x512 1 × IVec S4096x1x2x8 1 × IVec S4096x1x2x8 1 × IVec S1x4096x8x96 1 × IVec S1x4352x8x96 1 × IVec S1x4352x8x64 1 × IVec S1x4096x512 1 × IVec S1x4096x512 1 :=
  let main_v18 : FVec F S128x1024 .f32 := Host.absf main_arg8
  let main_cst_5 : FVec F S_ .f32 := constant S_ .f32 0x7F800000#32
  let main_v19 : FVec F S128x1024 .f32 := broadcastInDim S128x1024 ![] bcast_S_S128x1024 main_cst_5
  let main_v20 : IVec S128x1024 1 := cmpf .olt main_v18 main_v19
  let main_v21 : FVec F S3x512 .f32 := Host.absf main_arg9
  let main_cst_6 : FVec F S_ .f32 := constant S_ .f32 0x7F800000#32
  let main_v22 : FVec F S3x512 .f32 := broadcastInDim S3x512 ![] bcast_S_S3x512 main_cst_6
  let main_v23 : IVec S3x512 1 := cmpf .olt main_v21 main_v22
  let main_v24 : FVec F S4096x1x2x8 .f32 := Host.absf main_arg10
  let main_cst_7 : FVec F S_ .f32 := constant S_ .f32 0x7F800000#32
  let main_v25 : FVec F S4096x1x2x8 .f32 := broadcastInDim S4096x1x2x8 ![] bcast_S_S4096x1x2x8 main_cst_7
  let main_v26 : IVec S4096x1x2x8 1 := cmpf .olt main_v24 main_v25
  let main_v27 : FVec F S4096x1x2x8 .f32 := Host.absf main_arg11
  let main_cst_8 : FVec F S_ .f32 := constant S_ .f32 0x7F800000#32
  let main_v28 : FVec F S4096x1x2x8 .f32 := broadcastInDim S4096x1x2x8 ![] bcast_S_S4096x1x2x8 main_cst_8
  let main_v29 : IVec S4096x1x2x8 1 := cmpf .olt main_v27 main_v28
  let main_v30 : FVec F S1x4096x8x96 .f32 := Host.absf main_arg12
  let main_cst_9 : FVec F S_ .f32 := constant S_ .f32 0x7F800000#32
  let main_v31 : FVec F S1x4096x8x96 .f32 := broadcastInDim S1x4096x8x96 ![] bcast_S_S1x4096x8x96 main_cst_9
  let main_v32 : IVec S1x4096x8x96 1 := cmpf .olt main_v30 main_v31
  let main_v33 : FVec F S1x4352x8x96 .f32 := Host.absf main_arg13
  let main_cst_10 : FVec F S_ .f32 := constant S_ .f32 0x7F800000#32
  let main_v34 : FVec F S1x4352x8x96 .f32 := broadcastInDim S1x4352x8x96 ![] bcast_S_S1x4352x8x96 main_cst_10
  let main_v35 : IVec S1x4352x8x96 1 := cmpf .olt main_v33 main_v34
  fn_part2 (F := F) main_arg14 main_arg15 main_arg16 main_v2 main_v5 main_v8 main_v11 main_v14 main_v17 main_v20 main_v23 main_v26 main_v29 main_v32 main_v35

def fn {F : FTy → Type} [FloatOps F] (main_arg0 : FVec F S1x4096x1024 .f32) (main_arg1 : FVec F S1x256x1024 .f32) (main_arg2 : FVec F S1x6144 .f32) (main_arg3 : FVec F S6144 .f32) (main_arg4 : FVec F S1024x1952 .f32) (main_arg5 : FVec F S256 .f32) (main_arg6 : FVec F S256x768 .f32) (main_arg7 : FVec F S128 .f32) (main_arg8 : FVec F S128x1024 .f32) (main_arg9 : FVec F S3x512 .f32) (main_arg10 : FVec F S4096x1x2x8 .f32) (main_arg11 : FVec F S4096x1x2x8 .f32) (main_arg12 : FVec F S1x4096x8x96 .f32) (main_arg13 : FVec F S1x4352x8x96 .f32) (main_arg14 : FVec F S1x4352x8x64 .f32) (main_arg15 : FVec F S1x4096x512 .f32) (main_arg16 : FVec F S1x4096x512 .f32) (main_arg17 : FVec F S1x4096x1024 .f32) : IVec S1x4096x1024 1 × IVec S1x6144 1 × IVec S1024x1952 1 × IVec S256 1 × IVec S256x768 1 × IVec S128 1 × IVec S128x1024 1 × IVec S3x512 1 × IVec S4096x1x2x8 1 × IVec S4096x1x2x8 1 × IVec S1x4096x8x96 1 × IVec S1x4352x8x96 1 × IVec S1x4352x8x64 1 × IVec S1x4096x512 1 × IVec S1x4096x512 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x6144 .f32 := Host.absf main_arg2
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1024x1952 .f32 := Host.absf main_arg4
  let main_cst_1 : FVec F S_ .f32 := constant S_ .f32 0x7F800000#32
  let main_v7 : FVec F S1024x1952 .f32 := broadcastInDim S1024x1952 ![] bcast_S_S1024x1952 main_cst_1
  let main_v8 : IVec S1024x1952 1 := cmpf .olt main_v6 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x768 .f32 := Host.absf main_arg6
  let main_cst_3 : FVec F S_ .f32 := constant S_ .f32 0x7F800000#32
  let main_v13 : FVec F S256x768 .f32 := broadcastInDim S256x768 ![] bcast_S_S256x768 main_cst_3
  let main_v14 : IVec S256x768 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg8 main_arg9 main_arg10 main_arg11 main_arg12 main_arg13 main_arg14 main_arg15 main_arg16 main_v2 main_v5 main_v8 main_v11 main_v14 main_v17
-- ==== Pre_mlp_finite.lean ====
abbrev S1x4096x1024 : Shape := ⟨3, ![1, 4096, 1024]⟩
abbrev S1x4096x512 : Shape := ⟨3, ![1, 4096, 512]⟩
abbrev S1x4096x1952 : Shape := ⟨3, ![1, 4096, 1952]⟩
abbrev S1x256x1952 : Shape := ⟨3, ![1, 256, 1952]⟩
abbrev S1x6144 : Shape := ⟨2, ![1, 6144]⟩
abbrev S3x512 : Shape := ⟨2, ![3, 512]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S1x4096x1536 : Shape := ⟨3, ![1, 4096, 1536]⟩
abbrev S_ : Shape := ⟨0, ![]⟩

class Facts : Prop where
  slices_S1x4096x1952_S1x4096x1536_0_0_416 : S1x4096x1952.Slices ![0, 0, 416] S1x4096x1536
  bcast_S_S1x4096x1024 : S_.BroadcastsInDim S1x4096x1024 (![] : Fin 0 → Fin S1x4096x1024.rank)
  bcast_S_S1x4096x512 : S_.BroadcastsInDim S1x4096x512 (![] : Fin 0 → Fin S1x4096x512.rank)
  bcast_S_S1x4096x1536 : S_.BroadcastsInDim S1x4096x1536 (![] : Fin 0 → Fin S1x4096x1536.rank)
  bcast_S_S1x6144 : S_.BroadcastsInDim S1x6144 (![] : Fin 0 → Fin S1x6144.rank)
  bcast_S_S3x512 : S_.BroadcastsInDim S3x512 (![] : Fin 0 → Fin S3x512.rank)
  bcast_S_S1024x1024 : S_.BroadcastsInDim S1024x1024 (![] : Fin 0 → Fin S1024x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn_part1 {F : FTy → Type} [FloatOps F] (main_arg7 : FVec F S1024x4096 .f32) (main_arg8 : FVec F S4096x1024 .f32) (main_arg9 : FVec F S1024 .f32) (main_arg10 : FVec F S1x4096x1024 .f32) (main_v3 : IVec S1x4096x1024 1) (main_v6 : IVec S1x4096x512 1) (main_v9 : IVec S1x4096x1536 1) (main_v12 : IVec S1x6144 1) (main_v15 : IVec S3x512 1) (main_v16 : FVec F S1024x1024 .f32) (main_v17 : FVec F S1024x1024 .f32) : IVec S1x4096x1024 1 × IVec S1x4096x512 1 × IVec S1x4096x1536 1 × IVec S1x6144 1 × IVec S3x512 1 × IVec S1024x1024 1 × IVec S1024x4096 1 × IVec S4096x1024 1 × IVec S1024 1 × IVec S1x4096x1024 1 :=
  let main_v18 : IVec S1024x1024 1 := cmpf .olt main_v16 main_v17
  let main_v19 : FVec F S1024x4096 .f32 := Host.absf main_arg7
  let main_cst_5 : FVec F S_ .f32 := constant S_ .f32 0x7F800000#32
  let main_v20 : FVec F S1024x4096 .f32 := broadcastInDim S1024x4096 ![] bcast_S_S1024x4096 main_cst_5
  let main_v21 : IVec S1024x4096 1 := cmpf .olt main_v19 main_v20
  let main_v22 : FVec F S4096x1024 .f32 := Host.absf main_arg8
  let main_cst_6 : FVec F S_ .f32 := constant S_ .f32 0x7F800000#32
  let main_v23 : FVec F S4096x1024 .f32 := broadcastInDim S4096x1024 ![] bcast_S_S4096x1024 main_cst_6
  let main_v24 : IVec S4096x1024 1 := cmpf .olt main_v22 main_v23
  let main_v25 : FVec F S1024 .f32 := Host.absf main_arg9
  let main_cst_7 : FVec F S_ .f32 := constant S_ .f32 0x7F800000#32
  let main_v26 : FVec F S1024 .f32 := broadcastInDim S1024 ![] bcast_S_S1024 main_cst_7
  let main_v27 : IVec S1024 1 := cmpf .olt main_v25 main_v26
  let main_v28 : FVec F S1x4096x1024 .f32 := Host.absf main_arg10
  let main_cst_8 : FVec F S_ .f32 := constant S_ .f32 0x7F800000#32
  let main_v29 : FVec F S1x4096x1024 .f32 := broadcastInDim S1x4096x1024 ![] bcast_S_S1x4096x1024 main_cst_8
  let main_v30 : IVec S1x4096x1024 1 := cmpf .olt main_v28 main_v29
  (main_v3, main_v6, main_v9, main_v12, main_v15, main_v18, main_v21, main_v24, main_v27, main_v30)

def fn {F : FTy → Type} [FloatOps F] (main_arg0 : FVec F S1x4096x1024 .f32) (main_arg1 : FVec F S1x4096x512 .f32) (main_arg2 : FVec F S1x4096x1952 .f32) (main_arg3 : FVec F S1x256x1952 .f32) (main_arg4 : FVec F S1x6144 .f32) (main_arg5 : FVec F S3x512 .f32) (main_arg6 : FVec F S1024x1024 .f32) (main_arg7 : FVec F S1024x4096 .f32) (main_arg8 : FVec F S4096x1024 .f32) (main_arg9 : FVec F S1024 .f32) (main_arg10 : FVec F S1x4096x1024 .f32) : IVec S1x4096x1024 1 × IVec S1x4096x512 1 × IVec S1x4096x1536 1 × IVec S1x6144 1 × IVec S3x512 1 × IVec S1024x1024 1 × IVec S1024x4096 1 × IVec S4096x1024 1 × IVec S1024 1 × IVec S1x4096x1024 1 :=
  let main_v0 : FVec F S1x4096x1536 .f32 := (extractStridedSlice S1x4096x1536 ![0, 0, 416] · slices_S1x4096x1952_S1x4096x1536_0_0_416) main_arg2
  let main_v1 : FVec F S1x4096x1024 .f32 := Host.absf main_arg0
  let main_cst : FVec F S_ .f32 := constant S_ .f32 0x7F800000#32
  let main_v2 : FVec F S1x4096x1024 .f32 := broadcastInDim S1x4096x1024 ![] bcast_S_S1x4096x1024 main_cst
  let main_v3 : IVec S1x4096x1024 1 := cmpf .olt main_v1 main_v2
  let main_v4 : FVec F S1x4096x512 .f32 := Host.absf main_arg1
  let main_cst_0 : FVec F S_ .f32 := constant S_ .f32 0x7F800000#32
  let main_v5 : FVec F S1x4096x512 .f32 := broadcastInDim S1x4096x512 ![] bcast_S_S1x4096x512 main_cst_0
  let main_v6 : IVec S1x4096x512 1 := cmpf .olt main_v4 main_v5
  let main_v7 : FVec F S1x4096x1536 .f32 := Host.absf main_v0
  let main_cst_1 : FVec F S_ .f32 := constant S_ .f32 0x7F800000#32
  let main_v8 : FVec F S1x4096x1536 .f32 := broadcastInDim S1x4096x1536 ![] bcast_S_S1x4096x1536 main_cst_1
  let main_v9 : IVec S1x4096x1536 1 := cmpf .olt main_v7 main_v8
  let main_v10 : FVec F S1x6144 .f32 := Host.absf main_arg4
  let main_cst_2 : FVec F S_ .f32 := constant S_ .f32 0x7F800000#32
  let main_v11 : FVec F S1x6144 .f32 := broadcastInDim S1x6144 ![] bcast_S_S1x6144 main_cst_2
  let main_v12 : IVec S1x6144 1 := cmpf .olt main_v10 main_v11
  let main_v13 : FVec F S3x512 .f32 := Host.absf main_arg5
  let main_cst_3 : FVec F S_ .f32 := constant S_ .f32 0x7F800000#32
  let main_v14 : FVec F S3x512 .f32 := broadcastInDim S3x512 ![] bcast_S_S3x512 main_cst_3
  let main_v15 : IVec S3x512 1 := cmpf .olt main_v13 main_v14
  let main_v16 : FVec F S1024x1024 .f32 := Host.absf main_arg6
  let main_cst_4 : FVec F S_ .f32 := constant S_ .f32 0x7F800000#32
  let main_v17 : FVec F S1024x1024 .f32 := broadcastInDim S1024x1024 ![] bcast_S_S1024x1024 main_cst_4
  fn_part1 (F := F) main_arg7 main_arg8 main_arg9 main_arg10 main_v3 main_v6 main_v9 main_v12 main_v15 main_v16 main_v17
-- ==== Attn.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1x4096x512 : Shape := ⟨3, ![1, 4096, 512]⟩
abbrev S4096x8x96 : Shape := ⟨3, ![4096, 8, 96]⟩
abbrev S8x4096x96 : Shape := ⟨3, ![8, 4096, 96]⟩
abbrev S_ : Shape := ⟨0, ![]⟩
abbrev S8x4096x128 : Shape := ⟨3, ![8, 4096, 128]⟩
abbrev S4352x8x96 : Shape := ⟨3, ![4352, 8, 96]⟩
abbrev S8x4352x96 : Shape := ⟨3, ![8, 4352, 96]⟩
abbrev S8x4352x128 : Shape := ⟨3, ![8, 4352, 128]⟩
abbrev S8x128x4352 : Shape := ⟨3, ![8, 128, 4352]⟩
abbrev S4352x8x64 : Shape := ⟨3, ![4352, 8, 64]⟩
abbrev S8x4352x64 : Shape := ⟨3, ![8, 4352, 64]⟩
abbrev S4096x512 : Shape := ⟨2, ![4096, 512]⟩
abbrev S8x1x4096 : Shape := ⟨3, ![8, 1, 4096]⟩
abbrev S4x1024x128 : Shape := ⟨3, ![4, 1024, 128]⟩
abbrev S4x4352x128 : Shape := ⟨3, ![4, 4352, 128]⟩
abbrev S1024x256 : Shape := ⟨2, ![1024, 256]⟩
abbrev S4x1x1024 : Shape := ⟨3, ![4, 1, 1024]⟩
abbrev S1x1024x128 : Shape := ⟨3, ![1, 1024, 128]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1280x128 : Shape := ⟨3, ![1, 1280, 128]⟩
abbrev S1280x128 : Shape := ⟨2, ![1280, 128]⟩
abbrev S1024x1280 : Shape := ⟨2, ![1024, 1280]⟩
abbrev S128x1024 : Shape := ⟨2, ![128, 1024]⟩
abbrev S1x1024 : Shape := ⟨2, ![1, 1024]⟩
abbrev S1x1x1024 : Shape := ⟨3, ![1, 1, 1024]⟩
abbrev S2x512x128 : Shape := ⟨3, ![2, 512, 128]⟩
abbrev S2x4352x128 : Shape := ⟨3, ![2, 4352, 128]⟩
abbrev S2x128x4352 : Shape := ⟨3, ![2, 128, 4352]⟩
abbrev S512x128 : Shape := ⟨2, ![512, 128]⟩
abbrev S2x1x512 : Shape := ⟨3, ![2, 1, 512]⟩
abbrev S8x128 : Shape := ⟨2, ![8, 128]⟩
abbrev S1x512x128 : Shape := ⟨3, ![1, 512, 128]⟩
abbrev S1x1x512 : Shape := ⟨3, ![1, 1, 512]⟩
abbrev S1x512 : Shape := ⟨2, ![1, 512]⟩
abbrev S8x512 : Shape := ⟨2, ![8, 512]⟩
abbrev S512x512 : Shape := ⟨2, ![512, 512]⟩
abbrev S1x128x512 : Shape := ⟨3, ![1, 128, 512]⟩
abbrev S128x512 : Shape := ⟨2, ![128, 512]⟩
abbrev S1x768x128 : Shape := ⟨3, ![1, 768, 128]⟩
abbrev S768x128 : Shape := ⟨2, ![768, 128]⟩
abbrev S768x512 : Shape := ⟨2, ![768, 512]⟩
abbrev S1x128x768 : Shape := ⟨3, ![1, 128, 768]⟩
abbrev S128x768 : Shape := ⟨2, ![128, 768]⟩

abbrev nBuf : Space → Nat
  | .hbm => 39
  | .vmem => 30
  | .smem => 0
  | _ => 0

abbrev bufTy : (tb : Table) → Fin (tcTables nBuf tb) → BufTy
  | .hbm, ⟨0, _⟩ => ⟨S1x4096x8x96, .f32⟩
  | .hbm, ⟨1, _⟩ => ⟨S1x4352x8x96, .f32⟩
  | .hbm, ⟨2, _⟩ => ⟨S1x4352x8x64, .f32⟩
  | .hbm, ⟨3, _⟩ => ⟨S1x4096x512, .f32⟩
  | .hbm, ⟨4, _⟩ => ⟨S4096x8x96, .f32⟩
  | .hbm, ⟨5, _⟩ => ⟨S8x4096x96, .f32⟩
  | .hbm, ⟨6, _⟩ => ⟨S_, .i32⟩
  | .hbm, ⟨7, _⟩ => ⟨S_, .f32⟩
  | .hbm, ⟨8, _⟩ => ⟨S8x4096x128, .f32⟩
  | .hbm, ⟨9, _⟩ => ⟨S8x4096x128, .bf16⟩
  | .hbm, ⟨10, _⟩ => ⟨S4352x8x96, .f32⟩
  | .hbm, ⟨11, _⟩ => ⟨S8x4352x96, .f32⟩
  | .hbm, ⟨12, _⟩ => ⟨S_, .i32⟩
  | .hbm, ⟨13, _⟩ => ⟨S_, .f32⟩
  | .hbm, ⟨14, _⟩ => ⟨S8x4352x128, .f32⟩
  | .hbm, ⟨15, _⟩ => ⟨S8x4352x128, .bf16⟩
  | .hbm, ⟨16, _⟩ => ⟨S8x128x4352, .f32⟩
  | .hbm, ⟨17, _⟩ => ⟨S8x128x4352, .bf16⟩
  | .hbm, ⟨18, _⟩ => ⟨S8x4352x128, .i32⟩
  | .hbm, ⟨19, _⟩ => ⟨S_, .i32⟩
  | .hbm, ⟨20, _⟩ => ⟨S8x4352x128, .i32⟩
  | .hbm, ⟨21, _⟩ => ⟨S8x4352x128, .i1⟩
  | .hbm, ⟨22, _⟩ => ⟨S4352x8x64, .f32⟩
  | .hbm, ⟨23, _⟩ => ⟨S8x4352x64, .f32⟩
  | .hbm, ⟨24, _⟩ => ⟨S_, .i32⟩
  | .hbm, ⟨25, _⟩ => ⟨S_, .f32⟩
  | .hbm, ⟨26, _⟩ => ⟨S8x4352x128, .f32⟩
  | .hbm, ⟨27, _⟩ => ⟨S_, .f32⟩
  | .hbm, ⟨28, _⟩ => ⟨S_, .f32⟩
  | .hbm, ⟨29, _⟩ => ⟨S8x4352x128, .f32⟩
  | .hbm, ⟨30, _⟩ => ⟨S8x4352x128, .f32⟩
  | .hbm, ⟨31, _⟩ => ⟨S8x4352x128, .bf16⟩
  | .hbm, ⟨32, _⟩ => ⟨S4096x512, .bf16⟩
  | .hbm, ⟨33, _⟩ => ⟨S8x1x4096, .f32⟩
  | .hbm, ⟨34, _⟩ => ⟨S4096x512, .f32⟩
  | .hbm, ⟨35, _⟩ => ⟨S4096x512, .bf16⟩
  | .hbm, ⟨36, _⟩ => ⟨S8x4096x128, .f32⟩
  | .hbm, ⟨37, _⟩ => ⟨S8x4352x128, .f32⟩
  | .hbm, ⟨38, _⟩ => ⟨S8x4352x128, .f32⟩
  | .local _ .vmem, ⟨0, _⟩ => ⟨S4x1024x128, .bf16⟩
  | .local _ .vmem, ⟨1, _⟩ => ⟨S4x1024x128, .bf16⟩
  | .local _ .vmem, ⟨2, _⟩ => ⟨S4x4352x128, .bf16⟩
  | .local _ .vmem, ⟨3, _⟩ => ⟨S4x4352x128, .bf16⟩
  | .local _ .vmem, ⟨4, _⟩ => ⟨S4x4352x128, .bf16⟩
  | .local _ .vmem, ⟨5, _⟩ => ⟨S4x4352x128, .bf16⟩
  | .local _ .vmem, ⟨6, _⟩ => ⟨S1024x256, .bf16⟩
  | .local _ .vmem, ⟨7, _⟩ => ⟨S1024x256, .bf16⟩
  | .local _ .vmem, ⟨8, _⟩ => ⟨S4x1x1024, .f32⟩
  | .local _ .vmem, ⟨9, _⟩ => ⟨S4x1x1024, .f32⟩
  | .local _ .vmem, ⟨10, _⟩ => ⟨S2x512x128, .bf16⟩
  | .local _ .vmem, ⟨11, _⟩ => ⟨S2x512x128, .bf16⟩
  | .local _ .vmem, ⟨12, _⟩ => ⟨S2x4352x128, .bf16⟩
  | .local _ .vmem, ⟨13, _⟩ => ⟨S2x4352x128, .bf16⟩
  | .local _ .vmem, ⟨14, _⟩ => ⟨S2x4352x128, .bf16⟩
  | .local _ .vmem, ⟨15, _⟩ => ⟨S2x4352x128, .bf16⟩
  | .local _ .vmem, ⟨16, _⟩ => ⟨S2x128x4352, .bf16⟩
  | .local _ .vmem, ⟨17, _⟩ => ⟨S2x128x4352, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S2x1x512, .f32⟩
  | .local _ .vmem, ⟨23, _⟩ => ⟨S2x1x512, .f32⟩
  | .local _ .vmem, ⟨24, _⟩ => ⟨S2x512x128, .f32⟩
  | .local _ .vmem, ⟨25, _⟩ => ⟨S2x512x128, .f32⟩
  | .local _ .vmem, ⟨26, _⟩ => ⟨S2x4352x128, .f32⟩
  | .local _ .vmem, ⟨27, _⟩ => ⟨S2x4352x128, .f32⟩
  | .local _ .vmem, ⟨28, _⟩ => ⟨S2x4352x128, .f32⟩
  | .local _ .vmem, ⟨29, _⟩ => ⟨S2x4352x128, .f32⟩
  | _, _ => ⟨S1x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call2_v0 : Ref sig .tc := ⟨.hbm, 25, rfl⟩
abbrev main_v15 : Ref sig .tc := ⟨.hbm, 26, rfl⟩
abbrev main_cst : Ref sig .tc := ⟨.hbm, 27, rfl⟩
abbrev main_call3_v0 : Ref sig .tc := ⟨.hbm, 28, rfl⟩
abbrev main_call3_v1 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x4352x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x128x4352 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2x4352x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S2x4352x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== AttnIdeal.lean ====
variable {F : FTy → Type} [FloatOps F] [Named F]
def κ : String → Option EReal := fun
  | "log2e" => some (((Real.log 2)⁻¹ : ℝ) : EReal)
  | "scale_log2e" => some (((3424635 / 33554432) * (Real.log 2)⁻¹ : ℝ) : EReal)
  | _ => none
-- ==== AttnRef.lean ====
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1x4096x512 : Shape := ⟨3, ![1, 4096, 512]⟩
abbrev S4096x8x96 : Shape := ⟨3, ![4096, 8, 96]⟩
abbrev S4352x8x96 : Shape := ⟨3, ![4352, 8, 96]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S4352x8x64 : Shape := ⟨3, ![4352, 8, 64]⟩
abbrev S8x64x4096 : Shape := ⟨3, ![8, 64, 4096]⟩
abbrev S4096x8x64 : Shape := ⟨3, ![4096, 8, 64]⟩
abbrev S8x64x4352 : Shape := ⟨3, ![8, 64, 4352]⟩
abbrev S8x4352x96 : Shape := ⟨3, ![8, 4352, 96]⟩
abbrev S8x4096x96 : Shape := ⟨3, ![8, 4096, 96]⟩
abbrev S8x4096x128 : Shape := ⟨3, ![8, 4096, 128]⟩
abbrev S8x4352x128 : Shape := ⟨3, ![8, 4352, 128]⟩
abbrev S8x4352x64 : Shape := ⟨3, ![8, 4352, 64]⟩
abbrev S4096x512 : Shape := ⟨2, ![4096, 512]⟩

abbrev nBuf : Space → Nat
  | .hbm => 98
  | .vmem => 0
  | .smem => 0
  | _ => 0

abbrev bufTy : (tb : Table) → Fin (tcTables nBuf tb) → BufTy
  | .hbm, ⟨0, _⟩ => ⟨S1x4096x8x96, .f32⟩
  | .hbm, ⟨1, _⟩ => ⟨S1x4352x8x96, .f32⟩
  | .hbm, ⟨2, _⟩ => ⟨S1x4352x8x64, .f32⟩
  | .hbm, ⟨3, _⟩ => ⟨S1x4096x512, .f32⟩
  | .hbm, ⟨4, _⟩ => ⟨S4096x8x96, .f32⟩
  | .hbm, ⟨5, _⟩ => ⟨S4352x8x96, .f32⟩
  | .hbm, ⟨6, _⟩ => ⟨S8x4096x4352, .f32⟩
  | .hbm, ⟨7, _⟩ => ⟨S_, .f32⟩
  | .hbm, ⟨8, _⟩ => ⟨S8x4096x4352, .f32⟩
  | .hbm, ⟨9, _⟩ => ⟨S8x4096x4352, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S8x4096x4352, .f32⟩
  | .hbm, ⟨14, _⟩ => ⟨S8x4096x4352, .i1⟩
  | .hbm, ⟨15, _⟩ => ⟨S8x4096x4352, .f32⟩
  | .hbm, ⟨16, _⟩ => ⟨S_, .f32⟩
  | .hbm, ⟨17, _⟩ => ⟨S8x4096, .f32⟩
  | .hbm, ⟨18, _⟩ => ⟨S_, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .i1⟩
  | .hbm, ⟨24, _⟩ => ⟨S_, .f32⟩
  | .hbm, ⟨25, _⟩ => ⟨S8x4096, .f32⟩
  | .hbm, ⟨26, _⟩ => ⟨S8x4096, .i1⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S8x4096, .f32⟩
  | .hbm, ⟨35, _⟩ => ⟨S8x4096x1, .f32⟩
  | .hbm, ⟨36, _⟩ => ⟨S8x4096x4352, .f32⟩
  | .hbm, ⟨37, _⟩ => ⟨S8x4096x4352, .f32⟩
  | .hbm, ⟨38, _⟩ => ⟨S8x4096x4352, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4352, .f32⟩
  | .hbm, ⟨43, _⟩ => ⟨S8x4096x4352, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S4352x8x64, .f32⟩
  | .hbm, ⟨49, _⟩ => ⟨S8x64x4096, .f32⟩
  | .hbm, ⟨50, _⟩ => ⟨S4096x8x64, .f32⟩
  | .hbm, ⟨51, _⟩ => ⟨S1x4096x512, .f32⟩
  | .hbm, ⟨52, _⟩ => ⟨S4096x8x64, .f32⟩
  | .hbm, ⟨53, _⟩ => ⟨S8x64x4096, .f32⟩
  | .hbm, ⟨54, _⟩ => ⟨S8x4096x4352, .f32⟩
  | .hbm, ⟨55, _⟩ => ⟨S8x64x4352, .f32⟩
  | .hbm, ⟨56, _⟩ => ⟨S4352x8x64, .f32⟩
  | .hbm, ⟨57, _⟩ => ⟨S1x4352x8x64, .f32⟩
  | .hbm, ⟨58, _⟩ => ⟨S8x4096x4352, .f32⟩
  | .hbm, ⟨59, _⟩ => ⟨S8x4096x4352, .f32⟩
  | .hbm, ⟨60, _⟩ => ⟨S8x4096x4352, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S8x4096x1, .f32⟩
  | .hbm, ⟨65, _⟩ => ⟨S8x4096x4352, .f32⟩
  | .hbm, ⟨66, _⟩ => ⟨S8x4096x4352, .f32⟩
  | .hbm, ⟨67, _⟩ => ⟨S_, .f32⟩
  | .hbm, ⟨68, _⟩ => ⟨S8x4096, .f32⟩
  | .hbm, ⟨69, _⟩ => ⟨S8x4096x4352, .f32⟩
  | .hbm, ⟨70, _⟩ => ⟨S8x4096x4352, .f32⟩
  | .hbm, ⟨71, _⟩ => ⟨S8x4096x4352, .f32⟩
  | .hbm, ⟨72, _⟩ => ⟨S_, .f32⟩
  | .hbm, ⟨73, _⟩ => ⟨S8x4096x4352, .f32⟩
  | .hbm, ⟨74, _⟩ => ⟨S8x4096x4352, .f32⟩
  | .hbm, ⟨75, _⟩ => ⟨S8x4352x96, .f32⟩
  | .hbm, ⟨76, _⟩ => ⟨S4352x8x96, .f32⟩
  | .hbm, ⟨77, _⟩ => ⟨S8x4096x96, .f32⟩
  | .hbm, ⟨78, _⟩ => ⟨S4096x8x96, .f32⟩
  | .hbm, ⟨79, _⟩ => ⟨S1x4352x8x96, .f32⟩
  | .hbm, ⟨80, _⟩ => ⟨S1x4096x8x96, .f32⟩
  | .hbm, ⟨81, _⟩ => ⟨S4096x8x96, .f32⟩
  | .hbm, ⟨82, _⟩ => ⟨S8x4096x96, .f32⟩
  | .hbm, ⟨83, _⟩ => ⟨S_, .i32⟩
  | .hbm, ⟨84, _⟩ => ⟨S_, .f32⟩
  | .hbm, ⟨85, _⟩ => ⟨S8x4096x128, .f32⟩
  | .hbm, ⟨86, _⟩ => ⟨S4352x8x96, .f32⟩
  | .hbm, ⟨87, _⟩ => ⟨S8x4352x96, .f32⟩
  | .hbm, ⟨88, _⟩ => ⟨S_, .i32⟩
  | .hbm, ⟨89, _⟩ => ⟨S_, .f32⟩
  | .hbm, ⟨90, _⟩ => ⟨S8x4352x128, .f32⟩
  | .hbm, ⟨91, _⟩ => ⟨S4352x8x64, .f32⟩
  | .hbm, ⟨92, _⟩ => ⟨S8x4352x64, .f32⟩
  | .hbm, ⟨93, _⟩ => ⟨S_, .i32⟩
  | .hbm, ⟨94, _⟩ => ⟨S_, .f32⟩
  | .hbm, ⟨95, _⟩ => ⟨S8x4352x128, .f32⟩
  | .hbm, ⟨96, _⟩ => ⟨S4096x512, .f32⟩
  | .hbm, ⟨97, _⟩ => ⟨S4096x512, .bf16⟩
  | _, _ => ⟨S1x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c : Ref sig .tc := ⟨.hbm, 83, rfl⟩
abbrev main_call0_v0 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_13 : Ref sig .tc := ⟨.hbm, 88, rfl⟩
abbrev main_call1_v0 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_call2_v0 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Mlp.lean ====
abbrev S1x4096x1024 : Shape := ⟨3, ![1, 4096, 1024]⟩
abbrev S1x4096x512 : Shape := ⟨3, ![1, 4096, 512]⟩
abbrev S1x4096x1952 : Shape := ⟨3, ![1, 4096, 1952]⟩
abbrev S1x256x1952 : Shape := ⟨3, ![1, 256, 1952]⟩
abbrev S1x6144 : Shape := ⟨2, ![1, 6144]⟩
abbrev S3x512 : Shape := ⟨2, ![3, 512]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S6x1024 : Shape := ⟨2, ![6, 1024]⟩
abbrev S4x1024 : Shape := ⟨2, ![4, 1024]⟩
abbrev S_ : Shape := ⟨0, ![]⟩
abbrev S8x1024 : Shape := ⟨2, ![8, 1024]⟩
abbrev S8x512 : Shape := ⟨2, ![8, 512]⟩
abbrev S4096x1952 : Shape := ⟨2, ![4096, 1952]⟩
abbrev S256x1952 : Shape := ⟨2, ![256, 1952]⟩
abbrev S4352x1952 : Shape := ⟨2, ![4352, 1952]⟩
abbrev S4352x384 : Shape := ⟨2, ![4352, 384]⟩
abbrev S4352x64 : Shape := ⟨2, ![4352, 64]⟩
abbrev S4352x32 : Shape := ⟨2, ![4352, 32]⟩
abbrev S4352x1536 : Shape := ⟨2, ![4352, 1536]⟩
abbrev S4352x2048 : Shape := ⟨2, ![4352, 2048]⟩
abbrev S1024x4x1024 : Shape := ⟨3, ![1024, 4, 1024]⟩
abbrev S4x1024x1024 : Shape := ⟨3, ![4, 1024, 1024]⟩
abbrev S4096x512 : Shape := ⟨2, ![4096, 512]⟩
abbrev S1x1024 : Shape := ⟨2, ![1, 1024]⟩
abbrev S4096x4096 : Shape := ⟨2, ![4096, 4096]⟩
abbrev S256x512 : Shape := ⟨2, ![256, 512]⟩
abbrev S256x1024 : Shape := ⟨2, ![256, 1024]⟩
abbrev S256x4096 : Shape := ⟨2, ![256, 4096]⟩
abbrev S4x256x1024 : Shape := ⟨3, ![4, 256, 1024]⟩
abbrev S1x512 : Shape := ⟨2, ![1, 512]⟩
abbrev S512x1024 : Shape := ⟨2, ![512, 1024]⟩
abbrev S256 : Shape := ⟨1, ![256]⟩
abbrev S256x1 : Shape := ⟨2, ![256, 1]⟩
abbrev S1x1024x1024 : Shape := ⟨3, ![1, 1024, 1024]⟩
abbrev S1x256x1024 : Shape := ⟨3, ![1, 256, 1024]⟩
abbrev S1 : Shape := ⟨1, ![1]⟩
abbrev S1x1 : Shape := ⟨2, ![1, 1]⟩

abbrev nBuf : Space → Nat
  | .hbm => 51
  | .vmem => 48
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x1952, .f32⟩
  | .hbm, ⟨3, _⟩ => ⟨S1x256x1952, .f32⟩
  | .hbm, ⟨4, _⟩ => ⟨S1x6144, .f32⟩
  | .hbm, ⟨5, _⟩ => ⟨S3x512, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1x4096x1024, .f32⟩
  | .hbm, ⟨11, _⟩ => ⟨S6x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S8x1024, .f32⟩
  | .hbm, ⟨16, _⟩ => ⟨S_, .i32⟩
  | .hbm, ⟨17, _⟩ => ⟨S_, .f32⟩
  | .hbm, ⟨18, _⟩ => ⟨S8x512, .f32⟩
  | .hbm, ⟨19, _⟩ => ⟨S4096x1952, .f32⟩
  | .hbm, ⟨20, _⟩ => ⟨S256x1952, .f32⟩
  | .hbm, ⟨21, _⟩ => ⟨S4352x1952, .f32⟩
  | .hbm, ⟨22, _⟩ => ⟨S4352x384, .f32⟩
  | .hbm, ⟨23, _⟩ => ⟨S_, .f32⟩
  | .hbm, ⟨24, _⟩ => ⟨S4352x64, .f32⟩
  | .hbm, ⟨25, _⟩ => ⟨S4352x32, .f32⟩
  | .hbm, ⟨26, _⟩ => ⟨S_, .f32⟩
  | .hbm, ⟨27, _⟩ => ⟨S4352x32, .f32⟩
  | .hbm, ⟨28, _⟩ => ⟨S4352x1536, .f32⟩
  | .hbm, ⟨29, _⟩ => ⟨S4352x2048, .f32⟩
  | .hbm, ⟨30, _⟩ => ⟨S1024x4x1024, .f32⟩
  | .hbm, ⟨31, _⟩ => ⟨S4x1024x1024, .f32⟩
  | .hbm, ⟨32, _⟩ => ⟨S4x1024x1024, .bf16⟩
  | .hbm, ⟨33, _⟩ => ⟨S4096x512, .f32⟩
  | .hbm, ⟨34, _⟩ => ⟨S4096x512, .bf16⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S1024x1024, .bf16⟩
  | .hbm, ⟨39, _⟩ => ⟨S4096x1024, .bf16⟩
  | .hbm, ⟨40, _⟩ => ⟨S4096x4096, .bf16⟩
  | .hbm, ⟨41, _⟩ => ⟨S4096x4096, .bf16⟩
  | .hbm, ⟨42, _⟩ => ⟨S4096x1024, .bf16⟩
  | .hbm, ⟨43, _⟩ => ⟨S4096x1024, .bf16⟩
  | .hbm, ⟨44, _⟩ => ⟨S4096x1024, .f32⟩
  | .hbm, ⟨45, _⟩ => ⟨S4096x512, .bf16⟩
  | .hbm, ⟨46, _⟩ => ⟨S8x1024, .f32⟩
  | .hbm, ⟨47, _⟩ => ⟨S4096x1024, .bf16⟩
  | .hbm, ⟨48, _⟩ => ⟨S4096x512, .bf16⟩
  | .hbm, ⟨49, _⟩ => ⟨S4096x512, .f32⟩
  | .hbm, ⟨50, _⟩ => ⟨S4096x512, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S8x1024, .f32⟩
  | .local _ .vmem, ⟨23, _⟩ => ⟨S1x1024, .f32⟩
  | .local _ .vmem, ⟨24, _⟩ => ⟨S4x1024x1024, .bf16⟩
  | .local _ .vmem, ⟨25, _⟩ => ⟨S4096x1024, .bf16⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .f32⟩
  | .local _ .vmem, ⟨35, _⟩ => ⟨S256x1024, .f32⟩
  | .local _ .vmem, ⟨36, _⟩ => ⟨S256x512, .bf16⟩
  | .local _ .vmem, ⟨37, _⟩ => ⟨S256x512, .bf16⟩
  | .local _ .vmem, ⟨38, _⟩ => ⟨S8x1024, .f32⟩
  | .local _ .vmem, ⟨39, _⟩ => ⟨S256x1024, .bf16⟩
  | .local _ .vmem, ⟨40, _⟩ => ⟨S256x1024, .bf16⟩
  | .local _ .vmem, ⟨41, _⟩ => ⟨S256x512, .bf16⟩
  | .local _ .vmem, ⟨42, _⟩ => ⟨S256x512, .bf16⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S4x256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev main_v24_6 : Ref sig .tc := ⟨.hbm, 46, rfl⟩
abbrev main_v24_7 : Ref sig .tc := ⟨.hbm, 47, rfl⟩
abbrev main_v24_8 : Ref sig .tc := ⟨.hbm, 48, rfl⟩
abbrev main_v24_9 : Ref sig .tc := ⟨.hbm, 49, rfl⟩
abbrev main_v24_10 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2_i32 : BitVec 32 := 2#32
  let c0_i32 : BitVec 32 := 0#32
  ![v1.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c3_i32 : BitVec 32 := 3#32
  let c0_i32 : BitVec 32 := 0#32
  ![v1.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== MlpRef.lean ====
abbrev S1x4096x1024 : Shape := ⟨3, ![1, 4096, 1024]⟩
abbrev S1x4096x512 : Shape := ⟨3, ![1, 4096, 512]⟩
abbrev S1x4096x1952 : Shape := ⟨3, ![1, 4096, 1952]⟩
abbrev S1x256x1952 : Shape := ⟨3, ![1, 256, 1952]⟩
abbrev S1x6144 : Shape := ⟨2, ![1, 6144]⟩
abbrev S3x512 : Shape := ⟨2, ![3, 512]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S1x4096x4096 : Shape := ⟨3, ![1, 4096, 4096]⟩
abbrev S1x1024 : Shape := ⟨2, ![1, 1024]⟩
abbrev S1x1x1024 : Shape := ⟨3, ![1, 1, 1024]⟩
abbrev S1x4096x1536 : Shape := ⟨3, ![1, 4096, 1536]⟩
abbrev S1x1x512 : Shape := ⟨3, ![1, 1, 512]⟩
abbrev S1x4095x512 : Shape := ⟨3, ![1, 4095, 512]⟩
abbrev S1x512 : Shape := ⟨2, ![1, 512]⟩
abbrev S512 : Shape := ⟨1, ![512]⟩
abbrev S1x4096 : Shape := ⟨2, ![1, 4096]⟩
abbrev S1x4096x1 : Shape := ⟨3, ![1, 4096, 1]⟩
abbrev S4096 : Shape := ⟨1, ![4096]⟩
abbrev S6x1024 : Shape := ⟨2, ![6, 1024]⟩
abbrev S8x1024 : Shape := ⟨2, ![8, 1024]⟩
abbrev S4096x4096 : Shape := ⟨2, ![4096, 4096]⟩
abbrev S4096x512 : Shape := ⟨2, ![4096, 512]⟩

abbrev nBuf : Space → Nat
  | .hbm => 313
  | .vmem => 0
  | .smem => 0
  | _ => 0

abbrev hbmTy0_0 (i : Nat) : BufTy := match i % 128 with
  | 0 => ⟨S1x4096x1024, .f32⟩
  | 1 => ⟨S1x4096x512, .f32⟩
  | 2 => ⟨S1x4096x1952, .f32⟩
  | 3 => ⟨S1x256x1952, .f32⟩
  | 4 => ⟨S1x6144, .f32⟩
  | 5 => ⟨S3x512, .f32⟩
  | 6 => ⟨S1024x1024, .f32⟩
  | 7 => ⟨S1024x4096, .f32⟩
  | 8 => ⟨S4096x1024, .f32⟩
  | 9 => ⟨S1024, .f32⟩
  | 10 => ⟨S1x4096x1024, .f32⟩
  | 11 => ⟨S_, .f32⟩
  | 12 => ⟨S1x4096x512, .f32⟩
  | 13 => ⟨S_, .f32⟩
  | 14 => ⟨S1x4096x1024, .f32⟩
  | 15 => ⟨S_, .f32⟩
  | 16 => ⟨S1x4096x4096, .f32⟩
  | 17 => ⟨S_, .f32⟩
  | 18 => ⟨S1x4096x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1x1024, .f32⟩
  | 26 => ⟨S1x1x1024, .f32⟩
  | 27 => ⟨S1x1x1024, .f32⟩
  | 28 => ⟨S1x1x1024, .f32⟩
  | 29 => ⟨S1x1x1024, .f32⟩
  | 30 => ⟨S1x1x1024, .f32⟩
  | 31 => ⟨S1x4096x1536, .f32⟩
  | 32 => ⟨S1x4096x512, .f32⟩
  | 33 => ⟨S1x4096x512, .f32⟩
  | 34 => ⟨S1x4096x512, .f32⟩
  | 35 => ⟨S1x4096x512, .f32⟩
  | 36 => ⟨S_, .f32⟩
  | 37 => ⟨S1x1x512, .f32⟩
  | 38 => ⟨S1x4095x512, .f32⟩
  | 39 => ⟨S1x4096x512, .f32⟩
  | 40 => ⟨S_, .f32⟩
  | 41 => ⟨S1x1x512, .f32⟩
  | 42 => ⟨S1x4095x512, .f32⟩
  | 43 => ⟨S1x4096x512, .f32⟩
  | 44 => ⟨S_, .f32⟩
  | 45 => ⟨S1x1x512, .f32⟩
  | 46 => ⟨S1x512, .f32⟩
  | 47 => ⟨S512, .f32⟩
  | 48 => ⟨S1x1x512, .f32⟩
  | 49 => ⟨S1x4096x512, .f32⟩
  | 50 => ⟨S1x4096x512, .f32⟩
  | 51 => ⟨S1x512, .f32⟩
  | 52 => ⟨S512, .f32⟩
  | 53 => ⟨S1x1x512, .f32⟩
  | 54 => ⟨S1x4096x512, .f32⟩
  | 55 => ⟨S1x4096x512, .f32⟩
  | 56 => ⟨S1x4096x512, .f32⟩
  | 57 => ⟨S1x512, .f32⟩
  | 58 => ⟨S512, .f32⟩
  | 59 => ⟨S1x1x512, .f32⟩
  | 60 => ⟨S1x4096x512, .f32⟩
  | 61 => ⟨S1x4096x512, .f32⟩
  | 62 => ⟨S1x4096x512, .f32⟩
  | 63 => ⟨S1x4096x512, .f32⟩
  | 64 => ⟨S1x4096x512, .f32⟩
  | 65 => ⟨S1x4096x1024, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S_, .f32⟩
  | 73 => ⟨S1x4096, .f32⟩
  | 74 => ⟨S1x4096x1, .f32⟩
  | 75 => ⟨S_, .f32⟩
  | 76 => ⟨S1x4096x1, .f32⟩
  | 77 => ⟨S1x4096x1, .f32⟩
  | 78 => ⟨S_, .f32⟩
  | 79 => ⟨S1x4096x1, .f32⟩
  | 80 => ⟨S1x4096x1, .f32⟩
  | 81 => ⟨S1x4096x1, .f32⟩
  | 82 => ⟨S1x4096x1, .f32⟩
  | 83 => ⟨S_, .f32⟩
  | 84 => ⟨S1x4096x1, .f32⟩
  | 85 => ⟨S1x4096x1, .f32⟩
  | 86 => ⟨S1x4096x1024, .f32⟩
  | 87 => ⟨S1x4096x1024, .f32⟩
  | 88 => ⟨S_, .f32⟩
  | 89 => ⟨S1x1x1024, .f32⟩
  | 90 => ⟨S1x1x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x4096, .f32⟩
  | 96 => ⟨S1x4096x4096, .f32⟩
  | 97 => ⟨S_, .f32⟩
  | 98 => ⟨S1x4096x4096, .f32⟩
  | 99 => ⟨S1x4096x4096, .f32⟩
  | 100 => ⟨S_, .f32⟩
  | 101 => ⟨S1x4096x4096, .f32⟩
  | 102 => ⟨S1x4096x4096, .i1⟩
  | 103 => ⟨S_, .f32⟩
  | 104 => ⟨S1x4096x4096, .f32⟩
  | 105 => ⟨S1x4096x4096, .f32⟩
  | 106 => ⟨S_, .f32⟩
  | 107 => ⟨S1x4096x4096, .f32⟩
  | 108 => ⟨S1x4096x4096, .f32⟩
  | 109 => ⟨S1x4096x1024, .f32⟩
  | 110 => ⟨S1x4096x1024, .f32⟩
  | 111 => ⟨S1x4096x1024, .f32⟩
  | 112 => ⟨S1x4096x1024, .f32⟩
  | 113 => ⟨S1x4096x1024, .f32⟩
  | 114 => ⟨S1x4096x1024, .f32⟩
  | 115 => ⟨S_, .f32⟩
  | 116 => ⟨S1x4096, .f32⟩
  | 117 => ⟨S1x4096x1, .f32⟩
  | 118 => ⟨S_, .f32⟩
  | 119 => ⟨S1x4096x1, .f32⟩
  | 120 => ⟨S1x4096x1, .f32⟩
  | 121 => ⟨S_, .f32⟩
  | 122 => ⟨S1x4096x1, .f32⟩
  | 123 => ⟨S1x4096x1, .f32⟩
  | 124 => ⟨S1x4096x1, .f32⟩
  | 125 => ⟨S1x4096x1, .f32⟩
  | 126 => ⟨S_, .f32⟩
  | 127 => ⟨S1x4096x1, .f32⟩
  | _ => ⟨S1x4096x1024, .f32⟩

abbrev hbmTy0_1 (i : Nat) : BufTy := match i % 128 with
  | 0 => ⟨S1x4096x1, .f32⟩
  | 1 => ⟨S1x4096x1024, .f32⟩
  | 2 => ⟨S1x4096x1024, .f32⟩
  | 3 => ⟨S1x1x1024, .f32⟩
  | 4 => ⟨S1x4096x1024, .f32⟩
  | 5 => ⟨S1x4096x1024, .f32⟩
  | 6 => ⟨S1x4096x1024, .f32⟩
  | 7 => ⟨S1x4096x1024, .f32⟩
  | 8 => ⟨S_, .f32⟩
  | 9 => ⟨S1x4096x1024, .f32⟩
  | 10 => ⟨S1x4096x1024, .f32⟩
  | 11 => ⟨S_, .f32⟩
  | 12 => ⟨S1x4096, .f32⟩
  | 13 => ⟨S_, .f32⟩
  | 14 => ⟨S1x4096, .f32⟩
  | 15 => ⟨S1x4096, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1x4096, .f32⟩
  | 24 => ⟨S_, .f32⟩
  | 25 => ⟨S1x4096, .f32⟩
  | 26 => ⟨S1x4096, .f32⟩
  | 27 => ⟨S1x4096x1024, .f32⟩
  | 28 => ⟨S1x4096x1024, .f32⟩
  | 29 => ⟨S1x4096x1024, .f32⟩
  | 30 => ⟨S_, .f32⟩
  | 31 => ⟨S1x1024, .f32⟩
  | 32 => ⟨S1x1x1024, .f32⟩
  | 33 => ⟨S1x4096x1024, .f32⟩
  | 34 => ⟨S1x4096x1024, .f32⟩
  | 35 => ⟨S_, .f32⟩
  | 36 => ⟨S1024, .f32⟩
  | 37 => ⟨S1x4096x1024, .f32⟩
  | 38 => ⟨S_, .f32⟩
  | 39 => ⟨S1x4096, .f32⟩
  | 40 => ⟨S1x4096x1, .f32⟩
  | 41 => ⟨S1x4096x1024, .f32⟩
  | 42 => ⟨S1x4096x1024, .f32⟩
  | 43 => ⟨S1x4096x1, .f32⟩
  | 44 => ⟨S_, .f32⟩
  | 45 => ⟨S1x4096x1, .f32⟩
  | 46 => ⟨S1x4096x1, .f32⟩
  | 47 => ⟨S_, .f32⟩
  | 48 => ⟨S4096, .f32⟩
  | 49 => ⟨S1x4096, .f32⟩
  | 50 => ⟨S1x4096x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x4096x1024, .f32⟩
  | 56 => ⟨S1x4096x1024, .f32⟩
  | 57 => ⟨S1x4096x1024, .f32⟩
  | 58 => ⟨S_, .f32⟩
  | 59 => ⟨S1x1024, .f32⟩
  | 60 => ⟨S1x1x1024, .f32⟩
  | 61 => ⟨S1x4096x4096, .f32⟩
  | 62 => ⟨S1x4096x4096, .f32⟩
  | 63 => ⟨S_, .f32⟩
  | 64 => ⟨S1x4096x4096, .f32⟩
  | 65 => ⟨S1x4096x4096, .f32⟩
  | 66 => ⟨S1x4096x1024, .f32⟩
  | 67 => ⟨S_, .f32⟩
  | 68 => ⟨S1x1024, .f32⟩
  | 69 => ⟨S1x1x1024, .f32⟩
  | 70 => ⟨S1x4096x1024, .f32⟩
  | 71 => ⟨S_, .f32⟩
  | 72 => ⟨S1x1024, .f32⟩
  | 73 => ⟨S1x1x1024, .f32⟩
  | 74 => ⟨S1x4096x1024, .f32⟩
  | 75 => ⟨S1x4096x1024, .f32⟩
  | 76 => ⟨S1x4096x1024, .f32⟩
  | 77 => ⟨S_, .f32⟩
  | 78 => ⟨S1x4096, .f32⟩
  | 79 => ⟨S1x4096x1, .f32⟩
  | 80 => ⟨S1x4096x1024, .f32⟩
  | 81 => ⟨S1x4096x1024, .f32⟩
  | 82 => ⟨S1x4096x1024, .f32⟩
  | 83 => ⟨S1x4096x1, .f32⟩
  | 84 => ⟨S_, .f32⟩
  | 85 => ⟨S1x4096x1, .f32⟩
  | 86 => ⟨S1x4096x1, .f32⟩
  | 87 => ⟨S_, .f32⟩
  | 88 => ⟨S4096, .f32⟩
  | 89 => ⟨S1x4096, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S1x4096x1024, .f32⟩
  | 97 => ⟨S1x4096x1024, .f32⟩
  | 98 => ⟨S_, .f32⟩
  | 99 => ⟨S1x1024, .f32⟩
  | 100 => ⟨S1x1x1024, .f32⟩
  | 101 => ⟨S1x4096x1024, .f32⟩
  | 102 => ⟨S1x4096x512, .f32⟩
  | 103 => ⟨S1x4096x512, .f32⟩
  | 104 => ⟨S1x4096x512, .f32⟩
  | 105 => ⟨S1x4096x512, .f32⟩
  | 106 => ⟨S1x4096x512, .f32⟩
  | 107 => ⟨S1x4096x512, .f32⟩
  | 108 => ⟨S1x4096x512, .f32⟩
  | 109 => ⟨S1x4096x512, .f32⟩
  | 110 => ⟨S1x4096x512, .f32⟩
  | 111 => ⟨S1x4096x512, .f32⟩
  | 112 => ⟨S1x4095x512, .f32⟩
  | 113 => ⟨S1x1x512, .f32⟩
  | 114 => ⟨S_, .f32⟩
  | 115 => ⟨S1x4096x512, .f32⟩
  | 116 => ⟨S1x4096x512, .f32⟩
  | 117 => ⟨S1x1x512, .f32⟩
  | 118 => ⟨S1x4095x512, .f32⟩
  | 119 => ⟨S_, .f32⟩
  | 120 => ⟨S1x4096x512, .f32⟩
  | 121 => ⟨S1x4096x512, .f32⟩
  | 122 => ⟨S1x4096x512, .f32⟩
  | 123 => ⟨S1x4096x512, .f32⟩
  | 124 => ⟨S1x4096x1536, .f32⟩
  | 125 => ⟨S_, .f32⟩
  | 126 => ⟨S1x4096x1952, .f32⟩
  | 127 => ⟨S_, .f32⟩
  | _ => ⟨S1x4096x1024, .f32⟩

abbrev hbmTy0_2 (i : Nat) : BufTy := match i % 128 with
  | 0 => ⟨S1024, .f32⟩
  | 1 => ⟨S1x1024, .f32⟩
  | 2 => ⟨S_, .f32⟩
  | 3 => ⟨S1024, .f32⟩
  | 4 => ⟨S1x1024, .f32⟩
  | 5 => ⟨S_, .f32⟩
  | 6 => ⟨S1024, .f32⟩
  | 7 => ⟨S1x1024, .f32⟩
  | 8 => ⟨S_, .f32⟩
  | 9 => ⟨S1024, .f32⟩
  | 10 => ⟨S1x1024, .f32⟩
  | 11 => ⟨S_, .f32⟩
  | 12 => ⟨S1x1024, .f32⟩
  | 13 => ⟨S_, .f32⟩
  | 14 => ⟨S1x1024, .f32⟩
  | 15 => ⟨S1x6144, .f32⟩
  | 16 => ⟨S6x1024, .f32⟩
  | 17 => ⟨S1x1024, .f32⟩
  | 18 => ⟨S1024, .f32⟩
  | 19 => ⟨S1x1024, .f32⟩
  | 20 => ⟨S1024, .f32⟩
  | 21 => ⟨S1x1024, .f32⟩
  | 22 => ⟨S1024, .f32⟩
  | 23 => ⟨S1024, .f32⟩
  | 24 => ⟨S1x1024, .f32⟩
  | 25 => ⟨S1024, .f32⟩
  | 26 => ⟨S_, .f32⟩
  | 27 => ⟨S1024, .f32⟩
  | 28 => ⟨S_, .f32⟩
  | 29 => ⟨S1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S8x1024, .f32⟩
  | 39 => ⟨S4096x4096, .f32⟩
  | 40 => ⟨S4096x4096, .bf16⟩
  | 41 => ⟨S4096x4096, .f32⟩
  | 42 => ⟨S4096x4096, .bf16⟩
  | 43 => ⟨S4096x1024, .f32⟩
  | 44 => ⟨S4096x1024, .bf16⟩
  | 45 => ⟨S4096x1024, .f32⟩
  | 46 => ⟨S4096x1024, .bf16⟩
  | 47 => ⟨S4096x1024, .f32⟩
  | 48 => ⟨S4096x512, .f32⟩
  | 49 => ⟨S4096x512, .bf16⟩
  | 50 => ⟨S4096x1024, .f32⟩
  | 51 => ⟨S4096x1024, .bf16⟩
  | 52 => ⟨S4096x512, .f32⟩
  | 53 => ⟨S4096x512, .bf16⟩
  | 54 => ⟨S1x4096x512, .f32⟩
  | 55 => ⟨S4096x512, .f32⟩
  | 56 => ⟨S4096x512, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call0_cst : Ref sig .tc := ⟨.hbm, 97, rfl⟩
abbrev main_call0_v0 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_cst_13 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_14 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_v90 : Ref sig .tc := ⟨.hbm, 120, rfl⟩
abbrev main_cst_16 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_18 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_cst_20 : Ref sig .tc := ⟨.hbm, 141, rfl⟩
abbrev main_v107 : Ref sig .tc := ⟨.hbm, 142, rfl⟩
abbrev main_v108 : Ref sig .tc := ⟨.hbm, 143, rfl⟩
abbrev main_cst_21 : Ref sig .tc := ⟨.hbm, 144, rfl⟩
abbrev main_v109 : Ref sig .tc := ⟨.hbm, 145, rfl⟩
abbrev main_cst_22 : Ref sig .tc := ⟨.hbm, 146, rfl⟩
abbrev main_v110 : Ref sig .tc := ⟨.hbm, 147, rfl⟩
abbrev main_cst_23 : Ref sig .tc := ⟨.hbm, 148, rfl⟩
abbrev main_cst_24 : Ref sig .tc := ⟨.hbm, 149, rfl⟩
abbrev main_v111 : Ref sig .tc := ⟨.hbm, 150, rfl⟩
abbrev main_v112 : Ref sig .tc := ⟨.hbm, 151, rfl⟩
abbrev main_cst_25 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_26 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_27 : Ref sig .tc := ⟨.hbm, 163, rfl⟩
abbrev main_v122 : Ref sig .tc := ⟨.hbm, 164, rfl⟩
abbrev main_v123 : Ref sig .tc := ⟨.hbm, 165, rfl⟩
abbrev main_cst_28 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_29 : Ref sig .tc := ⟨.hbm, 172, rfl⟩
abbrev main_v129 : Ref sig .tc := ⟨.hbm, 173, rfl⟩
abbrev main_v130 : Ref sig .tc := ⟨.hbm, 174, rfl⟩
abbrev main_cst_30 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_31 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_32 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_33 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_34 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_35 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_36 : Ref sig .tc := ⟨.hbm, 212, rfl⟩
abbrev main_v162 : Ref sig .tc := ⟨.hbm, 213, rfl⟩
abbrev main_v163 : Ref sig .tc := ⟨.hbm, 214, rfl⟩
abbrev main_cst_37 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_38 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_39 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_40 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_41 : Ref sig .tc := ⟨.hbm, 253, rfl⟩
abbrev main_v198 : Ref sig .tc := ⟨.hbm, 254, rfl⟩
abbrev main_cst_42 : Ref sig .tc := ⟨.hbm, 255, rfl⟩
abbrev main_v199 : Ref sig .tc := ⟨.hbm, 256, rfl⟩
abbrev main_v200 : Ref sig .tc := ⟨.hbm, 257, rfl⟩
abbrev main_cst_43 : Ref sig .tc := ⟨.hbm, 258, rfl⟩
abbrev main_v201 : Ref sig .tc := ⟨.hbm, 259, rfl⟩
abbrev main_v202 : Ref sig .tc := ⟨.hbm, 260, rfl⟩
abbrev main_cst_44 : Ref sig .tc := ⟨.hbm, 261, rfl⟩
abbrev main_v203 : Ref sig .tc := ⟨.hbm, 262, rfl⟩
abbrev main_v204 : Ref sig .tc := ⟨.hbm, 263, rfl⟩
abbrev main_cst_45 : Ref sig .tc := ⟨.hbm, 264, rfl⟩
abbrev main_v205 : Ref sig .tc := ⟨.hbm, 265, rfl⟩
abbrev main_v206 : Ref sig .tc := ⟨.hbm, 266, rfl⟩
abbrev main_cst_46 : Ref sig .tc := ⟨.hbm, 267, rfl⟩
abbrev main_v207 : Ref sig .tc := ⟨.hbm, 268, rfl⟩
abbrev main_cst_47 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_cst_48 : Ref sig .tc := ⟨.hbm, 282, rfl⟩
abbrev main_v220 : Ref sig .tc := ⟨.hbm, 283, rfl⟩
abbrev main_cst_49 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩

abbrev nD : Nat := 1
abbrev τ : Topo := Topo.v7x

variable {F : FTy → Type} [FloatOps F]
-- ==== Inproj.lean ====
abbrev S1x4096x1024 : Shape := ⟨3, ![1, 4096, 1024]⟩
abbrev S1x256x1024 : Shape := ⟨3, ![1, 256, 1024]⟩
abbrev S1x6144 : Shape := ⟨2, ![1, 6144]⟩
abbrev S6144 : Shape := ⟨1, ![6144]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x512 : Shape := ⟨2, ![3, 512]⟩
abbrev S4096x1x2x8 : Shape := ⟨4, ![4096, 1, 2, 8]⟩
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1x4096x512 : Shape := ⟨3, ![1, 4096, 512]⟩
abbrev S4096x1024 : Shape := ⟨2, ![4096, 1024]⟩
abbrev S256x1024 : Shape := ⟨2, ![256, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S1x8x1024 : Shape := ⟨3, ![1, 8, 1024]⟩
abbrev S2x8x1024 : Shape := ⟨3, ![2, 8, 1024]⟩
abbrev S8x512 : Shape := ⟨2, ![8, 512]⟩
abbrev S1024x384 : Shape := ⟨2, ![1024, 384]⟩
abbrev S1024x64 : Shape := ⟨2, ![1024, 64]⟩
abbrev S1024x32 : Shape := ⟨2, ![1024, 32]⟩
abbrev S1024x1536 : Shape := ⟨2, ![1024, 1536]⟩
abbrev S1024x2048 : Shape := ⟨2, ![1024, 2048]⟩
abbrev S256x8x96 : Shape := ⟨3, ![256, 8, 96]⟩
abbrev S256x8x128 : Shape := ⟨3, ![256, 8, 128]⟩
abbrev S128x8x128 : Shape := ⟨3, ![128, 8, 128]⟩
abbrev S128x8x64 : Shape := ⟨3, ![128, 8, 64]⟩
abbrev S128x2048 : Shape := ⟨2, ![128, 2048]⟩
abbrev S4096x2x8 : Shape := ⟨3, ![4096, 2, 8]⟩
abbrev S4096x2x16 : Shape := ⟨3, ![4096, 2, 16]⟩
abbrev S4096x32 : Shape := ⟨2, ![4096, 32]⟩
abbrev S4096x64 : Shape := ⟨2, ![4096, 64]⟩
abbrev S4096x128 : Shape := ⟨2, ![4096, 128]⟩
abbrev S256x128 : Shape := ⟨2, ![256, 128]⟩
abbrev S4352x128 : Shape := ⟨2, ![4352, 128]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩
abbrev S256x1 : Shape := ⟨2, ![256, 1]⟩
abbrev S4352x1024 : Shape := ⟨2, ![4352, 1024]⟩
abbrev S4352x1952 : Shape := ⟨2, ![4352, 1952]⟩
abbrev S4352x384 : Shape := ⟨2, ![4352, 384]⟩
abbrev S4352x64 : Shape := ⟨2, ![4352, 64]⟩
abbrev S4352x32 : Shape := ⟨2, ![4352, 32]⟩
abbrev S4352x1536 : Shape := ⟨2, ![4352, 1536]⟩
abbrev S4352x2048 : Shape := ⟨2, ![4352, 2048]⟩
abbrev S1x256 : Shape := ⟨2, ![1, 256]⟩
abbrev S1x128 : Shape := ⟨2, ![1, 128]⟩
abbrev S4096x512 : Shape := ⟨2, ![4096, 512]⟩
abbrev S4096x8x96 : Shape := ⟨3, ![4096, 8, 96]⟩
abbrev S8x4096x96 : Shape := ⟨3, ![8, 4096, 96]⟩
abbrev S8x4096x128 : Shape := ⟨3, ![8, 4096, 128]⟩
abbrev S4352x8x96 : Shape := ⟨3, ![4352, 8, 96]⟩
abbrev S8x4352x96 : Shape := ⟨3, ![8, 4352, 96]⟩
abbrev S8x4352x128 : Shape := ⟨3, ![8, 4352, 128]⟩
abbrev S4352x8x64 : Shape := ⟨3, ![4352, 8, 64]⟩
abbrev S8x4352x64 : Shape := ⟨3, ![8, 4352, 64]⟩
abbrev S16x1024 : Shape := ⟨2, ![16, 1024]⟩
abbrev S256x2048 : Shape := ⟨2, ![256, 2048]⟩
abbrev S256x512 : Shape := ⟨2, ![256, 512]⟩
abbrev S8x256x128 : Shape := ⟨3, ![8, 256, 128]⟩
abbrev S1024x1024 : Shape := ⟨2, ![1024, 1024]⟩
abbrev S1x1x1024 : Shape := ⟨3, ![1, 1, 1024]⟩
abbrev S256x256 : Shape := ⟨2, ![256, 256]⟩
abbrev S1x256x128 : Shape := ⟨3, ![1, 256, 128]⟩
abbrev S1x512 : Shape := ⟨2, ![1, 512]⟩
abbrev S512 : Shape := ⟨1, ![512]⟩

abbrev nBuf : Space → Nat
  | .hbm => 184
  | .vmem => 54
  | .smem => 0
  | _ => 0

abbrev hbmTy0_0 (i : Nat) : BufTy := match i % 128 with
  | 0 => ⟨S1x4096x1024, .f32⟩
  | 1 => ⟨S1x256x1024, .f32⟩
  | 2 => ⟨S1x6144, .f32⟩
  | 3 => ⟨S6144, .f32⟩
  | 4 => ⟨S1024x1952, .f32⟩
  | 5 => ⟨S256, .f32⟩
  | 6 => ⟨S256x768, .f32⟩
  | 7 => ⟨S128, .f32⟩
  | 8 => ⟨S128x1024, .f32⟩
  | 9 => ⟨S3x512, .f32⟩
  | 10 => ⟨S4096x1x2x8, .f32⟩
  | 11 => ⟨S4096x1x2x8, .f32⟩
  | 12 => ⟨S1x4096x8x96, .f32⟩
  | 13 => ⟨S1x4352x8x96, .f32⟩
  | 14 => ⟨S1x4352x8x64, .f32⟩
  | 15 => ⟨S1x4096x512, .f32⟩
  | 16 => ⟨S1x4096x512, .f32⟩
  | 17 => ⟨S1x4096x1024, .f32⟩
  | 18 => ⟨S4096x1024, .f32⟩
  | 19 => ⟨S256x1024, .f32⟩
  | 20 => ⟨S6x1024, .f32⟩
  | 21 => ⟨S6x1024, .f32⟩
  | 22 => ⟨S_, .f32⟩
  | 23 => ⟨S6x1024, .f32⟩
  | 24 => ⟨S2x1024, .f32⟩
  | 25 => ⟨S8x1024, .f32⟩
  | 26 => ⟨S2x1024, .f32⟩
  | 27 => ⟨S8x1024, .f32⟩
  | 28 => ⟨S1x8x1024, .f32⟩
  | 29 => ⟨S1x8x1024, .f32⟩
  | 30 => ⟨S2x8x1024, .f32⟩
  | 31 => ⟨S_, .i32⟩
  | 32 => ⟨S_, .f32⟩
  | 33 => ⟨S8x512, .f32⟩
  | 34 => ⟨S1024x384, .f32⟩
  | 35 => ⟨S_, .f32⟩
  | 36 => ⟨S1024x64, .f32⟩
  | 37 => ⟨S1024x32, .f32⟩
  | 38 => ⟨S_, .f32⟩
  | 39 => ⟨S1024x32, .f32⟩
  | 40 => ⟨S1024x1536, .f32⟩
  | 41 => ⟨S1024x2048, .f32⟩
  | 42 => ⟨S1024x2048, .bf16⟩
  | 43 => ⟨S256x768, .bf16⟩
  | 44 => ⟨S256x8x96, .bf16⟩
  | 45 => ⟨S_, .i32⟩
  | 46 => ⟨S_, .bf16⟩
  | 47 => ⟨S256x8x128, .bf16⟩
  | 48 => ⟨S256x1024, .bf16⟩
  | 49 => ⟨S128x1024, .bf16⟩
  | 50 => ⟨S128x8x128, .bf16⟩
  | 51 => ⟨S128x8x64, .bf16⟩
  | 52 => ⟨S_, .i32⟩
  | 53 => ⟨S_, .bf16⟩
  | 54 => ⟨S128x8x128, .bf16⟩
  | 55 => ⟨S128x1024, .bf16⟩
  | 56 => ⟨S128x8x64, .bf16⟩
  | 57 => ⟨S_, .i32⟩
  | 58 => ⟨S_, .bf16⟩
  | 59 => ⟨S128x8x128, .bf16⟩
  | 60 => ⟨S128x1024, .bf16⟩
  | 61 => ⟨S128x2048, .bf16⟩
  | 62 => ⟨S4096x2x8, .f32⟩
  | 63 => ⟨S4096x2x8, .f32⟩
  | 64 => ⟨S_, .f32⟩
  | 65 => ⟨S4096x2x8, .f32⟩
  | 66 => ⟨S4096x2x16, .f32⟩
  | 67 => ⟨S4096x32, .f32⟩
  | 68 => ⟨S4096x2x16, .f32⟩
  | 69 => ⟨S4096x32, .f32⟩
  | 70 => ⟨S4096x2x8, .f32⟩
  | 71 => ⟨S4096x2x16, .f32⟩
  | 72 => ⟨S4096x32, .f32⟩
  | 73 => ⟨S_, .f32⟩
  | 74 => ⟨S4096x64, .f32⟩
  | 75 => ⟨S_, .f32⟩
  | 76 => ⟨S4096x32, .f32⟩
  | 77 => ⟨S4096x128, .f32⟩
  | 78 => ⟨S_, .f32⟩
  | 79 => ⟨S256x128, .f32⟩
  | 80 => ⟨S4352x128, .f32⟩
  | 81 => ⟨S_, .f32⟩
  | 82 => ⟨S4096x64, .f32⟩
  | 83 => ⟨S_, .f32⟩
  | 84 => ⟨S4096x32, .f32⟩
  | 85 => ⟨S4096x128, .f32⟩
  | 86 => ⟨S_, .f32⟩
  | 87 => ⟨S256x128, .f32⟩
  | 88 => ⟨S4352x128, .f32⟩
  | 89 => ⟨S_, .f32⟩
  | 90 => ⟨S4096x64, .f32⟩
  | 91 => ⟨S_, .f32⟩
  | 92 => ⟨S4096x32, .f32⟩
  | 93 => ⟨S4096x128, .f32⟩
  | 94 => ⟨S_, .f32⟩
  | 95 => ⟨S256x128, .f32⟩
  | 96 => ⟨S4352x128, .f32⟩
  | 97 => ⟨S4096x1024, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096x1, .f32⟩
  | 106 => ⟨S4096x1, .f32⟩
  | 107 => ⟨S4096x1, .f32⟩
  | 108 => ⟨S4096x1024, .f32⟩
  | 109 => ⟨S4096x1024, .f32⟩
  | 110 => ⟨S1x1024, .f32⟩
  | 111 => ⟨S1024, .f32⟩
  | 112 => ⟨S_, .f32⟩
  | 113 => ⟨S1024, .f32⟩
  | 114 => ⟨S1024, .f32⟩
  | 115 => ⟨S1x1024, .f32⟩
  | 116 => ⟨S4096x1024, .f32⟩
  | 117 => ⟨S4096x1024, .f32⟩
  | 118 => ⟨S1x1024, .f32⟩
  | 119 => ⟨S1024, .f32⟩
  | 120 => ⟨S1x1024, .f32⟩
  | 121 => ⟨S4096x1024, .f32⟩
  | 122 => ⟨S4096x1024, .f32⟩
  | 123 => ⟨S256x1024, .f32⟩
  | 124 => ⟨S_, .f32⟩
  | 125 => ⟨S256, .f32⟩
  | 126 => ⟨S256x1, .f32⟩
  | 127 => ⟨S_, .f32⟩
  | _ => ⟨S1x4096x1024, .f32⟩

abbrev hbmTy0_1 (i : Nat) : BufTy := match i % 128 with
  | 0 => ⟨S256x1, .f32⟩
  | 1 => ⟨S256x1, .f32⟩
  | 2 => ⟨S_, .f32⟩
  | 3 => ⟨S256x1, .f32⟩
  | 4 => ⟨S256x1, .f32⟩
  | 5 => ⟨S256x1, .f32⟩
  | 6 => ⟨S256x1024, .f32⟩
  | 7 => ⟨S256x1024, .f32⟩
  | 8 => ⟨S1x1024, .f32⟩
  | 9 => ⟨S1024, .f32⟩
  | 10 => ⟨S_, .f32⟩
  | 11 => ⟨S1024, .f32⟩
  | 12 => ⟨S1024, .f32⟩
  | 13 => ⟨S1x1024, .f32⟩
  | 14 => ⟨S256x1024, .f32⟩
  | 15 => ⟨S256x1024, .f32⟩
  | 16 => ⟨S1x1024, .f32⟩
  | 17 => ⟨S1024, .f32⟩
  | 18 => ⟨S1x1024, .f32⟩
  | 19 => ⟨S256x1024, .f32⟩
  | 20 => ⟨S256x1024, .f32⟩
  | 21 => ⟨S4352x1024, .f32⟩
  | 22 => ⟨S4352x1952, .f32⟩
  | 23 => ⟨S4352x384, .f32⟩
  | 24 => ⟨S_, .f32⟩
  | 25 => ⟨S4352x64, .f32⟩
  | 26 => ⟨S4352x32, .f32⟩
  | 27 => ⟨S_, .f32⟩
  | 28 => ⟨S4352x32, .f32⟩
  | 29 => ⟨S4352x1536, .f32⟩
  | 30 => ⟨S4352x2048, .f32⟩
  | 31 => ⟨S1x256, .f32⟩
  | 32 => ⟨S1x128, .f32⟩
  | 33 => ⟨S4096x512, .f32⟩
  | 34 => ⟨S4096x512, .f32⟩
  | 35 => ⟨S4096x1024, .f32⟩
  | 36 => ⟨S4096x8x96, .f32⟩
  | 37 => ⟨S8x4096x96, .f32⟩
  | 38 => ⟨S_, .i32⟩
  | 39 => ⟨S_, .f32⟩
  | 40 => ⟨S8x4096x128, .f32⟩
  | 41 => ⟨S4352x8x96, .f32⟩
  | 42 => ⟨S8x4352x96, .f32⟩
  | 43 => ⟨S_, .i32⟩
  | 44 => ⟨S_, .f32⟩
  | 45 => ⟨S8x4352x128, .f32⟩
  | 46 => ⟨S4352x8x64, .f32⟩
  | 47 => ⟨S8x4352x64, .f32⟩
  | 48 => ⟨S_, .i32⟩
  | 49 => ⟨S_, .f32⟩
  | 50 => ⟨S8x4352x128, .f32⟩
  | 51 => ⟨S4096x1024, .f32⟩
  | 52 => ⟨S1024x2048, .bf16⟩
  | 53 => ⟨S256x1024, .bf16⟩
  | 54 => ⟨S128x2048, .bf16⟩
  | 55 => ⟨S16x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x8x1024, .f32⟩
  | .local _ .vmem, ⟨4, _⟩ => ⟨S1x8x1024, .f32⟩
  | .local _ .vmem, ⟨5, _⟩ => ⟨S256x2048, .f32⟩
  | .local _ .vmem, ⟨6, _⟩ => ⟨S256x2048, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S256x512, .f32⟩
  | .local _ .vmem, ⟨16, _⟩ => ⟨S256x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S256x512, .f32⟩
  | .local _ .vmem, ⟨22, _⟩ => ⟨S256x512, .f32⟩
  | .local _ .vmem, ⟨23, _⟩ => ⟨S256x1024, .f32⟩
  | .local _ .vmem, ⟨24, _⟩ => ⟨S256x1024, .f32⟩
  | .local _ .vmem, ⟨25, _⟩ => ⟨S8x256x128, .f32⟩
  | .local _ .vmem, ⟨26, _⟩ => ⟨S8x256x128, .f32⟩
  | .local _ .vmem, ⟨27, _⟩ => ⟨S8x256x128, .f32⟩
  | .local _ .vmem, ⟨28, _⟩ => ⟨S8x256x128, .f32⟩
  | .local _ .vmem, ⟨29, _⟩ => ⟨S8x256x128, .f32⟩
  | .local _ .vmem, ⟨30, _⟩ => ⟨S8x256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S1024x2048, .bf16⟩
  | .local _ .vmem, ⟨38, _⟩ => ⟨S256x1024, .bf16⟩
  | .local _ .vmem, ⟨39, _⟩ => ⟨S128x2048, .bf16⟩
  | .local _ .vmem, ⟨40, _⟩ => ⟨S1x256, .f32⟩
  | .local _ .vmem, ⟨41, _⟩ => ⟨S1x128, .f32⟩
  | .local _ .vmem, ⟨42, _⟩ => ⟨S8x512, .f32⟩
  | .local _ .vmem, ⟨43, _⟩ => ⟨S256x1024, .f32⟩
  | .local _ .vmem, ⟨44, _⟩ => ⟨S256x1024, .f32⟩
  | .local _ .vmem, ⟨45, _⟩ => ⟨S1024x2048, .bf16⟩
  | .local _ .vmem, ⟨46, _⟩ => ⟨S256x1024, .bf16⟩
  | .local _ .vmem, ⟨47, _⟩ => ⟨S128x2048, .bf16⟩
  | .local _ .vmem, ⟨48, _⟩ => ⟨S16x1024, .f32⟩
  | .local _ .vmem, ⟨49, _⟩ => ⟨S1024x1024, .bf16⟩
  | .local _ .vmem, ⟨50, _⟩ => ⟨S1024x2048, .bf16⟩
  | .local _ .vmem, ⟨51, _⟩ => ⟨S1024x2048, .f32⟩
  | .local _ .vmem, ⟨52, _⟩ => ⟨S256x1024, .f32⟩
  | .local _ .vmem, ⟨53, _⟩ => ⟨S128x2048, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_call0_v0 : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_call1_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_call2_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_4 : Ref sig .tc := ⟨.hbm, 57, rfl⟩
abbrev main_call3_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_cst_7 : Ref sig .tc := ⟨.hbm, 75, rfl⟩
abbrev main_v44 : Ref sig .tc := ⟨.hbm, 76, rfl⟩
abbrev main_v45 : Ref sig .tc := ⟨.hbm, 77, rfl⟩
abbrev main_cst_8 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_cst_11 : Ref sig .tc := ⟨.hbm, 86, rfl⟩
abbrev main_v51 : Ref sig .tc := ⟨.hbm, 87, rfl⟩
abbrev main_v52 : Ref sig .tc := ⟨.hbm, 88, rfl⟩
abbrev main_cst_12 : Ref sig .tc := ⟨.hbm, 89, rfl⟩
abbrev main_v53 : Ref sig .tc := ⟨.hbm, 90, rfl⟩
abbrev main_cst_13 : Ref sig .tc := ⟨.hbm, 91, rfl⟩
abbrev main_v54 : Ref sig .tc := ⟨.hbm, 92, rfl⟩
abbrev main_v55 : Ref sig .tc := ⟨.hbm, 93, rfl⟩
abbrev main_cst_14 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_15 : Ref sig .tc := ⟨.hbm, 98, rfl⟩
abbrev main_v59 : Ref sig .tc := ⟨.hbm, 99, rfl⟩
abbrev main_v60 : Ref sig .tc := ⟨.hbm, 100, rfl⟩
abbrev main_cst_16 : Ref sig .tc := ⟨.hbm, 101, rfl⟩
abbrev main_v61 : Ref sig .tc := ⟨.hbm, 102, rfl⟩
abbrev main_v62 : Ref sig .tc := ⟨.hbm, 103, rfl⟩
abbrev main_cst_17 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_18 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_19 : Ref sig .tc := ⟨.hbm, 124, rfl⟩
abbrev main_v81 : Ref sig .tc := ⟨.hbm, 125, rfl⟩
abbrev main_v82 : Ref sig .tc := ⟨.hbm, 126, rfl⟩
abbrev main_cst_20 : Ref sig .tc := ⟨.hbm, 127, rfl⟩
abbrev main_v83 : Ref sig .tc := ⟨.hbm, 128, rfl⟩
abbrev main_v84 : Ref sig .tc := ⟨.hbm, 129, rfl⟩
abbrev main_cst_21 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_22 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_23 : Ref sig .tc := ⟨.hbm, 152, rfl⟩
abbrev main_v105 : Ref sig .tc := ⟨.hbm, 153, rfl⟩
abbrev main_v106 : Ref sig .tc := ⟨.hbm, 154, rfl⟩
abbrev main_cst_24 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_c_25 : Ref sig .tc := ⟨.hbm, 166, rfl⟩
abbrev main_call4_v0 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_c_26 : Ref sig .tc := ⟨.hbm, 171, rfl⟩
abbrev main_call5_v0 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_c_27 : Ref sig .tc := ⟨.hbm, 176, rfl⟩
abbrev main_call6_v0 : Ref sig .tc := ⟨.hbm, 177, rfl⟩
abbrev main_v123 : Ref sig .tc := ⟨.hbm, 178, rfl⟩
abbrev main_v124_0 : Ref sig .tc := ⟨.hbm, 179, rfl⟩
abbrev main_v124_1 : Ref sig .tc := ⟨.hbm, 180, rfl⟩
abbrev main_v124_2 : Ref sig .tc := ⟨.hbm, 181, rfl⟩
abbrev main_v124_3 : Ref sig .tc := ⟨.hbm, 182, rfl⟩
abbrev main_v124_4 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg27_0 : Ref sig .tc := ⟨.vmem, 46, rfl⟩
abbrev cc0_stg28_0 : Ref sig .tc := ⟨.vmem, 47, rfl⟩
abbrev cc0_stg29_0 : Ref sig .tc := ⟨.vmem, 48, rfl⟩
abbrev cc0_scratch0 : Ref sig .tc := ⟨.vmem, 49, rfl⟩
abbrev cc0_scratch1 : Ref sig .tc := ⟨.vmem, 50, rfl⟩
abbrev cc0_scratch2 : Ref sig .tc := ⟨.vmem, 51, rfl⟩
abbrev cc0_scratch3 : Ref sig .tc := ⟨.vmem, 52, rfl⟩
abbrev cc0_scratch4 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43
abbrev cc0_sem25_1 : DmaSem sig := 44
abbrev cc0_sem26_0 : DmaSem sig := 45
abbrev cc0_sem27_0 : DmaSem sig := 46
abbrev cc0_sem28_0 : DmaSem sig := 47
abbrev cc0_sem29_0 : DmaSem sig := 48

abbrev nD : Nat := 1
abbrev τ : Topo := Topo.v7x

variable {F : FTy → Type} [FloatOps F]

abbrev grid0 : Pipeline.Grid := ⟨1, ![17], ![false]⟩

def k0_mult1 (i : grid0.Coords) : BitVec 32 :=
  let arg0 : BitVec 32 := BitVec.ofNat 32 (i 0).val
  let c4_i32 : BitVec 32 := 4#32
  let c0_i32_207 : BitVec 32 := 0#32
  let v405 : BitVec 1 := Scalar.cmpi .eq c4_i32 c0_i32_207
  let c1_i32_208 : BitVec 32 := 1#32
  let v406 : BitVec 32 := Scalar.select v405 c1_i32_208 c4_i32
  let v407 : BitVec 32 := Scalar.remsi arg0 v406
  let c0_i32_210 : BitVec 32 := 0#32
  let v409 : BitVec 1 := Scalar.cmpi .slt v407 c0_i32_210
  let c0_i32_211 : BitVec 32 := 0#32
  let v410 : BitVec 1 := Scalar.cmpi .slt v406 c0_i32_211
  let v411 : BitVec 1 := Scalar.xori v409 v410
  let c0_i32_209 : BitVec 32 := 0#32
  let v408 : BitVec 1 := Scalar.cmpi .ne v407 c0_i32_209
  let v412 : BitVec 1 := Scalar.andi v411 v408
  let v413 : BitVec 32 := Scalar.addi v407 v406
  let v414 : BitVec 32 := Scalar.select v412 v413 v407
  let c256_i32 : BitVec 32 := 256#32
  let v415 : BitVec 32 := Scalar.muli v414 c256_i32
  v415
def k0_off1 (i : grid0.Coords) : Fin 2 → Nat :=
  let arg0 : BitVec 32 := BitVec.ofNat 32 (i 0).val
  let c4_i32 : BitVec 32 := 4#32
  let c0_i32_207 : BitVec 32 := 0#32
  let v405 : BitVec 1 := Scalar.cmpi .eq c4_i32 c0_i32_207
  let c1_i32_208 : BitVec 32 := 1#32
  let v406 : BitVec 32 := Scalar.select v405 c1_i32_208 c4_i32
  let v407 : BitVec 32 := Scalar.remsi arg0 v406
  let c0_i32_210 : BitVec 32 := 0#32
  let v409 : BitVec 1 := Scalar.cmpi .slt v407 c0_i32_210
  let c0_i32_211 : BitVec 32 := 0#32
  let v410 : BitVec 1 := Scalar.cmpi .slt v406 c0_i32_211
  let v411 : BitVec 1 := Scalar.xori v409 v410
  let c0_i32_209 : BitVec 32 := 0#32
  let v408 : BitVec 1 := Scalar.cmpi .ne v407 c0_i32_209
  let v412 : BitVec 1 := Scalar.andi v411 v408
  let v413 : BitVec 32 := Scalar.addi v407 v406
  let v414 : BitVec 32 := Scalar.select v412 v413 v407
  let c256_i32 : BitVec 32 := 256#32
  let v415 : BitVec 32 := Scalar.muli v414 c256_i32
  let v416 : BitVec 32 := v415
  let v417 : Index := Scalar.indexCast v416
  let c0_212 : Index := 0#32
  ![v417.toNat, 0]
def k0_off2 (i : grid0.Coords) : Fin 2 → Nat :=
  let arg0 : BitVec 32 := BitVec.ofNat 32 (i 0).val
  let c4_i32 : BitVec 32 := 4#32
  let c0_i32_207 : BitVec 32 := 0#32
  let v405 : BitVec 1 := Scalar.cmpi .eq c4_i32 c0_i32_207
  let c1_i32_208 : BitVec 32 := 1#32
  let v406 : BitVec 32 := Scalar.select v405 c1_i32_208 c4_i32
  let v407 : BitVec 32 := Scalar.remsi arg0 v406
  let c0_i32_210 : BitVec 32 := 0#32
  let v409 : BitVec 1 := Scalar.cmpi .slt v407 c0_i32_210
  let c0_i32_211 : BitVec 32 := 0#32
  let v410 : BitVec 1 := Scalar.cmpi .slt v406 c0_i32_211
  let v411 : BitVec 1 := Scalar.xori v409 v410
  let c0_i32_209 : BitVec 32 := 0#32
  let v408 : BitVec 1 := Scalar.cmpi .ne v407 c0_i32_209
  let v412 : BitVec 1 := Scalar.andi v411 v408
  let v413 : BitVec 32 := Scalar.addi v407 v406
  let v414 : BitVec 32 := Scalar.select v412 v413 v407
  let c256_i32 : BitVec 32 := 256#32
  let v415 : BitVec 32 := Scalar.muli v414 c256_i32
  let v416 : BitVec 32 := v415
  let v421 : Index := Scalar.indexCast v416
  let c0_213 : Index := 0#32
  ![v421.toNat, 0]
def k0_cond4 (i : grid0.Coords) : BitVec 1 :=
  let arg0 : BitVec 32 := BitVec.ofNat 32 (i 0).val
  let c16_i32 : BitVec 32 := 16#32
  let v0 : BitVec 1 := Scalar.cmpi .slt arg0 c16_i32
  let v472 : BitVec 32 := Scalar.extui v0
  let c0_i32_238 : BitVec 32 := 0#32
  let v473 : BitVec 1 := Scalar.cmpi .ne v472 c0_i32_238
  v473

def k0_cond5 (i : grid0.Coords) : BitVec 1 :=
  let arg0 : BitVec 32 := BitVec.ofNat 32 (i 0).val
  let c16_i32_239 : BitVec 32 := 16#32
  let v474 : BitVec 1 := Scalar.cmpi .eq arg0 c16_i32_239
  let v475 : BitVec 32 := Scalar.extui v474
  let c0_i32_240 : BitVec 32 := 0#32
  let v476 : BitVec 1 := Scalar.cmpi .ne v475 c0_i32_240
  v476

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c543_i32 : BitVec 32 := 543#32
  let v2 : BitVec 32 := Scalar.minsi v1 c543_i32
  let c3_i32 : BitVec 32 := 3#32
  let c0_i32 : BitVec 32 := 0#32
  ![v2.toNat, c3_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let c511_i32 : BitVec 32 := 511#32
  let v2 : BitVec 32 := Scalar.maxsi c0_i32 v1
  let v3 : BitVec 32 := Scalar.minsi c511_i32 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S1024x2048 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x2048 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S16x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== InprojRef.lean ====
abbrev S1x4096x1024 : Shape := ⟨3, ![1, 4096, 1024]⟩
abbrev S1x256x1024 : Shape := ⟨3, ![1, 256, 1024]⟩
abbrev S1x6144 : Shape := ⟨2, ![1, 6144]⟩
abbrev S6144 : Shape := ⟨1, ![6144]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S3x512 : Shape := ⟨2, ![3, 512]⟩
abbrev S4096x1x2x8 : Shape := ⟨4, ![4096, 1, 2, 8]⟩
abbrev S1x4096x8x96 : Shape := ⟨4, ![1, 4096, 8, 96]⟩
abbrev S1x4352x8x96 : Shape := ⟨4, ![1, 4352, 8, 96]⟩
abbrev S1x4352x8x64 : Shape := ⟨4, ![1, 4352, 8, 64]⟩
abbrev S1x4096x512 : Shape := ⟨3, ![1, 4096, 512]⟩
abbrev S1x1024 : Shape := ⟨2, ![1, 1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S1x4096x1952 : Shape := ⟨3, ![1, 4096, 1952]⟩
abbrev S1x4096x256 : Shape := ⟨3, ![1, 4096, 256]⟩
abbrev S1x1x256 : Shape := ⟨3, ![1, 1, 256]⟩
abbrev S1x4096x768 : Shape := ⟨3, ![1, 4096, 768]⟩
abbrev S1x4096x8x64 : Shape := ⟨4, ![1, 4096, 8, 64]⟩
abbrev S1x4096x8x32 : Shape := ⟨4, ![1, 4096, 8, 32]⟩
abbrev S1x4096x8x2x2x8 : Shape := ⟨6, ![1, 4096, 8, 2, 2, 8]⟩
abbrev S1x4096x8x2x1x8 : Shape := ⟨6, ![1, 4096, 8, 2, 1, 8]⟩
abbrev S1x4096x8x2x8 : Shape := ⟨5, ![1, 4096, 8, 2, 8]⟩
abbrev S1x4096x1x2x8 : Shape := ⟨5, ![1, 4096, 1, 2, 8]⟩
abbrev S1x4096x128 : Shape := ⟨3, ![1, 4096, 128]⟩
abbrev S1x1x128 : Shape := ⟨3, ![1, 1, 128]⟩
abbrev S1x4096x8x128 : Shape := ⟨4, ![1, 4096, 8, 128]⟩
abbrev S1x4096x32 : Shape := ⟨3, ![1, 4096, 32]⟩
abbrev S1x4096x1x32 : Shape := ⟨4, ![1, 4096, 1, 32]⟩
abbrev S1x4096x1x2x2x8 : Shape := ⟨6, ![1, 4096, 1, 2, 2, 8]⟩
abbrev S1x4096x1x2x1x8 : Shape := ⟨6, ![1, 4096, 1, 2, 1, 8]⟩
abbrev S1x4096x1536 : Shape := ⟨3, ![1, 4096, 1536]⟩
abbrev S1x1x512 : Shape := ⟨3, ![1, 1, 512]⟩
abbrev S1x4095x512 : Shape := ⟨3, ![1, 4095, 512]⟩
abbrev S1x512 : Shape := ⟨2, ![1, 512]⟩
abbrev S512 : Shape := ⟨1, ![512]⟩
abbrev S4096x32 : Shape := ⟨2, ![4096, 32]⟩
abbrev S4096 : Shape := ⟨1, ![4096]⟩
abbrev S4096x1024 : Shape := ⟨2, ![4096, 1024]⟩

abbrev nBuf : Space → Nat
  | .hbm => 345
  | .vmem => 0
  | .smem => 0
  | _ => 0

abbrev hbmTy0_0 (i : Nat) : BufTy := match i % 128 with
  | 0 => ⟨S1x4096x1024, .f32⟩
  | 1 => ⟨S1x256x1024, .f32⟩
  | 2 => ⟨S1x6144, .f32⟩
  | 3 => ⟨S6144, .f32⟩
  | 4 => ⟨S1024x1952, .f32⟩
  | 5 => ⟨S256, .f32⟩
  | 6 => ⟨S256x768, .f32⟩
  | 7 => ⟨S128, .f32⟩
  | 8 => ⟨S128x1024, .f32⟩
  | 9 => ⟨S3x512, .f32⟩
  | 10 => ⟨S4096x1x2x8, .f32⟩
  | 11 => ⟨S4096x1x2x8, .f32⟩
  | 12 => ⟨S1x4096x8x96, .f32⟩
  | 13 => ⟨S1x4352x8x96, .f32⟩
  | 14 => ⟨S1x4352x8x64, .f32⟩
  | 15 => ⟨S1x4096x512, .f32⟩
  | 16 => ⟨S1x4096x512, .f32⟩
  | 17 => ⟨S1x4096x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1x1024, .f32⟩
  | 25 => ⟨S1x1x1024, .f32⟩
  | 26 => ⟨S1x4096x1024, .f32⟩
  | 27 => ⟨S_, .f32⟩
  | 28 => ⟨S1x4096, .f32⟩
  | 29 => ⟨S1x4096x1, .f32⟩
  | 30 => ⟨S_, .f32⟩
  | 31 => ⟨S1x4096x1, .f32⟩
  | 32 => ⟨S1x4096x1, .f32⟩
  | 33 => ⟨S_, .f32⟩
  | 34 => ⟨S1x4096x1, .f32⟩
  | 35 => ⟨S1x4096x1, .f32⟩
  | 36 => ⟨S1x4096x1, .f32⟩
  | 37 => ⟨S1x4096x1, .f32⟩
  | 38 => ⟨S_, .f32⟩
  | 39 => ⟨S1x4096x1, .f32⟩
  | 40 => ⟨S1x4096x1, .f32⟩
  | 41 => ⟨S1x4096x1024, .f32⟩
  | 42 => ⟨S1x4096x1024, .f32⟩
  | 43 => ⟨S_, .f32⟩
  | 44 => ⟨S1x1x1024, .f32⟩
  | 45 => ⟨S1x1x1024, .f32⟩
  | 46 => ⟨S1x4096x1024, .f32⟩
  | 47 => ⟨S1x4096x1024, .f32⟩
  | 48 => ⟨S1x4096x1024, .f32⟩
  | 49 => ⟨S1x4096x1024, .f32⟩
  | 50 => ⟨S1x4096x1952, .f32⟩
  | 51 => ⟨S1x4096x256, .f32⟩
  | 52 => ⟨S1x4096x256, .f32⟩
  | 53 => ⟨S_, .f32⟩
  | 54 => ⟨S1x4096, .f32⟩
  | 55 => ⟨S1x4096x1, .f32⟩
  | 56 => ⟨S_, .f32⟩
  | 57 => ⟨S1x4096x1, .f32⟩
  | 58 => ⟨S1x4096x1, .f32⟩
  | 59 => ⟨S_, .f32⟩
  | 60 => ⟨S1x4096x1, .f32⟩
  | 61 => ⟨S1x4096x1, .f32⟩
  | 62 => ⟨S1x4096x1, .f32⟩
  | 63 => ⟨S1x4096x1, .f32⟩
  | 64 => ⟨S_, .f32⟩
  | 65 => ⟨S1x4096x1, .f32⟩
  | 66 => ⟨S1x4096x1, .f32⟩
  | 67 => ⟨S1x4096x256, .f32⟩
  | 68 => ⟨S1x4096x256, .f32⟩
  | 69 => ⟨S1x1x256, .f32⟩
  | 70 => ⟨S1x4096x256, .f32⟩
  | 71 => ⟨S1x4096x256, .f32⟩
  | 72 => ⟨S1x4096x768, .f32⟩
  | 73 => ⟨S1x4096x8x96, .f32⟩
  | 74 => ⟨S1x4096x8x64, .f32⟩
  | 75 => ⟨S1x4096x8x32, .f32⟩
  | 76 => ⟨S1x4096x8x2x2x8, .f32⟩
  | 77 => ⟨S1x4096x8x2x1x8, .f32⟩
  | 78 => ⟨S1x4096x8x2x8, .f32⟩
  | 79 => ⟨S1x4096x8x2x1x8, .f32⟩
  | 80 => ⟨S1x4096x8x2x8, .f32⟩
  | 81 => ⟨S1x4096x1x2x8, .f32⟩
  | 82 => ⟨S1x4096x8x2x8, .f32⟩
  | 83 => ⟨S1x4096x8x2x8, .f32⟩
  | 84 => ⟨S1x4096x1x2x8, .f32⟩
  | 85 => ⟨S1x4096x8x2x8, .f32⟩
  | 86 => ⟨S1x4096x8x2x8, .f32⟩
  | 87 => ⟨S1x4096x8x2x8, .f32⟩
  | 88 => ⟨S1x4096x1x2x8, .f32⟩
  | 89 => ⟨S1x4096x8x2x8, .f32⟩
  | 90 => ⟨S1x4096x8x2x8, .f32⟩
  | 91 => ⟨S1x4096x1x2x8, .f32⟩
  | 92 => ⟨S1x4096x8x2x8, .f32⟩
  | 93 => ⟨S1x4096x8x2x8, .f32⟩
  | 94 => ⟨S1x4096x8x2x8, .f32⟩
  | 95 => ⟨S1x4096x8x2x1x8, .f32⟩
  | 96 => ⟨S1x4096x8x2x1x8, .f32⟩
  | 97 => ⟨S1x4096x8x2x2x8, .f32⟩
  | 98 => ⟨S1x4096x8x32, .f32⟩
  | 99 => ⟨S1x4096x8x96, .f32⟩
  | 100 => ⟨S1x4096x128, .f32⟩
  | 101 => ⟨S1x4096x128, .f32⟩
  | 102 => ⟨S_, .f32⟩
  | 103 => ⟨S1x4096, .f32⟩
  | 104 => ⟨S1x4096x1, .f32⟩
  | 105 => ⟨S_, .f32⟩
  | 106 => ⟨S1x4096x1, .f32⟩
  | 107 => ⟨S1x4096x1, .f32⟩
  | 108 => ⟨S_, .f32⟩
  | 109 => ⟨S1x4096x1, .f32⟩
  | 110 => ⟨S1x4096x1, .f32⟩
  | 111 => ⟨S1x4096x1, .f32⟩
  | 112 => ⟨S1x4096x1, .f32⟩
  | 113 => ⟨S_, .f32⟩
  | 114 => ⟨S1x4096x1, .f32⟩
  | 115 => ⟨S1x4096x1, .f32⟩
  | 116 => ⟨S1x4096x128, .f32⟩
  | 117 => ⟨S1x4096x128, .f32⟩
  | 118 => ⟨S1x1x128, .f32⟩
  | 119 => ⟨S1x4096x128, .f32⟩
  | 120 => ⟨S1x4096x128, .f32⟩
  | 121 => ⟨S1x4096x1024, .f32⟩
  | 122 => ⟨S1x4096x8x128, .f32⟩
  | 123 => ⟨S1x4096x32, .f32⟩
  | 124 => ⟨S1x4096x1x32, .f32⟩
  | 125 => ⟨S1x4096x1x2x2x8, .f32⟩
  | 126 => ⟨S1x4096x1x2x1x8, .f32⟩
  | 127 => ⟨S1x4096x1x2x8, .f32⟩
  | _ => ⟨S1x4096x1024, .f32⟩

abbrev hbmTy0_1 (i : Nat) : BufTy := match i % 128 with
  | 0 => ⟨S1x4096x1x2x1x8, .f32⟩
  | 1 => ⟨S1x4096x1x2x8, .f32⟩
  | 2 => ⟨S1x4096x1x2x8, .f32⟩
  | 3 => ⟨S1x4096x1x2x8, .f32⟩
  | 4 => ⟨S1x4096x1x2x8, .f32⟩
  | 5 => ⟨S1x4096x1x2x8, .f32⟩
  | 6 => ⟨S1x4096x1x2x8, .f32⟩
  | 7 => ⟨S1x4096x1x2x8, .f32⟩
  | 8 => ⟨S1x4096x1x2x8, .f32⟩
  | 9 => ⟨S1x4096x1x2x8, .f32⟩
  | 10 => ⟨S1x4096x1x2x8, .f32⟩
  | 11 => ⟨S1x4096x1x2x8, .f32⟩
  | 12 => ⟨S1x4096x1x2x1x8, .f32⟩
  | 13 => ⟨S1x4096x1x2x1x8, .f32⟩
  | 14 => ⟨S1x4096x1x2x2x8, .f32⟩
  | 15 => ⟨S1x4096x1x32, .f32⟩
  | 16 => ⟨S1x4096x8x32, .f32⟩
  | 17 => ⟨S1x4096x8x64, .f32⟩
  | 18 => ⟨S1x4096x8x96, .f32⟩
  | 19 => ⟨S1x4096x8x64, .f32⟩
  | 20 => ⟨S1x4096x1536, .f32⟩
  | 21 => ⟨S1x4096x512, .f32⟩
  | 22 => ⟨S1x4096x512, .f32⟩
  | 23 => ⟨S1x4096x512, .f32⟩
  | 24 => ⟨S1x4096x512, .f32⟩
  | 25 => ⟨S_, .f32⟩
  | 26 => ⟨S1x1x512, .f32⟩
  | 27 => ⟨S1x4095x512, .f32⟩
  | 28 => ⟨S1x4096x512, .f32⟩
  | 29 => ⟨S_, .f32⟩
  | 30 => ⟨S1x1x512, .f32⟩
  | 31 => ⟨S1x4095x512, .f32⟩
  | 32 => ⟨S1x4096x512, .f32⟩
  | 33 => ⟨S_, .f32⟩
  | 34 => ⟨S1x1x512, .f32⟩
  | 35 => ⟨S1x512, .f32⟩
  | 36 => ⟨S512, .f32⟩
  | 37 => ⟨S1x1x512, .f32⟩
  | 38 => ⟨S1x4096x512, .f32⟩
  | 39 => ⟨S1x4096x512, .f32⟩
  | 40 => ⟨S1x512, .f32⟩
  | 41 => ⟨S512, .f32⟩
  | 42 => ⟨S1x1x512, .f32⟩
  | 43 => ⟨S1x4096x512, .f32⟩
  | 44 => ⟨S1x4096x512, .f32⟩
  | 45 => ⟨S1x4096x512, .f32⟩
  | 46 => ⟨S1x512, .f32⟩
  | 47 => ⟨S512, .f32⟩
  | 48 => ⟨S1x1x512, .f32⟩
  | 49 => ⟨S1x4096x512, .f32⟩
  | 50 => ⟨S1x4096x512, .f32⟩
  | 51 => ⟨S1x4096x512, .f32⟩
  | 52 => ⟨S1x4096x8x96, .f32⟩
  | 53 => ⟨S1x4096x8x64, .f32⟩
  | 54 => ⟨S1x4096x512, .f32⟩
  | 55 => ⟨S1x4096x512, .f32⟩
  | 56 => ⟨S1x4096x512, .f32⟩
  | 57 => ⟨S1x4096x512, .f32⟩
  | 58 => ⟨S1x4096x512, .f32⟩
  | 59 => ⟨S1x4096x512, .f32⟩
  | 60 => ⟨S1x4096x512, .f32⟩
  | 61 => ⟨S1x4096x512, .f32⟩
  | 62 => ⟨S1x4095x512, .f32⟩
  | 63 => ⟨S1x1x512, .f32⟩
  | 64 => ⟨S_, .f32⟩
  | 65 => ⟨S1x4096x512, .f32⟩
  | 66 => ⟨S1x4096x512, .f32⟩
  | 67 => ⟨S1x1x512, .f32⟩
  | 68 => ⟨S1x4095x512, .f32⟩
  | 69 => ⟨S_, .f32⟩
  | 70 => ⟨S1x4096x512, .f32⟩
  | 71 => ⟨S1x4096x512, .f32⟩
  | 72 => ⟨S1x4096x512, .f32⟩
  | 73 => ⟨S1x4096x512, .f32⟩
  | 74 => ⟨S1x4096x1536, .f32⟩
  | 75 => ⟨S_, .f32⟩
  | 76 => ⟨S1x4096x1952, .f32⟩
  | 77 => ⟨S_, .f32⟩
  | 78 => ⟨S1x4096x8x128, .f32⟩
  | 79 => ⟨S1x4096x8x64, .f32⟩
  | 80 => ⟨S1x4096x8x32, .f32⟩
  | 81 => ⟨S_, .f32⟩
  | 82 => ⟨S1x4096x8x128, .f32⟩
  | 83 => ⟨S1x4096x8x128, .f32⟩
  | 84 => ⟨S_, .f32⟩
  | 85 => ⟨S4096x32, .f32⟩
  | 86 => ⟨S1x4096x1x32, .f32⟩
  | 87 => ⟨S1x4096x1x2x2x8, .f32⟩
  | 88 => ⟨S1x4096x1x2x1x8, .f32⟩
  | 89 => ⟨S1x4096x1x2x8, .f32⟩
  | 90 => ⟨S1x4096x1x2x1x8, .f32⟩
  | 91 => ⟨S1x4096x1x2x8, .f32⟩
  | 92 => ⟨S1x4096x1x2x8, .f32⟩
  | 93 => ⟨S1x4096x1x2x8, .f32⟩
  | 94 => ⟨S1x4096x1x2x8, .f32⟩
  | 95 => ⟨S1x4096x1x2x8, .f32⟩
  | 96 => ⟨S1x4096x1x2x8, .f32⟩
  | 97 => ⟨S1x4096x1x2x8, .f32⟩
  | 98 => ⟨S1x4096x1x2x8, .f32⟩
  | 99 => ⟨S1x4096x1x2x1x8, .f32⟩
  | 100 => ⟨S_, .f32⟩
  | 101 => ⟨S1x4096x1x2x2x8, .f32⟩
  | 102 => ⟨S1x4096x1x2x1x8, .f32⟩
  | 103 => ⟨S_, .f32⟩
  | 104 => ⟨S1x4096x1x2x2x8, .f32⟩
  | 105 => ⟨S1x4096x1x2x2x8, .f32⟩
  | 106 => ⟨S1x4096x1x32, .f32⟩
  | 107 => ⟨S_, .f32⟩
  | 108 => ⟨S4096x32, .f32⟩
  | 109 => ⟨S1x4096x32, .f32⟩
  | 110 => ⟨S_, .f32⟩
  | 111 => ⟨S1x4096x1952, .f32⟩
  | 112 => ⟨S1x4096x1952, .f32⟩
  | 113 => ⟨S1x4096x1024, .f32⟩
  | 114 => ⟨S1x4096x128, .f32⟩
  | 115 => ⟨S1x4096x128, .f32⟩
  | 116 => ⟨S1x4096x128, .f32⟩
  | 117 => ⟨S1x4096x128, .f32⟩
  | 118 => ⟨S_, .f32⟩
  | 119 => ⟨S1x4096, .f32⟩
  | 120 => ⟨S1x4096x1, .f32⟩
  | 121 => ⟨S1x4096x128, .f32⟩
  | 122 => ⟨S1x4096x128, .f32⟩
  | 123 => ⟨S1x4096x1, .f32⟩
  | 124 => ⟨S_, .f32⟩
  | 125 => ⟨S1x4096x1, .f32⟩
  | 126 => ⟨S1x4096x1, .f32⟩
  | 127 => ⟨S_, .f32⟩
  | _ => ⟨S1x4096x1024, .f32⟩

abbrev hbmTy0_2 (i : Nat) : BufTy := match i % 128 with
  | 0 => ⟨S4096, .f32⟩
  | 1 => ⟨S1x4096, .f32⟩
  | 2 => ⟨S1x4096x128, .f32⟩
  | 3 => ⟨S1x4096x128, .f32⟩
  | 4 => ⟨S1x4096x128, .f32⟩
  | 5 => ⟨S1x4096x128, .f32⟩
  | 6 => ⟨S1x4096x128, .f32⟩
  | 7 => ⟨S_, .f32⟩
  | 8 => ⟨S1x4096x1952, .f32⟩
  | 9 => ⟨S1x4096x1952, .f32⟩
  | 10 => ⟨S1x4096x8x64, .f32⟩
  | 11 => ⟨S1x4096x8x32, .f32⟩
  | 12 => ⟨S1x4096x8x2x2x8, .f32⟩
  | 13 => ⟨S1x4096x8x2x1x8, .f32⟩
  | 14 => ⟨S1x4096x8x2x8, .f32⟩
  | 15 => ⟨S1x4096x8x2x1x8, .f32⟩
  | 16 => ⟨S1x4096x8x2x8, .f32⟩
  | 17 => ⟨S1x4096x8x2x8, .f32⟩
  | 18 => ⟨S1x4096x8x2x8, .f32⟩
  | 19 => ⟨S1x4096x8x2x8, .f32⟩
  | 20 => ⟨S1x4096x8x2x8, .f32⟩
  | 21 => ⟨S1x4096x8x2x8, .f32⟩
  | 22 => ⟨S1x4096x8x2x8, .f32⟩
  | 23 => ⟨S1x4096x8x2x8, .f32⟩
  | 24 => ⟨S1x4096x8x2x8, .f32⟩
  | 25 => ⟨S1x4096x8x2x8, .f32⟩
  | 26 => ⟨S1x4096x8x2x8, .f32⟩
  | 27 => ⟨S1x4096x8x2x8, .f32⟩
  | 28 => ⟨S1x4096x8x2x1x8, .f32⟩
  | 29 => ⟨S_, .f32⟩
  | 30 => ⟨S1x4096x8x2x2x8, .f32⟩
  | 31 => ⟨S1x4096x8x2x1x8, .f32⟩
  | 32 => ⟨S_, .f32⟩
  | 33 => ⟨S1x4096x8x2x2x8, .f32⟩
  | 34 => ⟨S1x4096x8x2x2x8, .f32⟩
  | 35 => ⟨S1x4096x8x32, .f32⟩
  | 36 => ⟨S_, .f32⟩
  | 37 => ⟨S1x4096x8x96, .f32⟩
  | 38 => ⟨S_, .f32⟩
  | 39 => ⟨S1x4096x8x96, .f32⟩
  | 40 => ⟨S1x4096x8x96, .f32⟩
  | 41 => ⟨S1x4096x768, .f32⟩
  | 42 => ⟨S1x4096x256, .f32⟩
  | 43 => ⟨S1x4096x256, .f32⟩
  | 44 => ⟨S1x4096x256, .f32⟩
  | 45 => ⟨S1x4096x256, .f32⟩
  | 46 => ⟨S_, .f32⟩
  | 47 => ⟨S1x4096, .f32⟩
  | 48 => ⟨S1x4096x1, .f32⟩
  | 49 => ⟨S1x4096x256, .f32⟩
  | 50 => ⟨S1x4096x256, .f32⟩
  | 51 => ⟨S1x4096x1, .f32⟩
  | 52 => ⟨S_, .f32⟩
  | 53 => ⟨S1x4096x1, .f32⟩
  | 54 => ⟨S1x4096x1, .f32⟩
  | 55 => ⟨S_, .f32⟩
  | 56 => ⟨S4096, .f32⟩
  | 57 => ⟨S1x4096, .f32⟩
  | 58 => ⟨S1x4096x256, .f32⟩
  | 59 => ⟨S1x4096x256, .f32⟩
  | 60 => ⟨S1x4096x256, .f32⟩
  | 61 => ⟨S1x4096x256, .f32⟩
  | 62 => ⟨S1x4096x256, .f32⟩
  | 63 => ⟨S_, .f32⟩
  | 64 => ⟨S1x4096x1952, .f32⟩
  | 65 => ⟨S1x4096x1952, .f32⟩
  | 66 => ⟨S1x4096x1024, .f32⟩
  | 67 => ⟨S1x4096x1024, .f32⟩
  | 68 => ⟨S1x4096x1024, .f32⟩
  | 69 => ⟨S1x4096x1024, .f32⟩
  | 70 => ⟨S_, .f32⟩
  | 71 => ⟨S1x4096, .f32⟩
  | 72 => ⟨S1x4096x1, .f32⟩
  | 73 => ⟨S1x4096x1024, .f32⟩
  | 74 => ⟨S1x4096x1024, .f32⟩
  | 75 => ⟨S1x4096x1, .f32⟩
  | 76 => ⟨S_, .f32⟩
  | 77 => ⟨S1x4096x1, .f32⟩
  | 78 => ⟨S1x4096x1, .f32⟩
  | 79 => ⟨S_, .f32⟩
  | 80 => ⟨S4096, .f32⟩
  | 81 => ⟨S1x4096, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S4096x1024, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_cst_10 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_11 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_12 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_13 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_14 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_15 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_16 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_cst_17 : Ref sig .tc := ⟨.hbm, 203, rfl⟩
abbrev main_v167 : Ref sig .tc := ⟨.hbm, 204, rfl⟩
abbrev main_cst_18 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_19 : Ref sig .tc := ⟨.hbm, 209, rfl⟩
abbrev main_v171 : Ref sig .tc := ⟨.hbm, 210, rfl⟩
abbrev main_v172 : Ref sig .tc := ⟨.hbm, 211, rfl⟩
abbrev main_cst_20 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_cst_21 : Ref sig .tc := ⟨.hbm, 228, rfl⟩
abbrev main_v188 : Ref sig .tc := ⟨.hbm, 229, rfl⟩
abbrev main_v189 : Ref sig .tc := ⟨.hbm, 230, rfl⟩
abbrev main_cst_22 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_cst_23 : Ref sig .tc := ⟨.hbm, 235, rfl⟩
abbrev main_v193 : Ref sig .tc := ⟨.hbm, 236, rfl⟩
abbrev main_v194 : Ref sig .tc := ⟨.hbm, 237, rfl⟩
abbrev main_cst_24 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_cst_25 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_cst_26 : Ref sig .tc := ⟨.hbm, 252, rfl⟩
abbrev main_v207 : Ref sig .tc := ⟨.hbm, 253, rfl⟩
abbrev main_v208 : Ref sig .tc := ⟨.hbm, 254, rfl⟩
abbrev main_cst_27 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_cst_28 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_cst_29 : Ref sig .tc := ⟨.hbm, 285, rfl⟩
abbrev main_v237 : Ref sig .tc := ⟨.hbm, 286, rfl⟩
abbrev main_v238 : Ref sig .tc := ⟨.hbm, 287, rfl⟩
abbrev main_cst_30 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_cst_31 : Ref sig .tc := ⟨.hbm, 292, rfl⟩
abbrev main_v242 : Ref sig .tc := ⟨.hbm, 293, rfl⟩
abbrev main_cst_32 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_cst_33 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_cst_34 : Ref sig .tc := ⟨.hbm, 308, rfl⟩
abbrev main_v255 : Ref sig .tc := ⟨.hbm, 309, rfl⟩
abbrev main_v256 : Ref sig .tc := ⟨.hbm, 310, rfl⟩
abbrev main_cst_35 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_cst_36 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_cst_37 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_cst_38 : Ref sig .tc := ⟨.hbm, 332, rfl⟩
abbrev main_v275 : Ref sig .tc := ⟨.hbm, 333, rfl⟩
abbrev main_v276 : Ref sig .tc := ⟨.hbm, 334, rfl⟩
abbrev main_cst_39 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩

abbrev nD : Nat := 1
abbrev τ : Topo := Topo.v7x

variable {F : FTy → Type} [FloatOps F]
-- ==== Small.lean ====
abbrev S8x16x1024 : Shape := ⟨3, ![8, 16, 1024]⟩
abbrev S1024x6144 : Shape := ⟨2, ![1024, 6144]⟩
abbrev S1024 : Shape := ⟨1, ![1024]⟩
abbrev S6144 : Shape := ⟨1, ![6144]⟩
abbrev S256 : Shape := ⟨1, ![256]⟩
abbrev S128 : Shape := ⟨1, ![128]⟩
abbrev S1024x4x1536 : Shape := ⟨3, ![1024, 4, 1536]⟩
abbrev S4x1024x1536 : Shape := ⟨3, ![4, 1024, 1536]⟩
abbrev S1x1024 : Shape := ⟨2, ![1, 1024]⟩
abbrev S6x1024 : Shape := ⟨2, ![6, 1024]⟩
abbrev S1x256 : Shape := ⟨2, ![1, 256]⟩
abbrev S1x128 : Shape := ⟨2, ![1, 128]⟩
abbrev S16x1024 : Shape := ⟨2, ![16, 1024]⟩
abbrev S8x1024 : Shape := ⟨2, ![8, 1024]⟩
abbrev S4x6x1024 : Shape := ⟨3, ![4, 6, 1024]⟩
abbrev S8x256 : Shape := ⟨2, ![8, 256]⟩
abbrev S8x128 : Shape := ⟨2, ![8, 128]⟩
abbrev S8x1536 : Shape := ⟨2, ![8, 1536]⟩
abbrev S4x8x1024 : Shape := ⟨3, ![4, 8, 1024]⟩
abbrev S1x16x1024 : Shape := ⟨3, ![1, 16, 1024]⟩
abbrev S1x512 : Shape := ⟨2, ![1, 512]⟩
abbrev S1x1024x1536 : Shape := ⟨3, ![1, 1024, 1536]⟩
abbrev S1024x1536 : Shape := ⟨2, ![1024, 1536]⟩
abbrev S1x8x1024 : Shape := ⟨3, ![1, 8, 1024]⟩
abbrev S4x1024 : Shape := ⟨2, ![4, 1024]⟩
abbrev S2x1024 : Shape := ⟨2, ![2, 1024]⟩
abbrev S1x6x1024 : Shape := ⟨3, ![1, 6, 1024]⟩
abbrev S4x256 : Shape := ⟨2, ![4, 256]⟩
abbrev S4x128 : Shape := ⟨2, ![4, 128]⟩

abbrev nBuf : Space → Nat
  | .hbm => 40
  | .vmem => 25
  | .smem => 0
  | _ => 0

abbrev bufTy : (tb : Table) → Fin (tcTables nBuf tb) → BufTy
  | .hbm, ⟨0, _⟩ => ⟨S8x16x1024, .f32⟩
  | .hbm, ⟨1, _⟩ => ⟨S1024x6144, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S6144, .f32⟩
  | .hbm, ⟨6, _⟩ => ⟨S6144, .f32⟩
  | .hbm, ⟨7, _⟩ => ⟨S6144, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x4x1536, .f32⟩
  | .hbm, ⟨18, _⟩ => ⟨S4x1024x1536, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S6x1024, .f32⟩
  | .hbm, ⟨23, _⟩ => ⟨S6x1024, .f32⟩
  | .hbm, ⟨24, _⟩ => ⟨S6x1024, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S16x1024, .f32⟩
  | .hbm, ⟨35, _⟩ => ⟨S8x1024, .f32⟩
  | .hbm, ⟨36, _⟩ => ⟨S4x6x1024, .f32⟩
  | .hbm, ⟨37, _⟩ => ⟨S8x256, .f32⟩
  | .hbm, ⟨38, _⟩ => ⟨S8x128, .f32⟩
  | .hbm, ⟨39, _⟩ => ⟨S8x1024, .f32⟩
  | .local _ .vmem, ⟨0, _⟩ => ⟨S8x16x1024, .f32⟩
  | .local _ .vmem, ⟨1, _⟩ => ⟨S4x1024x1536, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S6x1024, .f32⟩
  | .local _ .vmem, ⟨6, _⟩ => ⟨S6x1024, .f32⟩
  | .local _ .vmem, ⟨7, _⟩ => ⟨S6x1024, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S16x1024, .f32⟩
  | .local _ .vmem, ⟨18, _⟩ => ⟨S8x1024, .f32⟩
  | .local _ .vmem, ⟨19, _⟩ => ⟨S4x6x1024, .f32⟩
  | .local _ .vmem, ⟨20, _⟩ => ⟨S8x256, .f32⟩
  | .local _ .vmem, ⟨21, _⟩ => ⟨S8x128, .f32⟩
  | .local _ .vmem, ⟨22, _⟩ => ⟨S8x1024, .f32⟩
  | .local _ .vmem, ⟨23, _⟩ => ⟨S8x1536, .f32⟩
  | .local _ .vmem, ⟨24, _⟩ => ⟨S4x8x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev main_v17_4 : Ref sig .tc := ⟨.hbm, 38, rfl⟩
abbrev main_v17_5 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x6x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== SmallRef.lean ====
abbrev S8x16x1024 : Shape := ⟨3, ![8, 16, 1024]⟩
abbrev S1024x6144 : Shape := ⟨2, ![1024, 6144]⟩
abbrev S1024 : Shape := ⟨1, ![1024]⟩
abbrev S6144 : Shape := ⟨1, ![6144]⟩
abbrev S256 : Shape := ⟨1, ![256]⟩
abbrev S128 : Shape := ⟨1, ![128]⟩
abbrev S_ : Shape := ⟨0, ![]⟩
abbrev S16x1024 : Shape := ⟨2, ![16, 1024]⟩
abbrev S2x1024 : Shape := ⟨2, ![2, 1024]⟩
abbrev S2048 : Shape := ⟨1, ![2048]⟩
abbrev S4096 : Shape := ⟨1, ![4096]⟩
abbrev S6x1024 : Shape := ⟨2, ![6, 1024]⟩
abbrev S1x1024 : Shape := ⟨2, ![1, 1024]⟩
abbrev S4x1024 : Shape := ⟨2, ![4, 1024]⟩
abbrev S8x1024 : Shape := ⟨2, ![8, 1024]⟩
abbrev S1x6144 : Shape := ⟨2, ![1, 6144]⟩
abbrev S4x6144 : Shape := ⟨2, ![4, 6144]⟩
abbrev S4x6x1024 : Shape := ⟨3, ![4, 6, 1024]⟩
abbrev S1x256 : Shape := ⟨2, ![1, 256]⟩
abbrev S4x256 : Shape := ⟨2, ![4, 256]⟩
abbrev S8x256 : Shape := ⟨2, ![8, 256]⟩
abbrev S1x128 : Shape := ⟨2, ![1, 128]⟩
abbrev S4x128 : Shape := ⟨2, ![4, 128]⟩
abbrev S8x128 : Shape := ⟨2, ![8, 128]⟩

abbrev nBuf : Space → Nat
  | .hbm => 255
  | .vmem => 0
  | .smem => 0
  | _ => 0

abbrev hbmTy0_0 (i : Nat) : BufTy := match i % 128 with
  | 0 => ⟨S8x16x1024, .f32⟩
  | 1 => ⟨S1024x6144, .f32⟩
  | 2 => ⟨S1024, .f32⟩
  | 3 => ⟨S1024, .f32⟩
  | 4 => ⟨S1024, .f32⟩
  | 5 => ⟨S6144, .f32⟩
  | 6 => ⟨S6144, .f32⟩
  | 7 => ⟨S6144, .f32⟩
  | 8 => ⟨S256, .f32⟩
  | 9 => ⟨S256, .f32⟩
  | 10 => ⟨S256, .f32⟩
  | 11 => ⟨S128, .f32⟩
  | 12 => ⟨S128, .f32⟩
  | 13 => ⟨S128, .f32⟩
  | 14 => ⟨S1024, .f32⟩
  | 15 => ⟨S1024, .f32⟩
  | 16 => ⟨S1024, .f32⟩
  | 17 => ⟨S_, .f32⟩
  | 18 => ⟨S16x1024, .f32⟩
  | 19 => ⟨S2x1024, .f32⟩
  | 20 => ⟨S2048, .f32⟩
  | 21 => ⟨S_, .f32⟩
  | 22 => ⟨S4096, .f32⟩
  | 23 => ⟨S6144, .f32⟩
  | 24 => ⟨S1024, .f32⟩
  | 25 => ⟨S1024, .f32⟩
  | 26 => ⟨S_, .f32⟩
  | 27 => ⟨S1024, .f32⟩
  | 28 => ⟨S1024, .f32⟩
  | 29 => ⟨S_, .f32⟩
  | 30 => ⟨S1024, .f32⟩
  | 31 => ⟨S1024, .f32⟩
  | 32 => ⟨S_, .f32⟩
  | 33 => ⟨S1024, .f32⟩
  | 34 => ⟨S1024, .f32⟩
  | 35 => ⟨S1024, .f32⟩
  | 36 => ⟨S1024, .f32⟩
  | 37 => ⟨S6144, .f32⟩
  | 38 => ⟨S1024, .f32⟩
  | 39 => ⟨S1024, .f32⟩
  | 40 => ⟨S1024, .f32⟩
  | 41 => ⟨S1024, .f32⟩
  | 42 => ⟨S1024, .f32⟩
  | 43 => ⟨S6x1024, .f32⟩
  | 44 => ⟨S6144, .f32⟩
  | 45 => ⟨S6144, .f32⟩
  | 46 => ⟨S_, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S_, .f32⟩
  | 73 => ⟨S1024, .f32⟩
  | 74 => ⟨S1024, .f32⟩
  | 75 => ⟨S1024, .f32⟩
  | 76 => ⟨S_, .f32⟩
  | 77 => ⟨S1024, .f32⟩
  | 78 => ⟨S1024, .f32⟩
  | 79 => ⟨S1x1024, .f32⟩
  | 80 => ⟨S1x1024, .f32⟩
  | 81 => ⟨S1x1024, .f32⟩
  | 82 => ⟨S1x1024, .f32⟩
  | 83 => ⟨S4x1024, .f32⟩
  | 84 => ⟨S_, .i32⟩
  | 85 => ⟨S_, .f32⟩
  | 86 => ⟨S8x1024, .f32⟩
  | 87 => ⟨S_, .f32⟩
  | 88 => ⟨S6144, .f32⟩
  | 89 => ⟨S6144, .f32⟩
  | 90 => ⟨S_, .f32⟩
  | 91 => ⟨S6144, .f32⟩
  | 92 => ⟨S6144, .f32⟩
  | 93 => ⟨S6144, .f32⟩
  | 94 => ⟨S_, .f32⟩
  | 95 => ⟨S6144, .f32⟩
  | 96 => ⟨S6144, .f32⟩
  | 97 => ⟨S6144, .f32⟩
  | 98 => ⟨S_, .f32⟩
  | 99 => ⟨S6144, .f32⟩
  | 100 => ⟨S6144, .f32⟩
  | 101 => ⟨S6144, .f32⟩
  | 102 => ⟨S_, .f32⟩
  | 103 => ⟨S6144, .f32⟩
  | 104 => ⟨S6144, .f32⟩
  | 105 => ⟨S_, .f32⟩
  | 106 => ⟨S6144, .f32⟩
  | 107 => ⟨S6144, .f32⟩
  | 108 => ⟨S6144, .f32⟩
  | 109 => ⟨S_, .f32⟩
  | 110 => ⟨S6144, .f32⟩
  | 111 => ⟨S6144, .f32⟩
  | 112 => ⟨S6144, .f32⟩
  | 113 => ⟨S_, .f32⟩
  | 114 => ⟨S6144, .f32⟩
  | 115 => ⟨S6144, .f32⟩
  | 116 => ⟨S6144, .f32⟩
  | 117 => ⟨S_, .f32⟩
  | 118 => ⟨S6144, .f32⟩
  | 119 => ⟨S6144, .f32⟩
  | 120 => ⟨S1x6144, .f32⟩
  | 121 => ⟨S1x6144, .f32⟩
  | 122 => ⟨S1x6144, .f32⟩
  | 123 => ⟨S1x6144, .f32⟩
  | 124 => ⟨S4x6144, .f32⟩
  | 125 => ⟨S4x6x1024, .f32⟩
  | 126 => ⟨S1x256, .f32⟩
  | 127 => ⟨S256, .f32⟩
  | _ => ⟨S8x16x1024, .f32⟩

abbrev hbmTy0_1 (i : Nat) : BufTy := match i % 128 with
  | 0 => ⟨S_, .f32⟩
  | 1 => ⟨S256, .f32⟩
  | 2 => ⟨S256, .f32⟩
  | 3 => ⟨S_, .f32⟩
  | 4 => ⟨S256, .f32⟩
  | 5 => ⟨S256, .f32⟩
  | 6 => ⟨S256, .f32⟩
  | 7 => ⟨S_, .f32⟩
  | 8 => ⟨S256, .f32⟩
  | 9 => ⟨S256, .f32⟩
  | 10 => ⟨S256, .f32⟩
  | 11 => ⟨S_, .f32⟩
  | 12 => ⟨S256, .f32⟩
  | 13 => ⟨S256, .f32⟩
  | 14 => ⟨S256, .f32⟩
  | 15 => ⟨S_, .f32⟩
  | 16 => ⟨S256, .f32⟩
  | 17 => ⟨S256, .f32⟩
  | 18 => ⟨S_, .f32⟩
  | 19 => ⟨S256, .f32⟩
  | 20 => ⟨S256, .f32⟩
  | 21 => ⟨S256, .f32⟩
  | 22 => ⟨S_, .f32⟩
  | 23 => ⟨S256, .f32⟩
  | 24 => ⟨S256, .f32⟩
  | 25 => ⟨S256, .f32⟩
  | 26 => ⟨S_, .f32⟩
  | 27 => ⟨S256, .f32⟩
  | 28 => ⟨S256, .f32⟩
  | 29 => ⟨S256, .f32⟩
  | 30 => ⟨S_, .f32⟩
  | 31 => ⟨S256, .f32⟩
  | 32 => ⟨S256, .f32⟩
  | 33 => ⟨S1x256, .f32⟩
  | 34 => ⟨S1x256, .f32⟩
  | 35 => ⟨S1x256, .f32⟩
  | 36 => ⟨S1x256, .f32⟩
  | 37 => ⟨S4x256, .f32⟩
  | 38 => ⟨S_, .i32⟩
  | 39 => ⟨S_, .f32⟩
  | 40 => ⟨S8x256, .f32⟩
  | 41 => ⟨S1x128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S_, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S_, .f32⟩
  | 62 => ⟨S128, .f32⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S_, .f32⟩
  | 70 => ⟨S128, .f32⟩
  | 71 => ⟨S128, .f32⟩
  | 72 => ⟨S128, .f32⟩
  | 73 => ⟨S_, .f32⟩
  | 74 => ⟨S128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S4x128, .f32⟩
  | 81 => ⟨S_, .i32⟩
  | 82 => ⟨S_, .f32⟩
  | 83 => ⟨S8x128, .f32⟩
  | 84 => ⟨S1x1024, .f32⟩
  | 85 => ⟨S1024, .f32⟩
  | 86 => ⟨S_, .f32⟩
  | 87 => ⟨S1024, .f32⟩
  | 88 => ⟨S1024, .f32⟩
  | 89 => ⟨S_, .f32⟩
  | 90 => ⟨S1024, .f32⟩
  | 91 => ⟨S1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S_, .f32⟩
  | 98 => ⟨S1024, .f32⟩
  | 99 => ⟨S1024, .f32⟩
  | 100 => ⟨S1024, .f32⟩
  | 101 => ⟨S_, .f32⟩
  | 102 => ⟨S1024, .f32⟩
  | 103 => ⟨S1024, .f32⟩
  | 104 => ⟨S_, .f32⟩
  | 105 => ⟨S1024, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S1x1024, .f32⟩
  | 120 => ⟨S1x1024, .f32⟩
  | 121 => ⟨S1x1024, .f32⟩
  | 122 => ⟨S1x1024, .f32⟩
  | 123 => ⟨S4x1024, .f32⟩
  | 124 => ⟨S_, .i32⟩
  | 125 => ⟨S_, .f32⟩
  | 126 => ⟨S8x1024, .f32⟩
  | _ => ⟨S8x16x1024, .f32⟩

abbrev hbmTy (i : Nat) : BufTy := match i / 128 with
  | 0 => hbmTy0_0 i
  | 1 => hbmTy0_1 i
  | _ => ⟨S8x16x1024, .f32⟩

abbrev bufTy : (tb : Table) → Fin (tcTables nBuf tb) → BufTy
  | .hbm, ⟨i, _⟩ => hbmTy i
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v5_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v5_1 : Ref sig .tc := ⟨.hbm, 35, rfl⟩
abbrev main_v5_0 : Ref sig .tc := ⟨.hbm, 36, rfl⟩
abbrev main_v6 : Ref sig .tc := ⟨.hbm, 37, rfl⟩
abbrev main_v7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_cst_2 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_3 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_4 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_5 : Ref sig .tc := ⟨.hbm, 61, rfl⟩
abbrev main_v23 : Ref sig .tc := ⟨.hbm, 62, rfl⟩
abbrev main_v24 : Ref sig .tc := ⟨.hbm, 63, rfl⟩
abbrev main_cst_6 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_7 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_8 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_9 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c : Ref sig .tc := ⟨.hbm, 84, rfl⟩
abbrev main_call2_v0 : Ref sig .tc := ⟨.hbm, 85, rfl⟩
abbrev main_v41 : Ref sig .tc := ⟨.hbm, 86, rfl⟩
abbrev main_cst_10 : Ref sig .tc := ⟨.hbm, 87, rfl⟩
abbrev main_v42 : Ref sig .tc := ⟨.hbm, 88, rfl⟩
abbrev main_v43 : Ref sig .tc := ⟨.hbm, 89, rfl⟩
abbrev main_cst_11 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_12 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_13 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_14 : Ref sig .tc := ⟨.hbm, 102, rfl⟩
abbrev main_v53 : Ref sig .tc := ⟨.hbm, 103, rfl⟩
abbrev main_v54 : Ref sig .tc := ⟨.hbm, 104, rfl⟩
abbrev main_cst_15 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_16 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_17 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_18 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_19 : Ref sig .tc := ⟨.hbm, 128, rfl⟩
abbrev main_v74 : Ref sig .tc := ⟨.hbm, 129, rfl⟩
abbrev main_v75 : Ref sig .tc := ⟨.hbm, 130, rfl⟩
abbrev main_cst_20 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_21 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_22 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_23 : Ref sig .tc := ⟨.hbm, 143, rfl⟩
abbrev main_v85 : Ref sig .tc := ⟨.hbm, 144, rfl⟩
abbrev main_v86 : Ref sig .tc := ⟨.hbm, 145, rfl⟩
abbrev main_cst_24 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_25 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_26 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_27 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_28 : Ref sig .tc := ⟨.hbm, 166, rfl⟩
abbrev main_call3_v0 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_29 : Ref sig .tc := ⟨.hbm, 171, rfl⟩
abbrev main_v106 : Ref sig .tc := ⟨.hbm, 172, rfl⟩
abbrev main_v107 : Ref sig .tc := ⟨.hbm, 173, rfl⟩
abbrev main_cst_30 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_cst_31 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_cst_32 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_cst_33 : Ref sig .tc := ⟨.hbm, 186, rfl⟩
abbrev main_v117 : Ref sig .tc := ⟨.hbm, 187, rfl⟩
abbrev main_v118 : Ref sig .tc := ⟨.hbm, 188, rfl⟩
abbrev main_cst_34 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_cst_35 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_cst_36 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_cst_37 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_c_38 : Ref sig .tc := ⟨.hbm, 209, rfl⟩
abbrev main_call4_v0 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_cst_39 : Ref sig .tc := ⟨.hbm, 214, rfl⟩
abbrev main_v138 : Ref sig .tc := ⟨.hbm, 215, rfl⟩
abbrev main_v139 : Ref sig .tc := ⟨.hbm, 216, rfl⟩
abbrev main_cst_40 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_cst_41 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_cst_42 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_cst_43 : Ref sig .tc := ⟨.hbm, 229, rfl⟩
abbrev main_v149 : Ref sig .tc := ⟨.hbm, 230, rfl⟩
abbrev main_v150 : Ref sig .tc := ⟨.hbm, 231, rfl⟩
abbrev main_cst_44 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_cst_45 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_cst_46 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_cst_47 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_c_48 : Ref sig .tc := ⟨.hbm, 252, rfl⟩
abbrev main_call5_v0 : Ref sig .tc := ⟨.hbm, 253, rfl⟩
abbrev main_v167 : Ref sig .tc := ⟨.hbm, 254, rfl⟩

abbrev nD : Nat := 1
abbrev τ : Topo := Topo.v7x

variable {F : FTy → Type} [FloatOps F]
-- ==== Proof.Attn.RealCoe.lean ====
/-
  Real numbers inside the extended reals: sums, exponentials, logarithms, quotients and maxima of coerced reals are
  coerced reals. Every value lemma of the attention is stated with these.
-/
module

public import Idealize.ShloMosaic.Lib.Pointwise
public import Idealize.ShloMosaic.Lib.IdealHost

@[expose] public section

namespace Cert.RealCoe

open Idealize.ShloMosaic

/-- A finite sum of coerced reals. -/
theorem sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp (x : ℝ) : Ideal.exp (x : EReal) = ((Real.exp x : ℝ) : EReal) := rfl

/-- `2 ^ x` as an exponential. -/
theorem exp2 (x : ℝ) : Ideal.exp2 (x : EReal) = ((Real.exp (x * Real.log 2) : ℝ) : EReal) := by
  change ((Real.rpow 2 x : ℝ) : EReal) = _
  rw [Real.rpow_eq_pow, Real.rpow_def_of_pos (by norm_num), mul_comm]

theorem log {x : ℝ} (h : 0 < x) : Ideal.log (x : EReal) = ((Real.log x : ℝ) : EReal) := by
  change (if x ≤ 0 then (⊥ : EReal) else _) = _
  rw [if_neg (not_le.mpr h)]

theorem div (x : ℝ) {y : ℝ} (h : y ≠ 0) : Ideal.div (x : EReal) (y : EReal) = ((x / y : ℝ) : EReal) := by
  rw [Ideal.div, if_neg (by exact_mod_cast h), ← EReal.coe_inv, ← EReal.coe_mul, div_eq_mul_inv]

theorem max (x y : ℝ) : Max.max (x : EReal) (y : EReal) = ((Max.max x y : ℝ) : EReal) :=
  (EReal.coe_strictMono.monotone.map_max).symm

/-- The maximum of finitely many reals, folded from `⊥`, is a real as soon as there is one of them. -/
theorem fold_max {ι : Type} (s : Finset ι) (hs : s.Nonempty) (f : ι → ℝ) :
    ∃ M : ℝ, s.fold Max.max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨Max.max (f a) M, by rw [Finset.fold_cons, hM, max]⟩

/-- A real that is neither infinity. -/
theorem exists_of_abs_lt_top {x : EReal} (h : Max.max x (-x) < ⊤) : ∃ r : ℝ, x = (r : EReal) := by
  induction x with
  | bot => simp at h
  | top => simp at h
  | coe r => exact ⟨r, rfl⟩

/-- A sum over the first `a + b` numbers in two parts. -/
theorem sum_range_two (a b : ℕ) (f : ℕ → ℝ) :
    ∑ k : Fin (a + b), f k = ∑ k : Fin a, f k + ∑ k : Fin b, f (a + k) := by
  rw [Fin.sum_univ_add]; simp

end Cert.RealCoe
-- ==== Proof.Attn.FwdOps.lean ====
/-
  The forward attention call, one head of one block of queries: the vector operations of the body named, and each read at
  a row of real numbers. The call walks the keys in four chunks (three of 1024 and one of 1280) and carries a running
  maximum and a running sum.
-/
module

public import proofs.«01_k».proof.Proof.Gen.AttnIdeal.Skeleton
public import proofs.«01_k».proof.Proof.Attn.RealCoe

@[expose] public section

set_option maxRecDepth 16384

noncomputable section

namespace Cert.AttnIdeal.Fwd

open Idealize.ShloMosaic Cert.AttnIdeal Cert.AttnIdeal.Gen

/-- The scale of the scores, as the programs' literal has it. -/
def σ : ℝ := 3424635 / 33554432

section Ops
variable {F : FTy → Type} [FloatOps F] [Named F]

/-- Scores of a block of queries against a chunk of 1024 keys. -/
def score (q : FVec F S1024x128 .bf16) (k : FVec F S1024x128 .bf16) : FVec F S1024x1024 .f32 :=
  matmul dot_S1024x128_S1024x128_S1024x1024_1_1_0_0_n_n none q k (constant S1024x1024 .f32 0x00000000#32)

/-- The same against the last chunk, of 1280 keys. -/
def scoreL (q : FVec F S1024x128 .bf16) (k : FVec F S1280x128 .bf16) : FVec F S1024x1280 .f32 :=
  matmul dot_S1024x128_S1280x128_S1024x1280_1_1_0_0_n_n none q k (constant S1024x1280 .f32 0x00000000#32)

/-- The greatest score of each query in a chunk. -/
def rowMax (s : FVec F S1024x1024 .f32) : FVec F S1024x1 .f32 :=
  shapeCast S1024x1 (multiReduction .maximumf [1] S1024 s 0xFF800000#32 reduces_S1024x1024_S1024 (.inl rfl) rfl) shapeCasts_S1024_S1024x1

def rowMaxL (s : FVec F S1024x1280 .f32) : FVec F S1024x1 .f32 :=
  shapeCast S1024x1 (multiReduction .maximumf [1] S1024 s 0xFF800000#32 reduces_S1024x1280_S1024 (.inl rfl) rfl) shapeCasts_S1024_S1024x1

/-- A chunk's weights against its values, the weights relative to `m`. -/
def part (s : FVec F S1024x1024 .f32) (m : FVec F S1024x1 .f32) (v : FVec F S1024x128 .bf16) : FVec F S1024x128 .f32 :=
  matmul dot_S1024x1024_S1024x128_S1024x128_1_0_0_1_n_n none
    (truncf .bf16 (exp2 (mulf (subf s (broadcastTo S1024x1024 m broadcasts_S1024x1_S1024x1024))
      (broadcast S1024x1024 (Named.named κ "scale_log2e" 0x3E16C740#32)))) bitsLt_bf16_f32) v (constant S1024x128 .f32 0x00000000#32)

def partL (s : FVec F S1024x1280 .f32) (m : FVec F S1024x1 .f32) (v : FVec F S1280x128 .bf16) : FVec F S1024x128 .f32 :=
  matmul dot_S1024x1280_S1280x128_S1024x128_1_0_0_1_n_n none
    (truncf .bf16 (exp2 (mulf (subf s (broadcastTo S1024x1280 m broadcasts_S1024x1_S1024x1280))
      (broadcast S1024x1280 (Named.named κ "scale_log2e" 0x3E16C740#32)))) bitsLt_bf16_f32) v (constant S1024x128 .f32 0x00000000#32)

/-- The running sum taken from the maximum `m` to the maximum `m'`. -/
def rescale (a : FVec F S1024x128 .f32) (m m' : FVec F S1024x1 .f32) : FVec F S1024x128 .f32 :=
  mulf a (broadcastTo S1024x128 (exp2 (mulf (subf m m') (broadcast S1024x1 (Named.named κ "scale_log2e" 0x3E16C740#32))))
    broadcasts_S1024x1_S1024x128)

/-- The sum divided by its 64th lane, in which the weights themselves were summed. -/
def outOf (a : FVec F S1024x128 .f32) : FVec F S1024x128 .f32 :=
  mulf a (broadcastTo S1024x128 (divf (broadcast S1024x1 (Scalar.ofBits .f32 0x3F800000#32))
    (extractStridedSlice S1024x1 ![0, 64] a slices_S1024x128_o0_64_S1024x1)) broadcasts_S1024x1_S1024x128)

/-- The logarithm, in base two, of each query's sum of weights, as a row. -/
def lseOf (m : FVec F S1024x1 .f32) (a : FVec F S1024x128 .f32) : FVec F S1x1x1024 .f32 :=
  shapeCast S1x1x1024 (extractStridedSlice S1x1024 ![0, 0] (transpose S128x1024 [1, 0] (broadcastTo S1024x128
    (shapeCast S1024x1 (mulf (addf (mulf m (broadcast S1024x1 (Scalar.ofBits .f32 0x3DD105EC#32)))
        (log (extractStridedSlice S1024x1 ![0, 64] a slices_S1024x128_o0_64_S1024x1)))
      (broadcast S1024x1 (Named.named κ "log2e" 0x3FB8AA3B#32))) shapeCasts_S1024x1_S1024x1)
    broadcasts_S1024x1_S1024x128) transposes_S1024x128_p1_0_S128x1024) slices_S128x1024_o0_0_S1x1024) shapeCasts_S1x1024_S1x1x1024

/-- A block of queries as a matrix. -/
def mat (x : Vec F S1x1024x128 .bf16) : FVec F S1024x128 .bf16 := shapeCast S1024x128 x shapeCasts_S1x1024x128_S1024x128
def matL (x : Vec F S1x1280x128 .bf16) : FVec F S1280x128 .bf16 := shapeCast S1280x128 x shapeCasts_S1x1280x128_S1280x128

variable (q k0 k1 k2 : Vec F S1x1024x128 .bf16) (k3 : Vec F S1x1280x128 .bf16)

/-- The running maximum after one, two, three and four chunks. -/
def max0 : FVec F S1024x1 .f32 := rowMax (score (mat q) (mat k0))
def max1 : FVec F S1024x1 .f32 := maximumf (max0 q k0) (rowMax (score (mat q) (mat k1)))
def max2 : FVec F S1024x1 .f32 := maximumf (max1 q k0 k1) (rowMax (score (mat q) (mat k2)))
def max3 : FVec F S1024x1 .f32 := maximumf (max2 q k0 k1 k2) (rowMaxL (scoreL (mat q) (matL k3)))

variable (v0 v1 v2 : Vec F S1x1024x128 .bf16) (v3 : Vec F S1x1280x128 .bf16)

/-- The running sum after one, two, three and four chunks. -/
def acc0 : FVec F S1024x128 .f32 := part (score (mat q) (mat k0)) (max0 q k0) (mat v0)
def acc1 : FVec F S1024x128 .f32 :=
  addf (rescale (acc0 q k0 v0) (max0 q k0) (max1 q k0 k1)) (part (score (mat q) (mat k1)) (max1 q k0 k1) (mat v1))
def acc2 : FVec F S1024x128 .f32 :=
  addf (rescale (acc1 q k0 k1 v0 v1) (max1 q k0 k1) (max2 q k0 k1 k2)) (part (score (mat q) (mat k2)) (max2 q k0 k1 k2) (mat v2))
def acc3 : FVec F S1024x128 .f32 :=
  addf (rescale (acc2 q k0 k1 k2 v0 v1 v2) (max2 q k0 k1 k2) (max3 q k0 k1 k2 k3))
    (partL (scoreL (mat q) (matL k3)) (max3 q k0 k1 k2 k3) (matL v3))

/-- Four heads' results side by side, two to a tile of 128 lanes. -/
def pack (a b c d : FVec F S1024x128 .f32) : FVec F S1024x256 .bf16 :=
  truncf .bf16 (concatenate S1024x256 1
    [⟨S1024x128, select (cmpi .slt (iota .tc S1024x128 32 [1] iota_S1024x128_d1_w32) (broadcast S1024x128 64#32)) a
        (dynamicRotate 1 64#32 none b rotates_S1024x128_d1)⟩,
      ⟨S1024x128, select (cmpi .slt (iota .tc S1024x128 32 [1] iota_S1024x128_d1_w32) (broadcast S1024x128 64#32)) c
        (dynamicRotate 1 64#32 none d rotates_S1024x128_d1)⟩]
    concatenates_S1024x128_S1024x128_S1024x256_d1) bitsLt_bf16_f32

end Ops

/-- The two named numbers. -/
theorem named_scale : (Named.named (F := Ideal) κ "scale_log2e" (0x3E16C740#32 : BitVec FTy.f32.bits) : Ideal .f32)
    = ((σ * (Real.log 2)⁻¹ : ℝ) : EReal) :=
  IdealRules.named_const.ideal_named_scalar _ _ _ _ rfl

theorem named_log2e : (Named.named (F := Ideal) κ "log2e" (0x3FB8AA3B#32 : BitVec FTy.f32.bits) : Ideal .f32)
    = (((Real.log 2)⁻¹ : ℝ) : EReal) :=
  IdealRules.named_const.ideal_named_scalar _ _ _ _ rfl

/-- The literal of the scale. -/
theorem scale_lit : Ideal.ofBits .f32 0x3DD105EC#32 = ((σ : ℝ) : EReal) := by
  simp [Ideal.ofBits, Ideal.ieee, -EReal.coe_mul, σ]; norm_num

theorem log2_ne : Real.log 2 ≠ 0 := (Real.log_pos (by norm_num)).ne'

end Cert.AttnIdeal.Fwd
-- ==== Proof.Attn.FwdRead.lean ====
/-
  The forward call's operations at a query `r` whose scores and values are real numbers: every running maximum is a real,
  and the running sum at lane `d` is `∑ exp (σ (s − m)) · v` over the keys walked so far.
-/
module

public import proofs.«01_k».proof.Proof.Attn.FwdOps
public import Idealize.ShloMosaic.Lib.WordCmp

@[expose] public section

set_option maxRecDepth 16384

noncomputable section

namespace Cert.AttnIdeal.Fwd

open Idealize.ShloMosaic Cert.AttnIdeal Cert.AttnIdeal.Gen

theorem neg_inf : Ideal.ofBits .f32 0xFF800000#32 = ⊥ := by simp [Ideal.ofBits, Ideal.ieee]

/-- A lane mask `lane < 64` at lane `n`. -/
theorem select_lane {α : Type} (n : ℕ) (h : n < 128) (x y : α) :
    Scalar.select (IntOp.cmpi .slt (BitVec.ofNat 32 n) 64#32) x y = if n < 64 then x else y := by
  have e : IntOp.cmpi .slt (BitVec.ofNat 32 n) (BitVec.ofNat 32 64) = BitVec.ofBool (decide (n < 64)) :=
    WordCmp.cmpi_slt_ofNat (by omega) (by omega)
  rw [show (64#32 : BitVec 32) = BitVec.ofNat 32 64 from rfl, e, WordCmp.select_decide]

theorem score_apply (q k : FVec Ideal S1024x128 .bf16) (r t : Fin 1024) :
    score q k (ix2 r t) = ∑ e : Fin 128, q (ix2 r e) * k (ix2 t e) := by
  pointwise [score]

theorem scoreL_apply (q : FVec Ideal S1024x128 .bf16) (k : FVec Ideal S1280x128 .bf16) (r : Fin 1024) (t : Fin 1280) :
    scoreL q k (ix2 r t) = ∑ e : Fin 128, q (ix2 r e) * k (ix2 t e) := by
  pointwise [scoreL]

theorem rowMax_apply (s : FVec Ideal S1024x1024 .f32) (r : Fin 1024) :
    rowMax s (ix2 r 0) = Finset.univ.fold max ⊥ fun t : Fin 1024 => s (ix2 r t) := by
  pointwise [rowMax]
  rw [neg_inf]

theorem rowMaxL_apply (s : FVec Ideal S1024x1280 .f32) (r : Fin 1024) :
    rowMaxL s (ix2 r 0) = Finset.univ.fold max ⊥ fun t : Fin 1280 => s (ix2 r t) := by
  pointwise [rowMaxL]
  rw [neg_inf]

theorem part_apply (s : FVec Ideal S1024x1024 .f32) (m : FVec Ideal S1024x1 .f32) (v : FVec Ideal S1024x128 .bf16) (r : Fin 1024) (d : Fin 128) :
    part s m v (ix2 r d) = ∑ t : Fin 1024, Ideal.exp2 ((s (ix2 r t) - m (ix2 r 0)) * ((σ * (Real.log 2)⁻¹ : ℝ) : EReal)) * v (ix2 t d) := by
  pointwise [part]
  rw [named_scale]; rfl

theorem partL_apply (s : FVec Ideal S1024x1280 .f32) (m : FVec Ideal S1024x1 .f32) (v : FVec Ideal S1280x128 .bf16) (r : Fin 1024) (d : Fin 128) :
    partL s m v (ix2 r d) = ∑ t : Fin 1280, Ideal.exp2 ((s (ix2 r t) - m (ix2 r 0)) * ((σ * (Real.log 2)⁻¹ : ℝ) : EReal)) * v (ix2 t d) := by
  pointwise [partL]
  rw [named_scale]; rfl

theorem rescale_apply (a : FVec Ideal S1024x128 .f32) (m m' : FVec Ideal S1024x1 .f32) (r : Fin 1024) (d : Fin 128) :
    rescale a m m' (ix2 r d) = a (ix2 r d) * Ideal.exp2 ((m (ix2 r 0) - m' (ix2 r 0)) * ((σ * (Real.log 2)⁻¹ : ℝ) : EReal)) := by
  pointwise [rescale]
  rw [named_scale]; rfl

theorem outOf_apply (a : FVec Ideal S1024x128 .f32) (r : Fin 1024) (d : Fin 128) :
    outOf a (ix2 r d) = a (ix2 r d) * Ideal.div 1 (a (ix2 r 64)) := by
  pointwise [outOf]

theorem lseOf_apply (m : FVec Ideal S1024x1 .f32) (a : FVec Ideal S1024x128 .f32) (r : Fin 1024) :
    lseOf m a (ix3 0 0 r) = (m (ix2 r 0) * ((σ : ℝ) : EReal) + Ideal.log (a (ix2 r 64))) * (((Real.log 2)⁻¹ : ℝ) : EReal) := by
  pointwise [lseOf]
  rw [named_log2e, scale_lit]

theorem mat_apply (x : Vec Ideal S1x1024x128 .bf16) (r : Fin 1024) (d : Fin 128) : mat x (ix2 r d) = x (ix3 0 r d) := by
  pointwise [mat]

theorem matL_apply (x : Vec Ideal S1x1280x128 .bf16) (r : Fin 1280) (d : Fin 128) : matL x (ix2 r d) = x (ix3 0 r d) := by
  pointwise [matL]

/-- Lane `l` of the packed block is lane `l % 64` of head `l / 64`. -/
theorem pack_apply (h : Fin 4 → FVec Ideal S1024x128 .f32) (r : Fin 1024) (l : Fin 256) :
    pack (h 0) (h 1) (h 2) (h 3) (ix2 r l) = h ⟨l.val / 64, by omega⟩ (ix2 r ⟨l.val % 64, by omega⟩) := by
  pointwise [pack]
  have hl := l.isLt
  have key : ∀ (b : Fin 4) (e : Fin 128) (b' : Fin 4) (e' : Fin 128), b = b' → e = e' → h b (ix2 r e) = h b' (ix2 r e') := by
    rintro _ _ _ _ rfl rfl; rfl
  by_cases hc : l.val < 128
  · rw [dif_pos hc, select_lane _ (by omega)]
    split_ifs with hd <;> exact key _ _ _ _ (Fin.ext (by simp; omega)) (Fin.ext (by simp; omega))
  · rw [dif_neg hc, select_lane _ (by omega)]
    split_ifs with hd <;> exact key _ _ _ _ (Fin.ext (by simp; omega)) (Fin.ext (by simp; omega))

section Row
variable {r : Fin 1024}

theorem rowMax_real {s : FVec Ideal S1024x1024 .f32} {f : Fin 1024 → ℝ} (hs : ∀ t, s (ix2 r t) = (f t : EReal)) :
    ∃ M : ℝ, rowMax s (ix2 r 0) = (M : EReal) := by
  rw [rowMax_apply, funext hs]; exact RealCoe.fold_max _ Finset.univ_nonempty f

theorem rowMaxL_real {s : FVec Ideal S1024x1280 .f32} {f : Fin 1280 → ℝ} (hs : ∀ t, s (ix2 r t) = (f t : EReal)) :
    ∃ M : ℝ, rowMaxL s (ix2 r 0) = (M : EReal) := by
  rw [rowMaxL_apply, funext hs]; exact RealCoe.fold_max _ Finset.univ_nonempty f

/-- One weight. -/
theorem weight (s M : ℝ) : Ideal.exp2 (((s : EReal) - (M : EReal)) * ((σ * (Real.log 2)⁻¹ : ℝ) : EReal))
    = ((Real.exp (σ * (s - M)) : ℝ) : EReal) := by
  rw [← EReal.coe_sub, ← EReal.coe_mul, RealCoe.exp2]
  congr 2; field_simp [log2_ne]

theorem part_real {s : FVec Ideal S1024x1024 .f32} {m : FVec Ideal S1024x1 .f32} {v : FVec Ideal S1024x128 .bf16}
    {f : Fin 1024 → ℝ} {M : ℝ} {w : Fin 1024 → Fin 128 → ℝ} (hs : ∀ t, s (ix2 r t) = (f t : EReal))
    (hm : m (ix2 r 0) = (M : EReal)) (hv : ∀ t d, v (ix2 t d) = (w t d : EReal)) (d : Fin 128) :
    part s m v (ix2 r d) = ((∑ t, Real.exp (σ * (f t - M)) * w t d : ℝ) : EReal) := by
  rw [part_apply, ← RealCoe.sum]
  refine Finset.sum_congr rfl fun t _ => ?_
  rw [hs, hm, hv, weight, EReal.coe_mul]

theorem partL_real {s : FVec Ideal S1024x1280 .f32} {m : FVec Ideal S1024x1 .f32} {v : FVec Ideal S1280x128 .bf16}
    {f : Fin 1280 → ℝ} {M : ℝ} {w : Fin 1280 → Fin 128 → ℝ} (hs : ∀ t, s (ix2 r t) = (f t : EReal))
    (hm : m (ix2 r 0) = (M : EReal)) (hv : ∀ t d, v (ix2 t d) = (w t d : EReal)) (d : Fin 128) :
    partL s m v (ix2 r d) = ((∑ t, Real.exp (σ * (f t - M)) * w t d : ℝ) : EReal) := by
  rw [partL_apply, ← RealCoe.sum]
  refine Finset.sum_congr rfl fun t _ => ?_
  rw [hs, hm, hv, weight, EReal.coe_mul]

theorem rescale_real {a : FVec Ideal S1024x128 .f32} {m m' : FVec Ideal S1024x1 .f32} {d : Fin 128} {A M M' : ℝ}
    (ha : a (ix2 r d) = (A : EReal)) (hm : m (ix2 r 0) = (M : EReal)) (hm' : m' (ix2 r 0) = (M' : EReal)) :
    rescale a m m' (ix2 r d) = ((A * Real.exp (σ * (M - M')) : ℝ) : EReal) := by
  rw [rescale_apply, ha, hm, hm', weight, EReal.coe_mul]

theorem score_real {q k : FVec Ideal S1024x128 .bf16} {x : Fin 128 → ℝ} {y : Fin 1024 → Fin 128 → ℝ}
    (hq : ∀ e, q (ix2 r e) = (x e : EReal)) (hk : ∀ t e, k (ix2 t e) = (y t e : EReal)) (t : Fin 1024) :
    score q k (ix2 r t) = ((∑ e, x e * y t e : ℝ) : EReal) := by
  rw [score_apply, ← RealCoe.sum]
  exact Finset.sum_congr rfl fun e _ => by rw [hq, hk, EReal.coe_mul]

theorem scoreL_real {q : FVec Ideal S1024x128 .bf16} {k : FVec Ideal S1280x128 .bf16} {x : Fin 128 → ℝ} {y : Fin 1280 → Fin 128 → ℝ}
    (hq : ∀ e, q (ix2 r e) = (x e : EReal)) (hk : ∀ t e, k (ix2 t e) = (y t e : EReal)) (t : Fin 1280) :
    scoreL q k (ix2 r t) = ((∑ e, x e * y t e : ℝ) : EReal) := by
  rw [scoreL_apply, ← RealCoe.sum]
  exact Finset.sum_congr rfl fun e _ => by rw [hq, hk, EReal.coe_mul]

/-- The running sum carried over one more chunk: the first `a` keys, then `b` more. -/
theorem carry (a b : ℕ) (s v : ℕ → ℝ) (M M' : ℝ) :
    (∑ t : Fin a, Real.exp (σ * (s t - M)) * v t) * Real.exp (σ * (M - M'))
      + ∑ t : Fin b, Real.exp (σ * (s (a + t) - M')) * v (a + t)
    = ∑ t : Fin (a + b), Real.exp (σ * (s t - M')) * v t := by
  rw [RealCoe.sum_range_two a b (fun t => Real.exp (σ * (s t - M')) * v t), Finset.sum_mul]
  congr 1
  refine Finset.sum_congr rfl fun t _ => ?_
  rw [mul_right_comm, ← Real.exp_add]; congr 2; ring

end Row

section Head
variable {q k0 k1 k2 : Vec Ideal S1x1024x128 .bf16} {k3 : Vec Ideal S1x1280x128 .bf16}
variable {v0 v1 v2 : Vec Ideal S1x1024x128 .bf16} {v3 : Vec Ideal S1x1280x128 .bf16}

/-- A head's four chunks of keys, or of values, hold the real numbers `y`. -/
structure Chunks (k0 k1 k2 : Vec Ideal S1x1024x128 .bf16) (k3 : Vec Ideal S1x1280x128 .bf16) (y : ℕ → Fin 128 → ℝ) : Prop where
  h0 : ∀ (t : Fin 1024) e, k0 (ix3 0 t e) = (y t e : EReal)
  h1 : ∀ (t : Fin 1024) e, k1 (ix3 0 t e) = (y (1024 + t) e : EReal)
  h2 : ∀ (t : Fin 1024) e, k2 (ix3 0 t e) = (y (2048 + t) e : EReal)
  h3 : ∀ (t : Fin 1280) e, k3 (ix3 0 t e) = (y (3072 + t) e : EReal)

/-- After the last chunk the maximum is a real and the sum runs over all keys. -/
theorem acc3_real {x : Fin 128 → ℝ} {y w : ℕ → Fin 128 → ℝ} {r : Fin 1024} (hq : ∀ e, q (ix3 0 r e) = (x e : EReal))
    (hk : Chunks k0 k1 k2 k3 y) (hv : Chunks v0 v1 v2 v3 w) :
    ∃ M : ℝ, max3 q k0 k1 k2 k3 (ix2 r 0) = (M : EReal) ∧ ∀ d, acc3 q k0 k1 k2 k3 v0 v1 v2 v3 (ix2 r d)
      = ((∑ t : Fin 4352, Real.exp (σ * ((∑ e, x e * y t e) - M)) * w t d : ℝ) : EReal) := by
  have hq' : ∀ e, mat q (ix2 r e) = (x e : EReal) := fun e => by rw [mat_apply, hq]
  have s0 := score_real (r := r) (k := mat k0) hq' (fun t e => by rw [mat_apply, hk.h0])
  have s1 := score_real (r := r) (k := mat k1) hq' (fun t e => by rw [mat_apply, hk.h1])
  have s2 := score_real (r := r) (k := mat k2) hq' (fun t e => by rw [mat_apply, hk.h2])
  have s3 := scoreL_real (r := r) (k := matL k3) hq' (fun t e => by rw [matL_apply, hk.h3])
  have w0 : ∀ (t : Fin 1024) d, mat v0 (ix2 t d) = _ := fun t d => by rw [mat_apply, hv.h0]
  have w1 : ∀ (t : Fin 1024) d, mat v1 (ix2 t d) = _ := fun t d => by rw [mat_apply, hv.h1]
  have w2 : ∀ (t : Fin 1024) d, mat v2 (ix2 t d) = _ := fun t d => by rw [mat_apply, hv.h2]
  have w3 : ∀ (t : Fin 1280) d, matL v3 (ix2 t d) = _ := fun t d => by rw [matL_apply, hv.h3]
  obtain ⟨M0, m0⟩ := rowMax_real s0
  obtain ⟨N1, n1⟩ := rowMax_real s1
  obtain ⟨N2, n2⟩ := rowMax_real s2
  obtain ⟨N3, n3⟩ := rowMaxL_real s3
  change max0 q k0 (ix2 r 0) = _ at m0
  have m1 : max1 q k0 k1 (ix2 r 0) = ((max M0 N1 : ℝ) : EReal) := by
    rw [max1, ValueIdx.maximumf_apply, m0, n1, RealCoe.max]
  have m2 : max2 q k0 k1 k2 (ix2 r 0) = ((max (max M0 N1) N2 : ℝ) : EReal) := by
    rw [max2, ValueIdx.maximumf_apply, m1, n2, RealCoe.max]
  have m3 : max3 q k0 k1 k2 k3 (ix2 r 0) = ((max (max (max M0 N1) N2) N3 : ℝ) : EReal) := by
    rw [max3, ValueIdx.maximumf_apply, m2, n3, RealCoe.max]
  generalize max M0 N1 = M1 at m1 m2 m3
  generalize max M1 N2 = M2 at m2 m3
  generalize max M2 N3 = M3 at m3
  refine ⟨M3, m3, fun d => ?_⟩
  have a0 : acc0 q k0 v0 (ix2 r d) = _ := part_real s0 m0 w0 d
  have a1 : acc1 q k0 k1 v0 v1 (ix2 r d)
      = ((∑ t : Fin 2048, Real.exp (σ * ((∑ e, x e * y t e) - M1)) * w t d : ℝ) : EReal) := by
    rw [acc1, ValueIdx.addf_apply, rescale_real a0 m0 m1, part_real s1 m1 w1 d, ← EReal.coe_add,
      carry 1024 1024 (fun t => ∑ e, x e * y t e) (fun t => w t d)]
  have a2 : acc2 q k0 k1 k2 v0 v1 v2 (ix2 r d)
      = ((∑ t : Fin 3072, Real.exp (σ * ((∑ e, x e * y t e) - M2)) * w t d : ℝ) : EReal) := by
    rw [acc2, ValueIdx.addf_apply, rescale_real a1 m1 m2, part_real s2 m2 w2 d, ← EReal.coe_add,
      carry 2048 1024 (fun t => ∑ e, x e * y t e) (fun t => w t d)]
  rw [acc3, ValueIdx.addf_apply, rescale_real a2 m2 m3, partL_real s3 m3 w3 d, ← EReal.coe_add,
    carry 3072 1280 (fun t => ∑ e, x e * y t e) (fun t => w t d)]

/-- The sum of the weights of a query, before any maximum is subtracted. -/
def Z (x : Fin 128 → ℝ) (y : ℕ → Fin 128 → ℝ) : ℝ := ∑ t : Fin 4352, Real.exp (σ * ∑ e, x e * y t e)

theorem Z_pos (x : Fin 128 → ℝ) (y : ℕ → Fin 128 → ℝ) : 0 < Z x y :=
  Finset.sum_pos (fun _ _ => Real.exp_pos _) Finset.univ_nonempty

theorem shift (x : Fin 128 → ℝ) (y : ℕ → Fin 128 → ℝ) (M : ℝ) (f : Fin 4352 → ℝ) :
    ∑ t : Fin 4352, Real.exp (σ * ((∑ e, x e * y t e) - M)) * f t
      = (∑ t : Fin 4352, Real.exp (σ * ∑ e, x e * y t e) * f t) * Real.exp (-(σ * M)) := by
  rw [Finset.sum_mul]
  refine Finset.sum_congr rfl fun t _ => ?_
  rw [mul_right_comm, ← Real.exp_add]; congr 2; ring

/-- The result of a head at a query: the weights divided by their sum, against the values. The values' lane 64 is one. -/
theorem out_real {x : Fin 128 → ℝ} {y w : ℕ → Fin 128 → ℝ} {r : Fin 1024} (hq : ∀ e, q (ix3 0 r e) = (x e : EReal))
    (hk : Chunks k0 k1 k2 k3 y) (hv : Chunks v0 v1 v2 v3 w) (h1 : ∀ t, w t 64 = 1) (d : Fin 128) :
    outOf (acc3 q k0 k1 k2 k3 v0 v1 v2 v3) (ix2 r d)
      = ((∑ t : Fin 4352, Real.exp (σ * ∑ e, x e * y t e) / Z x y * w t d : ℝ) : EReal) := by
  obtain ⟨M, -, ha⟩ := acc3_real hq hk hv
  have hZ := (Z_pos x y).ne'
  rw [outOf_apply, ha, ha, shift, shift]
  simp only [h1, mul_one]
  rw [show (∑ t : Fin 4352, Real.exp (σ * ∑ e, x e * y t e)) = Z x y from rfl, show (1 : EReal) = ((1 : ℝ) : EReal) from rfl, RealCoe.div _ (mul_ne_zero hZ (Real.exp_pos _).ne'), ← EReal.coe_mul]
  congr 1
  rw [mul_one_div, mul_div_mul_right _ _ (Real.exp_pos _).ne', Finset.sum_div]
  exact Finset.sum_congr rfl fun t _ => by rw [div_mul_eq_mul_div]

/-- The second result: the logarithm in base two of the sum of the weights. -/
theorem lse_real {x : Fin 128 → ℝ} {y w : ℕ → Fin 128 → ℝ} {r : Fin 1024} (hq : ∀ e, q (ix3 0 r e) = (x e : EReal))
    (hk : Chunks k0 k1 k2 k3 y) (hv : Chunks v0 v1 v2 v3 w) (h1 : ∀ t, w t 64 = 1) :
    lseOf (max3 q k0 k1 k2 k3) (acc3 q k0 k1 k2 k3 v0 v1 v2 v3) (ix3 0 0 r)
      = ((Real.log (Z x y) / Real.log 2 : ℝ) : EReal) := by
  obtain ⟨M, hm, ha⟩ := acc3_real hq hk hv
  have hZ := Z_pos x y
  rw [lseOf_apply, ha, hm, shift]
  simp only [h1, mul_one]
  rw [show (∑ t : Fin 4352, Real.exp (σ * ∑ e, x e * y t e)) = Z x y from rfl, RealCoe.log (mul_pos hZ (Real.exp_pos _)), Real.log_mul hZ.ne' (Real.exp_pos _).ne', Real.log_exp,
    ← EReal.coe_mul, ← EReal.coe_add, ← EReal.coe_mul]
  refine congrArg Real.toEReal ?_
  ring

end Head

end Cert.AttnIdeal.Fwd
-- ==== Proof.Attn.Spec.lean ====
/-
  The attention and its gradients over the real numbers, head by head. A head's queries, keys and values are rows of 128
  numbers (zeros past the head's own columns); the incoming gradient has the heads' 64 columns side by side. Both programs
  are shown to compute these.
-/
module

public import proofs.«01_k».proof.Proof.Attn.FwdRead

@[expose] public section

noncomputable section

namespace Cert.AttnSpec

open Idealize.ShloMosaic Cert.AttnIdeal
open Cert.AttnIdeal.Fwd (σ Z)

/-- The four arrays as reals. -/
structure Data where
  q : Fin 8 → ℕ → Fin 128 → ℝ
  k : Fin 8 → ℕ → Fin 128 → ℝ
  v : Fin 8 → ℕ → Fin 128 → ℝ
  ct : ℕ → Fin 512 → ℝ

variable (X : Data)

/-- Head `h`'s columns of the incoming gradient, in 128 lanes. -/
def Data.c (h : Fin 8) (i : ℕ) (d : Fin 128) : ℝ := if hd : d.val < 64 then X.ct i ⟨64 * h.val + d.val, by omega⟩ else 0

/-- The weight of key `t` for query `i`. -/
def Data.p (h : Fin 8) (i t : ℕ) : ℝ := Real.exp (σ * ∑ e, X.q h i e * X.k h t e) / Z (X.q h i) (X.k h)

/-- The attention's result. -/
def Data.o (h : Fin 8) (i : ℕ) (d : Fin 128) : ℝ := ∑ t : Fin 4352, X.p h i t * X.v h t d

/-- The gradient of a weight, and its mean over the keys. -/
def Data.dp (h : Fin 8) (i t : ℕ) : ℝ := ∑ d, X.v h t d * X.c h i d
def Data.delta (h : Fin 8) (i : ℕ) : ℝ := ∑ d, X.o h i d * X.c h i d

/-- The gradient of a score, before the scale. -/
def Data.ds (h : Fin 8) (i t : ℕ) : ℝ := X.p h i t * (X.dp h i t - X.delta h i)

/-- The gradients of the queries, the keys and the values. -/
def Data.dq (h : Fin 8) (i : ℕ) (e : Fin 128) : ℝ := (∑ t : Fin 4352, X.k h t e * X.ds h i t) * σ
def Data.dk (h : Fin 8) (t : ℕ) (e : Fin 128) : ℝ := ∑ i : Fin 4096, X.ds h i t * X.q h i e * σ
def Data.dv (h : Fin 8) (t : ℕ) (d : Fin 128) : ℝ := ∑ i : Fin 4096, X.p h i t * X.c h i d

/-- Every entry of the four arrays is a real number. -/
structure Real (Q : FVec Ideal S1x4096x8x96 .f32) (K : FVec Ideal S1x4352x8x96 .f32) (V : FVec Ideal S1x4352x8x64 .f32)
    (C : FVec Ideal S1x4096x512 .f32) : Prop where
  q : ∀ i h e, ∃ r : ℝ, Q (ix4 0 i h e) = (r : EReal)
  k : ∀ i h e, ∃ r : ℝ, K (ix4 0 i h e) = (r : EReal)
  v : ∀ i h e, ∃ r : ℝ, V (ix4 0 i h e) = (r : EReal)
  ct : ∀ i l, ∃ r : ℝ, C (ix3 0 i l) = (r : EReal)

/-- The arrays as reals, padded: zeros past a head's columns, and one in the values' column 64. -/
def ofArrays (Q : FVec Ideal S1x4096x8x96 .f32) (K : FVec Ideal S1x4352x8x96 .f32) (V : FVec Ideal S1x4352x8x64 .f32)
    (C : FVec Ideal S1x4096x512 .f32) : Data where
  q h i e := if H : e.val < 96 ∧ i < 4096 then EReal.toReal (Q (ix4 0 ⟨i, H.2⟩ h ⟨e.val, H.1⟩)) else 0
  k h i e := if H : e.val < 96 ∧ i < 4352 then EReal.toReal (K (ix4 0 ⟨i, H.2⟩ h ⟨e.val, H.1⟩)) else 0
  v h i e := if H : e.val < 64 ∧ i < 4352 then EReal.toReal (V (ix4 0 ⟨i, H.2⟩ h ⟨e.val, H.1⟩)) else if e.val = 64 then 1 else 0
  ct i l := if H : i < 4096 then EReal.toReal (C (ix3 0 ⟨i, H⟩ l)) else 0

/-- A real entry is what its real number is. -/
theorem coe_toReal {x : EReal} (h : ∃ r : ℝ, x = (r : EReal)) : ((x.toReal : ℝ) : EReal) = x := by
  obtain ⟨r, rfl⟩ := h; rfl

end Cert.AttnSpec
-- ==== Proof.Attn.BwdOps.lean ====
/-
  The backward attention call, one block of 512 queries and two heads: the vector operations of the body named. The call
  walks the keys in seven chunks of 512 and one of 768; for each chunk it forms the weights anew from the saved logarithms
  and adds to the gradients of the keys, of the values and of the queries.
-/
module

public import proofs.«01_k».proof.Proof.Attn.Spec
public import Idealize.ShloMosaic.Lib.Pipeline.ReadBack
public import Idealize.ShloMosaic.Lib.Pipeline.ValueKit

@[expose] public section

set_option maxRecDepth 16384

noncomputable section

namespace Cert.AttnIdeal.Bwd

open Idealize.ShloMosaic Cert.AttnIdeal Cert.AttnIdeal.Gen

/-- Chunks lie inside the blocks of two heads. -/
theorem inb (b n : ℕ) (hb : b < 2) {s : ℕ} (hn : n + s ≤ 4352) : ∀ a : Fin 3, ![b, n, 0] a + ![1, s, 128] a ≤ ![2, 4352, 128] a := by
  intro a; fin_cases a <;> simp <;> omega

theorem inbT (b n : ℕ) (hb : b < 2) {s : ℕ} (hn : n + s ≤ 4352) : ∀ a : Fin 3, ![b, 0, n] a + ![1, 128, s] a ≤ ![2, 128, 4352] a := by
  intro a; fin_cases a <;> simp <;> omega

section Ops
variable {F : FTy → Type} [FloatOps F] [Named F]

/-- A chunk of one head, loaded from a block of two heads. -/
abbrev rC (b n : ℕ) (hb : b < 2) (hn : n + 512 ≤ 4352) : Rect S2x4352x128 := Rect.unit ![b, n, 0] S1x512x128.size (inb b n hb hn)
abbrev rL (b : ℕ) (hb : b < 2) : Rect S2x4352x128 := Rect.unit ![b, 3584, 0] S1x768x128.size (inb b 3584 hb (by omega))
abbrev rT (b n : ℕ) (hb : b < 2) (hn : n + 512 ≤ 4352) : Rect S2x128x4352 := Rect.unit ![b, 0, n] S1x128x512.size (inbT b n hb hn)
abbrev rTL (b : ℕ) (hb : b < 2) : Rect S2x128x4352 := Rect.unit ![b, 0, 3584] S1x128x768.size (inbT b 3584 hb (by omega))

def chunk {e : EltTy} (x : Vec F S2x4352x128 e) (b n : ℕ) (hb : b < 2) (hn : n + 512 ≤ 4352) : Vec F S512x128 e :=
  shapeCast S512x128 (View.ld x (rC b n hb hn)) shapeCasts_S1x512x128_S512x128
def chunkL {e : EltTy} (x : Vec F S2x4352x128 e) (b : ℕ) (hb : b < 2) : Vec F S768x128 e :=
  shapeCast S768x128 (View.ld x (rL b hb)) shapeCasts_S1x768x128_S768x128
def chunkT (x : Vec F S2x128x4352 .bf16) (b n : ℕ) (hb : b < 2) (hn : n + 512 ≤ 4352) : FVec F S128x512 .bf16 :=
  shapeCast S128x512 (View.ld x (rT b n hb hn)) shapeCasts_S1x128x512_S128x512
def chunkTL (x : Vec F S2x128x4352 .bf16) (b : ℕ) (hb : b < 2) : FVec F S128x768 .bf16 :=
  shapeCast S128x768 (View.ld x (rTL b hb)) shapeCasts_S1x128x768_S128x768

/-- The weights of a chunk of keys (rows) at the block's queries (columns), from the saved logarithms. -/
def wt (k q : FVec F S512x128 .bf16) (l : FVec F S1x512 .f32) : FVec F S512x512 .f32 :=
  exp2 (subf (mulf (matmul dot_S512x128_S512x128_S512x512_1_1_0_0_n_n none k q (constant S512x512 .f32 0x00000000#32))
    (broadcast S512x512 (Named.named κ "scale_log2e" 0x3E16C740#32))) (broadcastTo S512x512 l broadcasts_S1x512_S512x512))
def wtL (k : FVec F S768x128 .bf16) (q : FVec F S512x128 .bf16) (l : FVec F S1x512 .f32) : FVec F S768x512 .f32 :=
  exp2 (subf (mulf (matmul dot_S768x128_S512x128_S768x512_1_1_0_0_n_n none k q (constant S768x512 .f32 0x00000000#32))
    (broadcast S768x512 (Named.named κ "scale_log2e" 0x3E16C740#32))) (broadcastTo S768x512 l broadcasts_S1x512_S768x512))

/-- The gradient of the chunk's scores. -/
def ds (p : FVec F S512x512 .f32) (v c : FVec F S512x128 .bf16) (δ : FVec F S1x512 .f32) : FVec F S512x512 .bf16 :=
  truncf .bf16 (mulf p (subf (matmul dot_S512x128_S512x128_S512x512_1_1_0_0_n_n none v c (constant S512x512 .f32 0x00000000#32))
    (broadcastTo S512x512 δ broadcasts_S1x512_S512x512))) bitsLt_bf16_f32
def dsL (p : FVec F S768x512 .f32) (v : FVec F S768x128 .bf16) (c : FVec F S512x128 .bf16) (δ : FVec F S1x512 .f32) : FVec F S768x512 .bf16 :=
  truncf .bf16 (mulf p (subf (matmul dot_S768x128_S512x128_S768x512_1_1_0_0_n_n none v c (constant S768x512 .f32 0x00000000#32))
    (broadcastTo S768x512 δ broadcasts_S1x512_S768x512))) bitsLt_bf16_f32

/-- What a chunk's rows of the keys' gradient become: the old rows and this block of queries' part. -/
def dkNew (old : FVec F S512x128 .f32) (d : FVec F S512x512 .bf16) (q : FVec F S512x128 .bf16) : Vec F S1x512x128 .f32 :=
  shapeCast S1x512x128 (addf old (mulf (matmul dot_S512x512_S512x128_S512x128_1_0_0_1_n_n none d q (constant S512x128 .f32 0x00000000#32))
    (broadcast S512x128 (Scalar.ofBits .f32 0x3DD105EC#32)))) shapeCasts_S512x128_S1x512x128
def dkNewL (old : FVec F S768x128 .f32) (d : FVec F S768x512 .bf16) (q : FVec F S512x128 .bf16) : Vec F S1x768x128 .f32 :=
  shapeCast S1x768x128 (addf old (mulf (matmul dot_S768x512_S512x128_S768x128_1_0_0_1_n_n none d q (constant S768x128 .f32 0x00000000#32))
    (broadcast S768x128 (Scalar.ofBits .f32 0x3DD105EC#32)))) shapeCasts_S768x128_S1x768x128

/-- The same of the values' gradient. -/
def dvNew (old : FVec F S512x128 .f32) (p : FVec F S512x512 .f32) (c : FVec F S512x128 .bf16) : Vec F S1x512x128 .f32 :=
  shapeCast S1x512x128 (addf old (matmul dot_S512x512_S512x128_S512x128_1_0_0_1_n_n none (truncf .bf16 p bitsLt_bf16_f32) c
    (constant S512x128 .f32 0x00000000#32))) shapeCasts_S512x128_S1x512x128
def dvNewL (old : FVec F S768x128 .f32) (p : FVec F S768x512 .f32) (c : FVec F S512x128 .bf16) : Vec F S1x768x128 .f32 :=
  shapeCast S1x768x128 (addf old (matmul dot_S768x512_S512x128_S768x128_1_0_0_1_n_n none (truncf .bf16 p bitsLt_bf16_f32) c
    (constant S768x128 .f32 0x00000000#32))) shapeCasts_S768x128_S1x768x128

/-- A chunk's part of the queries' gradient, transposed. -/
def dqPart (kt : FVec F S128x512 .bf16) (d : FVec F S512x512 .bf16) : FVec F S128x512 .f32 :=
  matmul dot_S128x512_S512x512_S128x512_1_0_0_1_n_n none kt d (constant S128x512 .f32 0x00000000#32)
def dqPartL (kt : FVec F S128x768 .bf16) (d : FVec F S768x512 .bf16) : FVec F S128x512 .f32 :=
  matmul dot_S128x768_S768x512_S128x512_1_0_0_1_n_n none kt d (constant S128x512 .f32 0x00000000#32)

/-- The sum of the chunks' parts, scaled and turned over. -/
def dqOut (a : FVec F S128x512 .f32) : Vec F S1x512x128 .f32 :=
  shapeCast S1x512x128 (transpose S512x128 [1, 0] (mulf a (broadcast S128x512 (Scalar.ofBits .f32 0x3DD105EC#32)))
    transposes_S128x512_p1_0_S512x128) shapeCasts_S512x128_S1x512x128

variable (x0 : Vec F S2x512x128 .bf16) (x4 x5 : Vec F S512x128 .bf16) (x6 : Vec F S2x1x512 .f32)

/-- A head's queries and saved logarithms. -/
def qry (b : ℕ) (hin : ∀ a, ![b, 0, 0] a + S1x512x128.size a ≤ S2x512x128.size a) : FVec F S512x128 .bf16 :=
  shapeCast S512x128 (View.ld x0 (Rect.unit ![b, 0, 0] S1x512x128.size hin)) shapeCasts_S1x512x128_S512x128
def lse (b : ℕ) (hin : ∀ a, ![b, 0, 0] a + S1x1x512.size a ≤ S2x1x512.size a) : FVec F S1x512 .f32 :=
  shapeCast S1x512 (View.ld x6 (Rect.unit ![b, 0, 0] S1x1x512.size hin)) shapeCasts_S1x1x512_S1x512

/-- The two heads' cotangents, each with zeros in the upper 64 lanes, and each query's product of result and cotangent. -/
def ct0 : FVec F S512x128 .bf16 := k1_pay9 x5
def ct1 : FVec F S512x128 .bf16 := k1_pay13 (k1_pay6 x5) (iota Kind.tc S512x128 32 [1] iota_S512x128_d1_w32)
def dl0 : FVec F S1x512 .f32 := k1_pay11 x5 x4
def dl1 : FVec F S1x512 .f32 := k1_pay15 (k1_pay7 x5 x4) (iota Kind.tc S8x128 32 [1] iota_S8x128_d1_w32)

variable (q c : FVec F S512x128 .bf16) (l δ : FVec F S1x512 .f32) (x1 x2 : Vec F S2x4352x128 .bf16) (x3 : Vec F S2x128x4352 .bf16)
variable (b : ℕ) (hb : b < 2)

/-- One head's chunk at key `n`: its weights and the gradient of its scores. -/
def hw (n : ℕ) (hn : n + 512 ≤ 4352) : FVec F S512x512 .f32 := wt (chunk x1 b n hb hn) q l
def hds (n : ℕ) (hn : n + 512 ≤ 4352) : FVec F S512x512 .bf16 := ds (hw q l x1 b hb n hn) (chunk x2 b n hb hn) c δ
def hwL : FVec F S768x512 .f32 := wtL (chunkL x1 b hb) q l
def hdsL : FVec F S768x512 .bf16 := dsL (hwL q l x1 b hb) (chunkL x2 b hb) c δ

/-- One head's gradient of the queries: the eight chunks' parts in order. -/
def hdq : Vec F S1x512x128 .f32 :=
  let p := fun (n : ℕ) (hn : n + 512 ≤ 4352) => dqPart (chunkT x3 b n hb hn) (hds q c l δ x1 x2 b hb n hn)
  dqOut (addf (addf (addf (addf (addf (addf (addf (p 0 (by omega)) (p 512 (by omega))) (p 1024 (by omega))) (p 1536 (by omega)))
    (p 2048 (by omega))) (p 2560 (by omega))) (p 3072 (by omega))) (dqPartL (chunkTL x3 b hb) (hdsL q c l δ x1 x2 b hb)))

end Ops

end Cert.AttnIdeal.Bwd
-- ==== Proof.Attn.BwdRead.lean ====
/-
  The backward call's operations over real numbers: with a block's queries, cotangents, logarithms and products as the
  arguments' own, a chunk's weights are the attention's weights, its gradient of the scores is theirs, and what it adds to
  the three gradients is the block's part of each sum.
-/
module

public import proofs.«01_k».proof.Proof.Attn.BwdOps

@[expose] public section

set_option maxRecDepth 16384

noncomputable section

namespace Cert.AttnIdeal.Bwd

open Idealize.ShloMosaic Cert.AttnIdeal Cert.AttnIdeal.Gen Cert.AttnIdeal.Fwd
open Cert.AttnSpec (Data)

/-! ## Each operation at an index -/

theorem cast512 {α : Type} (y : S1x512x128.Idx → α) (j : Fin 512) (e : Fin 128) :
    shapeCast S512x128 y shapeCasts_S1x512x128_S512x128 (ix2 j e) = y (ix3 0 j e) := by pointwise
theorem cast768 {α : Type} (y : S1x768x128.Idx → α) (j : Fin 768) (e : Fin 128) :
    shapeCast S768x128 y shapeCasts_S1x768x128_S768x128 (ix2 j e) = y (ix3 0 j e) := by pointwise
theorem castT512 {α : Type} (y : S1x128x512.Idx → α) (e : Fin 128) (j : Fin 512) :
    shapeCast S128x512 y shapeCasts_S1x128x512_S128x512 (ix2 e j) = y (ix3 0 e j) := by pointwise
theorem castT768 {α : Type} (y : S1x128x768.Idx → α) (e : Fin 128) (j : Fin 768) :
    shapeCast S128x768 y shapeCasts_S1x128x768_S128x768 (ix2 e j) = y (ix3 0 e j) := by pointwise
theorem castRow {α : Type} (y : S1x1x512.Idx → α) (i : Fin 512) :
    shapeCast S1x512 y shapeCasts_S1x1x512_S1x512 (ix2 0 i) = y (ix3 0 0 i) := by pointwise

theorem chunk_apply {η : EltTy} (x : Vec Ideal S2x4352x128 η) (b n : ℕ) (hb : b < 2) (hn : n + 512 ≤ 4352) (j : Fin 512) (e : Fin 128) :
    chunk x b n hb hn (ix2 j e) = x (ix3 ⟨b, hb⟩ ⟨n + j.val, by omega⟩ e) := by
  refine (cast512 _ j e).trans ?_
  rw [View.ld_apply]
  refine congrArg x (funext fun a => ?_)
  fin_cases a <;> exact Fin.ext ((Rect.idx_unit_val _ _ _ _ _).trans (by simp))

theorem chunkL_apply {η : EltTy} (x : Vec Ideal S2x4352x128 η) (b : ℕ) (hb : b < 2) (j : Fin 768) (e : Fin 128) :
    chunkL x b hb (ix2 j e) = x (ix3 ⟨b, hb⟩ ⟨3584 + j.val, by omega⟩ e) := by
  refine (cast768 _ j e).trans ?_
  rw [View.ld_apply]
  refine congrArg x (funext fun a => ?_)
  fin_cases a <;> exact Fin.ext ((Rect.idx_unit_val _ _ _ _ _).trans (by simp))

theorem chunkT_apply (x : FVec Ideal S2x128x4352 .bf16) (b n : ℕ) (hb : b < 2) (hn : n + 512 ≤ 4352) (e : Fin 128) (j : Fin 512) :
    chunkT x b n hb hn (ix2 e j) = x (ix3 ⟨b, hb⟩ e ⟨n + j.val, by omega⟩) := by
  refine (castT512 _ e j).trans ?_
  rw [View.ld_apply]
  refine congrArg x (funext fun a => ?_)
  fin_cases a <;> exact Fin.ext ((Rect.idx_unit_val _ _ _ _ _).trans (by simp))

theorem chunkTL_apply (x : FVec Ideal S2x128x4352 .bf16) (b : ℕ) (hb : b < 2) (e : Fin 128) (j : Fin 768) :
    chunkTL x b hb (ix2 e j) = x (ix3 ⟨b, hb⟩ e ⟨3584 + j.val, by omega⟩) := by
  refine (castT768 _ e j).trans ?_
  rw [View.ld_apply]
  refine congrArg x (funext fun a => ?_)
  fin_cases a <;> exact Fin.ext ((Rect.idx_unit_val _ _ _ _ _).trans (by simp))

theorem qry_apply (x : FVec Ideal S2x512x128 .bf16) (b : ℕ) (hb : b < 2) (hin) (i : Fin 512) (e : Fin 128) :
    qry x b hin (ix2 i e) = x (ix3 ⟨b, hb⟩ i e) := by
  refine (cast512 _ i e).trans ?_
  rw [View.ld_apply]
  refine congrArg x (funext fun a => ?_)
  fin_cases a <;> exact Fin.ext ((Rect.idx_unit_val _ _ _ _ _).trans (by simp))

theorem lse_apply (x : FVec Ideal S2x1x512 .f32) (b : ℕ) (hb : b < 2) (hin) (i : Fin 512) :
    lse x b hin (ix2 0 i) = x (ix3 ⟨b, hb⟩ 0 i) := by
  refine (castRow _ i).trans ?_
  rw [View.ld_apply]
  refine congrArg x (funext fun a => ?_)
  fin_cases a <;> exact Fin.ext ((Rect.idx_unit_val _ _ _ _ _).trans (by simp))

theorem wt_apply (k q : FVec Ideal S512x128 .bf16) (l : FVec Ideal S1x512 .f32) (j i : Fin 512) :
    wt k q l (ix2 j i) = Ideal.exp2 ((∑ e : Fin 128, k (ix2 j e) * q (ix2 i e)) * ((σ * (Real.log 2)⁻¹ : ℝ) : EReal) - l (ix2 0 i)) := by
  pointwise [wt]
  rw [named_scale]; rfl

theorem wtL_apply (k : FVec Ideal S768x128 .bf16) (q : FVec Ideal S512x128 .bf16) (l : FVec Ideal S1x512 .f32) (j : Fin 768) (i : Fin 512) :
    wtL k q l (ix2 j i) = Ideal.exp2 ((∑ e : Fin 128, k (ix2 j e) * q (ix2 i e)) * ((σ * (Real.log 2)⁻¹ : ℝ) : EReal) - l (ix2 0 i)) := by
  pointwise [wtL]
  rw [named_scale]; rfl

theorem ds_apply (p : FVec Ideal S512x512 .f32) (v c : FVec Ideal S512x128 .bf16) (δ : FVec Ideal S1x512 .f32) (j i : Fin 512) :
    ds p v c δ (ix2 j i) = p (ix2 j i) * ((∑ d : Fin 128, v (ix2 j d) * c (ix2 i d)) - δ (ix2 0 i)) := by
  pointwise [ds]

theorem dsL_apply (p : FVec Ideal S768x512 .f32) (v : FVec Ideal S768x128 .bf16) (c : FVec Ideal S512x128 .bf16) (δ : FVec Ideal S1x512 .f32)
    (j : Fin 768) (i : Fin 512) :
    dsL p v c δ (ix2 j i) = p (ix2 j i) * ((∑ d : Fin 128, v (ix2 j d) * c (ix2 i d)) - δ (ix2 0 i)) := by
  pointwise [dsL]

theorem dkNew_apply (old : FVec Ideal S512x128 .f32) (d : FVec Ideal S512x512 .bf16) (q : FVec Ideal S512x128 .bf16) (j : Fin 512) (e : Fin 128) :
    dkNew old d q (ix3 0 j e) = old (ix2 j e) + (∑ i : Fin 512, d (ix2 j i) * q (ix2 i e)) * ((σ : ℝ) : EReal) := by
  pointwise [dkNew]
  rw [scale_lit]

theorem dkNewL_apply (old : FVec Ideal S768x128 .f32) (d : FVec Ideal S768x512 .bf16) (q : FVec Ideal S512x128 .bf16) (j : Fin 768) (e : Fin 128) :
    dkNewL old d q (ix3 0 j e) = old (ix2 j e) + (∑ i : Fin 512, d (ix2 j i) * q (ix2 i e)) * ((σ : ℝ) : EReal) := by
  pointwise [dkNewL]
  rw [scale_lit]

theorem dvNew_apply (old : FVec Ideal S512x128 .f32) (p : FVec Ideal S512x512 .f32) (c : FVec Ideal S512x128 .bf16) (j : Fin 512) (e : Fin 128) :
    dvNew old p c (ix3 0 j e) = old (ix2 j e) + ∑ i : Fin 512, p (ix2 j i) * c (ix2 i e) := by
  pointwise [dvNew]

theorem dvNewL_apply (old : FVec Ideal S768x128 .f32) (p : FVec Ideal S768x512 .f32) (c : FVec Ideal S512x128 .bf16) (j : Fin 768) (e : Fin 128) :
    dvNewL old p c (ix3 0 j e) = old (ix2 j e) + ∑ i : Fin 512, p (ix2 j i) * c (ix2 i e) := by
  pointwise [dvNewL]

theorem dqPart_apply (kt : FVec Ideal S128x512 .bf16) (d : FVec Ideal S512x512 .bf16) (e : Fin 128) (i : Fin 512) :
    dqPart kt d (ix2 e i) = ∑ j : Fin 512, kt (ix2 e j) * d (ix2 j i) := by
  pointwise [dqPart]

theorem dqPartL_apply (kt : FVec Ideal S128x768 .bf16) (d : FVec Ideal S768x512 .bf16) (e : Fin 128) (i : Fin 512) :
    dqPartL kt d (ix2 e i) = ∑ j : Fin 768, kt (ix2 e j) * d (ix2 j i) := by
  pointwise [dqPartL]

theorem dqOut_apply (a : FVec Ideal S128x512 .f32) (i : Fin 512) (e : Fin 128) :
    dqOut a (ix3 0 i e) = a (ix2 e i) * ((σ : ℝ) : EReal) := by
  pointwise [dqOut]
  rw [scale_lit]

/-! ## The cotangents and the products -/

/-- A mask twice negated, and a mask negated once. -/
theorem select_neg_neg {α : Type} (c : BitVec 1) (x y : α) :
    Scalar.select (IntOp.xori (IntOp.xori c 1#1) 1#1) x y = Scalar.select c x y := by
  have h : c = 0#1 ∨ c = 1#1 := by revert c; decide
  rcases h with rfl | rfl <;> rfl
theorem select_neg {α : Type} (c : BitVec 1) (x y : α) :
    Scalar.select (IntOp.xori (IntOp.xori c 0#1) 1#1) x y = Scalar.select c y x := by
  have h : c = 0#1 ∨ c = 1#1 := by revert c; decide
  rcases h with rfl | rfl <;> rfl

theorem ct0_apply (x5 : FVec Ideal S512x128 .bf16) (i : Fin 512) (e : Fin 128) :
    ct0 x5 (ix2 i e) = if e.val < 64 then x5 (ix2 i e) else 0 := by
  pointwise [ct0, k1_pay9, k1_pay6]
  rw [select_lane _ e.isLt]

theorem ct1_apply (x5 : FVec Ideal S512x128 .bf16) (i : Fin 512) (e : Fin 128) :
    ct1 x5 (ix2 i e) = if e.val < 64 then x5 (ix2 i (e + 64)) else 0 := by
  pointwise [ct1, k1_pay13, k1_pay6]
  rw [select_lane _ e.isLt]
  have h : (⟨(e.val + 128 - 64) % 128, Nat.mod_lt _ (by omega)⟩ : Fin 128) = e + 64 := Fin.ext (by rw [Fin.val_add]; change (e.val + 128 - 64) % 128 = (e.val + 64) % 128; omega)
  rw [h]

theorem dl0_apply (x4 x5 : FVec Ideal S512x128 .bf16) (i : Fin 512) :
    dl0 (F := Ideal) x4 x5 (ix2 0 i)
      = ∑ e : Fin 128, Scalar.select (IntOp.cmpi .slt (BitVec.ofNat 32 e.val) 64#32) (x4 (ix2 i e) * x5 (ix2 i e) : EReal) 0 := by
  pointwise [dl0, k1_pay11, k1_pay7, k1_pay6]
  exact Finset.sum_congr rfl fun e _ => select_neg_neg _ _ _

theorem dl1_apply (x4 x5 : FVec Ideal S512x128 .bf16) (i : Fin 512) :
    dl1 (F := Ideal) x4 x5 (ix2 0 i)
      = ∑ e : Fin 128, Scalar.select (IntOp.cmpi .slt (BitVec.ofNat 32 e.val) 64#32) 0 (x4 (ix2 i e) * x5 (ix2 i e) : EReal) := by
  pointwise [dl1, k1_pay15, k1_pay7, k1_pay6]
  exact Finset.sum_congr rfl fun e _ => select_neg _ _ _

/-! ## Two heads of a block, over real numbers -/

/-- What the loaded blocks hold: the arguments' entries of the two heads `hh 0`, `hh 1` at the queries from `i0` on, the
attention's result and the cotangent side by side, and the saved logarithms. -/
structure Blk (X : Data) (hh : Fin 2 → Fin 8) (i0 : ℕ) (x0 : FVec Ideal S2x512x128 .bf16) (x1 x2 : FVec Ideal S2x4352x128 .bf16)
    (x3 : FVec Ideal S2x128x4352 .bf16) (x4 x5 : FVec Ideal S512x128 .bf16) (x6 : FVec Ideal S2x1x512 .f32) : Prop where
  q : ∀ b (i : Fin 512) e, x0 (ix3 b i e) = ((X.q (hh b) (i0 + i) e : ℝ) : EReal)
  k : ∀ b (j : Fin 4352) e, x1 (ix3 b j e) = ((X.k (hh b) j e : ℝ) : EReal)
  v : ∀ b (j : Fin 4352) e, x2 (ix3 b j e) = ((X.v (hh b) j e : ℝ) : EReal)
  kt : ∀ b e (j : Fin 4352), x3 (ix3 b e j) = ((X.k (hh b) j e : ℝ) : EReal)
  o0 : ∀ (i : Fin 512) (d : Fin 128), d.val < 64 → x4 (ix2 i d) = ((X.o (hh 0) (i0 + i) d : ℝ) : EReal)
  o1 : ∀ (i : Fin 512) (d : Fin 128), d.val < 64 → x4 (ix2 i (d + 64)) = ((X.o (hh 1) (i0 + i) d : ℝ) : EReal)
  c0 : ∀ (i : Fin 512) (d : Fin 128), d.val < 64 → x5 (ix2 i d) = ((X.c (hh 0) (i0 + i) d : ℝ) : EReal)
  c1 : ∀ (i : Fin 512) (d : Fin 128), d.val < 64 → x5 (ix2 i (d + 64)) = ((X.c (hh 1) (i0 + i) d : ℝ) : EReal)
  l : ∀ b (i : Fin 512), x6 (ix3 b 0 i) = ((Real.log (Z (X.q (hh b) (i0 + i)) (X.k (hh b))) / Real.log 2 : ℝ) : EReal)

/-- One head of a block as the body has it before the chunks. -/
structure Head (X : Data) (h : Fin 8) (i0 : ℕ) (q c : FVec Ideal S512x128 .bf16) (l δ : FVec Ideal S1x512 .f32) : Prop where
  q : ∀ (i : Fin 512) e, q (ix2 i e) = ((X.q h (i0 + i) e : ℝ) : EReal)
  c : ∀ (i : Fin 512) e, c (ix2 i e) = ((X.c h (i0 + i) e : ℝ) : EReal)
  l : ∀ i : Fin 512, l (ix2 0 i) = ((Real.log (Z (X.q h (i0 + i)) (X.k h)) / Real.log 2 : ℝ) : EReal)
  δ : ∀ i : Fin 512, δ (ix2 0 i) = ((X.delta h (i0 + i) : ℝ) : EReal)

theorem c_zero (X : Data) (h : Fin 8) (i : ℕ) (d : Fin 128) (hd : ¬d.val < 64) : X.c h i d = 0 := by
  rw [Data.c, dif_neg hd]

section Two
variable {X : Data} {hh : Fin 2 → Fin 8} {i0 : ℕ} {x0 : FVec Ideal S2x512x128 .bf16} {x1 x2 : FVec Ideal S2x4352x128 .bf16}
variable {x3 : FVec Ideal S2x128x4352 .bf16} {x4 x5 : FVec Ideal S512x128 .bf16} {x6 : FVec Ideal S2x1x512 .f32}
variable (H : Blk X hh i0 x0 x1 x2 x3 x4 x5 x6)
include H

theorem head0 (hq) (hl) : Head X (hh 0) i0 (qry x0 0 hq) (ct0 x5) (lse x6 0 hl) (dl0 x4 x5) where
  q i e := (qry_apply x0 0 (by omega) hq i e).trans (H.q 0 i e)
  c i e := by
    rw [ct0_apply]
    split_ifs with he
    · exact H.c0 i e he
    · rw [c_zero _ _ _ _ he]; rfl
  l i := (lse_apply x6 0 (by omega) hl i).trans (H.l 0 i)
  δ i := by
    rw [dl0_apply, Data.delta, ← RealCoe.sum]
    refine Finset.sum_congr rfl fun e _ => ?_
    rw [select_lane _ e.isLt]
    split_ifs with he
    · rw [H.o0 i e he, H.c0 i e he, EReal.coe_mul]
    · rw [c_zero _ _ _ _ he, mul_zero]; rfl

theorem head1 (hq) (hl) : Head X (hh 1) i0 (qry x0 1 hq) (ct1 x5) (lse x6 1 hl) (dl1 x4 x5) where
  q i e := (qry_apply x0 1 (by omega) hq i e).trans (H.q 1 i e)
  c i e := by
    rw [ct1_apply]
    split_ifs with he
    · exact H.c1 i e he
    · rw [c_zero _ _ _ _ he]; rfl
  l i := (lse_apply x6 1 (by omega) hl i).trans (H.l 1 i)
  δ i := by
    rw [dl1_apply, Data.delta, ← RealCoe.sum, ← Equiv.sum_comp (Equiv.addRight (64 : Fin 128))]
    refine Finset.sum_congr rfl fun e _ => ?_
    have hv : ((e + 64 : Fin 128) : ℕ) = (e.val + 64) % 128 := Fin.val_add _ _
    rw [Equiv.coe_addRight, select_lane _ (e + 64).isLt]
    by_cases he : e.val < 64
    · rw [if_neg (by omega), H.o1 i e he, H.c1 i e he, EReal.coe_mul]
    · rw [if_pos (by omega), c_zero _ _ _ _ he, mul_zero]; rfl

end Two

section One
variable {X : Data} {h : Fin 8} {i0 : ℕ} {q c : FVec Ideal S512x128 .bf16} {l δ : FVec Ideal S1x512 .f32} (H : Head X h i0 q c l δ)
include H

/-- The weight from the saved logarithm of the sum. -/
theorem weight_saved (s z : ℝ) (hz : 0 < z) :
    Ideal.exp2 ((s : EReal) * ((σ * (Real.log 2)⁻¹ : ℝ) : EReal) - ((Real.log z / Real.log 2 : ℝ) : EReal))
      = ((Real.exp (σ * s) / z : ℝ) : EReal) := by
  rw [← EReal.coe_mul, ← EReal.coe_sub, RealCoe.exp2]
  refine congrArg Real.toEReal ?_
  have : (s * (σ * (Real.log 2)⁻¹) - Real.log z / Real.log 2) * Real.log 2 = σ * s - Real.log z := by
    field_simp [log2_ne]
  rw [this, Real.exp_sub, Real.exp_log hz]

section Chunk
variable {n : ℕ} {k v : FVec Ideal S512x128 .bf16} (hk : ∀ (j : Fin 512) e, k (ix2 j e) = ((X.k h (n + j) e : ℝ) : EReal))
  (hv : ∀ (j : Fin 512) e, v (ix2 j e) = ((X.v h (n + j) e : ℝ) : EReal))
include hk

theorem wt_real (j i : Fin 512) : wt k q l (ix2 j i) = ((X.p h (i0 + i) (n + j) : ℝ) : EReal) := by
  rw [wt_apply, H.l, show (∑ e : Fin 128, k (ix2 j e) * q (ix2 i e)) = ((∑ e, X.q h (i0 + i) e * X.k h (n + j) e : ℝ) : EReal) from ?_,
    weight_saved H _ _ (Z_pos _ _), Data.p]
  rw [← RealCoe.sum]
  exact Finset.sum_congr rfl fun e _ => by rw [hk, H.q, EReal.coe_mul, mul_comm]

include hv
theorem ds_real (j i : Fin 512) : ds (wt k q l) v c δ (ix2 j i) = ((X.ds h (i0 + i) (n + j) : ℝ) : EReal) := by
  rw [ds_apply, wt_real H hk, H.δ, show (∑ d : Fin 128, v (ix2 j d) * c (ix2 i d)) = ((X.dp h (i0 + i) (n + j) : ℝ) : EReal) from ?_,
    ← EReal.coe_sub, ← EReal.coe_mul, Data.ds]
  rw [Data.dp, ← RealCoe.sum]
  exact Finset.sum_congr rfl fun e _ => by rw [hv, H.c, EReal.coe_mul]

theorem dkNew_real (old : FVec Ideal S512x128 .f32) (j : Fin 512) (e : Fin 128) :
    dkNew old (ds (wt k q l) v c δ) q (ix3 0 j e)
      = old (ix2 j e) + ((∑ i : Fin 512, X.ds h (i0 + i) (n + j) * X.q h (i0 + i) e * σ : ℝ) : EReal) := by
  rw [dkNew_apply, ← Finset.sum_mul, EReal.coe_mul, ← RealCoe.sum]
  refine congrArg (old (ix2 j e) + · * _) (Finset.sum_congr rfl fun i _ => ?_)
  rw [ds_real H hk hv, H.q, EReal.coe_mul]

omit hv
theorem dvNew_real (old : FVec Ideal S512x128 .f32) (j : Fin 512) (e : Fin 128) :
    dvNew old (wt k q l) c (ix3 0 j e)
      = old (ix2 j e) + ((∑ i : Fin 512, X.p h (i0 + i) (n + j) * X.c h (i0 + i) e : ℝ) : EReal) := by
  rw [dvNew_apply, ← RealCoe.sum]
  refine congrArg (old (ix2 j e) + ·) (Finset.sum_congr rfl fun i _ => ?_)
  rw [wt_real H hk, H.c, EReal.coe_mul]

include hv
theorem dqPart_real {kt : FVec Ideal S128x512 .bf16} (hkt : ∀ e (j : Fin 512), kt (ix2 e j) = ((X.k h (n + j) e : ℝ) : EReal))
    (e : Fin 128) (i : Fin 512) :
    dqPart kt (ds (wt k q l) v c δ) (ix2 e i) = ((∑ j : Fin 512, X.k h (n + j) e * X.ds h (i0 + i) (n + j) : ℝ) : EReal) := by
  rw [dqPart_apply, ← RealCoe.sum]
  exact Finset.sum_congr rfl fun j _ => by rw [hkt, ds_real H hk hv, EReal.coe_mul]

end Chunk

section Last
variable {n : ℕ} {k v : FVec Ideal S768x128 .bf16} (hk : ∀ (j : Fin 768) e, k (ix2 j e) = ((X.k h (n + j) e : ℝ) : EReal))
  (hv : ∀ (j : Fin 768) e, v (ix2 j e) = ((X.v h (n + j) e : ℝ) : EReal))
include hk

theorem wtL_real (j : Fin 768) (i : Fin 512) : wtL k q l (ix2 j i) = ((X.p h (i0 + i) (n + j) : ℝ) : EReal) := by
  rw [wtL_apply, H.l, show (∑ e : Fin 128, k (ix2 j e) * q (ix2 i e)) = ((∑ e, X.q h (i0 + i) e * X.k h (n + j) e : ℝ) : EReal) from ?_,
    weight_saved H _ _ (Z_pos _ _), Data.p]
  rw [← RealCoe.sum]
  exact Finset.sum_congr rfl fun e _ => by rw [hk, H.q, EReal.coe_mul, mul_comm]

include hv
theorem dsL_real (j : Fin 768) (i : Fin 512) : dsL (wtL k q l) v c δ (ix2 j i) = ((X.ds h (i0 + i) (n + j) : ℝ) : EReal) := by
  rw [dsL_apply, wtL_real H hk, H.δ, show (∑ d : Fin 128, v (ix2 j d) * c (ix2 i d)) = ((X.dp h (i0 + i) (n + j) : ℝ) : EReal) from ?_,
    ← EReal.coe_sub, ← EReal.coe_mul, Data.ds]
  rw [Data.dp, ← RealCoe.sum]
  exact Finset.sum_congr rfl fun e _ => by rw [hv, H.c, EReal.coe_mul]

theorem dkNewL_real (old : FVec Ideal S768x128 .f32) (j : Fin 768) (e : Fin 128) :
    dkNewL old (dsL (wtL k q l) v c δ) q (ix3 0 j e)
      = old (ix2 j e) + ((∑ i : Fin 512, X.ds h (i0 + i) (n + j) * X.q h (i0 + i) e * σ : ℝ) : EReal) := by
  rw [dkNewL_apply, ← Finset.sum_mul, EReal.coe_mul, ← RealCoe.sum]
  refine congrArg (old (ix2 j e) + · * _) (Finset.sum_congr rfl fun i _ => ?_)
  rw [dsL_real H hk hv, H.q, EReal.coe_mul]

omit hv
theorem dvNewL_real (old : FVec Ideal S768x128 .f32) (j : Fin 768) (e : Fin 128) :
    dvNewL old (wtL k q l) c (ix3 0 j e)
      = old (ix2 j e) + ((∑ i : Fin 512, X.p h (i0 + i) (n + j) * X.c h (i0 + i) e : ℝ) : EReal) := by
  rw [dvNewL_apply, ← RealCoe.sum]
  refine congrArg (old (ix2 j e) + ·) (Finset.sum_congr rfl fun i _ => ?_)
  rw [wtL_real H hk, H.c, EReal.coe_mul]

include hv
theorem dqPartL_real {kt : FVec Ideal S128x768 .bf16} (hkt : ∀ e (j : Fin 768), kt (ix2 e j) = ((X.k h (n + j) e : ℝ) : EReal))
    (e : Fin 128) (i : Fin 512) :
    dqPartL kt (dsL (wtL k q l) v c δ) (ix2 e i) = ((∑ j : Fin 768, X.k h (n + j) e * X.ds h (i0 + i) (n + j) : ℝ) : EReal) := by
  rw [dqPartL_apply, ← RealCoe.sum]
  exact Finset.sum_congr rfl fun j _ => by rw [hkt, dsL_real H hk hv, EReal.coe_mul]

end Last

end One

/-- The eight chunks' parts of a query's gradient make the sum over all the keys. -/
theorem hdq_real {X : Data} {h : Fin 8} {i0 : ℕ} {q c : FVec Ideal S512x128 .bf16} {l δ : FVec Ideal S1x512 .f32} (H : Head X h i0 q c l δ)
    {x1 x2 : FVec Ideal S2x4352x128 .bf16} {x3 : FVec Ideal S2x128x4352 .bf16} {b : ℕ} (hb : b < 2)
    (hk : ∀ (j : Fin 4352) e, x1 (ix3 ⟨b, hb⟩ j e) = ((X.k h j e : ℝ) : EReal))
    (hv : ∀ (j : Fin 4352) e, x2 (ix3 ⟨b, hb⟩ j e) = ((X.v h j e : ℝ) : EReal))
    (hkt : ∀ e (j : Fin 4352), x3 (ix3 ⟨b, hb⟩ e j) = ((X.k h j e : ℝ) : EReal)) (i : Fin 512) (e : Fin 128) :
    hdq q c l δ x1 x2 x3 b hb (ix3 0 i e) = ((X.dq h (i0 + i) e : ℝ) : EReal) := by
  have part : ∀ (n : ℕ) (hn : n + 512 ≤ 4352), dqPart (chunkT x3 b n hb hn) (hds q c l δ x1 x2 b hb n hn) (ix2 e i)
      = ((∑ j : Fin 512, X.k h (n + j) e * X.ds h (i0 + i) (n + j) : ℝ) : EReal) := fun n hn =>
    dqPart_real H (fun j e => (chunk_apply (η := .bf16) x1 b n hb hn j e).trans (hk _ e))
      (fun j e => (chunk_apply (η := .bf16) x2 b n hb hn j e).trans (hv _ e))
      (fun e j => (chunkT_apply x3 b n hb hn e j).trans (hkt e _)) e i
  have last : dqPartL (chunkTL x3 b hb) (hdsL q c l δ x1 x2 b hb) (ix2 e i)
      = ((∑ j : Fin 768, X.k h (3584 + j) e * X.ds h (i0 + i) (3584 + j) : ℝ) : EReal) :=
    dqPartL_real H (fun j e => (chunkL_apply (η := .bf16) x1 b hb j e).trans (hk _ e))
      (fun j e => (chunkL_apply (η := .bf16) x2 b hb j e).trans (hv _ e))
      (fun e j => (chunkTL_apply x3 b hb e j).trans (hkt e _)) e i
  rw [hdq, dqOut_apply]
  simp only [ValueIdx.addf_apply, part, last, ← EReal.coe_add, ← EReal.coe_mul]
  refine congrArg Real.toEReal ?_
  have two := RealCoe.sum_range_two (f := fun t => X.k h t e * X.ds h (i0 + i) t)
  rw [Data.dq, two 3584 768, two 3072 512, two 2560 512, two 2048 512, two 1536 512, two 1024 512, two 512 512]
  simp only [Nat.zero_add]

end Cert.AttnIdeal.Bwd
-- ==== Proof.Attn.BwdTie.lean ====
/-
  The backward call at one grid point: what the two heads' chunks store into the blocks of the three gradients, as the
  blocks' former contents and this block of queries' parts.
-/
module

public import proofs.«01_k».proof.Proof.Gen.AttnIdeal.Frame
public import proofs.«01_k».proof.Proof.Attn.BwdRead

@[expose] public section

set_option maxRecDepth 16384

noncomputable section

namespace Cert.AttnIdeal.Bwd

open Idealize.ShloMosaic Idealize.ShloMosaic.TcCoe Idealize.SL.Sem Cert.AttnIdeal Cert.AttnIdeal.Gen Cert.AttnIdeal.Fwd
open Cert.AttnSpec (Data)

/-- What a block of queries adds to the gradients of the keys and of the values. -/
def dkTerm (X : Data) (hh : Fin 2 → Fin 8) (i0 : ℕ) (y : S2x4352x128.Idx) : ℝ :=
  ∑ i : Fin 512, X.ds (hh (y 0)) (i0 + i) (y 1).val * X.q (hh (y 0)) (i0 + i) (y 2) * σ
def dvTerm (X : Data) (hh : Fin 2 → Fin 8) (i0 : ℕ) (y : S2x4352x128.Idx) : ℝ :=
  ∑ i : Fin 512, X.p (hh (y 0)) (i0 + i) (y 1).val * X.c (hh (y 0)) (i0 + i) (y 2)

/-! ## The tiles of a block of two heads -/

/-- The chunks of the two heads in the order they are last stored. -/
def rects : List (Rect S2x4352x128) :=
  [rL 1 (by omega), rL 0 (by omega), rC 1 3072 (by omega) (by omega), rC 0 3072 (by omega) (by omega), rC 1 2560 (by omega) (by omega),
   rC 0 2560 (by omega) (by omega), rC 1 2048 (by omega) (by omega), rC 0 2048 (by omega) (by omega), rC 1 1536 (by omega) (by omega),
   rC 0 1536 (by omega) (by omega), rC 1 1024 (by omega) (by omega), rC 0 1024 (by omega) (by omega), rC 1 512 (by omega) (by omega),
   rC 0 512 (by omega) (by omega), rC 1 0 (by omega) (by omega), rC 0 0 (by omega) (by omega)]

theorem mem_rC (b n : ℕ) (hb : b < 2) (hn : n + 512 ≤ 4352) (y : S2x4352x128.Idx) (h0 : (y 0).val = b) (h1 : n ≤ (y 1).val)
    (h2 : (y 1).val < n + 512) : y ∈ (rC b n hb hn).set := by
  refine Rect.mem_set_unit.mpr fun a => ?_
  fin_cases a
  · exact ⟨h0.ge, by change (y 0).val < b + 1; omega⟩
  · exact ⟨h1, h2⟩
  · exact ⟨Nat.zero_le _, by have := (y 2).isLt; change (y 2).val < 128 at this; change (y 2).val < 0 + 128; omega⟩

theorem mem_rL (b : ℕ) (hb : b < 2) (y : S2x4352x128.Idx) (h0 : (y 0).val = b) (h1 : 3584 ≤ (y 1).val) : y ∈ (rL b hb).set := by
  refine Rect.mem_set_unit.mpr fun a => ?_
  fin_cases a
  · exact ⟨h0.ge, by change (y 0).val < b + 1; omega⟩
  · exact ⟨h1, by have := (y 1).isLt; change (y 1).val < 4352 at this; change (y 1).val < 3584 + 768; omega⟩
  · exact ⟨Nat.zero_le _, by have := (y 2).isLt; change (y 2).val < 128 at this; change (y 2).val < 0 + 128; omega⟩

/-- Every index of the block lies in a chunk. -/
theorem rects_cover (y : S2x4352x128.Idx) : ∃ r ∈ rects, y ∈ r.set := by
  have b0 : (y 0).val < 2 := (y 0).isLt
  have b1 : (y 1).val < 4352 := (y 1).isLt
  by_cases hl : 3584 ≤ (y 1).val
  · refine ⟨rL (y 0).val b0, ?_, mem_rL _ _ y rfl hl⟩
    obtain h | h : (y 0).val = 0 ∨ (y 0).val = 1 := by omega
    all_goals simp only [rects, h, List.mem_cons, true_or, or_true]
  · refine ⟨rC (y 0).val (512 * ((y 1).val / 512)) b0 (by omega), ?_, mem_rC _ _ _ _ y rfl (by omega) (by omega)⟩
    obtain h | h : (y 0).val = 0 ∨ (y 0).val = 1 := by omega
    all_goals
      obtain k | k | k | k | k | k | k : (y 1).val / 512 = 0 ∨ (y 1).val / 512 = 1 ∨ (y 1).val / 512 = 2 ∨ (y 1).val / 512 = 3
        ∨ (y 1).val / 512 = 4 ∨ (y 1).val / 512 = 5 ∨ (y 1).val / 512 = 6 := by omega
      all_goals simp only [rects, h, k, List.mem_cons, Nat.reduceMul, true_or, or_true]

/-- Stores of one function's chunks, over any earlier stores, leave that function. -/
theorem canon_chunks (G : S2x4352x128.Idx → Elt Ideal .f32) (L : List (View.Piece (Elt Ideal) S2x4352x128 .f32))
    (h : View.PiecesOf G (L.take 16)) (hr : (L.take 16).map (·.1) = rects) (y : S2x4352x128.Idx) : View.canon L y = G y := by
  rw [← List.take_append_drop 16 L]
  refine View.canon_append_of_piecesOf G _ _ h y ?_
  obtain ⟨r, hr', hy⟩ := rects_cover y
  rw [← hr] at hr'
  obtain ⟨p, hp, rfl⟩ := List.mem_map.mp hr'
  exact ⟨p, hp, hy⟩

/-- One more piece. -/
theorem cons {G : S2x4352x128.Idx → Elt Ideal .f32} {p : View.Piece (Elt Ideal) S2x4352x128 .f32} {L}
    (h : ∀ x : p.1.shape.Idx, p.2 x = G (p.1.emb x)) (hL : View.PiecesOf G L) : View.PiecesOf G (p :: L) := ⟨h, hL⟩

section Tile
variable {X : Data} {hh : Fin 2 → Fin 8} {i0 : ℕ} {x0 : FVec Ideal S2x512x128 .bf16} {x1 x2 : FVec Ideal S2x4352x128 .bf16}
variable {x3 : FVec Ideal S2x128x4352 .bf16} {x4 x5 : FVec Ideal S512x128 .bf16} {x6 : FVec Ideal S2x1x512 .f32}
variable (H : Blk X hh i0 x0 x1 x2 x3 x4 x5 x6)
variable {b : ℕ} {hb : b < 2} {q c : FVec Ideal S512x128 .bf16} {l δ : FVec Ideal S1x512 .f32} (Hb : Head X (hh ⟨b, hb⟩) i0 q c l δ)
variable (old : Vec Ideal S2x4352x128 .f32)

/-- Where a chunk's index lies in the block. -/
theorem emb_rC (n : ℕ) (hn : n + 512 ≤ 4352) (x : S1x512x128.Idx) :
    (rC b n hb hn).emb x = ix3 ⟨b, hb⟩ ⟨n + (x 1).val, by have := (x 1).isLt; change _ < 512 at this; omega⟩ (x 2) := by
  have hx0 : (x 0).val < 1 := (x 0).isLt
  funext a
  fin_cases a <;> refine Fin.ext ((Rect.idx_unit_val _ _ _ _ _).trans ?_)
  · change b + (x 0).val = b; omega
  · rfl
  · exact Nat.zero_add _

theorem emb_rL (x : S1x768x128.Idx) :
    (rL b hb).emb x = ix3 ⟨b, hb⟩ ⟨3584 + (x 1).val, by have := (x 1).isLt; change _ < 768 at this; omega⟩ (x 2) := by
  have hx0 : (x 0).val < 1 := (x 0).isLt
  funext a
  fin_cases a <;> refine Fin.ext ((Rect.idx_unit_val _ _ _ _ _).trans ?_)
  · change b + (x 0).val = b; omega
  · rfl
  · exact Nat.zero_add _

theorem ix_one {n : ℕ} (x : (⟨3, ![1, n, 128]⟩ : Shape).Idx) : x = ix3 0 (x 1) (x 2) := by
  have hx0 : (x 0).val < 1 := (x 0).isLt
  funext a; fin_cases a
  · exact Fin.ext (by change (x 0).val = 0; omega)
  · rfl
  · rfl

include H Hb

theorem dk_tile (n : ℕ) (hn : n + 512 ≤ 4352) (x : S1x512x128.Idx) :
    dkNew (F := Ideal) (chunk old b n hb hn) (hds q c l δ x1 x2 b hb n hn) q x
      = old ((rC b n hb hn).emb x) + ((dkTerm X hh i0 ((rC b n hb hn).emb x) : ℝ) : EReal) := by
  rw [emb_rC]
  refine (congrArg _ (ix_one x)).trans ((dkNew_real Hb (n := n) ?_ ?_ _ (x 1) (x 2)).trans ?_)
  · exact fun j e => (chunk_apply (η := .bf16) x1 b n hb hn j e).trans (H.k _ _ e)
  · exact fun j e => (chunk_apply (η := .bf16) x2 b n hb hn j e).trans (H.v _ _ e)
  · exact congrArg (· + _) (chunk_apply (η := .f32) old b n hb hn (x 1) (x 2))

theorem dv_tile (n : ℕ) (hn : n + 512 ≤ 4352) (x : S1x512x128.Idx) :
    dvNew (F := Ideal) (chunk old b n hb hn) (hw q l x1 b hb n hn) c x
      = old ((rC b n hb hn).emb x) + ((dvTerm X hh i0 ((rC b n hb hn).emb x) : ℝ) : EReal) := by
  rw [emb_rC]
  refine (congrArg _ (ix_one x)).trans ((dvNew_real Hb (n := n) ?_ _ (x 1) (x 2)).trans ?_)
  · exact fun j e => (chunk_apply (η := .bf16) x1 b n hb hn j e).trans (H.k _ _ e)
  · exact congrArg (· + _) (chunk_apply (η := .f32) old b n hb hn (x 1) (x 2))

theorem dkL_tile (x : S1x768x128.Idx) :
    dkNewL (F := Ideal) (chunkL old b hb) (hdsL q c l δ x1 x2 b hb) q x
      = old ((rL b hb).emb x) + ((dkTerm X hh i0 ((rL b hb).emb x) : ℝ) : EReal) := by
  rw [emb_rL]
  refine (congrArg _ (ix_one x)).trans ((dkNewL_real Hb (n := 3584) ?_ ?_ _ (x 1) (x 2)).trans ?_)
  · exact fun j e => (chunkL_apply (η := .bf16) x1 b hb j e).trans (H.k _ _ e)
  · exact fun j e => (chunkL_apply (η := .bf16) x2 b hb j e).trans (H.v _ _ e)
  · exact congrArg (· + _) (chunkL_apply (η := .f32) old b hb (x 1) (x 2))

theorem dvL_tile (x : S1x768x128.Idx) :
    dvNewL (F := Ideal) (chunkL old b hb) (hwL q l x1 b hb) c x
      = old ((rL b hb).emb x) + ((dvTerm X hh i0 ((rL b hb).emb x) : ℝ) : EReal) := by
  rw [emb_rL]
  refine (congrArg _ (ix_one x)).trans ((dvNewL_real Hb (n := 3584) ?_ _ (x 1) (x 2)).trans ?_)
  · exact fun j e => (chunkL_apply (η := .bf16) x1 b hb j e).trans (H.k _ _ e)
  · exact congrArg (· + _) (chunkL_apply (η := .f32) old b hb (x 1) (x 2))

theorem dq_tile (y : S2x512x128.Idx) (x : S1x512x128.Idx) (h0 : (y 0).val = b + (x 0).val) (h1 : (y 1).val = (x 1).val)
    (h2 : (y 2).val = (x 2).val) :
    hdq (F := Ideal) q c l δ x1 x2 x3 b hb x = ((X.dq (hh (y 0)) (i0 + (y 1).val) (y 2) : ℝ) : EReal) := by
  have hx0 : (x 0).val < 1 := (x 0).isLt
  have e0 : y 0 = ⟨b, hb⟩ := Fin.ext (by rw [h0]; dsimp only; omega)
  have e2 : y 2 = x 2 := Fin.ext h2
  refine (congrArg _ (ix_one x)).trans ((hdq_real Hb hb (H.k _) (H.v _) (H.kt _) (x 1) (x 2)).trans ?_)
  rw [e0, h1, e2]; rfl

end Tile

variable (V : (c : Dev nD) → (b : Ref sig .tc) → Buf (Elt Ideal) ((c : Thread nD τ).loc b))
variable {X : Data} {hh : Fin 2 → Fin 8} {i0 : ℕ} (c : Dev nD) (t : Fin cfg1.N)
variable (H : Blk X hh i0 (iblk1 V c 0 t) (iblk1 V c 1 t) (iblk1 V c 2 t) (iblk1 V c 3 t) (iblk1 V c 4 t) (iblk1 V c 5 t) (iblk1 V c 6 t))
include H

theorem stepA8 (h : t.val % 8 = 0) (y : S2x4352x128.Idx) :
    (outsAt1 V c t.val t.isLt).2.1 y = 0 + ((dkTerm X hh i0 y : ℝ) : EReal) := by
  rw [outsAt1_A V c t h]
  frame_open
  simp (disch := decide) only [↓ View.readCov_skip, ↓ View.readCov_cons_toLoadRect, ↓ View.readCov_fill]
  frame_out
  have H0 : Head X (hh ⟨0, by omega⟩) i0 _ _ _ _ := head0 H inb_S2x512x128_S1x512x128_0_0_0 inb_S2x1x512_S1x1x512_0_0_0
  have H1 : Head X (hh ⟨1, by omega⟩) i0 _ _ _ _ := head1 H inb_S2x512x128_S1x512x128_1_0_0 inb_S2x1x512_S1x1x512_1_0_0
  have z : ∀ y, (k1_pay4 (F := Ideal)) y = (0 : EReal) := fun y => by pointwise [k1_pay4]
  rw [← z y]
  refine canon_chunks (fun y => k1_pay4 (F := Ideal) y + ((dkTerm X hh i0 y : ℝ) : EReal)) _ ?_ rfl y
  exact
    cons (dkL_tile H H1 (k1_pay4 (F := Ideal))) <| cons (dkL_tile H H0 (k1_pay4 (F := Ideal))) <| cons (dk_tile H H1 (k1_pay4 (F := Ideal)) 3072 (by omega)) <| cons (dk_tile H H0 (k1_pay4 (F := Ideal)) 3072 (by omega)) <|
    cons (dk_tile H H1 (k1_pay4 (F := Ideal)) 2560 (by omega)) <| cons (dk_tile H H0 (k1_pay4 (F := Ideal)) 2560 (by omega)) <| cons (dk_tile H H1 (k1_pay4 (F := Ideal)) 2048 (by omega)) <| cons (dk_tile H H0 (k1_pay4 (F := Ideal)) 2048 (by omega)) <|
    cons (dk_tile H H1 (k1_pay4 (F := Ideal)) 1536 (by omega)) <| cons (dk_tile H H0 (k1_pay4 (F := Ideal)) 1536 (by omega)) <| cons (dk_tile H H1 (k1_pay4 (F := Ideal)) 1024 (by omega)) <| cons (dk_tile H H0 (k1_pay4 (F := Ideal)) 1024 (by omega)) <|
    cons (dk_tile H H1 (k1_pay4 (F := Ideal)) 512 (by omega)) <| cons (dk_tile H H0 (k1_pay4 (F := Ideal)) 512 (by omega)) <| cons (dk_tile H H1 (k1_pay4 (F := Ideal)) 0 (by omega)) <| cons (dk_tile H H0 (k1_pay4 (F := Ideal)) 0 (by omega)) <|
    trivial

theorem stepB8 (h : ¬t.val % 8 = 0) (y : S2x4352x128.Idx) : (outsAt1 V c t.val t.isLt).2.1 y
    = (outsAt1 V c (t.val - 1) (Nat.lt_of_le_of_lt (Nat.sub_le _ _) t.isLt)).2.1 y + ((dkTerm X hh i0 y : ℝ) : EReal) := by
  rw [outsAt1_B V c t h]
  frame_open
  simp (disch := decide) only [↓ View.readCov_skip, ↓ View.readCov_cons_toLoadRect, ↓ View.readCov_fill]
  frame_out
  generalize (outsAt1 V c (t.val - 1) _).2.1 = old
  have H0 : Head X (hh ⟨0, by omega⟩) i0 _ _ _ _ := head0 H inb_S2x512x128_S1x512x128_0_0_0 inb_S2x1x512_S1x1x512_0_0_0
  have H1 : Head X (hh ⟨1, by omega⟩) i0 _ _ _ _ := head1 H inb_S2x512x128_S1x512x128_1_0_0 inb_S2x1x512_S1x1x512_1_0_0
  refine canon_chunks (fun y => old y + ((dkTerm X hh i0 y : ℝ) : EReal)) _ ?_ rfl y
  exact
    cons (dkL_tile H H1 old) <| cons (dkL_tile H H0 old) <| cons (dk_tile H H1 old 3072 (by omega)) <| cons (dk_tile H H0 old 3072 (by omega)) <|
    cons (dk_tile H H1 old 2560 (by omega)) <| cons (dk_tile H H0 old 2560 (by omega)) <| cons (dk_tile H H1 old 2048 (by omega)) <| cons (dk_tile H H0 old 2048 (by omega)) <|
    cons (dk_tile H H1 old 1536 (by omega)) <| cons (dk_tile H H0 old 1536 (by omega)) <| cons (dk_tile H H1 old 1024 (by omega)) <| cons (dk_tile H H0 old 1024 (by omega)) <|
    cons (dk_tile H H1 old 512 (by omega)) <| cons (dk_tile H H0 old 512 (by omega)) <| cons (dk_tile H H1 old 0 (by omega)) <| cons (dk_tile H H0 old 0 (by omega)) <|
    trivial

theorem stepA9 (h : t.val % 8 = 0) (y : S2x4352x128.Idx) :
    (outsAt1 V c t.val t.isLt).2.2 y = 0 + ((dvTerm X hh i0 y : ℝ) : EReal) := by
  rw [outsAt1_A V c t h]
  frame_open
  simp (disch := decide) only [↓ View.readCov_skip, ↓ View.readCov_cons_toLoadRect, ↓ View.readCov_fill]
  frame_out
  have H0 : Head X (hh ⟨0, by omega⟩) i0 _ _ _ _ := head0 H inb_S2x512x128_S1x512x128_0_0_0 inb_S2x1x512_S1x1x512_0_0_0
  have H1 : Head X (hh ⟨1, by omega⟩) i0 _ _ _ _ := head1 H inb_S2x512x128_S1x512x128_1_0_0 inb_S2x1x512_S1x1x512_1_0_0
  have z : ∀ y, (k1_pay5 (F := Ideal)) y = (0 : EReal) := fun y => by pointwise [k1_pay5]
  rw [← z y]
  refine canon_chunks (fun y => k1_pay5 (F := Ideal) y + ((dvTerm X hh i0 y : ℝ) : EReal)) _ ?_ rfl y
  exact
    cons (dvL_tile H H1 (k1_pay5 (F := Ideal))) <| cons (dvL_tile H H0 (k1_pay5 (F := Ideal))) <| cons (dv_tile H H1 (k1_pay5 (F := Ideal)) 3072 (by omega)) <| cons (dv_tile H H0 (k1_pay5 (F := Ideal)) 3072 (by omega)) <|
    cons (dv_tile H H1 (k1_pay5 (F := Ideal)) 2560 (by omega)) <| cons (dv_tile H H0 (k1_pay5 (F := Ideal)) 2560 (by omega)) <| cons (dv_tile H H1 (k1_pay5 (F := Ideal)) 2048 (by omega)) <| cons (dv_tile H H0 (k1_pay5 (F := Ideal)) 2048 (by omega)) <|
    cons (dv_tile H H1 (k1_pay5 (F := Ideal)) 1536 (by omega)) <| cons (dv_tile H H0 (k1_pay5 (F := Ideal)) 1536 (by omega)) <| cons (dv_tile H H1 (k1_pay5 (F := Ideal)) 1024 (by omega)) <| cons (dv_tile H H0 (k1_pay5 (F := Ideal)) 1024 (by omega)) <|
    cons (dv_tile H H1 (k1_pay5 (F := Ideal)) 512 (by omega)) <| cons (dv_tile H H0 (k1_pay5 (F := Ideal)) 512 (by omega)) <| cons (dv_tile H H1 (k1_pay5 (F := Ideal)) 0 (by omega)) <| cons (dv_tile H H0 (k1_pay5 (F := Ideal)) 0 (by omega)) <|
    trivial

theorem stepB9 (h : ¬t.val % 8 = 0) (y : S2x4352x128.Idx) : (outsAt1 V c t.val t.isLt).2.2 y
    = (outsAt1 V c (t.val - 1) (Nat.lt_of_le_of_lt (Nat.sub_le _ _) t.isLt)).2.2 y + ((dvTerm X hh i0 y : ℝ) : EReal) := by
  rw [outsAt1_B V c t h]
  frame_open
  simp (disch := decide) only [↓ View.readCov_skip, ↓ View.readCov_cons_toLoadRect, ↓ View.readCov_fill]
  frame_out
  generalize (outsAt1 V c (t.val - 1) _).2.2 = old
  have H0 : Head X (hh ⟨0, by omega⟩) i0 _ _ _ _ := head0 H inb_S2x512x128_S1x512x128_0_0_0 inb_S2x1x512_S1x1x512_0_0_0
  have H1 : Head X (hh ⟨1, by omega⟩) i0 _ _ _ _ := head1 H inb_S2x512x128_S1x512x128_1_0_0 inb_S2x1x512_S1x1x512_1_0_0
  refine canon_chunks (fun y => old y + ((dvTerm X hh i0 y : ℝ) : EReal)) _ ?_ rfl y
  exact
    cons (dvL_tile H H1 old) <| cons (dvL_tile H H0 old) <| cons (dv_tile H H1 old 3072 (by omega)) <| cons (dv_tile H H0 old 3072 (by omega)) <|
    cons (dv_tile H H1 old 2560 (by omega)) <| cons (dv_tile H H0 old 2560 (by omega)) <| cons (dv_tile H H1 old 2048 (by omega)) <| cons (dv_tile H H0 old 2048 (by omega)) <|
    cons (dv_tile H H1 old 1536 (by omega)) <| cons (dv_tile H H0 old 1536 (by omega)) <| cons (dv_tile H H1 old 1024 (by omega)) <| cons (dv_tile H H0 old 1024 (by omega)) <|
    cons (dv_tile H H1 old 512 (by omega)) <| cons (dv_tile H H0 old 512 (by omega)) <| cons (dv_tile H H1 old 0 (by omega)) <| cons (dv_tile H H0 old 0 (by omega)) <|
    trivial

theorem stepA7 (h : t.val % 8 = 0) (y : S2x512x128.Idx) :
    (outsAt1 V c t.val t.isLt).1 y = ((X.dq (hh (y 0)) (i0 + (y 1).val) (y 2) : ℝ) : EReal) := by
  rw [outsAt1_A V c t h]
  frame_out
  have H0 : Head X (hh ⟨0, by omega⟩) i0 _ _ _ _ := head0 H inb_S2x512x128_S1x512x128_0_0_0 inb_S2x1x512_S1x1x512_0_0_0
  have H1 : Head X (hh ⟨1, by omega⟩) i0 _ _ _ _ := head1 H inb_S2x512x128_S1x512x128_1_0_0 inb_S2x1x512_S1x1x512_1_0_0
  canon_tiles x i
  · exact dq_tile H H1 y x i0 i1 i2
  · exact dq_tile H H0 y x (by omega) i1 i2

theorem stepB7 (h : ¬t.val % 8 = 0) (y : S2x512x128.Idx) :
    (outsAt1 V c t.val t.isLt).1 y = ((X.dq (hh (y 0)) (i0 + (y 1).val) (y 2) : ℝ) : EReal) := by
  rw [outsAt1_B V c t h]
  frame_out
  have H0 : Head X (hh ⟨0, by omega⟩) i0 _ _ _ _ := head0 H inb_S2x512x128_S1x512x128_0_0_0 inb_S2x1x512_S1x1x512_0_0_0
  have H1 : Head X (hh ⟨1, by omega⟩) i0 _ _ _ _ := head1 H inb_S2x512x128_S1x512x128_1_0_0 inb_S2x1x512_S1x1x512_1_0_0
  canon_tiles x i
  · exact dq_tile H H1 y x i0 i1 i2
  · exact dq_tile H H0 y x (by omega) i1 i2

end Cert.AttnIdeal.Bwd
-- ==== Proof.Attn.Host.lean ====
/-
  The arrays the host prepares for the two calls, read at an index: the heads in front, every head's columns filled with
  zeros to 128, and the values' column 64 set to one.
-/
module

public import proofs.«01_k».proof.Proof.Gen.AttnIdeal.Frame
public import proofs.«01_k».proof.Proof.Attn.Spec
public import Idealize.ShloMosaic.Lib.Pipeline.ValueKit
public import Idealize.ShloMosaic.Lib.Tactic.CleanTypes

@[expose] public section

set_option maxRecDepth 16384

noncomputable section

namespace Cert.AttnIdeal.Fwd

open Idealize.ShloMosaic Idealize.ShloMosaic.TcCoe Idealize.SL.Sem Cert.AttnIdeal Cert.AttnIdeal.Gen

variable (m : (ℓ : Loc nD τ sig) → Buf (Elt Ideal) ℓ) (ρ : Dev nD → PrngReg)

/-- The four arguments, and the prepared arrays, at their literal types. -/
abbrev argQ (c : Dev nD) : FVec Ideal S1x4096x8x96 .f32 := m ((c : Thread nD τ).loc main_arg0)
abbrev argK (c : Dev nD) : FVec Ideal S1x4352x8x96 .f32 := m ((c : Thread nD τ).loc main_arg1)
abbrev argV (c : Dev nD) : FVec Ideal S1x4352x8x64 .f32 := m ((c : Thread nD τ).loc main_arg2)
abbrev argC (c : Dev nD) : FVec Ideal S1x4096x512 .f32 := m ((c : Thread nD τ).loc main_arg3)
abbrev hostQ (c : Dev nD) : FVec Ideal S8x4096x128 .bf16 := V9 m ρ c main_v3
abbrev hostK (c : Dev nD) : FVec Ideal S8x4352x128 .bf16 := V9 m ρ c main_v7
abbrev hostV (c : Dev nD) : FVec Ideal S8x4352x128 .bf16 := V9 m ρ c main_v17
abbrev hostKt (c : Dev nD) : FVec Ideal S8x128x4352 .bf16 := V9 m ρ c main_v9

/-- The filling word of the host's padding. -/
theorem sitofp_zero : (FloatOps.sitofp FTy.f32 (0#32 : BitVec 32) : Ideal .f32) = 0 := by
  change (((0#32 : BitVec 32).toInt : ℝ) : EReal) = 0
  simp

theorem hostQ_apply (c : Dev nD) (h : Fin 8) (i : Fin 4096) (e : Fin 128) :
    hostQ m ρ c (ix3 h i e) = if he : e.val < 96 then argQ m c (ix4 0 i h ⟨e.val, he⟩) else 0 := by
  simp only [hostQ, V9, W9, W8, W7, W6, W5, W4, W3, W2, W1, W0]
  entry_read
  simp only [StableHlo.TRef.toBuf, StableHlo.TRef.ofBuf, cast_cast, cast_eq]
  clean_types
  pointwise
  rw [sitofp_zero]

theorem hostK_apply (c : Dev nD) (h : Fin 8) (i : Fin 4352) (e : Fin 128) :
    hostK m ρ c (ix3 h i e) = if he : e.val < 96 then argK m c (ix4 0 i h ⟨e.val, he⟩) else 0 := by
  simp only [hostK, V9, W9, W8, W7, W6, W5, W4, W3, W2, W1, W0]
  entry_read
  simp only [StableHlo.TRef.toBuf, StableHlo.TRef.ofBuf, cast_cast, cast_eq]
  clean_types
  pointwise
  rw [sitofp_zero]

theorem hostKt_apply (c : Dev nD) (h : Fin 8) (e : Fin 128) (i : Fin 4352) :
    hostKt m ρ c (ix3 h e i) = if he : e.val < 96 then argK m c (ix4 0 i h ⟨e.val, he⟩) else 0 := by
  simp only [hostKt, V9, W9, W8, W7, W6, W5, W4, W3, W2, W1, W0]
  entry_read
  simp only [StableHlo.TRef.toBuf, StableHlo.TRef.ofBuf, cast_cast, cast_eq]
  clean_types
  pointwise
  rw [sitofp_zero]

theorem hostV_apply (c : Dev nD) (h : Fin 8) (i : Fin 4352) (e : Fin 128) :
    hostV m ρ c (ix3 h i e) = if he : e.val < 64 then argV m c (ix4 0 i h ⟨e.val, he⟩) else if e.val = 64 then 1 else 0 := by
  simp only [hostV, V9, W9, W8, W7, W6, W5, W4, W3, W2, W1, W0]
  entry_read
  simp only [StableHlo.TRef.toBuf, StableHlo.TRef.ofBuf, cast_cast, cast_eq]
  clean_types
  pointwise
  rw [sitofp_zero, show (64#32 : BitVec 32) = BitVec.ofNat 32 64 from rfl, WordCmp.cmpi_eq_ofNat (by omega) (by omega), WordCmp.select_decide]
  by_cases h4 : e.val < 64
  · rw [if_neg (by omega), dif_pos h4, dif_pos h4]
  · rw [dif_neg h4, dif_neg h4]

/-- The arguments as reals. -/
abbrev argData (c : Dev nD) : AttnSpec.Data := AttnSpec.ofArrays (argQ m c) (argK m c) (argV m c) (argC m c)
abbrev ArgReal (c : Dev nD) : Prop := AttnSpec.Real (argQ m c) (argK m c) (argV m c) (argC m c)

variable {m}

theorem hostQ_real {c : Dev nD} (H : ArgReal m c) (h : Fin 8) (i : Fin 4096) (e : Fin 128) :
    hostQ m ρ c (ix3 h i e) = (((argData m c).q h i e : ℝ) : EReal) := by
  rw [hostQ_apply]
  by_cases he : e.val < 96
  · simp only [AttnSpec.ofArrays, dif_pos he, dif_pos (And.intro he i.isLt)]; exact (AttnSpec.coe_toReal (H.q _ _ _)).symm
  · simp [AttnSpec.ofArrays, he]

theorem hostK_real {c : Dev nD} (H : ArgReal m c) (h : Fin 8) (i : Fin 4352) (e : Fin 128) :
    hostK m ρ c (ix3 h i e) = (((argData m c).k h i e : ℝ) : EReal) := by
  rw [hostK_apply]
  by_cases he : e.val < 96
  · simp only [AttnSpec.ofArrays, dif_pos he, dif_pos (And.intro he i.isLt)]; exact (AttnSpec.coe_toReal (H.k _ _ _)).symm
  · simp [AttnSpec.ofArrays, he]

theorem hostKt_real {c : Dev nD} (H : ArgReal m c) (h : Fin 8) (e : Fin 128) (i : Fin 4352) :
    hostKt m ρ c (ix3 h e i) = (((argData m c).k h i e : ℝ) : EReal) :=
  (hostKt_apply m ρ c h e i).trans ((hostK_apply m ρ c h i e).symm.trans (hostK_real ρ H h i e))

theorem hostV_real {c : Dev nD} (H : ArgReal m c) (h : Fin 8) (i : Fin 4352) (e : Fin 128) :
    hostV m ρ c (ix3 h i e) = (((argData m c).v h i e : ℝ) : EReal) := by
  rw [hostV_apply]
  by_cases he : e.val < 64
  · simp only [AttnSpec.ofArrays, dif_pos he, dif_pos (And.intro he i.isLt)]; exact (AttnSpec.coe_toReal (H.v _ _ _)).symm
  · by_cases h4 : e.val = 64 <;> simp [AttnSpec.ofArrays, h4, he]

end Cert.AttnIdeal.Fwd
-- ==== Proof.Attn.FwdTie.lean ====
/-
  The forward attention call's two results at a grid point, in the words of `FwdOps`: both are what the four heads'
  running sums and maxima give.
-/
module

public import proofs.«01_k».proof.Proof.Gen.AttnIdeal.Frame
public import proofs.«01_k».proof.Proof.Attn.FwdOps

@[expose] public section

set_option maxRecDepth 16384

noncomputable section

namespace Cert.AttnIdeal.Fwd

open Idealize.ShloMosaic Cert.AttnIdeal Cert.AttnIdeal.Gen

variable {F : FTy → Type} [FloatOps F] [Named F]
variable (x0 : Vec F S4x1024x128 .bf16) (x1 x2 : Vec F S4x4352x128 .bf16)

/-- Head `b`'s running maximum and running sum after its last chunk. -/
def headMax0 : FVec F S1024x1 .f32 :=
  max3 (View.ld x0 r0_0) (View.ld x1 r0_4) (View.ld x1 r0_8) (View.ld x1 r0_12) (View.ld x1 r0_16)
def headMax1 : FVec F S1024x1 .f32 :=
  max3 (View.ld x0 r0_1) (View.ld x1 r0_5) (View.ld x1 r0_9) (View.ld x1 r0_13) (View.ld x1 r0_17)
def headMax2 : FVec F S1024x1 .f32 :=
  max3 (View.ld x0 r0_2) (View.ld x1 r0_6) (View.ld x1 r0_10) (View.ld x1 r0_14) (View.ld x1 r0_18)
def headMax3 : FVec F S1024x1 .f32 :=
  max3 (View.ld x0 r0_3) (View.ld x1 r0_7) (View.ld x1 r0_11) (View.ld x1 r0_15) (View.ld x1 r0_19)
def headAcc0 : FVec F S1024x128 .f32 :=
  acc3 (View.ld x0 r0_0) (View.ld x1 r0_4) (View.ld x1 r0_8) (View.ld x1 r0_12) (View.ld x1 r0_16)
    (View.ld x2 r0_4) (View.ld x2 r0_8) (View.ld x2 r0_12) (View.ld x2 r0_16)
def headAcc1 : FVec F S1024x128 .f32 :=
  acc3 (View.ld x0 r0_1) (View.ld x1 r0_5) (View.ld x1 r0_9) (View.ld x1 r0_13) (View.ld x1 r0_17)
    (View.ld x2 r0_5) (View.ld x2 r0_9) (View.ld x2 r0_13) (View.ld x2 r0_17)
def headAcc2 : FVec F S1024x128 .f32 :=
  acc3 (View.ld x0 r0_2) (View.ld x1 r0_6) (View.ld x1 r0_10) (View.ld x1 r0_14) (View.ld x1 r0_18)
    (View.ld x2 r0_6) (View.ld x2 r0_10) (View.ld x2 r0_14) (View.ld x2 r0_18)
def headAcc3 : FVec F S1024x128 .f32 :=
  acc3 (View.ld x0 r0_3) (View.ld x1 r0_7) (View.ld x1 r0_11) (View.ld x1 r0_15) (View.ld x1 r0_19)
    (View.ld x2 r0_7) (View.ld x2 r0_11) (View.ld x2 r0_15) (View.ld x2 r0_19)

theorem pay93 : k0_pay93 x0 x1 x2 = headAcc0 x0 x1 x2 := rfl
theorem pay95 : k0_pay95 x0 x1 x2 = headAcc1 x0 x1 x2 := rfl
theorem pay96 : k0_pay96 x0 x1 x2 = headAcc2 x0 x1 x2 := rfl
theorem pay97 : k0_pay97 x0 x1 x2 = headAcc3 x0 x1 x2 := rfl

theorem out0_3_eq : out0_3 x0 x1 x2 = View.canon [⟨r0_24, pack (outOf (headAcc0 x0 x1 x2)) (outOf (headAcc1 x0 x1 x2))
    (outOf (headAcc2 x0 x1 x2)) (outOf (headAcc3 x0 x1 x2))⟩] := rfl

theorem out0_4_eq : out0_4 x0 x1 x2 = View.canon [⟨r0_23, lseOf (headMax3 x0 x1) (headAcc3 x0 x1 x2)⟩,
    ⟨r0_22, lseOf (headMax2 x0 x1) (headAcc2 x0 x1 x2)⟩, ⟨r0_21, lseOf (headMax1 x0 x1) (headAcc1 x0 x1 x2)⟩,
    ⟨r0_20, lseOf (headMax0 x0 x1) (headAcc0 x0 x1 x2)⟩] := rfl

end Cert.AttnIdeal.Fwd
-- ==== Proof.Attn.FwdPoint.lean ====
/-
  The forward call at one grid point: the blocks it loads hold the real arguments, so its four heads give the attention's
  result and the logarithm of the sum of the weights.
-/
module

public import proofs.«01_k».proof.Proof.Attn.Host
public import proofs.«01_k».proof.Proof.Attn.FwdTie

@[expose] public section

set_option maxRecDepth 16384

noncomputable section

namespace Cert.AttnIdeal.Fwd

open Idealize.ShloMosaic Idealize.ShloMosaic.TcCoe Idealize.SL.Sem Cert.AttnIdeal Cert.AttnIdeal.Gen
open Idealize.ShloMosaic.Pipeline (Dat)

variable {m : (ℓ : Loc nD τ sig) → Buf (Elt Ideal) ℓ} (ρ : Dev nD → PrngReg)

/-- Where the blocks of a point lie. -/
theorem idx0 : ∀ t : Fin cfg0.N, win0_0.index t = ![t.val / 4, t.val % 4, 0] ∧ win0_1.index t = ![t.val / 4, 0, 0]
    ∧ win0_2.index t = ![t.val / 4, 0, 0] ∧ win0_3.index t = ![t.val % 4, t.val / 4] ∧ win0_4.index t = ![t.val / 4, 0, t.val % 4]
    ∧ t.val / 4 < 2 :=
  (by decide +kernel : ∀ t : Fin grid0.N, _)

/-- The head of the group of four and the query of the block of 1024 that point `t` works on. -/
def headOf (t : Fin cfg0.N) (b : Fin 4) : Fin 8 := ⟨4 * (t.val / 4) + b.val, by have := (idx0 t).2.2.2.2.2; omega⟩
def rowOf (t : Fin cfg0.N) (r : Fin 1024) : Fin 4096 := ⟨1024 * (t.val % 4) + r.val, by omega⟩

abbrev blkQ (m : (ℓ : Loc nD τ sig) → Buf (Elt Ideal) ℓ) (c : Dev nD) (t : Fin cfg0.N) : FVec Ideal S4x1024x128 .bf16 := iblk0 (V9 m ρ) c 0 t
abbrev blkK (m : (ℓ : Loc nD τ sig) → Buf (Elt Ideal) ℓ) (c : Dev nD) (t : Fin cfg0.N) : FVec Ideal S4x4352x128 .bf16 := iblk0 (V9 m ρ) c 1 t
abbrev blkV (m : (ℓ : Loc nD τ sig) → Buf (Elt Ideal) ℓ) (c : Dev nD) (t : Fin cfg0.N) : FVec Ideal S4x4352x128 .bf16 := iblk0 (V9 m ρ) c 2 t

theorem blkQ_apply (c : Dev nD) (t : Fin cfg0.N) (b : Fin 4) (r : Fin 1024) (e : Fin 128) :
    blkQ ρ m c t (ix3 b r e) = hostQ m ρ c (ix3 (headOf t b) (rowOf t r) e) := by
  blk_ext [iblk0, idx0 t, headOf, rowOf]

theorem blkK_apply (c : Dev nD) (t : Fin cfg0.N) (b : Fin 4) (j : Fin 4352) (e : Fin 128) :
    blkK ρ m c t (ix3 b j e) = hostK m ρ c (ix3 (headOf t b) j e) := by
  blk_ext [iblk0, idx0 t, headOf]

theorem blkV_apply (c : Dev nD) (t : Fin cfg0.N) (b : Fin 4) (j : Fin 4352) (e : Fin 128) :
    blkV ρ m c t (ix3 b j e) = hostV m ρ c (ix3 (headOf t b) j e) := by
  blk_ext [iblk0, idx0 t, headOf]

/-- A chunk of a head's keys or values, loaded from the block of four heads. -/
theorem ld_chunk (x : Vec Ideal S4x4352x128 .bf16) (b off : ℕ) (hin) (hb : b < 4) (t : Fin 1024) (e : Fin 128) (ho : off + 1024 ≤ 4352) :
    View.ld x (Rect.unit (s := S4x4352x128) ![b, off, 0] S1x1024x128.size hin) (ix3 0 t e)
      = x (ix3 ⟨b, hb⟩ ⟨off + t.val, by omega⟩ e) := by
  rw [View.ld_apply]
  refine congrArg x (funext fun a => ?_)
  fin_cases a <;> exact Fin.ext ((Rect.idx_unit_val _ _ _ _ _).trans (by simp))

theorem ld_chunkL (x : Vec Ideal S4x4352x128 .bf16) (b off : ℕ) (hin) (hb : b < 4) (t : Fin 1280) (e : Fin 128) (ho : off + 1280 ≤ 4352) :
    View.ld x (Rect.unit (s := S4x4352x128) ![b, off, 0] S1x1280x128.size hin) (ix3 0 t e)
      = x (ix3 ⟨b, hb⟩ ⟨off + t.val, by omega⟩ e) := by
  rw [View.ld_apply]
  refine congrArg x (funext fun a => ?_)
  fin_cases a <;> exact Fin.ext ((Rect.idx_unit_val _ _ _ _ _).trans (by simp))

/-- The queries of one head. -/
theorem ld_q (x : Vec Ideal S4x1024x128 .bf16) (b : ℕ) (hin) (hb : b < 4) (r : Fin 1024) (e : Fin 128) :
    View.ld x (Rect.unit (s := S4x1024x128) ![b, 0, 0] S1x1024x128.size hin) (ix3 0 r e) = x (ix3 ⟨b, hb⟩ r e) := by
  rw [View.ld_apply]
  refine congrArg x (funext fun a => ?_)
  fin_cases a <;> exact Fin.ext ((Rect.idx_unit_val _ _ _ _ _).trans (by simp))

/-- A head's four chunks hold what its whole block holds. -/
theorem chunks (x : Vec Ideal S4x4352x128 .bf16) (b : ℕ) (hb : b < 4) {y : ℕ → Fin 128 → ℝ}
    (hx : ∀ (t : Fin 4352) e, x (ix3 ⟨b, hb⟩ t e) = (y t e : EReal)) (h0) (h1) (h2) (h3) :
    Chunks (View.ld x (Rect.unit (s := S4x4352x128) ![b, 0, 0] S1x1024x128.size h0))
      (View.ld x (Rect.unit (s := S4x4352x128) ![b, 1024, 0] S1x1024x128.size h1))
      (View.ld x (Rect.unit (s := S4x4352x128) ![b, 2048, 0] S1x1024x128.size h2))
      (View.ld x (Rect.unit (s := S4x4352x128) ![b, 3072, 0] S1x1280x128.size h3)) y where
  h0 t e := (ld_chunk x b 0 h0 hb t e (by omega)).trans ((hx _ e).trans (by simp))
  h1 t e := (ld_chunk x b 1024 h1 hb t e (by omega)).trans (hx _ e)
  h2 t e := (ld_chunk x b 2048 h2 hb t e (by omega)).trans (hx _ e)
  h3 t e := (ld_chunkL x b 3072 h3 hb t e (by omega)).trans (hx _ e)

/-- The four heads' results and logarithms as families. -/
def headOut (x0 : Vec Ideal S4x1024x128 .bf16) (x1 x2 : Vec Ideal S4x4352x128 .bf16) : Fin 4 → FVec Ideal S1024x128 .f32 :=
  ![outOf (headAcc0 x0 x1 x2), outOf (headAcc1 x0 x1 x2), outOf (headAcc2 x0 x1 x2), outOf (headAcc3 x0 x1 x2)]
def headLse (x0 : Vec Ideal S4x1024x128 .bf16) (x1 x2 : Vec Ideal S4x4352x128 .bf16) : Fin 4 → FVec Ideal S1x1x1024 .f32 :=
  ![lseOf (headMax0 x0 x1) (headAcc0 x0 x1 x2), lseOf (headMax1 x0 x1) (headAcc1 x0 x1 x2),
    lseOf (headMax2 x0 x1) (headAcc2 x0 x1 x2), lseOf (headMax3 x0 x1) (headAcc3 x0 x1 x2)]

section Point
variable {c : Dev nD} (H : ArgReal m c) (t : Fin cfg0.N) (r : Fin 1024)
include H

theorem q_real (b : Fin 4) (e : Fin 128) : blkQ ρ m c t (ix3 b r e) = (((argData m c).q (headOf t b) (rowOf t r) e : ℝ) : EReal) := by
  rw [blkQ_apply, hostQ_real ρ H]

theorem k_real (b : Fin 4) (j : Fin 4352) (e : Fin 128) : blkK ρ m c t (ix3 b j e) = (((argData m c).k (headOf t b) j e : ℝ) : EReal) := by
  rw [blkK_apply, hostK_real ρ H]

theorem v_real (b : Fin 4) (j : Fin 4352) (e : Fin 128) : blkV ρ m c t (ix3 b j e) = (((argData m c).v (headOf t b) j e : ℝ) : EReal) := by
  rw [blkV_apply, hostV_real ρ H]

/-- One head of the block at a query, its rectangles by the head's number. -/
theorem head_out (b : ℕ) (hb : b < 4) (d : Fin 128) (hq) (h0) (h1) (h2) (h3) :
    outOf (F := Ideal) (acc3 (View.ld (blkQ ρ m c t) (Rect.unit (s := S4x1024x128) ![b, 0, 0] S1x1024x128.size hq))
      (View.ld (blkK ρ m c t) (Rect.unit (s := S4x4352x128) ![b, 0, 0] S1x1024x128.size h0))
      (View.ld (blkK ρ m c t) (Rect.unit (s := S4x4352x128) ![b, 1024, 0] S1x1024x128.size h1))
      (View.ld (blkK ρ m c t) (Rect.unit (s := S4x4352x128) ![b, 2048, 0] S1x1024x128.size h2))
      (View.ld (blkK ρ m c t) (Rect.unit (s := S4x4352x128) ![b, 3072, 0] S1x1280x128.size h3))
      (View.ld (blkV ρ m c t) (Rect.unit (s := S4x4352x128) ![b, 0, 0] S1x1024x128.size h0))
      (View.ld (blkV ρ m c t) (Rect.unit (s := S4x4352x128) ![b, 1024, 0] S1x1024x128.size h1))
      (View.ld (blkV ρ m c t) (Rect.unit (s := S4x4352x128) ![b, 2048, 0] S1x1024x128.size h2))
      (View.ld (blkV ρ m c t) (Rect.unit (s := S4x4352x128) ![b, 3072, 0] S1x1280x128.size h3))) (ix2 r d)
      = (((argData m c).o (headOf t ⟨b, hb⟩) (rowOf t r) d : ℝ) : EReal) :=
  out_real (fun e => (ld_q _ b _ hb r e).trans (q_real ρ H t r ⟨b, hb⟩ e)) (chunks _ b hb (k_real ρ H t ⟨b, hb⟩) _ _ _ _)
    (chunks _ b hb (v_real ρ H t ⟨b, hb⟩) _ _ _ _) (fun _ => by simp [AttnSpec.ofArrays]) d

theorem head_lse (b : ℕ) (hb : b < 4) (hq) (h0) (h1) (h2) (h3) :
    lseOf (F := Ideal) (max3 (View.ld (blkQ ρ m c t) (Rect.unit (s := S4x1024x128) ![b, 0, 0] S1x1024x128.size hq))
      (View.ld (blkK ρ m c t) (Rect.unit (s := S4x4352x128) ![b, 0, 0] S1x1024x128.size h0))
      (View.ld (blkK ρ m c t) (Rect.unit (s := S4x4352x128) ![b, 1024, 0] S1x1024x128.size h1))
      (View.ld (blkK ρ m c t) (Rect.unit (s := S4x4352x128) ![b, 2048, 0] S1x1024x128.size h2))
      (View.ld (blkK ρ m c t) (Rect.unit (s := S4x4352x128) ![b, 3072, 0] S1x1280x128.size h3)))
      (acc3 (View.ld (blkQ ρ m c t) (Rect.unit (s := S4x1024x128) ![b, 0, 0] S1x1024x128.size hq))
      (View.ld (blkK ρ m c t) (Rect.unit (s := S4x4352x128) ![b, 0, 0] S1x1024x128.size h0))
      (View.ld (blkK ρ m c t) (Rect.unit (s := S4x4352x128) ![b, 1024, 0] S1x1024x128.size h1))
      (View.ld (blkK ρ m c t) (Rect.unit (s := S4x4352x128) ![b, 2048, 0] S1x1024x128.size h2))
      (View.ld (blkK ρ m c t) (Rect.unit (s := S4x4352x128) ![b, 3072, 0] S1x1280x128.size h3))
      (View.ld (blkV ρ m c t) (Rect.unit (s := S4x4352x128) ![b, 0, 0] S1x1024x128.size h0))
      (View.ld (blkV ρ m c t) (Rect.unit (s := S4x4352x128) ![b, 1024, 0] S1x1024x128.size h1))
      (View.ld (blkV ρ m c t) (Rect.unit (s := S4x4352x128) ![b, 2048, 0] S1x1024x128.size h2))
      (View.ld (blkV ρ m c t) (Rect.unit (s := S4x4352x128) ![b, 3072, 0] S1x1280x128.size h3))) (ix3 0 0 r)
      = ((Real.log (Z ((argData m c).q (headOf t ⟨b, hb⟩) (rowOf t r)) ((argData m c).k (headOf t ⟨b, hb⟩))) / Real.log 2 : ℝ) : EReal) :=
  lse_real (fun e => (ld_q _ b _ hb r e).trans (q_real ρ H t r ⟨b, hb⟩ e)) (chunks _ b hb (k_real ρ H t ⟨b, hb⟩) _ _ _ _)
    (chunks _ b hb (v_real ρ H t ⟨b, hb⟩) _ _ _ _) (fun _ => by simp [AttnSpec.ofArrays])

/-- The four heads' results at a query of the block. -/
theorem heads_out : ∀ (b : Fin 4) (d : Fin 128),
    headOut (blkQ ρ m c t) (blkK ρ m c t) (blkV ρ m c t) b (ix2 r d) = (((argData m c).o (headOf t b) (rowOf t r) d : ℝ) : EReal)
  | ⟨0, h⟩, d => head_out ρ H t r 0 h d _ _ _ _ _
  | ⟨1, h⟩, d => head_out ρ H t r 1 h d _ _ _ _ _
  | ⟨2, h⟩, d => head_out ρ H t r 2 h d _ _ _ _ _
  | ⟨3, h⟩, d => head_out ρ H t r 3 h d _ _ _ _ _

/-- The logarithm of a query's sum of weights. -/
theorem heads_lse : ∀ b : Fin 4, headLse (blkQ ρ m c t) (blkK ρ m c t) (blkV ρ m c t) b (ix3 0 0 r)
      = ((Real.log (Z ((argData m c).q (headOf t b) (rowOf t r)) ((argData m c).k (headOf t b))) / Real.log 2 : ℝ) : EReal)
  | ⟨0, h⟩ => head_lse ρ H t r 0 h _ _ _ _ _
  | ⟨1, h⟩ => head_lse ρ H t r 1 h _ _ _ _ _
  | ⟨2, h⟩ => head_lse ρ H t r 2 h _ _ _ _ _
  | ⟨3, h⟩ => head_lse ρ H t r 3 h _ _ _ _ _

end Point

end Cert.AttnIdeal.Fwd
-- ==== Proof.Attn.FwdFinal.lean ====
/-
  The forward call's two result arrays after its eight grid points: the attention's result of every head side by side, and
  the logarithm, in base two, of every query's sum of weights.
-/
module

public import proofs.«01_k».proof.Proof.Attn.FwdPoint

@[expose] public section

set_option maxRecDepth 16384

noncomputable section

namespace Cert.AttnIdeal.Fwd

open Idealize.ShloMosaic Idealize.ShloMosaic.TcCoe Idealize.SL.Sem Cert.AttnIdeal Cert.AttnIdeal.Gen
open Idealize.ShloMosaic.Pipeline (Dat)

variable {m : (ℓ : Loc nD τ sig) → Buf (Elt Ideal) ℓ} (ρ : Dev nD → PrngReg)

/-- The attention's result as an array, and the logarithms. -/
def outArr (X : AttnSpec.Data) : FVec Ideal S4096x512 .bf16 :=
  fun j => ((X.o ⟨(j 1).val / 64, by have := (j 1).isLt; change _ < 512 at this; omega⟩ (j 0).val ⟨(j 1).val % 64, by omega⟩ : ℝ) : EReal)
def lseArr (X : AttnSpec.Data) : FVec Ideal S8x1x4096 .f32 :=
  fun j => ((Real.log (Z (X.q (j 0) (j 2).val) (X.k (j 0))) / Real.log 2 : ℝ) : EReal)

/-- The two arrays at an index whose coordinates are known. -/
theorem outArr_at (X : AttnSpec.Data) (j : S4096x512.Idx) (h : Fin 8) (i : ℕ) (d : Fin 128) (h0 : (j 0).val = i)
    (h1 : (j 1).val = 64 * h.val + d.val) (hd : d.val < 64) : outArr X j = ((X.o h i d : ℝ) : EReal) := by
  subst h0
  have e1 : (⟨(j 1).val / 64, by have := (j 1).isLt; change _ < 512 at this; omega⟩ : Fin 8) = h := Fin.ext (by simp only; omega)
  have e2 : (⟨(j 1).val % 64, by omega⟩ : Fin 128) = d := Fin.ext (by simp only; omega)
  simp only [outArr, e1, e2]

theorem lseArr_at (X : AttnSpec.Data) (j : S8x1x4096.Idx) (h : Fin 8) (i : ℕ) (h0 : (j 0).val = h.val) (h2 : (j 2).val = i) :
    lseArr X j = ((Real.log (Z (X.q h i) (X.k h)) / Real.log 2 : ℝ) : EReal) := by
  subst h2
  have e0 : j 0 = h := Fin.ext h0
  simp only [lseArr, e0]

theorem final3 {c : Dev nD} (H : ArgReal m c) : (dat0 (V9 m ρ) c).arrAt 3 cfg0.N = outArr (argData m c) := by
  refine (dat0 (V9 m ρ) c).arrAt_eq_of_covers 3 _ (by decide +kernel) fun t _ y => ?_
  blk_simp
  rw [after0_3, out0_3_eq]
  frame_out
  have hy : y = ix2 (y 0) (y 1) := by funext a; fin_cases a <;> rfl
  have hl : (y 1).val < 256 := (y 1).isLt
  refine Eq.trans (congrArg _ hy) ?_
  refine (pack_apply (headOut (blkQ ρ m c t) (blkK ρ m c t) (blkV ρ m c t)) (y 0) (y 1)).trans ?_
  refine (heads_out ρ H t (y 0) ⟨(y 1).val / 64, by omega⟩ ⟨(y 1).val % 64, by omega⟩).trans ?_
  refine (outArr_at _ _ _ _ _ ?_ ?_ ?_).symm
  · blk_simp [idx0 t, rowOf]; dsimp only; omega
  · blk_simp [idx0 t, headOf]; dsimp only; omega
  · change _ % 64 < 64; omega

theorem final4 {c : Dev nD} (H : ArgReal m c) : (dat0 (V9 m ρ) c).arrAt 4 cfg0.N = lseArr (argData m c) := by
  refine (dat0 (V9 m ρ) c).arrAt_eq_of_covers 4 _ (by decide +kernel) fun t _ y => ?_
  blk_simp
  rw [after0_4, out0_4_eq]
  have key : ∀ (b : Fin 4) (x : S1x1x1024.Idx) (h0 : (y 0).val = b.val + (x 0).val) (h2 : (y 2).val = (x 2).val),
      headLse (blkQ ρ m c t) (blkK ρ m c t) (blkV ρ m c t) b x = lseArr (argData m c) ((win0_4.blk t).view.emb y) := by
    intro b x h0 h2
    have hx0 : (x 0).val < 1 := (x 0).isLt
    have hx : x = ix3 0 0 (x 2) := by
      funext a; fin_cases a
      · exact Fin.ext (by change (x 0).val = 0; omega)
      · exact Fin.ext (by have : (x 1).val < 1 := (x 1).isLt; change (x 1).val = 0; omega)
      · rfl
    refine (congrArg _ hx).trans ((heads_lse ρ H t (x 2) b).trans (lseArr_at _ _ _ _ ?_ ?_).symm)
    · blk_simp [idx0 t, headOf]; dsimp only; omega
    · blk_simp [idx0 t, rowOf]; dsimp only; omega
  canon_tiles x h
  · exact key 3 x h0 h2
  · exact key 2 x h0 h2
  · exact key 1 x h0 h2
  · exact key 0 x (by simpa using h0) h2

end Cert.AttnIdeal.Fwd
-- ==== Proof.Attn.BwdFinal.lean ====
/-
  The backward call's three result arrays after its 32 grid points: what a point loads, and the gradients of the queries, the
  keys and the values as the points leave them. The keys' and the values' gradients are summed over the eight blocks of
  queries that a pair of heads runs through.
-/
module

public import proofs.«01_k».proof.Proof.Attn.BwdTie
public import proofs.«01_k».proof.Proof.Attn.FwdFinal

@[expose] public section

set_option maxRecDepth 16384

noncomputable section

namespace Cert.AttnIdeal.Bwd

open Idealize.ShloMosaic Idealize.ShloMosaic.TcCoe Idealize.SL.Sem Cert.AttnIdeal Cert.AttnIdeal.Gen Cert.AttnIdeal.Fwd Cert.AttnSpec
open Idealize.ShloMosaic.Pipeline (Dat)

variable {m : (ℓ : Loc nD τ sig) → Buf (Elt Ideal) ℓ} (ρ : Dev nD → PrngReg)

/-- Where the blocks of a point lie. -/
theorem idx1 : ∀ t : Fin cfg1.N, win1_0.index t = ![t.val / 8, t.val % 8, 0] ∧ win1_1.index t = ![t.val / 8, 0, 0]
    ∧ win1_2.index t = ![t.val / 8, 0, 0] ∧ win1_3.index t = ![t.val / 8, 0, 0] ∧ win1_4.index t = ![t.val % 8, t.val / 8]
    ∧ win1_5.index t = ![t.val % 8, t.val / 8] ∧ win1_6.index t = ![t.val / 8, 0, t.val % 8]
    ∧ win1_7.index t = ![t.val / 8, t.val % 8, 0] ∧ win1_8.index t = ![t.val / 8, 0, 0] ∧ win1_9.index t = ![t.val / 8, 0, 0]
    ∧ t.val / 8 < 4 :=
  (by decide +kernel : ∀ t : Fin grid1.N, _)

theorem grp_lt (t : Fin cfg1.N) : t.val / 8 < 4 := (idx1 t).2.2.2.2.2.2.2.2.2.2

/-- The head of the pair, and the first query of the block, that point `t` works on. -/
def hd (t : Fin cfg1.N) (b : Fin 2) : Fin 8 := ⟨t.val / 8 * 2 + b.val, by have := grp_lt t; omega⟩
abbrev row (t : Fin cfg1.N) : ℕ := t.val % 8 * 512

/-- What the call finds of the arrays prepared before the forward call, and of that call's two results. -/
theorem entryQ (c : Dev nD) : V11 m ρ c main_v3 = hostQ m ρ c := (W11_of m ρ c main_v3 (by decide)).trans (W10_of m ρ c main_v3 (by decide))
theorem entryK (c : Dev nD) : V11 m ρ c main_v7 = hostK m ρ c := (W11_of m ρ c main_v7 (by decide)).trans (W10_of m ρ c main_v7 (by decide))
theorem entryV (c : Dev nD) : V11 m ρ c main_v17 = hostV m ρ c := (W11_of m ρ c main_v17 (by decide)).trans (W10_of m ρ c main_v17 (by decide))
theorem entryKt (c : Dev nD) : V11 m ρ c main_v9 = hostKt m ρ c := (W11_of m ρ c main_v9 (by decide)).trans (W10_of m ρ c main_v9 (by decide))
theorem entryO {c : Dev nD} (H : ArgReal m c) : V11 m ρ c main_v18_0 = outArr (argData m c) :=
  (W11_of m ρ c main_v18_0 (by decide)).trans ((W10_arr m ρ c 3).trans (final3 ρ H))
theorem entryL {c : Dev nD} (H : ArgReal m c) : V11 m ρ c main_v18_1 = lseArr (argData m c) :=
  (W11_of m ρ c main_v18_1 (by decide)).trans ((W10_arr m ρ c 4).trans (final4 ρ H))

/-- The incoming gradient as the call finds it. -/
abbrev hostC (m : (ℓ : Loc nD τ sig) → Buf (Elt Ideal) ℓ) (c : Dev nD) : FVec Ideal S4096x512 .bf16 := V11 m ρ c main_v20
theorem hostC_apply (c : Dev nD) (i : Fin 4096) (l : Fin 512) : hostC ρ m c (ix2 i l) = argC m c (ix3 0 i l) := by
  have e : W10 m ρ c (Proc.devRef .tc main_arg3) = argC m c := W10_args m ρ c main_arg3 (by decide)
  simp only [hostC, V11, W11]
  entry_read
  simp only [StableHlo.TRef.toBuf, StableHlo.TRef.ofBuf, cast_cast, cast_eq, e]
  clean_types
  pointwise
theorem hostC_real {c : Dev nD} (H : ArgReal m c) (j : S4096x512.Idx) (h : Fin 8) (i : ℕ) (d : Fin 128) (h0 : (j 0).val = i)
    (h1 : (j 1).val = 64 * h.val + d.val) (hd : d.val < 64) : hostC ρ m c j = (((argData m c).c h i d : ℝ) : EReal) := by
  subst h0
  have hj : j = ix2 (j 0) (j 1) := by funext a; fin_cases a <;> rfl
  have hi : (j 0).val < 4096 := (j 0).isLt
  have e1 : (⟨64 * h.val + d.val, by omega⟩ : Fin 512) = j 1 := Fin.ext h1.symm
  refine (congrArg _ hj).trans ((hostC_apply ρ c (j 0) (j 1)).trans ?_)
  simp only [Data.c, dif_pos hd, ofArrays, dif_pos hi, e1]
  exact (coe_toReal (H.ct _ _)).symm

/-- The blocks of a point. -/
theorem blk {c : Dev nD} (H : ArgReal m c) (t : Fin cfg1.N) :
    Blk (argData m c) (hd t) (row t) (iblk1 (V11 m ρ) c 0 t) (iblk1 (V11 m ρ) c 1 t) (iblk1 (V11 m ρ) c 2 t) (iblk1 (V11 m ρ) c 3 t)
      (iblk1 (V11 m ρ) c 4 t) (iblk1 (V11 m ρ) c 5 t) (iblk1 (V11 m ρ) c 6 t) where
  q b i e := by
    have hi : row t + i.val < 4096 := by simp only [row]; omega
    have e0 : iblk1 (V11 m ρ) c 0 t (ix3 b i e) = V11 m ρ c main_v3 (ix3 (hd t b) ⟨row t + i.val, hi⟩ e) := by
      blk_ext [iblk1, idx1 t, hd, row]
    exact e0.trans ((congrFun (entryQ ρ c) _).trans (hostQ_real ρ H _ _ _))
  k b j e := by
    have e0 : iblk1 (V11 m ρ) c 1 t (ix3 b j e) = V11 m ρ c main_v7 (ix3 (hd t b) j e) := by blk_ext [iblk1, idx1 t, hd]
    exact e0.trans ((congrFun (entryK ρ c) _).trans (hostK_real ρ H _ _ _))
  v b j e := by
    have e0 : iblk1 (V11 m ρ) c 2 t (ix3 b j e) = V11 m ρ c main_v17 (ix3 (hd t b) j e) := by blk_ext [iblk1, idx1 t, hd]
    exact e0.trans ((congrFun (entryV ρ c) _).trans (hostV_real ρ H _ _ _))
  kt b e j := by
    have e0 : iblk1 (V11 m ρ) c 3 t (ix3 b e j) = V11 m ρ c main_v9 (ix3 (hd t b) e j) := by blk_ext [iblk1, idx1 t, hd]
    exact e0.trans ((congrFun (entryKt ρ c) _).trans (hostKt_real ρ H _ _ _))
  o0 i d h := by
    unfold iblk1; blk_simp [entryO ρ H]
    refine outArr_at _ _ _ _ _ ?_ ?_ h
    · blk_simp [idx1 t, row]
    · blk_simp [idx1 t, hd]; dsimp only; omega
  o1 i d h := by
    unfold iblk1; blk_simp [entryO ρ H]
    refine outArr_at _ _ _ _ _ ?_ ?_ h
    · blk_simp [idx1 t, row]
    · blk_simp [idx1 t, hd]; dsimp only; omega
  c0 i d h := by
    unfold iblk1; blk_simp
    refine hostC_real ρ H _ _ _ _ ?_ ?_ h
    · blk_simp [idx1 t, row]
    · blk_simp [idx1 t, hd]; dsimp only; omega
  c1 i d h := by
    unfold iblk1; blk_simp
    refine hostC_real ρ H _ _ _ _ ?_ ?_ h
    · blk_simp [idx1 t, row]
    · blk_simp [idx1 t, hd]; dsimp only; omega
  l b i := by
    unfold iblk1; blk_simp [entryL ρ H]
    refine lseArr_at _ _ _ _ ?_ ?_
    · blk_simp [idx1 t, hd]
    · blk_simp [idx1 t, row]

/-- The three gradients as arrays. -/
def dqArr (X : Data) : FVec Ideal S8x4096x128 .f32 := fun j => ((X.dq (j 0) (j 1).val (j 2) : ℝ) : EReal)
def dkArr (X : Data) : FVec Ideal S8x4352x128 .f32 := fun j => ((X.dk (j 0) (j 1).val (j 2) : ℝ) : EReal)
def dvArr (X : Data) : FVec Ideal S8x4352x128 .f32 := fun j => ((X.dv (j 0) (j 1).val (j 2) : ℝ) : EReal)

theorem final7 {c : Dev nD} (H : ArgReal m c) : (dat1 (V11 m ρ) c).arrAt 7 cfg1.N = dqArr (argData m c) := by
  refine (dat1 (V11 m ρ) c).arrAt_eq_of_covers 7 _ (by decide +kernel) fun t _ y => ?_
  blk_simp
  rw [after1_7]
  have e0 : hd t (y 0) = (win1_7.blk t).view.emb y 0 := Fin.ext (by blk_simp [idx1 t, hd])
  have e1 : row t + (y 1).val = ((win1_7.blk t).view.emb y 1).val := by blk_simp [idx1 t, row]
  have e2 : y 2 = (win1_7.blk t).view.emb y 2 := Fin.ext (by blk_simp [idx1 t])
  have e : (outsAt1 (V11 m ρ) c t.val t.isLt).1 y = (((argData m c).dq (hd t (y 0)) (row t + (y 1).val) (y 2) : ℝ) : EReal) := by
    by_cases h : t.val % 8 = 0
    · exact stepA7 (V11 m ρ) c t (blk ρ H t) h y
    · exact stepB7 (V11 m ρ) c t (blk ρ H t) h y
  refine e.trans ?_
  rw [e0, e1, e2]; rfl

theorem final8 {c : Dev nD} (H : ArgReal m c) : (dat1 (V11 m ρ) c).arrAt 8 cfg1.N = dkArr (argData m c) := by
  refine (dat1 (V11 m ρ) c).arrAt_eq_of_covers 8 _ (by decide +kernel) fun t hf y => ?_
  blk_simp
  have e0 : hd t (y 0) = (win1_8.blk t).view.emb y 0 := Fin.ext (by blk_simp [idx1 t, hd])
  have e1 : (y 1).val = ((win1_8.blk t).view.emb y 1).val := by blk_simp [idx1 t]
  have e2 : y 2 = (win1_8.blk t).view.emb y 2 := Fin.ext (by blk_simp [idx1 t])
  rw [after1_8, Pipeline.eq_sum_fin_of_reset_step_apply_of_flush (fun n h => (outsAt1 (V11 m ρ) c n h).2.1) 8 (fun _ => 0)
    (fun s y => ((dkTerm (argData m c) (hd s) (row s) y : ℝ) : EReal)) (fun s h i => stepA8 (V11 m ρ) c s (blk ρ H s) h i)
    (fun s h i => stepB8 (V11 m ρ) c s (blk ρ H s) h i) t ((flush1_8 t).mp hf) y, zero_add, RealCoe.sum]
  refine congrArg Real.toEReal ?_
  refine Fin.sum_mul_add_congr (fun s k hl => ?_)
  have hs := s.isLt
  have h0 : hd ⟨8 * (t.val / 8) + s.val, Pipeline.run_point_lt_of_flush t ((flush1_8 t).mp hf) s⟩ (y 0) = (win1_8.blk t).view.emb y 0 := by
    rw [← e0]; exact Fin.ext (by simp only [hd]; omega)
  have h1 : row ⟨8 * (t.val / 8) + s.val, Pipeline.run_point_lt_of_flush t ((flush1_8 t).mp hf) s⟩ = s.val * 512 := by simp only [row]; omega
  rw [h0, h1, e1, e2]

theorem final9 {c : Dev nD} (H : ArgReal m c) : (dat1 (V11 m ρ) c).arrAt 9 cfg1.N = dvArr (argData m c) := by
  refine (dat1 (V11 m ρ) c).arrAt_eq_of_covers 9 _ (by decide +kernel) fun t hf y => ?_
  blk_simp
  have e0 : hd t (y 0) = (win1_9.blk t).view.emb y 0 := Fin.ext (by blk_simp [idx1 t, hd])
  have e1 : (y 1).val = ((win1_9.blk t).view.emb y 1).val := by blk_simp [idx1 t]
  have e2 : y 2 = (win1_9.blk t).view.emb y 2 := Fin.ext (by blk_simp [idx1 t])
  rw [after1_9, Pipeline.eq_sum_fin_of_reset_step_apply_of_flush (fun n h => (outsAt1 (V11 m ρ) c n h).2.2) 8 (fun _ => 0)
    (fun s y => ((dvTerm (argData m c) (hd s) (row s) y : ℝ) : EReal)) (fun s h i => stepA9 (V11 m ρ) c s (blk ρ H s) h i)
    (fun s h i => stepB9 (V11 m ρ) c s (blk ρ H s) h i) t ((flush1_9 t).mp hf) y, zero_add, RealCoe.sum]
  refine congrArg Real.toEReal ?_
  refine Fin.sum_mul_add_congr (fun s k hl => ?_)
  have hs := s.isLt
  have h0 : hd ⟨8 * (t.val / 8) + s.val, Pipeline.run_point_lt_of_flush t ((flush1_9 t).mp hf) s⟩ (y 0) = (win1_9.blk t).view.emb y 0 := by
    rw [← e0]; exact Fin.ext (by simp only [hd]; omega)
  have h1 : row ⟨8 * (t.val / 8) + s.val, Pipeline.run_point_lt_of_flush t ((flush1_9 t).mp hf) s⟩ = s.val * 512 := by simp only [row]; omega
  rw [h0, h1, e1, e2]

end Cert.AttnIdeal.Bwd
-- ==== Proof.Attn.Run.lean ====
/-
  The two attention calls' run with its results: the launch of the generated frame, read at the four result arrays.
-/
module

public import proofs.«01_k».proof.Proof.Attn.BwdFinal
public import proofs.«01_k».proof.Proof.Gen.AttnIdeal.Frame

@[expose] public section

set_option maxRecDepth 16384

noncomputable section

namespace Cert.AttnIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen Cert.AttnIdeal.Fwd Cert.AttnSpec

local notation "𝕄" => MT nD τ sig Unit (Elt Ideal) ℕ (UR sig nD τ) ℕ

variable {m : (ℓ : Loc nD τ sig) → Buf (Elt Ideal) ℓ} (ρ : Dev nD → PrngReg)

/-- The four results where the run leaves them. -/
theorem resO {c : Dev nD} (H : ArgReal m c) : W12 m ρ c main_v18_0 = outArr (argData m c) :=
  (W12_of m ρ c main_v18_0 (by decide)).trans ((W11_of m ρ c main_v18_0 (by decide)).trans ((W10_arr m ρ c 3).trans (final3 ρ H)))
theorem resQ {c : Dev nD} (H : ArgReal m c) : W12 m ρ c main_v21_0 = dqArr (argData m c) := (W12_arr m ρ c 7).trans (final7 ρ H)
theorem resK {c : Dev nD} (H : ArgReal m c) : W12 m ρ c main_v21_1 = dkArr (argData m c) := (W12_arr m ρ c 8).trans (final8 ρ H)
theorem resV {c : Dev nD} (H : ArgReal m c) : W12 m ρ c main_v21_2 = dvArr (argData m c) := (W12_arr m ρ c 9).trans (final9 ρ H)

-- the launch's implicit arguments are found by unifying its conclusion with this one
set_option backward.isDefEq.respectTransparency.types false in
/-- From arguments whose entries are real numbers the program ends with the attention and its three gradients, the arguments kept. -/
theorem run (H : ∀ c, ArgReal m c) : θ_run defs (onTc (τ := τ) (main (F := Ideal))) ⟨m, fun _ => 0, ρ⟩ (fun r => ∀ c : Dev nD,
      r.2.mem ((c.tc : Thread nD τ).loc main_v18_0) = outArr (argData m c)
      ∧ r.2.mem ((c.tc : Thread nD τ).loc main_v21_0) = dqArr (argData m c)
      ∧ r.2.mem ((c.tc : Thread nD τ).loc main_v21_1) = dkArr (argData m c)
      ∧ r.2.mem ((c.tc : Thread nD τ).loc main_v21_2) = dvArr (argData m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz c =>
      ⟨(h c _ (mem_uc main_v18_0 (by decide))).trans (resO ρ (H c)),
       (h c _ (mem_uc main_v21_0 (by decide))).trans (resQ ρ (H c)),
       (h c _ (mem_uc main_v21_1 (by decide))).trans (resK ρ (H c)),
       (h c _ (mem_uc main_v21_2 (by decide))).trans (resV ρ (H c)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c)⟩)

end Cert.AttnIdeal.Bwd
-- ==== Proof.Attn.RefOps.lean ====
/-
  The reference's arrays by name: the scores, their greatest, the weights, their sums, the gradients. The reference's four
  results are these terms.
-/
module

public import proofs.«01_k».proof.Proof.Gen.AttnRefIdeal.Run

@[expose] public section

set_option maxRecDepth 16384

noncomputable section

namespace Cert.AttnRefIdeal.Named

open Idealize.ShloMosaic Idealize.ShloMosaic.TcCoe Idealize.SL.Sem Cert.AttnRefIdeal Cert.AttnRefIdeal.Gen

section Ops
variable {F : FTy → Type} [FloatOps F]

abbrev rows (Q : FVec F S1x4096x8x96 .f32) : FVec F S4096x8x96 .f32 := shapeCast _ Q shapeCasts_S1x4096x8x96_S4096x8x96
abbrev keys (K : FVec F S1x4352x8x96 .f32) : FVec F S4352x8x96 .f32 := shapeCast _ K shapeCasts_S1x4352x8x96_S4352x8x96
abbrev vals (V : FVec F S1x4352x8x64 .f32) : FVec F S4352x8x64 .f32 := shapeCast _ V shapeCasts_S1x4352x8x64_S4352x8x64
abbrev scaleAll : FVec F S8x4096x4352 .f32 := broadcastInDim S8x4096x4352 ![] bcast_S_S8x4096x4352 (constant S_ .f32 0x3DD105EC#32)

/-- The scores of every query against every key. -/
def score (Q : FVec F S1x4096x8x96 .f32) (K : FVec F S1x4352x8x96 .f32) : FVec F S8x4096x4352 .f32 :=
  mulf (Host.dotGeneral dot_S4096x8x96_S4352x8x96_S8x4096x4352_2_2_0_0_1_1 none (rows Q) (keys K)) scaleAll

/-- A query's greatest score. -/
def greatest (s : FVec F S8x4096x4352 .f32) : FVec F S8x4096 .f32 :=
  maximumf (broadcastInDim S8x4096 ![] bcast_S_S8x4096 (constant S_ .f32 0xFF800000#32))
    (Host.reduce FloatOps.maximumf s (constant S_ .f32 0xFF800000#32) reducesTo_S8x4096x4352_S8x4096_d2 h_S_)

/-- A number of every query copied along its keys. -/
abbrev along (x : FVec F S8x4096x1 .f32) : FVec F S8x4096x4352 .f32 :=
  broadcastInDim S8x4096x4352 ![0, 1, 2] bcast_S8x4096x1_S8x4096x4352_0_1_2 x
abbrev col (x : FVec F S8x4096 .f32) : FVec F S8x4096x1 .f32 := broadcastInDim S8x4096x1 ![0, 1] bcast_S8x4096_S8x4096x1_0_1 x
abbrev sumKeys (x : FVec F S8x4096x4352 .f32) : FVec F S8x4096 .f32 :=
  Host.reduceAdd x (constant S_ .f32 0x00000000#32) reducesTo_S8x4096x4352_S8x4096_d2 h_S_

/-- The weights before they are divided by their sum, the sums, and the weights. -/
def raw (s : FVec F S8x4096x4352 .f32) : FVec F S8x4096x4352 .f32 := Host.exp (subf s (along (col (greatest s))))
def total (e : FVec F S8x4096x4352 .f32) : FVec F S8x4096x1 .f32 := col (sumKeys e)
def weight (e : FVec F S8x4096x4352 .f32) : FVec F S8x4096x4352 .f32 := Host.divf e (along (total e))

/-- The incoming gradient by heads, and the gradient of the weights. -/
def heads (C : FVec F S1x4096x512 .f32) : FVec F S8x64x4096 .f32 :=
  transpose S8x64x4096 [1, 2, 0] (shapeCast _ C shapeCasts_S1x4096x512_S4096x8x64) transposes_S4096x8x64_S8x64x4096_1_2_0
def dweight (V : FVec F S1x4352x8x64 .f32) (C : FVec F S1x4096x512 .f32) : FVec F S8x4096x4352 .f32 :=
  Host.dotGeneral dot_S8x64x4096_S4352x8x64_S8x4096x4352_1_2_2_0_0_1 none (heads C) (vals V)

/-- One over the squared sums, and what a query's scores have in common. -/
def inv (l : FVec F S8x4096x1 .f32) : FVec F S8x4096x1 .f32 :=
  Host.divf (broadcastInDim S8x4096x1 ![] bcast_S_S8x4096x1 (constant S_ .f32 0x3F800000#32)) (mulf l l)
def common (e g : FVec F S8x4096x4352 .f32) : FVec F S8x4096 .f32 :=
  Host.reduceAdd (Host.negf (shapeCast _ (sumKeys (mulf (mulf g (along (inv (total e)))) e)) shapeCasts_S8x4096_S8x4096x1))
    (constant S_ .f32 0x00000000#32) reducesTo_S8x4096x1_S8x4096_d2 h_S_

/-- The gradient of the products of queries and keys. -/
def dscore (e g : FVec F S8x4096x4352 .f32) : FVec F S8x4096x4352 .f32 :=
  mulf (mulf (addf (Host.divf g (along (total e))) (broadcastInDim S8x4096x4352 ![0, 1] bcast_S8x4096_S8x4096x4352_0_1 (common e g))) e) scaleAll

/-- The four results. -/
def refO (V : FVec F S1x4352x8x64 .f32) (p : FVec F S8x4096x4352 .f32) : FVec F S4096x512 .bf16 :=
  truncf .bf16 (shapeCast _ (shapeCast _ (transpose S4096x8x64 [2, 0, 1] (Host.dotGeneral dot_S4352x8x64_S8x4096x4352_S8x64x4096_0_2_2_1_1_0 none (vals V) p)
    transposes_S8x64x4096_S4096x8x64_2_0_1) shapeCasts_S4096x8x64_S1x4096x512) shapeCasts_S1x4096x512_S4096x512) bitsLt_bf16_f32
def refQ (d : FVec F S8x4096x4352 .f32) (K : FVec F S1x4352x8x96 .f32) : FVec F S8x4096x128 .f32 :=
  pad S8x4096x128 ![0, 0, 0] ![0, 0, 32] ![0, 0, 0] (transpose S8x4096x96 [1, 0, 2] (shapeCast _ (broadcastInDim S1x4096x8x96 ![1, 2, 3] bcast_S4096x8x96_S1x4096x8x96_1_2_3
    (transpose S4096x8x96 [1, 0, 2] (Host.dotGeneral dot_S8x4096x4352_S4352x8x96_S8x4096x96_2_0_1_2_0_1 none d (keys K)) transposes_S8x4096x96_S4096x8x96_1_0_2))
    shapeCasts_S1x4096x8x96_S4096x8x96) transposes_S4096x8x96_S8x4096x96_1_0_2) (sitofp .f32 (constantI S_ 32 0#32)) pads_S8x4096x96_S8x4096x128_000_000_0320 h_S_
def refK (d : FVec F S8x4096x4352 .f32) (Q : FVec F S1x4096x8x96 .f32) : FVec F S8x4352x128 .f32 :=
  pad S8x4352x128 ![0, 0, 0] ![0, 0, 32] ![0, 0, 0] (transpose S8x4352x96 [1, 0, 2] (shapeCast _ (broadcastInDim S1x4352x8x96 ![1, 2, 3] bcast_S4352x8x96_S1x4352x8x96_1_2_3
    (transpose S4352x8x96 [1, 0, 2] (Host.dotGeneral dot_S8x4096x4352_S4096x8x96_S8x4352x96_1_0_2_2_0_1 none d (rows Q)) transposes_S8x4352x96_S4352x8x96_1_0_2))
    shapeCasts_S1x4352x8x96_S4352x8x96) transposes_S4352x8x96_S8x4352x96_1_0_2) (sitofp .f32 (constantI S_ 32 0#32)) pads_S8x4352x96_S8x4352x128_000_000_0320 h_S_
def refV (p : FVec F S8x4096x4352 .f32) (C : FVec F S1x4096x512 .f32) : FVec F S8x4352x128 .f32 :=
  pad S8x4352x128 ![0, 0, 0] ![0, 0, 64] ![0, 0, 0] (transpose S8x4352x64 [1, 0, 2] (shapeCast _ (broadcastInDim S1x4352x8x64 ![1, 2, 3] bcast_S4352x8x64_S1x4352x8x64_1_2_3
    (transpose S4352x8x64 [2, 0, 1] (Host.dotGeneral dot_S8x64x4096_S8x4096x4352_S8x64x4352_2_1_1_2_0_0 none (heads C) p) transposes_S8x64x4352_S4352x8x64_2_0_1))
    shapeCasts_S1x4352x8x64_S4352x8x64) transposes_S4352x8x64_S8x4352x64_1_0_2) (sitofp .f32 (constantI S_ 32 0#32)) pads_S8x4352x64_S8x4352x128_000_000_0640 h_S_

variable (m : (ℓ : Loc nD τ sig) → Buf (Elt F) ℓ) (ρ : Dev nD → PrngReg)

abbrev argQ (c : Dev nD) : FVec F S1x4096x8x96 .f32 := m ((c : Thread nD τ).loc main_arg0)
abbrev argK (c : Dev nD) : FVec F S1x4352x8x96 .f32 := m ((c : Thread nD τ).loc main_arg1)
abbrev argV (c : Dev nD) : FVec F S1x4352x8x64 .f32 := m ((c : Thread nD τ).loc main_arg2)
abbrev argC (c : Dev nD) : FVec F S1x4096x512 .f32 := m ((c : Thread nD τ).loc main_arg3)

/-- Every execution ends with the four results at these terms and the arguments as they were. -/
theorem run : θ_run defs (onTc (τ := τ) (main (F := F))) ⟨m, fun _ => 0, ρ⟩ fun r => ∀ c : Dev nD,
      r.2.mem ((c.tc : Thread nD τ).loc main_v73) = refO (argV m c) (weight (raw (score (argQ m c) (argK m c))))
      ∧ r.2.mem ((c.tc : Thread nD τ).loc main_v65) = refQ (dscore (raw (score (argQ m c) (argK m c))) (dweight (argV m c) (argC m c))) (argK m c)
      ∧ r.2.mem ((c.tc : Thread nD τ).loc main_v68) = refK (dscore (raw (score (argQ m c) (argK m c))) (dweight (argV m c) (argC m c))) (argQ m c)
      ∧ r.2.mem ((c.tc : Thread nD τ).loc main_v71) = refV (weight (raw (score (argQ m c) (argK m c)))) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Ops

end Cert.AttnRefIdeal.Named
-- ==== Proof.Attn.RefValue.lean ====
/-
  The reference's arrays over the real numbers, entry by entry.
-/
module

public import proofs.«01_k».proof.Proof.Attn.RefOps
public import proofs.«01_k».proof.Proof.Attn.Spec
public import proofs.«01_k».proof.Proof.Attn.FwdRead
public import proofs.«01_k».proof.Proof.Attn.Host
public import Idealize.ShloMosaic.Lib.Pipeline.ValueKit

@[expose] public section

set_option maxRecDepth 16384

noncomputable section

namespace Cert.AttnRefIdeal.Named

open Idealize.ShloMosaic Idealize.ShloMosaic.TcCoe Idealize.SL.Sem Cert.AttnRefIdeal Cert.AttnRefIdeal.Gen Cert.AttnSpec Cert.AttnIdeal.Fwd

/-! ## The terms at an index -/

variable {Q : FVec Ideal S1x4096x8x96 .f32} {K : FVec Ideal S1x4352x8x96 .f32} {V : FVec Ideal S1x4352x8x64 .f32} {C : FVec Ideal S1x4096x512 .f32}

theorem score_apply (h : Fin 8) (i : Fin 4096) (t : Fin 4352) :
    score Q K (ix3 h i t) = (∑ e : Fin 96, Q (ix4 0 i h e) * K (ix4 0 t h e)) * ((σ : ℝ) : EReal) := by
  pointwise [score]
  rw [scale_lit]

theorem raw_apply (s : FVec Ideal S8x4096x4352 .f32) (h : Fin 8) (i : Fin 4096) (t : Fin 4352) :
    raw s (ix3 h i t) = Ideal.exp (s (ix3 h i t) - greatest s (ix2 h i)) := by
  pointwise [raw]

theorem total_apply (e : FVec Ideal S8x4096x4352 .f32) (h : Fin 8) (i : Fin 4096) :
    total e (ix3 h i 0) = ∑ t : Fin 4352, e (ix3 h i t) := by
  pointwise [total]

theorem weight_apply (e : FVec Ideal S8x4096x4352 .f32) (h : Fin 8) (i : Fin 4096) (t : Fin 4352) :
    weight e (ix3 h i t) = Ideal.div (e (ix3 h i t)) (total e (ix3 h i 0)) := by
  pointwise [weight]

theorem heads_apply (h : Fin 8) (d : Fin 64) (i : Fin 4096) :
    heads C (ix3 h d i) = C (ix3 0 i ⟨h.val * 64 + d.val, by omega⟩) := by
  pointwise [heads]

theorem dweight_apply (h : Fin 8) (i : Fin 4096) (t : Fin 4352) :
    dweight V C (ix3 h i t) = ∑ d : Fin 64, heads C (ix3 h d i) * V (ix4 0 t h d) := by
  pointwise [dweight]

theorem inv_apply (l : FVec Ideal S8x4096x1 .f32) (h : Fin 8) (i : Fin 4096) :
    inv l (ix3 h i 0) = Ideal.div 1 (l (ix3 h i 0) * l (ix3 h i 0)) := by
  pointwise [inv]

theorem common_apply (e g : FVec Ideal S8x4096x4352 .f32) (h : Fin 8) (i : Fin 4096) :
    common e g (ix2 h i) = -∑ t : Fin 4352, g (ix3 h i t) * inv (total e) (ix3 h i 0) * e (ix3 h i t) := by
  pointwise [common]
  rw [Fin.sum_univ_one]

theorem dscore_apply (e g : FVec Ideal S8x4096x4352 .f32) (h : Fin 8) (i : Fin 4096) (t : Fin 4352) :
    dscore e g (ix3 h i t) = (Ideal.div (g (ix3 h i t)) (total e (ix3 h i 0)) + common e g (ix2 h i)) * e (ix3 h i t) * ((σ : ℝ) : EReal) := by
  pointwise [dscore]
  rw [scale_lit]

theorem refO_apply (p : FVec Ideal S8x4096x4352 .f32) (i : Fin 4096) (l : Fin 512) :
    refO V p (ix2 i l) = ∑ t : Fin 4352, V (ix4 0 t ⟨l.val / 64, by omega⟩ ⟨l.val % 64, by omega⟩) * p (ix3 ⟨l.val / 64, by omega⟩ i t) := by
  pointwise [refO]

theorem refQ_apply (d : FVec Ideal S8x4096x4352 .f32) (h : Fin 8) (i : Fin 4096) (e : Fin 128) :
    refQ d K (ix3 h i e) = if he : e.val < 96 then ∑ t : Fin 4352, d (ix3 h i t) * K (ix4 0 t h ⟨e.val, he⟩) else 0 := by
  pointwise [refQ]
  rw [sitofp_zero]

theorem refK_apply (d : FVec Ideal S8x4096x4352 .f32) (h : Fin 8) (t : Fin 4352) (e : Fin 128) :
    refK d Q (ix3 h t e) = if he : e.val < 96 then ∑ i : Fin 4096, d (ix3 h i t) * Q (ix4 0 i h ⟨e.val, he⟩) else 0 := by
  pointwise [refK]
  rw [sitofp_zero]

theorem refV_apply (p : FVec Ideal S8x4096x4352 .f32) (h : Fin 8) (t : Fin 4352) (d : Fin 128) :
    refV p C (ix3 h t d) = if hd : d.val < 64 then ∑ i : Fin 4096, heads C (ix3 h ⟨d.val, hd⟩ i) * p (ix3 h i t) else 0 := by
  pointwise [refV]
  rw [sitofp_zero]

/-- The maximum over the last axis of reals is a real. -/
theorem max_real {n0 n1 n2 : ℕ} {t u : Shape} (hn : 0 < n2) (h : (⟨3, ![n0, n1, n2]⟩ : Shape).ReducesTo [2] t) (hu : 0 < u.numel)
    (s : FVec Ideal ⟨3, ![n0, n1, n2]⟩ .f32) (f : (⟨3, ![n0, n1, n2]⟩ : Shape).Idx → ℝ) (hs : ∀ i, s i = (f i : EReal)) (c : FVec Ideal u .f32) (hc : ∀ i, c i = (⊥ : EReal)) (j : t.Idx) :
    ∃ M : ℝ, Host.reduce FloatOps.maximumf s c h hu j = (M : EReal) := by
  obtain rfl : s = fun i => (f i : EReal) := funext hs
  simp only [pointwise]
  rw [hc]
  haveI : Nonempty (Fin n2) := ⟨⟨0, hn⟩⟩
  exact RealCoe.fold_max _ Finset.univ_nonempty _

/-- A maximum at an index, and a query's greatest score. -/
theorem maximumf_at {u : Shape} (a b : FVec Ideal u .f32) (j : u.Idx) : maximumf a b j = max (a j) (b j) := rfl

theorem greatest_real (s : FVec Ideal S8x4096x4352 .f32) (f : S8x4096x4352.Idx → ℝ) (hs : ∀ i, s i = (f i : EReal)) (j : S8x4096.Idx) :
    ∃ M : ℝ, greatest s j = (M : EReal) := by
  obtain ⟨M, hM⟩ := max_real (by omega) reducesTo_S8x4096x4352_S8x4096_d2 h_S_ s f hs (constant S_ .f32 0xFF800000#32) (fun _ => neg_inf) j
  refine ⟨M, ?_⟩
  unfold greatest
  rw [maximumf_at, hM]
  have e : broadcastInDim S8x4096 ![] bcast_S_S8x4096 (constant (F := Ideal) S_ .f32 0xFF800000#32) j = (⊥ : EReal) := neg_inf
  rw [e]
  exact max_eq_right bot_le

/-! ## Over the reals -/

/-- Lanes past the columns of a head add nothing. -/
theorem sum_lanes {n k : ℕ} (f : Fin (n + k) → ℝ) (hz : ∀ e : Fin (n + k), n ≤ e.val → f e = 0) :
    ∑ e : Fin n, f (e.castAdd k) = ∑ e : Fin (n + k), f e := by
  rw [Fin.sum_univ_add, Finset.sum_eq_zero (s := Finset.univ) (f := fun i : Fin k => f (Fin.natAdd n i)) (fun e _ => hz _ (by simp)), add_zero]

variable (H : Real Q K V C)
include H

theorem q_real (i : Fin 4096) (h : Fin 8) (e : Fin 96) : Q (ix4 0 i h e) = (((ofArrays Q K V C).q h i (e.castAdd 32) : ℝ) : EReal) := by
  simp only [ofArrays, Fin.val_castAdd, dif_pos (And.intro e.isLt i.isLt)]; exact (coe_toReal (H.q i h e)).symm
theorem k_real (t : Fin 4352) (h : Fin 8) (e : Fin 96) : K (ix4 0 t h e) = (((ofArrays Q K V C).k h t (e.castAdd 32) : ℝ) : EReal) := by
  simp only [ofArrays, Fin.val_castAdd, dif_pos (And.intro e.isLt t.isLt)]; exact (coe_toReal (H.k t h e)).symm
theorem v_real (t : Fin 4352) (h : Fin 8) (d : Fin 64) : V (ix4 0 t h d) = (((ofArrays Q K V C).v h t (d.castAdd 64) : ℝ) : EReal) := by
  simp only [ofArrays, Fin.val_castAdd, dif_pos (And.intro d.isLt t.isLt)]; exact (coe_toReal (H.v t h d)).symm
theorem c_real (h : Fin 8) (d : Fin 64) (i : Fin 4096) : heads C (ix3 h d i) = (((ofArrays Q K V C).c h i (d.castAdd 64) : ℝ) : EReal) := by
  have e1 : (⟨64 * h.val + d.val, by omega⟩ : Fin 512) = ⟨h.val * 64 + d.val, by omega⟩ := Fin.ext (by simp only; omega)
  rw [heads_apply]
  simp only [Data.c, ofArrays, Fin.val_castAdd, dif_pos d.isLt, dif_pos i.isLt, e1]; exact (coe_toReal (H.ct i _)).symm

theorem score_real (h : Fin 8) (i : Fin 4096) (t : Fin 4352) :
    score Q K (ix3 h i t) = ((σ * ∑ e, (ofArrays Q K V C).q h i e * (ofArrays Q K V C).k h t e : ℝ) : EReal) := by
  rw [score_apply]
  simp only [q_real H, k_real H, ← EReal.coe_mul, RealCoe.sum]
  rw [mul_comm, sum_lanes (n := 96) (k := 32) (fun e => (ofArrays Q K V C).q h i e * (ofArrays Q K V C).k h t e)]
  intro e he
  simp [ofArrays, not_lt.mpr he]

/-- The weights before the division, up to the factor that the greatest score takes out. -/
theorem raw_real (h : Fin 8) (i : Fin 4096) : ∃ M : ℝ, ∀ t : Fin 4352, raw (score Q K) (ix3 h i t)
    = ((Real.exp (σ * ∑ e, (ofArrays Q K V C).q h i e * (ofArrays Q K V C).k h t e) * Real.exp (-M) : ℝ) : EReal) := by
  obtain ⟨M, hM⟩ := greatest_real (score Q K) (fun j => σ * ∑ e, (ofArrays Q K V C).q (j 0) (j 1).val e * (ofArrays Q K V C).k (j 0) (j 2).val e)
    (fun j => by
      have hj : j = ix3 (j 0) (j 1) (j 2) := by funext a; fin_cases a <;> rfl
      exact (congrArg _ hj).trans (score_real H _ _ _)) (ix2 h i)
  refine ⟨M, fun t => ?_⟩
  rw [raw_apply, hM, score_real H, ← EReal.coe_sub, RealCoe.exp, sub_eq_add_neg, Real.exp_add]

/-- The sums of the weights, and the weights. -/
theorem parts_real (h : Fin 8) (i : Fin 4096) : ∃ M : ℝ, 0 < M ∧ (∀ t : Fin 4352, raw (score Q K) (ix3 h i t)
      = (((ofArrays Q K V C).p h i t * M : ℝ) : EReal)) ∧ total (raw (score Q K)) (ix3 h i 0) = (M : EReal) := by
  obtain ⟨M, hM⟩ := raw_real H h i
  have hz := Z_pos ((ofArrays Q K V C).q h i) ((ofArrays Q K V C).k h)
  refine ⟨Z ((ofArrays Q K V C).q h i) ((ofArrays Q K V C).k h) * Real.exp (-M), mul_pos hz (Real.exp_pos _), fun t => ?_, ?_⟩
  · rw [hM]
    refine congrArg Real.toEReal ?_
    simp only [Data.p]
    field_simp
  · rw [total_apply]
    simp only [hM, RealCoe.sum]
    rw [← Finset.sum_mul]; rfl

theorem weight_real (h : Fin 8) (i : Fin 4096) (t : Fin 4352) :
    weight (raw (score Q K)) (ix3 h i t) = (((ofArrays Q K V C).p h i t : ℝ) : EReal) := by
  obtain ⟨M, hp, hr, ht⟩ := parts_real H h i
  rw [weight_apply, hr, ht, RealCoe.div _ hp.ne', mul_div_cancel_right₀ _ hp.ne']

theorem dweight_real (h : Fin 8) (i : Fin 4096) (t : Fin 4352) :
    dweight V C (ix3 h i t) = (((ofArrays Q K V C).dp h i t : ℝ) : EReal) := by
  rw [dweight_apply]
  simp only [c_real H, v_real H, ← EReal.coe_mul, RealCoe.sum]
  refine congrArg Real.toEReal ?_
  rw [Data.dp, ← sum_lanes (n := 64) (k := 64)]
  · exact Finset.sum_congr rfl fun d _ => mul_comm _ _
  · intro e he
    simp [Data.c, not_lt.mpr he]

omit H in
/-- The mean of the weights' gradients over the keys is the result's product with its gradient. -/
theorem mean (X : Data) (h : Fin 8) (i : ℕ) : ∑ t : Fin 4352, X.dp h i t * X.p h i t = X.delta h i := by
  simp only [Data.dp, Data.delta, Data.o, Finset.sum_mul]
  rw [Finset.sum_comm]
  exact Finset.sum_congr rfl fun d _ => Finset.sum_congr rfl fun t _ => by ring

theorem dscore_real (h : Fin 8) (i : Fin 4096) (t : Fin 4352) :
    dscore (raw (score Q K)) (dweight V C) (ix3 h i t) = (((ofArrays Q K V C).ds h i t * σ : ℝ) : EReal) := by
  obtain ⟨M, hp, hr, ht⟩ := parts_real H h i
  have h2 : M * M ≠ 0 := mul_ne_zero hp.ne' hp.ne'
  rw [dscore_apply, common_apply, inv_apply, ht, ← EReal.coe_mul, show (1 : EReal) = ((1 : ℝ) : EReal) from rfl, RealCoe.div _ h2]
  simp only [hr, dweight_real H, ← EReal.coe_mul, RealCoe.sum, ← EReal.coe_neg, RealCoe.div _ hp.ne', ← EReal.coe_add]
  refine congrArg Real.toEReal ?_
  have e : ∑ s : Fin 4352, (ofArrays Q K V C).dp h i s * (1 / (M * M)) * ((ofArrays Q K V C).p h i s * M) = (ofArrays Q K V C).delta h i / M := by
    rw [← mean, Finset.sum_div]
    exact Finset.sum_congr rfl fun s _ => by field_simp
  rw [e, Data.ds]
  field_simp
  ring

/-! ## The results -/

theorem refO_real (i : Fin 4096) (l : Fin 512) : refO V (weight (raw (score Q K))) (ix2 i l)
    = (((ofArrays Q K V C).o ⟨l.val / 64, by omega⟩ i ⟨l.val % 64, by omega⟩ : ℝ) : EReal) := by
  rw [refO_apply]
  simp only [v_real H, weight_real H, ← EReal.coe_mul, RealCoe.sum]
  exact congrArg Real.toEReal (Finset.sum_congr rfl fun t _ => mul_comm _ _)

theorem refQ_real (h : Fin 8) (i : Fin 4096) (e : Fin 128) : refQ (dscore (raw (score Q K)) (dweight V C)) K (ix3 h i e)
    = (((ofArrays Q K V C).dq h i e : ℝ) : EReal) := by
  rw [refQ_apply, Data.dq, Finset.sum_mul]
  by_cases he : e.val < 96
  · rw [dif_pos he]
    simp only [k_real H, dscore_real H, ← EReal.coe_mul, RealCoe.sum]
    exact congrArg Real.toEReal (Finset.sum_congr rfl fun t _ => by rw [show Fin.castAdd 32 (⟨e.val, he⟩ : Fin 96) = e from rfl]; ring)
  · rw [dif_neg he]
    simp [ofArrays, he]

theorem refK_real (h : Fin 8) (t : Fin 4352) (e : Fin 128) : refK (dscore (raw (score Q K)) (dweight V C)) Q (ix3 h t e)
    = (((ofArrays Q K V C).dk h t e : ℝ) : EReal) := by
  rw [refK_apply, Data.dk]
  by_cases he : e.val < 96
  · rw [dif_pos he]
    simp only [q_real H, dscore_real H, ← EReal.coe_mul, RealCoe.sum]
    exact congrArg Real.toEReal (Finset.sum_congr rfl fun i _ => by rw [show Fin.castAdd 32 (⟨e.val, he⟩ : Fin 96) = e from rfl]; ring)
  · rw [dif_neg he]
    simp [ofArrays, he]

theorem refV_real (h : Fin 8) (t : Fin 4352) (d : Fin 128) : refV (weight (raw (score Q K))) C (ix3 h t d)
    = (((ofArrays Q K V C).dv h t d : ℝ) : EReal) := by
  rw [refV_apply, Data.dv]
  by_cases hd : d.val < 64
  · rw [dif_pos hd]
    simp only [c_real H, weight_real H, ← EReal.coe_mul, RealCoe.sum]
    exact congrArg Real.toEReal (Finset.sum_congr rfl fun i _ => by rw [show Fin.castAdd 64 (⟨d.val, hd⟩ : Fin 64) = d from rfl]; ring)
  · rw [dif_neg hd]
    simp [Data.c, hd]

end Cert.AttnRefIdeal.Named
-- ==== Proof.Attn.Equal.lean ====
/-
  The attention's value claim: finite arguments are real numbers, and from equal real arguments the two calls and the
  reference end with the same four arrays.
-/
module

public import proofs.«01_k».proof.Defs
public import proofs.«01_k».proof.Proof.Attn.Run
public import proofs.«01_k».proof.Proof.Attn.RefValue

@[expose] public section

set_option maxRecDepth 16384

noncomputable section

namespace Cert.AttnIdeal.Bwd

open Idealize.SL.Sem Idealize.ShloMosaic Idealize.ShloMosaic.TcCoe Cert.AttnIdeal Cert.AttnIdeal.Gen Cert.AttnIdeal.Fwd Cert.AttnSpec

/-- The shape facts that the precondition's function states. -/
theorem finiteFacts : Cert.Pre_attn_finite.Facts where
  bcast_S_S1x4096x8x96 := by decide
  bcast_S_S1x4352x8x96 := by decide
  bcast_S_S1x4352x8x64 := by decide
  bcast_S_S1x4096x512 := by decide

/-- An entry whose absolute value lies below infinity is a real number. -/
theorem real_of_less {x : EReal} (h : Ideal.cmp .olt (Max.max x (-x)) (Ideal.ofBits .f32 0x7F800000#32) = 1#1) : ∃ r : ℝ, x = (r : EReal) := by
  have top : Ideal.ofBits .f32 0x7F800000#32 = ⊤ := by simp [Ideal.ofBits, Ideal.ieee]
  refine RealCoe.exists_of_abs_lt_top ?_
  by_contra hn
  rw [top, Ideal.cmp] at h
  simp [hn] at h

/-- Finite arguments are real numbers. -/
theorem argReal_of_finite {m : (ℓ : Loc nD τ sig) → Buf (Elt Ideal) ℓ}
    (h : Cert.Pre_AttnIdeal_attn_finite (hPre_attn_finite := finiteFacts) m) (c : Dev nD) : ArgReal m c := by
  obtain ⟨h0, h1, h2, h3⟩ := h c
  constructor
  · intro i a e; exact real_of_less (congrFun h0 (ix4 0 i a e))
  · intro i a e; exact real_of_less (congrFun h1 (ix4 0 i a e))
  · intro i a e; exact real_of_less (congrFun h2 (ix4 0 i a e))
  · intro i l; exact real_of_less (congrFun h3 (ix3 0 i l))

/-- The reference's four arrays are the calls'. -/
theorem refO_eq {Q K V C} (H : AttnSpec.Real Q K V C) :
    Cert.AttnRefIdeal.Named.refO V (Cert.AttnRefIdeal.Named.weight (Cert.AttnRefIdeal.Named.raw (Cert.AttnRefIdeal.Named.score Q K))) = outArr (ofArrays Q K V C) := by
  funext j
  have hj : j = ix2 (j 0) (j 1) := by funext a; fin_cases a <;> rfl
  exact (congrArg _ hj).trans (Cert.AttnRefIdeal.Named.refO_real H (j 0) (j 1))

theorem refQ_eq {Q K V C} (H : AttnSpec.Real Q K V C) :
    Cert.AttnRefIdeal.Named.refQ (Cert.AttnRefIdeal.Named.dscore (Cert.AttnRefIdeal.Named.raw (Cert.AttnRefIdeal.Named.score Q K)) (Cert.AttnRefIdeal.Named.dweight V C)) K
      = dqArr (ofArrays Q K V C) := by
  funext j
  have hj : j = ix3 (j 0) (j 1) (j 2) := by funext a; fin_cases a <;> rfl
  exact (congrArg _ hj).trans (Cert.AttnRefIdeal.Named.refQ_real H (j 0) (j 1) (j 2))

theorem refK_eq {Q K V C} (H : AttnSpec.Real Q K V C) :
    Cert.AttnRefIdeal.Named.refK (Cert.AttnRefIdeal.Named.dscore (Cert.AttnRefIdeal.Named.raw (Cert.AttnRefIdeal.Named.score Q K)) (Cert.AttnRefIdeal.Named.dweight V C)) Q
      = dkArr (ofArrays Q K V C) := by
  funext j
  have hj : j = ix3 (j 0) (j 1) (j 2) := by funext a; fin_cases a <;> rfl
  exact (congrArg _ hj).trans (Cert.AttnRefIdeal.Named.refK_real H (j 0) (j 1) (j 2))

theorem refV_eq {Q K V C} (H : AttnSpec.Real Q K V C) :
    Cert.AttnRefIdeal.Named.refV (Cert.AttnRefIdeal.Named.weight (Cert.AttnRefIdeal.Named.raw (Cert.AttnRefIdeal.Named.score Q K))) C = dvArr (ofArrays Q K V C) := by
  funext j
  have hj : j = ix3 (j 0) (j 1) (j 2) := by funext a; fin_cases a <;> rfl
  exact (congrArg _ hj).trans (Cert.AttnRefIdeal.Named.refV_real H (j 0) (j 1) (j 2))

/-- In exact arithmetic, from equal finite arguments, the two calls and the reference end with equal results. -/
theorem value : Cert.algebraic_AttnIdeal_AttnRefIdeal_pre_attn_finite (hAttnIdeal := Cert.AttnIdeal.Gen.facts)
    (hAttnRefIdeal := Cert.AttnRefIdeal.Gen.facts) (hPre_attn_finite := finiteFacts) := by
  intro m g m' g' hfin hag
  have H : ∀ c, ArgReal m c := argReal_of_finite hfin
  refine ⟨fun c => outArr (argData m c), fun c => dqArr (argData m c), fun c => dkArr (argData m c), fun c => dvArr (argData m c), run g H, ?_⟩
  refine (θ_run Cert.AttnRefIdeal.defs _ _).mono (fun r h c => ?_) (Cert.AttnRefIdeal.Named.run (F := Ideal) m' g')
  obtain ⟨a0, a1, a2, a3⟩ := hag c
  have q : Cert.AttnRefIdeal.Named.argQ m' c = argQ m c := a0
  have k : Cert.AttnRefIdeal.Named.argK m' c = argK m c := a1
  have v : Cert.AttnRefIdeal.Named.argV m' c = argV m c := a2
  have ct : Cert.AttnRefIdeal.Named.argC m' c = argC m c := a3
  obtain ⟨r0, r1, r2, r3, rest⟩ := h c
  rw [q, k, v] at r0
  rw [q, k, v, ct] at r1 r2
  rw [q, k, ct] at r3
  exact ⟨r0.trans (refO_eq (H c)), r1.trans (refQ_eq (H c)), r2.trans (refK_eq (H c)), r3.trans (refV_eq (H c)), rest⟩

end Cert.AttnIdeal.Bwd
-- ==== Proof.Mlp.BodyRun.lean ====
/- The run of the MLP call's body at one grid point, for its two cases at once: at the first point the accumulator's
   block is zeroed before anything is added to it, at every other point it is added to as it was found. -/
module

public import proofs.«01_k».proof.Proof.Gen.MlpIdeal.Frame.Runs

@[expose] public section

-- membership in a rectangle of the long axes recurses once per coordinate
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 4000000 in
/-- The pieces the body's stores leave in each output's block (last first), with the proof that the body, run on whole
    blocks with the inputs at `x0` to `x15`, ends with the inputs as they were and each output's pieces written. `b` says
    which case it is; the accumulator (block 22) is found at `xo22`. -/
noncomputable def bodyRun (b : Bool) (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S8x1024 .f32) (harg13 : arg13.IsWhole) (arg14 : Memref sig .tc .vmem S1x1024 .f32) (harg14 : arg14.IsWhole) (arg15 : Memref sig .tc .vmem S4x1024x1024 .bf16) (harg15 : arg15.IsWhole) (arg16 : Memref sig .tc .vmem S4096x1024 .bf16) (harg16 : arg16.IsWhole) (arg17 : Memref sig .tc .vmem S256x4096 .bf16) (harg17 : arg17.IsWhole) (arg18 : Memref sig .tc .vmem S256x4096 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .f32) (harg21 : arg21.IsWhole) (arg22 : Memref sig .tc .vmem S256x512 .bf16) (harg22 : arg22.IsWhole) (arg23 : Memref sig .tc .vmem S8x1024 .f32) (harg23 : arg23.IsWhole) (arg24 : Memref sig .tc .vmem S256x1024 .bf16) (harg24 : arg24.IsWhole) (arg25 : Memref sig .tc .vmem S256x512 .bf16) (harg25 : arg25.IsWhole) (arg26 : Memref sig .tc .vmem S256x512 .f32) (harg26 : arg26.IsWhole) (arg27 : Memref sig .tc .vmem S256x512 .f32) (harg27 : arg27.IsWhole) (arg28 : Memref sig .tc .vmem S4x256x1024 .f32) (harg28 : arg28.IsWhole) (hb : cond0_0 i ↔ b = true)
    (x0 : Vec F S256x512 .bf16) (x1 : Vec F S256x512 .f32) (x2 : Vec F S256x512 .f32) (x3 : Vec F S256x512 .f32) (x4 : Vec F S8x512 .f32) (x5 : Vec F S8x512 .f32) (x6 : Vec F S8x512 .f32) (x7 : Vec F S8x512 .f32) (x8 : Vec F S8x512 .f32) (x9 : Vec F S1024x1024 .bf16) (x10 : Vec F S256x1024 .f32) (x11 : Vec F S256x1024 .f32) (x12 : Vec F S8x1024 .f32) (x13 : Vec F S1x1024 .f32) (x14 : Vec F S4x1024x1024 .bf16) (x15 : Vec F S4096x1024 .bf16) (xo22 : Vec F S8x1024 .f32) :
    Σ' (L16 : List (View.Piece (Elt F) S256x4096 .bf16)), Σ' (L17 : List (View.Piece (Elt F) S256x4096 .bf16)), Σ' (L18 : List (View.Piece (Elt F) S256x1024 .bf16)), Σ' (L19 : List (View.Piece (Elt F) S256x1024 .bf16)), Σ' (L20 : List (View.Piece (Elt F) S256x1024 .f32)), Σ' (L21 : List (View.Piece (Elt F) S256x512 .bf16)), Σ' (L22 : List (View.Piece (Elt F) S8x1024 .f32)), Σ' (L23 : List (View.Piece (Elt F) S256x1024 .bf16)), Σ' (L24 : List (View.Piece (Elt F) S256x512 .bf16)), Σ' (L25 : List (View.Piece (Elt F) S256x512 .f32)), Σ' (L26 : List (View.Piece (Elt F) S256x512 .f32)), { LT0 : List (View.Piece (Elt F) S4x256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (arg23.view.loc (c : Thread nD τ) ↦[arg23.view.set]{fullShare} arg23.view.writes (Elt F) (harg23.unread xo22) L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f LT0)) -∗ K ⟨⟩))
          ⊢ wp frame (wpE (defs₀ (F := F)) Variants.none c none) E (cc0_mlp_fwdbwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  have hc : (b = true → cond0_0 i) ∧ (b = false → ¬cond0_0 i) := ⟨hb.mpr, fun h e => by simp [h] at hb; exact hb e⟩
  cases b
  all_goals first | have hc0 := hc.1 rfl | have hc0 := hc.2 rfl
  all_goals (
    refine ⟨?_, ?_, ?_, ?_, ?_, ?_, ?_, ?_, ?_, ?_, ?_, ?_, fun E K => ?run⟩
    case run =>
      simp only [cc0_mlp_fwdbwd_eq_skeleton]; unfold cc0_mlp_fwdbwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%d23, %f23, -, H23⟩, ⟨%d24, %f24, -, H24⟩, ⟨%d25, %f25, -, H25⟩, ⟨%d26, %f26, -, H26⟩, ⟨%ds0, %fs0, -, HS0⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg23.eq_unread hf22
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexact H22
      isplitl [H23]; · iexists _; iexact H23
      isplitl [H24]; · iexists _; iexact H24
      isplitl [H25]; · iexists _; iexact H25
      isplitl [H26]; · iexists _; iexact H26
      iexists _; iexact HS0)

end Cert.MlpIdeal.Gen

end
-- ==== Proof.Mlp.BodyFrame.lean ====
/- The frame of the MLP call: what its body leaves in every block at every grid point, and from it that the whole program
   runs to an end from any memory, leaves its arguments as they were, and returns the blocks written back.

   Everything is stated at any interpretation of the floats: the same run serves the program of machine words and the
   idealized one, whose texts are equal. -/
module

public import proofs.«01_k».proof.Proof.Mlp.BodyRun
public import Idealize.ShloMosaic.Lib.Claim

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point -/

/-- The body's run at point `t`, on the point's own staging buffers and input blocks; the accumulator at `xo`. -/
def runOn (b : Bool) (c : Dev nD) (t : Fin cfg0.N) (hb : cond0_0 (grid0.coords t) ↔ b = true) (xo : Vec F S8x1024 .f32) :=
  bodyRun b c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) hb
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xo

/-- Which case point `t` is in: the first point of the grid or another one. -/
theorem isFirst (t : Fin cfg0.N) : cond0_0 (grid0.coords t) ↔ decide (t.val % 16 = 0) = true :=
  (hcond0_0 t).trans decide_eq_true_iff.symm

theorem cover16 (b : Bool) (c : Dev nD) (t : Fin cfg0.N) (hb : cond0_0 (grid0.coords t) ↔ b = true) (xo : Vec F S8x1024 .f32) (y) :
    ∃ pc ∈ (runOn m b c t hb xo).1, y ∈ pc.1.set := by
  cases b <;> exact View.cover_of_tiledL (runOn m _ c t hb xo).1 S256x1024.size (by sl_kernel_rfl) y
theorem cover17 (b : Bool) (c : Dev nD) (t : Fin cfg0.N) (hb : cond0_0 (grid0.coords t) ↔ b = true) (xo : Vec F S8x1024 .f32) (y) :
    ∃ pc ∈ (runOn m b c t hb xo).2.1, y ∈ pc.1.set := by
  cases b <;> exact View.cover_of_tiledL (runOn m _ c t hb xo).2.1 S256x1024.size (by sl_kernel_rfl) y
theorem cover18 (b : Bool) (c : Dev nD) (t : Fin cfg0.N) (hb : cond0_0 (grid0.coords t) ↔ b = true) (xo : Vec F S8x1024 .f32) (y) :
    ∃ pc ∈ (runOn m b c t hb xo).2.2.1, y ∈ pc.1.set := by
  cases b <;> exact View.cover_of_tiledL (runOn m _ c t hb xo).2.2.1 S256x1024.size (by sl_kernel_rfl) y
theorem cover19 (b : Bool) (c : Dev nD) (t : Fin cfg0.N) (hb : cond0_0 (grid0.coords t) ↔ b = true) (xo : Vec F S8x1024 .f32) (y) :
    ∃ pc ∈ (runOn m b c t hb xo).2.2.2.1, y ∈ pc.1.set := by
  cases b <;> exact View.cover_of_tiledL (runOn m _ c t hb xo).2.2.2.1 S256x1024.size (by sl_kernel_rfl) y
theorem cover20 (b : Bool) (c : Dev nD) (t : Fin cfg0.N) (hb : cond0_0 (grid0.coords t) ↔ b = true) (xo : Vec F S8x1024 .f32) (y) :
    ∃ pc ∈ (runOn m b c t hb xo).2.2.2.2.1, y ∈ pc.1.set := by
  cases b <;> exact View.cover_of_tiledL (runOn m _ c t hb xo).2.2.2.2.1 S256x1024.size (by sl_kernel_rfl) y
theorem cover21 (b : Bool) (c : Dev nD) (t : Fin cfg0.N) (hb : cond0_0 (grid0.coords t) ↔ b = true) (xo : Vec F S8x1024 .f32) (y) :
    ∃ pc ∈ (runOn m b c t hb xo).2.2.2.2.2.1, y ∈ pc.1.set := by
  cases b <;> exact View.cover_of_tiledL (runOn m _ c t hb xo).2.2.2.2.2.1 S256x512.size (by sl_kernel_rfl) y
theorem cover23 (b : Bool) (c : Dev nD) (t : Fin cfg0.N) (hb : cond0_0 (grid0.coords t) ↔ b = true) (xo : Vec F S8x1024 .f32) (y) :
    ∃ pc ∈ (runOn m b c t hb xo).2.2.2.2.2.2.2.1, y ∈ pc.1.set := by
  cases b <;> exact View.cover_of_tiledL (runOn m _ c t hb xo).2.2.2.2.2.2.2.1 S256x1024.size (by sl_kernel_rfl) y
theorem cover24 (b : Bool) (c : Dev nD) (t : Fin cfg0.N) (hb : cond0_0 (grid0.coords t) ↔ b = true) (xo : Vec F S8x1024 .f32) (y) :
    ∃ pc ∈ (runOn m b c t hb xo).2.2.2.2.2.2.2.2.1, y ∈ pc.1.set := by
  cases b <;> exact View.cover_of_tiledL (runOn m _ c t hb xo).2.2.2.2.2.2.2.2.1 S256x512.size (by sl_kernel_rfl) y
theorem cover25 (b : Bool) (c : Dev nD) (t : Fin cfg0.N) (hb : cond0_0 (grid0.coords t) ↔ b = true) (xo : Vec F S8x1024 .f32) (y) :
    ∃ pc ∈ (runOn m b c t hb xo).2.2.2.2.2.2.2.2.2.1, y ∈ pc.1.set := by
  cases b <;> exact View.cover_of_tiledL (runOn m _ c t hb xo).2.2.2.2.2.2.2.2.2.1 S256x512.size (by sl_kernel_rfl) y
theorem cover26 (b : Bool) (c : Dev nD) (t : Fin cfg0.N) (hb : cond0_0 (grid0.coords t) ↔ b = true) (xo : Vec F S8x1024 .f32) (y) :
    ∃ pc ∈ (runOn m b c t hb xo).2.2.2.2.2.2.2.2.2.2.1, y ∈ pc.1.set := by
  cases b <;> exact View.cover_of_tiledL (runOn m _ c t hb xo).2.2.2.2.2.2.2.2.2.2.1 S256x512.size (by sl_kernel_rfl) y
theorem cover22 (c : Dev nD) (t : Fin cfg0.N) (hb : cond0_0 (grid0.coords t) ↔ true = true) (xo : Vec F S8x1024 .f32) (y) :
    ∃ pc ∈ (runOn m true c t hb xo).2.2.2.2.2.2.1, y ∈ pc.1.set :=
  View.cover_of_tiledBy (runOn m true c t hb xo).2.2.2.2.2.2.1 ![1, 1024] (by sl_kernel_rfl) y

/-- At the first point what is stored does not depend on what the accumulator's buffer held. -/
theorem pieces (c : Dev nD) (t : Fin cfg0.N) (hb : cond0_0 (grid0.coords t) ↔ true = true) (xo xo' : Vec F S8x1024 .f32) :
    (runOn m true c t hb xo).1 = (runOn m true c t hb xo').1
    ∧ (runOn m true c t hb xo).2.1 = (runOn m true c t hb xo').2.1
    ∧ (runOn m true c t hb xo).2.2.1 = (runOn m true c t hb xo').2.2.1
    ∧ (runOn m true c t hb xo).2.2.2.1 = (runOn m true c t hb xo').2.2.2.1
    ∧ (runOn m true c t hb xo).2.2.2.2.1 = (runOn m true c t hb xo').2.2.2.2.1
    ∧ (runOn m true c t hb xo).2.2.2.2.2.1 = (runOn m true c t hb xo').2.2.2.2.2.1
    ∧ (runOn m true c t hb xo).2.2.2.2.2.2.1 = (runOn m true c t hb xo').2.2.2.2.2.2.1
    ∧ (runOn m true c t hb xo).2.2.2.2.2.2.2.1 = (runOn m true c t hb xo').2.2.2.2.2.2.2.1
    ∧ (runOn m true c t hb xo).2.2.2.2.2.2.2.2.1 = (runOn m true c t hb xo').2.2.2.2.2.2.2.2.1
    ∧ (runOn m true c t hb xo).2.2.2.2.2.2.2.2.2.1 = (runOn m true c t hb xo').2.2.2.2.2.2.2.2.2.1
    ∧ (runOn m true c t hb xo).2.2.2.2.2.2.2.2.2.2.1 = (runOn m true c t hb xo').2.2.2.2.2.2.2.2.2.2.1 := by
  unfold runOn bodyRun
  dsimp only
  exact ⟨rfl, rfl, rfl, rfl, rfl, rfl, rfl, rfl, rfl, rfl, rfl⟩

/-- What the output blocks hold after a point. -/
@[ext] structure Outs (F : FTy → Type) [FloatOps F] where
  o16 : Vec F S256x4096 .bf16
  o17 : Vec F S256x4096 .bf16
  o18 : Vec F S256x1024 .bf16
  o19 : Vec F S256x1024 .bf16
  o20 : Vec F S256x1024 .f32
  o21 : Vec F S256x512 .bf16
  o22 : Vec F S8x1024 .f32
  o23 : Vec F S256x1024 .bf16
  o24 : Vec F S256x512 .bf16
  o25 : Vec F S256x512 .f32
  o26 : Vec F S256x512 .f32

/-- What a run of the body leaves in the output blocks: each block's pieces read back. -/
def outOf (b : Bool) (c : Dev nD) (t : Fin cfg0.N) (hb : cond0_0 (grid0.coords t) ↔ b = true) (xo : Vec F S8x1024 .f32) : Outs F where
  o16 := VO0_16.read (Elt F) (VO0_16.writes (Elt F) VO0_16.junk (runOn m b c t hb xo).1)
  o17 := VO0_17.read (Elt F) (VO0_17.writes (Elt F) VO0_17.junk (runOn m b c t hb xo).2.1)
  o18 := VO0_18.read (Elt F) (VO0_18.writes (Elt F) VO0_18.junk (runOn m b c t hb xo).2.2.1)
  o19 := VO0_19.read (Elt F) (VO0_19.writes (Elt F) VO0_19.junk (runOn m b c t hb xo).2.2.2.1)
  o20 := VO0_20.read (Elt F) (VO0_20.writes (Elt F) VO0_20.junk (runOn m b c t hb xo).2.2.2.2.1)
  o21 := VO0_21.read (Elt F) (VO0_21.writes (Elt F) VO0_21.junk (runOn m b c t hb xo).2.2.2.2.2.1)
  o22 := (ms0_22 t).view.read (Elt F) ((ms0_22 t).view.writes (Elt F) ((hs0_22 t).unread xo) (runOn m b c t hb xo).2.2.2.2.2.2.1)
  o23 := VO0_23.read (Elt F) (VO0_23.writes (Elt F) VO0_23.junk (runOn m b c t hb xo).2.2.2.2.2.2.2.1)
  o24 := VO0_24.read (Elt F) (VO0_24.writes (Elt F) VO0_24.junk (runOn m b c t hb xo).2.2.2.2.2.2.2.2.1)
  o25 := VO0_25.read (Elt F) (VO0_25.writes (Elt F) VO0_25.junk (runOn m b c t hb xo).2.2.2.2.2.2.2.2.2.1)
  o26 := VO0_26.read (Elt F) (VO0_26.writes (Elt F) VO0_26.junk (runOn m b c t hb xo).2.2.2.2.2.2.2.2.2.2.1)

set_option maxHeartbeats 1000000 in
/-- What the body leaves: at the first point the same whatever the accumulator's buffer held. -/
theorem outOf_eq (b : Bool) (c : Dev nD) (t : Fin cfg0.N) (hb : cond0_0 (grid0.coords t) ↔ b = true) (xo d : Vec F S8x1024 .f32) (h : b = false → d = xo) :
    outOf m b c t hb d = outOf m b c t hb xo := by
  cases b with
  | false => rw [h rfl]
  | true =>
    have key : ∀ L L' : List (View.Piece (Elt F) S8x1024 .f32), L = L' → (∀ y, ∃ pc ∈ L, y ∈ pc.1.set) →
        (ms0_22 t).view.read (Elt F) ((ms0_22 t).view.writes (Elt F) ((hs0_22 t).unread d) L)
          = (ms0_22 t).view.read (Elt F) ((ms0_22 t).view.writes (Elt F) ((hs0_22 t).unread xo) L') := by
      intro L L' e hL; subst e; exact View.read_writes_of_cover _ _ _ _ _ hL
    obtain ⟨h16, h17, h18, h19, h20, h21, h22, h23, h24, h25, h26⟩ := pieces m c t hb d xo
    apply Outs.ext <;> dsimp only [outOf]
    · exact congrArg (fun L => VO0_16.read (Elt F) (VO0_16.writes (Elt F) VO0_16.junk L)) h16
    · exact congrArg (fun L => VO0_17.read (Elt F) (VO0_17.writes (Elt F) VO0_17.junk L)) h17
    · exact congrArg (fun L => VO0_18.read (Elt F) (VO0_18.writes (Elt F) VO0_18.junk L)) h18
    · exact congrArg (fun L => VO0_19.read (Elt F) (VO0_19.writes (Elt F) VO0_19.junk L)) h19
    · exact congrArg (fun L => VO0_20.read (Elt F) (VO0_20.writes (Elt F) VO0_20.junk L)) h20
    · exact congrArg (fun L => VO0_21.read (Elt F) (VO0_21.writes (Elt F) VO0_21.junk L)) h21
    · exact key _ _ h22 (cover22 m c t hb d)
    · exact congrArg (fun L => VO0_23.read (Elt F) (VO0_23.writes (Elt F) VO0_23.junk L)) h23
    · exact congrArg (fun L => VO0_24.read (Elt F) (VO0_24.writes (Elt F) VO0_24.junk L)) h24
    · exact congrArg (fun L => VO0_25.read (Elt F) (VO0_25.writes (Elt F) VO0_25.junk L)) h25
    · exact congrArg (fun L => VO0_26.read (Elt F) (VO0_26.writes (Elt F) VO0_26.junk L)) h26

/-- The output blocks after position `n`: the body run at `n` with the accumulator as position `n - 1` left it. -/
def outsAt (c : Dev nD) : (n : ℕ) → n < cfg0.N → Outs F
  | 0, hn => outOf m _ c ⟨0, hn⟩ (isFirst ⟨0, hn⟩) (k0_pay5 (F := F))
  | n + 1, hn => outOf m _ c ⟨n + 1, hn⟩ (isFirst ⟨n + 1, hn⟩) (outsAt c n (Nat.lt_of_succ_lt hn)).o22

/-- The accumulator's block as point `t` finds it (at the first point, where nothing of it is kept, zeros). -/
def accBefore (c : Dev nD) (t : Fin cfg0.N) : Vec F S8x1024 .f32 :=
  if t.val = 0 then k0_pay5 (F := F) else (outsAt m c (t.val - 1) (Nat.lt_of_le_of_lt (Nat.sub_le _ _) t.isLt)).o22

theorem outsAt_eq (c : Dev nD) (t : Fin cfg0.N) :
    outsAt m c t.val t.isLt = outOf m _ c t (isFirst t) (accBefore m c t) := by
  obtain ⟨n, hn⟩ := t
  cases n with
  | zero => exact rfl
  | succ n => exact rfl

/-! ## The proof data -/

/-- The arrays as the region finds them; after point `t` each input's buffer at its block and each output's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).o16
    | ⟨17, _⟩ => (outsAt m c t.val t.isLt).o17
    | ⟨18, _⟩ => (outsAt m c t.val t.isLt).o18
    | ⟨19, _⟩ => (outsAt m c t.val t.isLt).o19
    | ⟨20, _⟩ => (outsAt m c t.val t.isLt).o20
    | ⟨21, _⟩ => (outsAt m c t.val t.isLt).o21
    | ⟨22, _⟩ => (outsAt m c t.val t.isLt).o22
    | ⟨23, _⟩ => (outsAt m c t.val t.isLt).o23
    | ⟨24, _⟩ => (outsAt m c t.val t.isLt).o24
    | ⟨25, _⟩ => (outsAt m c t.val t.isLt).o25
    | ⟨26, _⟩ => (outsAt m c t.val t.isLt).o26
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d
theorem before10 (c : Dev nD) (t : Fin cfg0.N) (d) : (dats m 0 c).before 10 t d = iblk m c 10 t :=
  before0_10_of m (dats m 0 c) (A_eq m c 10) (fun _ => by dsimp only [dats]) t d
theorem before11 (c : Dev nD) (t : Fin cfg0.N) (d) : (dats m 0 c).before 11 t d = iblk m c 11 t :=
  before0_11_of m (dats m 0 c) (A_eq m c 11) (fun _ => by dsimp only [dats]) t d
theorem before12 (c : Dev nD) (t : Fin cfg0.N) (d) : (dats m 0 c).before 12 t d = iblk m c 12 t :=
  before0_12_of m (dats m 0 c) (A_eq m c 12) (fun _ => by dsimp only [dats]) t d
theorem before13 (c : Dev nD) (t : Fin cfg0.N) (d) : (dats m 0 c).before 13 t d = iblk m c 13 t :=
  before0_13_of m (dats m 0 c) (A_eq m c 13) (fun _ => by dsimp only [dats]) t d
theorem before14 (c : Dev nD) (t : Fin cfg0.N) (d) : (dats m 0 c).before 14 t d = iblk m c 14 t :=
  before0_14_of m (dats m 0 c) (A_eq m c 14) (fun _ => by dsimp only [dats]) t d
theorem before15 (c : Dev nD) (t : Fin cfg0.N) (d) : (dats m 0 c).before 15 t d = iblk m c 15 t :=
  before0_15_of m (dats m 0 c) (A_eq m c 15) (fun _ => by dsimp only [dats]) t d

/-- At a point that is not the first the accumulator's buffer holds what the point before left in it. -/
theorem before22 (c : Dev nD) (t : Fin cfg0.N) (d) (h : decide (t.val % 16 = 0) = false) :
    (dats m 0 c).before 22 t d = accBefore m c t := by
  have h0 : ¬t.val % 16 = 0 := of_decide_eq_false h
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  rw [accBefore, if_neg (by omega)]
  dsimp only [dats]

/-! ## The body's triple -/

/-- A buffer whose pieces cover it holds them read back, whatever it held before. -/
theorem owns_of_pieces {s : Shape} {e : EltTy} (c : Dev nD) (M : Memref sig .tc .vmem s e) (W : View sig .tc .vmem s e)
    (L : List (View.Piece (Elt F) s e)) (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (W.read (Elt F) (W.writes (Elt F) W.junk L)) := by
  unfold owns
  iintro ⟨%f, H⟩
  iexists _; isplitr
  swap; · iexact H
  ipureintro; exact View.read_writes_of_cover _ _ _ _ _ h

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 4000000 in
/-- The body at any point: its inputs hold their blocks, the accumulator what the point before left; the run applies. -/
theorem sound_body (c : Dev nD) (t : Fin cfg0.N) :
    bodyPre m c t ⊢ wp frame (wpE (defs₀ (F := F)) Variants.none c none) Set.univ (bodyAt0 t) (fun _ => bodyPost m c t) := by
  have key : ∀ d22, outsAt m c t.val t.isLt = outOf m _ c t (isFirst t) ((dats m 0 c).before 22 t d22) := fun d22 =>
    (outsAt_eq m c t).trans (outOf_eq m _ c t (isFirst t) (accBefore m c t) _ fun h => before22 m c t d22 h).symm
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats],
    show (dats m 0 c).after 1 t = iblk m c 1 t from by dsimp only [dats],
    show (dats m 0 c).after 2 t = iblk m c 2 t from by dsimp only [dats],
    show (dats m 0 c).after 3 t = iblk m c 3 t from by dsimp only [dats],
    show (dats m 0 c).after 4 t = iblk m c 4 t from by dsimp only [dats],
    show (dats m 0 c).after 5 t = iblk m c 5 t from by dsimp only [dats],
    show (dats m 0 c).after 6 t = iblk m c 6 t from by dsimp only [dats],
    show (dats m 0 c).after 7 t = iblk m c 7 t from by dsimp only [dats],
    show (dats m 0 c).after 8 t = iblk m c 8 t from by dsimp only [dats],
    show (dats m 0 c).after 9 t = iblk m c 9 t from by dsimp only [dats],
    show (dats m 0 c).after 10 t = iblk m c 10 t from by dsimp only [dats],
    show (dats m 0 c).after 11 t = iblk m c 11 t from by dsimp only [dats],
    show (dats m 0 c).after 12 t = iblk m c 12 t from by dsimp only [dats],
    show (dats m 0 c).after 13 t = iblk m c 13 t from by dsimp only [dats],
    show (dats m 0 c).after 14 t = iblk m c 14 t from by dsimp only [dats],
    show (dats m 0 c).after 15 t = iblk m c 15 t from by dsimp only [dats],
    show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  rw [show (dats m 0 c).after 16 t = (outOf m _ c t (isFirst t) ((dats m 0 c).before 22 t d22)).o16 from congrArg Outs.o16 (key d22),
    show (dats m 0 c).after 17 t = (outOf m _ c t (isFirst t) ((dats m 0 c).before 22 t d22)).o17 from congrArg Outs.o17 (key d22),
    show (dats m 0 c).after 18 t = (outOf m _ c t (isFirst t) ((dats m 0 c).before 22 t d22)).o18 from congrArg Outs.o18 (key d22),
    show (dats m 0 c).after 19 t = (outOf m _ c t (isFirst t) ((dats m 0 c).before 22 t d22)).o19 from congrArg Outs.o19 (key d22),
    show (dats m 0 c).after 20 t = (outOf m _ c t (isFirst t) ((dats m 0 c).before 22 t d22)).o20 from congrArg Outs.o20 (key d22),
    show (dats m 0 c).after 21 t = (outOf m _ c t (isFirst t) ((dats m 0 c).before 22 t d22)).o21 from congrArg Outs.o21 (key d22),
    show (dats m 0 c).after 22 t = (outOf m _ c t (isFirst t) ((dats m 0 c).before 22 t d22)).o22 from congrArg Outs.o22 (key d22),
    show (dats m 0 c).after 23 t = (outOf m _ c t (isFirst t) ((dats m 0 c).before 22 t d22)).o23 from congrArg Outs.o23 (key d22),
    show (dats m 0 c).after 24 t = (outOf m _ c t (isFirst t) ((dats m 0 c).before 22 t d22)).o24 from congrArg Outs.o24 (key d22),
    show (dats m 0 c).after 25 t = (outOf m _ c t (isFirst t) ((dats m 0 c).before 22 t d22)).o25 from congrArg Outs.o25 (key d22),
    show (dats m 0 c).after 26 t = (outOf m _ c t (isFirst t) ((dats m 0 c).before 22 t d22)).o26 from congrArg Outs.o26 (key d22)]
  iapply ((runOn m _ c t (isFirst t) ((dats m 0 c).before 22 t d22)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexists _; iexact H23
  isplitl [H24]; · iexists _; iexact H24
  isplitl [H25]; · iexists _; iexact H25
  isplitl [H26]; · iexists _; iexact H26
  isplitl [HS0]; · iexact HS0
  iintro ⟨H0, H1, H2, H3, H4, H5, H6, H7, H8, H9, H10, H11, H12, H13, H14, H15, H16, H17, H18, H19, H20, H21, H22, H23, H24, H25, H26, ⟨%fT, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (owns_of_pieces c (ms0_16 t) VO0_16 _ (cover16 m _ c t (isFirst t) _)); iexact H16
  isplitl [H17]; · iapply (owns_of_pieces c (ms0_17 t) VO0_17 _ (cover17 m _ c t (isFirst t) _)); iexact H17
  isplitl [H18]; · iapply (owns_of_pieces c (ms0_18 t) VO0_18 _ (cover18 m _ c t (isFirst t) _)); iexact H18
  isplitl [H19]; · iapply (owns_of_pieces c (ms0_19 t) VO0_19 _ (cover19 m _ c t (isFirst t) _)); iexact H19
  isplitl [H20]; · iapply (owns_of_pieces c (ms0_20 t) VO0_20 _ (cover20 m _ c t (isFirst t) _)); iexact H20
  isplitl [H21]; · iapply (owns_of_pieces c (ms0_21 t) VO0_21 _ (cover21 m _ c t (isFirst t) _)); iexact H21
  isplitl [H22]
  · unfold owns; iexists _; isplitr
    swap; · iexact H22
    ipureintro; exact rfl
  isplitl [H23]; · iapply (owns_of_pieces c (ms0_23 t) VO0_23 _ (cover23 m _ c t (isFirst t) _)); iexact H23
  isplitl [H24]; · iapply (owns_of_pieces c (ms0_24 t) VO0_24 _ (cover24 m _ c t (isFirst t) _)); iexact H24
  isplitl [H25]; · iapply (owns_of_pieces c (ms0_25 t) VO0_25 _ (cover25 m _ c t (isFirst t) _)); iexact H25
  iapply (owns_of_pieces c (ms0_26 t) VO0_26 _ (cover26 m _ c t (isFirst t) _)); iexact H26

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole program -/

-- the launch theorem's implicit arguments are found by unfolding plain definitions in a metavariable's type
set_option backward.isDefEq.respectTransparency.types false in
/-- Every run ends, with the arrays at what the proof data says and every counter of the machine at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.MlpIdeal.Gen

end
-- ==== Proof.Mlp.FrameBits.lean ====
/-
  The kernel as written and the idealized kernel are the same program: no literal and no operation is replaced. So the one run,
  proved for every type of floats, is the frame of both.
-/
module

public import proofs.«01_k».proof.Defs
public import proofs.«01_k».proof.Proof.Gen.Mlp
public import proofs.«01_k».proof.Proof.Mlp.BodyFrame
public import Idealize.ShloMosaic.Lib.Tactic

@[expose] public section

set_option maxRecDepth 16384

noncomputable section

namespace Cert.MlpIdeal.Gen

open Idealize.ShloMosaic Idealize.ShloMosaic.TcCoe Idealize.ShloMosaic.Tactic Idealize.SL.Sem

/-- The frame of the kernel as written is the idealized text's, at the machine's floats. -/
theorem quiescent_eq [h1 : Cert.Mlp.Facts] [h2 : Cert.MlpIdeal.Facts] :
    @Cert.quiescent_Mlp h1 = (∀ (m : (ℓ : Loc Cert.MlpIdeal.nD Cert.MlpIdeal.τ Cert.MlpIdeal.sig) → Buf (Elt Bits) ℓ) (g : Dev Cert.MlpIdeal.nD → PrngReg), True →
    θ_run (Cert.MlpIdeal.defs (F := Bits)) (onTc (τ := Cert.MlpIdeal.τ) (Cert.MlpIdeal.main (F := Bits))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10))
      ∧ r.2.sem = fun _ => 0)) := by
  sl_kernel_rfl

/-- The kernel as written terminates without a fault, keeps its arguments and leaves every counter at zero. -/
theorem frame_bits : Cert.quiescent_Mlp (hMlp := Cert.Mlp.Gen.facts) :=
  (quiescent_eq (h1 := Cert.Mlp.Gen.facts) (h2 := Cert.MlpIdeal.Gen.facts)).mpr fun m ρ _ => frame (F := Bits) m ρ

end Cert.MlpIdeal.Gen

end
-- ==== Proof.Mlp.Spec.lean ====
/-
  The convolution, the squared-ReLU perceptron, the loss and their gradient, one row of the sequence at a time, as functions
  of the extended reals in the order of operations the kernel uses. A row takes part through its own entries and, in the
  convolution, through its two neighbours' gated inputs.
-/
module

public import proofs.«01_k».proof.Proof.Attn.RealCoe

@[expose] public section

noncomputable section

namespace Cert.MlpSpec

open Idealize.ShloMosaic

/-- The number a single-precision word stands for. -/
abbrev lit (b : BitVec 32) : EReal := Ideal.ofBits .f32 b

/-- What every row shares: the weights, the modulation vectors and the final norm's gain. -/
@[ext] structure Wts where
  cw : Fin 3 → Fin 512 → EReal
  wo : Fin 1024 → Fin 1024 → EReal
  g1 : Fin 1024 → EReal
  sh : Fin 1024 → EReal
  sc : Fin 1024 → EReal
  g2 : Fin 1024 → EReal
  gf : Fin 1024 → EReal
  w1 : Fin 1024 → Fin 4096 → EReal
  w2 : Fin 4096 → Fin 1024 → EReal

/-- One row: the attention's output, the gate, the gated input of the row and of its neighbours, the residual, the target. -/
@[ext] structure Row where
  o : Fin 512 → EReal
  gb : Fin 512 → EReal
  u : Fin 512 → EReal
  up : Fin 512 → EReal
  un : Fin 512 → EReal
  x : Fin 1024 → EReal
  tgt : Fin 1024 → EReal

/-- The two halves of the output projection's rows. -/
abbrev lo (k : Fin 512) : Fin 1024 := ⟨k.val, by omega⟩
abbrev hi (k : Fin 512) : Fin 1024 := ⟨512 + k.val, by omega⟩

/-- One over the root of the mean square of a row, and the row times it. -/
def rs (v : Fin 1024 → EReal) : EReal :=
  Ideal.rsqrt (Ideal.div (∑ k, v k * v k) (lit 0x44800000#32) + lit 0x358637BD#32)
def xn (v : Fin 1024 → EReal) (j : Fin 1024) : EReal := v j * rs v

/-- The gradient of that norm. -/
def nb (v d : Fin 1024 → EReal) (j : Fin 1024) : EReal :=
  rs v * (d j - xn v j * Ideal.div (∑ k, d k * xn v k) (lit 0x44800000#32))

section
variable (W : Wts) (R : Row)

def y (e : Fin 512) : EReal := (W.cw 0 e * R.up e + W.cw 1 e * R.u e) + W.cw 2 e * R.un e
def conv (e : Fin 512) : EReal := R.gb e * y W R e
def y1 (j : Fin 1024) : EReal := ∑ k, R.o k * W.wo (lo k) j + ∑ k, conv W R k * W.wo (hi k) j
def x1 (j : Fin 1024) : EReal := R.x j + W.g1 j * y1 W R j
def h (j : Fin 1024) : EReal := xn (x1 W R) j * (lit 0x3F800000#32 + W.sc j) + W.sh j
def a (f : Fin 4096) : EReal := max (∑ k, h W R k * W.w1 k f) 0
def y2 (j : Fin 1024) : EReal := ∑ f, a W R f * a W R f * W.w2 f j
def x2 (j : Fin 1024) : EReal := x1 W R j + W.g2 j * y2 W R j
def diff (j : Fin 1024) : EReal := xn (x2 W R) j * W.gf j - R.tgt j
def dy (j : Fin 1024) : EReal := diff W R j * lit 0x3A800000#32
def dx2 (j : Fin 1024) : EReal := nb (x2 W R) (fun k => dy W R k * W.gf k) j
def dy2 (j : Fin 1024) : EReal := dx2 W R j * W.g2 j
def da (f : Fin 4096) : EReal := lit 0x40000000#32 * a W R f * ∑ j, dy2 W R j * W.w2 f j
def dh (k : Fin 1024) : EReal := ∑ f, da W R f * W.w1 k f
def dx1 (j : Fin 1024) : EReal := dx2 W R j + nb (x1 W R) (fun k => dh W R k * (lit 0x3F800000#32 + W.sc k)) j
def dy1 (j : Fin 1024) : EReal := dx1 W R j * W.g1 j
def dd (k : Fin 1024) : EReal := ∑ j, dy1 W R j * W.wo k j
def dgb (e : Fin 512) : EReal := dd W R (hi e) * y W R e
def dyv (e : Fin 512) : EReal := dd W R (hi e) * R.gb e

end

/-- The eight rows of sums over a set of rows: the final norm's gain, the second gate, the shift, the scale, the loss, the
first gate, and two rows of zeros. -/
def acc {ι : Type} [Fintype ι] (W : Wts) (R : ι → Row) : Fin 8 → Fin 1024 → EReal := ![
  fun j => ∑ i, dy W (R i) j * xn (x2 W (R i)) j,
  fun j => ∑ i, dx2 W (R i) j * y2 W (R i) j,
  fun j => ∑ i, dh W (R i) j,
  fun j => ∑ i, dh W (R i) j * xn (x1 W (R i)) j,
  fun _ => lit 0x3F000000#32 * (∑ i, ∑ j, diff W (R i) j * diff W (R i) j) * lit 0x3A800000#32,
  fun j => ∑ i, dx1 W (R i) j * y1 W (R i) j,
  fun _ => 0,
  fun _ => 0]

/-- A sum in four equal parts, as they are added up one after the other. -/
theorem sum_parts (n : ℕ) (g : Fin (n + n + n + n) → EReal) :
    ∑ f, g f = (((0 + ∑ k : Fin n, g ⟨0 + k.val, by omega⟩) + ∑ k : Fin n, g ⟨n + k.val, by omega⟩)
      + ∑ k : Fin n, g ⟨n + n + k.val, by omega⟩) + ∑ k : Fin n, g ⟨n + n + n + k.val, by omega⟩ := by
  rw [Fin.sum_univ_add, Fin.sum_univ_add, Fin.sum_univ_add, zero_add]
  refine congrArg₂ _ (congrArg₂ _ (congrArg₂ _ ?_ ?_) ?_) ?_ <;>
    exact Finset.sum_congr rfl fun k _ => congrArg g (Fin.ext (by simp [Fin.natAdd, Fin.castAdd]))

theorem sum_four (g : Fin 4096 → EReal) :
    ∑ f, g f = (((0 + ∑ k : Fin 1024, g ⟨0 + k.val, by omega⟩) + ∑ k : Fin 1024, g ⟨1024 + k.val, by omega⟩)
      + ∑ k : Fin 1024, g ⟨2048 + k.val, by omega⟩) + ∑ k : Fin 1024, g ⟨3072 + k.val, by omega⟩ :=
  sum_parts 1024 g

end Cert.MlpSpec
-- ==== Proof.Mlp.Pays.lean ====
/-
  What each vector operation of the body computes, at one index of its result, over the extended reals: casts do nothing,
  a product of matrices is a sum, a shape cast or a broadcast reads another index.
-/
module

public import proofs.«01_k».proof.Proof.Gen.MlpIdeal.Skeleton
public import proofs.«01_k».proof.Proof.Mlp.Spec
public import Idealize.ShloMosaic.Lib.Pipeline.ValueKit

@[expose] public section

set_option maxRecDepth 16384

noncomputable section

namespace Cert.MlpIdeal.Ops

open Idealize.ShloMosaic Cert.MlpIdeal Cert.MlpIdeal.Gen
open Cert.MlpSpec (lit)

/-- Tiles of the body: 256 rows of 1024 or 512 columns, one row, one column, chunks of the weights. -/
abbrev T (η : FTy) := FVec Ideal S256x1024 η
abbrev U (η : FTy) := FVec Ideal S256x512 η
abbrev L := FVec Ideal S1x1024 .f32
abbrev C := FVec Ideal S256x1 .f32
abbrev W1 := Vec Ideal S1x1024x1024 .bf16
abbrev W2 := Vec Ideal S1024x1024 .bf16
abbrev Wo := Vec Ideal S512x1024 .bf16

theorem pay6_at (v : Vec Ideal S1x1024 .f32) (j : Fin 1024) : k0_pay6 (F := Ideal) v (ix2 0 j) = v (ix2 0 j) := by pointwise [k0_pay6]
theorem pay7_at (v : Vec Ideal S1x1024 .f32) (j : Fin 1024) : k0_pay7 (F := Ideal) v (ix2 0 j) = v (ix2 0 j) := by pointwise [k0_pay7]
theorem pay8_at (v : Vec Ideal S1x1024 .f32) (j : Fin 1024) : k0_pay8 (F := Ideal) v (ix2 0 j) = v (ix2 0 j) := by pointwise [k0_pay8]
theorem pay9_at (v : Vec Ideal S1x1024 .f32) (j : Fin 1024) : k0_pay9 (F := Ideal) v (ix2 0 j) = v (ix2 0 j) := by pointwise [k0_pay9]
theorem pay40_at (v : Vec Ideal S1x1024 .f32) (j : Fin 1024) : k0_pay40 (F := Ideal) v (ix2 0 j) = v (ix2 0 j) := by pointwise [k0_pay40]
theorem pay14_at (v : Vec Ideal S256x512 .f32) (i : Fin 256) (e : Fin 512) : k0_pay14 (F := Ideal) v (ix2 i e) = v (ix2 i e) := by pointwise [k0_pay14]

/-! ## The convolution -/

theorem pay10_at (a b : Vec Ideal S256x512 .f32) (i : Fin 256) (e : Fin 512) :
    k0_pay10 (F := Ideal) a b (ix2 i e) = a (ix2 i e) * b (ix2 i e) := by pointwise [k0_pay10]

/-- Whether a row is the first or the last of the sequence is read off the grid's coordinate. -/
theorem sgt_eq (n : ℕ) (h : n < 16) (a b : EReal) :
    Scalar.select (Scalar.cmpi CmpIPredicate.sgt (BitVec.ofNat 32 n) 0#32) a b = if 0 < n then a else b := by
  revert a b; interval_cases n <;> intro a b <;> rfl
theorem slt_eq (n : ℕ) (h : n < 16) (a b : EReal) :
    Scalar.select (Scalar.cmpi CmpIPredicate.slt (BitVec.ofNat 32 n) 15#32) a b = if n < 15 then a else b := by
  revert a b; interval_cases n <;> intro a b <;> rfl
theorem eq_eq (n k : ℕ) (h : n < 256) (hk : k < 256) (a b : EReal) :
    Scalar.select (IntOp.cmpi CmpIPredicate.eq (BitVec.ofNat 32 n) (BitVec.ofNat 32 k)) a b = if n = k then a else b := by
  have e : (BitVec.ofNat 32 n = BitVec.ofNat 32 k) ↔ n = k := by
    rw [← BitVec.toNat_inj, BitVec.toNat_ofNat, BitVec.toNat_ofNat]; omega
  by_cases q : n = k
  · subst q; rw [if_pos rfl]; simp [IntOp.cmpi, Scalar.select]
  · have f : (BitVec.ofNat 32 n == BitVec.ofNat 32 k) = false := beq_eq_false_iff_ne.mpr fun h => q (e.mp h)
    rw [if_neg q]; simp [IntOp.cmpi, Scalar.select, f]

theorem pay11_at (c : grid0.Coords) (a b : Vec Ideal S1x512 .f32) (e : Fin 512) :
    k0_pay11 (F := Ideal) c a b (ix2 0 e) = if 0 < (c 0).val then a (ix2 0 e) * b (ix2 0 e) else 0 := by
  rw [← sgt_eq _ (c 0).isLt]; pointwise [k0_pay11]
theorem pay12_at (c : grid0.Coords) (a b : Vec Ideal S1x512 .f32) (e : Fin 512) :
    k0_pay12 (F := Ideal) c a b (ix2 0 e) = if (c 0).val < 15 then a (ix2 0 e) * b (ix2 0 e) else 0 := by
  rw [← slt_eq _ (c 0).isLt]; pointwise [k0_pay12]

theorem pay13_at (u : U .f32) (up dn : FVec Ideal S1x512 .f32) (c0 c1 c2 : Vec Ideal S1x512 .f32) (i : Fin 256) (e : Fin 512) :
    k0_pay13 (F := Ideal) u up dn c0 c1 c2 (ix2 i e)
      = (c0 (ix2 0 e) * (if i.val = 0 then up (ix2 0 e) else u (ix2 ⟨(i.val + 256 - 1) % 256, Nat.mod_lt _ (by omega)⟩ e))
        + c1 (ix2 0 e) * u (ix2 i e))
        + c2 (ix2 0 e) * (if i.val = 255 then dn (ix2 0 e) else u (ix2 ⟨(i.val + 256 - 255) % 256, Nat.mod_lt _ (by omega)⟩ e)) := by
  rw [← eq_eq i.val 0 i.isLt (by omega), ← eq_eq i.val 255 i.isLt (by omega)]
  pointwise [k0_pay13]

section
variable (u : U .f32) (up dn : FVec Ideal S1x512 .f32) (c0 c1 c2 : Vec Ideal S1x512 .f32) (gb : Vec Ideal S256x512 .f32)
theorem pay15_at (i : Fin 256) (e : Fin 512) : k0_pay15 (F := Ideal) u up dn c0 c1 c2 gb (ix2 i e)
    = gb (ix2 i e) * k0_pay13 (F := Ideal) u up dn c0 c1 c2 (ix2 i e) := by unfold k0_pay15; pointwise [k0_pay14]
end

/-! ## The output projection and the first norm -/

section
variable (v4 v6 v8 : L) (a : U .bf16) (o : Vec Ideal S256x512 .bf16) (b : T .f32) (w : Wo) (x : Vec Ideal S256x1024 .f32) (w1 : W1)
variable (i : Fin 256) (j : Fin 1024)

theorem pay16_at : k0_pay16 (F := Ideal) o w (ix2 i j) = ∑ k : Fin 512, o (ix2 i k) * w (ix2 k j) := by pointwise [k0_pay16]
theorem pay17_at : k0_pay17 (F := Ideal) a b w (ix2 i j) = b (ix2 i j) + ∑ k : Fin 512, a (ix2 i k) * w (ix2 k j) := by
  pointwise [k0_pay17]
theorem pay18_at : k0_pay18 (F := Ideal) v4 a b w x (ix2 i j) = x (ix2 i j) + v4 (ix2 0 j) * k0_pay17 (F := Ideal) a b w (ix2 i j) := by
  unfold k0_pay18; pointwise
theorem pay19_at : k0_pay19 (F := Ideal) v4 a b w x (ix2 i 0) = MlpSpec.rs (fun j => k0_pay18 (F := Ideal) v4 a b w x (ix2 i j)) := by
  unfold k0_pay19 MlpSpec.rs; pointwise
theorem pay20_at : k0_pay20 (F := Ideal) v4 a b w x (ix2 i j)
    = k0_pay18 (F := Ideal) v4 a b w x (ix2 i j) * k0_pay19 (F := Ideal) v4 a b w x (ix2 i 0) := by unfold k0_pay20; pointwise
theorem pay21_at : k0_pay21 (F := Ideal) v4 v6 v8 a b w x (ix2 i j)
    = k0_pay20 (F := Ideal) v4 a b w x (ix2 i j) * (lit 0x3F800000#32 + v8 (ix2 0 j)) + v6 (ix2 0 j) := by unfold k0_pay21; pointwise
theorem pay23_at : k0_pay23 (F := Ideal) v4 v6 v8 a b w x w1 (ix2 i j)
    = max (∑ k, k0_pay21 (F := Ideal) v4 v6 v8 a b w x (ix2 i k) * w1 (ix3 0 k j)) 0 := by unfold k0_pay23; pointwise
theorem pay24_at : k0_pay24 (F := Ideal) v4 v6 v8 a b w x w1 (ix3 0 i j) = k0_pay23 (F := Ideal) v4 v6 v8 a b w x w1 (ix2 i j) := by
  unfold k0_pay24; pointwise
theorem pay25_at : k0_pay25 (F := Ideal) v4 v6 v8 a b w x w1 (ix2 i j)
    = k0_pay23 (F := Ideal) v4 v6 v8 a b w x w1 (ix2 i j) * k0_pay23 (F := Ideal) v4 v6 v8 a b w x w1 (ix2 i j) := by
  unfold k0_pay25; pointwise
end

/-! ## The perceptron, forward -/

section
variable (h : T .bf16) (w1 w1' : W1) (y : T .f32) (r : T .bf16) (w2 w2' : W2) (i : Fin 256) (j : Fin 1024)

theorem pay26_at : k0_pay26 (F := Ideal) h w1 (ix2 i j) = max (∑ k, h (ix2 i k) * w1 (ix3 0 k j)) 0 := by pointwise [k0_pay26]
theorem pay30_at : k0_pay30 (F := Ideal) h w1 (ix2 i j) = max (∑ k, h (ix2 i k) * w1 (ix3 0 k j)) 0 := by pointwise [k0_pay30]
theorem pay33_at : k0_pay33 (F := Ideal) h w1 (ix2 i j) = max (∑ k, h (ix2 i k) * w1 (ix3 0 k j)) 0 := by pointwise [k0_pay33]
theorem pay27_at : k0_pay27 (F := Ideal) h w1 (ix3 0 i j) = k0_pay26 (F := Ideal) h w1 (ix2 i j) := by unfold k0_pay27; pointwise
theorem pay31_at : k0_pay31 (F := Ideal) h w1 (ix3 0 i j) = k0_pay30 (F := Ideal) h w1 (ix2 i j) := by unfold k0_pay31; pointwise
theorem pay34_at : k0_pay34 (F := Ideal) h w1 (ix3 0 i j) = k0_pay33 (F := Ideal) h w1 (ix2 i j) := by unfold k0_pay34; pointwise
theorem pay28_at : k0_pay28 (F := Ideal) h w1 (ix2 i j) = k0_pay26 (F := Ideal) h w1 (ix2 i j) * k0_pay26 (F := Ideal) h w1 (ix2 i j) := by
  unfold k0_pay28; pointwise
theorem pay32_at : k0_pay32 (F := Ideal) h w1 (ix2 i j) = k0_pay30 (F := Ideal) h w1 (ix2 i j) * k0_pay30 (F := Ideal) h w1 (ix2 i j) := by
  unfold k0_pay32; pointwise
theorem pay35_at : k0_pay35 (F := Ideal) h w1 (ix2 i j) = k0_pay33 (F := Ideal) h w1 (ix2 i j) * k0_pay33 (F := Ideal) h w1 (ix2 i j) := by
  unfold k0_pay35; pointwise
theorem pay22_at : (k0_pay22 (F := Ideal)) (ix2 i j) = (0 : EReal) := by pointwise [k0_pay22]
theorem pay29_at : k0_pay29 (F := Ideal) h y r w2 w1 w2' (ix2 i j) = (y (ix2 i j) + ∑ k, r (ix2 i k) * w2 (ix2 k j))
    + ∑ k, k0_pay28 (F := Ideal) h w1 (ix2 i k) * w2' (ix2 k j) := by unfold k0_pay29; pointwise
theorem pay36_at : k0_pay36 (F := Ideal) h y r w2 w1 w2' (ix2 i j) = (y (ix2 i j) + ∑ k, r (ix2 i k) * w2 (ix2 k j))
    + ∑ k, k0_pay35 (F := Ideal) h w1 (ix2 i k) * w2' (ix2 k j) := by unfold k0_pay36; pointwise
end

/-! ## The second norm, the loss and its gradient -/

section
variable (v10 : L) (x1 : T .f32) (h : T .bf16) (w1 : W1) (y : T .f32) (r : T .bf16) (w2 w2' : W2) (gf : Vec Ideal S1x1024 .f32)
variable (i : Fin 256) (j : Fin 1024)

theorem pay37_at : k0_pay37 (F := Ideal) v10 x1 h y r w2 w1 w2' (ix2 i j)
    = x1 (ix2 i j) + v10 (ix2 0 j) * k0_pay36 (F := Ideal) h y r w2 w1 w2' (ix2 i j) := by unfold k0_pay37; pointwise
theorem pay38_at : k0_pay38 (F := Ideal) v10 x1 h y r w2 w1 w2' (ix2 i 0)
    = MlpSpec.rs (fun j => k0_pay37 (F := Ideal) v10 x1 h y r w2 w1 w2' (ix2 i j)) := by unfold k0_pay38 MlpSpec.rs; pointwise
theorem pay39_at : k0_pay39 (F := Ideal) v10 x1 h y r w2 w1 w2' (ix2 i j)
    = k0_pay37 (F := Ideal) v10 x1 h y r w2 w1 w2' (ix2 i j) * k0_pay38 (F := Ideal) v10 x1 h y r w2 w1 w2' (ix2 i 0) := by
  unfold k0_pay39; pointwise
theorem pay41_at : k0_pay41 (F := Ideal) v10 x1 h y r w2 w1 w2' gf (ix2 i j)
    = k0_pay39 (F := Ideal) v10 x1 h y r w2 w1 w2' (ix2 i j) * gf (ix2 0 j) := by unfold k0_pay41; pointwise [k0_pay40]
end

section
variable (v : T .f32) (tg : Vec Ideal S256x1024 .f32) (v10 : L) (rs : C) (xn : T .f32) (gf : L) (i : Fin 256) (j : Fin 1024)

theorem pay42_at : k0_pay42 (F := Ideal) v tg (ix2 i j) = v (ix2 i j) - tg (ix2 i j) := by pointwise [k0_pay42]
theorem pay43_at : k0_pay43 (F := Ideal) v tg (ix2 0 0)
    = lit 0x3F000000#32 * (∑ i, ∑ j, k0_pay42 (F := Ideal) v tg (ix2 i j) * k0_pay42 (F := Ideal) v tg (ix2 i j)) * lit 0x3A800000#32 := by
  unfold k0_pay43; pointwise
theorem pay44_at : k0_pay44 (F := Ideal) v tg (ix2 i j) = k0_pay42 (F := Ideal) v tg (ix2 i j) * lit 0x3A800000#32 := by
  unfold k0_pay44; pointwise
theorem pay45_at : k0_pay45 (F := Ideal) rs xn gf v tg (ix2 i j)
    = rs (ix2 i 0) * (k0_pay44 (F := Ideal) v tg (ix2 i j) * gf (ix2 0 j)
      - xn (ix2 i j) * Ideal.div (∑ k, k0_pay44 (F := Ideal) v tg (ix2 i k) * gf (ix2 0 k) * xn (ix2 i k)) (lit 0x44800000#32)) := by
  unfold k0_pay45; pointwise
theorem pay46_at : k0_pay46 (F := Ideal) v10 rs xn gf v tg (ix2 i j) = k0_pay45 (F := Ideal) rs xn gf v tg (ix2 i j) * v10 (ix2 0 j) := by
  unfold k0_pay46; pointwise
variable (w2 : W2) (ra : Vec Ideal S1x256x1024 .f32)
theorem pay48_at : k0_pay48 (F := Ideal) v10 rs xn gf v tg w2 ra (ix2 i j)
    = lit 0x40000000#32 * ra (ix3 0 i j) * ∑ k, k0_pay46 (F := Ideal) v10 rs xn gf v tg (ix2 i k) * w2 (ix2 j k) := by
  unfold k0_pay48; pointwise
end

/-! ## The perceptron, backward -/

section
variable (dy2 : T .bf16) (w2 : W2) (ra : Vec Ideal S1x256x1024 .f32) (d : T .f32) (da : T .bf16) (w1 w1' : W1) (i : Fin 256) (j : Fin 1024)

theorem pay49_at : k0_pay49 (F := Ideal) dy2 w2 ra (ix2 i j) = lit 0x40000000#32 * ra (ix3 0 i j) * ∑ k, dy2 (ix2 i k) * w2 (ix2 j k) := by
  pointwise [k0_pay49]
theorem pay51_at : k0_pay51 (F := Ideal) dy2 w2 ra (ix2 i j) = lit 0x40000000#32 * ra (ix3 0 i j) * ∑ k, dy2 (ix2 i k) * w2 (ix2 j k) := by
  pointwise [k0_pay51]
theorem pay52_at : k0_pay52 (F := Ideal) dy2 w2 ra (ix2 i j) = lit 0x40000000#32 * ra (ix3 0 i j) * ∑ k, dy2 (ix2 i k) * w2 (ix2 j k) := by
  pointwise [k0_pay52]
theorem pay47_at : (k0_pay47 (F := Ideal)) (ix2 i j) = (0 : EReal) := by pointwise [k0_pay47]
theorem pay50_at : k0_pay50 (F := Ideal) dy2 d da w1 w2 ra w1' (ix2 i j) = (d (ix2 i j) + ∑ k, da (ix2 i k) * w1 (ix3 0 j k))
    + ∑ k, k0_pay49 (F := Ideal) dy2 w2 ra (ix2 i k) * w1' (ix3 0 j k) := by unfold k0_pay50; pointwise
theorem pay53_at : k0_pay53 (F := Ideal) dy2 d da w1 w2 ra w1' (ix2 i j) = (d (ix2 i j) + ∑ k, da (ix2 i k) * w1 (ix3 0 j k))
    + ∑ k, k0_pay52 (F := Ideal) dy2 w2 ra (ix2 i k) * w1' (ix3 0 j k) := by unfold k0_pay53; pointwise
variable (v4 v8 : L) (rs : C) (xn dx2 : T .f32)
theorem pay54_at : k0_pay54 (F := Ideal) v8 rs xn dx2 dy2 d da w1 w2 ra w1' (ix2 i j) = dx2 (ix2 i j)
    + rs (ix2 i 0) * (k0_pay53 (F := Ideal) dy2 d da w1 w2 ra w1' (ix2 i j) * (lit 0x3F800000#32 + v8 (ix2 0 j))
      - xn (ix2 i j) * Ideal.div (∑ k, k0_pay53 (F := Ideal) dy2 d da w1 w2 ra w1' (ix2 i k) * (lit 0x3F800000#32 + v8 (ix2 0 k)) * xn (ix2 i k))
        (lit 0x44800000#32)) := by unfold k0_pay54; pointwise
theorem pay55_at : k0_pay55 (F := Ideal) v4 v8 rs xn dx2 dy2 d da w1 w2 ra w1' (ix2 i j)
    = k0_pay54 (F := Ideal) v8 rs xn dx2 dy2 d da w1 w2 ra w1' (ix2 i j) * v4 (ix2 0 j) := by unfold k0_pay55; pointwise
end

section
variable (y g : U .f32) (dy1 : T .f32) (w : Wo) (i : Fin 256) (j : Fin 1024) (e : Fin 512)

theorem pay56_at : k0_pay56 (F := Ideal) dy1 (ix2 i j) = dy1 (ix2 i j) := by pointwise [k0_pay56]
theorem pay57_at : k0_pay57 (F := Ideal) dy1 w (ix2 i e) = ∑ k, dy1 (ix2 i k) * w (ix2 e k) := by pointwise [k0_pay57, k0_pay56]
theorem pay58_at : k0_pay58 (F := Ideal) dy1 w (ix2 i e) = ∑ k, dy1 (ix2 i k) * w (ix2 e k) := by pointwise [k0_pay58, k0_pay56]
theorem pay59_at : k0_pay59 (F := Ideal) y dy1 w (ix2 i e) = k0_pay58 (F := Ideal) dy1 w (ix2 i e) * y (ix2 i e) := by unfold k0_pay59; pointwise
theorem pay60_at : k0_pay60 (F := Ideal) g dy1 w (ix2 i e) = k0_pay58 (F := Ideal) dy1 w (ix2 i e) * g (ix2 i e) := by unfold k0_pay60; pointwise
end

/-! ## The sums over the rows -/

section
variable (a b : T .f32) (w : Vec Ideal S1x1024 .f32) (p : FVec Ideal S1x1 .f32) (j : Fin 1024)

theorem pay61_at : k0_pay61 (F := Ideal) a b w (ix2 0 j) = w (ix2 0 j) + ∑ i, b (ix2 i j) * a (ix2 i j) := by pointwise [k0_pay61]
theorem pay62_at : k0_pay62 (F := Ideal) a b w (ix2 0 j) = w (ix2 0 j) + ∑ i, b (ix2 i j) * a (ix2 i j) := by pointwise [k0_pay62]
theorem pay1_at : k0_pay1 (F := Ideal) a b w (ix2 0 j) = w (ix2 0 j) + ∑ i, b (ix2 i j) * a (ix2 i j) := by pointwise [k0_pay1]
theorem pay2_at : k0_pay2 (F := Ideal) a w (ix2 0 j) = w (ix2 0 j) + ∑ i, a (ix2 i j) := by pointwise [k0_pay2]
theorem pay3_at : k0_pay3 (F := Ideal) a b w (ix2 0 j) = w (ix2 0 j) + ∑ i, b (ix2 i j) * a (ix2 i j) := by pointwise [k0_pay3]
theorem pay4_at : k0_pay4 (F := Ideal) p w (ix2 0 j) = w (ix2 0 j) + p (ix2 0 0) := by pointwise [k0_pay4]
theorem pay5_at (a : Fin 8) : (k0_pay5 (F := Ideal)) (ix2 a j) = (0 : EReal) := by pointwise [k0_pay5]
end

end Cert.MlpIdeal.Ops

end
-- ==== Proof.Mlp.Blocks.lean ====
/-
  The values of the body at one block of 256 rows, each named once and given in terms of the rows' mathematics
  (`Cert.MlpSpec`): the body works on the four chunks of the hidden layer one after the other, which only splits sums.
-/
module

public import proofs.«01_k».proof.Proof.Mlp.Pays

@[expose] public section

set_option maxRecDepth 16384

noncomputable section

namespace Cert.MlpIdeal.Ops

open Idealize.ShloMosaic Cert.MlpIdeal Cert.MlpIdeal.Gen
open Cert.MlpSpec (lit Wts Row)

/-- The blocks of the sixteen inputs at a grid point, and the point's coordinates. -/
structure In where
  i : grid0.Coords
  x0 : Vec Ideal S256x512 .bf16
  x1 : Vec Ideal S256x512 .f32
  x2 : Vec Ideal S256x512 .f32
  x3 : Vec Ideal S256x512 .f32
  x4 : Vec Ideal S8x512 .f32
  x5 : Vec Ideal S8x512 .f32
  x6 : Vec Ideal S8x512 .f32
  x7 : Vec Ideal S8x512 .f32
  x8 : Vec Ideal S8x512 .f32
  x9 : Vec Ideal S1024x1024 .bf16
  x10 : Vec Ideal S256x1024 .f32
  x11 : Vec Ideal S256x1024 .f32
  x12 : Vec Ideal S8x1024 .f32
  x13 : Vec Ideal S1x1024 .f32
  x14 : Vec Ideal S4x1024x1024 .bf16
  x15 : Vec Ideal S4096x1024 .bf16

variable (B : In)

/-! ## What the body loads -/

abbrev rowC (k : ℕ) (h : ∀ a : Fin 2, ![k, 0] a + ![1, 512] a ≤ S8x512.size a) : Vec Ideal S1x512 .f32 := View.ld B.x8 (Rect.unit ![k, 0] ![1, 512] h)
abbrev rowM (k : ℕ) (h : ∀ a : Fin 2, ![k, 0] a + ![1, 1024] a ≤ S8x1024.size a) : Vec Ideal S1x1024 .f32 := View.ld B.x12 (Rect.unit ![k, 0] ![1, 1024] h)
abbrev cw0 := rowC B 0 inb_S8x512_S1x512_0_0
abbrev cw1 := rowC B 1 inb_S8x512_S1x512_1_0
abbrev cw2 := rowC B 2 inb_S8x512_S1x512_2_0
abbrev woLo : Wo := View.ld B.x9 (Rect.unit ![0, 0] ![512, 1024] inb_S1024x1024_S512x1024_0_0)
abbrev woHi : Wo := View.ld B.x9 (Rect.unit ![512, 0] ![512, 1024] inb_S1024x1024_S512x1024_512_0)
abbrev w1_0 : W1 := View.ld B.x14 (Rect.unit ![0, 0, 0] ![1, 1024, 1024] inb_S4x1024x1024_S1x1024x1024_0_0_0)
abbrev w1_1 : W1 := View.ld B.x14 (Rect.unit ![1, 0, 0] ![1, 1024, 1024] inb_S4x1024x1024_S1x1024x1024_1_0_0)
abbrev w1_2 : W1 := View.ld B.x14 (Rect.unit ![2, 0, 0] ![1, 1024, 1024] inb_S4x1024x1024_S1x1024x1024_2_0_0)
abbrev w1_3 : W1 := View.ld B.x14 (Rect.unit ![3, 0, 0] ![1, 1024, 1024] inb_S4x1024x1024_S1x1024x1024_3_0_0)
abbrev w2_0 : W2 := View.ld B.x15 (Rect.unit ![0, 0] ![1024, 1024] inb_S4096x1024_S1024x1024_0_0)
abbrev w2_1 : W2 := View.ld B.x15 (Rect.unit ![1024, 0] ![1024, 1024] inb_S4096x1024_S1024x1024_1024_0)
abbrev w2_2 : W2 := View.ld B.x15 (Rect.unit ![2048, 0] ![1024, 1024] inb_S4096x1024_S1024x1024_2048_0)
abbrev w2_3 : W2 := View.ld B.x15 (Rect.unit ![3072, 0] ![1024, 1024] inb_S4096x1024_S1024x1024_3072_0)

/-! ## What it computes -/

abbrev g1 := k0_pay6 (F := Ideal) (rowM B 0 inb_S8x1024_S1x1024_0_0)
abbrev sh := k0_pay7 (F := Ideal) (rowM B 1 inb_S8x1024_S1x1024_1_0)
abbrev sc := k0_pay8 (F := Ideal) (rowM B 2 inb_S8x1024_S1x1024_2_0)
abbrev g2 := k0_pay9 (F := Ideal) (rowM B 3 inb_S8x1024_S1x1024_3_0)
abbrev gf := k0_pay40 (F := Ideal) B.x13
def kU := k0_pay10 (F := Ideal) B.x2 B.x3
def kUp := k0_pay11 (F := Ideal) B.i (View.ld B.x4 (Rect.unit ![7, 0] ![1, 512] inb_S8x512_S1x512_7_0)) (View.ld B.x5 (Rect.unit ![7, 0] ![1, 512] inb_S8x512_S1x512_7_0))
def kDn := k0_pay12 (F := Ideal) B.i (View.ld B.x6 (Rect.unit ![0, 0] ![1, 512] inb_S8x512_S1x512_0_0)) (View.ld B.x7 (Rect.unit ![0, 0] ![1, 512] inb_S8x512_S1x512_0_0))
def kY := k0_pay13 (F := Ideal) (kU B) (kUp B) (kDn B) (cw0 B) (cw1 B) (cw2 B)
def kConv := k0_pay15 (F := Ideal) (kU B) (kUp B) (kDn B) (cw0 B) (cw1 B) (cw2 B) B.x1
def kO := k0_pay16 (F := Ideal) B.x0 (woLo B)
def kY1 := k0_pay17 (F := Ideal) (kConv B) (kO B) (woHi B)
def kX1 := k0_pay18 (F := Ideal) (g1 B) (kConv B) (kO B) (woHi B) B.x10
def kRs := k0_pay19 (F := Ideal) (g1 B) (kConv B) (kO B) (woHi B) B.x10
def kXn := k0_pay20 (F := Ideal) (g1 B) (kConv B) (kO B) (woHi B) B.x10
def kH := k0_pay21 (F := Ideal) (g1 B) (sh B) (sc B) (kConv B) (kO B) (woHi B) B.x10
def kA0 := k0_pay23 (F := Ideal) (g1 B) (sh B) (sc B) (kConv B) (kO B) (woHi B) B.x10 (w1_0 B)
def kA1 := k0_pay26 (F := Ideal) (kH B) (w1_1 B)
def kA2 := k0_pay30 (F := Ideal) (kH B) (w1_2 B)
def kA3 := k0_pay33 (F := Ideal) (kH B) (w1_3 B)
def kS0 := k0_pay24 (F := Ideal) (g1 B) (sh B) (sc B) (kConv B) (kO B) (woHi B) B.x10 (w1_0 B)
def kS1 := k0_pay27 (F := Ideal) (kH B) (w1_1 B)
def kS2 := k0_pay31 (F := Ideal) (kH B) (w1_2 B)
def kS3 := k0_pay34 (F := Ideal) (kH B) (w1_3 B)
def kR0 := k0_pay25 (F := Ideal) (g1 B) (sh B) (sc B) (kConv B) (kO B) (woHi B) B.x10 (w1_0 B)
def kR1 := k0_pay28 (F := Ideal) (kH B) (w1_1 B)
def kR2 := k0_pay32 (F := Ideal) (kH B) (w1_2 B)
def kR3 := k0_pay35 (F := Ideal) (kH B) (w1_3 B)
def kP := k0_pay29 (F := Ideal) (kH B) k0_pay22 (kR0 B) (w2_0 B) (w1_1 B) (w2_1 B)
def kY2 := k0_pay36 (F := Ideal) (kH B) (kP B) (kR2 B) (w2_2 B) (w1_3 B) (w2_3 B)
def kX2 := k0_pay37 (F := Ideal) (g2 B) (kX1 B) (kH B) (kP B) (kR2 B) (w2_2 B) (w1_3 B) (w2_3 B)
def kRs3 := k0_pay38 (F := Ideal) (g2 B) (kX1 B) (kH B) (kP B) (kR2 B) (w2_2 B) (w1_3 B) (w2_3 B)
def kXn3 := k0_pay39 (F := Ideal) (g2 B) (kX1 B) (kH B) (kP B) (kR2 B) (w2_2 B) (w1_3 B) (w2_3 B)
def kT := k0_pay41 (F := Ideal) (g2 B) (kX1 B) (kH B) (kP B) (kR2 B) (w2_2 B) (w1_3 B) (w2_3 B) B.x13
def kDiff := k0_pay42 (F := Ideal) (kT B) B.x11
def kLoss := k0_pay43 (F := Ideal) (kT B) B.x11
def kDy := k0_pay44 (F := Ideal) (kT B) B.x11
def kDx2 := k0_pay45 (F := Ideal) (kRs3 B) (kXn3 B) (gf B) (kT B) B.x11
def kDy2 := k0_pay46 (F := Ideal) (g2 B) (kRs3 B) (kXn3 B) (gf B) (kT B) B.x11
def kDa0 := k0_pay48 (F := Ideal) (g2 B) (kRs3 B) (kXn3 B) (gf B) (kT B) B.x11 (w2_0 B) (kS0 B)
def kDa1 := k0_pay49 (F := Ideal) (kDy2 B) (w2_1 B) (kS1 B)
def kDa2 := k0_pay51 (F := Ideal) (kDy2 B) (w2_2 B) (kS2 B)
def kDa3 := k0_pay52 (F := Ideal) (kDy2 B) (w2_3 B) (kS3 B)
def kQ := k0_pay50 (F := Ideal) (kDy2 B) k0_pay47 (kDa0 B) (w1_0 B) (w2_1 B) (kS1 B) (w1_1 B)
def kDh := k0_pay53 (F := Ideal) (kDy2 B) (kQ B) (kDa2 B) (w1_2 B) (w2_3 B) (kS3 B) (w1_3 B)
def kDx1 := k0_pay54 (F := Ideal) (sc B) (kRs B) (kXn B) (kDx2 B) (kDy2 B) (kQ B) (kDa2 B) (w1_2 B) (w2_3 B) (kS3 B) (w1_3 B)
def kDy1 := k0_pay55 (F := Ideal) (g1 B) (sc B) (kRs B) (kXn B) (kDx2 B) (kDy2 B) (kQ B) (kDa2 B) (w1_2 B) (w2_3 B) (kS3 B) (w1_3 B)
def kDo := k0_pay57 (F := Ideal) (kDy1 B) (woLo B)
def kDc := k0_pay58 (F := Ideal) (kDy1 B) (woHi B)
def kDgb := k0_pay59 (F := Ideal) (kY B) (kDy1 B) (woHi B)
def kDyv := k0_pay60 (F := Ideal) (k0_pay14 (F := Ideal) B.x1) (kDy1 B) (woHi B)

/-! ## In the rows' terms -/

/-- The weights as the blocks hold them; the first layer comes in four chunks of columns. -/
def wts : Wts where
  cw k e := B.x8 (ix2 ⟨k.val, by omega⟩ e)
  wo k j := B.x9 (ix2 k j)
  g1 j := B.x12 (ix2 0 j)
  sh j := B.x12 (ix2 1 j)
  sc j := B.x12 (ix2 2 j)
  g2 j := B.x12 (ix2 3 j)
  gf j := B.x13 (ix2 0 j)
  w1 k f := B.x14 (ix3 ⟨f.val / 1024, by omega⟩ k ⟨f.val % 1024, by omega⟩)
  w2 f j := B.x15 (ix2 f j)

/-- Row `i` of the block. -/
def row (i : Fin 256) : Row where
  o e := B.x0 (ix2 i e)
  gb e := B.x1 (ix2 i e)
  u e := B.x2 (ix2 i e) * B.x3 (ix2 i e)
  up e := if h : i.val = 0 then (if 0 < (B.i 0).val then B.x4 (ix2 7 e) * B.x5 (ix2 7 e) else 0)
    else B.x2 (ix2 ⟨i.val - 1, by omega⟩ e) * B.x3 (ix2 ⟨i.val - 1, by omega⟩ e)
  un e := if h : i.val = 255 then (if (B.i 0).val < 15 then B.x6 (ix2 0 e) * B.x7 (ix2 0 e) else 0)
    else B.x2 (ix2 ⟨i.val + 1, by omega⟩ e) * B.x3 (ix2 ⟨i.val + 1, by omega⟩ e)
  x j := B.x10 (ix2 i j)
  tgt j := B.x11 (ix2 i j)

theorem ld_w1 (n : ℕ) (hn : n < 4) (f : Fin 1024) (k : Fin 1024) : B.x14 (ix3 ⟨n, hn⟩ k f) = (wts B).w1 k ⟨1024 * n + f.val, by omega⟩ := by
  unfold wts
  refine congrArg B.x14 (congrArg₂ (fun a b => ix3 a k b) (Fin.ext ?_) (Fin.ext ?_))
  · dsimp only; omega
  · dsimp only; omega

section
variable (i : Fin 256) (j k : Fin 1024) (e : Fin 512)

theorem cw0_at : cw0 B (ix2 0 e) = (wts B).cw 0 e := by pointwise [cw0, rowC, wts]
theorem cw1_at : cw1 B (ix2 0 e) = (wts B).cw 1 e := by pointwise [cw1, rowC, wts]
theorem cw2_at : cw2 B (ix2 0 e) = (wts B).cw 2 e := by pointwise [cw2, rowC, wts]
theorem woLo_at (k : Fin 512) : woLo B (ix2 k j) = (wts B).wo (MlpSpec.lo k) j := by pointwise [woLo, wts]
theorem woHi_at (k : Fin 512) : woHi B (ix2 k j) = (wts B).wo (MlpSpec.hi k) j := by pointwise [woHi, wts]
theorem g1_at : g1 B (ix2 0 j) = (wts B).g1 j := by rw [g1, pay6_at]; pointwise [rowM, wts]
theorem sh_at : sh B (ix2 0 j) = (wts B).sh j := by rw [sh, pay7_at]; pointwise [rowM, wts]
theorem sc_at : sc B (ix2 0 j) = (wts B).sc j := by rw [sc, pay8_at]; pointwise [rowM, wts]
theorem g2_at : g2 B (ix2 0 j) = (wts B).g2 j := by rw [g2, pay9_at]; pointwise [rowM, wts]
theorem gf_at : gf B (ix2 0 j) = (wts B).gf j := pay40_at B.x13 j
theorem w1_0_at : w1_0 B (ix3 0 k j) = (wts B).w1 k ⟨0 + j.val, by omega⟩ := by rw [← show _ = _ from ld_w1 B 0 (by omega) j k]; pointwise [w1_0]
theorem w1_1_at : w1_1 B (ix3 0 k j) = (wts B).w1 k ⟨1024 + j.val, by omega⟩ := by rw [← show _ = _ from ld_w1 B 1 (by omega) j k]; pointwise [w1_1]
theorem w1_2_at : w1_2 B (ix3 0 k j) = (wts B).w1 k ⟨2048 + j.val, by omega⟩ := by rw [← show _ = _ from ld_w1 B 2 (by omega) j k]; pointwise [w1_2]
theorem w1_3_at : w1_3 B (ix3 0 k j) = (wts B).w1 k ⟨3072 + j.val, by omega⟩ := by rw [← show _ = _ from ld_w1 B 3 (by omega) j k]; pointwise [w1_3]
theorem w2_0_at : w2_0 B (ix2 k j) = (wts B).w2 ⟨0 + k.val, by omega⟩ j := by pointwise [w2_0, wts]
theorem w2_1_at : w2_1 B (ix2 k j) = (wts B).w2 ⟨1024 + k.val, by omega⟩ j := by pointwise [w2_1, wts]
theorem w2_2_at : w2_2 B (ix2 k j) = (wts B).w2 ⟨2048 + k.val, by omega⟩ j := by pointwise [w2_2, wts]
theorem w2_3_at : w2_3 B (ix2 k j) = (wts B).w2 ⟨3072 + k.val, by omega⟩ j := by pointwise [w2_3, wts]
end

end Cert.MlpIdeal.Ops

end
-- ==== Proof.Mlp.Rows.lean ====
/-
  The named values of the body at one index, as the mathematics of the row the index lies in.
-/
module

public import proofs.«01_k».proof.Proof.Mlp.Blocks

@[expose] public section

set_option maxRecDepth 16384

noncomputable section

namespace Cert.MlpIdeal.Ops

open Idealize.ShloMosaic Cert.MlpIdeal Cert.MlpIdeal.Gen
open Cert.MlpSpec (lit Wts Row lo hi)

variable (B : In) (i : Fin 256) (j : Fin 1024) (e : Fin 512)

theorem kU_at : kU B (ix2 i e) = (row B i).u e := pay10_at _ _ i e
theorem kUp_at : kUp B (ix2 0 e) = if 0 < (B.i 0).val then B.x4 (ix2 7 e) * B.x5 (ix2 7 e) else 0 := by
  rw [kUp, pay11_at]; pointwise
theorem kDn_at : kDn B (ix2 0 e) = if (B.i 0).val < 15 then B.x6 (ix2 0 e) * B.x7 (ix2 0 e) else 0 := by
  rw [kDn, pay12_at]; pointwise

theorem kY_at : kY B (ix2 i e) = MlpSpec.y (wts B) (row B i) e := by
  rw [kY, pay13_at, cw0_at, cw1_at, cw2_at, kU_at B i e, kUp_at, kDn_at]
  unfold MlpSpec.y
  have hu : (if i.val = 0 then (if 0 < (B.i 0).val then B.x4 (ix2 7 e) * B.x5 (ix2 7 e) else 0)
      else kU B (ix2 ⟨(i.val + 256 - 1) % 256, Nat.mod_lt _ (by omega)⟩ e)) = (row B i).up e := by
    unfold row; dsimp only
    by_cases h : i.val = 0
    · rw [if_pos h, dif_pos h]
    · rw [if_neg h, dif_neg h, show (⟨(i.val + 256 - 1) % 256, Nat.mod_lt _ (by omega)⟩ : Fin 256) = ⟨i.val - 1, by omega⟩ from Fin.ext (by dsimp only; omega)]
      exact kU_at B _ e
  have hd : (if i.val = 255 then (if (B.i 0).val < 15 then B.x6 (ix2 0 e) * B.x7 (ix2 0 e) else 0)
      else kU B (ix2 ⟨(i.val + 256 - 255) % 256, Nat.mod_lt _ (by omega)⟩ e)) = (row B i).un e := by
    unfold row; dsimp only
    by_cases h : i.val = 255
    · rw [if_pos h, dif_pos h]
    · rw [if_neg h, dif_neg h, show (⟨(i.val + 256 - 255) % 256, Nat.mod_lt _ (by omega)⟩ : Fin 256) = ⟨i.val + 1, by omega⟩ from Fin.ext (by dsimp only; omega)]
      exact kU_at B _ e
  rw [hu, hd]

theorem kConv_at : kConv B (ix2 i e) = MlpSpec.conv (wts B) (row B i) e :=
  (pay15_at _ _ _ _ _ _ _ i e).trans (congrArg (_ * ·) (kY_at B i e))
theorem kO_at : kO B (ix2 i j) = ∑ k, (row B i).o k * (wts B).wo (lo k) j := by
  rw [kO, pay16_at]; exact Finset.sum_congr rfl fun k _ => congrArg (_ * ·) (woLo_at B j k)
theorem kY1_at : kY1 B (ix2 i j) = MlpSpec.y1 (wts B) (row B i) j := by
  rw [kY1, pay17_at, kO_at]; simp only [kConv_at, woHi_at]; rfl
theorem kX1_at : kX1 B (ix2 i j) = MlpSpec.x1 (wts B) (row B i) j := by
  rw [kX1, pay18_at, g1_at]; exact congrArg (_ + _ * ·) (kY1_at B i j)
theorem kRs_at : kRs B (ix2 i 0) = MlpSpec.rs (MlpSpec.x1 (wts B) (row B i)) := by
  rw [kRs, pay19_at]; exact congrArg MlpSpec.rs (funext fun j => kX1_at B i j)
theorem kXn_at : kXn B (ix2 i j) = MlpSpec.xn (MlpSpec.x1 (wts B) (row B i)) j := by
  rw [kXn, pay20_at]; exact congrArg₂ (· * ·) (kX1_at B i j) (kRs_at B i)
theorem kH_at : kH B (ix2 i j) = MlpSpec.h (wts B) (row B i) j := by
  rw [kH, pay21_at, sc_at, sh_at]; exact congrArg (· * _ + _) (kXn_at B i j)

/-- A chunk's activation is the activation at the chunk's place in the hidden layer. -/
theorem kA0_at : kA0 B (ix2 i j) = MlpSpec.a (wts B) (row B i) ⟨0 + j.val, by omega⟩ := by
  rw [kA0, pay23_at]; exact congrArg (max · 0) (Finset.sum_congr rfl fun k _ => congrArg₂ (· * ·) (kH_at B i k) (w1_0_at B j k))
theorem kA1_at : kA1 B (ix2 i j) = MlpSpec.a (wts B) (row B i) ⟨1024 + j.val, by omega⟩ := by
  rw [kA1, pay26_at]; exact congrArg (max · 0) (Finset.sum_congr rfl fun k _ => congrArg₂ (· * ·) (kH_at B i k) (w1_1_at B j k))
theorem kA2_at : kA2 B (ix2 i j) = MlpSpec.a (wts B) (row B i) ⟨2048 + j.val, by omega⟩ := by
  rw [kA2, pay30_at]; exact congrArg (max · 0) (Finset.sum_congr rfl fun k _ => congrArg₂ (· * ·) (kH_at B i k) (w1_2_at B j k))
theorem kA3_at : kA3 B (ix2 i j) = MlpSpec.a (wts B) (row B i) ⟨3072 + j.val, by omega⟩ := by
  rw [kA3, pay33_at]; exact congrArg (max · 0) (Finset.sum_congr rfl fun k _ => congrArg₂ (· * ·) (kH_at B i k) (w1_3_at B j k))

/-- The squared activation. -/
abbrev sq (f : Fin 4096) : EReal := MlpSpec.a (wts B) (row B i) f * MlpSpec.a (wts B) (row B i) f
theorem kR0_at : kR0 B (ix2 i j) = sq B i ⟨0 + j.val, by omega⟩ := (pay25_at _ _ _ _ _ _ _ _ i j).trans (congrArg₂ (· * ·) (kA0_at B i j) (kA0_at B i j))
theorem kR1_at : kR1 B (ix2 i j) = sq B i ⟨1024 + j.val, by omega⟩ := (pay28_at _ _ i j).trans (congrArg₂ (· * ·) (kA1_at B i j) (kA1_at B i j))
theorem kR2_at : kR2 B (ix2 i j) = sq B i ⟨2048 + j.val, by omega⟩ := (pay32_at _ _ i j).trans (congrArg₂ (· * ·) (kA2_at B i j) (kA2_at B i j))
theorem kR3_at : kR3 B (ix2 i j) = sq B i ⟨3072 + j.val, by omega⟩ := (pay35_at _ _ i j).trans (congrArg₂ (· * ·) (kA3_at B i j) (kA3_at B i j))

theorem kY2_at : kY2 B (ix2 i j) = MlpSpec.y2 (wts B) (row B i) j := by
  rw [kY2, pay36_at, kP, pay29_at, pay22_at, MlpSpec.y2, MlpSpec.sum_four]
  refine congrArg₂ (· + ·) (congrArg₂ (· + ·) (congrArg₂ (· + ·) (congrArg (0 + ·) ?_) ?_) ?_) ?_ <;> refine Finset.sum_congr rfl fun k _ => ?_
  · exact congrArg₂ (· * ·) (kR0_at B i k) (w2_0_at B j k)
  · exact congrArg₂ (· * ·) (kR1_at B i k) (w2_1_at B j k)
  · exact congrArg₂ (· * ·) (kR2_at B i k) (w2_2_at B j k)
  · exact congrArg₂ (· * ·) (kR3_at B i k) (w2_3_at B j k)
theorem kX2_at : kX2 B (ix2 i j) = MlpSpec.x2 (wts B) (row B i) j := by
  rw [kX2, pay37_at, g2_at, kX1_at]; exact congrArg (_ + _ * ·) (kY2_at B i j)
theorem kRs3_at : kRs3 B (ix2 i 0) = MlpSpec.rs (MlpSpec.x2 (wts B) (row B i)) := by
  rw [kRs3, pay38_at]; exact congrArg MlpSpec.rs (funext fun j => kX2_at B i j)
theorem kXn3_at : kXn3 B (ix2 i j) = MlpSpec.xn (MlpSpec.x2 (wts B) (row B i)) j := by
  rw [kXn3, pay39_at]; exact congrArg₂ (· * ·) (kX2_at B i j) (kRs3_at B i)
theorem kT_at : kT B (ix2 i j) = MlpSpec.xn (MlpSpec.x2 (wts B) (row B i)) j * (wts B).gf j := by
  rw [kT, pay41_at]; exact congrArg (· * _) (kXn3_at B i j)
theorem kDiff_at : kDiff B (ix2 i j) = MlpSpec.diff (wts B) (row B i) j := by
  rw [kDiff, pay42_at, kT_at]; rfl
theorem kDy_at : kDy B (ix2 i j) = MlpSpec.dy (wts B) (row B i) j := by
  rw [kDy, pay44_at]; exact congrArg (· * _) (kDiff_at B i j)
theorem kLoss_at : kLoss B (ix2 0 0)
    = lit 0x3F000000#32 * (∑ i, ∑ j, MlpSpec.diff (wts B) (row B i) j * MlpSpec.diff (wts B) (row B i) j) * lit 0x3A800000#32 := by
  rw [kLoss, pay43_at]
  exact congrArg (_ * · * _) (Finset.sum_congr rfl fun i _ => Finset.sum_congr rfl fun j _ => congrArg₂ (· * ·) (kDiff_at B i j) (kDiff_at B i j))
theorem kDx2_at : kDx2 B (ix2 i j) = MlpSpec.dx2 (wts B) (row B i) j := by
  rw [kDx2, pay45_at]
  change _ * (kDy B _ * gf B _ - _ * Ideal.div (∑ k, kDy B _ * gf B _ * _) _) = _
  simp only [kRs3_at, kXn3_at, kDy_at, gf_at]; rfl
theorem kDy2_at : kDy2 B (ix2 i j) = MlpSpec.dy2 (wts B) (row B i) j := by
  rw [kDy2, pay46_at, g2_at]; exact congrArg (· * _) (kDx2_at B i j)

theorem kDa0_at : kDa0 B (ix2 i j) = MlpSpec.da (wts B) (row B i) ⟨0 + j.val, by omega⟩ := by
  rw [kDa0, pay48_at, kS0, pay24_at]
  exact congrArg₂ (_ * · * ·) (kA0_at B i j) (Finset.sum_congr rfl fun k _ => congrArg₂ (· * ·) (kDy2_at B i k) (w2_0_at B k j))
theorem kDa1_at : kDa1 B (ix2 i j) = MlpSpec.da (wts B) (row B i) ⟨1024 + j.val, by omega⟩ := by
  rw [kDa1, pay49_at, kS1, pay27_at]
  exact congrArg₂ (_ * · * ·) (kA1_at B i j) (Finset.sum_congr rfl fun k _ => congrArg₂ (· * ·) (kDy2_at B i k) (w2_1_at B k j))
theorem kDa2_at : kDa2 B (ix2 i j) = MlpSpec.da (wts B) (row B i) ⟨2048 + j.val, by omega⟩ := by
  rw [kDa2, pay51_at, kS2, pay31_at]
  exact congrArg₂ (_ * · * ·) (kA2_at B i j) (Finset.sum_congr rfl fun k _ => congrArg₂ (· * ·) (kDy2_at B i k) (w2_2_at B k j))
theorem kDa3_at : kDa3 B (ix2 i j) = MlpSpec.da (wts B) (row B i) ⟨3072 + j.val, by omega⟩ := by
  rw [kDa3, pay52_at, kS3, pay34_at]
  exact congrArg₂ (_ * · * ·) (kA3_at B i j) (Finset.sum_congr rfl fun k _ => congrArg₂ (· * ·) (kDy2_at B i k) (w2_3_at B k j))

theorem kDh_at : kDh B (ix2 i j) = MlpSpec.dh (wts B) (row B i) j := by
  rw [kDh, pay53_at, kQ, pay50_at, pay47_at, MlpSpec.dh, MlpSpec.sum_four]
  refine congrArg₂ (· + ·) (congrArg₂ (· + ·) (congrArg₂ (· + ·) (congrArg (0 + ·) ?_) ?_) ?_) ?_ <;> refine Finset.sum_congr rfl fun k _ => ?_
  · exact congrArg₂ (· * ·) (kDa0_at B i k) (w1_0_at B k j)
  · exact congrArg₂ (· * ·) (kDa1_at B i k) (w1_1_at B k j)
  · exact congrArg₂ (· * ·) (kDa2_at B i k) (w1_2_at B k j)
  · exact congrArg₂ (· * ·) (kDa3_at B i k) (w1_3_at B k j)
theorem kDx1_at : kDx1 B (ix2 i j) = MlpSpec.dx1 (wts B) (row B i) j := by
  rw [kDx1, pay54_at]
  change _ + _ * (kDh B _ * _ - _ * Ideal.div (∑ k, kDh B _ * _ * _) _) = _
  simp only [kRs_at, kXn_at, kDx2_at, kDh_at, sc_at]; rfl
theorem kDy1_at : kDy1 B (ix2 i j) = MlpSpec.dy1 (wts B) (row B i) j := by
  rw [kDy1, pay55_at, g1_at]; exact congrArg (· * _) (kDx1_at B i j)
theorem kDo_at : kDo B (ix2 i e) = MlpSpec.dd (wts B) (row B i) (lo e) := by
  rw [kDo, pay57_at]; exact Finset.sum_congr rfl fun k _ => congrArg₂ (· * ·) (kDy1_at B i k) (woLo_at B k e)
theorem kDc_at : kDc B (ix2 i e) = MlpSpec.dd (wts B) (row B i) (hi e) := by
  rw [kDc, pay58_at]; exact Finset.sum_congr rfl fun k _ => congrArg₂ (· * ·) (kDy1_at B i k) (woHi_at B k e)
theorem kDgb_at : kDgb B (ix2 i e) = MlpSpec.dgb (wts B) (row B i) e := by
  rw [kDgb, pay59_at, kY_at]; exact congrArg (· * _) (kDc_at B i e)
theorem kDyv_at : kDyv B (ix2 i e) = MlpSpec.dyv (wts B) (row B i) e := by
  rw [kDyv, pay60_at, pay14_at]; exact congrArg (· * _) (kDc_at B i e)

end Cert.MlpIdeal.Ops

end
-- ==== Proof.Mlp.Tie.lean ====
/-
  What the body leaves in the blocks of its outputs: the values named in Proof/Mlp/Blocks.lean, the two outputs of the hidden
  layer chunk by chunk, and the accumulator's rows with this block's sums added to what they held.
-/
module

public import proofs.«01_k».proof.Proof.Mlp.BodyFrame
public import proofs.«01_k».proof.Proof.Mlp.Rows
public import Idealize.ShloMosaic.Lib.Pipeline.ReadBack

@[expose] public section

set_option maxRecDepth 16384

noncomputable section

namespace Cert.MlpIdeal.Tie

open Idealize.ShloMosaic Idealize.ShloMosaic.TcCoe Idealize.ShloMosaic.Tactic Cert.MlpIdeal Cert.MlpIdeal.Gen Cert.MlpIdeal.Ops

variable (m : (ℓ : Loc nD τ sig) → Buf (Elt Ideal) ℓ)

/-- The blocks of the inputs at a point. -/
def inAt (c : Dev nD) (t : Fin cfg0.N) : In := ⟨grid0.coords t, iblk m c 0 t, iblk m c 1 t, iblk m c 2 t, iblk m c 3 t, iblk m c 4 t, iblk m c 5 t,
  iblk m c 6 t, iblk m c 7 t, iblk m c 8 t, iblk m c 9 t, iblk m c 10 t, iblk m c 11 t, iblk m c 12 t, iblk m c 13 t, iblk m c 14 t, iblk m c 15 t⟩

variable (b : Bool) (c : Dev nD) (t : Fin cfg0.N) (hb : cond0_0 (grid0.coords t) ↔ b = true) (xo : Vec Ideal S8x1024 .f32)

theorem tie18 : (outOf m b c t hb xo).o18 = kH (inAt m c t) := by
  funext y
  cases b <;> (dsimp only [outOf]; unfold runOn bodyRun; dsimp only; frame_open; frame_out; sl_kernel_rfl)
theorem tie19 : (outOf m b c t hb xo).o19 = kDy2 (inAt m c t) := by
  funext y
  cases b <;> (dsimp only [outOf]; unfold runOn bodyRun; dsimp only; frame_open; frame_out; sl_kernel_rfl)
theorem tie20 : (outOf m b c t hb xo).o20 = kDx1 (inAt m c t) := by
  funext y
  cases b <;> (
    dsimp only [outOf]; unfold runOn bodyRun; dsimp only; frame_open
    simp (disch := decide) only [↓ View.readCov_skip, ↓ View.readCov_cons_toLoadRect, ↓ View.readCov_fill]
    frame_out; sl_kernel_rfl)
theorem tie21 : (outOf m b c t hb xo).o21 = kConv (inAt m c t) := by
  funext y
  cases b <;> (dsimp only [outOf]; unfold runOn bodyRun; dsimp only; frame_open; frame_out; sl_kernel_rfl)
theorem tie23 : (outOf m b c t hb xo).o23 = k0_pay56 (F := Ideal) (kDy1 (inAt m c t)) := by
  funext y
  cases b <;> (
    dsimp only [outOf]; unfold runOn bodyRun; dsimp only; frame_open
    simp (disch := decide) only [↓ View.readCov_skip, ↓ View.readCov_cons_toLoadRect, ↓ View.readCov_fill]
    frame_out; sl_kernel_rfl)
theorem tie24 : (outOf m b c t hb xo).o24 = kDo (inAt m c t) := by
  funext y
  cases b <;> (
    dsimp only [outOf]; unfold runOn bodyRun; dsimp only; frame_open
    simp (disch := decide) only [↓ View.readCov_skip, ↓ View.readCov_cons_toLoadRect, ↓ View.readCov_fill]
    frame_out; sl_kernel_rfl)
theorem tie25 : (outOf m b c t hb xo).o25 = kDgb (inAt m c t) := by
  funext y
  cases b <;> (
    dsimp only [outOf]; unfold runOn bodyRun; dsimp only; frame_open
    simp (disch := decide) only [↓ View.readCov_skip, ↓ View.readCov_cons_toLoadRect, ↓ View.readCov_fill]
    frame_out; sl_kernel_rfl)
theorem tie26 : (outOf m b c t hb xo).o26 = kDyv (inAt m c t) := by
  funext y
  cases b <;> (
    dsimp only [outOf]; unfold runOn bodyRun; dsimp only; frame_open
    simp (disch := decide) only [↓ View.readCov_skip, ↓ View.readCov_cons_toLoadRect, ↓ View.readCov_fill]
    frame_out; sl_kernel_rfl)

/-! ## The hidden layer's outputs -/

/-- A chunk of 1024 columns of the hidden layer. -/
abbrev rH (n : ℕ) (h : ∀ a : Fin 2, ![0, n] a + ![256, 1024] a ≤ S256x4096.size a) : Rect S256x4096 := Rect.unit ![0, n] ![256, 1024] h
def chunks (p3 p2 p1 p0 : T .bf16) : List (View.Piece (Elt Ideal) S256x4096 .bf16) :=
  [⟨rH 3072 inb_S256x4096_S256x1024_0_3072, p3⟩, ⟨rH 2048 inb_S256x4096_S256x1024_0_2048, p2⟩,
   ⟨rH 1024 inb_S256x4096_S256x1024_0_1024, p1⟩, ⟨rH 0 inb_S256x4096_S256x1024_0_0, p0⟩]

theorem tie16 (y : S256x4096.Idx) : (outOf m b c t hb xo).o16 y
    = View.canon (chunks (kR3 (inAt m c t)) (kR2 (inAt m c t)) (kR1 (inAt m c t)) (kR0 (inAt m c t))) y := by
  cases b <;> (dsimp only [outOf]; unfold runOn bodyRun; dsimp only; frame_open; frame_out; sl_kernel_rfl)
theorem tie17 (y : S256x4096.Idx) : (outOf m b c t hb xo).o17 y
    = View.canon (chunks (kDa3 (inAt m c t)) (kDa2 (inAt m c t)) (kDa1 (inAt m c t)) (kDa0 (inAt m c t))) y := by
  cases b <;> (
    dsimp only [outOf]; unfold runOn bodyRun; dsimp only; frame_open
    simp (disch := decide) only [↓ View.readCov_skip, ↓ View.readCov_cons_toLoadRect, ↓ View.readCov_fill]
    frame_out; sl_kernel_rfl)

/-! ## The accumulator -/

/-- A row of the accumulator, and what is stored into the six rows over what they held. -/
abbrev rA (n : ℕ) (h : ∀ a : Fin 2, ![n, 0] a + ![1, 1024] a ≤ S8x1024.size a) : Rect S8x1024 := Rect.unit ![n, 0] ![1, 1024] h
def accPieces (B : In) (o : Vec Ideal S8x1024 .f32) : List (View.Piece (Elt Ideal) S8x1024 .f32) :=
  [⟨rA 4 inb_S8x1024_S1x1024_4_0, k0_pay4 (F := Ideal) (kLoss B) (View.ld o (rA 4 inb_S8x1024_S1x1024_4_0))⟩,
   ⟨rA 3 inb_S8x1024_S1x1024_3_0, k0_pay3 (F := Ideal) (kXn B) (kDh B) (View.ld o (rA 3 inb_S8x1024_S1x1024_3_0))⟩,
   ⟨rA 2 inb_S8x1024_S1x1024_2_0, k0_pay2 (F := Ideal) (kDh B) (View.ld o (rA 2 inb_S8x1024_S1x1024_2_0))⟩,
   ⟨rA 1 inb_S8x1024_S1x1024_1_0, k0_pay1 (F := Ideal) (kY2 B) (kDx2 B) (View.ld o (rA 1 inb_S8x1024_S1x1024_1_0))⟩,
   ⟨rA 0 inb_S8x1024_S1x1024_0_0, k0_pay62 (F := Ideal) (kXn3 B) (kDy B) (View.ld o (rA 0 inb_S8x1024_S1x1024_0_0))⟩,
   ⟨rA 5 inb_S8x1024_S1x1024_5_0, k0_pay61 (F := Ideal) (kY1 B) (kDx1 B) (View.ld o (rA 5 inb_S8x1024_S1x1024_5_0))⟩]

theorem tie22_false (hb : cond0_0 (grid0.coords t) ↔ false = true) (y : S8x1024.Idx) : (outOf m false c t hb xo).o22 y
    = (ms0_22 t).view.read (Elt Ideal) ((ms0_22 t).view.writes (Elt Ideal) ((hs0_22 t).unread xo) (accPieces (inAt m c t) xo)) y := by
  dsimp only [outOf]; unfold runOn bodyRun; dsimp only; frame_open
  simp (disch := decide) only [↓ View.readCov_skip, ↓ View.readCov_cons_toLoadRect, ↓ View.readCov_fill]
  frame_out; sl_kernel_rfl

theorem tie22_true (hb : cond0_0 (grid0.coords t) ↔ true = true) (y : S8x1024.Idx) : (outOf m true c t hb xo).o22 y
    = (ms0_22 t).view.read (Elt Ideal) ((ms0_22 t).view.writes (Elt Ideal) ((hs0_22 t).unread xo)
        (accPieces (inAt m c t) (k0_pay5 (F := Ideal)) ++ [⟨Rect.unit ![0, 0] ![8, 1024] inb_S8x1024_S8x1024_0_0, k0_pay5 (F := Ideal)⟩])) y := by
  dsimp only [outOf]; unfold runOn bodyRun; dsimp only; frame_open
  simp (disch := decide) only [↓ View.readCov_skip, ↓ View.readCov_cons_toLoadRect, ↓ View.readCov_fill]
  frame_out; sl_kernel_rfl

end Cert.MlpIdeal.Tie

end
-- ==== Proof.Mlp.Acc.lean ====
/-
  What a point leaves in the hidden layer's two outputs, read at an index, and in the accumulator: what it held before, or
  zeros at the first point, and this block's sums.
-/
module

public import proofs.«01_k».proof.Proof.Mlp.Tie

@[expose] public section

set_option maxRecDepth 16384

noncomputable section

namespace Cert.MlpIdeal.Tie

open Idealize.ShloMosaic Idealize.ShloMosaic.TcCoe Idealize.ShloMosaic.Tactic Cert.MlpIdeal Cert.MlpIdeal.Gen Cert.MlpIdeal.Ops

/-! ## The hidden layer -/

/-- A chunk holds its columns of the whole. -/
theorem chunk (n : ℕ) (h : ∀ a : Fin 2, ![0, n] a + ![256, 1024] a ≤ S256x4096.size a) (p : T .bf16) (G : Fin 256 → Fin 4096 → EReal) (hn : n + 1024 ≤ 4096)
    (hp : ∀ (i : Fin 256) (j : Fin 1024), p (ix2 i j) = G i ⟨n + j.val, by omega⟩) (x : (rH n h).shape.Idx) :
    p x = (fun y : S256x4096.Idx => G (y 0) (y 1)) ((rH n h).emb x) := by
  have e0 : x = ix2 (x 0) (x 1) := by funext a; fin_cases a <;> rfl
  refine (congrArg p e0).trans ((hp (x 0) (x 1)).trans ?_)
  refine congrArg₂ G (Fin.ext ?_) (Fin.ext ?_)
  · change (x 0).val = 0 + 1 * (x 0).val; omega
  · change n + (x 1).val = n + 1 * (x 1).val; omega

theorem canon_chunks (G : Fin 256 → Fin 4096 → EReal) (p3 p2 p1 p0 : T .bf16) (h3 : ∀ (i : Fin 256) (j : Fin 1024), p3 (ix2 i j) = G i ⟨3072 + j.val, by omega⟩)
    (h2 : ∀ (i : Fin 256) (j : Fin 1024), p2 (ix2 i j) = G i ⟨2048 + j.val, by omega⟩) (h1 : ∀ (i : Fin 256) (j : Fin 1024), p1 (ix2 i j) = G i ⟨1024 + j.val, by omega⟩)
    (h0 : ∀ (i : Fin 256) (j : Fin 1024), p0 (ix2 i j) = G i ⟨0 + j.val, by omega⟩) (y : S256x4096.Idx) :
    View.canon (chunks p3 p2 p1 p0) y = G (y 0) (y 1) := by
  have e : chunks p3 p2 p1 p0 = chunks p3 p2 p1 p0 ++ [] := (List.append_nil _).symm
  rw [e]
  exact View.canon_append_of_piecesOf (fun y : S256x4096.Idx => G (y 0) (y 1)) [] (chunks p3 p2 p1 p0)
    ⟨chunk 3072 inb_S256x4096_S256x1024_0_3072 p3 G (by omega) h3, chunk 2048 inb_S256x4096_S256x1024_0_2048 p2 G (by omega) h2, chunk 1024 inb_S256x4096_S256x1024_0_1024 p1 G (by omega) h1, chunk 0 inb_S256x4096_S256x1024_0_0 p0 G (by omega) h0, trivial⟩ y
    (View.cover_of_tiledL (chunks p3 p2 p1 p0) ![256, 1024] (by sl_kernel_rfl) y)

/-! ## The accumulator -/

section
variable (v : View sig .tc .vmem S8x1024 .f32) (f : v.ref.ty.shape.Idx → Elt Ideal v.ref.ty.elt) (L : List (View.Piece (Elt Ideal) S8x1024 .f32))

theorem rowHit (n : ℕ) (h : ∀ a : Fin 2, ![n, 0] a + ![1, 1024] a ≤ S8x1024.size a) (w : Vec Ideal S1x1024 .f32) (a : Fin 8) (j : Fin 1024) (ha : a.val = n) :
    v.read (Elt Ideal) (v.writes (Elt Ideal) f (⟨rA n h, w⟩ :: L)) (ix2 a j) = w (ix2 0 j) := by
  refine View.read_writes_cons_hit_of_coords v f (rA n h) w L (ix2 0 j) (ix2 a j) fun b => ?_
  fin_cases b
  · change a.val = n + 1 * 0; omega
  · change j.val = 0 + 1 * j.val; omega
theorem rowMiss (n : ℕ) (h : ∀ a : Fin 2, ![n, 0] a + ![1, 1024] a ≤ S8x1024.size a) (w : Vec Ideal S1x1024 .f32) (a : Fin 8) (j : Fin 1024) (ha : a.val ≠ n) :
    v.read (Elt Ideal) (v.writes (Elt Ideal) f (⟨rA n h, w⟩ :: L)) (ix2 a j) = v.read (Elt Ideal) (v.writes (Elt Ideal) f L) (ix2 a j) :=
  View.read_writes_cons_miss_of_axis v f ⟨rA n h, w⟩ L (ix2 a j) 0 n 1 rfl rfl rfl (by change a.val < n ∨ n + 1 ≤ a.val; omega)

/-- The six stored rows over the rows they are added to, and the other two as before. -/
theorem accPieces_read (B : In) (o : Vec Ideal S8x1024 .f32) (a : Fin 8) (j : Fin 1024) (ho : 6 ≤ a.val → v.read (Elt Ideal) (v.writes (Elt Ideal) f L) (ix2 a j) = o (ix2 a j)) :
    v.read (Elt Ideal) (v.writes (Elt Ideal) f (accPieces B o ++ L)) (ix2 a j) = o (ix2 a j) + MlpSpec.acc (wts B) (row B) a j := by
  simp only [accPieces, List.cons_append, List.nil_append]
  fin_cases a
  · rw [rowMiss _ _ _ 4 _ _ _ _ (by decide), rowMiss _ _ _ 3 _ _ _ _ (by decide), rowMiss _ _ _ 2 _ _ _ _ (by decide), rowMiss _ _ _ 1 _ _ _ _ (by decide)]
    refine (rowHit _ _ _ 0 _ _ _ _ rfl).trans ((pay62_at _ _ _ j).trans (congrArg₂ (· + ·) (by pointwise) ?_))
    exact Finset.sum_congr rfl fun i _ => congrArg₂ (· * ·) (kDy_at B i j) (kXn3_at B i j)
  · rw [rowMiss _ _ _ 4 _ _ _ _ (by decide), rowMiss _ _ _ 3 _ _ _ _ (by decide), rowMiss _ _ _ 2 _ _ _ _ (by decide)]
    refine (rowHit _ _ _ 1 _ _ _ _ rfl).trans ((pay1_at _ _ _ j).trans (congrArg₂ (· + ·) (by pointwise) ?_))
    exact Finset.sum_congr rfl fun i _ => congrArg₂ (· * ·) (kDx2_at B i j) (kY2_at B i j)
  · rw [rowMiss _ _ _ 4 _ _ _ _ (by decide), rowMiss _ _ _ 3 _ _ _ _ (by decide)]
    refine (rowHit _ _ _ 2 _ _ _ _ rfl).trans ((pay2_at _ _ j).trans (congrArg₂ (· + ·) (by pointwise) ?_))
    exact Finset.sum_congr rfl fun i _ => kDh_at B i j
  · rw [rowMiss _ _ _ 4 _ _ _ _ (by decide)]
    refine (rowHit _ _ _ 3 _ _ _ _ rfl).trans ((pay3_at _ _ _ j).trans (congrArg₂ (· + ·) (by pointwise) ?_))
    exact Finset.sum_congr rfl fun i _ => congrArg₂ (· * ·) (kDh_at B i j) (kXn_at B i j)
  · refine (rowHit _ _ _ 4 _ _ _ _ rfl).trans ((pay4_at _ _ j).trans (congrArg₂ (· + ·) (by pointwise) ?_))
    exact kLoss_at B
  · rw [rowMiss _ _ _ 4 _ _ _ _ (by decide), rowMiss _ _ _ 3 _ _ _ _ (by decide), rowMiss _ _ _ 2 _ _ _ _ (by decide), rowMiss _ _ _ 1 _ _ _ _ (by decide),
      rowMiss _ _ _ 0 _ _ _ _ (by decide)]
    refine (rowHit _ _ _ 5 _ _ _ _ rfl).trans ((pay61_at _ _ _ j).trans (congrArg₂ (· + ·) (by pointwise) ?_))
    exact Finset.sum_congr rfl fun i _ => congrArg₂ (· * ·) (kDx1_at B i j) (kY1_at B i j)
  all_goals
    rw [rowMiss _ _ _ 4 _ _ _ _ (by decide), rowMiss _ _ _ 3 _ _ _ _ (by decide), rowMiss _ _ _ 2 _ _ _ _ (by decide), rowMiss _ _ _ 1 _ _ _ _ (by decide),
      rowMiss _ _ _ 0 _ _ _ _ (by decide), rowMiss _ _ _ 5 _ _ _ _ (by decide)]
    exact (ho (by decide)).trans (add_zero _).symm

end

variable (m : (ℓ : Loc nD τ sig) → Buf (Elt Ideal) ℓ) (c : Dev nD) (t : Fin cfg0.N)

/-- The accumulator after a point that is not the first, and after the first. -/
theorem accNext (h : ¬t.val % 16 = 0) (y : S8x1024.Idx) : (outsAt m c t.val t.isLt).o22 y
    = (outsAt m c (t.val - 1) (Nat.lt_of_le_of_lt (Nat.sub_le _ _) t.isLt)).o22 y + MlpSpec.acc (wts (inAt m c t)) (row (inAt m c t)) (y 0) (y 1) := by
  have hy : y = ix2 (y 0) (y 1) := by funext a; fin_cases a <;> rfl
  have hb : decide (t.val % 16 = 0) = false := decide_eq_false h
  have h0 : t.val ≠ 0 := fun e => h (by rw [e])
  have key : ∀ (b : Bool) (hc : cond0_0 (grid0.coords t) ↔ b = true), b = false → (outOf m b c t hc (accBefore m c t)).o22 y
      = accBefore m c t y + MlpSpec.acc (wts (inAt m c t)) (row (inAt m c t)) (y 0) (y 1) := by
    rintro _ hc rfl
    refine (tie22_false m c t _ hc y).trans ?_
    have e : accPieces (inAt m c t) (accBefore m c t) = accPieces (inAt m c t) (accBefore m c t) ++ [] := (List.append_nil _).symm
    rw [e, hy]
    refine accPieces_read _ _ _ _ _ _ _ fun _ => ?_
    rw [View.writes_nil, (hs0_22 t).read_unread]
  rw [outsAt_eq, key _ _ hb, accBefore, if_neg h0]

theorem accFirst (h : t.val % 16 = 0) (y : S8x1024.Idx) : (outsAt m c t.val t.isLt).o22 y
    = 0 + MlpSpec.acc (wts (inAt m c t)) (row (inAt m c t)) (y 0) (y 1) := by
  have hy : y = ix2 (y 0) (y 1) := by funext a; fin_cases a <;> rfl
  have z : k0_pay5 (F := Ideal) (ix2 (y 0) (y 1)) = (0 : EReal) := pay5_at (y 1) (y 0)
  have key : ∀ (b : Bool) (hc : cond0_0 (grid0.coords t) ↔ b = true), b = true → (outOf m b c t hc (accBefore m c t)).o22 y
      = 0 + MlpSpec.acc (wts (inAt m c t)) (row (inAt m c t)) (y 0) (y 1) := by
    rintro _ hc rfl
    refine (tie22_true m c t _ hc y).trans ?_
    rw [← z, hy]
    refine accPieces_read _ _ _ _ _ _ _ fun _ => ?_
    refine View.read_writes_cons_hit_of_coords _ _ _ _ [] (ix2 (y 0) (y 1)) _ fun b => ?_
    fin_cases b
    · change (y 0).val = 0 + 1 * (y 0).val; omega
    · change (y 1).val = 0 + 1 * (y 1).val; omega
  rw [outsAt_eq, key _ _ (decide_eq_true h)]

end Cert.MlpIdeal.Tie

end
-- ==== Proof.Mlp.Args.lean ====
/-
  The weights and the rows of the sequence as entries of the arguments' arrays.
-/
module

public import proofs.«01_k».proof.Proof.Mlp.Spec
public import Idealize.ShloMosaic.Lib.Pipeline.ValueKit

@[expose] public section

noncomputable section

namespace Cert.MlpSpec

open Idealize.ShloMosaic

/-- The arguments that the layer's output depends on. -/
structure Args where
  x : FVec Ideal ⟨3, ![1, 4096, 1024]⟩ .f32
  attn : FVec Ideal ⟨3, ![1, 4096, 512]⟩ .f32
  z : FVec Ideal ⟨3, ![1, 4096, 1952]⟩ .f32
  mod : FVec Ideal ⟨2, ![1, 6144]⟩ .f32
  cw : FVec Ideal ⟨2, ![3, 512]⟩ .f32
  wo : FVec Ideal ⟨2, ![1024, 1024]⟩ .f32
  w1 : FVec Ideal ⟨2, ![1024, 4096]⟩ .f32
  w2 : FVec Ideal ⟨2, ![4096, 1024]⟩ .f32
  gf : FVec Ideal ⟨1, ![1024]⟩ .f32
  tgt : FVec Ideal ⟨3, ![1, 4096, 1024]⟩ .f32

variable (A : Args)

/-- The gated input of the convolution at row `n`. -/
def gated (n : Fin 4096) (e : Fin 512) : EReal := A.z (ix3 0 n ⟨928 + e.val, by omega⟩) * A.z (ix3 0 n ⟨1440 + e.val, by omega⟩)

def wtsOf : Wts where
  cw k e := A.cw (ix2 k e)
  wo k j := A.wo (ix2 k j)
  g1 j := A.mod (ix2 0 ⟨2048 + j.val, by omega⟩)
  sh j := A.mod (ix2 0 ⟨3072 + j.val, by omega⟩)
  sc j := A.mod (ix2 0 ⟨4096 + j.val, by omega⟩)
  g2 j := A.mod (ix2 0 ⟨5120 + j.val, by omega⟩)
  gf j := A.gf (ix1 j)
  w1 k f := A.w1 (ix2 k f)
  w2 f j := A.w2 (ix2 f j)

def rowOf (n : Fin 4096) : Row where
  o e := A.attn (ix3 0 n e)
  gb e := A.z (ix3 0 n ⟨416 + e.val, by omega⟩)
  u e := gated A n e
  up e := if h : n.val = 0 then 0 else gated A ⟨n.val - 1, by omega⟩ e
  un e := if h : n.val = 4095 then 0 else gated A ⟨n.val + 1, by omega⟩ e
  x j := A.x (ix3 0 n j)
  tgt j := A.tgt (ix3 0 n j)

end Cert.MlpSpec

end
-- ==== Proof.Mlp.Host.lean ====
/-
  The blocks that a point of the kernel's grid works on, as entries of the arguments: the host reorders the columns, fills rows
  and columns with zeros, and the windows cut 256 rows and the rows before and after them.
-/
module

public import proofs.«01_k».proof.Proof.Mlp.Acc
public import proofs.«01_k».proof.Proof.Mlp.Args
public import Idealize.ShloMosaic.Lib.Tactic.CleanTypes
public import Idealize.ShloMosaic.Lib.StableHlo.RunRead

@[expose] public section

set_option maxRecDepth 16384

noncomputable section

namespace Cert.MlpIdeal.Host

open Idealize.ShloMosaic Idealize.ShloMosaic.TcCoe Idealize.SL.Sem Cert.MlpIdeal Cert.MlpIdeal.Gen
open Cert.MlpSpec (Args wtsOf rowOf gated)

variable (m : (ℓ : Loc nD τ sig) → Buf (Elt Ideal) ℓ) (c : Dev nD)

/-- The arguments of a device. -/
def args : Args where
  x := m ((c : Thread nD τ).loc main_arg0)
  attn := m ((c : Thread nD τ).loc main_arg1)
  z := m ((c : Thread nD τ).loc main_arg2)
  mod := m ((c : Thread nD τ).loc main_arg4)
  cw := m ((c : Thread nD τ).loc main_arg5)
  wo := m ((c : Thread nD τ).loc main_arg6)
  w1 := m ((c : Thread nD τ).loc main_arg7)
  w2 := m ((c : Thread nD τ).loc main_arg8)
  gf := m ((c : Thread nD τ).loc main_arg9)
  tgt := m ((c : Thread nD τ).loc main_arg10)

abbrev hostMod : FVec Ideal S8x1024 .f32 := V m c main_v3
abbrev hostCw : FVec Ideal S8x512 .f32 := V m c main_v4
abbrev hostZ : FVec Ideal S4352x2048 .f32 := V m c main_v13
abbrev hostW1 : FVec Ideal S4x1024x1024 .bf16 := V m c main_v16
abbrev hostO : FVec Ideal S4096x512 .bf16 := V m c main_v18
abbrev hostX : FVec Ideal S4096x1024 .f32 := V m c main_v19
abbrev hostT : FVec Ideal S4096x1024 .f32 := V m c main_v20
abbrev hostGf : FVec Ideal S1x1024 .f32 := V m c main_v21
abbrev hostWo : FVec Ideal S1024x1024 .bf16 := V m c main_v22
abbrev hostW2 : FVec Ideal S4096x1024 .bf16 := V m c main_v23

theorem hostO_apply (n : Fin 4096) (e : Fin 512) : hostO m c (ix2 n e) = (args m c).attn (ix3 0 n e) := by
  simp only [hostO, V, List.flatten_cons, List.flatten_nil, List.append_nil, List.cons_append, List.nil_append, hostOps0, hostOps0_1, hostOps0_2]
  entry_read
  clean_types
  pointwise [args]

theorem hostMod_apply (a : Fin 4) (j : Fin 1024) : hostMod m c (ix2 ⟨a.val, by omega⟩ j) = (args m c).mod (ix2 0 ⟨(2 + a.val) * 1024 + j.val, by omega⟩) := by
  simp only [hostMod, V, List.flatten_cons, List.flatten_nil, List.append_nil, List.cons_append, List.nil_append, hostOps0, hostOps0_1, hostOps0_2]
  entry_read
  clean_types
  pointwise [args]

theorem hostCw_apply (a : Fin 3) (e : Fin 512) : hostCw m c (ix2 ⟨a.val, by omega⟩ e) = (args m c).cw (ix2 a e) := by
  simp only [hostCw, V, List.flatten_cons, List.flatten_nil, List.append_nil, List.cons_append, List.nil_append, hostOps0, hostOps0_1, hostOps0_2]
  entry_read
  simp only [StableHlo.TRef.toBuf, StableHlo.TRef.ofBuf, cast_cast, cast_eq]
  clean_types
  pointwise [args]

theorem hostW1_apply (a : Fin 4) (k f : Fin 1024) : hostW1 m c (ix3 a k f) = (args m c).w1 (ix2 k ⟨a.val * 1024 + f.val, by omega⟩) := by
  simp only [hostW1, V, List.flatten_cons, List.flatten_nil, List.append_nil, List.cons_append, List.nil_append, hostOps0, hostOps0_1, hostOps0_2]
  entry_read
  clean_types
  pointwise [args]

theorem hostX_apply (n : Fin 4096) (j : Fin 1024) : hostX m c (ix2 n j) = (args m c).x (ix3 0 n j) := by
  simp only [hostX, V, List.flatten_cons, List.flatten_nil, List.append_nil, List.cons_append, List.nil_append, hostOps0, hostOps0_1, hostOps0_2]
  entry_read
  clean_types
  pointwise [args]

theorem hostT_apply (n : Fin 4096) (j : Fin 1024) : hostT m c (ix2 n j) = (args m c).tgt (ix3 0 n j) := by
  simp only [hostT, V, List.flatten_cons, List.flatten_nil, List.append_nil, List.cons_append, List.nil_append, hostOps0, hostOps0_1, hostOps0_2]
  entry_read
  clean_types
  pointwise [args]

theorem hostGf_apply (j : Fin 1024) : hostGf m c (ix2 0 j) = (args m c).gf (ix1 j) := by
  simp only [hostGf, V, List.flatten_cons, List.flatten_nil, List.append_nil, List.cons_append, List.nil_append, hostOps0, hostOps0_1, hostOps0_2]
  entry_read
  clean_types
  pointwise [args]

theorem hostWo_apply (k j : Fin 1024) : hostWo m c (ix2 k j) = (args m c).wo (ix2 k j) := by
  simp only [hostWo, V, List.flatten_cons, List.flatten_nil, List.append_nil, List.cons_append, List.nil_append, hostOps0, hostOps0_1, hostOps0_2]
  entry_read
  clean_types
  pointwise [args]

theorem hostW2_apply (f : Fin 4096) (j : Fin 1024) : hostW2 m c (ix2 f j) = (args m c).w2 (ix2 f j) := by
  simp only [hostW2, V, List.flatten_cons, List.flatten_nil, List.append_nil, List.cons_append, List.nil_append, hostOps0, hostOps0_1, hostOps0_2]
  entry_read
  clean_types
  pointwise [args]

set_option maxHeartbeats 4000000 in
theorem hostZ_apply (n : Fin 4096) (l : Fin 1536) : hostZ m c (ix2 ⟨n.val, by omega⟩ ⟨512 + l.val, by omega⟩) = (args m c).z (ix3 0 n ⟨416 + l.val, by omega⟩) := by
  simp only [hostZ, V, List.flatten_cons, List.flatten_nil, List.append_nil, List.cons_append, List.nil_append, hostOps0, hostOps0_1, hostOps0_2]
  after_reads_simp
  dsimp only [Matrix.cons_val]
  clean_types
  pointwise [args]
  rw [dif_neg (by omega), dif_neg (by omega), dif_neg (by omega), dif_neg (by omega)]
  unfold StableHlo.upto
  simp only [List.take_succ_cons, List.take_zero]
  rw [StableHlo.unary_result]
  entry_read
  clean_types
  pointwise
  exact congrArg (m (c, Proc.devRef .tc main_arg2)) (congrArg (ix3 0 n) (Fin.ext (by dsimp only; omega)))

end Cert.MlpIdeal.Host

end
-- ==== Proof.Mlp.Point.lean ====
/-
  The blocks of a grid point are 256 rows of the arguments: the weights are the same at every point, and a block's row `i` is
  the sequence's row `256 t + i` with its neighbours.
-/
module

public import proofs.«01_k».proof.Proof.Mlp.Host

@[expose] public section

set_option maxRecDepth 16384

noncomputable section

namespace Cert.MlpIdeal.Host

open Idealize.ShloMosaic Idealize.ShloMosaic.TcCoe Idealize.SL.Sem Cert.MlpIdeal Cert.MlpIdeal.Gen Cert.MlpIdeal.Ops Cert.MlpIdeal.Tie
open Cert.MlpSpec (Args wtsOf rowOf gated)

/-- Where the blocks of a point lie, and the point's coordinate. -/
theorem idx : ∀ t : Fin cfg0.N, win0_0.index t = ![t.val, 0] ∧ win0_1.index t = ![t.val, 1] ∧ win0_2.index t = ![t.val, 2]
    ∧ win0_3.index t = ![t.val, 3] ∧ win0_4.index t = ![32 * t.val - 1, 2] ∧ win0_5.index t = ![32 * t.val - 1, 3]
    ∧ win0_6.index t = ![32 * (t.val + 1), 2] ∧ win0_7.index t = ![32 * (t.val + 1), 3] ∧ win0_8.index t = ![0, 0]
    ∧ win0_9.index t = ![0, 0] ∧ win0_10.index t = ![t.val, 0] ∧ win0_11.index t = ![t.val, 0] ∧ win0_12.index t = ![0, 0]
    ∧ win0_13.index t = ![0, 0] ∧ win0_14.index t = ![0, 0, 0] ∧ win0_15.index t = ![0, 0]
    ∧ (grid0.coords t 0).val = t.val ∧ t.val < 16 :=
  (by decide +kernel : ∀ t : Fin grid0.N, _)
theorem idxOut : ∀ t : Fin cfg0.N, win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![0, 0]
    ∧ win0_23.index t = ![t.val, 0] ∧ win0_24.index t = ![t.val, 0] ∧ win0_25.index t = ![t.val, 0] ∧ win0_26.index t = ![t.val, 0]
    ∧ t.val < 16 :=
  (by decide +kernel : ∀ t : Fin grid0.N, _)

variable (m : (ℓ : Loc nD τ sig) → Buf (Elt Ideal) ℓ) (c : Dev nD) (t : Fin cfg0.N)

theorem point_lt : t.val < 16 := (idxOut t).2.2.2.2.2.2.2.2.2.2.2
theorem coord : (grid0.coords t 0).val = t.val := (idx t).2.2.2.2.2.2.2.2.2.2.2.2.2.2.2.2.1

/-- A row of a block, in the sequence. -/
abbrev at_ (i : Fin 256) : Fin 4096 := ⟨256 * t.val + i.val, by have := point_lt t; omega⟩

/-! ## The weights -/

theorem b8 (k : Fin 3) (e : Fin 512) : iblk m c 8 t (ix2 ⟨k.val, by omega⟩ e) = (args m c).cw (ix2 k e) := by
  have h : iblk m c 8 t (ix2 ⟨k.val, by omega⟩ e) = V m c main_v4 (ix2 ⟨k.val, by omega⟩ e) := by blk_ext [iblk, idx t]
  exact h.trans (hostCw_apply m c k e)
theorem b9 (k j : Fin 1024) : iblk m c 9 t (ix2 k j) = (args m c).wo (ix2 k j) := by
  have h : iblk m c 9 t (ix2 k j) = V m c main_v22 (ix2 k j) := by blk_ext [iblk, idx t]
  exact h.trans (hostWo_apply m c k j)
theorem b12 (a : Fin 4) (j : Fin 1024) : iblk m c 12 t (ix2 ⟨a.val, by omega⟩ j) = (args m c).mod (ix2 0 ⟨(2 + a.val) * 1024 + j.val, by omega⟩) := by
  have h : iblk m c 12 t (ix2 ⟨a.val, by omega⟩ j) = V m c main_v3 (ix2 ⟨a.val, by omega⟩ j) := by blk_ext [iblk, idx t]
  exact h.trans (hostMod_apply m c a j)
theorem b12_0 (j : Fin 1024) : (inAt m c t).x12 (ix2 0 j) = (args m c).mod (ix2 0 ⟨2048 + j.val, by omega⟩) :=
  (b12 m c t ⟨0, by omega⟩ j).trans (congrArg (args m c).mod (congrArg (ix2 0) (Fin.ext (by change (2 + 0) * 1024 + j.val = 2048 + j.val; omega))))
theorem b12_1 (j : Fin 1024) : (inAt m c t).x12 (ix2 1 j) = (args m c).mod (ix2 0 ⟨3072 + j.val, by omega⟩) :=
  (b12 m c t ⟨1, by omega⟩ j).trans (congrArg (args m c).mod (congrArg (ix2 0) (Fin.ext (by change (2 + 1) * 1024 + j.val = 3072 + j.val; omega))))
theorem b12_2 (j : Fin 1024) : (inAt m c t).x12 (ix2 2 j) = (args m c).mod (ix2 0 ⟨4096 + j.val, by omega⟩) :=
  (b12 m c t ⟨2, by omega⟩ j).trans (congrArg (args m c).mod (congrArg (ix2 0) (Fin.ext (by change (2 + 2) * 1024 + j.val = 4096 + j.val; omega))))
theorem b12_3 (j : Fin 1024) : (inAt m c t).x12 (ix2 3 j) = (args m c).mod (ix2 0 ⟨5120 + j.val, by omega⟩) :=
  (b12 m c t ⟨3, by omega⟩ j).trans (congrArg (args m c).mod (congrArg (ix2 0) (Fin.ext (by change (2 + 3) * 1024 + j.val = 5120 + j.val; omega))))
theorem b13 (j : Fin 1024) : iblk m c 13 t (ix2 0 j) = (args m c).gf (ix1 j) := by
  have h : iblk m c 13 t (ix2 0 j) = V m c main_v21 (ix2 0 j) := by blk_ext [iblk, idx t]
  exact h.trans (hostGf_apply m c j)
theorem b14 (a : Fin 4) (k f : Fin 1024) : iblk m c 14 t (ix3 a k f) = (args m c).w1 (ix2 k ⟨a.val * 1024 + f.val, by omega⟩) := by
  have h : iblk m c 14 t (ix3 a k f) = V m c main_v16 (ix3 a k f) := by blk_ext [iblk, idx t]
  exact h.trans (hostW1_apply m c a k f)
theorem b15 (f : Fin 4096) (j : Fin 1024) : iblk m c 15 t (ix2 f j) = (args m c).w2 (ix2 f j) := by
  have h : iblk m c 15 t (ix2 f j) = V m c main_v23 (ix2 f j) := by blk_ext [iblk, idx t]
  exact h.trans (hostW2_apply m c f j)

theorem w1_eq (k : Fin 1024) (f : Fin 4096) : (wts (inAt m c t)).w1 k f = (wtsOf (args m c)).w1 k f := by
  have e : (⟨f.val / 1024 * 1024 + f.val % 1024, by omega⟩ : Fin 4096) = f := Fin.ext (by dsimp only; omega)
  have h := b14 m c t ⟨f.val / 1024, by omega⟩ k ⟨f.val % 1024, by omega⟩
  dsimp only at h
  rw [e] at h
  exact h
set_option maxHeartbeats 2000000 in
theorem wts_eq : wts (inAt m c t) = wtsOf (args m c) :=
  MlpSpec.Wts.ext (funext fun k => funext fun e => b8 m c t k e) (funext fun k => funext fun j => b9 m c t k j) (funext fun j => b12_0 m c t j)
    (funext fun j => b12_1 m c t j) (funext fun j => b12_2 m c t j) (funext fun j => b12_3 m c t j) (funext fun j => b13 m c t j)
    (funext fun k => funext fun f => w1_eq m c t k f) (funext fun f => funext fun j => b15 m c t f j)

/-! ## The rows -/

theorem b0 (i : Fin 256) (e : Fin 512) : iblk m c 0 t (ix2 i e) = (args m c).attn (ix3 0 (at_ t i) e) := by
  have h : iblk m c 0 t (ix2 i e) = V m c main_v18 (ix2 (at_ t i) e) := by blk_ext [iblk, idx t, at_]
  exact h.trans (hostO_apply m c _ e)
theorem b10 (i : Fin 256) (j : Fin 1024) : iblk m c 10 t (ix2 i j) = (args m c).x (ix3 0 (at_ t i) j) := by
  have h : iblk m c 10 t (ix2 i j) = V m c main_v19 (ix2 (at_ t i) j) := by blk_ext [iblk, idx t, at_]
  exact h.trans (hostX_apply m c _ j)
theorem b11 (i : Fin 256) (j : Fin 1024) : iblk m c 11 t (ix2 i j) = (args m c).tgt (ix3 0 (at_ t i) j) := by
  have h : iblk m c 11 t (ix2 i j) = V m c main_v20 (ix2 (at_ t i) j) := by blk_ext [iblk, idx t, at_]
  exact h.trans (hostT_apply m c _ j)
theorem b1 (i : Fin 256) (e : Fin 512) : iblk m c 1 t (ix2 i e) = (args m c).z (ix3 0 (at_ t i) ⟨416 + e.val, by omega⟩) := by
  have h : iblk m c 1 t (ix2 i e) = V m c main_v13 (ix2 ⟨(at_ t i).val, by omega⟩ ⟨512 + e.val, by omega⟩) := by blk_ext [iblk, idx t, at_]
  exact h.trans (hostZ_apply m c (at_ t i) ⟨e.val, by omega⟩)
theorem b2 (i : Fin 256) (e : Fin 512) : iblk m c 2 t (ix2 i e) = (args m c).z (ix3 0 (at_ t i) ⟨928 + e.val, by omega⟩) := by
  have h : iblk m c 2 t (ix2 i e) = V m c main_v13 (ix2 ⟨(at_ t i).val, by omega⟩ ⟨512 + (512 + e.val), by omega⟩) := by blk_ext [iblk, idx t, at_]
  exact h.trans ((hostZ_apply m c (at_ t i) ⟨512 + e.val, by omega⟩).trans (congrArg (args m c).z (congrArg (ix3 0 _) (Fin.ext (by dsimp only; omega)))))
theorem b3 (i : Fin 256) (e : Fin 512) : iblk m c 3 t (ix2 i e) = (args m c).z (ix3 0 (at_ t i) ⟨1440 + e.val, by omega⟩) := by
  have h : iblk m c 3 t (ix2 i e) = V m c main_v13 (ix2 ⟨(at_ t i).val, by omega⟩ ⟨512 + (1024 + e.val), by omega⟩) := by blk_ext [iblk, idx t, at_]
  exact h.trans ((hostZ_apply m c (at_ t i) ⟨1024 + e.val, by omega⟩).trans (congrArg (args m c).z (congrArg (ix3 0 _) (Fin.ext (by dsimp only; omega)))))
theorem b4 (e : Fin 512) (n : Fin 4096) (hn : n.val + 1 = 256 * t.val) : iblk m c 4 t (ix2 7 e) = (args m c).z (ix3 0 n ⟨928 + e.val, by omega⟩) := by
  have h : iblk m c 4 t (ix2 7 e) = V m c main_v13 (ix2 ⟨n.val, by omega⟩ ⟨512 + (512 + e.val), by omega⟩) := by blk_ext [iblk, idx t]
  exact h.trans ((hostZ_apply m c n ⟨512 + e.val, by omega⟩).trans (congrArg (args m c).z (congrArg (ix3 0 _) (Fin.ext (by dsimp only; omega)))))
theorem b5 (e : Fin 512) (n : Fin 4096) (hn : n.val + 1 = 256 * t.val) : iblk m c 5 t (ix2 7 e) = (args m c).z (ix3 0 n ⟨1440 + e.val, by omega⟩) := by
  have h : iblk m c 5 t (ix2 7 e) = V m c main_v13 (ix2 ⟨n.val, by omega⟩ ⟨512 + (1024 + e.val), by omega⟩) := by blk_ext [iblk, idx t]
  exact h.trans ((hostZ_apply m c n ⟨1024 + e.val, by omega⟩).trans (congrArg (args m c).z (congrArg (ix3 0 _) (Fin.ext (by dsimp only; omega)))))
theorem b6 (e : Fin 512) (n : Fin 4096) (hn : n.val = 256 * t.val + 256) : iblk m c 6 t (ix2 0 e) = (args m c).z (ix3 0 n ⟨928 + e.val, by omega⟩) := by
  have h : iblk m c 6 t (ix2 0 e) = V m c main_v13 (ix2 ⟨n.val, by omega⟩ ⟨512 + (512 + e.val), by omega⟩) := by blk_ext [iblk, idx t]
  exact h.trans ((hostZ_apply m c n ⟨512 + e.val, by omega⟩).trans (congrArg (args m c).z (congrArg (ix3 0 _) (Fin.ext (by dsimp only; omega)))))
theorem b7 (e : Fin 512) (n : Fin 4096) (hn : n.val = 256 * t.val + 256) : iblk m c 7 t (ix2 0 e) = (args m c).z (ix3 0 n ⟨1440 + e.val, by omega⟩) := by
  have h : iblk m c 7 t (ix2 0 e) = V m c main_v13 (ix2 ⟨n.val, by omega⟩ ⟨512 + (1024 + e.val), by omega⟩) := by blk_ext [iblk, idx t]
  exact h.trans ((hostZ_apply m c n ⟨1024 + e.val, by omega⟩).trans (congrArg (args m c).z (congrArg (ix3 0 _) (Fin.ext (by dsimp only; omega)))))

/-- The gated input of a row of the block. -/
theorem gate (i : Fin 256) (n : Fin 4096) (hn : n.val = 256 * t.val + i.val) (e : Fin 512) :
    (inAt m c t).x2 (ix2 i e) * (inAt m c t).x3 (ix2 i e) = gated (args m c) n e := by
  have h : at_ t i = n := Fin.ext hn.symm
  exact (congrArg₂ (fun a b : EReal => a * b) (b2 m c t i e) (b3 m c t i e)).trans (by rw [h]; rfl)

theorem up_eq (i : Fin 256) (e : Fin 512) : (row (inAt m c t) i).up e = (rowOf (args m c) (at_ t i)).up e := by
  have ht := point_lt t
  simp only [row, rowOf]
  have hc : ((inAt m c t).i 0).val = t.val := coord t
  simp only [hc]
  by_cases h : i.val = 0
  · rw [dif_pos h]
    by_cases h0 : 0 < t.val
    · rw [if_pos h0, dif_neg (by omega)]
      exact congrArg₂ (fun a b : EReal => a * b) (b4 m c t e _ (by dsimp only; omega)) (b5 m c t e _ (by dsimp only; omega))
    · rw [if_neg h0, dif_pos (by omega)]
  · rw [dif_neg h, dif_neg (by omega)]
    exact gate m c t _ _ (by dsimp only; omega) e

theorem un_eq (i : Fin 256) (e : Fin 512) : (row (inAt m c t) i).un e = (rowOf (args m c) (at_ t i)).un e := by
  have ht := point_lt t
  simp only [row, rowOf]
  have hc : ((inAt m c t).i 0).val = t.val := coord t
  simp only [hc]
  by_cases h : i.val = 255
  · rw [dif_pos h]
    by_cases h0 : t.val < 15
    · rw [if_pos h0, dif_neg (by omega)]
      exact congrArg₂ (fun a b : EReal => a * b) (b6 m c t e _ (by dsimp only; omega)) (b7 m c t e _ (by dsimp only; omega))
    · rw [if_neg h0, dif_pos (by omega)]
  · rw [dif_neg h, dif_neg (by omega)]
    exact gate m c t _ _ (by dsimp only; omega) e

theorem row_eq (i : Fin 256) : row (inAt m c t) i = rowOf (args m c) (at_ t i) := by
  refine MlpSpec.Row.ext ?_ ?_ ?_ ?_ ?_ ?_ ?_
  · funext e; exact b0 m c t i e
  · funext e; exact b1 m c t i e
  · funext e; exact gate m c t i _ rfl e
  · funext e; exact up_eq m c t i e
  · funext e; exact un_eq m c t i e
  · funext j; exact b10 m c t i j
  · funext j; exact b11 m c t i j

end Cert.MlpIdeal.Host

end
-- ==== Proof.Mlp.Loss.lean ====
/-
  The numbers the kernel's words stand for, and the loss: a factor on each side of a sum of squares goes out of the sum,
  whatever the squares are.
-/
module

public import proofs.«01_k».proof.Proof.Mlp.Spec

@[expose] public section

noncomputable section

namespace Cert.MlpSpec

open Idealize.ShloMosaic

/-- An array by its rows. -/
abbrev byRows {n k : ℕ} (e : FTy) (f : Fin n → Fin k → EReal) : FVec Ideal ⟨2, ![n, k]⟩ e := fun j => f (j 0) (j 1)

theorem lit_half : lit 0x3F000000#32 = ((1 / 2 : ℝ) : EReal) := by simp [lit, Ideal.ofBits, Ideal.ieee, -EReal.coe_mul]; norm_num
theorem lit_1024 : lit 0x44800000#32 = ((1024 : ℝ) : EReal) := by simp [lit, Ideal.ofBits, Ideal.ieee, -EReal.coe_mul]; norm_num
theorem lit_inv1024 : lit 0x3A800000#32 = ((1 / 1024 : ℝ) : EReal) := by simp [lit, Ideal.ofBits, Ideal.ieee, -EReal.coe_mul]; norm_num
theorem lit_one : lit 0x3F800000#32 = ((1 : ℝ) : EReal) := by simp [lit, Ideal.ofBits, Ideal.ieee, -EReal.coe_mul]; norm_num
theorem lit_two : lit 0x40000000#32 = ((2 : ℝ) : EReal) := by simp [lit, Ideal.ofBits, Ideal.ieee, -EReal.coe_mul]; norm_num
theorem lit_negHalf : lit 0xBF000000#32 = ((-(1 / 2) : ℝ) : EReal) := by simp [lit, Ideal.ofBits, Ideal.ieee, -EReal.coe_mul]; norm_num
theorem lit_zero : lit 0x00000000#32 = 0 := by simp [lit, Ideal.ofBits, Ideal.ieee]

/-- The small number added to the mean square, as a real. -/
def eps : ℝ := 8796093 / 8796093022208
theorem lit_eps : lit 0x358637BD#32 = ((eps : ℝ) : EReal) := by simp [lit, Ideal.ofBits, Ideal.ieee, -EReal.coe_mul, eps]; norm_num
theorem eps_pos : 0 < eps := by norm_num [eps]

/-- A real factor that is not negative goes into a sum on its right. -/
theorem mul_sum {ι : Type} (s : Finset ι) (r : ℝ) (h : 0 ≤ r) (f : ι → EReal) : (r : EReal) * ∑ i ∈ s, f i = ∑ i ∈ s, (r : EReal) * f i := by
  classical
  induction s using Finset.induction_on with
  | empty => simp
  | insert i s hi ih =>
    rw [Finset.sum_insert hi, Finset.sum_insert hi, ← ih,
      EReal.left_distrib_of_nonneg_of_ne_top (by exact_mod_cast h) (EReal.coe_ne_top r)]

theorem loss_factor {ι : Type} [Fintype ι] (f : ι → EReal) :
    ∑ i, lit 0x3F000000#32 * f i * lit 0x3A800000#32 = lit 0x3F000000#32 * (∑ i, f i) * lit 0x3A800000#32 := by
  rw [lit_half, lit_inv1024, mul_sum _ _ (by norm_num), mul_comm _ (((1 / 1024 : ℝ) : EReal)), mul_sum _ _ (by norm_num)]
  exact Finset.sum_congr rfl fun i _ => mul_comm _ _

end Cert.MlpSpec

end
-- ==== Proof.Mlp.Final.lean ====
/-
  The call's eleven result arrays after its 16 grid points: ten of them row by row, and the accumulator's eight rows of sums over
  all 4096 rows.
-/
module

public import proofs.«01_k».proof.Proof.Mlp.Point
public import proofs.«01_k».proof.Proof.Mlp.Loss

@[expose] public section

set_option maxRecDepth 16384

noncomputable section

namespace Cert.MlpIdeal.Final

open Idealize.ShloMosaic Idealize.ShloMosaic.TcCoe Idealize.SL.Sem Cert.MlpIdeal Cert.MlpIdeal.Gen Cert.MlpIdeal.Ops Cert.MlpIdeal.Tie Cert.MlpIdeal.Host
open Cert.MlpSpec (Args wtsOf rowOf byRows)
open Idealize.ShloMosaic.Pipeline (Dat)

variable (m : (ℓ : Loc nD τ sig) → Buf (Elt Ideal) ℓ) (c : Dev nD)

/-- A result whose block at a point holds the rows of that point. -/
theorem rows {k : ℕ} (f : MlpSpec.Wts → MlpSpec.Row → Fin k → EReal) (t : Fin cfg0.N) (i : Fin 256) (j : Fin k) (n : Fin 4096) (j' : Fin k)
    (hn : 256 * t.val + i.val = n.val) (hj : j = j') :
    f (wts (inAt m c t)) (row (inAt m c t) i) j = f (wtsOf (args m c)) (rowOf (args m c) n) j' := by
  subst hj
  have e : at_ t i = n := Fin.ext hn
  rw [wts_eq, row_eq, e]

theorem final16 : (dats m 0 c).arrAt 16 cfg0.N = byRows .bf16 fun n => (fun W R f => MlpSpec.a W R f * MlpSpec.a W R f) (wtsOf (args m c)) (rowOf (args m c) n) := by
  refine (dats m 0 c).arrAt_eq_of_covers 16 _ (by decide +kernel) fun t _ y => ?_
  blk_simp
  dsimp only [dats]
  have e0 : 256 * t.val + (y 0).val = ((win0_16.blk t).view.emb y 0).val := by blk_simp [idxOut t]; omega
  have e1 : y 1 = (win0_16.blk t).view.emb y 1 := Fin.ext (by blk_simp [idxOut t])
  rw [outsAt_eq]
  refine Eq.trans ?_ (rows m c ((fun W R f => MlpSpec.a W R f * MlpSpec.a W R f)) t (y 0) (y 1) _ _ e0 e1)
  refine (tie16 m _ c t _ _ y).trans (canon_chunks (sq (inAt m c t)) _ _ _ _ ?_ ?_ ?_ ?_ y)
  exacts [kR3_at _, kR2_at _, kR1_at _, kR0_at _]
theorem final17 : (dats m 0 c).arrAt 17 cfg0.N = byRows .bf16 fun n => MlpSpec.da (wtsOf (args m c)) (rowOf (args m c) n) := by
  refine (dats m 0 c).arrAt_eq_of_covers 17 _ (by decide +kernel) fun t _ y => ?_
  blk_simp
  dsimp only [dats]
  have e0 : 256 * t.val + (y 0).val = ((win0_17.blk t).view.emb y 0).val := by blk_simp [idxOut t]; omega
  have e1 : y 1 = (win0_17.blk t).view.emb y 1 := Fin.ext (by blk_simp [idxOut t])
  rw [outsAt_eq]
  refine Eq.trans ?_ (rows m c (MlpSpec.da) t (y 0) (y 1) _ _ e0 e1)
  refine (tie17 m _ c t _ _ y).trans (canon_chunks (fun i => MlpSpec.da (wts (inAt m c t)) (row (inAt m c t) i)) _ _ _ _ ?_ ?_ ?_ ?_ y)
  exacts [kDa3_at _, kDa2_at _, kDa1_at _, kDa0_at _]
theorem final18 : (dats m 0 c).arrAt 18 cfg0.N = byRows .bf16 fun n => MlpSpec.h (wtsOf (args m c)) (rowOf (args m c) n) := by
  refine (dats m 0 c).arrAt_eq_of_covers 18 _ (by decide +kernel) fun t _ y => ?_
  blk_simp
  dsimp only [dats]
  have e0 : 256 * t.val + (y 0).val = ((win0_18.blk t).view.emb y 0).val := by blk_simp [idxOut t]; omega
  have e1 : y 1 = (win0_18.blk t).view.emb y 1 := Fin.ext (by blk_simp [idxOut t])
  rw [outsAt_eq]
  refine Eq.trans ?_ (rows m c (MlpSpec.h) t (y 0) (y 1) _ _ e0 e1)
  exact (congrFun (tie18 m _ c t _ _) y).trans ((congrArg _ (eq_ix2 y)).trans (kH_at _ (y 0) (y 1)))
theorem final19 : (dats m 0 c).arrAt 19 cfg0.N = byRows .bf16 fun n => MlpSpec.dy2 (wtsOf (args m c)) (rowOf (args m c) n) := by
  refine (dats m 0 c).arrAt_eq_of_covers 19 _ (by decide +kernel) fun t _ y => ?_
  blk_simp
  dsimp only [dats]
  have e0 : 256 * t.val + (y 0).val = ((win0_19.blk t).view.emb y 0).val := by blk_simp [idxOut t]; omega
  have e1 : y 1 = (win0_19.blk t).view.emb y 1 := Fin.ext (by blk_simp [idxOut t])
  rw [outsAt_eq]
  refine Eq.trans ?_ (rows m c (MlpSpec.dy2) t (y 0) (y 1) _ _ e0 e1)
  exact (congrFun (tie19 m _ c t _ _) y).trans ((congrArg _ (eq_ix2 y)).trans (kDy2_at _ (y 0) (y 1)))
theorem final20 : (dats m 0 c).arrAt 20 cfg0.N = byRows .f32 fun n => MlpSpec.dx1 (wtsOf (args m c)) (rowOf (args m c) n) := by
  refine (dats m 0 c).arrAt_eq_of_covers 20 _ (by decide +kernel) fun t _ y => ?_
  blk_simp
  dsimp only [dats]
  have e0 : 256 * t.val + (y 0).val = ((win0_20.blk t).view.emb y 0).val := by blk_simp [idxOut t]; omega
  have e1 : y 1 = (win0_20.blk t).view.emb y 1 := Fin.ext (by blk_simp [idxOut t])
  rw [outsAt_eq]
  refine Eq.trans ?_ (rows m c (MlpSpec.dx1) t (y 0) (y 1) _ _ e0 e1)
  exact (congrFun (tie20 m _ c t _ _) y).trans ((congrArg _ (eq_ix2 y)).trans (kDx1_at _ (y 0) (y 1)))
theorem final21 : (dats m 0 c).arrAt 21 cfg0.N = byRows .bf16 fun n => MlpSpec.conv (wtsOf (args m c)) (rowOf (args m c) n) := by
  refine (dats m 0 c).arrAt_eq_of_covers 21 _ (by decide +kernel) fun t _ y => ?_
  blk_simp
  dsimp only [dats]
  have e0 : 256 * t.val + (y 0).val = ((win0_21.blk t).view.emb y 0).val := by blk_simp [idxOut t]; omega
  have e1 : y 1 = (win0_21.blk t).view.emb y 1 := Fin.ext (by blk_simp [idxOut t])
  rw [outsAt_eq]
  refine Eq.trans ?_ (rows m c (MlpSpec.conv) t (y 0) (y 1) _ _ e0 e1)
  exact (congrFun (tie21 m _ c t _ _) y).trans ((congrArg _ (eq_ix2 y)).trans (kConv_at _ (y 0) (y 1)))
theorem final23 : (dats m 0 c).arrAt 23 cfg0.N = byRows .bf16 fun n => MlpSpec.dy1 (wtsOf (args m c)) (rowOf (args m c) n) := by
  refine (dats m 0 c).arrAt_eq_of_covers 23 _ (by decide +kernel) fun t _ y => ?_
  blk_simp
  dsimp only [dats]
  have e0 : 256 * t.val + (y 0).val = ((win0_23.blk t).view.emb y 0).val := by blk_simp [idxOut t]; omega
  have e1 : y 1 = (win0_23.blk t).view.emb y 1 := Fin.ext (by blk_simp [idxOut t])
  rw [outsAt_eq]
  refine Eq.trans ?_ (rows m c (MlpSpec.dy1) t (y 0) (y 1) _ _ e0 e1)
  refine (congrFun (tie23 m _ c t _ _) y).trans ((congrArg _ (eq_ix2 y)).trans ((pay56_at _ _ _).trans (kDy1_at _ (y 0) (y 1))))
theorem final24 : (dats m 0 c).arrAt 24 cfg0.N = byRows .bf16 fun n => (fun W R e => MlpSpec.dd W R (MlpSpec.lo e)) (wtsOf (args m c)) (rowOf (args m c) n) := by
  refine (dats m 0 c).arrAt_eq_of_covers 24 _ (by decide +kernel) fun t _ y => ?_
  blk_simp
  dsimp only [dats]
  have e0 : 256 * t.val + (y 0).val = ((win0_24.blk t).view.emb y 0).val := by blk_simp [idxOut t]; omega
  have e1 : y 1 = (win0_24.blk t).view.emb y 1 := Fin.ext (by blk_simp [idxOut t])
  rw [outsAt_eq]
  refine Eq.trans ?_ (rows m c ((fun W R e => MlpSpec.dd W R (MlpSpec.lo e))) t (y 0) (y 1) _ _ e0 e1)
  exact (congrFun (tie24 m _ c t _ _) y).trans ((congrArg _ (eq_ix2 y)).trans (kDo_at _ (y 0) (y 1)))
theorem final25 : (dats m 0 c).arrAt 25 cfg0.N = byRows .f32 fun n => MlpSpec.dgb (wtsOf (args m c)) (rowOf (args m c) n) := by
  refine (dats m 0 c).arrAt_eq_of_covers 25 _ (by decide +kernel) fun t _ y => ?_
  blk_simp
  dsimp only [dats]
  have e0 : 256 * t.val + (y 0).val = ((win0_25.blk t).view.emb y 0).val := by blk_simp [idxOut t]; omega
  have e1 : y 1 = (win0_25.blk t).view.emb y 1 := Fin.ext (by blk_simp [idxOut t])
  rw [outsAt_eq]
  refine Eq.trans ?_ (rows m c (MlpSpec.dgb) t (y 0) (y 1) _ _ e0 e1)
  exact (congrFun (tie25 m _ c t _ _) y).trans ((congrArg _ (eq_ix2 y)).trans (kDgb_at _ (y 0) (y 1)))
theorem final26 : (dats m 0 c).arrAt 26 cfg0.N = byRows .f32 fun n => MlpSpec.dyv (wtsOf (args m c)) (rowOf (args m c) n) := by
  refine (dats m 0 c).arrAt_eq_of_covers 26 _ (by decide +kernel) fun t _ y => ?_
  blk_simp
  dsimp only [dats]
  have e0 : 256 * t.val + (y 0).val = ((win0_26.blk t).view.emb y 0).val := by blk_simp [idxOut t]; omega
  have e1 : y 1 = (win0_26.blk t).view.emb y 1 := Fin.ext (by blk_simp [idxOut t])
  rw [outsAt_eq]
  refine Eq.trans ?_ (rows m c (MlpSpec.dyv) t (y 0) (y 1) _ _ e0 e1)
  exact (congrFun (tie26 m _ c t _ _) y).trans ((congrArg _ (eq_ix2 y)).trans (kDyv_at _ (y 0) (y 1)))

/-! ## The accumulator -/

/-- One row of the sums over 16 blocks of 256 rows. -/
theorem acc_blocks (a : Fin 8) (j : Fin 1024) (W : MlpSpec.Wts) (R : Fin 4096 → MlpSpec.Row) (h : ∀ (s : Fin 16) (i : Fin 256), 256 * s.val + i.val < 4096) :
    ∑ s : Fin 16, MlpSpec.acc W (fun i : Fin 256 => R ⟨256 * s.val + i.val, h s i⟩) a j = MlpSpec.acc W R a j := by
  have sums : ∀ f : MlpSpec.Row → EReal, ∑ s : Fin 16, ∑ i : Fin 256, f (R ⟨256 * s.val + i.val, h s i⟩) = ∑ n, f (R n) := fun f =>
    Fin.sum_mul_add_congr fun s k hl => congrArg (fun n => f (R n)) (Fin.ext (by dsimp only; omega))
  fin_cases a
  · exact sums fun r => MlpSpec.dy W r j * MlpSpec.xn (MlpSpec.x2 W r) j
  · exact sums fun r => MlpSpec.dx2 W r j * MlpSpec.y2 W r j
  · exact sums fun r => MlpSpec.dh W r j
  · exact sums fun r => MlpSpec.dh W r j * MlpSpec.xn (MlpSpec.x1 W r) j
  · refine (MlpSpec.loss_factor _).trans ?_
    exact congrArg (fun s => MlpSpec.lit 0x3F000000#32 * s * MlpSpec.lit 0x3A800000#32) (sums fun r => ∑ j, MlpSpec.diff W r j * MlpSpec.diff W r j)
  · exact sums fun r => MlpSpec.dx1 W r j * MlpSpec.y1 W r j
  · exact Finset.sum_const_zero
  · exact Finset.sum_const_zero

/-- What the sixteen points add. -/
theorem acc_points (t : Fin cfg0.N) (h : ∀ s : Fin 16, 16 * (t.val / 16) + s.val < cfg0.N) (a : Fin 8) (j : Fin 1024) :
    ∑ s : Fin 16, MlpSpec.acc (wts (inAt m c ⟨16 * (t.val / 16) + s.val, h s⟩)) (row (inAt m c ⟨16 * (t.val / 16) + s.val, h s⟩)) a j
      = MlpSpec.acc (wtsOf (args m c)) (rowOf (args m c)) a j := by
  have ht := point_lt t
  refine Eq.trans (Finset.sum_congr rfl fun s _ => ?_) (acc_blocks a j (wtsOf (args m c)) (rowOf (args m c)) fun s i => by omega)
  rw [wts_eq]
  refine congrArg (fun R => MlpSpec.acc (wtsOf (args m c)) R a j) (funext fun i => ?_)
  rw [row_eq]
  exact congrArg (rowOf (args m c)) (Fin.ext (by dsimp only [at_]; omega))

theorem final22 : (dats m 0 c).arrAt 22 cfg0.N = byRows .f32 (MlpSpec.acc (wtsOf (args m c)) (rowOf (args m c))) := by
  refine (dats m 0 c).arrAt_eq_of_covers 22 _ (by decide +kernel) fun t hf y => ?_
  blk_simp
  dsimp only [dats]
  have ht := point_lt t
  have e0 : y 0 = (win0_22.blk t).view.emb y 0 := Fin.ext (by blk_simp [idxOut t])
  have e1 : y 1 = (win0_22.blk t).view.emb y 1 := Fin.ext (by blk_simp [idxOut t])
  rw [Pipeline.eq_sum_fin_of_reset_step_apply_of_flush (fun n h => (outsAt m c n h).o22) 16 (fun _ => (0 : EReal))
    (fun s y => MlpSpec.acc (wts (inAt m c s)) (row (inAt m c s)) (y 0) (y 1)) (fun s h i => accFirst m c s h i)
    (fun s h i => accNext m c s h i) t ((flush0_22 t).mp hf) y, zero_add]
  refine Eq.trans ?_ (congrArg₂ (MlpSpec.acc (wtsOf (args m c)) (rowOf (args m c))) e0 e1)
  exact acc_points m c t (fun s => Pipeline.run_point_lt_of_flush t ((flush0_22 t).mp hf) s) (y 0) (y 1)

end Cert.MlpIdeal.Final

end
-- ==== Proof.Mlp.Run.lean ====
/-
  The kernel's run in exact arithmetic: every result is the array that the layer's row-wise description gives, and the arguments
  are as they were.
-/
module

public import proofs.«01_k».proof.Proof.Mlp.Final

@[expose] public section

set_option maxRecDepth 16384

noncomputable section

namespace Cert.MlpIdeal.Final

open Idealize.ShloMosaic Idealize.ShloMosaic.TcCoe Idealize.SL.Sem Cert.MlpIdeal Cert.MlpIdeal.Gen Cert.MlpIdeal.Host
open Cert.MlpSpec (Wts Row wtsOf rowOf byRows)

/-- The eleven arrays that the kernel returns. -/
structure Results where
  r : FVec Ideal ⟨2, ![4096, 4096]⟩ .bf16
  da : FVec Ideal ⟨2, ![4096, 4096]⟩ .bf16
  h : FVec Ideal ⟨2, ![4096, 1024]⟩ .bf16
  dy2 : FVec Ideal ⟨2, ![4096, 1024]⟩ .bf16
  dx1 : FVec Ideal ⟨2, ![4096, 1024]⟩ .f32
  conv : FVec Ideal ⟨2, ![4096, 512]⟩ .bf16
  acc : FVec Ideal ⟨2, ![8, 1024]⟩ .f32
  dy1 : FVec Ideal ⟨2, ![4096, 1024]⟩ .bf16
  dout : FVec Ideal ⟨2, ![4096, 512]⟩ .bf16
  dgb : FVec Ideal ⟨2, ![4096, 512]⟩ .f32
  dyv : FVec Ideal ⟨2, ![4096, 512]⟩ .f32

/-- The results of a layer with weights `W` and rows `R`. -/
def resultsOf (W : Wts) (R : Fin 4096 → Row) : Results where
  r := byRows .bf16 fun n => (fun W R f => MlpSpec.a W R f * MlpSpec.a W R f) W (R n)
  da := byRows .bf16 fun n => MlpSpec.da W (R n)
  h := byRows .bf16 fun n => MlpSpec.h W (R n)
  dy2 := byRows .bf16 fun n => MlpSpec.dy2 W (R n)
  dx1 := byRows .f32 fun n => MlpSpec.dx1 W (R n)
  conv := byRows .bf16 fun n => MlpSpec.conv W (R n)
  acc := byRows .f32 (MlpSpec.acc W R)
  dy1 := byRows .bf16 fun n => MlpSpec.dy1 W (R n)
  dout := byRows .bf16 fun n => (fun W R e => MlpSpec.dd W R (MlpSpec.lo e)) W (R n)
  dgb := byRows .f32 fun n => MlpSpec.dgb W (R n)
  dyv := byRows .f32 fun n => MlpSpec.dyv W (R n)

variable (m : (ℓ : Loc nD τ sig) → Buf (Elt Ideal) ℓ)

/-- The results of the layer on a device's arguments. -/
def out (c : Dev nD) : Results := resultsOf (wtsOf (args m c)) fun n => rowOf (args m c) n

/-- The arguments, which neither the windows nor the host lines before them write, keep their contents. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

set_option maxHeartbeats 2000000 in
/-- The kernel ends with the layer's results, its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v24_0) = (out m c).r
      ∧ r.2.mem ((c.tc : Thread nD τ).loc main_v24_1) = (out m c).da
      ∧ r.2.mem ((c.tc : Thread nD τ).loc main_v24_2) = (out m c).h
      ∧ r.2.mem ((c.tc : Thread nD τ).loc main_v24_3) = (out m c).dy2
      ∧ r.2.mem ((c.tc : Thread nD τ).loc main_v24_4) = (out m c).dx1
      ∧ r.2.mem ((c.tc : Thread nD τ).loc main_v24_5) = (out m c).conv
      ∧ r.2.mem ((c.tc : Thread nD τ).loc main_v24_6) = (out m c).acc
      ∧ r.2.mem ((c.tc : Thread nD τ).loc main_v24_7) = (out m c).dy1
      ∧ r.2.mem ((c.tc : Thread nD τ).loc main_v24_8) = (out m c).dout
      ∧ r.2.mem ((c.tc : Thread nD τ).loc main_v24_9) = (out m c).dgb
      ∧ r.2.mem ((c.tc : Thread nD τ).loc main_v24_10) = (out m c).dyv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨((h c).1 16).trans (final16 m c), ((h c).1 17).trans (final17 m c), ((h c).1 18).trans (final18 m c),
      ((h c).1 19).trans (final19 m c), ((h c).1 20).trans (final20 m c), ((h c).1 21).trans (final21 m c),
      ((h c).1 22).trans (final22 m c), ((h c).1 23).trans (final23 m c), ((h c).1 24).trans (final24 m c),
      ((h c).1 25).trans (final25 m c), ((h c).1 26).trans (final26 m c), kept m r h c⟩) (run_main m ρ)

end Cert.MlpIdeal.Final

end
-- ==== Proof.Mlp.Real.lean ====
/-
  From finite weights and rows every quantity of a row is a real number, and the gradient of the norm, written as the quotient
  rule gives it, is the kernel's shorter form.
-/
module

public import proofs.«01_k».proof.Proof.Mlp.Loss

@[expose] public section

noncomputable section

namespace Cert.MlpSpec

open Idealize.ShloMosaic

def IsReal (x : EReal) : Prop := ∃ r : ℝ, x = (r : EReal)

namespace IsReal

theorem add {x y : EReal} : IsReal x → IsReal y → IsReal (x + y) := by rintro ⟨a, rfl⟩ ⟨b, rfl⟩; exact ⟨a + b, (EReal.coe_add a b).symm⟩
theorem mul {x y : EReal} : IsReal x → IsReal y → IsReal (x * y) := by rintro ⟨a, rfl⟩ ⟨b, rfl⟩; exact ⟨a * b, (EReal.coe_mul a b).symm⟩
theorem sub {x y : EReal} : IsReal x → IsReal y → IsReal (x - y) := by rintro ⟨a, rfl⟩ ⟨b, rfl⟩; exact ⟨a - b, (EReal.coe_sub a b).symm⟩
theorem max {x y : EReal} : IsReal x → IsReal y → IsReal (Max.max x y) := by rintro ⟨a, rfl⟩ ⟨b, rfl⟩; exact ⟨_, RealCoe.max a b⟩
theorem sum {ι : Type} (s : Finset ι) (f : ι → EReal) (h : ∀ i, IsReal (f i)) : IsReal (∑ i ∈ s, f i) := by
  choose g hg using h
  exact ⟨∑ i ∈ s, g i, (Finset.sum_congr rfl fun i _ => hg i).trans (RealCoe.sum s g)⟩
theorem zero : IsReal 0 := ⟨0, rfl⟩
theorem inv : IsReal (lit 0x3A800000#32) := ⟨_, lit_inv1024⟩
theorem one : IsReal (lit 0x3F800000#32) := ⟨_, lit_one⟩
theorem two : IsReal (lit 0x40000000#32) := ⟨_, lit_two⟩
theorem div {x : EReal} : IsReal x → IsReal (Ideal.div x (lit 0x44800000#32)) := by
  rintro ⟨a, rfl⟩; rw [lit_1024]; exact ⟨_, RealCoe.div a (by norm_num)⟩

end IsReal

/-! ## The norm -/

/-- The mean square of a row of reals, and the small number. -/
def meanSq (v : Fin 1024 → ℝ) : ℝ := (∑ k, v k * v k) / 1024 + eps

theorem meanSq_pos (v : Fin 1024 → ℝ) : 0 < meanSq v :=
  add_pos_of_nonneg_of_pos (div_nonneg (Finset.sum_nonneg fun k _ => mul_self_nonneg (v k)) (by norm_num)) eps_pos

theorem meanSq_coe (v : Fin 1024 → ℝ) :
    Ideal.div (∑ k, (v k : EReal) * (v k : EReal)) (lit 0x44800000#32) + lit 0x358637BD#32 = ((meanSq v : ℝ) : EReal) := by
  simp only [← EReal.coe_mul]
  rw [RealCoe.sum, lit_1024, RealCoe.div _ (by norm_num), lit_eps, ← EReal.coe_add]; rfl

theorem rs_coe (v : Fin 1024 → ℝ) : rs (fun k => (v k : EReal)) = (((Real.sqrt (meanSq v))⁻¹ : ℝ) : EReal) := by
  have h := meanSq_pos v
  rw [rs, meanSq_coe, Ideal.rsqrt_coe, if_neg (not_lt.mpr h.le), if_neg h.ne']

theorem IsReal.rs {v : Fin 1024 → EReal} (h : ∀ k, IsReal (v k)) : IsReal (rs v) := by
  choose w hw using h
  obtain rfl : v = fun k => (w k : EReal) := funext hw
  exact ⟨_, rs_coe w⟩
theorem IsReal.xn {v : Fin 1024 → EReal} (h : ∀ k, IsReal (v k)) (j : Fin 1024) : IsReal (xn v j) := (h j).mul (IsReal.rs h)
theorem IsReal.nb {v d : Fin 1024 → EReal} (h : ∀ k, IsReal (v k)) (hd : ∀ k, IsReal (d k)) (j : Fin 1024) : IsReal (nb v d j) :=
  (IsReal.rs h).mul ((hd j).sub ((IsReal.xn h j).mul (IsReal.sum _ _ fun k => (hd k).mul (IsReal.xn h k)).div))

/-- What the quotient rule gives for the derivative of one over the root, times the sum it meets. -/
def quot (v d : Fin 1024 → EReal) : EReal :=
  Ideal.div ((∑ k, v k * d k) * (lit 0xBF000000#32 * Ideal.div (rs v) (Ideal.div (∑ k, v k * v k) (lit 0x44800000#32) + lit 0x358637BD#32))) (lit 0x44800000#32)

theorem norm_back {v d : Fin 1024 → EReal} (hv : ∀ k, IsReal (v k)) (hd : ∀ k, IsReal (d k)) (j : Fin 1024) :
    (d j * rs v + v j * quot v d) + quot v d * v j = nb v d j := by
  choose w hw using hv
  choose u hu using hd
  obtain rfl : v = fun k => (w k : EReal) := funext hw
  obtain rfl : d = fun k => (u k : EReal) := funext hu
  have hM := meanSq_pos w
  have hs : (Real.sqrt (meanSq w))⁻¹ * (Real.sqrt (meanSq w))⁻¹ = (meanSq w)⁻¹ := by rw [← mul_inv, Real.mul_self_sqrt hM.le]
  have q : quot (fun k => (w k : EReal)) (fun k => (u k : EReal))
      = (((∑ k, w k * u k) * (-(1 / 2) * ((Real.sqrt (meanSq w))⁻¹ / meanSq w)) / 1024 : ℝ) : EReal) := by
    rw [quot, meanSq_coe, rs_coe, RealCoe.div _ hM.ne', lit_negHalf, lit_1024]
    simp only [← EReal.coe_mul]
    rw [RealCoe.sum, ← EReal.coe_mul, RealCoe.div _ (by norm_num)]
  rw [q, nb]
  simp only [xn]
  rw [rs_coe, lit_1024]
  simp only [← EReal.coe_mul]
  rw [RealCoe.sum, RealCoe.div _ (by norm_num)]
  simp only [← EReal.coe_mul, ← EReal.coe_add, ← EReal.coe_sub]
  refine congrArg Real.toEReal ?_
  have hsum : ∑ k, u k * (w k * (Real.sqrt (meanSq w))⁻¹) = (∑ k, w k * u k) * (Real.sqrt (meanSq w))⁻¹ := by
    rw [Finset.sum_mul]; exact Finset.sum_congr rfl fun k _ => by ring
  rw [hsum, div_eq_mul_inv (Real.sqrt (meanSq w))⁻¹, ← hs]
  ring

/-! ## The quantities of a row -/

structure Wts.Finite (W : Wts) : Prop where
  cw : ∀ k e, IsReal (W.cw k e)
  wo : ∀ k j, IsReal (W.wo k j)
  g1 : ∀ j, IsReal (W.g1 j)
  sh : ∀ j, IsReal (W.sh j)
  sc : ∀ j, IsReal (W.sc j)
  g2 : ∀ j, IsReal (W.g2 j)
  gf : ∀ j, IsReal (W.gf j)
  w1 : ∀ k f, IsReal (W.w1 k f)
  w2 : ∀ f j, IsReal (W.w2 f j)

structure Row.Finite (R : Row) : Prop where
  o : ∀ e, IsReal (R.o e)
  gb : ∀ e, IsReal (R.gb e)
  u : ∀ e, IsReal (R.u e)
  up : ∀ e, IsReal (R.up e)
  un : ∀ e, IsReal (R.un e)
  x : ∀ j, IsReal (R.x j)
  tgt : ∀ j, IsReal (R.tgt j)

section
variable {W : Wts} {R : Row} (hW : W.Finite) (hR : R.Finite)
include hW hR

theorem y_real (e : Fin 512) : IsReal (y W R e) := (((hW.cw 0 e).mul (hR.up e)).add ((hW.cw 1 e).mul (hR.u e))).add ((hW.cw 2 e).mul (hR.un e))
theorem conv_real (e : Fin 512) : IsReal (conv W R e) := (hR.gb e).mul (y_real hW hR e)
theorem y1_real (j : Fin 1024) : IsReal (y1 W R j) :=
  (IsReal.sum _ _ fun k => (hR.o k).mul (hW.wo _ j)).add (IsReal.sum _ _ fun k => (conv_real hW hR k).mul (hW.wo _ j))
theorem x1_real (j : Fin 1024) : IsReal (x1 W R j) := (hR.x j).add ((hW.g1 j).mul (y1_real hW hR j))
theorem h_real (j : Fin 1024) : IsReal (h W R j) := ((IsReal.xn (x1_real hW hR) j).mul (IsReal.one.add (hW.sc j))).add (hW.sh j)
theorem a_real (f : Fin 4096) : IsReal (a W R f) := (IsReal.sum _ _ fun k => (h_real hW hR k).mul (hW.w1 k f)).max IsReal.zero
theorem y2_real (j : Fin 1024) : IsReal (y2 W R j) := IsReal.sum _ _ fun f => ((a_real hW hR f).mul (a_real hW hR f)).mul (hW.w2 f j)
theorem x2_real (j : Fin 1024) : IsReal (x2 W R j) := (x1_real hW hR j).add ((hW.g2 j).mul (y2_real hW hR j))
theorem dy_real (j : Fin 1024) : IsReal (dy W R j) := (((IsReal.xn (x2_real hW hR) j).mul (hW.gf j)).sub (hR.tgt j)).mul IsReal.inv
theorem dx2_real (j : Fin 1024) : IsReal (dx2 W R j) := IsReal.nb (x2_real hW hR) (fun k => (dy_real hW hR k).mul (hW.gf k)) j
theorem dh_real (k : Fin 1024) : IsReal (dh W R k) := IsReal.sum _ _ fun f =>
  ((IsReal.two.mul (a_real hW hR f)).mul (IsReal.sum _ _ fun j => ((dx2_real hW hR j).mul (hW.g2 j)).mul (hW.w2 f j))).mul (hW.w1 k f)

end

end Cert.MlpSpec

end
-- ==== Proof.Mlp.RefFwd.lean ====
/-
  The reference's forward half, read at an index: the quantities of a row, in the reference's own order of operations.
-/
module

public import proofs.«01_k».proof.Proof.Gen.MlpRefIdeal.Run
public import proofs.«01_k».proof.Proof.Mlp.Args
public import proofs.«01_k».proof.Proof.Mlp.Real

@[expose] public section

set_option maxRecDepth 16384

noncomputable section

namespace Cert.MlpRefIdeal.Read

open Idealize.ShloMosaic Idealize.ShloMosaic.TcCoe Cert.MlpRefIdeal Cert.MlpRefIdeal.Gen Cert.MlpRefIdeal.Value
open Cert.MlpSpec (Args wtsOf rowOf gated lit)

variable (V0 : Valuation τ sig (Elt Ideal))

/-- The arguments of the reference. -/
def args : Args where
  x := V0 (Proc.devRef .tc main_arg0)
  attn := V0 (Proc.devRef .tc main_arg1)
  z := V0 (Proc.devRef .tc main_arg2)
  mod := V0 (Proc.devRef .tc main_arg4)
  cw := V0 (Proc.devRef .tc main_arg5)
  wo := V0 (Proc.devRef .tc main_arg6)
  w1 := V0 (Proc.devRef .tc main_arg7)
  w2 := V0 (Proc.devRef .tc main_arg8)
  gf := V0 (Proc.devRef .tc main_arg9)
  tgt := V0 (Proc.devRef .tc main_arg10)

abbrev W := wtsOf (args V0)
abbrev R (n : Fin 4096) := rowOf (args V0) n

variable (n : Fin 4096) (j : Fin 1024) (e : Fin 512) (f : Fin 4096)

theorem g1_at : res_main_v12 V0 (ix3 0 0 j) = (W V0).g1 j := by pointwise [res_main_v12, args, wtsOf]
theorem g2_at : res_main_v15 V0 (ix3 0 0 j) = (W V0).g2 j := by pointwise [res_main_v15, args, wtsOf]
theorem gb_at : res_main_v17 V0 (ix3 0 n e) = (R V0 n).gb e := by pointwise [res_main_v17, res_main_v16, args, rowOf]
theorem u_at : res_main_v20 V0 (ix3 0 n e) = gated (args V0) n e := by
  pointwise [res_main_v20, res_main_v18, res_main_v19, res_main_v16, args, gated]
  exact congrArg₂ (fun a b : EReal => a * b) (congrArg (V0 _) (congrArg (ix3 0 n) (Fin.ext (by dsimp only; omega)))) (congrArg (V0 _) (congrArg (ix3 0 n) (Fin.ext (by dsimp only; omega))))
theorem cw0_at : res_main_v30 V0 (ix3 0 0 e) = (W V0).cw 0 e := by pointwise [res_main_v30, args, wtsOf]
theorem cw1_at : res_main_v35 V0 (ix3 0 0 e) = (W V0).cw 1 e := by pointwise [res_main_v35, args, wtsOf]
theorem cw2_at : res_main_v41 V0 (ix3 0 0 e) = (W V0).cw 2 e := by pointwise [res_main_v41, args, wtsOf]
theorem y_at : res_main_v45 V0 (ix3 0 n e) = MlpSpec.y (W V0) (R V0 n) e := by
  pointwise [res_main_v45, res_main_v21]
  rw [cw0_at, cw1_at, cw2_at, u_at]
  have p : (if h : n.val < 1 then (0 : EReal) else res_main_v20 V0 (ix3 0 ⟨n.val - 1, by omega⟩ e)) = (R V0 n).up e := by
    dsimp only [R, rowOf]
    by_cases h : n.val = 0
    · rw [dif_pos h, dif_pos (by omega)]
    · rw [dif_neg h, dif_neg (by omega), u_at]
  have q : (if h : n.val < 4095 then res_main_v20 V0 (ix3 0 ⟨1 + n.val, by omega⟩ e) else (0 : EReal)) = (R V0 n).un e := by
    dsimp only [R, rowOf]
    by_cases h : n.val = 4095
    · rw [dif_pos h, dif_neg (by omega)]
    · rw [dif_neg h, dif_pos (by omega), u_at]
      exact congrArg (fun k => gated (args V0) k e) (Fin.ext (by dsimp only; omega))
  exact congrArg₂ (fun a b : EReal => ((W V0).cw 0 e * a + (W V0).cw 1 e * gated (args V0) n e) + (W V0).cw 2 e * b) p q
theorem conv_at : res_main_v46 V0 (ix3 0 n e) = MlpSpec.conv (W V0) (R V0 n) e := by
  pointwise [res_main_v46]
  rw [gb_at, y_at]; rfl
theorem y1_at : res_main_v49 V0 (ix3 0 n j) = MlpSpec.y1 (W V0) (R V0 n) j := by
  pointwise [res_main_v49]
  simp only [conv_at]; rfl
theorem x1_at : res_main_v52 V0 (ix3 0 n j) = MlpSpec.x1 (W V0) (R V0 n) j := by
  pointwise [res_main_v52]
  rw [g1_at, y1_at]; rfl
theorem ms1_at : res_main_v59 V0 (ix3 0 n 0) = Ideal.div (∑ k, MlpSpec.x1 (W V0) (R V0 n) k * MlpSpec.x1 (W V0) (R V0 n) k) (lit 0x44800000#32) + lit 0x358637BD#32 := by
  pointwise [res_main_v59]
  simp only [x1_at]
theorem rs1_at : res_main_v60 V0 (ix3 0 n 0) = MlpSpec.rs (MlpSpec.x1 (W V0) (R V0 n)) := by
  pointwise [res_main_v60]
  rw [ms1_at]; rfl
theorem xn1_at : res_main_v65 V0 (ix3 0 n j) = MlpSpec.xn (MlpSpec.x1 (W V0) (R V0 n)) j := by
  pointwise [res_main_v65]
  rw [x1_at, rs1_at]; rfl
theorem sc_at : res_main_v67 V0 (ix3 0 0 j) = lit 0x3F800000#32 + (W V0).sc j := by pointwise [res_main_v67, args, wtsOf]
theorem h_at : res_main_v71 V0 (ix3 0 n j) = MlpSpec.h (W V0) (R V0 n) j := by
  pointwise [res_main_v71]
  rw [xn1_at, sc_at]; rfl
theorem pre_at : res_main_v73 V0 (ix3 0 n f) = ∑ k, MlpSpec.h (W V0) (R V0 n) k * (W V0).w1 k f := by
  pointwise [res_main_v73]
  simp only [h_at]; rfl
theorem a_at : res_main_v74 V0 (ix3 0 n f) = MlpSpec.a (W V0) (R V0 n) f := by
  pointwise [res_main_v74]
  rw [pre_at]; rfl
theorem r_at : res_main_v78 V0 (ix3 0 n f) = MlpSpec.a (W V0) (R V0 n) f * MlpSpec.a (W V0) (R V0 n) f := by
  pointwise [res_main_v78]
  rw [a_at]
theorem y2_at : res_main_v82 V0 (ix3 0 n j) = MlpSpec.y2 (W V0) (R V0 n) j := by
  pointwise [res_main_v82]
  simp only [r_at]; rfl
theorem x2_at : res_main_v85 V0 (ix3 0 n j) = MlpSpec.x2 (W V0) (R V0 n) j := by
  pointwise [res_main_v85]
  rw [x1_at, g2_at, y2_at]; rfl
theorem ms3_at : res_main_v92 V0 (ix3 0 n 0) = Ideal.div (∑ k, MlpSpec.x2 (W V0) (R V0 n) k * MlpSpec.x2 (W V0) (R V0 n) k) (lit 0x44800000#32) + lit 0x358637BD#32 := by
  pointwise [res_main_v92]
  simp only [x2_at]
theorem rs3_at : res_main_v93 V0 (ix3 0 n 0) = MlpSpec.rs (MlpSpec.x2 (W V0) (R V0 n)) := by
  pointwise [res_main_v93]
  rw [ms3_at]; rfl
theorem xn3_at : res_main_v98 V0 (ix3 0 n j) = MlpSpec.xn (MlpSpec.x2 (W V0) (R V0 n)) j := by
  pointwise [res_main_v98]
  rw [x2_at, rs3_at]; rfl
theorem gf_at : res_main_v99 V0 (ix3 0 0 j) = (W V0).gf j := by pointwise [res_main_v99, args, wtsOf]
theorem diff_at : res_main_v102 V0 (ix3 0 n j) = MlpSpec.diff (W V0) (R V0 n) j := by
  pointwise [res_main_v102]
  rw [xn3_at, gf_at]; rfl

end Cert.MlpRefIdeal.Read

end
-- ==== Proof.Mlp.RefBwd.lean ====
/-
  The reference's backward half, read at an index. Its two norms' gradients are written by the quotient rule, which for finite
  arguments is the kernel's form.
-/
module

public import proofs.«01_k».proof.Proof.Mlp.RefFwd

@[expose] public section

set_option maxRecDepth 16384

noncomputable section

namespace Cert.MlpRefIdeal.Read

open Idealize.ShloMosaic Idealize.ShloMosaic.TcCoe Cert.MlpRefIdeal Cert.MlpRefIdeal.Gen Cert.MlpRefIdeal.Value
open Cert.MlpSpec (Args wtsOf rowOf gated lit)

variable (V0 : Valuation τ sig (Elt Ideal)) (n : Fin 4096) (j : Fin 1024) (e : Fin 512) (f : Fin 4096)

/-! ## Sums over axes of length one -/

theorem sum_outer (h : (⟨3, ![1, 4096, 1]⟩ : Shape).ReducesTo [0, 2] ⟨1, ![4096]⟩) (v : (⟨3, ![1, 4096, 1]⟩ : Shape).Idx → EReal) (init : EReal) :
    Ideal.hostReduceAdd h v init (ix1 n) = init + v (ix3 0 n 0) := by
  refine congrArg (init + ·) (Finset.sum_eq_single_of_mem _ (Finset.mem_filter.mpr ⟨Finset.mem_univ _, ?_⟩) ?_)
  · funext b; fin_cases b; rfl
  · intro i hi hne
    refine absurd ?_ hne
    have e := congrArg Fin.val (congrFun (Finset.mem_filter.mp hi).2 0)
    funext a; apply Fin.ext
    match a with
    | ⟨0, _⟩ => exact Nat.lt_one_iff.mp (i 0).isLt
    | ⟨1, _⟩ => exact e
    | ⟨2, _⟩ => exact Nat.lt_one_iff.mp (i 2).isLt

theorem sum_ones (h : (⟨3, ![1, 1, 1024]⟩ : Shape).ReducesTo [0, 1] ⟨1, ![1024]⟩) (v : (⟨3, ![1, 1, 1024]⟩ : Shape).Idx → EReal) (init : EReal) :
    Ideal.hostReduceAdd h v init (ix1 j) = init + v (ix3 0 0 j) := by
  refine congrArg (init + ·) (Finset.sum_eq_single_of_mem _ (Finset.mem_filter.mpr ⟨Finset.mem_univ _, ?_⟩) ?_)
  · funext b; fin_cases b; rfl
  · intro i hi hne
    refine absurd ?_ hne
    have e := congrArg Fin.val (congrFun (Finset.mem_filter.mp hi).2 0)
    funext a; apply Fin.ext
    match a with
    | ⟨0, _⟩ => exact Nat.lt_one_iff.mp (i 0).isLt
    | ⟨1, _⟩ => exact Nat.lt_one_iff.mp (i 1).isLt
    | ⟨2, _⟩ => exact e

/-! ## The stages -/

/-- Half the derivative of the square, over the row's length. -/
theorem dy_lit (d : EReal) : Ideal.div (lit 0x3F000000#32) (lit 0x44800000#32) * (lit 0x40000000#32 * d) = d * lit 0x3A800000#32 := by
  rw [MlpSpec.lit_half, MlpSpec.lit_1024, MlpSpec.lit_two, MlpSpec.lit_inv1024, RealCoe.div _ (by norm_num), ← mul_assoc, ← EReal.coe_mul, mul_comm d]
  norm_num
theorem dy_at : res_main_v116 V0 (ix3 0 n j) = MlpSpec.dy (W V0) (R V0 n) j := by
  pointwise [res_main_v116]
  rw [diff_at]
  exact dy_lit _
theorem dyg_at : res_main_v121 V0 (ix3 0 n j) = MlpSpec.dy (W V0) (R V0 n) j * (W V0).gf j := by
  pointwise [res_main_v121]
  rw [dy_at, gf_at]
theorem quot3_at : res_main_v133 V0 (ix3 0 n j) = MlpSpec.quot (MlpSpec.x2 (W V0) (R V0 n)) (fun k => MlpSpec.dy (W V0) (R V0 n) k * (W V0).gf k) := by
  pointwise [res_main_v133]
  rw [sum_outer, zero_add]
  pointwise
  simp only [x2_at, dyg_at, rs3_at, ms3_at]; rfl

section
variable (hW : (W V0).Finite) (hR : ∀ n, (R V0 n).Finite)
include hW hR

theorem dx2_at : res_main_v137 V0 (ix3 0 n j) = MlpSpec.dx2 (W V0) (R V0 n) j := by
  pointwise [res_main_v137]
  rw [dyg_at, rs3_at, x2_at, quot3_at]
  exact MlpSpec.norm_back (MlpSpec.x2_real hW (hR n)) (fun k => (MlpSpec.dy_real hW (hR n) k).mul (hW.gf k)) j
theorem dy2_at : res_main_v139 V0 (ix3 0 n j) = MlpSpec.dy2 (W V0) (R V0 n) j := by
  pointwise [res_main_v139]
  rw [g2_at, dx2_at V0 n j hW hR]
  exact mul_comm (_ : EReal) _
theorem da_at : res_main_v146 V0 (ix3 0 n f) = MlpSpec.da (W V0) (R V0 n) f := by
  pointwise [res_main_v146]
  rw [pre_at, a_at]
  simp only [dy2_at V0 n _ hW hR]
  by_cases h : 0 < ∑ k, MlpSpec.h (W V0) (R V0 n) k * (W V0).w1 k f
  · rw [if_pos h]
    exact mul_comm (_ : EReal) _
  · rw [if_neg h, MlpSpec.da, MlpSpec.a, max_eq_right (not_lt.mp h), mul_zero, zero_mul]
theorem dh_at : res_main_v147 V0 (ix3 0 n j) = MlpSpec.dh (W V0) (R V0 n) j := by
  pointwise [res_main_v147]
  simp only [da_at V0 n _ hW hR]; rfl
theorem dxn_at : res_main_v154 V0 (ix3 0 n j) = MlpSpec.dh (W V0) (R V0 n) j * (lit 0x3F800000#32 + (W V0).sc j) := by
  pointwise [res_main_v154]
  rw [dh_at V0 n j hW hR, sc_at, MlpSpec.lit_one, EReal.coe_one]
theorem quot1_at : res_main_v166 V0 (ix3 0 n j)
    = MlpSpec.quot (MlpSpec.x1 (W V0) (R V0 n)) (fun k => MlpSpec.dh (W V0) (R V0 n) k * (lit 0x3F800000#32 + (W V0).sc k)) := by
  pointwise [res_main_v166]
  rw [sum_outer, zero_add]
  pointwise
  simp only [x1_at, dxn_at V0 n _ hW hR, rs1_at, ms1_at, MlpSpec.lit_one, EReal.coe_one]; rfl
theorem dx1_at : res_main_v170 V0 (ix3 0 n j) = MlpSpec.dx1 (W V0) (R V0 n) j := by
  pointwise [res_main_v170]
  rw [dx2_at V0 n j hW hR, dxn_at V0 n j hW hR, rs1_at, x1_at, quot1_at V0 n j hW hR, add_assoc, add_assoc, ← add_assoc (_ * _)]
  exact congrArg (MlpSpec.dx2 (W V0) (R V0 n) j + ·)
    (MlpSpec.norm_back (MlpSpec.x1_real hW (hR n)) (fun k => (MlpSpec.dh_real hW (hR n) k).mul (MlpSpec.IsReal.one.add (hW.sc k))) j)
theorem dy1_at : res_main_v172 V0 (ix3 0 n j) = MlpSpec.dy1 (W V0) (R V0 n) j := by
  pointwise [res_main_v172]
  rw [g1_at, dx1_at V0 n j hW hR]
  exact mul_comm (_ : EReal) _
theorem dd_at : res_main_v176 V0 (ix3 0 n j) = MlpSpec.dd (W V0) (R V0 n) j := by
  pointwise [res_main_v176]
  simp only [dy1_at V0 n _ hW hR]; rfl
theorem dconv_at : res_main_v178 V0 (ix3 0 n e) = MlpSpec.dd (W V0) (R V0 n) (MlpSpec.hi e) := by
  pointwise [res_main_v178]
  exact dd_at V0 n _ hW hR
theorem dyv_at : res_main_v179 V0 (ix3 0 n e) = MlpSpec.dyv (W V0) (R V0 n) e := by
  pointwise [res_main_v179]
  rw [gb_at, dconv_at V0 n e hW hR]
  exact mul_comm (_ : EReal) _

end

end Cert.MlpRefIdeal.Read

end
-- ==== Proof.Mlp.RefOut.lean ====
/-
  The reference's eleven results, as arrays of the rows' quantities.
-/
module

public import proofs.«01_k».proof.Proof.Mlp.RefBwd

@[expose] public section

set_option maxRecDepth 16384

noncomputable section

namespace Cert.MlpRefIdeal.Read

open Idealize.ShloMosaic Idealize.ShloMosaic.TcCoe Cert.MlpRefIdeal Cert.MlpRefIdeal.Gen Cert.MlpRefIdeal.Value
open Cert.MlpSpec (Args wtsOf rowOf gated lit byRows)

variable (V0 : Valuation τ sig (Elt Ideal))

section
variable (hW : (W V0).Finite) (hR : ∀ n, (R V0 n).Finite)
include hW hR

omit hW hR in
theorem out_r : truncf .bf16 (shapeCast _ (res_main_v78 V0) shapeCasts_S1x4096x4096_S4096x4096) bitsLt_bf16_f32
    = byRows .bf16 fun n => (fun W R f => MlpSpec.a W R f * MlpSpec.a W R f) (W V0) (R V0 n) := by
  funext y
  refine (congrArg _ (eq_ix2 y)).trans ?_
  pointwise
  exact r_at V0 _ _

theorem out_da : truncf .bf16 (shapeCast _ (res_main_v146 V0) shapeCasts_S1x4096x4096_S4096x4096) bitsLt_bf16_f32
    = byRows .bf16 fun n => MlpSpec.da (W V0) (R V0 n) := by
  funext y
  refine (congrArg _ (eq_ix2 y)).trans ?_
  pointwise
  exact da_at V0 _ _ hW hR

omit hW hR in
theorem out_h : truncf .bf16 (shapeCast _ (res_main_v71 V0) shapeCasts_S1x4096x1024_S4096x1024) bitsLt_bf16_f32
    = byRows .bf16 fun n => MlpSpec.h (W V0) (R V0 n) := by
  funext y
  refine (congrArg _ (eq_ix2 y)).trans ?_
  pointwise
  exact h_at V0 _ _

theorem out_dy2 : truncf .bf16 (shapeCast _ (res_main_v139 V0) shapeCasts_S1x4096x1024_S4096x1024) bitsLt_bf16_f32
    = byRows .bf16 fun n => MlpSpec.dy2 (W V0) (R V0 n) := by
  funext y
  refine (congrArg _ (eq_ix2 y)).trans ?_
  pointwise
  exact dy2_at V0 _ _ hW hR

theorem out_dx1 : shapeCast _ (res_main_v170 V0) shapeCasts_S1x4096x1024_S4096x1024
    = byRows .f32 fun n => MlpSpec.dx1 (W V0) (R V0 n) := by
  funext y
  refine (congrArg _ (eq_ix2 y)).trans ?_
  pointwise
  exact dx1_at V0 _ _ hW hR

omit hW hR in
theorem out_conv : truncf .bf16 (shapeCast _ (res_main_v46 V0) shapeCasts_S1x4096x512_S4096x512) bitsLt_bf16_f32
    = byRows .bf16 fun n => MlpSpec.conv (W V0) (R V0 n) := by
  funext y
  refine (congrArg _ (eq_ix2 y)).trans ?_
  pointwise
  exact conv_at V0 _ _

theorem out_dy1 : truncf .bf16 (shapeCast _ (res_main_v172 V0) shapeCasts_S1x4096x1024_S4096x1024) bitsLt_bf16_f32
    = byRows .bf16 fun n => MlpSpec.dy1 (W V0) (R V0 n) := by
  funext y
  refine (congrArg _ (eq_ix2 y)).trans ?_
  pointwise
  exact dy1_at V0 _ _ hW hR

theorem out_do : truncf .bf16 (shapeCast _ (extractStridedSlice S1x4096x512 ![0, 0, 0] (res_main_v176 V0) slices_S1x4096x1024_S1x4096x512_0_0_0) shapeCasts_S1x4096x512_S4096x512) bitsLt_bf16_f32
    = byRows .bf16 fun n => (fun W R e => MlpSpec.dd W R (MlpSpec.lo e)) (W V0) (R V0 n) := by
  funext y
  refine (congrArg _ (eq_ix2 y)).trans ?_
  pointwise
  exact dd_at V0 _ _ hW hR

theorem dgb_at (n : Fin 4096) (e : Fin 512) : (shapeCast _ (extractStridedSlice S1x4096x512 ![0, 0, 416] (pad S1x4096x1952 ![0, 0, 416] ![0, 0, 0] ![0, 0, 0] ((concatenate S1x4096x1536 2 [⟨S1x4096x512, ((mulf (res_main_v178 V0) (res_main_v45 V0)) : (⟨S1x4096x512, .f32⟩ : BufTy).Contents (Elt Ideal))⟩, ⟨S1x4096x512, ((mulf (res_main_v194 V0) (res_main_v19 V0)) : (⟨S1x4096x512, .f32⟩ : BufTy).Contents (Elt Ideal))⟩, ⟨S1x4096x512, ((mulf (res_main_v18 V0) (res_main_v194 V0)) : (⟨S1x4096x512, .f32⟩ : BufTy).Contents (Elt Ideal))⟩] concatenates_S1x4096x512_S1x4096x512_S1x4096x512_S1x4096x1536_d2 : (⟨S1x4096x1536, .f32⟩ : BufTy).Contents (Elt Ideal))) (constant (F := Ideal) S_ .f32 0x00000000#32) pads_S1x4096x1536_S1x4096x1952_000_000_41600 h_S_) slices_S1x4096x1952_S1x4096x512_0_0_416) shapeCasts_S1x4096x512_S4096x512) (ix2 n e)
    = MlpSpec.dgb (W V0) (R V0 n) e := by
  pointwise
  rw [dif_pos (by omega), dconv_at V0 _ _ hW hR, y_at]; rfl

theorem out_dgb : shapeCast _ (extractStridedSlice S1x4096x512 ![0, 0, 416] (pad S1x4096x1952 ![0, 0, 416] ![0, 0, 0] ![0, 0, 0] ((concatenate S1x4096x1536 2 [⟨S1x4096x512, ((mulf (res_main_v178 V0) (res_main_v45 V0)) : (⟨S1x4096x512, .f32⟩ : BufTy).Contents (Elt Ideal))⟩, ⟨S1x4096x512, ((mulf (res_main_v194 V0) (res_main_v19 V0)) : (⟨S1x4096x512, .f32⟩ : BufTy).Contents (Elt Ideal))⟩, ⟨S1x4096x512, ((mulf (res_main_v18 V0) (res_main_v194 V0)) : (⟨S1x4096x512, .f32⟩ : BufTy).Contents (Elt Ideal))⟩] concatenates_S1x4096x512_S1x4096x512_S1x4096x512_S1x4096x1536_d2 : (⟨S1x4096x1536, .f32⟩ : BufTy).Contents (Elt Ideal))) (constant (F := Ideal) S_ .f32 0x00000000#32) pads_S1x4096x1536_S1x4096x1952_000_000_41600 h_S_) slices_S1x4096x1952_S1x4096x512_0_0_416) shapeCasts_S1x4096x512_S4096x512
    = byRows .f32 fun n => MlpSpec.dgb (W V0) (R V0 n) := by
  funext y
  exact (congrArg _ (eq_ix2 y)).trans (dgb_at V0 hW hR (y 0) (y 1))

theorem out_dyv : shapeCast _ (res_main_v179 V0) shapeCasts_S1x4096x512_S4096x512
    = byRows .f32 fun n => MlpSpec.dyv (W V0) (R V0 n) := by
  funext y
  refine (congrArg _ (eq_ix2 y)).trans ?_
  pointwise
  exact dyv_at V0 _ _ hW hR

/-! ## The accumulator -/

omit hW hR in
/-- Six rows laid end to end, cut into rows again. -/
theorem six (x0 x1 x2 x3 x4 x5 : FVec Ideal S1x1024 .f32) (j : Fin 1024) :
    (shapeCast S6x1024 (concatenate S1x6144 1 [⟨S1x1024, x0⟩, ⟨S1x1024, x1⟩, ⟨S1x1024, x2⟩, ⟨S1x1024, x3⟩, ⟨S1x1024, x4⟩, ⟨S1x1024, x5⟩] concatenates_S1x1024_S1x1024_S1x1024_S1x1024_S1x1024_S1x1024_S1x6144_d1) shapeCasts_S1x6144_S6x1024 : FVec Ideal S6x1024 .f32) (ix2 2 j) = x2 (ix2 0 j)
    ∧ (shapeCast S6x1024 (concatenate S1x6144 1 [⟨S1x1024, x0⟩, ⟨S1x1024, x1⟩, ⟨S1x1024, x2⟩, ⟨S1x1024, x3⟩, ⟨S1x1024, x4⟩, ⟨S1x1024, x5⟩] concatenates_S1x1024_S1x1024_S1x1024_S1x1024_S1x1024_S1x1024_S1x6144_d1) shapeCasts_S1x6144_S6x1024 : FVec Ideal S6x1024 .f32) (ix2 3 j) = x3 (ix2 0 j)
    ∧ (shapeCast S6x1024 (concatenate S1x6144 1 [⟨S1x1024, x0⟩, ⟨S1x1024, x1⟩, ⟨S1x1024, x2⟩, ⟨S1x1024, x3⟩, ⟨S1x1024, x4⟩, ⟨S1x1024, x5⟩] concatenates_S1x1024_S1x1024_S1x1024_S1x1024_S1x1024_S1x1024_S1x6144_d1) shapeCasts_S1x6144_S6x1024 : FVec Ideal S6x1024 .f32) (ix2 4 j) = x4 (ix2 0 j)
    ∧ (shapeCast S6x1024 (concatenate S1x6144 1 [⟨S1x1024, x0⟩, ⟨S1x1024, x1⟩, ⟨S1x1024, x2⟩, ⟨S1x1024, x3⟩, ⟨S1x1024, x4⟩, ⟨S1x1024, x5⟩] concatenates_S1x1024_S1x1024_S1x1024_S1x1024_S1x1024_S1x1024_S1x6144_d1) shapeCasts_S1x6144_S6x1024 : FVec Ideal S6x1024 .f32) (ix2 5 j) = x5 (ix2 0 j) := by
  refine ⟨?_, ?_, ?_, ?_⟩
  · pointwise
    rw [dif_neg (by omega), dif_neg (by omega), dif_pos (by omega)]
    exact congrArg x2 (congrArg (ix2 0) (Fin.ext (by dsimp only; omega)))
  · pointwise
    rw [dif_neg (by omega), dif_neg (by omega), dif_neg (by omega), dif_pos (by omega)]
    exact congrArg x3 (congrArg (ix2 0) (Fin.ext (by dsimp only; omega)))
  · pointwise
    rw [dif_neg (by omega), dif_neg (by omega), dif_neg (by omega), dif_neg (by omega), dif_pos (by omega)]
    exact congrArg x4 (congrArg (ix2 0) (Fin.ext (by dsimp only; omega)))
  · pointwise
    rw [dif_neg (by omega), dif_neg (by omega), dif_neg (by omega), dif_neg (by omega), dif_neg (by omega)]
    exact congrArg x5 (congrArg (ix2 0) (Fin.ext (by dsimp only; omega)))

omit hW hR in
/-- The factor on the loss's sum. -/
theorem loss_row (S : Fin 4096 → EReal) : lit 0x3F000000#32 * ∑ n, Ideal.div (S n) (lit 0x44800000#32) = lit 0x3F000000#32 * (∑ n, S n) * lit 0x3A800000#32 := by
  have e : ∀ x : EReal, Ideal.div x (lit 0x44800000#32) = lit 0x3A800000#32 * x := fun x => by
    rw [MlpSpec.lit_1024, MlpSpec.lit_inv1024, Ideal.div, if_neg (by norm_num), ← EReal.coe_inv, mul_comm]; norm_num
  simp only [e]
  rw [MlpSpec.lit_inv1024, ← MlpSpec.mul_sum _ _ (by norm_num), mul_comm _ (∑ n, S n), mul_assoc]

theorem row2 (j : Fin 1024) : res_main_v210 V0 (ix2 2 j) = ∑ n, MlpSpec.dx1 (W V0) (R V0 n) j * MlpSpec.y1 (W V0) (R V0 n) j := by
  refine (six _ _ _ _ _ _ j).1.trans ?_
  pointwise
  rw [sum_ones, zero_add]
  pointwise
  exact Finset.sum_congr rfl fun n _ => congrArg₂ (fun a b : EReal => a * b) (dx1_at V0 n j hW hR) (y1_at V0 n j)
theorem row3 (j : Fin 1024) : res_main_v210 V0 (ix2 3 j) = ∑ n, MlpSpec.dh (W V0) (R V0 n) j := by
  refine (six _ _ _ _ _ _ j).2.1.trans ?_
  pointwise
  rw [sum_ones, zero_add]
  pointwise
  exact Finset.sum_congr rfl fun n _ => dh_at V0 n j hW hR
theorem row4 (j : Fin 1024) : res_main_v210 V0 (ix2 4 j) = ∑ n, MlpSpec.dh (W V0) (R V0 n) j * MlpSpec.xn (MlpSpec.x1 (W V0) (R V0 n)) j := by
  refine (six _ _ _ _ _ _ j).2.2.1.trans ?_
  pointwise
  rw [sum_ones, zero_add]
  pointwise
  exact Finset.sum_congr rfl fun n _ => (congrArg₂ (fun a b : EReal => a * b) (xn1_at V0 n j) (dh_at V0 n j hW hR)).trans (mul_comm (_ : EReal) _)
theorem row5 (j : Fin 1024) : res_main_v210 V0 (ix2 5 j) = ∑ n, MlpSpec.dx2 (W V0) (R V0 n) j * MlpSpec.y2 (W V0) (R V0 n) j := by
  refine (six _ _ _ _ _ _ j).2.2.2.trans ?_
  pointwise
  rw [sum_ones, zero_add]
  pointwise
  exact Finset.sum_congr rfl fun n _ => congrArg₂ (fun a b : EReal => a * b) (dx2_at V0 n j hW hR) (y2_at V0 n j)

theorem acc_at (a : Fin 8) (j : Fin 1024) : (concatenate S8x1024 0 [⟨S1x1024, ((broadcastInDim S1x1024 ![1] bcast_S1024_S1x1024_1 (Host.reduceAdd (shapeCast _ (Host.reduceAdd (mulf (res_main_v98 V0) (res_main_v116 V0)) (constant (F := Ideal) S_ .f32 0x00000000#32) reducesTo_S1x4096x1024_S1x1024_d1 h_S_) shapeCasts_S1x1024_S1x1x1024) (constant (F := Ideal) S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (shapeCast _ (extractStridedSlice S1x1024 ![5, 0] (res_main_v210 V0) slices_S6x1024_S1x1024_5_0) shapeCasts_S1x1024_S1024)) : (⟨S1x1024, .f32⟩ : BufTy).Contents (Elt Ideal))⟩, ⟨S1x1024, ((broadcastInDim S1x1024 ![1] bcast_S1024_S1x1024_1 (shapeCast _ (extractStridedSlice S1x1024 ![3, 0] (res_main_v210 V0) slices_S6x1024_S1x1024_3_0) shapeCasts_S1x1024_S1024)) : (⟨S1x1024, .f32⟩ : BufTy).Contents (Elt Ideal))⟩, ⟨S1x1024, ((broadcastInDim S1x1024 ![1] bcast_S1024_S1x1024_1 (shapeCast _ (extractStridedSlice S1x1024 ![4, 0] (res_main_v210 V0) slices_S6x1024_S1x1024_4_0) shapeCasts_S1x1024_S1024)) : (⟨S1x1024, .f32⟩ : BufTy).Contents (Elt Ideal))⟩, ⟨S1x1024, ((broadcastInDim S1x1024 ![1] bcast_S1024_S1x1024_1 (broadcastInDim S1024 ![] bcast_S_S1024 (mulf (constant (F := Ideal) S_ .f32 0x3F000000#32) (Host.reduceAdd (Host.divf (Host.reduceAdd (mulf (res_main_v102 V0) (res_main_v102 V0)) (constant (F := Ideal) S_ .f32 0x00000000#32) reducesTo_S1x4096x1024_S1x4096_d2 h_S_) (broadcastInDim S1x4096 ![] bcast_S_S1x4096 (constant (F := Ideal) S_ .f32 0x44800000#32))) (constant (F := Ideal) S_ .f32 0x00000000#32) reducesTo_S1x4096_S_d0_1 h_S_)))) : (⟨S1x1024, .f32⟩ : BufTy).Contents (Elt Ideal))⟩, ⟨S1x1024, ((broadcastInDim S1x1024 ![1] bcast_S1024_S1x1024_1 (shapeCast _ (extractStridedSlice S1x1024 ![2, 0] (res_main_v210 V0) slices_S6x1024_S1x1024_2_0) shapeCasts_S1x1024_S1024)) : (⟨S1x1024, .f32⟩ : BufTy).Contents (Elt Ideal))⟩, ⟨S1x1024, ((broadcastInDim S1x1024 ![1] bcast_S1024_S1x1024_1 (broadcastInDim S1024 ![] bcast_S_S1024 (constant (F := Ideal) S_ .f32 0x00000000#32))) : (⟨S1x1024, .f32⟩ : BufTy).Contents (Elt Ideal))⟩, ⟨S1x1024, ((broadcastInDim S1x1024 ![1] bcast_S1024_S1x1024_1 (broadcastInDim S1024 ![] bcast_S_S1024 (constant (F := Ideal) S_ .f32 0x00000000#32))) : (⟨S1x1024, .f32⟩ : BufTy).Contents (Elt Ideal))⟩] concatenates_S1x1024_S1x1024_S1x1024_S1x1024_S1x1024_S1x1024_S1x1024_S1x1024_S8x1024_d0 : (⟨S8x1024, .f32⟩ : BufTy).Contents (Elt Ideal)) (ix2 a j)
    = MlpSpec.acc (W V0) (R V0) a j := by
  fin_cases a
  · pointwise
    rw [sum_ones, zero_add]
    pointwise
    exact Finset.sum_congr rfl fun n _ => (congrArg₂ (fun a b : EReal => a * b) (xn3_at V0 n j) (dy_at V0 n j)).trans (mul_comm (_ : EReal) _)
  · pointwise
    exact row5 V0 hW hR j
  · pointwise
    exact row3 V0 hW hR j
  · pointwise
    exact row4 V0 hW hR j
  · pointwise
    rw [Fin.sum_univ_one]
    simp only [diff_at]
    exact loss_row _
  · pointwise
    exact row2 V0 hW hR j
  · pointwise
    rfl
  · pointwise
    rfl

theorem out_acc : (concatenate S8x1024 0 [⟨S1x1024, ((broadcastInDim S1x1024 ![1] bcast_S1024_S1x1024_1 (Host.reduceAdd (shapeCast _ (Host.reduceAdd (mulf (res_main_v98 V0) (res_main_v116 V0)) (constant (F := Ideal) S_ .f32 0x00000000#32) reducesTo_S1x4096x1024_S1x1024_d1 h_S_) shapeCasts_S1x1024_S1x1x1024) (constant (F := Ideal) S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (shapeCast _ (extractStridedSlice S1x1024 ![5, 0] (res_main_v210 V0) slices_S6x1024_S1x1024_5_0) shapeCasts_S1x1024_S1024)) : (⟨S1x1024, .f32⟩ : BufTy).Contents (Elt Ideal))⟩, ⟨S1x1024, ((broadcastInDim S1x1024 ![1] bcast_S1024_S1x1024_1 (shapeCast _ (extractStridedSlice S1x1024 ![3, 0] (res_main_v210 V0) slices_S6x1024_S1x1024_3_0) shapeCasts_S1x1024_S1024)) : (⟨S1x1024, .f32⟩ : BufTy).Contents (Elt Ideal))⟩, ⟨S1x1024, ((broadcastInDim S1x1024 ![1] bcast_S1024_S1x1024_1 (shapeCast _ (extractStridedSlice S1x1024 ![4, 0] (res_main_v210 V0) slices_S6x1024_S1x1024_4_0) shapeCasts_S1x1024_S1024)) : (⟨S1x1024, .f32⟩ : BufTy).Contents (Elt Ideal))⟩, ⟨S1x1024, ((broadcastInDim S1x1024 ![1] bcast_S1024_S1x1024_1 (broadcastInDim S1024 ![] bcast_S_S1024 (mulf (constant (F := Ideal) S_ .f32 0x3F000000#32) (Host.reduceAdd (Host.divf (Host.reduceAdd (mulf (res_main_v102 V0) (res_main_v102 V0)) (constant (F := Ideal) S_ .f32 0x00000000#32) reducesTo_S1x4096x1024_S1x4096_d2 h_S_) (broadcastInDim S1x4096 ![] bcast_S_S1x4096 (constant (F := Ideal) S_ .f32 0x44800000#32))) (constant (F := Ideal) S_ .f32 0x00000000#32) reducesTo_S1x4096_S_d0_1 h_S_)))) : (⟨S1x1024, .f32⟩ : BufTy).Contents (Elt Ideal))⟩, ⟨S1x1024, ((broadcastInDim S1x1024 ![1] bcast_S1024_S1x1024_1 (shapeCast _ (extractStridedSlice S1x1024 ![2, 0] (res_main_v210 V0) slices_S6x1024_S1x1024_2_0) shapeCasts_S1x1024_S1024)) : (⟨S1x1024, .f32⟩ : BufTy).Contents (Elt Ideal))⟩, ⟨S1x1024, ((broadcastInDim S1x1024 ![1] bcast_S1024_S1x1024_1 (broadcastInDim S1024 ![] bcast_S_S1024 (constant (F := Ideal) S_ .f32 0x00000000#32))) : (⟨S1x1024, .f32⟩ : BufTy).Contents (Elt Ideal))⟩, ⟨S1x1024, ((broadcastInDim S1x1024 ![1] bcast_S1024_S1x1024_1 (broadcastInDim S1024 ![] bcast_S_S1024 (constant (F := Ideal) S_ .f32 0x00000000#32))) : (⟨S1x1024, .f32⟩ : BufTy).Contents (Elt Ideal))⟩] concatenates_S1x1024_S1x1024_S1x1024_S1x1024_S1x1024_S1x1024_S1x1024_S1x1024_S8x1024_d0 : (⟨S8x1024, .f32⟩ : BufTy).Contents (Elt Ideal))
    = byRows .f32 (MlpSpec.acc (W V0) (R V0)) := by
  funext y
  exact (congrArg _ (eq_ix2 y)).trans (acc_at V0 hW hR (y 0) (y 1))

end

end Cert.MlpRefIdeal.Read

end
-- ==== Proof.Mlp.Equal.lean ====
/-
  The value claim of the call after the attention: finite arguments are real numbers, and from equal real arguments the kernel
  and the reference end with the same eleven arrays.
-/
module

public import proofs.«01_k».proof.Defs
public import proofs.«01_k».proof.Proof.Attn.Equal
public import proofs.«01_k».proof.Proof.Mlp.Run
public import proofs.«01_k».proof.Proof.Mlp.RefOut

@[expose] public section

set_option maxRecDepth 16384

noncomputable section

namespace Cert.MlpIdeal.Equal

open Idealize.SL.Sem Idealize.ShloMosaic Idealize.ShloMosaic.TcCoe Cert.MlpIdeal Cert.MlpIdeal.Host Cert.MlpIdeal.Final
open Cert.MlpSpec (Args Wts Row IsReal wtsOf rowOf gated byRows)
open Cert.AttnIdeal.Bwd (real_of_less)

/-- The shape facts that the precondition's function states. -/
theorem finiteFacts : Cert.Pre_mlp_finite.Facts where
  slices_S1x4096x1952_S1x4096x1536_0_0_416 := by decide
  bcast_S_S1x4096x1024 := by decide
  bcast_S_S1x4096x512 := by decide
  bcast_S_S1x4096x1536 := by decide
  bcast_S_S1x6144 := by decide
  bcast_S_S3x512 := by decide
  bcast_S_S1024x1024 := by decide
  bcast_S_S1024x4096 := by decide
  bcast_S_S4096x1024 := by decide
  bcast_S_S1024 := by decide

/-- Every entry that the layer reads is a real number; of the projections it reads the columns from 416 on. -/
structure ArgReal (A : Args) : Prop where
  x : ∀ n j, IsReal (A.x (ix3 0 n j))
  attn : ∀ n e, IsReal (A.attn (ix3 0 n e))
  z : ∀ n (k : Fin 1536), IsReal (A.z (ix3 0 n ⟨416 + k.val, by omega⟩))
  mod : ∀ j, IsReal (A.mod (ix2 0 j))
  cw : ∀ k e, IsReal (A.cw (ix2 k e))
  wo : ∀ k j, IsReal (A.wo (ix2 k j))
  w1 : ∀ k f, IsReal (A.w1 (ix2 k f))
  w2 : ∀ f j, IsReal (A.w2 (ix2 f j))
  gf : ∀ j, IsReal (A.gf (ix1 j))
  tgt : ∀ n j, IsReal (A.tgt (ix3 0 n j))

section
variable {A : Args} (H : ArgReal A)
include H

theorem wts_finite : (wtsOf A).Finite where
  cw k e := H.cw k e
  wo k j := H.wo k j
  g1 j := H.mod _
  sh j := H.mod _
  sc j := H.mod _
  g2 j := H.mod _
  gf j := H.gf j
  w1 k f := H.w1 k f
  w2 f j := H.w2 f j

/-- A column of the projections from 416 on. -/
theorem z_real (n : Fin 4096) (k : Fin 1952) (hk : 416 ≤ k.val) : IsReal (A.z (ix3 0 n k)) := by
  have h := H.z n ⟨k.val - 416, by omega⟩
  have e : (⟨416 + (k.val - 416), by omega⟩ : Fin 1952) = k := Fin.ext (by dsimp only; omega)
  exact e ▸ h

theorem gated_real (n : Fin 4096) (e : Fin 512) : IsReal (gated A n e) :=
  (z_real H n ⟨928 + e.val, by omega⟩ (by dsimp only; omega)).mul (z_real H n ⟨1440 + e.val, by omega⟩ (by dsimp only; omega))

theorem row_finite (n : Fin 4096) : (rowOf A n).Finite where
  o e := H.attn n e
  gb e := z_real H n ⟨416 + e.val, by omega⟩ (by dsimp only; omega)
  u e := gated_real H n e
  up e := by
    dsimp only [rowOf]
    split
    · exact IsReal.zero
    · exact gated_real H _ e
  un e := by
    dsimp only [rowOf]
    split
    · exact IsReal.zero
    · exact gated_real H _ e
  x j := H.x n j
  tgt j := H.tgt n j

end

/-- An entry of the columns from 416 on. -/
theorem columns_apply (z : FVec Ideal ⟨3, ![1, 4096, 1952]⟩ .f32) (h) (n : Fin 4096) (k : Fin 1536) :
    extractStridedSlice ⟨3, ![1, 4096, 1536]⟩ ![0, 0, 416] z h (ix3 0 n k) = z (ix3 0 n ⟨416 + k.val, by omega⟩) := by
  pointwise

/-- Finite arguments are real numbers. -/
theorem argReal_of_finite {m : (ℓ : Loc nD τ sig) → Buf (Elt Ideal) ℓ}
    (h : Cert.Pre_MlpIdeal_mlp_finite (hPre_mlp_finite := finiteFacts) m) (c : Dev nD) : ArgReal (args m c) := by
  obtain ⟨h0, h1, h2, h3, h4, h5, h6, h7, h8, h9⟩ := h c
  constructor
  · intro n j; exact real_of_less (congrFun h0 (ix3 0 n j))
  · intro n e; exact real_of_less (congrFun h1 (ix3 0 n e))
  · intro n k; exact columns_apply (args m c).z (by decide) n k ▸ real_of_less (congrFun h2 (ix3 0 n k))
  · intro j; exact real_of_less (congrFun h3 (ix2 0 j))
  · intro k e; exact real_of_less (congrFun h4 (ix2 k e))
  · intro k j; exact real_of_less (congrFun h5 (ix2 k j))
  · intro k f; exact real_of_less (congrFun h6 (ix2 k f))
  · intro f j; exact real_of_less (congrFun h7 (ix2 f j))
  · intro j; exact real_of_less (congrFun h8 (ix1 j))
  · intro n j; exact real_of_less (congrFun h9 (ix3 0 n j))

/-- The reference's weights and rows, once its arguments are known. -/
theorem of_args {V0 : Valuation Cert.MlpRefIdeal.τ Cert.MlpRefIdeal.sig (Elt Ideal)} {A : Args} (e : Cert.MlpRefIdeal.Read.args V0 = A) (H : ArgReal A) :
    (Cert.MlpRefIdeal.Read.W V0).Finite ∧ (∀ n, (Cert.MlpRefIdeal.Read.R V0 n).Finite)
    ∧ resultsOf (Cert.MlpRefIdeal.Read.W V0) (Cert.MlpRefIdeal.Read.R V0) = resultsOf (wtsOf A) fun n => rowOf A n := by
  subst e
  exact ⟨wts_finite H, row_finite H, rfl⟩

/-- In exact arithmetic, from equal finite arguments, the kernel and the reference end with equal results. -/
theorem value : Cert.algebraic_MlpIdeal_MlpRefIdeal_pre_mlp_finite (hMlpIdeal := Cert.MlpIdeal.Gen.facts)
    (hMlpRefIdeal := Cert.MlpRefIdeal.Gen.facts) (hPre_mlp_finite := finiteFacts) := by
  intro m g m' g' hfin hag
  refine ⟨fun c => (out m c).r, fun c => (out m c).da, fun c => (out m c).h, fun c => (out m c).dy2, fun c => (out m c).dx1,
    fun c => (out m c).conv, fun c => (out m c).acc, fun c => (out m c).dy1, fun c => (out m c).dout, fun c => (out m c).dgb,
    fun c => (out m c).dyv, Final.run m g, ?_⟩
  refine (θ_run Cert.MlpRefIdeal.defs _ _).mono (fun r h c => ?_) (Cert.MlpRefIdeal.Value.run m' g')
  have H := argReal_of_finite hfin c
  obtain ⟨a0, a1, a2, _, a4, a5, a6, a7, a8, a9, a10⟩ := hag c
  have e : Cert.MlpRefIdeal.Read.args (StableHlo.launchContents m' c) = args m c := by
    simp only [Cert.MlpRefIdeal.Read.args, Host.args, Args.mk.injEq]
    exact ⟨a0, a1, a2, a4, a5, a6, a7, a8, a9, a10⟩
  obtain ⟨hW, hR, o⟩ := of_args e H
  obtain ⟨r0, r1, r2, r3, r4, r5, r6, r7, r8, r9, r10, rest⟩ := h c
  exact ⟨r0.trans ((Cert.MlpRefIdeal.Read.out_r _).trans (congrArg Results.r o)),
    r1.trans ((Cert.MlpRefIdeal.Read.out_da _ hW hR).trans (congrArg Results.da o)),
    r2.trans ((Cert.MlpRefIdeal.Read.out_h _).trans (congrArg Results.h o)),
    r3.trans ((Cert.MlpRefIdeal.Read.out_dy2 _ hW hR).trans (congrArg Results.dy2 o)),
    r4.trans ((Cert.MlpRefIdeal.Read.out_dx1 _ hW hR).trans (congrArg Results.dx1 o)),
    r5.trans ((Cert.MlpRefIdeal.Read.out_conv _).trans (congrArg Results.conv o)),
    r6.trans ((Cert.MlpRefIdeal.Read.out_acc _ hW hR).trans (congrArg Results.acc o)),
    r7.trans ((Cert.MlpRefIdeal.Read.out_dy1 _ hW hR).trans (congrArg Results.dy1 o)),
    r8.trans ((Cert.MlpRefIdeal.Read.out_do _ hW hR).trans (congrArg Results.dout o)),
    r9.trans ((Cert.MlpRefIdeal.Read.out_dgb _ hW hR).trans (congrArg Results.dgb o)),
    r10.trans ((Cert.MlpRefIdeal.Read.out_dyv _ hW hR).trans (congrArg Results.dyv o)), rest⟩

end Cert.MlpIdeal.Equal

end
-- ==== Proof.Inproj.Points.lean ====
/- The branch conditions of the in-projection backward call's body. -/
module

public import proofs.«01_k».proof.Proof.Gen.InprojIdeal.Frame

@[expose] public section

-- membership in a rectangle of the long axes recurses once per coordinate
set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the grid coordinate -/

/-- The first point, where the sums are started. -/
abbrev condFirst (i : grid0.Coords) : Prop := (Scalar.cmpi .ne (Scalar.extui (Scalar.cmpi .eq (BitVec.ofNat 32 (i 0).val) 0#32)) 0#32) = 1#1
/-- The place of the point's rows in the staged group of four. -/
abbrev slotOf (i : grid0.Coords) : BitVec 32 :=
  Scalar.select (Scalar.andi (Scalar.xori (Scalar.cmpi .slt (Scalar.remsi (BitVec.ofNat 32 (i 0).val) (Scalar.select (Scalar.cmpi .eq (4#32) 0#32) 1#32 4#32)) 0#32) (Scalar.cmpi .slt (Scalar.select (Scalar.cmpi .eq (4#32) 0#32) 1#32 4#32) 0#32)) (Scalar.cmpi .ne (Scalar.remsi (BitVec.ofNat 32 (i 0).val) (Scalar.select (Scalar.cmpi .eq (4#32) 0#32) 1#32 4#32)) 0#32)) (Scalar.addi (Scalar.remsi (BitVec.ofNat 32 (i 0).val) (Scalar.select (Scalar.cmpi .eq (4#32) 0#32) 1#32 4#32)) (Scalar.select (Scalar.cmpi .eq (4#32) 0#32) 1#32 4#32)) (Scalar.remsi (BitVec.ofNat 32 (i 0).val) (Scalar.select (Scalar.cmpi .eq (4#32) 0#32) 1#32 4#32))
/-- The last point of a group of four latent blocks, where the staged group is multiplied. -/
abbrev condGroup (i : grid0.Coords) : Prop := (Scalar.cmpi .ne (Scalar.extui (Scalar.andi (Scalar.cmpi .slt (BitVec.ofNat 32 (i 0).val) 16#32) (Scalar.cmpi .eq (slotOf i) 3#32))) 0#32) = 1#1
/-- The point of the context rows. -/
abbrev condCtx (i : grid0.Coords) : Prop := (Scalar.cmpi .ne (Scalar.extui (Scalar.xori (Scalar.cmpi .slt (BitVec.ofNat 32 (i 0).val) 16#32) 1#1)) 0#32) = 1#1

/-- The staged group's row a point's block starts at. -/
theorem rows1 : ∀ (i : grid0.Coords) (a : Fin 2), k0_off1 i a = (![256 * ((i 0).val % 4), 0] : Fin 2 → Nat) a := by decide +kernel
theorem rows2 : ∀ (i : grid0.Coords) (a : Fin 2), k0_off2 i a = (![256 * ((i 0).val % 4), 0] : Fin 2 → Nat) a := by decide +kernel

instance (i : grid0.Coords) : ClosedOff (k0_off1 i) := ⟨![256 * ((i 0).val % 4), 0], funext (rows1 i)⟩
instance (i : grid0.Coords) : ClosedOff (k0_off2 i) := ⟨![256 * ((i 0).val % 4), 0], funext (rows2 i)⟩

end Cert.InprojIdeal.Gen

end
-- ==== Proof.Inproj.BodyRun.lean ====
/- The run of the in-projection backward call's body at one grid point. Only the block of the input's gradient is named:
   the four blocks of sums over the whole grid, and the five scratch buffers, are owned at whatever they hold. -/
module

public import proofs.«01_k».proof.Proof.Inproj.Points
public import proofs.«01_k».proof.Proof.Gen.InprojIdeal.Skeleton

@[expose] public section

-- membership in a rectangle of the long axes recurses once per coordinate
set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 8000000 in
/-- The pieces a latent point's stores leave (not the last of a group of four) in the gradient's block, with the proof that the body, run on whole blocks
    with the inputs at `x0` to `x24`, ends with the inputs as they were and those pieces written. -/
noncomputable def bodyRun (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S256x2048 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S256x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S256x512 .f32) (harg12 : arg12.IsWhole) (arg13 : Memref sig .tc .vmem S256x1024 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1024x2048 .bf16) (harg20 : arg20.IsWhole) (arg21 : Memref sig .tc .vmem S256x1024 .bf16) (harg21 : arg21.IsWhole) (arg22 : Memref sig .tc .vmem S128x2048 .bf16) (harg22 : arg22.IsWhole) (arg23 : Memref sig .tc .vmem S1x256 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S256x1024 .f32) (harg26 : arg26.IsWhole) (arg27 : Memref sig .tc .vmem S1024x2048 .bf16) (harg27 : arg27.IsWhole) (arg28 : Memref sig .tc .vmem S256x1024 .bf16) (harg28 : arg28.IsWhole) (arg29 : Memref sig .tc .vmem S128x2048 .bf16) (harg29 : arg29.IsWhole) (arg30 : Memref sig .tc .vmem S16x1024 .f32) (harg30 : arg30.IsWhole) (arg31 : Memref sig .tc .vmem S1024x1024 .bf16) (harg31 : arg31.IsWhole) (arg32 : Memref sig .tc .vmem S1024x2048 .bf16) (harg32 : arg32.IsWhole) (arg33 : Memref sig .tc .vmem S1024x2048 .f32) (harg33 : arg33.IsWhole) (arg34 : Memref sig .tc .vmem S256x1024 .f32) (harg34 : arg34.IsWhole) (arg35 : Memref sig .tc .vmem S128x2048 .f32) (harg35 : arg35.IsWhole)
    (x0 : Vec F S256x1024 .f32) (x1 : Vec F S256x1024 .f32) (x2 : Vec F S1x8x1024 .f32) (x3 : Vec F S256x2048 .f32) (x4 : Vec F S8x512 .f32) (x5 : Vec F S8x512 .f32) (x6 : Vec F S8x512 .f32) (x7 : Vec F S8x512 .f32) (x8 : Vec F S256x512 .f32) (x9 : Vec F S8x512 .f32) (x10 : Vec F S8x512 .f32) (x11 : Vec F S256x512 .f32) (x12 : Vec F S256x1024 .f32) (x13 : Vec F S8x256x128 .f32) (x14 : Vec F S8x256x128 .f32) (x15 : Vec F S8x256x128 .f32) (x16 : Vec F S256x128 .f32) (x17 : Vec F S256x128 .f32) (x18 : Vec F S256x128 .f32) (x19 : Vec F S1024x2048 .bf16) (x20 : Vec F S256x1024 .bf16) (x21 : Vec F S128x2048 .bf16) (x22 : Vec F S1x256 .f32) (x23 : Vec F S1x128 .f32) (x24 : Vec F S8x512 .f32) :
    { L : List (View.Piece (Elt F) S256x1024 .f32) //
      ∀ (hGroup : ¬condGroup i) (hCtx : ¬condCtx i) (hLat : k0_cond4 i = 1#1) (hLast : ¬k0_cond5 i = 1#1) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)) -∗ K ⟨⟩))
          ⊢ wp frame (wpE (defs₀ (F := F)) Variants.none c none) E (cc0_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, fun hGroup hCtx hLat hLast E K => ?run⟩
  case run =>
    by_cases hFirst : condFirst i
    all_goals (
      simp only [cc0_inproj_bwd_eq_skeleton]; unfold cc0_inproj_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
      sl_exec (disch := first | sl_exact hFirst | sl_exact hGroup | sl_exact hCtx | sl_exact hLat | sl_exact hLast)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      isplitl [H17]
      · iexists _; isplitr; · ipureintro; exact harg18.read_unread _
        iexact H17
      isplitl [H18]
      · iexists _; isplitr; · ipureintro; exact harg19.read_unread _
        iexact H18
      isplitl [H19]
      · iexists _; isplitr; · ipureintro; exact harg20.read_unread _
        iexact H19
      isplitl [H20]
      · iexists _; isplitr; · ipureintro; exact harg21.read_unread _
        iexact H20
      isplitl [H21]
      · iexists _; isplitr; · ipureintro; exact harg22.read_unread _
        iexact H21
      isplitl [H22]
      · iexists _; isplitr; · ipureintro; exact harg23.read_unread _
        iexact H22
      isplitl [H23]
      · iexists _; isplitr; · ipureintro; exact harg24.read_unread _
        iexact H23
      isplitl [H24]
      · iexists _; isplitr; · ipureintro; exact harg25.read_unread _
        iexact H24
      isplitl [H25]; · iexists _; iexact H25
      isplitl [H26]
      · iexists _, _; isplitr; swap; · iexact H26
        ipureintro; rfl
      isplitl [H27]
      · iexists _, _; isplitr; swap; · iexact H27
        ipureintro; rfl
      isplitl [H28]
      · iexists _, _; isplitr; swap; · iexact H28
        ipureintro; rfl
      isplitl [H29]
      · iexists _, _; isplitr; swap; · iexact H29
        ipureintro; rfl
      isplitl [H30]
      · iexists _, _; isplitr; swap; · iexact H30
        ipureintro; rfl
      isplitl [H31]
      · iexists _, _; isplitr; swap; · iexact H31
        ipureintro; rfl
      isplitl [H32]
      · iexists _, _; isplitr; swap; · iexact H32
        ipureintro; rfl
      isplitl [H33]
      · iexists _, _; isplitr; swap; · iexact H33
        ipureintro; rfl
      iexists _, _; isplitr; swap; · iexact H34
      ipureintro; rfl)

end Cert.InprojIdeal.Gen

end
-- ==== Proof.Inproj.BodyRunGroup.lean ====
/- The run of the in-projection backward call's body at one grid point. Only the block of the input's gradient is named:
   the four blocks of sums over the whole grid, and the five scratch buffers, are owned at whatever they hold. -/
module

public import proofs.«01_k».proof.Proof.Inproj.Points
public import proofs.«01_k».proof.Proof.Gen.InprojIdeal.Skeleton

@[expose] public section

-- membership in a rectangle of the long axes recurses once per coordinate
set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 8000000 in
/-- The pieces a latent point's stores leave (the last of a group of four) in the gradient's block, with the proof that the body, run on whole blocks
    with the inputs at `x0` to `x24`, ends with the inputs as they were and those pieces written. -/
noncomputable def bodyRunGroup (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S256x2048 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S256x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S256x512 .f32) (harg12 : arg12.IsWhole) (arg13 : Memref sig .tc .vmem S256x1024 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1024x2048 .bf16) (harg20 : arg20.IsWhole) (arg21 : Memref sig .tc .vmem S256x1024 .bf16) (harg21 : arg21.IsWhole) (arg22 : Memref sig .tc .vmem S128x2048 .bf16) (harg22 : arg22.IsWhole) (arg23 : Memref sig .tc .vmem S1x256 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S256x1024 .f32) (harg26 : arg26.IsWhole) (arg27 : Memref sig .tc .vmem S1024x2048 .bf16) (harg27 : arg27.IsWhole) (arg28 : Memref sig .tc .vmem S256x1024 .bf16) (harg28 : arg28.IsWhole) (arg29 : Memref sig .tc .vmem S128x2048 .bf16) (harg29 : arg29.IsWhole) (arg30 : Memref sig .tc .vmem S16x1024 .f32) (harg30 : arg30.IsWhole) (arg31 : Memref sig .tc .vmem S1024x1024 .bf16) (harg31 : arg31.IsWhole) (arg32 : Memref sig .tc .vmem S1024x2048 .bf16) (harg32 : arg32.IsWhole) (arg33 : Memref sig .tc .vmem S1024x2048 .f32) (harg33 : arg33.IsWhole) (arg34 : Memref sig .tc .vmem S256x1024 .f32) (harg34 : arg34.IsWhole) (arg35 : Memref sig .tc .vmem S128x2048 .f32) (harg35 : arg35.IsWhole)
    (x0 : Vec F S256x1024 .f32) (x1 : Vec F S256x1024 .f32) (x2 : Vec F S1x8x1024 .f32) (x3 : Vec F S256x2048 .f32) (x4 : Vec F S8x512 .f32) (x5 : Vec F S8x512 .f32) (x6 : Vec F S8x512 .f32) (x7 : Vec F S8x512 .f32) (x8 : Vec F S256x512 .f32) (x9 : Vec F S8x512 .f32) (x10 : Vec F S8x512 .f32) (x11 : Vec F S256x512 .f32) (x12 : Vec F S256x1024 .f32) (x13 : Vec F S8x256x128 .f32) (x14 : Vec F S8x256x128 .f32) (x15 : Vec F S8x256x128 .f32) (x16 : Vec F S256x128 .f32) (x17 : Vec F S256x128 .f32) (x18 : Vec F S256x128 .f32) (x19 : Vec F S1024x2048 .bf16) (x20 : Vec F S256x1024 .bf16) (x21 : Vec F S128x2048 .bf16) (x22 : Vec F S1x256 .f32) (x23 : Vec F S1x128 .f32) (x24 : Vec F S8x512 .f32) :
    { L : List (View.Piece (Elt F) S256x1024 .f32) //
      ∀ (hFirst : ¬condFirst i) (hGroup : condGroup i) (hCtx : ¬condCtx i) (hLat : k0_cond4 i = 1#1) (hLast : ¬k0_cond5 i = 1#1) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)) -∗ K ⟨⟩))
          ⊢ wp frame (wpE (defs₀ (F := F)) Variants.none c none) E (cc0_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, fun hFirst hGroup hCtx hLat hLast E K => ?run⟩
  case run =>
    all_goals (
      simp only [cc0_inproj_bwd_eq_skeleton]; unfold cc0_inproj_bwd_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
      sl_exec (disch := first | sl_exact hFirst | sl_exact hGroup | sl_exact hCtx | sl_exact hLat | sl_exact hLast)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      isplitl [H17]
      · iexists _; isplitr; · ipureintro; exact harg18.read_unread _
        iexact H17
      isplitl [H18]
      · iexists _; isplitr; · ipureintro; exact harg19.read_unread _
        iexact H18
      isplitl [H19]
      · iexists _; isplitr; · ipureintro; exact harg20.read_unread _
        iexact H19
      isplitl [H20]
      · iexists _; isplitr; · ipureintro; exact harg21.read_unread _
        iexact H20
      isplitl [H21]
      · iexists _; isplitr; · ipureintro; exact harg22.read_unread _
        iexact H21
      isplitl [H22]
      · iexists _; isplitr; · ipureintro; exact harg23.read_unread _
        iexact H22
      isplitl [H23]
      · iexists _; isplitr; · ipureintro; exact harg24.read_unread _
        iexact H23
      isplitl [H24]
      · iexists _; isplitr; · ipureintro; exact harg25.read_unread _
        iexact H24
      isplitl [H25]; · iexists _; iexact H25
      isplitl [H26]
      · iexists _, _; isplitr; swap; · iexact H26
        ipureintro; rfl
      isplitl [H27]
      · iexists _, _; isplitr; swap; · iexact H27
        ipureintro; rfl
      isplitl [H28]
      · iexists _, _; isplitr; swap; · iexact H28
        ipureintro; rfl
      isplitl [H29]
      · iexists _, _; isplitr; swap; · iexact H29
        ipureintro; rfl
      isplitl [H30]
      · iexists _, _; isplitr; swap; · iexact H30
        ipureintro; rfl
      isplitl [H31]
      · iexists _, _; isplitr; swap; · iexact H31
        ipureintro; rfl
      isplitl [H32]
      · iexists _, _; isplitr; swap; · iexact H32
        ipureintro; rfl
      isplitl [H33]
      · iexists _, _; isplitr; swap; · iexact H33
        ipureintro; rfl
      iexists _, _; isplitr; swap; · iexact H34
      ipureintro; rfl)

end Cert.InprojIdeal.Gen

end
-- ==== Proof.Inproj.BodyRunCtx.lean ====
/- The run of the in-projection backward call's body at one grid point. Only the block of the input's gradient is named:
   the four blocks of sums over the whole grid, and the five scratch buffers, are owned at whatever they hold. -/
module

public import proofs.«01_k».proof.Proof.Inproj.Points
public import proofs.«01_k».proof.Proof.Gen.InprojIdeal.Skeleton

@[expose] public section

-- membership in a rectangle of the long axes recurses once per coordinate
set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 8000000 in
/-- The context point: the gradient's block is left as it was found. -/
theorem bodyRunCtx (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S256x2048 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S256x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S256x512 .f32) (harg12 : arg12.IsWhole) (arg13 : Memref sig .tc .vmem S256x1024 .f32) (harg13 : arg13.IsWhole) (arg14 : Memref sig .tc .vmem S8x256x128 .f32) (harg14 : arg14.IsWhole) (arg15 : Memref sig .tc .vmem S8x256x128 .f32) (harg15 : arg15.IsWhole) (arg16 : Memref sig .tc .vmem S8x256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1024x2048 .bf16) (harg20 : arg20.IsWhole) (arg21 : Memref sig .tc .vmem S256x1024 .bf16) (harg21 : arg21.IsWhole) (arg22 : Memref sig .tc .vmem S128x2048 .bf16) (harg22 : arg22.IsWhole) (arg23 : Memref sig .tc .vmem S1x256 .f32) (harg23 : arg23.IsWhole) (arg24 : Memref sig .tc .vmem S1x128 .f32) (harg24 : arg24.IsWhole) (arg25 : Memref sig .tc .vmem S8x512 .f32) (harg25 : arg25.IsWhole) (arg26 : Memref sig .tc .vmem S256x1024 .f32) (harg26 : arg26.IsWhole) (arg27 : Memref sig .tc .vmem S1024x2048 .bf16) (harg27 : arg27.IsWhole) (arg28 : Memref sig .tc .vmem S256x1024 .bf16) (harg28 : arg28.IsWhole) (arg29 : Memref sig .tc .vmem S128x2048 .bf16) (harg29 : arg29.IsWhole) (arg30 : Memref sig .tc .vmem S16x1024 .f32) (harg30 : arg30.IsWhole) (arg31 : Memref sig .tc .vmem S1024x1024 .bf16) (harg31 : arg31.IsWhole) (arg32 : Memref sig .tc .vmem S1024x2048 .bf16) (harg32 : arg32.IsWhole) (arg33 : Memref sig .tc .vmem S1024x2048 .f32) (harg33 : arg33.IsWhole) (arg34 : Memref sig .tc .vmem S256x1024 .f32) (harg34 : arg34.IsWhole) (arg35 : Memref sig .tc .vmem S128x2048 .f32) (harg35 : arg35.IsWhole)
    (x0 : Vec F S256x1024 .f32) (x1 : Vec F S256x1024 .f32) (x2 : Vec F S1x8x1024 .f32) (x3 : Vec F S256x2048 .f32) (x4 : Vec F S8x512 .f32) (x5 : Vec F S8x512 .f32) (x6 : Vec F S8x512 .f32) (x7 : Vec F S8x512 .f32) (x8 : Vec F S256x512 .f32) (x9 : Vec F S8x512 .f32) (x10 : Vec F S8x512 .f32) (x11 : Vec F S256x512 .f32) (x12 : Vec F S256x1024 .f32) (x13 : Vec F S8x256x128 .f32) (x14 : Vec F S8x256x128 .f32) (x15 : Vec F S8x256x128 .f32) (x16 : Vec F S256x128 .f32) (x17 : Vec F S256x128 .f32) (x18 : Vec F S256x128 .f32) (x19 : Vec F S1024x2048 .bf16) (x20 : Vec F S256x1024 .bf16) (x21 : Vec F S128x2048 .bf16) (x22 : Vec F S1x256 .f32) (x23 : Vec F S1x128 .f32) (x24 : Vec F S8x512 .f32) (x25 : Vec F S256x1024 .f32)
    (hFirst : ¬condFirst i) (hGroup : ¬condGroup i) (hCtx : condCtx i) (hLat : ¬k0_cond4 i = 1#1) (hLast : k0_cond5 i = 1#1) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)) -∗ K ⟨⟩))
          ⊢ wp frame (wpE (defs₀ (F := F)) Variants.none c none) E (cc0_inproj_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K := by
  simp only [cc0_inproj_bwd_eq_skeleton]; unfold cc0_inproj_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
  sl_exec (disch := first | sl_exact hFirst | sl_exact hGroup | sl_exact hCtx | sl_exact hLat | sl_exact hLast)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  isplitl [H23]
  · iexists _; isplitr; · ipureintro; exact harg24.read_unread _
    iexact H23
  isplitl [H24]
  · iexists _; isplitr; · ipureintro; exact harg25.read_unread _
    iexact H24
  isplitl [H25]
  · iexists _; isplitr; · ipureintro; exact harg26.read_unread _
    iexact H25
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  iexists _, _; isplitr; swap; · iexact H34
  ipureintro; rfl

end Cert.InprojIdeal.Gen

end
-- ==== Proof.Inproj.BodyFrame.lean ====
/- What the in-projection backward call's body leaves at every grid point. The blocks of sums over the grid are not named:
   the program does not return them.

   Everything is stated at any interpretation of the floats: the same run serves the program of machine words and the
   idealized one, whose texts are equal. -/
module

public import proofs.«01_k».proof.Proof.Inproj.BodyRun
public import proofs.«01_k».proof.Proof.Inproj.BodyRunGroup
public import proofs.«01_k».proof.Proof.Inproj.BodyRunCtx
public import Idealize.ShloMosaic.Lib.Claim

@[expose] public section

-- membership in a rectangle of the long axes recurses once per coordinate
set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands the body is handed -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x256x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S8x256x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1024x2048 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x1024 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S128x2048 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x256 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S8x512 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S256x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1024x2048 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S256x1024 .bf16 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S128x2048 .bf16 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S16x1024 .f32 := win0_29.stage (cfg0.slots t 29)
abbrev hs0_29 (t : Fin cfg0.N) : (ms0_29 t).IsWhole := hstage0_29 ((cfg0.slots t 29).cast nbuf0_29)
/-- The scratch buffers, whole. -/
abbrev scM0 : Memref sig .tc .vmem S1024x1024 .bf16 := Memref.whole cc0_scratch0
abbrev scM1 : Memref sig .tc .vmem S1024x2048 .bf16 := Memref.whole cc0_scratch1
abbrev scM2 : Memref sig .tc .vmem S1024x2048 .f32 := Memref.whole cc0_scratch2
abbrev scM3 : Memref sig .tc .vmem S256x1024 .f32 := Memref.whole cc0_scratch3
abbrev scM4 : Memref sig .tc .vmem S128x2048 .f32 := Memref.whole cc0_scratch4
/-- The buffer the gradient's block is read back through (the choice does not matter). -/
abbrev VO25 : View sig .tc .vmem S256x1024 .f32 := (Memref.whole cc0_stg25_0 : Memref sig .tc .vmem S256x1024 .f32).view

/-- The invariant with the scratch buffers owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

/-! ## Which case a point is -/

theorem latFacts : ∀ i : grid0.Coords, (i 0).val < 16 → (¬condCtx i) ∧ k0_cond4 i = 1#1 ∧ ¬k0_cond5 i = 1#1 := by decide +kernel
theorem ctxFacts : ∀ i : grid0.Coords, ¬(i 0).val < 16 → (¬condFirst i) ∧ (¬condGroup i) ∧ condCtx i ∧ (¬k0_cond4 i = 1#1) ∧ k0_cond5 i = 1#1 := by decide +kernel
theorem groupFacts : ∀ i : grid0.Coords, condGroup i → ¬condFirst i := by decide +kernel

theorem coord_eq (t : Fin cfg0.N) : (grid0.coords t 0).val = t.val := by
  have ht : t.val < 17 := Nat.lt_of_lt_of_eq t.isLt N_0
  have e0 : (grid0.coords t 0).val = t.val / 1 % 17 := Pipeline.Grid.coords_val t 0 (by decide) rfl
  omega

/-! ## The body at a grid point -/

/-- The body's run at a latent point `t`, on the point's own staging buffers and input blocks. -/
def runOn (c : Dev nD) (t : Fin cfg0.N) :=
  bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0 (Memref.isWhole_whole _) scM1 (Memref.isWhole_whole _) scM2 (Memref.isWhole_whole _) scM3 (Memref.isWhole_whole _) scM4 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
/-- The same at the last point of a group of four. -/
def runOnGroup (c : Dev nD) (t : Fin cfg0.N) :=
  bodyRunGroup c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0 (Memref.isWhole_whole _) scM1 (Memref.isWhole_whole _) scM2 (Memref.isWhole_whole _) scM3 (Memref.isWhole_whole _) scM4 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)

theorem pieces_eq (c : Dev nD) (t : Fin cfg0.N) : (runOnGroup m c t).1 = (runOn m c t).1 := by
  unfold runOnGroup runOn bodyRunGroup bodyRun
  dsimp only
  try rfl

theorem cover25 (c : Dev nD) (t : Fin cfg0.N) (y) : ∃ pc ∈ (runOn m c t).1, y ∈ pc.1.set :=
  View.cover_of_tiledL (runOn m c t).1 S256x1024.size (by sl_kernel_rfl) y

/-- The latent point whose gradient block the buffer holds after point `t`: the point itself, after the context point the last latent one. -/
def latPt (t : Fin cfg0.N) : Fin cfg0.N := ⟨min t.val 15, Nat.lt_of_le_of_lt (Nat.min_le_left _ _) t.isLt⟩
theorem latPt_of_lt (t : Fin cfg0.N) (h : t.val < 16) : latPt t = t := Fin.ext (by dsimp only [latPt]; omega)

/-- The gradient's block a latent point leaves. -/
def gxBlk (c : Dev nD) (t : Fin cfg0.N) : Vec F S256x1024 .f32 :=
  VO25.read (Elt F) (VO25.writes (Elt F) VO25.junk (runOn m c t).1)

/-! ## The proof data -/

/-- The windows whose blocks are not named: the four blocks of sums. -/
def forgets : Fin cfg0.W → Bool := fun w => Nat.ble 26 w.val

/-- The arrays as the region finds them; after point `t` each input's buffer at its block, the gradient's at its point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => gxBlk m c (latPt t)
    | ⟨26, _⟩ => Pipeline.Dat.unnamed (cfg := cfg0) 26 t
    | ⟨27, _⟩ => Pipeline.Dat.unnamed (cfg := cfg0) 27 t
    | ⟨28, _⟩ => Pipeline.Dat.unnamed (cfg := cfg0) 28 t
    | ⟨29, _⟩ => Pipeline.Dat.unnamed (cfg := cfg0) 29 t
    | ⟨_ + 30, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  before0_0_of m (dats m 0 c) (A_eq m c 0) (fun _ => by dsimp only [dats]) t d
theorem before1 (c : Dev nD) (t : Fin cfg0.N) (d) : (dats m 0 c).before 1 t d = iblk m c 1 t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d
theorem before8 (c : Dev nD) (t : Fin cfg0.N) (d) : (dats m 0 c).before 8 t d = iblk m c 8 t :=
  before0_8_of m (dats m 0 c) (A_eq m c 8) (fun _ => by dsimp only [dats]) t d
theorem before9 (c : Dev nD) (t : Fin cfg0.N) (d) : (dats m 0 c).before 9 t d = iblk m c 9 t :=
  before0_9_of m (dats m 0 c) (A_eq m c 9) (fun _ => by dsimp only [dats]) t d
theorem before10 (c : Dev nD) (t : Fin cfg0.N) (d) : (dats m 0 c).before 10 t d = iblk m c 10 t :=
  before0_10_of m (dats m 0 c) (A_eq m c 10) (fun _ => by dsimp only [dats]) t d
theorem before11 (c : Dev nD) (t : Fin cfg0.N) (d) : (dats m 0 c).before 11 t d = iblk m c 11 t :=
  before0_11_of m (dats m 0 c) (A_eq m c 11) (fun _ => by dsimp only [dats]) t d
theorem before12 (c : Dev nD) (t : Fin cfg0.N) (d) : (dats m 0 c).before 12 t d = iblk m c 12 t :=
  before0_12_of m (dats m 0 c) (A_eq m c 12) (fun _ => by dsimp only [dats]) t d
theorem before13 (c : Dev nD) (t : Fin cfg0.N) (d) : (dats m 0 c).before 13 t d = iblk m c 13 t :=
  before0_13_of m (dats m 0 c) (A_eq m c 13) (fun _ => by dsimp only [dats]) t d
theorem before14 (c : Dev nD) (t : Fin cfg0.N) (d) : (dats m 0 c).before 14 t d = iblk m c 14 t :=
  before0_14_of m (dats m 0 c) (A_eq m c 14) (fun _ => by dsimp only [dats]) t d
theorem before15 (c : Dev nD) (t : Fin cfg0.N) (d) : (dats m 0 c).before 15 t d = iblk m c 15 t :=
  before0_15_of m (dats m 0 c) (A_eq m c 15) (fun _ => by dsimp only [dats]) t d
theorem before16 (c : Dev nD) (t : Fin cfg0.N) (d) : (dats m 0 c).before 16 t d = iblk m c 16 t :=
  before0_16_of m (dats m 0 c) (A_eq m c 16) (fun _ => by dsimp only [dats]) t d
theorem before17 (c : Dev nD) (t : Fin cfg0.N) (d) : (dats m 0 c).before 17 t d = iblk m c 17 t :=
  before0_17_of m (dats m 0 c) (A_eq m c 17) (fun _ => by dsimp only [dats]) t d
theorem before18 (c : Dev nD) (t : Fin cfg0.N) (d) : (dats m 0 c).before 18 t d = iblk m c 18 t :=
  before0_18_of m (dats m 0 c) (A_eq m c 18) (fun _ => by dsimp only [dats]) t d
theorem before19 (c : Dev nD) (t : Fin cfg0.N) (d) : (dats m 0 c).before 19 t d = iblk m c 19 t :=
  before0_19_of m (dats m 0 c) (A_eq m c 19) (fun _ => by dsimp only [dats]) t d
theorem before20 (c : Dev nD) (t : Fin cfg0.N) (d) : (dats m 0 c).before 20 t d = iblk m c 20 t :=
  before0_20_of m (dats m 0 c) (A_eq m c 20) (fun _ => by dsimp only [dats]) t d
theorem before21 (c : Dev nD) (t : Fin cfg0.N) (d) : (dats m 0 c).before 21 t d = iblk m c 21 t :=
  before0_21_of m (dats m 0 c) (A_eq m c 21) (fun _ => by dsimp only [dats]) t d
theorem before22 (c : Dev nD) (t : Fin cfg0.N) (d) : (dats m 0 c).before 22 t d = iblk m c 22 t :=
  before0_22_of m (dats m 0 c) (A_eq m c 22) (fun _ => by dsimp only [dats]) t d
theorem before23 (c : Dev nD) (t : Fin cfg0.N) (d) : (dats m 0 c).before 23 t d = iblk m c 23 t :=
  before0_23_of m (dats m 0 c) (A_eq m c 23) (fun _ => by dsimp only [dats]) t d
theorem before24 (c : Dev nD) (t : Fin cfg0.N) (d) : (dats m 0 c).before 24 t d = iblk m c 24 t :=
  before0_24_of m (dats m 0 c) (A_eq m c 24) (fun _ => by dsimp only [dats]) t d

/-- The gradient's block is not written back after the last latent point: the context point stays on it. -/
theorem flush25 : ∀ t : Fin cfg0.N, t.val = 15 → (cfg0.win 25).flush t = false :=
  ((by decide +kernel) : ∀ t : Fin grid0.N, t.val = 15 → win0_25.flush t = false)
/-- It is written back after the context point. -/
theorem flush25_last : ∀ t : Fin cfg0.N, t.val = 16 → (cfg0.win 25).flush t = true :=
  ((by decide +kernel) : ∀ t : Fin grid0.N, t.val = 16 → win0_25.flush t = true)
/-- A latent point stores the gradient's block; the context point does not. -/
theorem idle25 (t : Fin cfg0.N) (h : t.val < 16) : cfg0.idle 25 (cfg0.grid.coords t) = false :=
  (((by decide +kernel) : ∀ i : grid0.Coords, (i 0).val < 16 → idle0 25 i = false)) (grid0.coords t) (by rw [coord_eq]; exact h)
theorem idle25_last (t : Fin cfg0.N) (h : ¬t.val < 16) : cfg0.idle 25 (cfg0.grid.coords t) = true :=
  (((by decide +kernel) : ∀ i : grid0.Coords, ¬(i 0).val < 16 → idle0 25 i = true)) (grid0.coords t) (by rw [coord_eq]; exact h)

/-- At the context point the gradient's buffer holds what the point before left in it. -/
theorem before25 (c : Dev nD) (t : Fin cfg0.N) (d) (h : ¬t.val < 16) : (dats m 0 c).before 25 t d = gxBlk m c (latPt t) := by
  have hN : t.val < 17 := lt_of_lt_of_eq t.isLt (show cfg0.N = 17 from N_0)
  rw [Dat.before_of_pos _ 25 t (by omega) ((cfg0.win 25).fetch_out rfl t), flush25 _ (by dsimp only; omega), if_neg Bool.false_ne_true]
  unfold Dat.left
  rw [idle25 _ (by dsimp only; omega)]
  unfold Dat.kept
  dsimp only
  rw [Pipeline.fill_of_clip_none (cfg := cfg0) 25 _ (fun _ => rfl) d ((dats m 0 c).after 25 _), Window.fill_cut]
  dsimp only [dats]
  exact congrArg (gxBlk m c) (Fin.ext (by dsimp only [latPt]; omega))

/-! ## The body's triple -/

/-- A buffer whose pieces cover it holds them read back, whatever it held before. -/
theorem owns_of_pieces {s : Shape} {e : EltTy} (c : Dev nD) (M : Memref sig .tc .vmem s e) (W : View sig .tc .vmem s e)
    (L : List (View.Piece (Elt F) s e)) (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (W.read (Elt F) (W.writes (Elt F) W.junk L)) := by
  unfold owns
  iintro ⟨%f, H⟩
  iexists _; isplitr
  swap; · iexact H
  ipureintro; exact View.read_writes_of_cover _ _ _ _ _ h

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

set_option maxHeartbeats 4000000 in
/-- A latent point that is not the last of its group. -/
theorem sound_lat (c : Dev nD) (t : Fin cfg0.N) (h : t.val < 16) (hGroup : ¬condGroup (grid0.coords t)) :
    bodyPre m c t ⊢ wp frame (wpE (defs₀ (F := F)) Variants.none c none) Set.univ (bodyAt0 t) (fun _ => bodyPost m c t) := by
  obtain ⟨hCtx, hLat, hLast⟩ := latFacts (grid0.coords t) (by rw [coord_eq]; exact h)
  have e := latPt_of_lt t h
  unfold bodyPre bodyPost bodyAt0
  simp only [before0, before1, before2, before3, before4, before5, before6, before7, before8, before9, before10, before11, before12, before13, before14, before15, before16, before17, before18, before19, before20, before21, before22, before23, before24]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats],
    show (dats m 0 c).after 1 t = iblk m c 1 t from by dsimp only [dats],
    show (dats m 0 c).after 2 t = iblk m c 2 t from by dsimp only [dats],
    show (dats m 0 c).after 3 t = iblk m c 3 t from by dsimp only [dats],
    show (dats m 0 c).after 4 t = iblk m c 4 t from by dsimp only [dats],
    show (dats m 0 c).after 5 t = iblk m c 5 t from by dsimp only [dats],
    show (dats m 0 c).after 6 t = iblk m c 6 t from by dsimp only [dats],
    show (dats m 0 c).after 7 t = iblk m c 7 t from by dsimp only [dats],
    show (dats m 0 c).after 8 t = iblk m c 8 t from by dsimp only [dats],
    show (dats m 0 c).after 9 t = iblk m c 9 t from by dsimp only [dats],
    show (dats m 0 c).after 10 t = iblk m c 10 t from by dsimp only [dats],
    show (dats m 0 c).after 11 t = iblk m c 11 t from by dsimp only [dats],
    show (dats m 0 c).after 12 t = iblk m c 12 t from by dsimp only [dats],
    show (dats m 0 c).after 13 t = iblk m c 13 t from by dsimp only [dats],
    show (dats m 0 c).after 14 t = iblk m c 14 t from by dsimp only [dats],
    show (dats m 0 c).after 15 t = iblk m c 15 t from by dsimp only [dats],
    show (dats m 0 c).after 16 t = iblk m c 16 t from by dsimp only [dats],
    show (dats m 0 c).after 17 t = iblk m c 17 t from by dsimp only [dats],
    show (dats m 0 c).after 18 t = iblk m c 18 t from by dsimp only [dats],
    show (dats m 0 c).after 19 t = iblk m c 19 t from by dsimp only [dats],
    show (dats m 0 c).after 20 t = iblk m c 20 t from by dsimp only [dats],
    show (dats m 0 c).after 21 t = iblk m c 21 t from by dsimp only [dats],
    show (dats m 0 c).after 22 t = iblk m c 22 t from by dsimp only [dats],
    show (dats m 0 c).after 23 t = iblk m c 23 t from by dsimp only [dats],
    show (dats m 0 c).after 24 t = iblk m c 24 t from by dsimp only [dats],
    show (dats m 0 c).after 25 t = gxBlk m c (latPt t) from by dsimp only [dats],
    show (dats m 0 c).Φ t.castSucc = Pipeline.ΦA spec0 c from rfl, PhiA0_eq]
  rw [e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, H26, H27, H28, H29⟩
  iapply ((runOn m c t).2 hGroup hCtx hLat hLast Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexact H26
  isplitl [H27]; · iexact H27
  isplitl [H28]; · iexact H28
  isplitl [H29]; · iexact H29
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, H23, H24, H25, H26, H27, H28, H29, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · unfold gxBlk; iapply (owns_of_pieces c (ms0_25 t) VO25 _ (cover25 m c t)); iexact H25
  isplitl [H26]; · iexact H26
  isplitl [H27]; · iexact H27
  isplitl [H28]; · iexact H28
  iexact H29

set_option maxHeartbeats 4000000 in
/-- The last point of a group of four. -/
theorem sound_group (c : Dev nD) (t : Fin cfg0.N) (h : t.val < 16) (hGroup : condGroup (grid0.coords t)) :
    bodyPre m c t ⊢ wp frame (wpE (defs₀ (F := F)) Variants.none c none) Set.univ (bodyAt0 t) (fun _ => bodyPost m c t) := by
  obtain ⟨hCtx, hLat, hLast⟩ := latFacts (grid0.coords t) (by rw [coord_eq]; exact h)
  have e := latPt_of_lt t h
  unfold bodyPre bodyPost bodyAt0
  simp only [before0, before1, before2, before3, before4, before5, before6, before7, before8, before9, before10, before11, before12, before13, before14, before15, before16, before17, before18, before19, before20, before21, before22, before23, before24]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats],
    show (dats m 0 c).after 1 t = iblk m c 1 t from by dsimp only [dats],
    show (dats m 0 c).after 2 t = iblk m c 2 t from by dsimp only [dats],
    show (dats m 0 c).after 3 t = iblk m c 3 t from by dsimp only [dats],
    show (dats m 0 c).after 4 t = iblk m c 4 t from by dsimp only [dats],
    show (dats m 0 c).after 5 t = iblk m c 5 t from by dsimp only [dats],
    show (dats m 0 c).after 6 t = iblk m c 6 t from by dsimp only [dats],
    show (dats m 0 c).after 7 t = iblk m c 7 t from by dsimp only [dats],
    show (dats m 0 c).after 8 t = iblk m c 8 t from by dsimp only [dats],
    show (dats m 0 c).after 9 t = iblk m c 9 t from by dsimp only [dats],
    show (dats m 0 c).after 10 t = iblk m c 10 t from by dsimp only [dats],
    show (dats m 0 c).after 11 t = iblk m c 11 t from by dsimp only [dats],
    show (dats m 0 c).after 12 t = iblk m c 12 t from by dsimp only [dats],
    show (dats m 0 c).after 13 t = iblk m c 13 t from by dsimp only [dats],
    show (dats m 0 c).after 14 t = iblk m c 14 t from by dsimp only [dats],
    show (dats m 0 c).after 15 t = iblk m c 15 t from by dsimp only [dats],
    show (dats m 0 c).after 16 t = iblk m c 16 t from by dsimp only [dats],
    show (dats m 0 c).after 17 t = iblk m c 17 t from by dsimp only [dats],
    show (dats m 0 c).after 18 t = iblk m c 18 t from by dsimp only [dats],
    show (dats m 0 c).after 19 t = iblk m c 19 t from by dsimp only [dats],
    show (dats m 0 c).after 20 t = iblk m c 20 t from by dsimp only [dats],
    show (dats m 0 c).after 21 t = iblk m c 21 t from by dsimp only [dats],
    show (dats m 0 c).after 22 t = iblk m c 22 t from by dsimp only [dats],
    show (dats m 0 c).after 23 t = iblk m c 23 t from by dsimp only [dats],
    show (dats m 0 c).after 24 t = iblk m c 24 t from by dsimp only [dats],
    show (dats m 0 c).after 25 t = gxBlk m c (latPt t) from by dsimp only [dats],
    show (dats m 0 c).Φ t.castSucc = Pipeline.ΦA spec0 c from rfl, PhiA0_eq]
  rw [e]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, H26, H27, H28, H29⟩
  iapply ((runOnGroup m c t).2 (groupFacts _ hGroup) hGroup hCtx hLat hLast Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexact H26
  isplitl [H27]; · iexact H27
  isplitl [H28]; · iexact H28
  isplitl [H29]; · iexact H29
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, H23, H24, H25, H26, H27, H28, H29, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · unfold gxBlk; rw [← pieces_eq m c t]; iapply (owns_of_pieces c (ms0_25 t) VO25 _ (fun y => (pieces_eq m c t) ▸ cover25 m c t y)); iexact H25
  isplitl [H26]; · iexact H26
  isplitl [H27]; · iexact H27
  isplitl [H28]; · iexact H28
  iexact H29

set_option maxHeartbeats 4000000 in
/-- The context point. -/
theorem sound_ctx (c : Dev nD) (t : Fin cfg0.N) (h : ¬t.val < 16) :
    bodyPre m c t ⊢ wp frame (wpE (defs₀ (F := F)) Variants.none c none) Set.univ (bodyAt0 t) (fun _ => bodyPost m c t) := by
  obtain ⟨hFirst, hGroup, hCtx, hLat, hLast⟩ := ctxFacts (grid0.coords t) (by rw [coord_eq]; exact h)
  unfold bodyPre bodyPost bodyAt0
  simp only [before0, before1, before2, before3, before4, before5, before6, before7, before8, before9, before10, before11, before12, before13, before14, before15, before16, before17, before18, before19, before20, before21, before22, before23, before24]
  rw [show (dats m 0 c).Φ t.succ = (dats m 0 c).Φ t.castSucc from rfl,
    show (dats m 0 c).owesAt () t.succ = (dats m 0 c).owesAt () t.castSucc from rfl,
    show (dats m 0 c).after 0 t = iblk m c 0 t from by dsimp only [dats],
    show (dats m 0 c).after 1 t = iblk m c 1 t from by dsimp only [dats],
    show (dats m 0 c).after 2 t = iblk m c 2 t from by dsimp only [dats],
    show (dats m 0 c).after 3 t = iblk m c 3 t from by dsimp only [dats],
    show (dats m 0 c).after 4 t = iblk m c 4 t from by dsimp only [dats],
    show (dats m 0 c).after 5 t = iblk m c 5 t from by dsimp only [dats],
    show (dats m 0 c).after 6 t = iblk m c 6 t from by dsimp only [dats],
    show (dats m 0 c).after 7 t = iblk m c 7 t from by dsimp only [dats],
    show (dats m 0 c).after 8 t = iblk m c 8 t from by dsimp only [dats],
    show (dats m 0 c).after 9 t = iblk m c 9 t from by dsimp only [dats],
    show (dats m 0 c).after 10 t = iblk m c 10 t from by dsimp only [dats],
    show (dats m 0 c).after 11 t = iblk m c 11 t from by dsimp only [dats],
    show (dats m 0 c).after 12 t = iblk m c 12 t from by dsimp only [dats],
    show (dats m 0 c).after 13 t = iblk m c 13 t from by dsimp only [dats],
    show (dats m 0 c).after 14 t = iblk m c 14 t from by dsimp only [dats],
    show (dats m 0 c).after 15 t = iblk m c 15 t from by dsimp only [dats],
    show (dats m 0 c).after 16 t = iblk m c 16 t from by dsimp only [dats],
    show (dats m 0 c).after 17 t = iblk m c 17 t from by dsimp only [dats],
    show (dats m 0 c).after 18 t = iblk m c 18 t from by dsimp only [dats],
    show (dats m 0 c).after 19 t = iblk m c 19 t from by dsimp only [dats],
    show (dats m 0 c).after 20 t = iblk m c 20 t from by dsimp only [dats],
    show (dats m 0 c).after 21 t = iblk m c 21 t from by dsimp only [dats],
    show (dats m 0 c).after 22 t = iblk m c 22 t from by dsimp only [dats],
    show (dats m 0 c).after 23 t = iblk m c 23 t from by dsimp only [dats],
    show (dats m 0 c).after 24 t = iblk m c 24 t from by dsimp only [dats],
    show (dats m 0 c).after 25 t = gxBlk m c (latPt t) from by dsimp only [dats],
    show (dats m 0 c).Φ t.castSucc = Pipeline.ΦA spec0 c from rfl, PhiA0_eq]
  simp only [fun d => before25 m c t d h]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, H26, H27, H28, H29⟩
  iapply (bodyRunCtx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0 (Memref.isWhole_whole _) scM1 (Memref.isWhole_whole _) scM2 (Memref.isWhole_whole _) scM3 (Memref.isWhole_whole _) scM4 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (gxBlk m c (latPt t)) hFirst hGroup hCtx hLat hLast Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, H23, H24, H25, H26, H27, H28, H29, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

theorem sound_body (c : Dev nD) (t : Fin cfg0.N) :
    bodyPre m c t ⊢ wp frame (wpE (defs₀ (F := F)) Variants.none c none) Set.univ (bodyAt0 t) (fun _ => bodyPost m c t) := by
  by_cases h : t.val < 16
  · by_cases hg : condGroup (grid0.coords t)
    · exact sound_group m c t h hg
    · exact sound_lat m c t h hg
  · exact sound_ctx m c t h

end Cert.InprojIdeal.Gen

end
-- ==== Proof.Inproj.Frame.lean ====
/- The frame of the in-projection backward call: from its body's run, that the whole program runs to an end from any memory,
   leaves its arguments as they were, and returns the gradient's blocks written back. The blocks of sums over the grid are
   not named: the program does not return them.

   Everything is stated at any interpretation of the floats: the same run serves the program of machine words and the
   idealized one, whose texts are equal. -/
module

public import proofs.«01_k».proof.Proof.Inproj.BodyFrame
public import Idealize.ShloMosaic.Lib.Claim

@[expose] public section

-- membership in a rectangle of the long axes recurses once per coordinate
set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ forgets := fun t => by
  by_cases h : t.val < 16
  · rw [bigSep_W0, bigSep_W0, defs₀_row, idle25 t h]
    exact triple_restated (sound_body m c t) rfl .rfl fun _ => .rfl
  · rw [bigSep_W0, bigSep_W0, defs₀_row, idle25_last t h, flush25_last t (by have := lt_of_lt_of_eq t.isLt (show cfg0.N = 17 from N_0); omega)]
    exact triple_restated (sound_body m c t) rfl .rfl fun _ => .rfl

/-! ## The whole program -/

-- the launch theorem's implicit arguments are found by unfolding plain definitions in a metavariable's type
set_option backward.isDefEq.respectTransparency.types false in
/-- Every run ends, with the arrays at what the proof data says and every counter of the machine at zero. -/
theorem run_main_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The gradient's array after the run: its blocks written back. -/
theorem run_gx : θ_run defs (onTc (τ := τ) (main (F := F))) (s₀ m ρ)
    (fun r => ∀ c : Dev nD, r.2.mem ((cfg0.win 25).arr.view.loc (c.tc : Thread nD τ)) = (dats m 0 c).arrAt 25 cfg0.N) :=
  (θ_run defs _ _).mono (fun r h c => ((dats m 0 c).toRForget_arrAt_iff (fgt := forgets) (w := 25) rfl _ _).mp ((h.1 c).1 25)) (run_main_quiescent m ρ)

/-- The frame: every run ends, the arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩) (run_main_quiescent m ρ)

end Cert.InprojIdeal.Gen

end
-- ==== Proof.Inproj.FrameBits.lean ====
/-
  The kernel as written and the idealized kernel are the same program: no literal and no operation is replaced. So the one run,
  proved for every type of floats, is the frame of both.
-/
module

public import proofs.«01_k».proof.Defs
public import proofs.«01_k».proof.Proof.Gen.Inproj
public import proofs.«01_k».proof.Proof.Inproj.Frame
public import Idealize.ShloMosaic.Lib.Tactic

@[expose] public section

set_option maxRecDepth 16384

noncomputable section

namespace Cert.InprojIdeal.Gen

open Idealize.ShloMosaic Idealize.ShloMosaic.TcCoe Idealize.ShloMosaic.Tactic Idealize.SL.Sem

/-- The frame of the kernel as written is the idealized text's, at the machine's floats. -/
theorem quiescent_eq [h1 : Cert.Inproj.Facts] [h2 : Cert.InprojIdeal.Facts] :
    @Cert.quiescent_Inproj h1 = (∀ (m : (ℓ : Loc Cert.InprojIdeal.nD Cert.InprojIdeal.τ Cert.InprojIdeal.sig) → Buf (Elt Bits) ℓ) (g : Dev Cert.InprojIdeal.nD → PrngReg), True →
    θ_run (Cert.InprojIdeal.defs (F := Bits)) (onTc (τ := Cert.InprojIdeal.τ) (Cert.InprojIdeal.main (F := Bits))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13)
      ∧ r.2.mem ((c.tc : Thread Cert.InprojIdeal.nD Cert.InprojIdeal.τ).loc Cert.InprojIdeal.main_arg14) = m ((c.tc : Thread Cert.InprojIdeal.nD Cert.InprojIdeal.τ).loc Cert.InprojIdeal.main_arg14)
      ∧ r.2.mem ((c.tc : Thread Cert.InprojIdeal.nD Cert.InprojIdeal.τ).loc Cert.InprojIdeal.main_arg15) = m ((c.tc : Thread Cert.InprojIdeal.nD Cert.InprojIdeal.τ).loc Cert.InprojIdeal.main_arg15)
      ∧ r.2.mem ((c.tc : Thread Cert.InprojIdeal.nD Cert.InprojIdeal.τ).loc Cert.InprojIdeal.main_arg16) = m ((c.tc : Thread Cert.InprojIdeal.nD Cert.InprojIdeal.τ).loc Cert.InprojIdeal.main_arg16)
      ∧ r.2.mem ((c.tc : Thread Cert.InprojIdeal.nD Cert.InprojIdeal.τ).loc Cert.InprojIdeal.main_arg17) = m ((c.tc : Thread Cert.InprojIdeal.nD Cert.InprojIdeal.τ).loc Cert.InprojIdeal.main_arg17))
      ∧ r.2.sem = fun _ => 0)) := by
  sl_kernel_rfl

/-- The kernel as written terminates without a fault, keeps its arguments and leaves every counter at zero. -/
theorem frame_bits : Cert.quiescent_Inproj (hInproj := Cert.Inproj.Gen.facts) :=
  (quiescent_eq (h1 := Cert.Inproj.Gen.facts) (h2 := Cert.InprojIdeal.Gen.facts)).mpr fun m ρ _ => frame (F := Bits) m ρ

end Cert.InprojIdeal.Gen

end
-- ==== Proof.Inproj.Spec.lean ====
/-
  The gradient of the layer's input through the first projections, one row of the sequence at a time, as functions of the extended
  reals in the order of operations the kernel uses: two low-rank products with their norms, the rotation of the rotary lanes, the
  three-tap convolution, and the product with the projection's weights under the first norm.
-/
module

public import proofs.«01_k».proof.Proof.Attn.RealCoe

@[expose] public section

noncomputable section

namespace Cert.InprojSpec

open Idealize.ShloMosaic

/-- The number a single-precision word stands for. -/
abbrev lit (b : BitVec 32) : EReal := Ideal.ofBits .f32 b
abbrev l1024 : EReal := lit 0x44800000#32
abbrev l256 : EReal := lit 0x43800000#32
abbrev l128 : EReal := lit 0x43000000#32

section
variable {n : ℕ} (c : EReal) (v d : Fin n → EReal) (j : Fin n)
/-- One over the root of the mean square of a row, and the row times it. -/
def rs : EReal := Ideal.rsqrt (Ideal.div (∑ k, v k * v k) c + lit 0x358637BD#32)
def xn : EReal := v j * rs c v
/-- The gradient of that norm. -/
def nb : EReal := rs c v * (d j - xn c v j * Ideal.div (∑ k, d k * xn c v k) c)
end

/-- What every row shares: the modulation, the weights, the norms' gains and the taps. -/
@[ext] structure Wts where
  sh : Fin 1024 → EReal
  sc : Fin 1024 → EReal
  win : Fin 1024 → Fin 1952 → EReal
  qg : Fin 256 → EReal
  wuq : Fin 256 → Fin 768 → EReal
  kvg : Fin 128 → EReal
  wukv : Fin 128 → Fin 1024 → EReal
  cw : Fin 3 → Fin 512 → EReal

/-- One row: the input, the rotation's table, and the cotangents that reach the row; of the convolution's also the neighbours'. -/
@[ext] structure Row where
  x : Fin 1024 → EReal
  cos : Fin 2 → Fin 8 → EReal
  sin : Fin 2 → Fin 8 → EReal
  dq : Fin 8 → Fin 96 → EReal
  dk : Fin 8 → Fin 96 → EReal
  dv : Fin 8 → Fin 64 → EReal
  dgb : Fin 512 → EReal
  dy : Fin 512 → EReal
  dyp : Fin 512 → EReal
  dyn : Fin 512 → EReal
  dx1 : Fin 1024 → EReal

section
variable (W : Wts) (R : Row)

def h (j : Fin 1024) : EReal := xn l1024 R.x j * (lit 0x3F800000#32 + W.sc j) + W.sh j
def z (k : Fin 1952) : EReal := ∑ j, h W R j * W.win j k
def cq (k : Fin 256) : EReal := z W R ⟨k.val, by omega⟩
def ckv (k : Fin 128) : EReal := z W R ⟨256 + k.val, by omega⟩
def gc (e : Fin 512) : EReal := z W R ⟨928 + e.val, by omega⟩
def xi (e : Fin 512) : EReal := z W R ⟨1440 + e.val, by omega⟩
/-- The rotation's transpose: two axes of two halves of eight lanes. -/
def unrope (g : Fin 32 → EReal) (l : Fin 32) : EReal :=
  if h : l.val % 16 < 8 then g l * R.cos ⟨l.val / 16, by omega⟩ ⟨l.val % 8, by omega⟩
      + g ⟨l.val + 8, by omega⟩ * R.sin ⟨l.val / 16, by omega⟩ ⟨l.val % 8, by omega⟩
    else g l * R.cos ⟨l.val / 16, by omega⟩ ⟨l.val % 8, by omega⟩
      + g ⟨l.val - 8, by omega⟩ * (-R.sin ⟨l.val / 16, by omega⟩ ⟨l.val % 8, by omega⟩)
def dqf (c : Fin 768) : EReal :=
  if h : c.val % 96 < 64 then R.dq ⟨c.val / 96, by omega⟩ ⟨c.val % 96, by omega⟩
    else unrope R (fun k => R.dq ⟨c.val / 96, by omega⟩ ⟨64 + k.val, by omega⟩) ⟨c.val % 96 - 64, by omega⟩
def dcqn (k : Fin 256) : EReal := ∑ c, dqf R c * W.wuq k c
def dcq (k : Fin 256) : EReal := nb l256 (cq W R) (fun k => dcqn W R k * W.qg k) k
def dkvf (c : Fin 1024) : EReal :=
  if h : c.val % 128 < 64 then R.dk ⟨c.val / 128, by omega⟩ ⟨c.val % 128, by omega⟩
    else R.dv ⟨c.val / 128, by omega⟩ ⟨c.val % 128 - 64, by omega⟩
def dckvn (k : Fin 128) : EReal := ∑ c, dkvf R c * W.wukv k c
def dckv (k : Fin 128) : EReal := nb l128 (ckv W R) (fun k => dckvn W R k * W.kvg k) k
def dkr (l : Fin 32) : EReal := unrope R (fun k => ∑ h, R.dk h ⟨64 + k.val, by omega⟩) l
def du (e : Fin 512) : EReal := (W.cw 0 e * R.dyn e + W.cw 1 e * R.dy e) + W.cw 2 e * R.dyp e
def dz (c : Fin 1952) : EReal :=
  if h0 : c.val < 256 then dcq W R ⟨c.val, h0⟩
  else if h1 : c.val < 384 then dckv W R ⟨c.val - 256, by omega⟩
  else if h2 : c.val < 416 then dkr R ⟨c.val - 384, by omega⟩
  else if h3 : c.val < 928 then R.dgb ⟨c.val - 416, by omega⟩
  else if h4 : c.val < 1440 then du W R ⟨c.val - 928, by omega⟩ * xi W R ⟨c.val - 928, by omega⟩
  else du W R ⟨c.val - 1440, by omega⟩ * gc W R ⟨c.val - 1440, by omega⟩
def dh1 (j : Fin 1024) : EReal := ∑ c, dz W R c * W.win j c
def gx (j : Fin 1024) : EReal := R.dx1 j + nb l1024 R.x (fun j => dh1 W R j * (lit 0x3F800000#32 + W.sc j)) j
end

/-! ## The same over padded lanes

The kernel holds a head's 96 or 64 lanes in 128, the rotary columns of the projections in 128, and the rotation as two lane
rotations under tables that are zero where nothing is to be added. -/

/-- Two lane rotations, by eight either way. -/
def turn (cos sa sb g : Fin 128 → EReal) (l : Fin 128) : EReal :=
  (g l * cos l + g ⟨(l.val + 128 - 120) % 128, Nat.mod_lt _ (by omega)⟩ * sa ⟨(l.val + 128 - 120) % 128, Nat.mod_lt _ (by omega)⟩)
    + g ⟨(l.val + 128 - 8) % 128, Nat.mod_lt _ (by omega)⟩ * sb ⟨(l.val + 128 - 8) % 128, Nat.mod_lt _ (by omega)⟩

/-- A row and the shared arrays as the kernel holds them. -/
structure Pad where
  x : Fin 1024 → EReal
  sc : Fin 1024 → EReal
  z : Fin 2048 → EReal
  cos : Fin 128 → EReal
  sa : Fin 128 → EReal
  sb : Fin 128 → EReal
  dq : Fin 8 → Fin 128 → EReal
  dk : Fin 8 → Fin 128 → EReal
  dv : Fin 8 → Fin 128 → EReal
  dgb : Fin 512 → EReal
  dy : Fin 512 → EReal
  dyp : Fin 512 → EReal
  dyn : Fin 512 → EReal
  dx1 : Fin 1024 → EReal
  win : Fin 1024 → Fin 2048 → EReal
  wuq : Fin 256 → Fin 1024 → EReal
  wukv : Fin 128 → Fin 2048 → EReal
  qg : Fin 256 → EReal
  kvg : Fin 128 → EReal
  cw : Fin 3 → Fin 512 → EReal

namespace Pad
variable (K : Pad)

def unrope (g : Fin 128 → EReal) (l : Fin 128) : EReal := turn K.cos K.sa K.sb g l
def cq (k : Fin 256) : EReal := K.z ⟨k.val, by omega⟩
def ckv (k : Fin 128) : EReal := K.z ⟨256 + k.val, by omega⟩
def dqf (c : Fin 1024) : EReal := K.unrope (K.dq ⟨c.val / 128, by omega⟩) ⟨c.val % 128, by omega⟩
def dcqn (k : Fin 256) : EReal := ∑ c, K.dqf c * K.wuq k c
def dcq (k : Fin 256) : EReal := nb l256 K.cq (fun k => K.dcqn k * K.qg k) k
def dkvf (c : Fin 2048) : EReal :=
  if h : c.val < 1024 then K.dk ⟨c.val / 128, by omega⟩ ⟨c.val % 128, by omega⟩
    else K.dv ⟨(c.val - 1024) / 128, by omega⟩ ⟨c.val % 128, by omega⟩
def dckvn (k : Fin 128) : EReal := ∑ c, K.dkvf c * K.wukv k c
def dckv (k : Fin 128) : EReal := nb l128 K.ckv (fun k => K.dckvn k * K.kvg k) k
def dkr (l : Fin 128) : EReal := K.unrope (fun l => ∑ h, K.dk h l) l
def du (e : Fin 512) : EReal := (K.cw 0 e * K.dyn e + K.cw 1 e * K.dy e) + K.cw 2 e * K.dyp e
def dz (c : Fin 2048) : EReal :=
  if h0 : c.val < 256 then K.dcq ⟨c.val, h0⟩
  else if h1 : c.val < 384 then K.dckv ⟨c.val - 256, by omega⟩
  else if h2 : c.val < 512 then K.dkr ⟨c.val - 384, by omega⟩
  else if h3 : c.val < 1024 then K.dgb ⟨c.val - 512, by omega⟩
  else if h4 : c.val < 1536 then K.du ⟨c.val - 1024, by omega⟩ * K.z ⟨c.val + 512, by omega⟩
  else K.du ⟨c.val - 1536, by omega⟩ * K.z ⟨c.val - 512, by omega⟩
def dh1 (j : Fin 1024) : EReal := ∑ c, K.dz c * K.win j c
def gx (j : Fin 1024) : EReal := K.dx1 j + nb l1024 K.x (fun j => K.dh1 j * (lit 0x3F800000#32 + K.sc j)) j
end Pad

end Cert.InprojSpec

end
-- ==== Proof.Inproj.Pays.lean ====
/-
  What the vector operations behind the input's gradient compute, at one index of their result, over the extended reals: casts do
  nothing, a product of matrices is a sum, a lane rotation, a shape cast or a broadcast reads another index.
-/
module

public import proofs.«01_k».proof.Proof.Gen.InprojIdeal.Skeleton
public import proofs.«01_k».proof.Proof.Inproj.Spec
public import Idealize.ShloMosaic.Lib.Pipeline.ValueKit

@[expose] public section

set_option maxRecDepth 16384

noncomputable section

namespace Cert.InprojIdeal.Ops

open Idealize.ShloMosaic Cert.InprojIdeal Cert.InprojIdeal.Gen
open Cert.InprojSpec (lit l1024 l256 l128 turn)

/-- Tiles of the body: 256 rows of one head's lanes, of a rank's columns, of the convolution's channels, of the model's columns; one column, one row. -/
abbrev H (η : FTy) := FVec Ideal S256x128 η
abbrev Q := FVec Ideal S256x256 .f32
abbrev U := FVec Ideal S256x512 .f32
abbrev Z := FVec Ideal S256x2048 .f32
abbrev X := FVec Ideal S256x1024 .f32
abbrev C := FVec Ideal S256x1 .f32
abbrev L := FVec Ideal S1x512 .f32
abbrev Hd := Vec Ideal S1x256x128 .f32

/-- Whether a row is a latent one, and whether it is the first or the last of a block or of the sequence, is read off numbers. -/
theorem lat_eq (n : ℕ) (h : n < 16) : Scalar.cmpi CmpIPredicate.slt (BitVec.ofNat 32 n) 16#32 = 1#1 := by
  interval_cases n <;> rfl
theorem sel_one (a b : EReal) : Scalar.select (1#1) a b = a := rfl
theorem sgt_eq (n : ℕ) (h : n < 16) (a b : EReal) :
    Scalar.select (Scalar.andi (Scalar.cmpi CmpIPredicate.sgt (BitVec.ofNat 32 n) 0#32) 1#1) a b = if 0 < n then a else b := by
  revert a b; interval_cases n <;> intro a b <;> rfl
theorem slt_eq (n : ℕ) (h : n < 16) (a b : EReal) :
    Scalar.select (Scalar.cmpi CmpIPredicate.slt (BitVec.ofNat 32 n) 15#32) a b = if n < 15 then a else b := by
  revert a b; interval_cases n <;> intro a b <;> rfl
theorem eq_eq (n k : ℕ) (h : n < 256) (hk : k < 256) (a b : EReal) :
    Scalar.select (IntOp.cmpi CmpIPredicate.eq (BitVec.ofNat 32 n) (BitVec.ofNat 32 k)) a b = if n = k then a else b := by
  have e : (BitVec.ofNat 32 n = BitVec.ofNat 32 k) ↔ n = k := by
    rw [← BitVec.toNat_inj, BitVec.toNat_ofNat, BitVec.toNat_ofNat]; omega
  by_cases q : n = k
  · subst q; rw [if_pos rfl]; simp [IntOp.cmpi, Scalar.select]
  · have f : (BitVec.ofNat 32 n == BitVec.ofNat 32 k) = false := beq_eq_false_iff_ne.mpr fun h => q (e.mp h)
    rw [if_neg q]; simp [IntOp.cmpi, Scalar.select, f]

/-! ## The input's norm -/

section
variable (c : grid0.Coords) (hc : (c 0).val < 16) (x ctx : Vec Ideal S256x1024 .f32) (i : Fin 256) (j : Fin 1024)
include hc
theorem pay10_at : k0_pay10 (F := Ideal) c x ctx (ix2 i j) = x (ix2 i j) := by
  unfold k0_pay10; dsimp only; rw [lat_eq _ hc]; pointwise
theorem pay11_at : k0_pay11 (F := Ideal) c x ctx (ix2 i 0) = InprojSpec.rs l1024 (fun j => x (ix2 i j)) := by
  have h : k0_pay11 (F := Ideal) c x ctx (ix2 i 0) = InprojSpec.rs l1024 (fun j => k0_pay10 (F := Ideal) c x ctx (ix2 i j)) := by
    unfold k0_pay11 InprojSpec.rs; pointwise
  rw [h]; exact congrArg _ (funext fun j => pay10_at c hc x ctx i j)
theorem pay12_at : k0_pay12 (F := Ideal) c x ctx (ix2 i j) = InprojSpec.xn l1024 (fun j => x (ix2 i j)) j := by
  have h : k0_pay12 (F := Ideal) c x ctx (ix2 i j) = k0_pay10 (F := Ideal) c x ctx (ix2 i j) * k0_pay11 (F := Ideal) c x ctx (ix2 i 0) := by
    unfold k0_pay12; pointwise
  rw [h, pay10_at c hc, pay11_at c hc]; rfl
end
theorem pay13_at (v : Vec Ideal S1x1x1024 .f32) (j : Fin 1024) : k0_pay13 (F := Ideal) v (ix2 0 j) = v (ix3 0 0 j) := by pointwise [k0_pay13]
theorem pay15_at (v : Vec Ideal S256x2048 .f32) : k0_pay15 (F := Ideal) v = v := by unfold k0_pay15; exact shapeCast_self _ _
theorem pay16_at (v : Vec Ideal S256x128 .f32) : k0_pay16 (F := Ideal) v = v := by unfold k0_pay16; exact shapeCast_self _ _
theorem pay17_at (v : Vec Ideal S256x128 .f32) : k0_pay17 (F := Ideal) v = v := by unfold k0_pay17; exact shapeCast_self _ _
theorem pay18_at (v : Vec Ideal S256x128 .f32) : k0_pay18 (F := Ideal) v = v := by unfold k0_pay18; exact shapeCast_self _ _
theorem pay19_at (v : Vec Ideal S1x256 .f32) : k0_pay19 (F := Ideal) v = v := by unfold k0_pay19; exact shapeCast_self _ _
theorem pay20_at (v : Vec Ideal S1x128 .f32) : k0_pay20 (F := Ideal) v = v := by unfold k0_pay20; exact shapeCast_self _ _

/-! ## The queries' cotangent -/

section
variable (cos sa sb : Vec Ideal S256x128 .f32) (g : Hd) (i : Fin 256) (l : Fin 128)
/-- A head's cotangent with its rotation undone. -/
abbrev turned (cos sa sb : Vec Ideal S256x128 .f32) (g : Hd) (i : Fin 256) (l : Fin 128) : EReal :=
  turn (fun l => cos (ix2 i l)) (fun l => sa (ix2 i l)) (fun l => sb (ix2 i l)) (fun l => g (ix3 0 i l)) l
theorem pay25_at : k0_pay25 (F := Ideal) 1#1 cos sa sb g (ix2 i l) = turned cos sa sb g i l := by
  unfold k0_pay25 turned turn; rw [pay17_at, pay18_at]; pointwise
theorem pay26_at : k0_pay26 (F := Ideal) 1#1 cos sa sb g (ix2 i l) = turned cos sa sb g i l := by
  unfold k0_pay26 turned turn; pointwise
theorem pay27_at : k0_pay27 (F := Ideal) 1#1 cos sa sb g (ix2 i l) = turned cos sa sb g i l := by
  unfold k0_pay27 turned turn; pointwise
theorem pay28_at : k0_pay28 (F := Ideal) 1#1 cos sa sb g (ix2 i l) = turned cos sa sb g i l := by
  unfold k0_pay28 turned turn; pointwise
theorem pay33_at : k0_pay33 (F := Ideal) 1#1 cos sa sb g (ix2 i l) = turned cos sa sb g i l := by
  unfold k0_pay33 turned turn; pointwise
theorem pay34_at : k0_pay34 (F := Ideal) 1#1 cos sa sb g (ix2 i l) = turned cos sa sb g i l := by
  unfold k0_pay34 turned turn; pointwise
theorem pay35_at : k0_pay35 (F := Ideal) 1#1 cos sa sb g (ix2 i l) = turned cos sa sb g i l := by
  unfold k0_pay35 turned turn; pointwise
theorem pay32_at : k0_pay32 (F := Ideal) sb (k0_pay29 1#1 g) (k0_pay30 1#1 cos g) (k0_pay31 1#1 sa g) 120#32 (ix2 i l) = turned cos sa sb g i l := by
  unfold k0_pay32 k0_pay30 k0_pay31 k0_pay29 turned turn; pointwise
end

section
variable (z : Z) (i : Fin 256) (k : Fin 256)
abbrev cqOf (z : Z) (i : Fin 256) (k : Fin 256) : EReal := z (ix2 i ⟨k.val, by omega⟩)
theorem pay22_at : k0_pay22 (F := Ideal) z (ix2 i k) = InprojSpec.xn l256 (cqOf z i) k := by
  unfold k0_pay22 k0_pay21 InprojSpec.xn InprojSpec.rs; pointwise
theorem pay23_at : k0_pay23 (F := Ideal) z (ix2 i 0) = InprojSpec.rs l256 (cqOf z i) := by
  unfold k0_pay23 k0_pay21 InprojSpec.rs; pointwise
end

section
variable (a3 a4 a5 a6 a7 : H .f32) (a0 a1 a2 : H .bf16) (w : Vec Ideal S256x1024 .bf16) (g : FVec Ideal S1x256 .f32) (cn : Q) (r : C)
variable (i : Fin 256) (k : Fin 256)
/-- The eight heads side by side. -/
def eight (a0 a1 a2 a3 a4 a5 a6 a7 : Fin 128 → EReal) (c : Fin 1024) : EReal :=
  ![a0, a1, a2, a3, a4, a5, a6, a7] ⟨c.val / 128, by omega⟩ ⟨c.val % 128, by omega⟩
section
variable (a0 a1 a2 a3 a4 a5 a6 a7 : Fin 128 → EReal) (c : Fin 1024) (l : Fin 128)
theorem eight0 (h : c.val = 0 + l.val) : a0 l = eight a0 a1 a2 a3 a4 a5 a6 a7 c := by
  unfold eight; rw [show (⟨c.val / 128, by omega⟩ : Fin 8) = 0 from Fin.ext (by change c.val / 128 = 0; omega), show (⟨c.val % 128, by omega⟩ : Fin 128) = l from Fin.ext (by dsimp only; omega)]; rfl
theorem eight1 (h : c.val = 128 + l.val) : a1 l = eight a0 a1 a2 a3 a4 a5 a6 a7 c := by
  unfold eight; rw [show (⟨c.val / 128, by omega⟩ : Fin 8) = 1 from Fin.ext (by change c.val / 128 = 1; omega), show (⟨c.val % 128, by omega⟩ : Fin 128) = l from Fin.ext (by dsimp only; omega)]; rfl
theorem eight2 (h : c.val = 256 + l.val) : a2 l = eight a0 a1 a2 a3 a4 a5 a6 a7 c := by
  unfold eight; rw [show (⟨c.val / 128, by omega⟩ : Fin 8) = 2 from Fin.ext (by change c.val / 128 = 2; omega), show (⟨c.val % 128, by omega⟩ : Fin 128) = l from Fin.ext (by dsimp only; omega)]; rfl
theorem eight3 (h : c.val = 384 + l.val) : a3 l = eight a0 a1 a2 a3 a4 a5 a6 a7 c := by
  unfold eight; rw [show (⟨c.val / 128, by omega⟩ : Fin 8) = 3 from Fin.ext (by change c.val / 128 = 3; omega), show (⟨c.val % 128, by omega⟩ : Fin 128) = l from Fin.ext (by dsimp only; omega)]; rfl
theorem eight4 (h : c.val = 512 + l.val) : a4 l = eight a0 a1 a2 a3 a4 a5 a6 a7 c := by
  unfold eight; rw [show (⟨c.val / 128, by omega⟩ : Fin 8) = 4 from Fin.ext (by change c.val / 128 = 4; omega), show (⟨c.val % 128, by omega⟩ : Fin 128) = l from Fin.ext (by dsimp only; omega)]; rfl
theorem eight5 (h : c.val = 640 + l.val) : a5 l = eight a0 a1 a2 a3 a4 a5 a6 a7 c := by
  unfold eight; rw [show (⟨c.val / 128, by omega⟩ : Fin 8) = 5 from Fin.ext (by change c.val / 128 = 5; omega), show (⟨c.val % 128, by omega⟩ : Fin 128) = l from Fin.ext (by dsimp only; omega)]; rfl
theorem eight6 (h : c.val = 768 + l.val) : a6 l = eight a0 a1 a2 a3 a4 a5 a6 a7 c := by
  unfold eight; rw [show (⟨c.val / 128, by omega⟩ : Fin 8) = 6 from Fin.ext (by change c.val / 128 = 6; omega), show (⟨c.val % 128, by omega⟩ : Fin 128) = l from Fin.ext (by dsimp only; omega)]; rfl
theorem eight7 (h : c.val = 896 + l.val) : a7 l = eight a0 a1 a2 a3 a4 a5 a6 a7 c := by
  unfold eight; rw [show (⟨c.val / 128, by omega⟩ : Fin 8) = 7 from Fin.ext (by change c.val / 128 = 7; omega), show (⟨c.val % 128, by omega⟩ : Fin 128) = l from Fin.ext (by dsimp only; omega)]; rfl
end
theorem pay39_at (c : Fin 1024) : k0_pay39 (F := Ideal) a3 a4 a5 a6 a7 a0 a1 a2 (ix2 i c)
    = eight (fun l => a0 (ix2 i l)) (fun l => a1 (ix2 i l)) (fun l => a2 (ix2 i l)) (fun l => a3 (ix2 i l)) (fun l => a4 (ix2 i l))
      (fun l => a5 (ix2 i l)) (fun l => a6 (ix2 i l)) (fun l => a7 (ix2 i l)) c := by
  unfold k0_pay39; pointwise
  by_cases q0 : c.val < 128
  · rw [dif_pos q0]; exact (eight0 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val, q0⟩ (by dsimp only; omega))
  rw [dif_neg q0]
  by_cases q1 : c.val - 128 < 128
  · rw [dif_pos q1]; exact (eight1 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val - 128, q1⟩ (by dsimp only; omega))
  rw [dif_neg q1]
  by_cases q2 : c.val - 128 - 128 < 128
  · rw [dif_pos q2]; exact (eight2 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val - 128 - 128, q2⟩ (by dsimp only; omega))
  rw [dif_neg q2]
  by_cases q3 : c.val - 128 - 128 - 128 < 128
  · rw [dif_pos q3]; exact (eight3 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val - 128 - 128 - 128, q3⟩ (by dsimp only; omega))
  rw [dif_neg q3]
  by_cases q4 : c.val - 128 - 128 - 128 - 128 < 128
  · rw [dif_pos q4]; exact (eight4 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val - 128 - 128 - 128 - 128, q4⟩ (by dsimp only; omega))
  rw [dif_neg q4]
  by_cases q5 : c.val - 128 - 128 - 128 - 128 - 128 < 128
  · rw [dif_pos q5]; exact (eight5 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val - 128 - 128 - 128 - 128 - 128, q5⟩ (by dsimp only; omega))
  rw [dif_neg q5]
  by_cases q6 : c.val - 128 - 128 - 128 - 128 - 128 - 128 < 128
  · rw [dif_pos q6]; exact (eight6 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val - 128 - 128 - 128 - 128 - 128 - 128, q6⟩ (by dsimp only; omega))
  rw [dif_neg q6]
  exact (eight7 (fun l => a0 (ix2 i l)) (fun l => a1 (ix2 i l)) (fun l => a2 (ix2 i l)) (fun l => a3 (ix2 i l)) (fun l => a4 (ix2 i l)) (fun l => a5 (ix2 i l)) (fun l => a6 (ix2 i l)) (fun l => a7 (ix2 i l)) c ⟨c.val - 128 - 128 - 128 - 128 - 128 - 128 - 128, (by omega)⟩ (by dsimp only; omega))
theorem pay40_at : k0_pay40 (F := Ideal) a3 a4 a5 a6 a7 a0 a1 a2 w (ix2 i k)
    = ∑ c, k0_pay39 (F := Ideal) a3 a4 a5 a6 a7 a0 a1 a2 (ix2 i c) * w (ix2 k c) := by
  unfold k0_pay40; pointwise
theorem pay43_at : k0_pay43 (F := Ideal) g cn r a3 a4 a5 a6 a7 a0 a1 a2 w (ix2 i k)
    = r (ix2 i 0) * (k0_pay40 (F := Ideal) a3 a4 a5 a6 a7 a0 a1 a2 w (ix2 i k) * g (ix2 0 k)
      - cn (ix2 i k) * Ideal.div (∑ k, k0_pay40 (F := Ideal) a3 a4 a5 a6 a7 a0 a1 a2 w (ix2 i k) * g (ix2 0 k) * cn (ix2 i k)) l256) := by
  unfold k0_pay43; pointwise
end

end Cert.InprojIdeal.Ops

end
-- ==== Proof.Inproj.Pays2.lean ====
/-
  The rest of the operations behind the input's gradient: the keys' and values' cotangents, the convolution's, the product with the
  projection's weights and the norm's gradient.
-/
module

public import proofs.«01_k».proof.Proof.Inproj.Pays

@[expose] public section

set_option maxRecDepth 16384

noncomputable section

namespace Cert.InprojIdeal.Ops

open Idealize.ShloMosaic Cert.InprojIdeal Cert.InprojIdeal.Gen
open Cert.InprojSpec (lit l1024 l256 l128 turn)

/-! ## The keys' and values' cotangents -/

section
variable (z : Z) (i : Fin 256) (k : Fin 128)
abbrev ckvOf (z : Z) (i : Fin 256) (k : Fin 128) : EReal := z (ix2 i ⟨256 + k.val, by omega⟩)
theorem pay46_at : k0_pay46 (F := Ideal) (k0_pay45 z) (lit 0x358637BD#32) (ix2 i 0) = InprojSpec.rs l128 (ckvOf z i) := by
  unfold k0_pay46 k0_pay45 k0_pay44 InprojSpec.rs; pointwise
theorem pay47_at : k0_pay47 (F := Ideal) (k0_pay44 z) (k0_pay45 z) (lit 0x358637BD#32) (ix2 i k) = InprojSpec.xn l128 (ckvOf z i) k := by
  have h : k0_pay47 (F := Ideal) (k0_pay44 z) (k0_pay45 z) (lit 0x358637BD#32) (ix2 i k)
      = ckvOf z i k * k0_pay46 (F := Ideal) (k0_pay45 z) (lit 0x358637BD#32) (ix2 i 0) := by
    unfold k0_pay47 k0_pay44; pointwise
  rw [h, pay46_at]; rfl
end

section
variable (g : Hd) (i : Fin 256) (l : Fin 128)
theorem pay49_at : k0_pay49 (F := Ideal) g (ix2 i l) = g (ix3 0 i l) := by pointwise [k0_pay49]
theorem pay50_at : k0_pay50 (F := Ideal) g (ix2 i l) = g (ix3 0 i l) := by pointwise [k0_pay50]
theorem pay51_at : k0_pay51 (F := Ideal) g (ix2 i l) = g (ix3 0 i l) := by pointwise [k0_pay51]
theorem pay52_at : k0_pay52 (F := Ideal) g (ix2 i l) = g (ix3 0 i l) := by pointwise [k0_pay52]
theorem pay53_at : k0_pay53 (F := Ideal) g (ix2 i l) = g (ix3 0 i l) := by pointwise [k0_pay53]
theorem pay54_at : k0_pay54 (F := Ideal) g (ix2 i l) = g (ix3 0 i l) := by pointwise [k0_pay54]
theorem pay55_at : k0_pay55 (F := Ideal) g (ix2 i l) = g (ix3 0 i l) := by pointwise [k0_pay55]
theorem pay56_at : k0_pay56 (F := Ideal) g (ix2 i l) = g (ix3 0 i l) := by pointwise [k0_pay56]
theorem pay58_at : k0_pay58 (F := Ideal) g (ix2 i l) = g (ix3 0 i l) := by pointwise [k0_pay58]
end

section
variable (g0 g1 g2 g3 g4 g5 g6 g7 : Hd) (cos sa sb : H .f32) (i : Fin 256) (l : Fin 128)
/-- The keys' rotary lanes are one for all heads, so their cotangents add up. -/
theorem pay57_at : k0_pay57 (F := Ideal) g0 g1 g2 g3 g4 g5 g6 g7 (ix2 i l)
    = ((((((g0 (ix3 0 i l) + g1 (ix3 0 i l)) + g2 (ix3 0 i l)) + g3 (ix3 0 i l)) + g4 (ix3 0 i l)) + g5 (ix3 0 i l)) + g6 (ix3 0 i l))
      + g7 (ix3 0 i l) := by
  unfold k0_pay57; pointwise [k0_pay49, k0_pay50, k0_pay51, k0_pay52, k0_pay53, k0_pay54, k0_pay55, k0_pay56]
theorem pay64_at (v : H .f32) : k0_pay64 (F := Ideal) cos sa sb v (ix2 i l)
    = turn (fun l => cos (ix2 i l)) (fun l => sa (ix2 i l)) (fun l => sb (ix2 i l)) (fun l => v (ix2 i l)) l := by
  unfold k0_pay64 turn; pointwise
end

section
variable (a0 a1 a2 a3 a4 a5 a6 a7 b0 : H .f32) (b1 b2 b3 b4 b5 b6 b7 : Hd) (w : Vec Ideal S128x2048 .bf16) (i : Fin 256)
theorem pay60_at (k : Fin 128) : k0_pay60 (F := Ideal) a0 a1 a2 a3 a4 a5 a6 a7 b0 b1 b2 b3 b4 b5 b6 b7 w (ix2 i k)
    = ∑ c, k0_pay59 (F := Ideal) a0 a1 a2 a3 a4 a5 a6 a7 b0 b1 b2 b3 b4 b5 b6 b7 (ix2 i c) * w (ix2 k c) := by
  unfold k0_pay60; pointwise
theorem pay63_at (g : FVec Ideal S1x128 .f32) (r : C) (cn d : H .f32) (k : Fin 128) : k0_pay63 (F := Ideal) g r cn d (ix2 i k)
    = r (ix2 i 0) * (d (ix2 i k) * g (ix2 0 k) - cn (ix2 i k) * Ideal.div (∑ k, d (ix2 i k) * g (ix2 0 k) * cn (ix2 i k)) l128) := by
  unfold k0_pay63; pointwise
theorem pay59_at (G : Fin 16 → Fin 128 → EReal) (e0 : ∀ l, a0 (ix2 i l) = G 0 l) (e1 : ∀ l, a1 (ix2 i l) = G 1 l) (e2 : ∀ l, a2 (ix2 i l) = G 2 l) (e3 : ∀ l, a3 (ix2 i l) = G 3 l) (e4 : ∀ l, a4 (ix2 i l) = G 4 l) (e5 : ∀ l, a5 (ix2 i l) = G 5 l) (e6 : ∀ l, a6 (ix2 i l) = G 6 l) (e7 : ∀ l, a7 (ix2 i l) = G 7 l) (e8 : ∀ l, b0 (ix2 i l) = G 8 l) (e9 : ∀ l, b1 (ix3 0 i l) = G 9 l) (e10 : ∀ l, b2 (ix3 0 i l) = G 10 l) (e11 : ∀ l, b3 (ix3 0 i l) = G 11 l) (e12 : ∀ l, b4 (ix3 0 i l) = G 12 l) (e13 : ∀ l, b5 (ix3 0 i l) = G 13 l) (e14 : ∀ l, b6 (ix3 0 i l) = G 14 l) (e15 : ∀ l, b7 (ix3 0 i l) = G 15 l) (c : Fin 2048) :
    k0_pay59 (F := Ideal) a0 a1 a2 a3 a4 a5 a6 a7 b0 b1 b2 b3 b4 b5 b6 b7 (ix2 i c) = G ⟨c.val / 128, by omega⟩ ⟨c.val % 128, by omega⟩ := by
  unfold k0_pay59
  refine (concatenate_ofFn_apply (t := S256x2048) (s₁ := S256x128) (1 : Fin 2) (N := 16) (![truncf .bf16 a0 bitsLt_bf16_f32, truncf .bf16 a1 bitsLt_bf16_f32, truncf .bf16 a2 bitsLt_bf16_f32, truncf .bf16 a3 bitsLt_bf16_f32, truncf .bf16 a4 bitsLt_bf16_f32, truncf .bf16 a5 bitsLt_bf16_f32, truncf .bf16 a6 bitsLt_bf16_f32, truncf .bf16 a7 bitsLt_bf16_f32, truncf .bf16 b0 bitsLt_bf16_f32, truncf .bf16 (shapeCast S256x128 b1 shapeCasts_S1x256x128_S256x128) bitsLt_bf16_f32, truncf .bf16 (shapeCast S256x128 b2 shapeCasts_S1x256x128_S256x128) bitsLt_bf16_f32, truncf .bf16 (shapeCast S256x128 b3 shapeCasts_S1x256x128_S256x128) bitsLt_bf16_f32, truncf .bf16 (shapeCast S256x128 b4 shapeCasts_S1x256x128_S256x128) bitsLt_bf16_f32, truncf .bf16 (shapeCast S256x128 b5 shapeCasts_S1x256x128_S256x128) bitsLt_bf16_f32, truncf .bf16 (shapeCast S256x128 b6 shapeCasts_S1x256x128_S256x128) bitsLt_bf16_f32, truncf .bf16 (shapeCast S256x128 b7 shapeCasts_S1x256x128_S256x128) bitsLt_bf16_f32] : Fin 16 → FVec Ideal S256x128 .bf16) _ rfl 128 rfl (ix2 i c) ⟨c.val / 128, by omega⟩ rfl
    (ix2 i ⟨c.val % 128, by omega⟩) rfl ?_).trans ?_
  · intro b hb
    match b with
    | ⟨0, _⟩ => rfl
    | ⟨1, _⟩ => exact absurd rfl hb
  generalize (⟨c.val % 128, by omega⟩ : Fin 128) = l
  generalize (⟨c.val / 128, by omega⟩ : Fin 16) = n
  fin_cases n
  · exact e0 _
  · exact e1 _
  · exact e2 _
  · exact e3 _
  · exact e4 _
  · exact e5 _
  · exact e6 _
  · exact e7 _
  · exact e8 _
  · exact (pay58_at b1 i _).trans (e9 _)
  · exact (pay58_at b2 i _).trans (e10 _)
  · exact (pay58_at b3 i _).trans (e11 _)
  · exact (pay58_at b4 i _).trans (e12 _)
  · exact (pay58_at b5 i _).trans (e13 _)
  · exact (pay58_at b6 i _).trans (e14 _)
  · exact (pay58_at b7 i _).trans (e15 _)
end

/-! ## The convolution's cotangent -/

section
variable (z : Z) (d : U) (p n : L) (c0 c1 c2 : Vec Ideal S1x512 .f32) (i : Fin 256) (e : Fin 512)
theorem pay65_at : k0_pay65 (F := Ideal) z (ix2 i e) = z (ix2 i ⟨1024 + e.val, by omega⟩) := by pointwise [k0_pay65]
theorem pay66_at : k0_pay66 (F := Ideal) z (ix2 i e) = z (ix2 i ⟨1536 + e.val, by omega⟩) := by pointwise [k0_pay66]
theorem pay71_at (v : Vec Ideal S256x512 .f32) : k0_pay71 (F := Ideal) 1#1 v (ix2 i e) = v (ix2 i e) := by unfold k0_pay71; pointwise
theorem pay77_at (v : Vec Ideal S256x512 .f32) : k0_pay77 (F := Ideal) 1#1 v (ix2 i e) = v (ix2 i e) := by unfold k0_pay77; pointwise
theorem pay72_at (t : ℕ) (h : t < 16) (v : Vec Ideal S1x512 .f32) :
    k0_pay72 (F := Ideal) (BitVec.ofNat 32 t) 1#1 v (ix2 0 e) = if 0 < t then v (ix2 0 e) else 0 := by
  rw [← sgt_eq _ h]; pointwise [k0_pay72]
theorem pay73_at (t : ℕ) (h : t < 16) (v : Vec Ideal S1x512 .f32) :
    k0_pay73 (F := Ideal) (BitVec.ofNat 32 t) v (ix2 0 e) = if t < 15 then v (ix2 0 e) else 0 := by
  rw [← slt_eq _ h]; pointwise [k0_pay73]
theorem pay74_at : k0_pay74 (F := Ideal) d p n c0 c1 c2 (ix2 i e)
      = (c0 (ix2 0 e) * (if i.val = 255 then n (ix2 0 e) else d (ix2 ⟨(i.val + 256 - 255) % 256, Nat.mod_lt _ (by omega)⟩ e))
        + c1 (ix2 0 e) * d (ix2 i e))
        + c2 (ix2 0 e) * (if i.val = 0 then p (ix2 0 e) else d (ix2 ⟨(i.val + 256 - 1) % 256, Nat.mod_lt _ (by omega)⟩ e)) := by
  rw [← eq_eq i.val 0 i.isLt (by omega), ← eq_eq i.val 255 i.isLt (by omega)]
  pointwise [k0_pay74]
theorem pay75_at (v : U) : k0_pay75 (F := Ideal) v d p n c0 c1 c2 (ix2 i e) = k0_pay74 (F := Ideal) d p n c0 c1 c2 (ix2 i e) * v (ix2 i e) := by
  unfold k0_pay75; pointwise
theorem pay76_at (v : U) : k0_pay76 (F := Ideal) v d p n c0 c1 c2 (ix2 i e) = k0_pay74 (F := Ideal) d p n c0 c1 c2 (ix2 i e) * v (ix2 i e) := by
  unfold k0_pay76; pointwise
end

/-! ## The columns together, and the gradient -/

section
variable (q : Q) (kv kr : H .f32) (g xi gc : U) (w : Vec Ideal S1024x2048 .bf16) (i : Fin 256)
theorem pay81_at (c : Fin 2048) : k0_pay81 (F := Ideal) q kv kr xi gc g (ix2 i c)
    = if h0 : c.val < 256 then q (ix2 i ⟨c.val, h0⟩)
      else if h1 : c.val < 384 then kv (ix2 i ⟨c.val - 256, by omega⟩)
      else if h2 : c.val < 512 then kr (ix2 i ⟨c.val - 384, by omega⟩)
      else if h3 : c.val < 1024 then g (ix2 i ⟨c.val - 512, by omega⟩)
      else if h4 : c.val < 1536 then xi (ix2 i ⟨c.val - 1024, by omega⟩)
      else gc (ix2 i ⟨c.val - 1536, by omega⟩) := by
  unfold k0_pay81; pointwise
  by_cases q0 : c.val < 256
  · rw [dif_pos q0]; rw [dif_pos (by omega : c.val < 256)]
  rw [dif_neg q0]
  by_cases q1 : c.val - 256 < 128
  · rw [dif_pos q1]; rw [dif_neg (by omega : ¬ c.val < 256)]; rw [dif_pos (by omega : c.val < 384)]
  rw [dif_neg q1]
  by_cases q2 : c.val - 256 - 128 < 128
  · rw [dif_pos q2]; rw [dif_neg (by omega : ¬ c.val < 256)]; rw [dif_neg (by omega : ¬ c.val < 384)]; rw [dif_pos (by omega : c.val < 512)]; refine congrArg (fun l => kr (ix2 i l)) (Fin.ext ?_); dsimp only; omega
  rw [dif_neg q2]
  by_cases q3 : c.val - 256 - 128 - 128 < 512
  · rw [dif_pos q3]; rw [dif_neg (by omega : ¬ c.val < 256)]; rw [dif_neg (by omega : ¬ c.val < 384)]; rw [dif_neg (by omega : ¬ c.val < 512)]; rw [dif_pos (by omega : c.val < 1024)]; refine congrArg (fun l => g (ix2 i l)) (Fin.ext ?_); dsimp only; omega
  rw [dif_neg q3]
  by_cases q4 : c.val - 256 - 128 - 128 - 512 < 512
  · rw [dif_pos q4]; rw [dif_neg (by omega : ¬ c.val < 256)]; rw [dif_neg (by omega : ¬ c.val < 384)]; rw [dif_neg (by omega : ¬ c.val < 512)]; rw [dif_neg (by omega : ¬ c.val < 1024)]; rw [dif_pos (by omega : c.val < 1536)]; refine congrArg (fun l => xi (ix2 i l)) (Fin.ext ?_); dsimp only; omega
  rw [dif_neg q4]
  rw [dif_neg (by omega : ¬ c.val < 256)]; rw [dif_neg (by omega : ¬ c.val < 384)]; rw [dif_neg (by omega : ¬ c.val < 512)]; rw [dif_neg (by omega : ¬ c.val < 1024)]; rw [dif_neg (by omega : ¬ c.val < 1536)]; refine congrArg (fun l => gc (ix2 i l)) (Fin.ext ?_); dsimp only; omega
theorem pay82_at (j : Fin 1024) : k0_pay82 (F := Ideal) q kv kr xi gc g w (ix2 i j)
    = ∑ c, k0_pay81 (F := Ideal) q kv kr xi gc g (ix2 i c) * w (ix2 j c) := by
  unfold k0_pay82; pointwise
theorem pay2_at (r : C) (xn : X) (sc : FVec Ideal S1x1024 .f32) (d : X) (dx : Vec Ideal S256x1024 .f32) (j : Fin 1024) :
    k0_pay2 (F := Ideal) r xn sc d dx (ix2 i j) = dx (ix2 i j) + r (ix2 i 0) * (d (ix2 i j) * (lit 0x3F800000#32 + sc (ix2 0 j))
      - xn (ix2 i j) * Ideal.div (∑ j, d (ix2 i j) * (lit 0x3F800000#32 + sc (ix2 0 j)) * xn (ix2 i j)) l1024) := by
  unfold k0_pay2; pointwise
end

end Cert.InprojIdeal.Ops

end
-- ==== Proof.Inproj.Blocks.lean ====
/-
  The values of the body at one block of 256 latent rows, each named once.
-/
module

public import proofs.«01_k».proof.Proof.Inproj.Pays2

@[expose] public section

set_option maxRecDepth 16384

noncomputable section

namespace Cert.InprojIdeal.Ops

open Idealize.ShloMosaic Cert.InprojIdeal Cert.InprojIdeal.Gen
open Cert.InprojSpec (lit l1024 l256 l128 turn)

/-- The blocks of the inputs at a grid point, and the point's coordinates. -/
structure In where
  i : grid0.Coords
  x0 : Vec Ideal S256x1024 .f32
  x1 : Vec Ideal S256x1024 .f32
  x2 : Vec Ideal S1x8x1024 .f32
  x3 : Vec Ideal S256x2048 .f32
  x4 : Vec Ideal S8x512 .f32
  x5 : Vec Ideal S8x512 .f32
  x6 : Vec Ideal S8x512 .f32
  x7 : Vec Ideal S8x512 .f32
  x8 : Vec Ideal S256x512 .f32
  x9 : Vec Ideal S8x512 .f32
  x10 : Vec Ideal S8x512 .f32
  x11 : Vec Ideal S256x512 .f32
  x12 : Vec Ideal S256x1024 .f32
  x13 : Vec Ideal S8x256x128 .f32
  x14 : Vec Ideal S8x256x128 .f32
  x15 : Vec Ideal S8x256x128 .f32
  x16 : Vec Ideal S256x128 .f32
  x17 : Vec Ideal S256x128 .f32
  x18 : Vec Ideal S256x128 .f32
  x19 : Vec Ideal S1024x2048 .bf16
  x20 : Vec Ideal S256x1024 .bf16
  x21 : Vec Ideal S128x2048 .bf16
  x22 : Vec Ideal S1x256 .f32
  x23 : Vec Ideal S1x128 .f32
  x24 : Vec Ideal S8x512 .f32

variable (B : In)

abbrev lat : BitVec 1 := Scalar.cmpi CmpIPredicate.slt (BitVec.ofNat 32 (B.i 0).val) 16#32
/-- One head's rows. -/
abbrev q0 : Hd := View.ld B.x13 (Rect.unit ![0, 0, 0] ![1, 256, 128] inb_S8x256x128_S1x256x128_0_0_0)
abbrev q1 : Hd := View.ld B.x13 (Rect.unit ![1, 0, 0] ![1, 256, 128] inb_S8x256x128_S1x256x128_1_0_0)
abbrev q2 : Hd := View.ld B.x13 (Rect.unit ![2, 0, 0] ![1, 256, 128] inb_S8x256x128_S1x256x128_2_0_0)
abbrev q3 : Hd := View.ld B.x13 (Rect.unit ![3, 0, 0] ![1, 256, 128] inb_S8x256x128_S1x256x128_3_0_0)
abbrev q4 : Hd := View.ld B.x13 (Rect.unit ![4, 0, 0] ![1, 256, 128] inb_S8x256x128_S1x256x128_4_0_0)
abbrev q5 : Hd := View.ld B.x13 (Rect.unit ![5, 0, 0] ![1, 256, 128] inb_S8x256x128_S1x256x128_5_0_0)
abbrev q6 : Hd := View.ld B.x13 (Rect.unit ![6, 0, 0] ![1, 256, 128] inb_S8x256x128_S1x256x128_6_0_0)
abbrev q7 : Hd := View.ld B.x13 (Rect.unit ![7, 0, 0] ![1, 256, 128] inb_S8x256x128_S1x256x128_7_0_0)
abbrev k0 : Hd := View.ld B.x14 (Rect.unit ![0, 0, 0] ![1, 256, 128] inb_S8x256x128_S1x256x128_0_0_0)
abbrev k1 : Hd := View.ld B.x14 (Rect.unit ![1, 0, 0] ![1, 256, 128] inb_S8x256x128_S1x256x128_1_0_0)
abbrev k2 : Hd := View.ld B.x14 (Rect.unit ![2, 0, 0] ![1, 256, 128] inb_S8x256x128_S1x256x128_2_0_0)
abbrev k3 : Hd := View.ld B.x14 (Rect.unit ![3, 0, 0] ![1, 256, 128] inb_S8x256x128_S1x256x128_3_0_0)
abbrev k4 : Hd := View.ld B.x14 (Rect.unit ![4, 0, 0] ![1, 256, 128] inb_S8x256x128_S1x256x128_4_0_0)
abbrev k5 : Hd := View.ld B.x14 (Rect.unit ![5, 0, 0] ![1, 256, 128] inb_S8x256x128_S1x256x128_5_0_0)
abbrev k6 : Hd := View.ld B.x14 (Rect.unit ![6, 0, 0] ![1, 256, 128] inb_S8x256x128_S1x256x128_6_0_0)
abbrev k7 : Hd := View.ld B.x14 (Rect.unit ![7, 0, 0] ![1, 256, 128] inb_S8x256x128_S1x256x128_7_0_0)
abbrev v0 : Hd := View.ld B.x15 (Rect.unit ![0, 0, 0] ![1, 256, 128] inb_S8x256x128_S1x256x128_0_0_0)
abbrev v1 : Hd := View.ld B.x15 (Rect.unit ![1, 0, 0] ![1, 256, 128] inb_S8x256x128_S1x256x128_1_0_0)
abbrev v2 : Hd := View.ld B.x15 (Rect.unit ![2, 0, 0] ![1, 256, 128] inb_S8x256x128_S1x256x128_2_0_0)
abbrev v3 : Hd := View.ld B.x15 (Rect.unit ![3, 0, 0] ![1, 256, 128] inb_S8x256x128_S1x256x128_3_0_0)
abbrev v4 : Hd := View.ld B.x15 (Rect.unit ![4, 0, 0] ![1, 256, 128] inb_S8x256x128_S1x256x128_4_0_0)
abbrev v5 : Hd := View.ld B.x15 (Rect.unit ![5, 0, 0] ![1, 256, 128] inb_S8x256x128_S1x256x128_5_0_0)
abbrev v6 : Hd := View.ld B.x15 (Rect.unit ![6, 0, 0] ![1, 256, 128] inb_S8x256x128_S1x256x128_6_0_0)
abbrev v7 : Hd := View.ld B.x15 (Rect.unit ![7, 0, 0] ![1, 256, 128] inb_S8x256x128_S1x256x128_7_0_0)
abbrev cw0 : Vec Ideal S1x512 .f32 := View.ld B.x24 (Rect.unit ![0, 0] ![1, 512] inb_S8x512_S1x512_0_0)
abbrev cw1 : Vec Ideal S1x512 .f32 := View.ld B.x24 (Rect.unit ![1, 0] ![1, 512] inb_S8x512_S1x512_1_0)
abbrev cw2 : Vec Ideal S1x512 .f32 := View.ld B.x24 (Rect.unit ![2, 0] ![1, 512] inb_S8x512_S1x512_2_0)
abbrev sc : FVec Ideal S1x1024 .f32 := k0_pay13 (F := Ideal) (View.ld B.x2 (Rect.unit ![0, 1, 0] ![1, 1, 1024] inb_S1x8x1024_S1x1x1024_0_1_0))
abbrev kz := k0_pay15 (F := Ideal) B.x3
abbrev kCos := k0_pay16 (F := Ideal) B.x16
abbrev kSa := k0_pay17 (F := Ideal) B.x17
abbrev kSb := k0_pay18 (F := Ideal) B.x18
def kRs := k0_pay11 (F := Ideal) B.i B.x0 B.x1
def kXn := k0_pay12 (F := Ideal) B.i B.x0 B.x1
def h0 := k0_pay25 (F := Ideal) (lat B) (kCos B) B.x17 B.x18 (q0 B)
def h1 := k0_pay26 (F := Ideal) (lat B) (kCos B) (kSa B) (kSb B) (q1 B)
def h2 := k0_pay27 (F := Ideal) (lat B) (kCos B) (kSa B) (kSb B) (q2 B)
def h3 := k0_pay28 (F := Ideal) (lat B) (kCos B) (kSa B) (kSb B) (q3 B)
def h4 := k0_pay32 (F := Ideal) (kSb B) (k0_pay29 (lat B) (q4 B)) (k0_pay30 (lat B) (kCos B) (q4 B)) (k0_pay31 (lat B) (kSa B) (q4 B)) 120#32
def h5 := k0_pay33 (F := Ideal) (lat B) (kCos B) (kSa B) (kSb B) (q5 B)
def h6 := k0_pay34 (F := Ideal) (lat B) (kCos B) (kSa B) (kSb B) (q6 B)
def h7 := k0_pay35 (F := Ideal) (lat B) (kCos B) (kSa B) (kSb B) (q7 B)
def kDcq := k0_pay43 (F := Ideal) (k0_pay19 B.x22) (k0_pay22 (kz B)) (k0_pay23 (kz B)) (h3 B) (h4 B) (h5 B) (h6 B) (h7 B)
  (k0_pay36 (h0 B)) (k0_pay37 (h1 B)) (k0_pay38 (h2 B)) B.x20
def kDckvn := k0_pay60 (F := Ideal) (k0_pay49 (k0 B)) (k0_pay50 (k1 B)) (k0_pay51 (k2 B)) (k0_pay52 (k3 B)) (k0_pay53 (k4 B)) (k0_pay54 (k5 B))
  (k0_pay55 (k6 B)) (k0_pay56 (k7 B)) (k0_pay58 (v0 B)) (v1 B) (v2 B) (v3 B) (v4 B) (v5 B) (v6 B) (v7 B) B.x21
def kDckv := k0_pay63 (F := Ideal) (k0_pay20 B.x23) (k0_pay46 (k0_pay45 (kz B)) (lit 0x358637BD#32))
  (k0_pay47 (k0_pay44 (kz B)) (k0_pay45 (kz B)) (lit 0x358637BD#32)) (kDckvn B)
def kDkr := k0_pay64 (F := Ideal) (kCos B) (kSa B) (kSb B) (k0_pay57 (k0 B) (k1 B) (k2 B) (k3 B) (k4 B) (k5 B) (k6 B) (k7 B))
def kDy := k0_pay71 (F := Ideal) (lat B) B.x8
def kPrev := k0_pay72 (F := Ideal) (BitVec.ofNat 32 (B.i 0).val) (lat B) (View.ld B.x9 (Rect.unit ![7, 0] ![1, 512] inb_S8x512_S1x512_7_0))
def kNext := k0_pay73 (F := Ideal) (BitVec.ofNat 32 (B.i 0).val) (View.ld B.x10 (Rect.unit ![0, 0] ![1, 512] inb_S8x512_S1x512_0_0))
def kXi := k0_pay75 (F := Ideal) (k0_pay66 (kz B)) (kDy B) (kPrev B) (kNext B) (cw0 B) (cw1 B) (cw2 B)
def kGc := k0_pay76 (F := Ideal) (k0_pay65 (kz B)) (kDy B) (kPrev B) (kNext B) (cw0 B) (cw1 B) (cw2 B)
def kDgb := k0_pay77 (F := Ideal) (lat B) B.x11
def kDh := k0_pay82 (F := Ideal) (kDcq B) (kDckv B) (kDkr B) (kXi B) (kGc B) (kDgb B) B.x19
def kGx := k0_pay2 (F := Ideal) (kRs B) (kXn B) (sc B) (kDh B) B.x12

end Cert.InprojIdeal.Ops

end
-- ==== Proof.Inproj.Tie.lean ====
/-
  What the body leaves in the gradient's block at a latent point: the value named in Proof/Inproj/Blocks.lean.
-/
module

public import proofs.«01_k».proof.Proof.Inproj.BodyFrame
public import proofs.«01_k».proof.Proof.Inproj.Blocks
public import Idealize.ShloMosaic.Lib.Pipeline.ReadBack

@[expose] public section

set_option maxRecDepth 16384

noncomputable section

namespace Cert.InprojIdeal.Tie

open Idealize.ShloMosaic Idealize.ShloMosaic.TcCoe Idealize.ShloMosaic.Tactic Cert.InprojIdeal Cert.InprojIdeal.Gen Cert.InprojIdeal.Ops

variable (m : (ℓ : Loc nD τ sig) → Buf (Elt Ideal) ℓ)

/-- The blocks of the inputs at a point. -/
def inAt (c : Dev nD) (t : Fin cfg0.N) : In := ⟨grid0.coords t, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t⟩

theorem tie (c : Dev nD) (t : Fin cfg0.N) : gxBlk m c t = kGx (inAt m c t) := by
  funext y
  dsimp only [gxBlk]; unfold runOn bodyRun; dsimp only; frame_open; frame_out; sl_kernel_rfl

end Cert.InprojIdeal.Tie

end
-- ==== Proof.Inproj.Rows.lean ====
/-
  The named values of the body at one index of a latent block, as the padded rows' mathematics (`Cert.InprojSpec.Pad`).
-/
module

public import proofs.«01_k».proof.Proof.Inproj.Blocks

@[expose] public section

set_option maxRecDepth 16384

noncomputable section

namespace Cert.InprojIdeal.Ops

open Idealize.ShloMosaic Cert.InprojIdeal Cert.InprojIdeal.Gen
open Cert.InprojSpec (lit l1024 l256 l128 turn Pad)

/-- Row `i` of a block, and the arrays every row shares. -/
def pad (B : In) (i : Fin 256) : Pad where
  x j := B.x0 (ix2 i j)
  sc j := B.x2 (ix3 0 1 j)
  z k := B.x3 (ix2 i k)
  cos l := B.x16 (ix2 i l)
  sa l := B.x17 (ix2 i l)
  sb l := B.x18 (ix2 i l)
  dq h l := B.x13 (ix3 h i l)
  dk h l := B.x14 (ix3 h i l)
  dv h l := B.x15 (ix3 h i l)
  dgb e := B.x11 (ix2 i e)
  dy e := B.x8 (ix2 i e)
  dyp e := if h : i.val = 0 then (if 0 < (B.i 0).val then B.x9 (ix2 7 e) else 0) else B.x8 (ix2 ⟨i.val - 1, by omega⟩ e)
  dyn e := if h : i.val = 255 then (if (B.i 0).val < 15 then B.x10 (ix2 0 e) else 0) else B.x8 (ix2 ⟨i.val + 1, by omega⟩ e)
  dx1 j := B.x12 (ix2 i j)
  win j k := B.x19 (ix2 j k)
  wuq k c := B.x20 (ix2 k c)
  wukv k c := B.x21 (ix2 k c)
  qg k := B.x22 (ix2 0 k)
  kvg k := B.x23 (ix2 0 k)
  cw k e := B.x24 (ix2 ⟨k.val, by omega⟩ e)

variable (B : In) (hB : (B.i 0).val < 16) (i : Fin 256)

theorem q0_at (l : Fin 128) : q0 B (ix3 0 i l) = (pad B i).dq 0 l := by pointwise [q0, pad]
theorem q1_at (l : Fin 128) : q1 B (ix3 0 i l) = (pad B i).dq 1 l := by pointwise [q1, pad]
theorem q2_at (l : Fin 128) : q2 B (ix3 0 i l) = (pad B i).dq 2 l := by pointwise [q2, pad]
theorem q3_at (l : Fin 128) : q3 B (ix3 0 i l) = (pad B i).dq 3 l := by pointwise [q3, pad]
theorem q4_at (l : Fin 128) : q4 B (ix3 0 i l) = (pad B i).dq 4 l := by pointwise [q4, pad]
theorem q5_at (l : Fin 128) : q5 B (ix3 0 i l) = (pad B i).dq 5 l := by pointwise [q5, pad]
theorem q6_at (l : Fin 128) : q6 B (ix3 0 i l) = (pad B i).dq 6 l := by pointwise [q6, pad]
theorem q7_at (l : Fin 128) : q7 B (ix3 0 i l) = (pad B i).dq 7 l := by pointwise [q7, pad]
theorem k0_at (l : Fin 128) : k0 B (ix3 0 i l) = (pad B i).dk 0 l := by pointwise [k0, pad]
theorem k1_at (l : Fin 128) : k1 B (ix3 0 i l) = (pad B i).dk 1 l := by pointwise [k1, pad]
theorem k2_at (l : Fin 128) : k2 B (ix3 0 i l) = (pad B i).dk 2 l := by pointwise [k2, pad]
theorem k3_at (l : Fin 128) : k3 B (ix3 0 i l) = (pad B i).dk 3 l := by pointwise [k3, pad]
theorem k4_at (l : Fin 128) : k4 B (ix3 0 i l) = (pad B i).dk 4 l := by pointwise [k4, pad]
theorem k5_at (l : Fin 128) : k5 B (ix3 0 i l) = (pad B i).dk 5 l := by pointwise [k5, pad]
theorem k6_at (l : Fin 128) : k6 B (ix3 0 i l) = (pad B i).dk 6 l := by pointwise [k6, pad]
theorem k7_at (l : Fin 128) : k7 B (ix3 0 i l) = (pad B i).dk 7 l := by pointwise [k7, pad]
theorem v0_at (l : Fin 128) : v0 B (ix3 0 i l) = (pad B i).dv 0 l := by pointwise [v0, pad]
theorem v1_at (l : Fin 128) : v1 B (ix3 0 i l) = (pad B i).dv 1 l := by pointwise [v1, pad]
theorem v2_at (l : Fin 128) : v2 B (ix3 0 i l) = (pad B i).dv 2 l := by pointwise [v2, pad]
theorem v3_at (l : Fin 128) : v3 B (ix3 0 i l) = (pad B i).dv 3 l := by pointwise [v3, pad]
theorem v4_at (l : Fin 128) : v4 B (ix3 0 i l) = (pad B i).dv 4 l := by pointwise [v4, pad]
theorem v5_at (l : Fin 128) : v5 B (ix3 0 i l) = (pad B i).dv 5 l := by pointwise [v5, pad]
theorem v6_at (l : Fin 128) : v6 B (ix3 0 i l) = (pad B i).dv 6 l := by pointwise [v6, pad]
theorem v7_at (l : Fin 128) : v7 B (ix3 0 i l) = (pad B i).dv 7 l := by pointwise [v7, pad]
theorem cw0_at (e : Fin 512) : cw0 B (ix2 0 e) = (pad B i).cw 0 e := by pointwise [cw0, pad]
theorem cw1_at (e : Fin 512) : cw1 B (ix2 0 e) = (pad B i).cw 1 e := by pointwise [cw1, pad]
theorem cw2_at (e : Fin 512) : cw2 B (ix2 0 e) = (pad B i).cw 2 e := by pointwise [cw2, pad]
theorem sc_at (j : Fin 1024) : sc B (ix2 0 j) = (pad B i).sc j := by rw [sc, pay13_at]; pointwise [pad]

include hB

theorem lat_one : lat B = 1#1 := lat_eq _ hB

/-- A head whose cotangent is `g`, the rotation undone. -/
theorem turned_eq (g : Hd) (h : Fin 8) (e : ∀ l, g (ix3 0 i l) = (pad B i).dq h l) (l : Fin 128) :
    turned B.x16 B.x17 B.x18 g i l = (pad B i).unrope ((pad B i).dq h) l :=
  congrFun (congrArg (turn (fun l => B.x16 (ix2 i l)) (fun l => B.x17 (ix2 i l)) (fun l => B.x18 (ix2 i l))) (funext e)) l
theorem h0_at (l : Fin 128) : h0 B (ix2 i l) = (pad B i).unrope ((pad B i).dq 0) l := by
  rw [h0, lat_one B hB, kCos, pay16_at, pay25_at]; exact turned_eq B hB i _ 0 (q0_at B i) l
theorem h1_at (l : Fin 128) : h1 B (ix2 i l) = (pad B i).unrope ((pad B i).dq 1) l := by
  rw [h1, lat_one B hB, kCos, kSa, kSb, pay16_at, pay17_at, pay18_at, pay26_at]; exact turned_eq B hB i _ 1 (q1_at B i) l
theorem h2_at (l : Fin 128) : h2 B (ix2 i l) = (pad B i).unrope ((pad B i).dq 2) l := by
  rw [h2, lat_one B hB, kCos, kSa, kSb, pay16_at, pay17_at, pay18_at, pay27_at]; exact turned_eq B hB i _ 2 (q2_at B i) l
theorem h3_at (l : Fin 128) : h3 B (ix2 i l) = (pad B i).unrope ((pad B i).dq 3) l := by
  rw [h3, lat_one B hB, kCos, kSa, kSb, pay16_at, pay17_at, pay18_at, pay28_at]; exact turned_eq B hB i _ 3 (q3_at B i) l
theorem h4_at (l : Fin 128) : h4 B (ix2 i l) = (pad B i).unrope ((pad B i).dq 4) l := by
  rw [h4, lat_one B hB, kCos, kSa, kSb, pay16_at, pay17_at, pay18_at, pay32_at]; exact turned_eq B hB i _ 4 (q4_at B i) l
theorem h5_at (l : Fin 128) : h5 B (ix2 i l) = (pad B i).unrope ((pad B i).dq 5) l := by
  rw [h5, lat_one B hB, kCos, kSa, kSb, pay16_at, pay17_at, pay18_at, pay33_at]; exact turned_eq B hB i _ 5 (q5_at B i) l
theorem h6_at (l : Fin 128) : h6 B (ix2 i l) = (pad B i).unrope ((pad B i).dq 6) l := by
  rw [h6, lat_one B hB, kCos, kSa, kSb, pay16_at, pay17_at, pay18_at, pay34_at]; exact turned_eq B hB i _ 6 (q6_at B i) l
theorem h7_at (l : Fin 128) : h7 B (ix2 i l) = (pad B i).unrope ((pad B i).dq 7) l := by
  rw [h7, lat_one B hB, kCos, kSa, kSb, pay16_at, pay17_at, pay18_at, pay35_at]; exact turned_eq B hB i _ 7 (q7_at B i) l

theorem dqf_at (c : Fin 1024) : k0_pay39 (F := Ideal) (h3 B) (h4 B) (h5 B) (h6 B) (h7 B) (k0_pay36 (h0 B)) (k0_pay37 (h1 B)) (k0_pay38 (h2 B))
    (ix2 i c) = (pad B i).dqf c := by
  rw [pay39_at]; unfold eight Pad.dqf
  generalize (⟨c.val % 128, by omega⟩ : Fin 128) = l
  generalize (⟨c.val / 128, by omega⟩ : Fin 8) = n
  fin_cases n
  · exact h0_at B hB i l
  · exact h1_at B hB i l
  · exact h2_at B hB i l
  · exact h3_at B hB i l
  · exact h4_at B hB i l
  · exact h5_at B hB i l
  · exact h6_at B hB i l
  · exact h7_at B hB i l
theorem dcqn_at (k : Fin 256) : k0_pay40 (F := Ideal) (h3 B) (h4 B) (h5 B) (h6 B) (h7 B) (k0_pay36 (h0 B)) (k0_pay37 (h1 B)) (k0_pay38 (h2 B)) B.x20
    (ix2 i k) = (pad B i).dcqn k := by
  rw [pay40_at]; exact Finset.sum_congr rfl fun c _ => congrArg (· * _) (dqf_at B hB i c)
theorem kDcq_at (k : Fin 256) : kDcq B (ix2 i k) = (pad B i).dcq k := by
  rw [kDcq, pay43_at]; simp only [dcqn_at B hB, pay22_at, pay23_at, pay19_at, kz, pay15_at]; rfl

omit hB in
theorem dkvf_at (c : Fin 2048) : k0_pay59 (F := Ideal) (k0_pay49 (k0 B)) (k0_pay50 (k1 B)) (k0_pay51 (k2 B)) (k0_pay52 (k3 B)) (k0_pay53 (k4 B))
    (k0_pay54 (k5 B)) (k0_pay55 (k6 B)) (k0_pay56 (k7 B)) (k0_pay58 (v0 B)) (v1 B) (v2 B) (v3 B) (v4 B) (v5 B) (v6 B) (v7 B) (ix2 i c)
    = (pad B i).dkvf c := by
  let G : Fin 16 → Fin 128 → EReal := fun n l => if h : n.val < 8 then (pad B i).dk ⟨n.val, h⟩ l else (pad B i).dv ⟨n.val - 8, by omega⟩ l
  refine (pay59_at _ _ _ _ _ _ _ _ _ _ _ _ _ _ _ _ i G (fun l => (pay49_at _ i l).trans (k0_at B i l)) (fun l => (pay50_at _ i l).trans (k1_at B i l))
    (fun l => (pay51_at _ i l).trans (k2_at B i l)) (fun l => (pay52_at _ i l).trans (k3_at B i l)) (fun l => (pay53_at _ i l).trans (k4_at B i l))
    (fun l => (pay54_at _ i l).trans (k5_at B i l)) (fun l => (pay55_at _ i l).trans (k6_at B i l)) (fun l => (pay56_at _ i l).trans (k7_at B i l))
    (fun l => (pay58_at _ i l).trans (v0_at B i l)) (v1_at B i) (v2_at B i) (v3_at B i) (v4_at B i) (v5_at B i) (v6_at B i) (v7_at B i) c).trans ?_
  unfold Pad.dkvf
  by_cases h : c.val < 1024
  · rw [dif_pos h]; exact dif_pos (by dsimp only; omega)
  · rw [dif_neg h]
    refine (dif_neg (by dsimp only; omega)).trans (congrArg (fun n => (pad B i).dv n _) (Fin.ext ?_))
    dsimp only; omega
omit hB in
theorem kDckvn_at (k : Fin 128) : kDckvn B (ix2 i k) = (pad B i).dckvn k := by
  rw [kDckvn, pay60_at]; exact Finset.sum_congr rfl fun c _ => congrArg (· * _) (dkvf_at B i c)
omit hB in
theorem kDckv_at (k : Fin 128) : kDckv B (ix2 i k) = (pad B i).dckv k := by
  rw [kDckv, pay63_at]; simp only [kDckvn_at, pay46_at, pay47_at, pay20_at, kz, pay15_at]; rfl
omit hB in
theorem kDkr_at (l : Fin 128) : kDkr B (ix2 i l) = (pad B i).dkr l := by
  rw [kDkr, pay64_at]; simp only [pay57_at, k0_at, k1_at, k2_at, k3_at, k4_at, k5_at, k6_at, k7_at, kCos, kSa, kSb, pay16_at, pay17_at, pay18_at]
  unfold Pad.dkr Pad.unrope
  refine congrFun (congrArg (turn _ _ _) (funext fun l => ?_)) l
  rw [Fin.sum_univ_eight]

theorem kDu_at (e : Fin 512) : k0_pay74 (F := Ideal) (kDy B) (kPrev B) (kNext B) (cw0 B) (cw1 B) (cw2 B) (ix2 i e) = (pad B i).du e := by
  have hd : ∀ n : Fin 256, kDy B (ix2 n e) = B.x8 (ix2 n e) := fun n => by rw [kDy, lat_one B hB, pay71_at]
  rw [pay74_at, cw0_at B i, cw1_at B i, cw2_at B i]
  unfold Pad.du
  have hu : (if i.val = 0 then kPrev B (ix2 0 e) else kDy B (ix2 ⟨(i.val + 256 - 1) % 256, Nat.mod_lt _ (by omega)⟩ e)) = (pad B i).dyp e := by
    unfold pad; dsimp only
    by_cases h : i.val = 0
    · rw [if_pos h, dif_pos h, kPrev, lat_one B hB, pay72_at e _ hB]; pointwise
    · rw [if_neg h, dif_neg h, show (⟨(i.val + 256 - 1) % 256, Nat.mod_lt _ (by omega)⟩ : Fin 256) = ⟨i.val - 1, by omega⟩ from Fin.ext (by dsimp only; omega)]
      exact hd _
  have hn : (if i.val = 255 then kNext B (ix2 0 e) else kDy B (ix2 ⟨(i.val + 256 - 255) % 256, Nat.mod_lt _ (by omega)⟩ e)) = (pad B i).dyn e := by
    unfold pad; dsimp only
    by_cases h : i.val = 255
    · rw [if_pos h, dif_pos h, kNext, pay73_at e _ hB]; pointwise
    · rw [if_neg h, dif_neg h, show (⟨(i.val + 256 - 255) % 256, Nat.mod_lt _ (by omega)⟩ : Fin 256) = ⟨i.val + 1, by omega⟩ from Fin.ext (by dsimp only; omega)]
      exact hd _
  rw [hu, hn, hd]; rfl

theorem dz_at (c : Fin 2048) : k0_pay81 (F := Ideal) (kDcq B) (kDckv B) (kDkr B) (kXi B) (kGc B) (kDgb B) (ix2 i c) = (pad B i).dz c := by
  rw [pay81_at]; unfold Pad.dz
  refine dite_congr rfl (fun _ => kDcq_at B hB i _) fun _ => dite_congr rfl (fun _ => kDckv_at B i _) fun _ => dite_congr rfl (fun _ => kDkr_at B i _)
    fun _ => dite_congr rfl (fun _ => ?_) fun _ => dite_congr rfl (fun _ => ?_) fun _ => ?_
  · rw [kDgb, lat_one B hB, pay77_at]; rfl
  · rw [kXi, pay75_at, kDu_at B hB, pay66_at, kz, pay15_at]
    refine congrArg (_ * ·) (congrArg (fun k => B.x3 (ix2 i k)) (Fin.ext ?_)); dsimp only; omega
  · rw [kGc, pay76_at, kDu_at B hB, pay65_at, kz, pay15_at]
    refine congrArg (_ * ·) (congrArg (fun k => B.x3 (ix2 i k)) (Fin.ext ?_)); dsimp only; omega
theorem kDh_at (j : Fin 1024) : kDh B (ix2 i j) = (pad B i).dh1 j := by
  rw [kDh, pay82_at]; exact Finset.sum_congr rfl fun c _ => congrArg (· * _) (dz_at B hB i c)
theorem kGx_at (j : Fin 1024) : kGx B (ix2 i j) = (pad B i).gx j := by
  rw [kGx, pay2_at, kRs, pay11_at _ hB, kXn]
  simp only [pay12_at _ hB, kDh_at B hB, sc_at B i]; rfl

end Cert.InprojIdeal.Ops

end
-- ==== Proof.Inproj.Lanes.lean ====
/-
  The padded lanes carry nothing: on rows and weights held in padded lanes, with zero weights and zero rotation tables wherever
  there is no column, the padded gradient is the gradient.
-/
module

public import proofs.«01_k».proof.Proof.Inproj.Spec

@[expose] public section

noncomputable section

namespace Cert.InprojSpec

open Idealize.ShloMosaic

/-- Where the projection's columns lie: the rotary key's in a lane tile of their own, from lane 64. -/
def colZ (k : Fin 1952) : Fin 2048 := if h : k.val < 384 then ⟨k.val, by omega⟩ else if h : k.val < 416 then ⟨k.val + 64, by omega⟩ else ⟨k.val + 96, by omega⟩
def colQ (c : Fin 768) : Fin 1024 := ⟨c.val / 96 * 128 + c.val % 96, by omega⟩
def colKV (c : Fin 1024) : Fin 2048 := if h : c.val % 128 < 64 then ⟨c.val / 128 * 128 + c.val % 128, by omega⟩ else ⟨1024 + c.val / 128 * 128 + (c.val % 128 - 64), by omega⟩

/-- The arrays of a row and the weights, in padded lanes. -/
structure Padded (K : Pad) (W : Wts) (R : Row) : Prop where
  x : K.x = R.x
  sc : K.sc = W.sc
  z : ∀ k, K.z (colZ k) = z W R k
  cos0 : ∀ l : Fin 128, l.val < 64 → K.cos l = 1
  cos1 : ∀ (a s : Fin 2) (f : Fin 8), K.cos ⟨64 + (a.val * 16 + s.val * 8 + f.val), by omega⟩ = R.cos a f
  sa0 : ∀ l : Fin 128, l.val < 64 ∨ 96 ≤ l.val ∨ l.val % 16 < 8 → K.sa l = 0
  sa1 : ∀ (a : Fin 2) (f : Fin 8), K.sa ⟨64 + (a.val * 16 + 8 + f.val), by omega⟩ = R.sin a f
  sb0 : ∀ l : Fin 128, l.val < 64 ∨ 96 ≤ l.val ∨ 8 ≤ l.val % 16 → K.sb l = 0
  sb1 : ∀ (a : Fin 2) (f : Fin 8), K.sb ⟨64 + (a.val * 16 + f.val), by omega⟩ = -R.sin a f
  dq : ∀ h (l : Fin 96), K.dq h ⟨l.val, by omega⟩ = R.dq h l
  dk : ∀ h (l : Fin 96), K.dk h ⟨l.val, by omega⟩ = R.dk h l
  dv : ∀ h (l : Fin 64), K.dv h ⟨l.val, by omega⟩ = R.dv h l
  dgb : K.dgb = R.dgb
  dy : K.dy = R.dy
  dyp : K.dyp = R.dyp
  dyn : K.dyn = R.dyn
  dx1 : K.dx1 = R.dx1
  win1 : ∀ j k, K.win j (colZ k) = W.win j k
  win0 : ∀ j (k : Fin 2048), (384 ≤ k.val ∧ k.val < 448) ∨ (480 ≤ k.val ∧ k.val < 512) → K.win j k = 0
  wuq1 : ∀ k c, K.wuq k (colQ c) = W.wuq k c
  wuq0 : ∀ k (c : Fin 1024), 96 ≤ c.val % 128 → K.wuq k c = 0
  wukv1 : ∀ k c, K.wukv k (colKV c) = W.wukv k c
  wukv0 : ∀ k (c : Fin 2048), 64 ≤ c.val % 128 → K.wukv k c = 0
  qg : K.qg = W.qg
  kvg : K.kvg = W.kvg
  cw : K.cw = W.cw

/-- A sum over padded columns is the sum over the columns, if every padded term vanishes. -/
theorem sum_pad {n N : ℕ} (col : Fin n → Fin N) (hc : Function.Injective col) (f : Fin n → EReal) (g : Fin N → EReal)
    (h0 : ∀ c, (∀ k, col k ≠ c) → g c = 0) (h1 : ∀ k, g (col k) = f k) : ∑ c, g c = ∑ k, f k :=
  (Fintype.sum_of_injective col hc f g (fun c hc => h0 c fun k e => hc ⟨k, e⟩) fun k => (h1 k).symm).symm

theorem colZ_inj : Function.Injective colZ := by
  intro a b h
  have h := congrArg Fin.val h
  refine Fin.ext ?_
  unfold colZ at h
  split_ifs at h <;> dsimp only at h <;> omega
theorem colQ_inj : Function.Injective colQ := by
  intro a b h
  have h := congrArg Fin.val h
  dsimp only [colQ] at h
  exact Fin.ext (by omega)
theorem colKV_inj : Function.Injective colKV := by
  intro a b h
  have h := congrArg Fin.val h
  refine Fin.ext ?_
  unfold colKV at h
  split_ifs at h <;> dsimp only at h <;> omega

variable {K : Pad} {W : Wts} {R : Row} (P : Padded K W R)
include P

/-- On the lanes below the rotary ones the rotation does nothing; on those it is the two halves' rotation. -/
theorem turn_low (g : Fin 128 → EReal) (l : Fin 128) (h : l.val < 64) : K.unrope g l = g l := by
  unfold Pad.unrope turn
  rw [P.cos0 l h, P.sb0 ⟨(l.val + 128 - 8) % 128, Nat.mod_lt _ (by omega)⟩ (by dsimp only; omega),
    P.sa0 ⟨(l.val + 128 - 120) % 128, Nat.mod_lt _ (by omega)⟩ (by dsimp only; omega), mul_one, mul_zero, mul_zero, add_zero, add_zero]
theorem turn_rope (g : Fin 128 → EReal) (l : Fin 32) :
    K.unrope g ⟨64 + l.val, by omega⟩ = unrope R (fun k => g ⟨64 + k.val, by omega⟩) l := by
  have hcos : K.cos ⟨64 + l.val, by omega⟩ = R.cos ⟨l.val / 16, by omega⟩ ⟨l.val % 8, by omega⟩ := by
    refine Eq.trans (congrArg K.cos (Fin.ext ?_)) (P.cos1 ⟨l.val / 16, by omega⟩ ⟨l.val / 8 % 2, by omega⟩ ⟨l.val % 8, by omega⟩)
    dsimp only; omega
  unfold Pad.unrope turn unrope
  by_cases h : l.val % 16 < 8
  · rw [dif_pos h, hcos, P.sb0 ⟨((⟨64 + l.val, by omega⟩ : Fin 128).val + 128 - 8) % 128, Nat.mod_lt _ (by omega)⟩ (by dsimp only; omega), mul_zero, add_zero]
    refine congrArg (_ + ·) (congrArg₂ (· * ·) (congrArg g (Fin.ext (by dsimp only; omega))) ?_)
    refine Eq.trans (congrArg K.sa (Fin.ext ?_)) (P.sa1 ⟨l.val / 16, by omega⟩ ⟨l.val % 8, by omega⟩)
    dsimp only; omega
  · rw [dif_neg h, hcos, P.sa0 ⟨((⟨64 + l.val, by omega⟩ : Fin 128).val + 128 - 120) % 128, Nat.mod_lt _ (by omega)⟩ (by dsimp only; omega), mul_zero, add_zero]
    refine congrArg (_ + ·) (congrArg₂ (· * ·) (congrArg g (Fin.ext (by dsimp only; omega))) ?_)
    refine Eq.trans (congrArg K.sb (Fin.ext ?_)) (P.sb1 ⟨l.val / 16, by omega⟩ ⟨l.val % 8, by omega⟩)
    dsimp only; omega

theorem cq_eq : K.cq = cq W R := funext fun k => by
  refine Eq.trans (congrArg K.z (Fin.ext ?_)) (P.z ⟨k.val, by omega⟩)
  rw [colZ, dif_pos (by dsimp only; omega)]
theorem ckv_eq : K.ckv = ckv W R := funext fun k => by
  refine Eq.trans (congrArg K.z (Fin.ext ?_)) (P.z ⟨256 + k.val, by omega⟩)
  rw [colZ, dif_pos (by dsimp only; omega)]
theorem gc_eq (e : Fin 512) : K.z ⟨1024 + e.val, by omega⟩ = gc W R e := by
  refine Eq.trans (congrArg K.z (Fin.ext ?_)) (P.z ⟨928 + e.val, by omega⟩)
  rw [colZ, dif_neg (by dsimp only; omega), dif_neg (by dsimp only; omega)]; dsimp only; omega
theorem xi_eq (e : Fin 512) : K.z ⟨1536 + e.val, by omega⟩ = xi W R e := by
  refine Eq.trans (congrArg K.z (Fin.ext ?_)) (P.z ⟨1440 + e.val, by omega⟩)
  rw [colZ, dif_neg (by dsimp only; omega), dif_neg (by dsimp only; omega)]; dsimp only; omega

theorem dqf_eq (c : Fin 768) : K.dqf (colQ c) = dqf R c := by
  have e : K.dqf (colQ c) = K.unrope (K.dq ⟨c.val / 96, by omega⟩) ⟨c.val % 96, by omega⟩ :=
    congrArg₂ (fun h l => K.unrope (K.dq h) l) (Fin.ext (by dsimp only [colQ]; omega)) (Fin.ext (by dsimp only [colQ]; omega))
  rw [e]; unfold dqf
  by_cases h : c.val % 96 < 64
  · rw [dif_pos h, turn_low P _ _ h]; exact P.dq _ ⟨c.val % 96, by omega⟩
  · rw [dif_neg h]
    refine Eq.trans (congrArg (K.unrope _) (Fin.ext ?_)) ((turn_rope P _ ⟨c.val % 96 - 64, by omega⟩).trans
      (congrArg (fun g => unrope R g _) (funext fun k => P.dq _ ⟨64 + k.val, by omega⟩)))
    dsimp only; omega
theorem dcqn_eq : K.dcqn = dcqn W R := funext fun k => by
  refine sum_pad colQ colQ_inj _ _ (fun c h => ?_) fun c => by rw [dqf_eq P, P.wuq1]
  rw [P.wuq0 k c, mul_zero]
  by_contra q
  refine h ⟨c.val / 128 * 96 + c.val % 128, by omega⟩ (Fin.ext ?_)
  dsimp only [colQ]; omega
theorem dcq_eq : K.dcq = dcq W R := funext fun k => by
  unfold Pad.dcq dcq; rw [cq_eq P, dcqn_eq P, P.qg]

theorem dkvf_eq (c : Fin 1024) : K.dkvf (colKV c) = dkvf R c := by
  unfold Pad.dkvf dkvf colKV
  by_cases h : c.val % 128 < 64
  · rw [dif_pos h]; simp only [dif_pos h]; rw [dif_pos (by omega)]
    refine Eq.trans (congrArg₂ K.dk (Fin.ext ?_) (Fin.ext ?_)) (P.dk ⟨c.val / 128, by omega⟩ ⟨c.val % 128, by omega⟩) <;> dsimp only <;> omega
  · rw [dif_neg h]; simp only [dif_neg h]; rw [dif_neg (by omega)]
    refine Eq.trans (congrArg₂ K.dv (Fin.ext ?_) (Fin.ext ?_)) (P.dv ⟨c.val / 128, by omega⟩ ⟨c.val % 128 - 64, by omega⟩) <;> dsimp only <;> omega
theorem dckvn_eq : K.dckvn = dckvn W R := funext fun k => by
  refine sum_pad colKV colKV_inj _ _ (fun c h => ?_) fun c => by rw [dkvf_eq P, P.wukv1]
  rw [P.wukv0 k c, mul_zero]
  by_contra q
  by_cases h' : c.val < 1024
  · refine h ⟨c.val, h'⟩ (Fin.ext ?_)
    rw [colKV, dif_pos (by dsimp only; omega)]; dsimp only; omega
  · refine h ⟨(c.val - 1024) + 64, by omega⟩ (Fin.ext ?_)
    rw [colKV, dif_neg (by dsimp only; omega)]; dsimp only; omega
theorem dckv_eq : K.dckv = dckv W R := funext fun k => by
  unfold Pad.dckv dckv; rw [ckv_eq P, dckvn_eq P, P.kvg]
theorem dkr_eq (l : Fin 32) : K.dkr ⟨64 + l.val, by omega⟩ = dkr R l := by
  unfold Pad.dkr dkr
  rw [turn_rope P]
  exact congrArg (fun g => unrope R g l) (funext fun k => Finset.sum_congr rfl fun h _ => P.dk h ⟨64 + k.val, by omega⟩)
theorem du_eq : K.du = du W R := funext fun e => by
  unfold Pad.du du; rw [P.cw, P.dy, P.dyp, P.dyn]

theorem dz_eq (c : Fin 1952) : K.dz (colZ c) = dz W R c := by
  unfold Pad.dz dz colZ
  by_cases h0 : c.val < 256
  · rw [dif_pos h0]; simp only [dif_pos (show c.val < 384 by omega)]; rw [dif_pos h0, dcq_eq P]
  rw [dif_neg h0]
  by_cases h1 : c.val < 384
  · rw [dif_pos h1]; simp only [dif_pos h1]; rw [dif_neg h0, dckv_eq P]
  rw [dif_neg h1]
  by_cases h2 : c.val < 416
  · rw [dif_pos h2]; simp only [dif_neg h1, dif_pos h2]; rw [dif_neg (by omega), dif_neg (by omega), dif_pos (by omega)]
    refine Eq.trans (congrArg K.dkr (Fin.ext ?_)) (dkr_eq P ⟨c.val - 384, by omega⟩); dsimp only; omega
  rw [dif_neg h2]; simp only [dif_neg h1, dif_neg h2]
  rw [dif_neg (by omega), dif_neg (by omega), dif_neg (by omega)]
  by_cases h3 : c.val < 928
  · rw [dif_pos h3, dif_pos (by omega), P.dgb]; exact congrArg R.dgb (Fin.ext (by dsimp only; omega))
  rw [dif_neg h3, dif_neg (by omega)]
  by_cases h4 : c.val < 1440
  · rw [dif_pos h4, dif_pos (by omega), du_eq P]
    refine congrArg₂ (· * ·) (congrArg (du W R) (Fin.ext (by dsimp only; omega))) (Eq.trans (congrArg K.z (Fin.ext ?_)) (xi_eq P ⟨c.val - 928, by omega⟩))
    dsimp only; omega
  · rw [dif_neg h4, dif_neg (by omega), du_eq P]
    refine congrArg₂ (· * ·) (congrArg (du W R) (Fin.ext (by dsimp only; omega))) (Eq.trans (congrArg K.z (Fin.ext ?_)) (gc_eq P ⟨c.val - 1440, by omega⟩))
    dsimp only; omega
theorem dh1_eq : K.dh1 = dh1 W R := funext fun j => by
  refine sum_pad colZ colZ_inj _ _ (fun c h => ?_) fun c => by rw [dz_eq P, P.win1]
  rw [P.win0 j c, mul_zero]
  by_contra q
  by_cases h1 : c.val < 384
  · exact h ⟨c.val, by omega⟩ (Fin.ext (by rw [colZ, dif_pos (by dsimp only; omega)]))
  by_cases h2 : c.val < 512
  · refine h ⟨c.val - 64, by omega⟩ (Fin.ext ?_)
    rw [colZ, dif_neg (by dsimp only; omega), dif_pos (by dsimp only; omega)]; dsimp only; omega
  · refine h ⟨c.val - 96, by omega⟩ (Fin.ext ?_)
    rw [colZ, dif_neg (by dsimp only; omega), dif_neg (by dsimp only; omega)]; dsimp only; omega
/-- So the kernel's gradient of a row is the row's gradient. -/
theorem gx_eq : K.gx = gx W R := funext fun j => by
  unfold Pad.gx gx; rw [P.x, P.sc, P.dx1, dh1_eq P]

end Cert.InprojSpec

end
-- ==== Proof.Inproj.Args.lean ====
/-
  The arguments both programs are given, and the rows of the gradient's mathematics in their terms.
-/
module

public import proofs.«01_k».proof.Proof.Inproj.Spec
public import Idealize.ShloMosaic.Lib.Pipeline.ValueKit

@[expose] public section

noncomputable section

namespace Cert.InprojSpec

open Idealize.ShloMosaic

/-- The arrays the gradient depends on. -/
@[ext] structure Args where
  x : FVec Ideal (Shape.mk 3 ![1, 4096, 1024]) .f32
  mod : FVec Ideal (Shape.mk 2 ![1, 6144]) .f32
  win : FVec Ideal (Shape.mk 2 ![1024, 1952]) .f32
  qg : FVec Ideal (Shape.mk 1 ![256]) .f32
  wuq : FVec Ideal (Shape.mk 2 ![256, 768]) .f32
  kvg : FVec Ideal (Shape.mk 1 ![128]) .f32
  wukv : FVec Ideal (Shape.mk 2 ![128, 1024]) .f32
  cw : FVec Ideal (Shape.mk 2 ![3, 512]) .f32
  cos : FVec Ideal (Shape.mk 4 ![4096, 1, 2, 8]) .f32
  sin : FVec Ideal (Shape.mk 4 ![4096, 1, 2, 8]) .f32
  dq : FVec Ideal (Shape.mk 4 ![1, 4096, 8, 96]) .f32
  dk : FVec Ideal (Shape.mk 4 ![1, 4352, 8, 96]) .f32
  dv : FVec Ideal (Shape.mk 4 ![1, 4352, 8, 64]) .f32
  dgb : FVec Ideal (Shape.mk 3 ![1, 4096, 512]) .f32
  dy : FVec Ideal (Shape.mk 3 ![1, 4096, 512]) .f32
  dx1 : FVec Ideal (Shape.mk 3 ![1, 4096, 1024]) .f32

variable (A : Args)

/-- What every row shares. -/
def wtsOf : Wts where
  sh j := A.mod (ix2 0 ⟨j.val, by omega⟩)
  sc j := A.mod (ix2 0 ⟨1024 + j.val, by omega⟩)
  win j k := A.win (ix2 j k)
  qg k := A.qg (ix1 k)
  wuq k c := A.wuq (ix2 k c)
  kvg k := A.kvg (ix1 k)
  wukv k c := A.wukv (ix2 k c)
  cw k e := A.cw (ix2 k e)

/-- Row `n` of the latent sequence; past its ends the convolution's cotangent is zero. -/
def rowOf (n : Fin 4096) : Row where
  x j := A.x (ix3 0 n j)
  cos a f := A.cos (ix4 n 0 a f)
  sin a f := A.sin (ix4 n 0 a f)
  dq h l := A.dq (ix4 0 n h l)
  dk h l := A.dk (ix4 0 ⟨n.val, by omega⟩ h l)
  dv h l := A.dv (ix4 0 ⟨n.val, by omega⟩ h l)
  dgb e := A.dgb (ix3 0 n e)
  dy e := A.dy (ix3 0 n e)
  dyp e := if h : n.val = 0 then 0 else A.dy (ix3 0 ⟨n.val - 1, by omega⟩ e)
  dyn e := if h : n.val = 4095 then 0 else A.dy (ix3 0 ⟨n.val + 1, by omega⟩ e)
  dx1 j := A.dx1 (ix3 0 n j)

end Cert.InprojSpec

end
-- ==== Proof.Inproj.Host.lean ====
/-
  The arrays the host hands to the kernel's grid, as entries of the arguments: columns and heads placed in padded lanes with zeros
  between, the rotation's tables spread over the lanes, and the projection's columns of the forward pass.
-/
module

public import proofs.«01_k».proof.Proof.Inproj.Tie
public import proofs.«01_k».proof.Proof.Inproj.Rows
public import proofs.«01_k».proof.Proof.Inproj.Lanes
public import proofs.«01_k».proof.Proof.Inproj.Args
public import Idealize.ShloMosaic.Lib.Tactic.CleanTypes
public import Idealize.ShloMosaic.Lib.StableHlo.RunRead

@[expose] public section

set_option maxRecDepth 16384

noncomputable section

namespace Cert.InprojIdeal.Host

open Idealize.ShloMosaic Idealize.ShloMosaic.TcCoe Idealize.SL.Sem Cert.InprojIdeal Cert.InprojIdeal.Gen
open Cert.InprojSpec (Args wtsOf rowOf lit)

variable (m : (ℓ : Loc nD τ sig) → Buf (Elt Ideal) ℓ) (c : Dev nD)

/-- The arguments of a device. -/
def args : Args where
  x := m ((c : Thread nD τ).loc main_arg0)
  mod := m ((c : Thread nD τ).loc main_arg2)
  win := m ((c : Thread nD τ).loc main_arg4)
  qg := m ((c : Thread nD τ).loc main_arg5)
  wuq := m ((c : Thread nD τ).loc main_arg6)
  kvg := m ((c : Thread nD τ).loc main_arg7)
  wukv := m ((c : Thread nD τ).loc main_arg8)
  cw := m ((c : Thread nD τ).loc main_arg9)
  cos := m ((c : Thread nD τ).loc main_arg10)
  sin := m ((c : Thread nD τ).loc main_arg11)
  dq := m ((c : Thread nD τ).loc main_arg12)
  dk := m ((c : Thread nD τ).loc main_arg13)
  dv := m ((c : Thread nD τ).loc main_arg14)
  dgb := m ((c : Thread nD τ).loc main_arg15)
  dy := m ((c : Thread nD τ).loc main_arg16)
  dx1 := m ((c : Thread nD τ).loc main_arg17)

abbrev hostX : FVec Ideal S4096x1024 .f32 := V m c main_v0
abbrev hostMod : FVec Ideal S2x8x1024 .f32 := V m c main_v11
abbrev hostZ : FVec Ideal S4352x2048 .f32 := V m c main_v109
abbrev hostDy : FVec Ideal S4096x512 .f32 := V m c main_v112
abbrev hostDgb : FVec Ideal S4096x512 .f32 := V m c main_v113
abbrev hostDx1 : FVec Ideal S4096x1024 .f32 := V m c main_v114
abbrev hostDq : FVec Ideal S8x4096x128 .f32 := V m c main_v117
abbrev hostDk : FVec Ideal S8x4352x128 .f32 := V m c main_v120
abbrev hostDv : FVec Ideal S8x4352x128 .f32 := V m c main_v123
abbrev hostCos : FVec Ideal S4352x128 .f32 := V m c main_v47
abbrev hostSa : FVec Ideal S4352x128 .f32 := V m c main_v52
abbrev hostSb : FVec Ideal S4352x128 .f32 := V m c main_v57
abbrev hostWin : FVec Ideal S1024x2048 .bf16 := V m c main_v19
abbrev hostWuq : FVec Ideal S256x1024 .bf16 := V m c main_v23
abbrev hostWukv : FVec Ideal S128x2048 .bf16 := V m c main_v32
abbrev hostQg : FVec Ideal S1x256 .f32 := V m c main_v110
abbrev hostKvg : FVec Ideal S1x128 .f32 := V m c main_v111
abbrev hostCw : FVec Ideal S8x512 .f32 := V m c main_v12

/-! ## The rows, the cotangents and the gains -/

set_option maxHeartbeats 4000000 in
theorem hostX_apply (n : Fin 4096) (j : Fin 1024) : hostX m c (ix2 n j) = (args m c).x (ix3 0 n j) := by
  simp only [hostX, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  clean_types
  pointwise [args]

set_option maxHeartbeats 4000000 in
theorem hostDy_apply (n : Fin 4096) (e : Fin 512) : hostDy m c (ix2 n e) = (args m c).dy (ix3 0 n e) := by
  simp only [hostDy, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  clean_types
  pointwise [args]

set_option maxHeartbeats 4000000 in
theorem hostDgb_apply (n : Fin 4096) (e : Fin 512) : hostDgb m c (ix2 n e) = (args m c).dgb (ix3 0 n e) := by
  simp only [hostDgb, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  clean_types
  pointwise [args]

set_option maxHeartbeats 4000000 in
theorem hostDx1_apply (n : Fin 4096) (j : Fin 1024) : hostDx1 m c (ix2 n j) = (args m c).dx1 (ix3 0 n j) := by
  simp only [hostDx1, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  clean_types
  pointwise [args]

set_option maxHeartbeats 4000000 in
theorem hostQg_apply (k : Fin 256) : hostQg m c (ix2 0 k) = (args m c).qg (ix1 k) := by
  simp only [hostQg, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  clean_types
  pointwise [args]

set_option maxHeartbeats 4000000 in
theorem hostKvg_apply (k : Fin 128) : hostKvg m c (ix2 0 k) = (args m c).kvg (ix1 k) := by
  simp only [hostKvg, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  clean_types
  pointwise [args]

set_option maxHeartbeats 4000000 in
theorem hostCw_apply (a : Fin 3) (e : Fin 512) : hostCw m c (ix2 ⟨a.val, by omega⟩ e) = (args m c).cw (ix2 a e) := by
  simp only [hostCw, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]

set_option maxHeartbeats 4000000 in
theorem hostDq_apply (h : Fin 8) (n : Fin 4096) (l : Fin 96) : hostDq m c (ix3 h n ⟨l.val, by omega⟩) = (args m c).dq (ix4 0 n h l) := by
  simp only [hostDq, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]

set_option maxHeartbeats 4000000 in
theorem hostDk_apply (h : Fin 8) (n : Fin 4352) (l : Fin 96) : hostDk m c (ix3 h n ⟨l.val, by omega⟩) = (args m c).dk (ix4 0 n h l) := by
  simp only [hostDk, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]

set_option maxHeartbeats 4000000 in
theorem hostDv_apply (h : Fin 8) (n : Fin 4352) (l : Fin 64) : hostDv m c (ix3 h n ⟨l.val, by omega⟩) = (args m c).dv (ix4 0 n h l) := by
  simp only [hostDv, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]

set_option maxHeartbeats 4000000 in
theorem hostMod_apply (a : Fin 2) (j : Fin 1024) : hostMod m c (ix3 0 ⟨a.val, by omega⟩ j) = (args m c).mod (ix2 0 ⟨a.val * 1024 + j.val, by omega⟩) := by
  simp only [hostMod, V]
  after_reads_simp
  clean_types
  pointwise [args]
  after_reads_simp
  clean_types
  pointwise [args]

end Cert.InprojIdeal.Host

end
-- ==== Proof.Inproj.HostWeights.lean ====
/-
  The projections' weights as the kernel's grid is given them: columns placed in padded lanes, zeros between.
-/
module

public import proofs.«01_k».proof.Proof.Inproj.Host

@[expose] public section

set_option maxRecDepth 16384

noncomputable section

namespace Cert.InprojIdeal.Host

open Idealize.ShloMosaic Idealize.ShloMosaic.TcCoe Idealize.SL.Sem Cert.InprojIdeal Cert.InprojIdeal.Gen
open Cert.InprojSpec (Args wtsOf rowOf lit)

variable (m : (ℓ : Loc nD τ sig) → Buf (Elt Ideal) ℓ) (c : Dev nD)

theorem sitofp_zero : (FloatOps.sitofp FTy.bf16 (0#32 : BitVec 32) : Ideal .bf16) = 0 := by
  show (((0#32 : BitVec 32).toInt : ℝ) : EReal) = 0
  norm_num

set_option maxHeartbeats 4000000 in
theorem hostWuq_apply (k : Fin 256) (h : Fin 8) (l : Fin 96) : hostWuq m c (ix2 k ⟨h.val * 128 + l.val, by omega⟩) = (args m c).wuq (ix2 k ⟨h.val * 96 + l.val, by omega⟩) := by
  simp only [hostWuq, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]
  rw [dif_pos (by omega)]
  exact congrArg (m (c, Proc.devRef .tc main_arg6)) (congrArg (ix2 k) (Fin.ext (by dsimp only; omega)))

set_option maxHeartbeats 4000000 in
theorem hostWuq_zero (k : Fin 256) (h : Fin 8) (l : Fin 32) : hostWuq m c (ix2 k ⟨h.val * 128 + (96 + l.val), by omega⟩) = 0 := by
  simp only [hostWuq, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]
  rw [dif_neg (by omega), sitofp_zero]

set_option maxHeartbeats 4000000 in
theorem hostWukv_n (k : Fin 128) (h : Fin 8) (l : Fin 64) : hostWukv m c (ix2 k ⟨h.val * 128 + l.val, by omega⟩) = (args m c).wukv (ix2 k ⟨h.val * 128 + l.val, by omega⟩) := by
  simp only [hostWukv, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]
  rw [dif_pos (by omega), dif_pos (by omega)]
  exact congrArg (m (c, Proc.devRef .tc main_arg8)) (congrArg (ix2 k) (Fin.ext (by dsimp only; omega)))

set_option maxHeartbeats 4000000 in
theorem hostWukv_v (k : Fin 128) (h : Fin 8) (l : Fin 64) : hostWukv m c (ix2 k ⟨1024 + (h.val * 128 + l.val), by omega⟩) = (args m c).wukv (ix2 k ⟨h.val * 128 + (64 + l.val), by omega⟩) := by
  simp only [hostWukv, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]
  rw [dif_pos (by omega)]
  exact congrArg (m (c, Proc.devRef .tc main_arg8)) (congrArg (ix2 k) (Fin.ext (by dsimp only; omega)))

set_option maxHeartbeats 4000000 in
theorem hostWukv_z (k : Fin 128) (h : Fin 8) (l : Fin 64) : hostWukv m c (ix2 k ⟨h.val * 128 + (64 + l.val), by omega⟩) = 0 := by
  simp only [hostWukv, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]
  rw [dif_pos (by omega), dif_neg (by omega), sitofp_zero]

set_option maxHeartbeats 4000000 in
theorem hostWukv_y (k : Fin 128) (h : Fin 8) (l : Fin 64) : hostWukv m c (ix2 k ⟨1024 + (h.val * 128 + (64 + l.val)), by omega⟩) = 0 := by
  simp only [hostWukv, V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.toBuf, StableHlo.TRef.ofBuf, cast_cast, cast_eq]
  clean_types
  pointwise [args]
  rw [dif_neg (by omega), sitofp_zero]

set_option maxHeartbeats 4000000 in
theorem hostWin_a (k : Fin 1024) (l : Fin 384) : hostWin m c (ix2 k ⟨l.val, by omega⟩) = (args m c).win (ix2 k ⟨l.val, by omega⟩) := by
  simp only [hostWin, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostWin_b (k : Fin 1024) (l : Fin 64) : hostWin m c (ix2 k ⟨384 + l.val, by omega⟩) = 0 := by
  simp only [hostWin, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostWin_c (k : Fin 1024) (l : Fin 32) : hostWin m c (ix2 k ⟨448 + l.val, by omega⟩) = (args m c).win (ix2 k ⟨384 + l.val, by omega⟩) := by
  simp only [hostWin, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  exact congrArg (m (c, Proc.devRef .tc main_arg4)) (congrArg (ix2 k) (Fin.ext (by dsimp only; omega)))

set_option maxHeartbeats 4000000 in
theorem hostWin_d (k : Fin 1024) (l : Fin 32) : hostWin m c (ix2 k ⟨480 + l.val, by omega⟩) = 0 := by
  simp only [hostWin, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostWin_e (k : Fin 1024) (l : Fin 1536) : hostWin m c (ix2 k ⟨512 + l.val, by omega⟩) = (args m c).win (ix2 k ⟨416 + l.val, by omega⟩) := by
  simp only [hostWin, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  exact congrArg (m (c, Proc.devRef .tc main_arg4)) (congrArg (ix2 k) (Fin.ext (by dsimp only; omega)))

end Cert.InprojIdeal.Host

end
-- ==== Proof.Inproj.HostTables.lean ====
/-
  The rotation's tables spread over a head's padded lanes.
-/
module

public import proofs.«01_k».proof.Proof.Inproj.Host

@[expose] public section

set_option maxRecDepth 16384

noncomputable section

namespace Cert.InprojIdeal.Host

open Idealize.ShloMosaic Idealize.ShloMosaic.TcCoe Idealize.SL.Sem Cert.InprojIdeal Cert.InprojIdeal.Gen
open Cert.InprojSpec (Args wtsOf rowOf lit)

variable (m : (ℓ : Loc nD τ sig) → Buf (Elt Ideal) ℓ) (c : Dev nD)

set_option maxHeartbeats 4000000 in
theorem hostCos_r (n : Fin 4096) (a s : Fin 2) (f : Fin 8) : hostCos m c (ix2 ⟨n.val, by omega⟩ ⟨64 + (a.val * 16 + s.val * 8 + f.val), by omega⟩) = (args m c).cos (ix4 n 0 a f) := by
  simp only [hostCos, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  have hs := s.isLt
  by_cases q : (a.val * 16 + s.val * 8 + f.val) % 16 < 8
  · rw [dif_pos q]
    exact congrArg (m (c, Proc.devRef .tc main_arg10)) (congrArg (ix4 n 0 a) (Fin.ext (by dsimp only; omega)))
  · rw [dif_neg q]
    exact congrArg (m (c, Proc.devRef .tc main_arg10)) (congrArg (ix4 n 0 a) (Fin.ext (by dsimp only; omega)))

set_option maxHeartbeats 4000000 in
theorem hostCos_n (n : Fin 4096) (l : Fin 64) : hostCos m c (ix2 ⟨n.val, by omega⟩ ⟨l.val, by omega⟩) = 1 := by
  simp only [hostCos, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostSa_n (n : Fin 4096) (l : Fin 64) : hostSa m c (ix2 ⟨n.val, by omega⟩ ⟨l.val, by omega⟩) = 0 := by
  simp only [hostSa, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostSa_t (n : Fin 4096) (l : Fin 32) : hostSa m c (ix2 ⟨n.val, by omega⟩ ⟨96 + l.val, by omega⟩) = 0 := by
  simp only [hostSa, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostSa_r (n : Fin 4096) (a : Fin 2) (f : Fin 8) : hostSa m c (ix2 ⟨n.val, by omega⟩ ⟨64 + (a.val * 16 + 8 + f.val), by omega⟩) = (args m c).sin (ix4 n 0 a f) := by
  simp only [hostSa, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  exact congrArg (m (c, Proc.devRef .tc main_arg11)) (congrArg (ix4 n 0 a) (Fin.ext (by dsimp only; omega)))

set_option maxHeartbeats 4000000 in
theorem hostSa_z (n : Fin 4096) (a : Fin 2) (f : Fin 8) : hostSa m c (ix2 ⟨n.val, by omega⟩ ⟨64 + (a.val * 16 + f.val), by omega⟩) = 0 := by
  simp only [hostSa, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostSb_n (n : Fin 4096) (l : Fin 64) : hostSb m c (ix2 ⟨n.val, by omega⟩ ⟨l.val, by omega⟩) = 0 := by
  simp only [hostSb, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostSb_t (n : Fin 4096) (l : Fin 32) : hostSb m c (ix2 ⟨n.val, by omega⟩ ⟨96 + l.val, by omega⟩) = 0 := by
  simp only [hostSb, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

set_option maxHeartbeats 4000000 in
theorem hostSb_r (n : Fin 4096) (a : Fin 2) (f : Fin 8) : hostSb m c (ix2 ⟨n.val, by omega⟩ ⟨64 + (a.val * 16 + f.val), by omega⟩) = - (args m c).sin (ix4 n 0 a f) := by
  simp only [hostSb, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  exact congrArg (fun k => -(args m c).sin (ix4 n 0 a k)) (Fin.ext (by dsimp only; omega))

set_option maxHeartbeats 4000000 in
theorem hostSb_z (n : Fin 4096) (a : Fin 2) (f : Fin 8) : hostSb m c (ix2 ⟨n.val, by omega⟩ ⟨64 + (a.val * 16 + 8 + f.val), by omega⟩) = 0 := by
  simp only [hostSb, V]
  after_reads_simp
  dsimp only [Matrix.cons_val]
  clean_types
  pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])
  try after_reads_simp
  try dsimp only [Matrix.cons_val]
  try clean_types
  try pointwise [args]
  repeat (first | rw [dif_pos (by omega)] | rw [dif_neg (by omega)])

end Cert.InprojIdeal.Host

end
-- ==== Proof.Inproj.HostZ.lean ====
/-
  The first projection, computed again by the host from the modulated norm, with its columns placed in padded lanes.
-/
module

public import proofs.«01_k».proof.Proof.Inproj.Host

@[expose] public section

set_option maxRecDepth 16384

noncomputable section

namespace Cert.InprojIdeal.Host

open Idealize.ShloMosaic Idealize.ShloMosaic.TcCoe Idealize.SL.Sem Cert.InprojIdeal Cert.InprojIdeal.Gen
open Cert.InprojSpec (Args wtsOf rowOf lit)

variable (m : (ℓ : Loc nD τ sig) → Buf (Elt Ideal) ℓ) (c : Dev nD)

theorem lit_one : lit 0x3F800000#32 = 1 := by simp [lit, Ideal.ofBits, Ideal.ieee, -EReal.coe_mul]; norm_num

set_option maxHeartbeats 4000000 in
/-- The modulated norm of a row. -/
theorem hostH (n : Fin 4096) (j : Fin 1024) : StableHlo.upto (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b)) 131 (Proc.devRef .tc main_v79) (ix2 n j) = InprojSpec.h (wtsOf (args m c)) (rowOf (args m c) n) j := by
  after_reads_simp
  clean_types
  pointwise
  rw [InprojSpec.h, lit_one]
  rfl

set_option maxHeartbeats 4000000 in
theorem hostZ_a (n : Fin 4096) (l : Fin 384) : hostZ m c (ix2 ⟨n.val, by omega⟩ ⟨l.val, by omega⟩) = InprojSpec.z (wtsOf (args m c)) (rowOf (args m c) n) ⟨l.val, by omega⟩ := by
  simp only [hostZ, V]
  after_reads_simp
  dsimp only [Matrix.cons_val]
  clean_types
  pointwise
  repeat (first | rw [dif_pos (by omega)] | rw [dif_neg (by omega)])
  after_reads_simp
  clean_types
  pointwise
  refine Finset.sum_congr rfl fun j _ => congrArg₂ (fun a b : EReal => a * b) (hostH m c n j) rfl

set_option maxHeartbeats 4000000 in
theorem hostZ_b (n : Fin 4096) (l : Fin 32) : hostZ m c (ix2 ⟨n.val, by omega⟩ ⟨448 + l.val, by omega⟩) = InprojSpec.z (wtsOf (args m c)) (rowOf (args m c) n) ⟨384 + l.val, by omega⟩ := by
  simp only [hostZ, V]
  after_reads_simp
  dsimp only [Matrix.cons_val]
  clean_types
  pointwise
  repeat (first | rw [dif_pos (by omega)] | rw [dif_neg (by omega)])
  after_reads_simp
  clean_types
  pointwise
  refine Finset.sum_congr rfl fun j _ => congrArg₂ (fun a b : EReal => a * b) (hostH m c n j) ?_
  exact congrArg (m (c, Proc.devRef .tc main_arg4)) (congrArg (ix2 j) (Fin.ext (by dsimp only; omega)))

set_option maxHeartbeats 4000000 in
theorem hostZ_c (n : Fin 4096) (l : Fin 1536) : hostZ m c (ix2 ⟨n.val, by omega⟩ ⟨512 + l.val, by omega⟩) = InprojSpec.z (wtsOf (args m c)) (rowOf (args m c) n) ⟨416 + l.val, by omega⟩ := by
  simp only [hostZ, V]
  after_reads_simp
  dsimp only [Matrix.cons_val]
  clean_types
  pointwise
  repeat (first | rw [dif_pos (by omega)] | rw [dif_neg (by omega)])
  after_reads_simp
  clean_types
  pointwise
  refine Finset.sum_congr rfl fun j _ => congrArg₂ (fun a b : EReal => a * b) (hostH m c n j) ?_
  exact congrArg (m (c, Proc.devRef .tc main_arg4)) (congrArg (ix2 j) (Fin.ext (by dsimp only; omega)))

end Cert.InprojIdeal.Host

end
-- ==== Proof.Inproj.Point.lean ====
/-
  The blocks of a grid point are 256 rows of the arguments in padded lanes: a block's row `i` is the sequence's row `256 t + i`
  with its neighbours, and the weights are the same at every point.
-/
module

public import proofs.«01_k».proof.Proof.Inproj.HostWeights
public import proofs.«01_k».proof.Proof.Inproj.HostTables
public import proofs.«01_k».proof.Proof.Inproj.HostZ

@[expose] public section

set_option maxRecDepth 16384

noncomputable section

namespace Cert.InprojIdeal.Host

open Idealize.ShloMosaic Idealize.ShloMosaic.TcCoe Idealize.SL.Sem Cert.InprojIdeal Cert.InprojIdeal.Gen Cert.InprojIdeal.Ops Cert.InprojIdeal.Tie
open Cert.InprojSpec (Args wtsOf rowOf colZ colQ colKV Padded)

/-- Where the blocks of a point of the latent rows lie, and the point's coordinate. -/
theorem idx : ∀ t : Fin cfg0.N, t.val < 16 → win0_0.index t = ![t.val, 0] ∧ win0_2.index t = ![0, 0, 0] ∧ win0_3.index t = ![t.val, 0]
    ∧ win0_8.index t = ![t.val, 0] ∧ win0_9.index t = ![32 * t.val - 1, 0] ∧ win0_11.index t = ![t.val, 0] ∧ win0_12.index t = ![t.val, 0]
    ∧ win0_13.index t = ![0, t.val, 0] ∧ win0_14.index t = ![0, t.val, 0] ∧ win0_15.index t = ![0, t.val, 0]
    ∧ win0_16.index t = ![t.val, 0] ∧ win0_17.index t = ![t.val, 0] ∧ win0_18.index t = ![t.val, 0]
    ∧ win0_19.index t = ![0, 0] ∧ win0_20.index t = ![0, 0] ∧ win0_21.index t = ![0, 0] ∧ win0_22.index t = ![0, 0]
    ∧ win0_23.index t = ![0, 0] ∧ win0_24.index t = ![0, 0] :=
  (by decide +kernel : ∀ t : Fin grid0.N, _)
theorem idxNext : ∀ t : Fin cfg0.N, t.val < 15 → win0_10.index t = ![32 * (t.val + 1), 0] :=
  (by decide +kernel : ∀ t : Fin grid0.N, _)
theorem idxOut : ∀ t : Fin cfg0.N, win0_25.index t = ![min t.val 15, 0] :=
  (by decide +kernel : ∀ t : Fin grid0.N, _)
theorem coord : ∀ t : Fin cfg0.N, (grid0.coords t 0).val = t.val :=
  (by decide +kernel : ∀ t : Fin grid0.N, _)

variable (m : (ℓ : Loc nD τ sig) → Buf (Elt Ideal) ℓ) (c : Dev nD) (t : Fin cfg0.N) (ht : t.val < 16)
include ht

/-- A row of a block, in the sequence. -/
abbrev at_ (i : Fin 256) : Fin 4096 := ⟨256 * t.val + i.val, by omega⟩
/-- A row of a block among the rows of the latent and the context sequence. -/
abbrev all_ (i : Fin 256) : Fin 4352 := ⟨256 * t.val + i.val, by omega⟩

/-! ## The rows -/

theorem b0 (i : Fin 256) (j : Fin 1024) : iblk m c 0 t (ix2 i j) = (args m c).x (ix3 0 (at_ t ht i) j) := by
  have h : iblk m c 0 t (ix2 i j) = V m c main_v0 (ix2 (at_ t ht i) j) := by blk_ext [iblk, idx t ht, at_]
  exact h.trans (hostX_apply m c _ j)
theorem b3 (i : Fin 256) (k : Fin 2048) : iblk m c 3 t (ix2 i k) = hostZ m c (ix2 (all_ t ht i) k) := by blk_ext [iblk, idx t ht, all_]
theorem b8 (i : Fin 256) (e : Fin 512) : iblk m c 8 t (ix2 i e) = (args m c).dy (ix3 0 (at_ t ht i) e) := by
  have h : iblk m c 8 t (ix2 i e) = V m c main_v112 (ix2 (at_ t ht i) e) := by blk_ext [iblk, idx t ht, at_]
  exact h.trans (hostDy_apply m c _ e)
theorem b9 (e : Fin 512) (n : Fin 4096) (hn : n.val + 1 = 256 * t.val) : iblk m c 9 t (ix2 7 e) = (args m c).dy (ix3 0 n e) := by
  have h : iblk m c 9 t (ix2 7 e) = V m c main_v112 (ix2 n e) := by blk_ext [iblk, idx t ht]
  exact h.trans (hostDy_apply m c _ e)
omit ht in
theorem b10 (ht : t.val < 15) (e : Fin 512) (n : Fin 4096) (hn : n.val = 256 * t.val + 256) : iblk m c 10 t (ix2 0 e) = (args m c).dy (ix3 0 n e) := by
  have h : iblk m c 10 t (ix2 0 e) = V m c main_v112 (ix2 n e) := by blk_ext [iblk, idxNext t ht]
  exact h.trans (hostDy_apply m c _ e)
theorem b11 (i : Fin 256) (e : Fin 512) : iblk m c 11 t (ix2 i e) = (args m c).dgb (ix3 0 (at_ t ht i) e) := by
  have h : iblk m c 11 t (ix2 i e) = V m c main_v113 (ix2 (at_ t ht i) e) := by blk_ext [iblk, idx t ht, at_]
  exact h.trans (hostDgb_apply m c _ e)
theorem b12 (i : Fin 256) (j : Fin 1024) : iblk m c 12 t (ix2 i j) = (args m c).dx1 (ix3 0 (at_ t ht i) j) := by
  have h : iblk m c 12 t (ix2 i j) = V m c main_v114 (ix2 (at_ t ht i) j) := by blk_ext [iblk, idx t ht, at_]
  exact h.trans (hostDx1_apply m c _ j)
theorem b13 (h : Fin 8) (i : Fin 256) (l : Fin 96) : iblk m c 13 t (ix3 h i ⟨l.val, by omega⟩) = (args m c).dq (ix4 0 (at_ t ht i) h l) := by
  have e : iblk m c 13 t (ix3 h i ⟨l.val, by omega⟩) = V m c main_v117 (ix3 h (at_ t ht i) ⟨l.val, by omega⟩) := by blk_ext [iblk, idx t ht, at_]
  exact e.trans (hostDq_apply m c h _ l)
theorem b14 (h : Fin 8) (i : Fin 256) (l : Fin 96) : iblk m c 14 t (ix3 h i ⟨l.val, by omega⟩) = (args m c).dk (ix4 0 (all_ t ht i) h l) := by
  have e : iblk m c 14 t (ix3 h i ⟨l.val, by omega⟩) = V m c main_v120 (ix3 h (all_ t ht i) ⟨l.val, by omega⟩) := by blk_ext [iblk, idx t ht, all_]
  exact e.trans (hostDk_apply m c h _ l)
theorem b15 (h : Fin 8) (i : Fin 256) (l : Fin 64) : iblk m c 15 t (ix3 h i ⟨l.val, by omega⟩) = (args m c).dv (ix4 0 (all_ t ht i) h l) := by
  have e : iblk m c 15 t (ix3 h i ⟨l.val, by omega⟩) = V m c main_v123 (ix3 h (all_ t ht i) ⟨l.val, by omega⟩) := by blk_ext [iblk, idx t ht, all_]
  exact e.trans (hostDv_apply m c h _ l)
theorem b16 (i : Fin 256) (l : Fin 128) : iblk m c 16 t (ix2 i l) = hostCos m c (ix2 (all_ t ht i) l) := by blk_ext [iblk, idx t ht, all_]
theorem b17 (i : Fin 256) (l : Fin 128) : iblk m c 17 t (ix2 i l) = hostSa m c (ix2 (all_ t ht i) l) := by blk_ext [iblk, idx t ht, all_]
theorem b18 (i : Fin 256) (l : Fin 128) : iblk m c 18 t (ix2 i l) = hostSb m c (ix2 (all_ t ht i) l) := by blk_ext [iblk, idx t ht, all_]

/-! ## The weights -/

theorem b2 (j : Fin 1024) : iblk m c 2 t (ix3 0 1 j) = (args m c).mod (ix2 0 ⟨1024 + j.val, by omega⟩) := by
  have h : iblk m c 2 t (ix3 0 1 j) = V m c main_v11 (ix3 0 1 j) := by blk_ext [iblk, idx t ht]
  exact (h.trans (hostMod_apply m c 1 j)).trans (congrArg (args m c).mod (congrArg (ix2 0) (Fin.ext (by change 1 * 1024 + j.val = 1024 + j.val; omega))))
theorem b19 (j : Fin 1024) (k : Fin 2048) : iblk m c 19 t (ix2 j k) = hostWin m c (ix2 j k) := by blk_ext [iblk, idx t ht]
theorem b20 (k : Fin 256) (l : Fin 1024) : iblk m c 20 t (ix2 k l) = hostWuq m c (ix2 k l) := by blk_ext [iblk, idx t ht]
theorem b21 (k : Fin 128) (l : Fin 2048) : iblk m c 21 t (ix2 k l) = hostWukv m c (ix2 k l) := by blk_ext [iblk, idx t ht]
theorem b22 (k : Fin 256) : iblk m c 22 t (ix2 0 k) = (args m c).qg (ix1 k) := by
  have h : iblk m c 22 t (ix2 0 k) = V m c main_v110 (ix2 0 k) := by blk_ext [iblk, idx t ht]
  exact h.trans (hostQg_apply m c k)
theorem b23 (k : Fin 128) : iblk m c 23 t (ix2 0 k) = (args m c).kvg (ix1 k) := by
  have h : iblk m c 23 t (ix2 0 k) = V m c main_v111 (ix2 0 k) := by blk_ext [iblk, idx t ht]
  exact h.trans (hostKvg_apply m c k)
theorem b24 (k : Fin 3) (e : Fin 512) : iblk m c 24 t (ix2 ⟨k.val, by omega⟩ e) = (args m c).cw (ix2 k e) := by
  have h : iblk m c 24 t (ix2 ⟨k.val, by omega⟩ e) = V m c main_v12 (ix2 ⟨k.val, by omega⟩ e) := by blk_ext [iblk, idx t ht]
  exact h.trans (hostCw_apply m c k e)

end Cert.InprojIdeal.Host

end
-- ==== Proof.Inproj.PointCols.lean ====
/-
  The host's padded arrays at a padded lane: the lanes that hold something, and the lanes that hold nothing.
-/
module

public import proofs.«01_k».proof.Proof.Inproj.Point

@[expose] public section

set_option maxRecDepth 16384

noncomputable section

namespace Cert.InprojIdeal.Host

open Idealize.ShloMosaic Idealize.ShloMosaic.TcCoe Idealize.SL.Sem Cert.InprojIdeal Cert.InprojIdeal.Gen Cert.InprojIdeal.Ops Cert.InprojIdeal.Tie
open Cert.InprojSpec (Args wtsOf rowOf colZ colQ colKV Padded)

variable (m : (ℓ : Loc nD τ sig) → Buf (Elt Ideal) ℓ) (c : Dev nD)

/-! ## The host's arrays at a padded lane -/

theorem z_col (n : Fin 4096) (k : Fin 1952) : hostZ m c (ix2 ⟨n.val, by omega⟩ (colZ k)) = InprojSpec.z (wtsOf (args m c)) (rowOf (args m c) n) k := by
  unfold colZ
  by_cases h : k.val < 384
  · rw [dif_pos h]; exact hostZ_a m c n ⟨k.val, h⟩
  · rw [dif_neg h]
    by_cases h' : k.val < 416
    · rw [dif_pos h']
      have e := hostZ_b m c n ⟨k.val - 384, by omega⟩
      have e1 : (⟨448 + (k.val - 384), by omega⟩ : Fin 2048) = ⟨k.val + 64, by omega⟩ := Fin.ext (by dsimp only; omega)
      have e2 : (⟨384 + (k.val - 384), by omega⟩ : Fin 1952) = k := Fin.ext (by dsimp only; omega)
      dsimp only at e; rw [e1, e2] at e; exact e
    · rw [dif_neg h']
      have e := hostZ_c m c n ⟨k.val - 416, by omega⟩
      have e1 : (⟨512 + (k.val - 416), by omega⟩ : Fin 2048) = ⟨k.val + 96, by omega⟩ := Fin.ext (by dsimp only; omega)
      have e2 : (⟨416 + (k.val - 416), by omega⟩ : Fin 1952) = k := Fin.ext (by dsimp only; omega)
      dsimp only at e; rw [e1, e2] at e; exact e
theorem win_col (j : Fin 1024) (k : Fin 1952) : hostWin m c (ix2 j (colZ k)) = (args m c).win (ix2 j k) := by
  unfold colZ
  by_cases h : k.val < 384
  · rw [dif_pos h]; exact hostWin_a m c j ⟨k.val, h⟩
  · rw [dif_neg h]
    by_cases h' : k.val < 416
    · rw [dif_pos h']
      have e := hostWin_c m c j ⟨k.val - 384, by omega⟩
      have e1 : (⟨448 + (k.val - 384), by omega⟩ : Fin 2048) = ⟨k.val + 64, by omega⟩ := Fin.ext (by dsimp only; omega)
      have e2 : (⟨384 + (k.val - 384), by omega⟩ : Fin 1952) = k := Fin.ext (by dsimp only; omega)
      dsimp only at e; rw [e1, e2] at e; exact e
    · rw [dif_neg h']
      have e := hostWin_e m c j ⟨k.val - 416, by omega⟩
      have e1 : (⟨512 + (k.val - 416), by omega⟩ : Fin 2048) = ⟨k.val + 96, by omega⟩ := Fin.ext (by dsimp only; omega)
      have e2 : (⟨416 + (k.val - 416), by omega⟩ : Fin 1952) = k := Fin.ext (by dsimp only; omega)
      dsimp only at e; rw [e1, e2] at e; exact e
theorem win_none (j : Fin 1024) (k : Fin 2048) (h : (384 ≤ k.val ∧ k.val < 448) ∨ (480 ≤ k.val ∧ k.val < 512)) : hostWin m c (ix2 j k) = 0 := by
  rcases h with h | h
  · have e := hostWin_b m c j ⟨k.val - 384, by omega⟩
    have e1 : (⟨384 + (k.val - 384), by omega⟩ : Fin 2048) = k := Fin.ext (by dsimp only; omega)
    dsimp only at e; rw [e1] at e; exact e
  · have e := hostWin_d m c j ⟨k.val - 480, by omega⟩
    have e1 : (⟨480 + (k.val - 480), by omega⟩ : Fin 2048) = k := Fin.ext (by dsimp only; omega)
    dsimp only at e; rw [e1] at e; exact e
theorem wuq_col (k : Fin 256) (l : Fin 768) : hostWuq m c (ix2 k (colQ l)) = (args m c).wuq (ix2 k l) := by
  have e := hostWuq_apply m c k ⟨l.val / 96, by omega⟩ ⟨l.val % 96, by omega⟩
  have e2 : (⟨l.val / 96 * 96 + l.val % 96, by omega⟩ : Fin 768) = l := Fin.ext (by dsimp only; omega)
  dsimp only at e; rw [e2] at e; exact e
theorem wuq_none (k : Fin 256) (l : Fin 1024) (h : 96 ≤ l.val % 128) : hostWuq m c (ix2 k l) = 0 := by
  have e := hostWuq_zero m c k ⟨l.val / 128, by omega⟩ ⟨l.val % 128 - 96, by omega⟩
  have e2 : (⟨l.val / 128 * 128 + (96 + (l.val % 128 - 96)), by omega⟩ : Fin 1024) = l := Fin.ext (by dsimp only; omega)
  dsimp only at e; rw [e2] at e; exact e
theorem wukv_col (k : Fin 128) (l : Fin 1024) : hostWukv m c (ix2 k (colKV l)) = (args m c).wukv (ix2 k l) := by
  unfold colKV
  by_cases h : l.val % 128 < 64
  · rw [dif_pos h]
    have e := hostWukv_n m c k ⟨l.val / 128, by omega⟩ ⟨l.val % 128, h⟩
    have e2 : (⟨l.val / 128 * 128 + l.val % 128, by omega⟩ : Fin 1024) = l := Fin.ext (by dsimp only; omega)
    dsimp only at e; rw [e2] at e; exact e
  · rw [dif_neg h]
    have e := hostWukv_v m c k ⟨l.val / 128, by omega⟩ ⟨l.val % 128 - 64, by omega⟩
    have e1 : (⟨1024 + (l.val / 128 * 128 + (l.val % 128 - 64)), by omega⟩ : Fin 2048) = ⟨1024 + l.val / 128 * 128 + (l.val % 128 - 64), by omega⟩ :=
      Fin.ext (by dsimp only; omega)
    have e2 : (⟨l.val / 128 * 128 + (64 + (l.val % 128 - 64)), by omega⟩ : Fin 1024) = l := Fin.ext (by dsimp only; omega)
    dsimp only at e; rw [e1, e2] at e; exact e
theorem wukv_none (k : Fin 128) (l : Fin 2048) (h : 64 ≤ l.val % 128) : hostWukv m c (ix2 k l) = 0 := by
  by_cases h' : l.val < 1024
  · have e := hostWukv_z m c k ⟨l.val / 128, by omega⟩ ⟨l.val % 128 - 64, by omega⟩
    have e2 : (⟨l.val / 128 * 128 + (64 + (l.val % 128 - 64)), by omega⟩ : Fin 2048) = l := Fin.ext (by dsimp only; omega)
    dsimp only at e; rw [e2] at e; exact e
  · have e := hostWukv_y m c k ⟨l.val / 128 - 8, by omega⟩ ⟨l.val % 128 - 64, by omega⟩
    have e2 : (⟨1024 + ((l.val / 128 - 8) * 128 + (64 + (l.val % 128 - 64))), by omega⟩ : Fin 2048) = l := Fin.ext (by dsimp only; omega)
    dsimp only at e; rw [e2] at e; exact e
theorem sa_none (n : Fin 4096) (l : Fin 128) (h : l.val < 64 ∨ 96 ≤ l.val ∨ l.val % 16 < 8) : hostSa m c (ix2 ⟨n.val, by omega⟩ l) = 0 := by
  by_cases h1 : l.val < 64
  · exact hostSa_n m c n ⟨l.val, h1⟩
  by_cases h2 : 96 ≤ l.val
  · have e := hostSa_t m c n ⟨l.val - 96, by omega⟩
    have e2 : (⟨96 + (l.val - 96), by omega⟩ : Fin 128) = l := Fin.ext (by dsimp only; omega)
    dsimp only at e; rw [e2] at e; exact e
  · have e := hostSa_z m c n ⟨(l.val - 64) / 16, by omega⟩ ⟨l.val % 16, by omega⟩
    have e2 : (⟨64 + ((l.val - 64) / 16 * 16 + l.val % 16), by omega⟩ : Fin 128) = l := Fin.ext (by dsimp only; omega)
    dsimp only at e; rw [e2] at e; exact e
theorem sb_none (n : Fin 4096) (l : Fin 128) (h : l.val < 64 ∨ 96 ≤ l.val ∨ 8 ≤ l.val % 16) : hostSb m c (ix2 ⟨n.val, by omega⟩ l) = 0 := by
  by_cases h1 : l.val < 64
  · exact hostSb_n m c n ⟨l.val, h1⟩
  by_cases h2 : 96 ≤ l.val
  · have e := hostSb_t m c n ⟨l.val - 96, by omega⟩
    have e2 : (⟨96 + (l.val - 96), by omega⟩ : Fin 128) = l := Fin.ext (by dsimp only; omega)
    dsimp only at e; rw [e2] at e; exact e
  · have e := hostSb_z m c n ⟨(l.val - 64) / 16, by omega⟩ ⟨l.val % 16 - 8, by omega⟩
    have e2 : (⟨64 + ((l.val - 64) / 16 * 16 + 8 + (l.val % 16 - 8)), by omega⟩ : Fin 128) = l := Fin.ext (by dsimp only; omega)
    dsimp only at e; rw [e2] at e; exact e

end Cert.InprojIdeal.Host

end
-- ==== Proof.Inproj.PointPad.lean ====
/-
  A row of a grid point's blocks is the sequence's row held in padded lanes, under the weights held in padded lanes.
-/
module

public import proofs.«01_k».proof.Proof.Inproj.PointCols

@[expose] public section

set_option maxRecDepth 16384

noncomputable section

namespace Cert.InprojIdeal.Host

open Idealize.ShloMosaic Idealize.ShloMosaic.TcCoe Idealize.SL.Sem Cert.InprojIdeal Cert.InprojIdeal.Gen Cert.InprojIdeal.Ops Cert.InprojIdeal.Tie
open Cert.InprojSpec (Args wtsOf rowOf colZ colQ colKV Padded)

/-! ## From the blocks to the row -/

section
variable (A : Args) (t : ℕ) (ht : t < 16) (i : Fin 256) (g : grid0.Coords)
  (x0 : Vec Ideal S256x1024 .f32)
  (x1 : Vec Ideal S256x1024 .f32)
  (x2 : Vec Ideal S1x8x1024 .f32)
  (x3 : Vec Ideal S256x2048 .f32)
  (x4 : Vec Ideal S8x512 .f32)
  (x5 : Vec Ideal S8x512 .f32)
  (x6 : Vec Ideal S8x512 .f32)
  (x7 : Vec Ideal S8x512 .f32)
  (x8 : Vec Ideal S256x512 .f32)
  (x9 : Vec Ideal S8x512 .f32)
  (x10 : Vec Ideal S8x512 .f32)
  (x11 : Vec Ideal S256x512 .f32)
  (x12 : Vec Ideal S256x1024 .f32)
  (x13 : Vec Ideal S8x256x128 .f32)
  (x14 : Vec Ideal S8x256x128 .f32)
  (x15 : Vec Ideal S8x256x128 .f32)
  (x16 : Vec Ideal S256x128 .f32)
  (x17 : Vec Ideal S256x128 .f32)
  (x18 : Vec Ideal S256x128 .f32)
  (x19 : Vec Ideal S1024x2048 .bf16)
  (x20 : Vec Ideal S256x1024 .bf16)
  (x21 : Vec Ideal S128x2048 .bf16)
  (x22 : Vec Ideal S1x256 .f32)
  (x23 : Vec Ideal S1x128 .f32)
  (x24 : Vec Ideal S8x512 .f32)

/-- The row's number in the sequence. -/
abbrev num : Fin 4096 := ⟨256 * t + i.val, by omega⟩

/-- Arrays that hold the sequence's row in padded lanes make a padded row of it. -/
theorem padded_of (hg : (g 0).val = t)
    (h0 : ∀ j, x0 (ix2 i j) = A.x (ix3 0 (num t ht i) j))
    (h2 : ∀ j, x2 (ix3 0 1 j) = (wtsOf A).sc j)
    (h3 : ∀ k, x3 (ix2 i (colZ k)) = InprojSpec.z (wtsOf A) (rowOf A (num t ht i)) k)
    (h8 : ∀ (i : Fin 256) e, x8 (ix2 i e) = A.dy (ix3 0 (num t ht i) e))
    (h9 : ∀ e (n : Fin 4096), n.val + 1 = 256 * t → x9 (ix2 7 e) = A.dy (ix3 0 n e))
    (h10 : t < 15 → ∀ e (n : Fin 4096), n.val = 256 * t + 256 → x10 (ix2 0 e) = A.dy (ix3 0 n e))
    (h11 : ∀ e, x11 (ix2 i e) = A.dgb (ix3 0 (num t ht i) e))
    (h12 : ∀ j, x12 (ix2 i j) = A.dx1 (ix3 0 (num t ht i) j))
    (h13 : ∀ h (l : Fin 96), x13 (ix3 h i ⟨l.val, by omega⟩) = A.dq (ix4 0 (num t ht i) h l))
    (h14 : ∀ h (l : Fin 96), x14 (ix3 h i ⟨l.val, by omega⟩) = A.dk (ix4 0 ⟨256 * t + i.val, by omega⟩ h l))
    (h15 : ∀ h (l : Fin 64), x15 (ix3 h i ⟨l.val, by omega⟩) = A.dv (ix4 0 ⟨256 * t + i.val, by omega⟩ h l))
    (h16 : ∀ l : Fin 128, l.val < 64 → x16 (ix2 i l) = 1)
    (h16' : ∀ (a s : Fin 2) (f : Fin 8), x16 (ix2 i ⟨64 + (a.val * 16 + s.val * 8 + f.val), by omega⟩) = A.cos (ix4 (num t ht i) 0 a f))
    (h17 : ∀ l : Fin 128, l.val < 64 ∨ 96 ≤ l.val ∨ l.val % 16 < 8 → x17 (ix2 i l) = 0)
    (h17' : ∀ (a : Fin 2) (f : Fin 8), x17 (ix2 i ⟨64 + (a.val * 16 + 8 + f.val), by omega⟩) = A.sin (ix4 (num t ht i) 0 a f))
    (h18 : ∀ l : Fin 128, l.val < 64 ∨ 96 ≤ l.val ∨ 8 ≤ l.val % 16 → x18 (ix2 i l) = 0)
    (h18' : ∀ (a : Fin 2) (f : Fin 8), x18 (ix2 i ⟨64 + (a.val * 16 + f.val), by omega⟩) = -(rowOf A (num t ht i)).sin a f)
    (h19 : ∀ j k, x19 (ix2 j (colZ k)) = A.win (ix2 j k))
    (h19' : ∀ j (k : Fin 2048), (384 ≤ k.val ∧ k.val < 448) ∨ (480 ≤ k.val ∧ k.val < 512) → x19 (ix2 j k) = 0)
    (h20 : ∀ k l, x20 (ix2 k (colQ l)) = A.wuq (ix2 k l))
    (h20' : ∀ k (l : Fin 1024), 96 ≤ l.val % 128 → x20 (ix2 k l) = 0)
    (h21 : ∀ k l, x21 (ix2 k (colKV l)) = A.wukv (ix2 k l))
    (h21' : ∀ k (l : Fin 2048), 64 ≤ l.val % 128 → x21 (ix2 k l) = 0)
    (h22 : ∀ k, x22 (ix2 0 k) = A.qg (ix1 k))
    (h23 : ∀ k, x23 (ix2 0 k) = A.kvg (ix1 k))
    (h24 : ∀ (k : Fin 3) e, x24 (ix2 ⟨k.val, by omega⟩ e) = A.cw (ix2 k e)) :
    Padded (Ops.pad ⟨g, x0, x1, x2, x3, x4, x5, x6, x7, x8, x9, x10, x11, x12, x13, x14, x15, x16, x17, x18, x19, x20, x21, x22, x23, x24⟩ i) (wtsOf A) (rowOf A (num t ht i)) where
  x := funext h0
  sc := funext h2
  z := h3
  cos0 := h16
  cos1 := h16'
  sa0 := h17
  sa1 := h17'
  sb0 := h18
  sb1 := h18'
  dq := h13
  dk := h14
  dv := h15
  dgb := funext h11
  dy := funext (h8 i)
  dyp := by
    funext e
    dsimp only [Ops.pad, rowOf]
    rw [hg]
    by_cases h : i.val = 0
    · rw [dif_pos h]
      by_cases h0 : 0 < t
      · rw [if_pos h0, dif_neg (by omega)]
        exact h9 e _ (by dsimp only; omega)
      · rw [if_neg h0, dif_pos (by omega)]
    · rw [dif_neg h, dif_neg (by omega), h8]
      refine congrArg (fun n => A.dy (ix3 0 n e)) (Fin.ext ?_)
      dsimp only; omega
  dyn := by
    funext e
    dsimp only [Ops.pad, rowOf]
    rw [hg]
    by_cases h : i.val = 255
    · rw [dif_pos h]
      by_cases h0 : t < 15
      · rw [if_pos h0, dif_neg (by omega)]
        exact h10 h0 e _ (by dsimp only; omega)
      · rw [if_neg h0, dif_pos (by omega)]
    · rw [dif_neg h, dif_neg (by omega), h8]
      refine congrArg (fun n => A.dy (ix3 0 n e)) (Fin.ext ?_)
      dsimp only; omega
  dx1 := funext h12
  win1 := h19
  win0 := h19'
  wuq1 := h20
  wuq0 := h20'
  wukv1 := h21
  wukv0 := h21'
  qg := funext h22
  kvg := funext h23
  cw := funext fun k => funext fun e => h24 k e

end

/-! ## At a point -/

variable (m : (ℓ : Loc nD τ sig) → Buf (Elt Ideal) ℓ) (c : Dev nD) (t : Fin cfg0.N) (ht : t.val < 16) (i : Fin 256)
include ht

set_option maxHeartbeats 2000000 in
theorem padded : Padded (Ops.pad (inAt m c t) i) (wtsOf (args m c)) (rowOf (args m c) (at_ t ht i)) := by
  unfold inAt
  refine padded_of (args m c) t.val ht i _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_
  · exact coord t
  · exact fun j => b0 m c t ht i j
  · exact fun j => b2 m c t ht j
  · exact fun k => (b3 m c t ht i _).trans (z_col m c (at_ t ht i) k)
  · exact fun i e => b8 m c t ht i e
  · exact fun e n hn => b9 m c t ht e n hn
  · exact fun h e n hn => b10 m c t h e n hn
  · exact fun e => b11 m c t ht i e
  · exact fun j => b12 m c t ht i j
  · exact fun h l => b13 m c t ht h i l
  · exact fun h l => b14 m c t ht h i l
  · exact fun h l => b15 m c t ht h i l
  · exact fun l h => (b16 m c t ht i l).trans (hostCos_n m c (at_ t ht i) ⟨l.val, h⟩)
  · exact fun a s f => (b16 m c t ht i _).trans (hostCos_r m c (at_ t ht i) a s f)
  · exact fun l h => (b17 m c t ht i l).trans (sa_none m c (at_ t ht i) l h)
  · exact fun a f => (b17 m c t ht i _).trans (hostSa_r m c (at_ t ht i) a f)
  · exact fun l h => (b18 m c t ht i l).trans (sb_none m c (at_ t ht i) l h)
  · exact fun a f => (b18 m c t ht i _).trans (hostSb_r m c (at_ t ht i) a f)
  · exact fun j k => (b19 m c t ht j _).trans (win_col m c j k)
  · exact fun j k h => (b19 m c t ht j k).trans (win_none m c j k h)
  · exact fun k l => (b20 m c t ht k _).trans (wuq_col m c k l)
  · exact fun k l h => (b20 m c t ht k l).trans (wuq_none m c k l h)
  · exact fun k l => (b21 m c t ht k _).trans (wukv_col m c k l)
  · exact fun k l h => (b21 m c t ht k l).trans (wukv_none m c k l h)
  · exact fun k => b22 m c t ht k
  · exact fun k => b23 m c t ht k
  · exact fun k e => b24 m c t ht k e

/-- The block that a point writes, row by row. -/
theorem block (j : Fin 1024) : gxBlk m c t (ix2 i j) = InprojSpec.gx (wtsOf (args m c)) (rowOf (args m c) (at_ t ht i)) j := by
  rw [tie]
  refine (kGx_at _ ?_ i j).trans (congrFun (InprojSpec.gx_eq (padded m c t ht i)) j)
  unfold inAt
  dsimp only
  exact (coord t).symm ▸ ht

end Cert.InprojIdeal.Host

end
-- ==== Proof.Inproj.Final.lean ====
/-
  The kernel's run in exact arithmetic: the gradient's array after the 17 grid points is the row-wise description's, and the
  arguments are as they were.
-/
module

public import proofs.«01_k».proof.Proof.Inproj.PointPad
public import proofs.«01_k».proof.Proof.Inproj.Frame

@[expose] public section

set_option maxRecDepth 16384

noncomputable section

namespace Cert.InprojIdeal.Final

open Idealize.ShloMosaic Idealize.ShloMosaic.TcCoe Idealize.SL.Sem Cert.InprojIdeal Cert.InprojIdeal.Gen Cert.InprojIdeal.Host
open Cert.InprojSpec (Args wtsOf rowOf)
open Idealize.ShloMosaic.Pipeline (Dat)

variable (m : (ℓ : Loc nD τ sig) → Buf (Elt Ideal) ℓ) (c : Dev nD)

/-- The gradient on a device's arguments. -/
def out : FVec Ideal S4096x1024 .f32 := fun y => InprojSpec.gx (wtsOf (args m c)) (rowOf (args m c) (y 0)) (y 1)

/-- The last of the 17 points leaves again what the point before it left. -/
theorem block_any (t : Fin cfg0.N) (i : Fin 256) (j : Fin 1024) (n : Fin 4096) (j' : Fin 1024) (hn : 256 * (latPt t).val + i.val = n.val) (hj : j = j') :
    gxBlk m c (latPt t) (ix2 i j) = InprojSpec.gx (wtsOf (args m c)) (rowOf (args m c) n) j' := by
  subst hj
  have ht : (latPt t).val < 16 := by dsimp only [latPt]; omega
  have e : at_ (latPt t) ht i = n := Fin.ext hn
  rw [block m c (latPt t) ht i j, e]

theorem final : (dats m 0 c).arrAt 25 cfg0.N = out m c := by
  refine (dats m 0 c).arrAt_eq_of_covers 25 _ (by decide +kernel) fun t _ y => ?_
  blk_simp
  dsimp only [dats]
  have e0 : 256 * (latPt t).val + (y 0).val = ((win0_25.blk t).view.emb y 0).val := by blk_simp [idxOut t]; dsimp only [latPt]; omega
  have e1 : y 1 = (win0_25.blk t).view.emb y 1 := Fin.ext (by blk_simp [idxOut t])
  exact (congrArg _ (eq_ix2 y)).trans (block_any m c t (y 0) (y 1) _ _ e0 e1)

/-- The kernel ends with the gradient, its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v124_0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨(((dats m 0 c).toRForget_arrAt_iff (fgt := forgets) (w := 25) rfl _ _).mp ((h.1 c).1 25)).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩) (run_main_quiescent m ρ)

end Cert.InprojIdeal.Final

end
-- ==== Proof.Inproj.Real.lean ====
/-
  From finite weights and rows every quantity of a row is a real number, and the gradient of the norm, written as the quotient
  rule gives it, is the kernel's shorter form, for a row of any length under any positive divisor.
-/
module

public import proofs.«01_k».proof.Proof.Inproj.Spec
public import proofs.«01_k».proof.Proof.Mlp.Real

@[expose] public section

noncomputable section

namespace Cert.InprojSpec

open Idealize.ShloMosaic
open Cert.MlpSpec (IsReal eps eps_pos)

theorem lit_eps : lit 0x358637BD#32 = ((eps : ℝ) : EReal) := MlpSpec.lit_eps
theorem lit_negHalf : lit 0xBF000000#32 = ((-(1 / 2) : ℝ) : EReal) := MlpSpec.lit_negHalf
theorem lit_real1 : IsReal (lit 0x3F800000#32) := ⟨_, MlpSpec.lit_one⟩
theorem l1024_coe : l1024 = ((1024 : ℝ) : EReal) := MlpSpec.lit_1024
theorem l256_coe : l256 = ((256 : ℝ) : EReal) := by simp [lit, Ideal.ofBits, Ideal.ieee, -EReal.coe_mul]; norm_num
theorem l128_coe : l128 = ((128 : ℝ) : EReal) := by simp [lit, Ideal.ofBits, Ideal.ieee, -EReal.coe_mul]; norm_num

/-! ## The norm -/

section
variable {n : ℕ} {c : EReal} {r : ℝ} (hc : c = (r : EReal)) (hr : 0 < r)

/-- The mean square of a row of reals, and the small number. -/
def meanSq (r : ℝ) (v : Fin n → ℝ) : ℝ := (∑ k, v k * v k) / r + eps

/-- What the quotient rule gives for the derivative of one over the root, times the sum it meets. -/
def quot (c : EReal) (v d : Fin n → EReal) : EReal :=
  Ideal.div ((∑ k, v k * d k) * (lit 0xBF000000#32 * Ideal.div (rs c v) (Ideal.div (∑ k, v k * v k) c + lit 0x358637BD#32))) c

include hr in
theorem meanSq_pos (v : Fin n → ℝ) : 0 < meanSq r v :=
  add_pos_of_nonneg_of_pos (div_nonneg (Finset.sum_nonneg fun k _ => mul_self_nonneg (v k)) hr.le) eps_pos

include hc hr

theorem meanSq_coe (v : Fin n → ℝ) :
    Ideal.div (∑ k, (v k : EReal) * (v k : EReal)) c + lit 0x358637BD#32 = ((meanSq r v : ℝ) : EReal) := by
  simp only [← EReal.coe_mul]
  rw [RealCoe.sum, hc, RealCoe.div _ hr.ne', lit_eps, ← EReal.coe_add]; rfl

theorem rs_coe (v : Fin n → ℝ) : rs c (fun k => (v k : EReal)) = (((Real.sqrt (meanSq r v))⁻¹ : ℝ) : EReal) := by
  have h := meanSq_pos hr v
  rw [rs, meanSq_coe hc hr, Ideal.rsqrt_coe, if_neg (not_lt.mpr h.le), if_neg h.ne']

theorem div_real {x : EReal} : IsReal x → IsReal (Ideal.div x c) := by
  rintro ⟨a, rfl⟩; rw [hc]; exact ⟨_, RealCoe.div a hr.ne'⟩
theorem rs_real {v : Fin n → EReal} (h : ∀ k, IsReal (v k)) : IsReal (rs c v) := by
  choose w hw using h
  obtain rfl : v = fun k => (w k : EReal) := funext hw
  exact ⟨_, rs_coe hc hr w⟩
theorem xn_real {v : Fin n → EReal} (h : ∀ k, IsReal (v k)) (j : Fin n) : IsReal (xn c v j) := (h j).mul (rs_real hc hr h)
theorem nb_real {v d : Fin n → EReal} (h : ∀ k, IsReal (v k)) (hd : ∀ k, IsReal (d k)) (j : Fin n) : IsReal (nb c v d j) :=
  (rs_real hc hr h).mul ((hd j).sub ((xn_real hc hr h j).mul (div_real hc hr (IsReal.sum _ _ fun k => (hd k).mul (xn_real hc hr h k)))))

theorem norm_back {v d : Fin n → EReal} (hv : ∀ k, IsReal (v k)) (hd : ∀ k, IsReal (d k)) (j : Fin n) :
    (d j * rs c v + v j * quot c v d) + quot c v d * v j = nb c v d j := by
  choose w hw using hv
  choose u hu using hd
  obtain rfl : v = fun k => (w k : EReal) := funext hw
  obtain rfl : d = fun k => (u k : EReal) := funext hu
  have hM := meanSq_pos hr w
  have hs : (Real.sqrt (meanSq r w))⁻¹ * (Real.sqrt (meanSq r w))⁻¹ = (meanSq r w)⁻¹ := by rw [← mul_inv, Real.mul_self_sqrt hM.le]
  have q : quot c (fun k => (w k : EReal)) (fun k => (u k : EReal))
      = (((∑ k, w k * u k) * (-(1 / 2) * ((Real.sqrt (meanSq r w))⁻¹ / meanSq r w)) / r : ℝ) : EReal) := by
    rw [quot, meanSq_coe hc hr, rs_coe hc hr, RealCoe.div _ hM.ne', lit_negHalf, hc]
    simp only [← EReal.coe_mul]
    rw [RealCoe.sum, ← EReal.coe_mul, RealCoe.div _ hr.ne']
  rw [q, nb]
  simp only [xn]
  rw [rs_coe hc hr, hc]
  simp only [← EReal.coe_mul]
  rw [RealCoe.sum, RealCoe.div _ hr.ne']
  simp only [← EReal.coe_mul, ← EReal.coe_add, ← EReal.coe_sub]
  refine congrArg Real.toEReal ?_
  have hsum : ∑ k, u k * (w k * (Real.sqrt (meanSq r w))⁻¹) = (∑ k, w k * u k) * (Real.sqrt (meanSq r w))⁻¹ := by
    rw [Finset.sum_mul]; exact Finset.sum_congr rfl fun k _ => by ring
  rw [hsum, div_eq_mul_inv (Real.sqrt (meanSq r w))⁻¹, ← hs]
  ring

end

/-! ## The quantities of a row -/

structure Wts.Finite (W : Wts) : Prop where
  sh : ∀ j, IsReal (W.sh j)
  sc : ∀ j, IsReal (W.sc j)
  win : ∀ j k, IsReal (W.win j k)
  qg : ∀ k, IsReal (W.qg k)
  wuq : ∀ k c, IsReal (W.wuq k c)
  kvg : ∀ k, IsReal (W.kvg k)
  wukv : ∀ k c, IsReal (W.wukv k c)
  cw : ∀ k e, IsReal (W.cw k e)

structure Row.Finite (R : Row) : Prop where
  x : ∀ j, IsReal (R.x j)
  cos : ∀ a f, IsReal (R.cos a f)
  sin : ∀ a f, IsReal (R.sin a f)
  dq : ∀ h l, IsReal (R.dq h l)
  dk : ∀ h l, IsReal (R.dk h l)
  dv : ∀ h l, IsReal (R.dv h l)
  dgb : ∀ e, IsReal (R.dgb e)
  dy : ∀ e, IsReal (R.dy e)
  dyp : ∀ e, IsReal (R.dyp e)
  dyn : ∀ e, IsReal (R.dyn e)

theorem neg_real {x : EReal} : IsReal x → IsReal (-x) := by rintro ⟨a, rfl⟩; exact ⟨-a, (EReal.coe_neg a).symm⟩

section
variable {W : Wts} {R : Row} (hW : W.Finite) (hR : R.Finite)
include hR

theorem unrope_real (g : Fin 32 → EReal) (hg : ∀ l, IsReal (g l)) (l : Fin 32) : IsReal (unrope R g l) := by
  unfold unrope
  split
  · exact ((hg _).mul (hR.cos _ _)).add ((hg _).mul (hR.sin _ _))
  · exact ((hg _).mul (hR.cos _ _)).add ((hg _).mul (neg_real (hR.sin _ _)))
theorem dqf_real (c : Fin 768) : IsReal (dqf R c) := by
  unfold dqf
  split
  · exact hR.dq _ _
  · exact unrope_real hR _ (fun _ => hR.dq _ _) _
theorem dkvf_real (c : Fin 1024) : IsReal (dkvf R c) := by
  unfold dkvf
  split
  · exact hR.dk _ _
  · exact hR.dv _ _
theorem dkr_real (l : Fin 32) : IsReal (dkr R l) := unrope_real hR _ (fun _ => IsReal.sum _ _ fun _ => hR.dk _ _) l
include hW
theorem h_real (j : Fin 1024) : IsReal (h W R j) := ((xn_real l1024_coe (by norm_num) hR.x j).mul (lit_real1.add (hW.sc j))).add (hW.sh j)
theorem z_real (k : Fin 1952) : IsReal (z W R k) := IsReal.sum _ _ fun j => (h_real hW hR j).mul (hW.win j k)
theorem dcqg_real (k : Fin 256) : IsReal (dcqn W R k * W.qg k) := (IsReal.sum _ _ fun c => (dqf_real hR c).mul (hW.wuq k c)).mul (hW.qg k)
theorem dckvg_real (k : Fin 128) : IsReal (dckvn W R k * W.kvg k) := (IsReal.sum _ _ fun c => (dkvf_real hR c).mul (hW.wukv k c)).mul (hW.kvg k)
theorem dcq_real (k : Fin 256) : IsReal (dcq W R k) := nb_real l256_coe (by norm_num) (fun _ => z_real hW hR _) (dcqg_real hW hR) k
theorem dckv_real (k : Fin 128) : IsReal (dckv W R k) := nb_real l128_coe (by norm_num) (fun _ => z_real hW hR _) (dckvg_real hW hR) k
theorem du_real (e : Fin 512) : IsReal (du W R e) := (((hW.cw 0 e).mul (hR.dyn e)).add ((hW.cw 1 e).mul (hR.dy e))).add ((hW.cw 2 e).mul (hR.dyp e))
theorem dz_real (c : Fin 1952) : IsReal (dz W R c) := by
  unfold dz
  by_cases h0 : c.val < 256
  · rw [dif_pos h0]; exact dcq_real hW hR _
  rw [dif_neg h0]
  by_cases h1 : c.val < 384
  · rw [dif_pos h1]; exact dckv_real hW hR _
  rw [dif_neg h1]
  by_cases h2 : c.val < 416
  · rw [dif_pos h2]; exact dkr_real hR _
  rw [dif_neg h2]
  by_cases h3 : c.val < 928
  · rw [dif_pos h3]; exact hR.dgb _
  rw [dif_neg h3]
  by_cases h4 : c.val < 1440
  · rw [dif_pos h4]; exact (du_real hW hR _).mul (z_real hW hR _)
  rw [dif_neg h4]
  exact (du_real hW hR _).mul (z_real hW hR _)
theorem dhs_real (j : Fin 1024) : IsReal (dh1 W R j * (lit 0x3F800000#32 + W.sc j)) :=
  (IsReal.sum _ _ fun c => (dz_real hW hR c).mul (hW.win j c)).mul (lit_real1.add (hW.sc j))

end

end Cert.InprojSpec

end
-- ==== Proof.Inproj.RefFwd.lean ====
/-
  The reference's forward half, read at an index: the quantities of a row, in the reference's own order of operations.
-/
module

public import proofs.«01_k».proof.Proof.Gen.InprojRefIdeal.Run
public import proofs.«01_k».proof.Proof.Inproj.Args
public import proofs.«01_k».proof.Proof.Inproj.Real

@[expose] public section

set_option maxRecDepth 16384

noncomputable section

namespace Cert.InprojRefIdeal.Read

open Idealize.ShloMosaic Idealize.ShloMosaic.TcCoe Cert.InprojRefIdeal Cert.InprojRefIdeal.Gen Cert.InprojRefIdeal.Value
open Cert.InprojSpec (Args wtsOf rowOf lit l1024 l256 l128)

variable (V0 : Valuation τ sig (Elt Ideal))

/-- The arguments of the reference. -/
def args : Args where
  x := V0 (Proc.devRef .tc main_arg0)
  mod := V0 (Proc.devRef .tc main_arg2)
  win := V0 (Proc.devRef .tc main_arg4)
  qg := V0 (Proc.devRef .tc main_arg5)
  wuq := V0 (Proc.devRef .tc main_arg6)
  kvg := V0 (Proc.devRef .tc main_arg7)
  wukv := V0 (Proc.devRef .tc main_arg8)
  cw := V0 (Proc.devRef .tc main_arg9)
  cos := V0 (Proc.devRef .tc main_arg10)
  sin := V0 (Proc.devRef .tc main_arg11)
  dq := V0 (Proc.devRef .tc main_arg12)
  dk := V0 (Proc.devRef .tc main_arg13)
  dv := V0 (Proc.devRef .tc main_arg14)
  dgb := V0 (Proc.devRef .tc main_arg15)
  dy := V0 (Proc.devRef .tc main_arg16)
  dx1 := V0 (Proc.devRef .tc main_arg17)

abbrev W := wtsOf (args V0)
abbrev R (n : Fin 4096) := rowOf (args V0) n

variable (n : Fin 4096) (j : Fin 1024) (e : Fin 512) (k : Fin 1952) (a : Fin 2) (f : Fin 8)

theorem ms_at : res_main_v14 V0 (ix3 0 n 0) = Ideal.div (∑ k, (R V0 n).x k * (R V0 n).x k) l1024 + lit 0x358637BD#32 := by
  pointwise [res_main_v14]; rfl
theorem rs_at : res_main_v15 V0 (ix3 0 n 0) = InprojSpec.rs l1024 (R V0 n).x := by
  pointwise [res_main_v15]
  rw [ms_at]; rfl
theorem sc_at : res_main_v22 V0 (ix3 0 0 j) = lit 0x3F800000#32 + (W V0).sc j := by pointwise [res_main_v22, args, wtsOf]
theorem z_at : res_main_v27 V0 (ix3 0 n k) = InprojSpec.z (W V0) (R V0 n) k := by
  pointwise [res_main_v27]
  simp only [rs_at, sc_at]
  rfl
theorem cq_at (k : Fin 256) : res_main_v28 V0 (ix3 0 n k) = InprojSpec.cq (W V0) (R V0 n) k := by
  pointwise [res_main_v28]
  exact z_at V0 n _
theorem msq_at : res_main_v35 V0 (ix3 0 n 0) = Ideal.div (∑ k, InprojSpec.cq (W V0) (R V0 n) k * InprojSpec.cq (W V0) (R V0 n) k) l256 + lit 0x358637BD#32 := by
  pointwise [res_main_v35]
  simp only [cq_at]
theorem rsq_at : res_main_v36 V0 (ix3 0 n 0) = InprojSpec.rs l256 (InprojSpec.cq (W V0) (R V0 n)) := by
  pointwise [res_main_v36]
  rw [msq_at]; rfl
theorem qg_at (k : Fin 256) : res_main_v42 V0 (ix3 0 0 k) = (W V0).qg k := by pointwise [res_main_v42, args, wtsOf]
theorem ckv_at (k : Fin 128) : res_main_v73 V0 (ix3 0 n k) = InprojSpec.ckv (W V0) (R V0 n) k := by
  pointwise [res_main_v73]
  exact z_at V0 n _
theorem mskv_at : res_main_v80 V0 (ix3 0 n 0) = Ideal.div (∑ k, InprojSpec.ckv (W V0) (R V0 n) k * InprojSpec.ckv (W V0) (R V0 n) k) l128 + lit 0x358637BD#32 := by
  pointwise [res_main_v80]
  simp only [ckv_at]
theorem rskv_at : res_main_v81 V0 (ix3 0 n 0) = InprojSpec.rs l128 (InprojSpec.ckv (W V0) (R V0 n)) := by
  pointwise [res_main_v81]
  rw [mskv_at]; rfl
theorem kvg_at (k : Fin 128) : res_main_v87 V0 (ix3 0 0 k) = (W V0).kvg k := by pointwise [res_main_v87, args, wtsOf]
theorem gc_at : res_main_v119 V0 (ix3 0 n e) = InprojSpec.gc (W V0) (R V0 n) e := by
  pointwise [res_main_v119, res_main_v117]
  refine (z_at V0 n _).trans (congrArg (InprojSpec.z (W V0) (R V0 n)) (Fin.ext ?_))
  dsimp only; omega
theorem xi_at : res_main_v120 V0 (ix3 0 n e) = InprojSpec.xi (W V0) (R V0 n) e := by
  pointwise [res_main_v120, res_main_v117]
  refine (z_at V0 n _).trans (congrArg (InprojSpec.z (W V0) (R V0 n)) (Fin.ext ?_))
  dsimp only; omega
theorem cw0_at : res_main_v131 V0 (ix3 0 0 e) = (W V0).cw 0 e := by pointwise [res_main_v131, args, wtsOf]
theorem cw1_at : res_main_v136 V0 (ix3 0 0 e) = (W V0).cw 1 e := by pointwise [res_main_v136, args, wtsOf]
theorem cw2_at : res_main_v142 V0 (ix3 0 0 e) = (W V0).cw 2 e := by pointwise [res_main_v142, args, wtsOf]
theorem cosQ_at : res_main_v54 V0 (ix5 0 n 0 a f) = (R V0 n).cos a f := by pointwise [res_main_v54, args, rowOf]
theorem sinQ_at : res_main_v57 V0 (ix5 0 n 0 a f) = (R V0 n).sin a f := by pointwise [res_main_v57, args, rowOf]
theorem cosQ'_at : res_main_v61 V0 (ix5 0 n 0 a f) = (R V0 n).cos a f := by pointwise [res_main_v61, args, rowOf]
theorem sinQ'_at : res_main_v64 V0 (ix5 0 n 0 a f) = (R V0 n).sin a f := by pointwise [res_main_v64, args, rowOf]
theorem cosK_at : res_main_v99 V0 (ix5 0 n 0 a f) = (R V0 n).cos a f := by pointwise [res_main_v99, args, rowOf]
theorem sinK_at : res_main_v101 V0 (ix5 0 n 0 a f) = (R V0 n).sin a f := by pointwise [res_main_v101, args, rowOf]
theorem cosK'_at : res_main_v104 V0 (ix5 0 n 0 a f) = (R V0 n).cos a f := by pointwise [res_main_v104, args, rowOf]
theorem sinK'_at : res_main_v106 V0 (ix5 0 n 0 a f) = (R V0 n).sin a f := by pointwise [res_main_v106, args, rowOf]

end Cert.InprojRefIdeal.Read

end
-- ==== Proof.Inproj.RefBwd.lean ====
/-
  The reference's backward half, read at an index, up to the cotangent of the projections: each stage is the row-wise description's.
-/
module

public import proofs.«01_k».proof.Proof.Inproj.RefFwd
public import proofs.«01_k».proof.Proof.Mlp.RefBwd

@[expose] public section

set_option maxRecDepth 16384

noncomputable section

namespace Cert.InprojRefIdeal.Read

open Idealize.ShloMosaic Idealize.ShloMosaic.TcCoe Cert.InprojRefIdeal Cert.InprojRefIdeal.Gen Cert.InprojRefIdeal.Value
open Cert.InprojSpec (Args wtsOf rowOf lit l1024 l256 l128)

variable (V0 : Valuation τ sig (Elt Ideal))

/-- The heads' rotary lanes turned back. -/
def ropeQ : FVec Ideal S1x4096x8x32 .f32 :=
  shapeCast _ (addf (pad S1x4096x8x2x2x8 ![0, 0, 0, 0, 1, 0] ![0, 0, 0, 0, 0, 0] ![0, 0, 0, 0, 0, 0] (broadcastInDim S1x4096x8x2x1x8 ![0, 1, 2, 3, 5] bcast_S1x4096x8x2x8_S1x4096x8x2x1x8_0_1_2_3_5 (addf (mulf (res_main_v224 V0) (broadcastInDim S1x4096x8x2x8 ![0, 1, 2, 3, 4] bcast_S1x4096x1x2x8_S1x4096x8x2x8_0_1_2_3_4 (res_main_v61 V0))) (mulf (Host.negf (res_main_v222 V0)) (broadcastInDim S1x4096x8x2x8 ![0, 1, 2, 3, 4] bcast_S1x4096x1x2x8_S1x4096x8x2x8_0_1_2_3_4 (res_main_v57 V0))))) (constant S_ .f32 0x00000000#32) pads_S1x4096x8x2x1x8_S1x4096x8x2x2x8_000_000_000_000_100_000 h_S_) (pad S1x4096x8x2x2x8 ![0, 0, 0, 0, 0, 0] ![0, 0, 0, 0, 1, 0] ![0, 0, 0, 0, 0, 0] (broadcastInDim S1x4096x8x2x1x8 ![0, 1, 2, 3, 5] bcast_S1x4096x8x2x8_S1x4096x8x2x1x8_0_1_2_3_5 (addf (mulf (res_main_v224 V0) (broadcastInDim S1x4096x8x2x8 ![0, 1, 2, 3, 4] bcast_S1x4096x1x2x8_S1x4096x8x2x8_0_1_2_3_4 (res_main_v64 V0))) (mulf (res_main_v222 V0) (broadcastInDim S1x4096x8x2x8 ![0, 1, 2, 3, 4] bcast_S1x4096x1x2x8_S1x4096x8x2x8_0_1_2_3_4 (res_main_v54 V0))))) (constant S_ .f32 0x00000000#32) pads_S1x4096x8x2x1x8_S1x4096x8x2x2x8_000_000_000_000_010_000 h_S_)) shapeCasts_S1x4096x8x2x2x8_S1x4096x8x32
/-- The queries' cotangent, all lanes of a head. -/
def dqAll : FVec Ideal S1x4096x8x96 .f32 :=
  addf (pad S1x4096x8x96 ![0, 0, 0, 64] ![0, 0, 0, 0] ![0, 0, 0, 0] (ropeQ V0) (constant S_ .f32 0x00000000#32) pads_S1x4096x8x32_S1x4096x8x96_000_000_000_6400 h_S_) (pad S1x4096x8x96 ![0, 0, 0, 0] ![0, 0, 0, 32] ![0, 0, 0, 0] (extractStridedSlice S1x4096x8x64 ![0, 0, 0, 0] (V0 (Proc.devRef .tc main_arg12)) slices_S1x4096x8x96_S1x4096x8x64_0_0_0_0) (constant S_ .f32 0x00000000#32) pads_S1x4096x8x64_S1x4096x8x96_000_000_000_0320 h_S_)
/-- The keys' and values' cotangent, side by side. -/
def dkvAll : FVec Ideal S1x4096x8x128 .f32 :=
  addf (pad S1x4096x8x128 ![0, 0, 0, 64] ![0, 0, 0, 0] ![0, 0, 0, 0] (extractStridedSlice S1x4096x8x64 ![0, 0, 0, 0] (V0 (Proc.devRef .tc main_arg14)) slices_S1x4352x8x64_S1x4096x8x64_0_0_0_0) (constant S_ .f32 0x00000000#32) pads_S1x4096x8x64_S1x4096x8x128_000_000_000_6400 h_S_) (pad S1x4096x8x128 ![0, 0, 0, 0] ![0, 0, 0, 64] ![0, 0, 0, 0] (extractStridedSlice S1x4096x8x64 ![0, 0, 0, 0] (res_main_v146 V0) slices_S1x4096x8x96_S1x4096x8x64_0_0_0_0) (constant S_ .f32 0x00000000#32) pads_S1x4096x8x64_S1x4096x8x128_000_000_000_0640 h_S_)
/-- The shared rotary lanes turned back. -/
def ropeK : FVec Ideal S1x4096x1x32 .f32 :=
  shapeCast _ (addf (pad S1x4096x1x2x2x8 ![0, 0, 0, 0, 1, 0] ![0, 0, 0, 0, 0, 0] ![0, 0, 0, 0, 0, 0] (broadcastInDim S1x4096x1x2x1x8 ![0, 1, 2, 3, 5] bcast_S1x4096x1x2x8_S1x4096x1x2x1x8_0_1_2_3_5 (addf (mulf (res_main_v179 V0) (res_main_v104 V0)) (mulf (Host.negf (res_main_v177 V0)) (res_main_v101 V0)))) (constant S_ .f32 0x00000000#32) pads_S1x4096x1x2x1x8_S1x4096x1x2x2x8_000_000_000_000_100_000 h_S_) (pad S1x4096x1x2x2x8 ![0, 0, 0, 0, 0, 0] ![0, 0, 0, 0, 1, 0] ![0, 0, 0, 0, 0, 0] (broadcastInDim S1x4096x1x2x1x8 ![0, 1, 2, 3, 5] bcast_S1x4096x1x2x8_S1x4096x1x2x1x8_0_1_2_3_5 (addf (mulf (res_main_v179 V0) (res_main_v106 V0)) (mulf (res_main_v177 V0) (res_main_v99 V0)))) (constant S_ .f32 0x00000000#32) pads_S1x4096x1x2x1x8_S1x4096x1x2x2x8_000_000_000_000_010_000 h_S_)) shapeCasts_S1x4096x1x2x2x8_S1x4096x1x32
/-- The cotangent of the keys' and values' latent columns. -/
def dckvAll : FVec Ideal S1x4096x128 .f32 :=
  addf (addf (mulf (res_main_v200 V0) (broadcastInDim S1x4096x128 ![0, 1, 2] bcast_S1x4096x1_S1x4096x128_0_1_2 (res_main_v81 V0))) (mulf (res_main_v73 V0) (res_main_v211 V0))) (mulf (res_main_v211 V0) (res_main_v73 V0))
/-- The cotangent of the queries' latent columns. -/
def dcqAll : FVec Ideal S1x4096x256 .f32 :=
  addf (addf (mulf (res_main_v248 V0) (broadcastInDim S1x4096x256 ![0, 1, 2] bcast_S1x4096x1_S1x4096x256_0_1_2 (res_main_v36 V0))) (mulf (res_main_v28 V0) (res_main_v259 V0))) (mulf (res_main_v259 V0) (res_main_v28 V0))
/-- The projections' cotangent. -/
def dzAll : FVec Ideal S1x4096x1952 .f32 :=
  addf (addf (addf (pad S1x4096x1952 ![0, 0, 416] ![0, 0, 0] ![0, 0, 0] ((concatenate S1x4096x1536 2 [⟨S1x4096x512, ((V0 (Proc.devRef .tc main_arg15)) : (⟨S1x4096x512, .f32⟩ : BufTy).Contents (Elt Ideal))⟩, ⟨S1x4096x512, ((mulf (res_main_v163 V0) (res_main_v120 V0)) : (⟨S1x4096x512, .f32⟩ : BufTy).Contents (Elt Ideal))⟩, ⟨S1x4096x512, ((mulf (res_main_v119 V0) (res_main_v163 V0)) : (⟨S1x4096x512, .f32⟩ : BufTy).Contents (Elt Ideal))⟩] concatenates_S1x4096x512_S1x4096x512_S1x4096x512_S1x4096x1536_d2 : (⟨S1x4096x1536, .f32⟩ : BufTy).Contents (Elt Ideal))) (constant S_ .f32 0x00000000#32) pads_S1x4096x1536_S1x4096x1952_000_000_41600 h_S_) (pad S1x4096x1952 ![0, 0, 384] ![0, 0, 1536] ![0, 0, 0] (broadcastInDim S1x4096x32 ![1, 2] bcast_S4096x32_S1x4096x32_1_2 (Host.reduceAdd (ropeK V0) (constant S_ .f32 0x00000000#32) reducesTo_S1x4096x1x32_S4096x32_d0_2 h_S_)) (constant S_ .f32 0x00000000#32) pads_S1x4096x32_S1x4096x1952_000_000_38415360 h_S_)) (pad S1x4096x1952 ![0, 0, 256] ![0, 0, 1568] ![0, 0, 0] (dckvAll V0) (constant S_ .f32 0x00000000#32) pads_S1x4096x128_S1x4096x1952_000_000_25615680 h_S_)) (pad S1x4096x1952 ![0, 0, 0] ![0, 0, 1696] ![0, 0, 0] (dcqAll V0) (constant S_ .f32 0x00000000#32) pads_S1x4096x256_S1x4096x1952_000_000_016960 h_S_)
theorem v248_eq : res_main_v248 V0 = mulf (Host.dotGeneral dot_S1x4096x768_S256x768_S1x4096x256_2_1_01_0_n_n none (shapeCast _ (dqAll V0) shapeCasts_S1x4096x8x96_S1x4096x768) (args V0).wuq) (broadcastInDim S1x4096x256 ![0, 1, 2] bcast_S1x1x256_S1x4096x256_0_1_2 (res_main_v42 V0)) := rfl
theorem v200_eq : res_main_v200 V0 = mulf (Host.dotGeneral dot_S1x4096x1024_S128x1024_S1x4096x128_2_1_01_0_n_n none (shapeCast _ (dkvAll V0) shapeCasts_S1x4096x8x128_S1x4096x1024) (args V0).wukv) (broadcastInDim S1x4096x128 ![0, 1, 2] bcast_S1x1x128_S1x4096x128_0_1_2 (res_main_v87 V0)) := rfl
theorem v268_eq : res_main_v268 V0 = mulf (Host.dotGeneral dot_S1x4096x1952_S1024x1952_S1x4096x1024_2_1_01_0_n_n none (dzAll V0) (args V0).win) (broadcastInDim S1x4096x1024 ![0, 1, 2] bcast_S1x1x1024_S1x4096x1024_0_1_2 (res_main_v22 V0)) := rfl

variable (n : Fin 4096) (e : Fin 512)

/-- A sum over the heads, the axis before them having length one. -/
theorem sum_heads {k : ℕ} (h : (⟨4, ![1, 4096, k, 32]⟩ : Shape).ReducesTo [0, 2] ⟨2, ![4096, 32]⟩) (v : (⟨4, ![1, 4096, k, 32]⟩ : Shape).Idx → EReal)
    (init : EReal) (l : Fin 32) : Ideal.hostReduceAdd h v init (ix2 n l) = init + ∑ a : Fin k, v (ix4 0 n a l) := by
  refine congrArg (init + ·) (Finset.sum_bij' (fun i _ => (i 2 : Fin k)) (fun a _ => ix4 0 n a l) (fun _ _ => Finset.mem_univ _) ?_ ?_ ?_ ?_)
  · intro a _
    refine Finset.mem_filter.mpr ⟨Finset.mem_univ _, ?_⟩
    funext b; fin_cases b <;> rfl
  · intro i hi
    have e0 := congrArg Fin.val (congrFun (Finset.mem_filter.mp hi).2 0)
    have e1 := congrArg Fin.val (congrFun (Finset.mem_filter.mp hi).2 1)
    funext b; apply Fin.ext
    match b with
    | ⟨0, _⟩ => exact (Nat.lt_one_iff.mp (i 0).isLt).symm
    | ⟨1, _⟩ => exact e0.symm
    | ⟨2, _⟩ => rfl
    | ⟨3, _⟩ => exact e1.symm
  · intro a _; rfl
  · intro i hi
    have e0 := congrArg Fin.val (congrFun (Finset.mem_filter.mp hi).2 0)
    have e1 := congrArg Fin.val (congrFun (Finset.mem_filter.mp hi).2 1)
    refine congrArg v ?_
    funext b; apply Fin.ext
    match b with
    | ⟨0, _⟩ => exact Nat.lt_one_iff.mp (i 0).isLt
    | ⟨1, _⟩ => exact e0
    | ⟨2, _⟩ => rfl
    | ⟨3, _⟩ => exact e1

variable (h : Fin 8) (a : Fin 2) (f : Fin 8)

/-! ## The rotation's transpose -/

/-- The rotation's transpose as two paddings of one half each, added. -/
theorem unrope_halves (R : InprojSpec.Row) (g : Fin 32 → EReal) (l : Fin 32) :
    ((if _ : l.val / 16 < 2 ∧ (1 ≤ l.val / 8 % 2 ∧ l.val / 8 % 2 - 1 < 1) ∧ l.val % 8 < 8 then
        g ⟨l.val / 16 * 16 + 8 + l.val % 8, by omega⟩ * R.cos ⟨l.val / 16, by omega⟩ ⟨l.val % 8, by omega⟩
          + -g ⟨l.val / 16 * 16 + l.val % 8, by omega⟩ * R.sin ⟨l.val / 16, by omega⟩ ⟨l.val % 8, by omega⟩ else (0 : EReal))
      + if _ : l.val / 16 < 2 ∧ l.val / 8 % 2 < 1 ∧ l.val % 8 < 8 then
        g ⟨l.val / 16 * 16 + 8 + l.val % 8, by omega⟩ * R.sin ⟨l.val / 16, by omega⟩ ⟨l.val % 8, by omega⟩
          + g ⟨l.val / 16 * 16 + l.val % 8, by omega⟩ * R.cos ⟨l.val / 16, by omega⟩ ⟨l.val % 8, by omega⟩ else (0 : EReal))
      = InprojSpec.unrope R g l := by
  unfold InprojSpec.unrope
  by_cases hl : l.val % 16 < 8
  · rw [dif_pos hl, dif_neg (by omega), dif_pos (by omega), zero_add, add_comm]
    have e0 : (⟨l.val / 16 * 16 + l.val % 8, by omega⟩ : Fin 32) = l := Fin.ext (by dsimp only; omega)
    have e1 : (⟨l.val / 16 * 16 + 8 + l.val % 8, by omega⟩ : Fin 32) = ⟨l.val + 8, by omega⟩ := Fin.ext (by dsimp only; omega)
    rw [e0, e1]
  · rw [dif_neg hl, dif_pos (by omega), dif_neg (by omega), add_zero, neg_mul, mul_neg]
    have e0 : (⟨l.val / 16 * 16 + l.val % 8, by omega⟩ : Fin 32) = ⟨l.val - 8, by omega⟩ := Fin.ext (by dsimp only; omega)
    have e1 : (⟨l.val / 16 * 16 + 8 + l.val % 8, by omega⟩ : Fin 32) = l := Fin.ext (by dsimp only; omega)
    rw [e0, e1]

/-! ## The queries -/

theorem dq0_at : res_main_v222 V0 (ix5 0 n h a f) = (R V0 n).dq h ⟨64 + (a.val * 16 + f.val), by omega⟩ := by
  pointwise [res_main_v222, res_main_v220, args, rowOf]
theorem dq1_at : res_main_v224 V0 (ix5 0 n h a f) = (R V0 n).dq h ⟨64 + (a.val * 16 + 8 + f.val), by omega⟩ := by
  pointwise [res_main_v224, res_main_v220, args, rowOf]
theorem ropeQ_at (l : Fin 32) : ropeQ V0 (ix4 0 n h l) = InprojSpec.unrope (R V0 n) (fun k => (R V0 n).dq h ⟨64 + k.val, by omega⟩) l := by
  pointwise [ropeQ]
  simp only [dq0_at, dq1_at, cosQ_at, sinQ_at, cosQ'_at, sinQ'_at]
  exact unrope_halves (R V0 n) (fun k => (R V0 n).dq h ⟨64 + k.val, by omega⟩) l
theorem dqLane_at (l : Fin 96) : dqAll V0 (ix4 0 n h l)
    = if _ : l.val < 64 then (R V0 n).dq h l else InprojSpec.unrope (R V0 n) (fun k => (R V0 n).dq h ⟨64 + k.val, by omega⟩) ⟨l.val - 64, by omega⟩ := by
  pointwise [dqAll]
  by_cases hl : l.val < 64
  · rw [dif_pos hl, dif_neg (by omega), dif_pos hl, zero_add]; rfl
  · rw [dif_neg hl, dif_pos (by omega), dif_neg hl, add_zero, ropeQ_at]
theorem dqAll_at (c : Fin 768) : dqAll V0 (ix4 0 n ⟨c.val / 96, by omega⟩ ⟨c.val % 96, by omega⟩) = InprojSpec.dqf (R V0 n) c :=
  dqLane_at V0 n ⟨c.val / 96, by omega⟩ ⟨c.val % 96, by omega⟩
theorem dcq_at (k : Fin 256) : res_main_v248 V0 (ix3 0 n k) = InprojSpec.dcqn (W V0) (R V0 n) k * (W V0).qg k := by
  rw [v248_eq]
  pointwise
  simp only [dqAll_at, qg_at]
  rfl
theorem quotQ_at (k : Fin 256) : res_main_v259 V0 (ix3 0 n k)
    = InprojSpec.quot l256 (InprojSpec.cq (W V0) (R V0 n)) fun k => InprojSpec.dcqn (W V0) (R V0 n) k * (W V0).qg k := by
  pointwise [res_main_v259]
  rw [Cert.MlpRefIdeal.Read.sum_outer, zero_add]
  pointwise
  simp only [cq_at, dcq_at, rsq_at, msq_at]; rfl

/-! ## The keys and the values -/

theorem dkvLane_at (l : Fin 128) : dkvAll V0 (ix4 0 n h l)
    = if _ : l.val < 64 then (R V0 n).dk h ⟨l.val, by omega⟩ else (R V0 n).dv h ⟨l.val - 64, by omega⟩ := by
  pointwise [dkvAll, res_main_v146]
  by_cases hl : l.val < 64
  · rw [dif_pos hl, dif_neg (by omega), dif_pos hl, zero_add]; rfl
  · rw [dif_neg hl, dif_pos (by omega), dif_neg hl, add_zero]; rfl
theorem dkvAll_at (c : Fin 1024) : dkvAll V0 (ix4 0 n ⟨c.val / 128, by omega⟩ ⟨c.val % 128, by omega⟩) = InprojSpec.dkvf (R V0 n) c :=
  dkvLane_at V0 n ⟨c.val / 128, by omega⟩ ⟨c.val % 128, by omega⟩
theorem dckv_at (k : Fin 128) : res_main_v200 V0 (ix3 0 n k) = InprojSpec.dckvn (W V0) (R V0 n) k * (W V0).kvg k := by
  rw [v200_eq]
  pointwise
  simp only [dkvAll_at, kvg_at]
  rfl
theorem quotKV_at (k : Fin 128) : res_main_v211 V0 (ix3 0 n k)
    = InprojSpec.quot l128 (InprojSpec.ckv (W V0) (R V0 n)) fun k => InprojSpec.dckvn (W V0) (R V0 n) k * (W V0).kvg k := by
  pointwise [res_main_v211]
  rw [Cert.MlpRefIdeal.Read.sum_outer, zero_add]
  pointwise
  simp only [ckv_at, dckv_at, rskv_at, mskv_at]; rfl
theorem dk0_at : res_main_v177 V0 (ix5 0 n 0 a f) = ∑ h, (R V0 n).dk h ⟨64 + (a.val * 16 + f.val), by omega⟩ := by
  pointwise [res_main_v177, res_main_v175, args, rowOf]
  rw [sum_heads, zero_add]
  pointwise [res_main_v146]
theorem dk1_at : res_main_v179 V0 (ix5 0 n 0 a f) = ∑ h, (R V0 n).dk h ⟨64 + (a.val * 16 + 8 + f.val), by omega⟩ := by
  pointwise [res_main_v179, res_main_v175, args, rowOf]
  rw [sum_heads, zero_add]
  pointwise [res_main_v146]
theorem ropeK_at (l : Fin 32) : ropeK V0 (ix4 0 n 0 l) = InprojSpec.dkr (R V0 n) l := by
  pointwise [ropeK]
  simp only [dk0_at, dk1_at, cosK_at, sinK_at, cosK'_at, sinK'_at]
  exact unrope_halves (R V0 n) (fun k => ∑ h, (R V0 n).dk h ⟨64 + k.val, by omega⟩) l

/-! ## The convolution -/

theorem du_at : res_main_v163 V0 (ix3 0 n e) = InprojSpec.du (W V0) (R V0 n) e := by
  pointwise [res_main_v163, res_main_v151, res_main_v155, res_main_v148]
  rw [cw0_at, cw1_at, cw2_at]
  have p : (if h : 1 ≤ n.val ∧ n.val - 1 < 4095 then (W V0).cw 2 e * V0 (Proc.devRef .tc main_arg16) (ix3 0 ⟨n.val - 1, by omega⟩ e) else (0 : EReal))
      = (W V0).cw 2 e * (R V0 n).dyp e := by
    dsimp only [R, rowOf]
    by_cases h : n.val = 0
    · rw [dif_pos h, dif_neg (by omega), mul_zero]
    · rw [dif_neg h, dif_pos (by omega)]; rfl
  have q : (if h : n.val < 4095 then (W V0).cw 0 e * V0 (Proc.devRef .tc main_arg16) (ix3 0 ⟨1 + n.val, by omega⟩ e) else (0 : EReal))
      = (W V0).cw 0 e * (R V0 n).dyn e := by
    dsimp only [R, rowOf]
    by_cases h : n.val = 4095
    · rw [dif_pos h, dif_neg (by omega), mul_zero]
    · rw [dif_neg h, dif_pos (by omega)]
      exact congrArg (fun k => (W V0).cw 0 e * (args V0).dy (ix3 0 k e)) (Fin.ext (by dsimp only; omega))
  refine (congrArg₂ (fun a b : EReal => ((W V0).cw 1 e * (R V0 n).dy e + a) + b) p q).trans ?_
  unfold InprojSpec.du
  rw [add_comm (_ + _), ← add_assoc]

/-! ## The projections' cotangent -/

/-- Two products that agree position by position, whatever name the position goes by. -/
theorem mul_at {k : ℕ} (F G : Fin k → EReal) {a b c d : Fin k} (ha : a = c) (hb : b = d) : F a * G b = F c * G d := by rw [ha, hb]

section
variable (hW : (W V0).Finite) (hR : ∀ n, (R V0 n).Finite)
include hW hR

theorem dckvAll_at (k : Fin 128) : dckvAll V0 (ix3 0 n k) = InprojSpec.dckv (W V0) (R V0 n) k := by
  pointwise [dckvAll]
  rw [dckv_at, quotKV_at, rskv_at, ckv_at]
  exact InprojSpec.norm_back InprojSpec.l128_coe (by norm_num) (fun _ => InprojSpec.z_real hW (hR n) _) (InprojSpec.dckvg_real hW (hR n)) k
theorem dcqAll_at (k : Fin 256) : dcqAll V0 (ix3 0 n k) = InprojSpec.dcq (W V0) (R V0 n) k := by
  pointwise [dcqAll]
  rw [dcq_at, quotQ_at, rsq_at, cq_at]
  exact InprojSpec.norm_back InprojSpec.l256_coe (by norm_num) (fun _ => InprojSpec.z_real hW (hR n) _) (InprojSpec.dcqg_real hW (hR n)) k

theorem dzAll_at (c : Fin 1952) : dzAll V0 (ix3 0 n c) = InprojSpec.dz (W V0) (R V0 n) c := by
  pointwise [dzAll]
  unfold InprojSpec.dz
  by_cases h0 : c.val < 256
  · rw [dif_neg (by omega), dif_neg (by omega), dif_neg (by omega), dif_pos h0, dif_pos h0]
    simp only [add_zero, zero_add]
    exact dcqAll_at V0 n hW hR _
  rw [dif_neg h0, dif_neg h0]
  by_cases h1 : c.val < 384
  · rw [dif_neg (by omega), dif_neg (by omega), dif_pos (by omega), dif_pos h1]
    simp only [add_zero, zero_add]
    exact dckvAll_at V0 n hW hR _
  rw [dif_neg h1]
  by_cases h2 : c.val < 416
  · rw [dif_neg (by omega), dif_pos (by omega), dif_neg (by omega), dif_pos h2, sum_heads]
    simp only [add_zero, zero_add]
    refine (Finset.sum_eq_single_of_mem (0 : Fin 1) (Finset.mem_univ _) fun b _ hb => absurd (Subsingleton.elim b 0) hb).trans ?_
    exact ropeK_at V0 n _
  rw [dif_neg h2]
  have cut : (384 ≤ c.val ∧ c.val - 384 < 32) = False := eq_false (by omega)
  have cut' : (256 ≤ c.val ∧ c.val - 256 < 128) = False := eq_false (by omega)
  have all : (416 ≤ c.val ∧ c.val - 416 < 1536) = True := eq_true (by omega)
  simp only [cut, cut', all, dite_true, dite_false, add_zero]
  by_cases h3 : c.val < 928
  · rw [dif_pos (by omega), dif_pos h3]; rfl
  rw [dif_neg (by omega), dif_neg h3]
  by_cases h4 : c.val < 1440
  · rw [dif_pos (by omega), dif_pos h4, du_at, xi_at]
    exact mul_at _ _ (Fin.ext (by dsimp only; omega)) (Fin.ext (by dsimp only; omega))
  rw [dif_neg (by omega), dif_neg h4, du_at, gc_at, mul_comm]
  exact mul_at _ _ (Fin.ext (by dsimp only; omega)) (Fin.ext (by dsimp only; omega))
theorem dhs_at (j : Fin 1024) : res_main_v268 V0 (ix3 0 n j) = InprojSpec.dh1 (W V0) (R V0 n) j * res_main_v22 V0 (ix3 0 0 j) := by
  rw [v268_eq]
  pointwise
  simp only [dzAll_at V0 _ hW hR]
  rfl
theorem dh_at (j : Fin 1024) : res_main_v268 V0 (ix3 0 n j) = InprojSpec.dh1 (W V0) (R V0 n) j * (lit 0x3F800000#32 + (W V0).sc j) :=
  (dhs_at V0 n hW hR j).trans (congrArg (InprojSpec.dh1 (W V0) (R V0 n) j * ·) (sc_at V0 j))

omit hW hR in
theorem quot_of (d : Fin 1024 → EReal) (hd : ∀ j, res_main_v268 V0 (ix3 0 n j) = d j) (j : Fin 1024) :
    res_main_v279 V0 (ix3 0 n j) = InprojSpec.quot l1024 (R V0 n).x d := by
  pointwise [res_main_v279]
  rw [Cert.MlpRefIdeal.Read.sum_outer, zero_add]
  pointwise
  simp only [hd, rs_at, ms_at]; rfl

omit hW hR in
theorem out_of (d : Fin 1024 → EReal) (q r : EReal) (j : Fin 1024) (hd : res_main_v268 V0 (ix3 0 n j) = d j) (hq : res_main_v279 V0 (ix3 0 n j) = q)
    (hr : res_main_v15 V0 (ix3 0 n 0) = r) : (shapeCast S4096x1024 (addf (V0 (Proc.devRef .tc main_arg17)) (addf (addf (mulf (res_main_v268 V0) (broadcastInDim S1x4096x1024 ![0, 1, 2] bcast_S1x4096x1_S1x4096x1024_0_1_2 (res_main_v15 V0))) (mulf (V0 (Proc.devRef .tc main_arg0)) (res_main_v279 V0))) (mulf (res_main_v279 V0) (V0 (Proc.devRef .tc main_arg0))))) shapeCasts_S1x4096x1024_S4096x1024 : FVec Ideal S4096x1024 .f32) (ix2 n j)
    = (R V0 n).dx1 j + ((d j * r + (R V0 n).x j * q) + q * (R V0 n).x j) := by
  pointwise
  rw [hd, hq, hr]; rfl

/-- The result, row by row. -/
theorem out_gx : shapeCast _ (addf (V0 (Proc.devRef .tc main_arg17)) (addf (addf (mulf (res_main_v268 V0) (broadcastInDim S1x4096x1024 ![0, 1, 2] bcast_S1x4096x1_S1x4096x1024_0_1_2 (res_main_v15 V0))) (mulf (V0 (Proc.devRef .tc main_arg0)) (res_main_v279 V0))) (mulf (res_main_v279 V0) (V0 (Proc.devRef .tc main_arg0))))) shapeCasts_S1x4096x1024_S4096x1024
    = fun y => InprojSpec.gx (W V0) (R V0 (y 0)) (y 1) := by
  funext y
  refine (congrArg _ (eq_ix2 y)).trans ((out_of V0 (y 0) (fun j => InprojSpec.dh1 (W V0) (R V0 (y 0)) j * (lit 0x3F800000#32 + (W V0).sc j)) _ _ (y 1) (dh_at V0 _ hW hR _) (quot_of V0 _ _ (dh_at V0 _ hW hR) _) (rs_at V0 _)).trans ?_)
  exact congrArg ((R V0 (y 0)).dx1 (y 1) + ·) (InprojSpec.norm_back InprojSpec.l1024_coe (by norm_num) (hR (y 0)).x (InprojSpec.dhs_real hW (hR (y 0))) (y 1))

end

end Cert.InprojRefIdeal.Read

end
-- ==== Proof.Inproj.Equal.lean ====
/-
  The value claim of the projections' backward call: finite arguments are real numbers, and from equal real arguments the kernel
  and the reference end with the same gradient.
-/
module

public import proofs.«01_k».proof.Defs
public import proofs.«01_k».proof.Proof.Attn.Equal
public import proofs.«01_k».proof.Proof.Inproj.Final
public import proofs.«01_k».proof.Proof.Inproj.RefBwd

@[expose] public section

set_option maxRecDepth 16384

noncomputable section

namespace Cert.InprojIdeal.Equal

open Idealize.SL.Sem Idealize.ShloMosaic Idealize.ShloMosaic.TcCoe Cert.InprojIdeal Cert.InprojIdeal.Host Cert.InprojIdeal.Final
open Cert.InprojSpec (Args Wts Row wtsOf rowOf)
open Cert.MlpSpec (IsReal)
open Cert.AttnIdeal.Bwd (real_of_less)

/-- The shape facts that the precondition's function states. -/
theorem finiteFacts : Cert.Pre_inproj_finite.Facts where
  bcast_S_S1x4096x1024 := by decide
  bcast_S_S1x6144 := by decide
  bcast_S_S1024x1952 := by decide
  bcast_S_S256 := by decide
  bcast_S_S256x768 := by decide
  bcast_S_S128 := by decide
  bcast_S_S128x1024 := by decide
  bcast_S_S3x512 := by decide
  bcast_S_S4096x1x2x8 := by decide
  bcast_S_S1x4096x8x96 := by decide
  bcast_S_S1x4352x8x96 := by decide
  bcast_S_S1x4352x8x64 := by decide
  bcast_S_S1x4096x512 := by decide

/-- Every entry that the call reads, but of the gradient that arrives from above, is a real number. -/
structure ArgReal (A : Args) : Prop where
  x : ∀ y, IsReal (A.x y)
  mod : ∀ y, IsReal (A.mod y)
  win : ∀ y, IsReal (A.win y)
  qg : ∀ y, IsReal (A.qg y)
  wuq : ∀ y, IsReal (A.wuq y)
  kvg : ∀ y, IsReal (A.kvg y)
  wukv : ∀ y, IsReal (A.wukv y)
  cw : ∀ y, IsReal (A.cw y)
  cos : ∀ y, IsReal (A.cos y)
  sin : ∀ y, IsReal (A.sin y)
  dq : ∀ y, IsReal (A.dq y)
  dk : ∀ y, IsReal (A.dk y)
  dv : ∀ y, IsReal (A.dv y)
  dgb : ∀ y, IsReal (A.dgb y)
  dy : ∀ y, IsReal (A.dy y)

section
variable {A : Args} (H : ArgReal A)
include H

theorem wts_finite : (wtsOf A).Finite where
  sh j := H.mod _
  sc j := H.mod _
  win j k := H.win _
  qg k := H.qg _
  wuq k c := H.wuq _
  kvg k := H.kvg _
  wukv k c := H.wukv _
  cw k e := H.cw _

theorem row_finite (n : Fin 4096) : (rowOf A n).Finite where
  x j := H.x _
  cos a f := H.cos _
  sin a f := H.sin _
  dq h l := H.dq _
  dk h l := H.dk _
  dv h l := H.dv _
  dgb e := H.dgb _
  dy e := H.dy _
  dyp e := by
    dsimp only [rowOf]
    split
    · exact IsReal.zero
    · exact H.dy _
  dyn e := by
    dsimp only [rowOf]
    split
    · exact IsReal.zero
    · exact H.dy _

end

/-- Finite arguments are real numbers. -/
theorem argReal_of_finite {m : (ℓ : Loc nD τ sig) → Buf (Elt Ideal) ℓ}
    (h : Cert.Pre_InprojIdeal_inproj_finite (hPre_inproj_finite := finiteFacts) m) (c : Dev nD) : ArgReal (args m c) := by
  obtain ⟨h0, h1, h2, h3, h4, h5, h6, h7, h8, h9, h10, h11, h12, h13, h14⟩ := h c
  constructor
  · intro y; exact real_of_less (congrFun h0 y)
  · intro y; exact real_of_less (congrFun h1 y)
  · intro y; exact real_of_less (congrFun h2 y)
  · intro y; exact real_of_less (congrFun h3 y)
  · intro y; exact real_of_less (congrFun h4 y)
  · intro y; exact real_of_less (congrFun h5 y)
  · intro y; exact real_of_less (congrFun h6 y)
  · intro y; exact real_of_less (congrFun h7 y)
  · intro y; exact real_of_less (congrFun h8 y)
  · intro y; exact real_of_less (congrFun h9 y)
  · intro y; exact real_of_less (congrFun h10 y)
  · intro y; exact real_of_less (congrFun h11 y)
  · intro y; exact real_of_less (congrFun h12 y)
  · intro y; exact real_of_less (congrFun h13 y)
  · intro y; exact real_of_less (congrFun h14 y)

/-- The reference's result, once its arguments are known. -/
theorem of_args {V0 : Valuation Cert.InprojRefIdeal.τ Cert.InprojRefIdeal.sig (Elt Ideal)} {A : Args} (e : Cert.InprojRefIdeal.Read.args V0 = A) (H : ArgReal A) :
    (Cert.InprojRefIdeal.Read.W V0).Finite ∧ (∀ n, (Cert.InprojRefIdeal.Read.R V0 n).Finite)
    ∧ (fun y : S4096x1024.Idx => InprojSpec.gx (Cert.InprojRefIdeal.Read.W V0) (Cert.InprojRefIdeal.Read.R V0 (y 0)) (y 1))
      = fun y => InprojSpec.gx (wtsOf A) (rowOf A (y 0)) (y 1) := by
  subst e
  exact ⟨wts_finite H, row_finite H, rfl⟩

/-- In exact arithmetic, from equal finite arguments, the kernel and the reference end with equal gradients. -/
theorem value : Cert.algebraic_InprojIdeal_InprojRefIdeal_pre_inproj_finite (hInprojIdeal := Cert.InprojIdeal.Gen.facts)
    (hInprojRefIdeal := Cert.InprojRefIdeal.Gen.facts) (hPre_inproj_finite := finiteFacts) := by
  intro m g m' g' hfin hag
  refine ⟨fun c => out m c, Final.run m g, ?_⟩
  refine (θ_run Cert.InprojRefIdeal.defs _ _).mono (fun r h c => ?_) (Cert.InprojRefIdeal.Value.run m' g')
  have H := argReal_of_finite hfin c
  obtain ⟨a0, _, a2, _, a4, a5, a6, a7, a8, a9, a10, a11, a12, a13, a14, a15, a16, a17⟩ := hag c
  have e : Cert.InprojRefIdeal.Read.args (StableHlo.launchContents m' c) = args m c := by
    simp only [Cert.InprojRefIdeal.Read.args, Host.args, Args.mk.injEq]
    exact ⟨a0, a2, a4, a5, a6, a7, a8, a9, a10, a11, a12, a13, a14, a15, a16, a17⟩
  obtain ⟨hW, hR, o⟩ := of_args e H
  obtain ⟨r0, rest⟩ := h c
  exact ⟨r0.trans ((Cert.InprojRefIdeal.Read.out_gx _ hW hR).trans o), rest⟩

end Cert.InprojIdeal.Equal

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRef.Run
public import proofs.«01_k».proof.Proof.Gen.AttnRef
public import proofs.«01_k».proof.Proof.Attn.Equal
public import proofs.«01_k».proof.Proof.Gen.MlpRef.Run
public import proofs.«01_k».proof.Proof.Gen.MlpRefIdeal.Run
public import proofs.«01_k».proof.Proof.Mlp.FrameBits
public import proofs.«01_k».proof.Proof.Mlp.Equal
public import proofs.«01_k».proof.Proof.Gen.Inproj
public import proofs.«01_k».proof.Proof.Gen.InprojRef.Run
public import proofs.«01_k».proof.Proof.Gen.InprojRefIdeal.Run
public import proofs.«01_k».proof.Proof.Inproj.FrameBits
public import proofs.«01_k».proof.Proof.Inproj.Equal
public import proofs.«01_k».proof.Proof.Gen.Small.Frame
public import proofs.«01_k».proof.Proof.Gen.Small
public import proofs.«01_k».proof.Proof.Gen.SmallIdeal.Frame
public import proofs.«01_k».proof.Proof.Gen.SmallIdeal
public import proofs.«01_k».proof.Proof.Gen.SmallRef.Run
public import proofs.«01_k».proof.Proof.Gen.SmallRefIdeal.Run
public import Idealize.ShloMosaic.Adequacy
public import Idealize.ShloMosaic.Init

@[expose] public section

noncomputable section

namespace Cert.Proof

open Idealize.ShloMosaic Idealize.SL.Sem

/-- The two attention calls terminate without a fault, leave the arguments as they were and every counter at zero. -/
theorem frame_attn : Cert.quiescent_Attn := fun m ρ _ => Cert.Attn.Gen.frame (F := Bits) m ρ

/-- The same of the idealized program. -/
theorem frame_attnIdeal : Cert.quiescent_AttnIdeal := fun m ρ _ => Cert.AttnIdeal.Gen.frame (F := Ideal) m ρ

/-- The reference, a straight-line host program without semaphores, terminates and keeps its arguments. -/
theorem frame_attnRef : Cert.quiescent_AttnRef := fun m ρ _ =>
  (θ_run Cert.AttnRef.defs _ _).mono (fun r h => ⟨fun c => (h c).2.2.2.2, sem_eq_zero_of_no_sems (by decide) r.2⟩)
    (Cert.AttnRef.Value.run (F := Bits) m ρ)

/-- The same of the idealized reference. -/
theorem frame_attnRefIdeal : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)

/-- The idealization replaces two literals by the real numbers they round: `1 / ln 2`, and its product with the scale's literal. -/
theorem preserves_attn : Cert.preserves_Attn_AttnIdeal :=
  ⟨IdealRules.named_const.statement _ _ _ _ _ rfl, IdealRules.named_const.statement _ _ _ _ _ rfl⟩

/-- The call after the attention terminates without a fault, leaves its arguments as they were and every counter at zero. -/
theorem frame_mlpIdeal : Cert.quiescent_MlpIdeal := fun m ρ _ => Cert.MlpIdeal.Gen.frame (F := Ideal) m ρ

/-- The call's reference terminates and keeps its arguments. -/
theorem frame_mlpRef : Cert.quiescent_MlpRef := fun m ρ _ =>
  (θ_run Cert.MlpRef.defs _ _).mono
    (fun r h => ⟨fun c => (h c).2.2.2.2.2.2.2.2.2.2.2, sem_eq_zero_of_no_sems (by decide) r.2⟩)
    (Cert.MlpRef.Value.run (F := Bits) m ρ)

/-- The same of its idealized reference. -/
theorem frame_mlpRefIdeal : Cert.quiescent_MlpRefIdeal := fun m ρ _ =>
  (θ_run Cert.MlpRefIdeal.defs _ _).mono
    (fun r h => ⟨fun c => (h c).2.2.2.2.2.2.2.2.2.2.2, sem_eq_zero_of_no_sems (by decide) r.2⟩)
    (Cert.MlpRefIdeal.Value.run (F := Ideal) m ρ)

/-- The input projection's backward call terminates without a fault, leaves its arguments as they were and every counter at zero. -/
theorem frame_inprojIdeal : Cert.quiescent_InprojIdeal := fun m ρ _ => Cert.InprojIdeal.Gen.frame (F := Ideal) m ρ

/-- The call's reference terminates and keeps its arguments. -/
theorem frame_inprojRef : Cert.quiescent_InprojRef := fun m ρ _ =>
  (θ_run Cert.InprojRef.defs _ _).mono (fun r h => ⟨fun c => (h c).2, sem_eq_zero_of_no_sems (by decide) r.2⟩)
    (Cert.InprojRef.Value.run (F := Bits) m ρ)

/-- The same of its idealized reference. -/
theorem frame_inprojRefIdeal : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

/-- The small weights' reference terminates and keeps its arguments. -/
theorem frame_smallRef : Cert.quiescent_SmallRef := fun m ρ _ =>
  (θ_run Cert.SmallRef.defs _ _).mono (fun r h => ⟨fun c => (h c).2.2.2.2.2.2, sem_eq_zero_of_no_sems (by decide) r.2⟩)
    (Cert.SmallRef.Value.run (F := Bits) m ρ)

/-- The same of its idealized reference. -/
theorem frame_smallRefIdeal : Cert.quiescent_SmallRefIdeal := fun m ρ _ =>
  (θ_run Cert.SmallRefIdeal.defs _ _).mono (fun r h => ⟨fun c => (h c).2.2.2.2.2.2, sem_eq_zero_of_no_sems (by decide) r.2⟩)
    (Cert.SmallRefIdeal.Value.run (F := Ideal) m ρ)

/-- The gradients: the attention's two calls against the attention's derivative, and the call after them, with everything from the
    short convolution to the loss, against the derivative of those forward lines; the gradient of the latent tokens, against the
    derivative of the lines before the attention. Of the small weights' sums and optimiser: that they run to an end. -/
theorem claim : Cert.Claim :=
  ⟨Cert.Attn.Gen.facts, Cert.AttnIdeal.Gen.facts, Cert.AttnRefIdeal.Gen.facts, Cert.AttnRef.Gen.facts,
    Cert.Mlp.Gen.facts, Cert.MlpIdeal.Gen.facts, Cert.MlpRefIdeal.Gen.facts, Cert.MlpRef.Gen.facts,
    Cert.Inproj.Gen.facts, Cert.InprojIdeal.Gen.facts, Cert.InprojRefIdeal.Gen.facts, Cert.InprojRef.Gen.facts,
    Cert.Small.Gen.facts, Cert.SmallIdeal.Gen.facts, Cert.SmallRefIdeal.Gen.facts, Cert.SmallRef.Gen.facts,
    Cert.AttnIdeal.Bwd.finiteFacts, Cert.MlpIdeal.Equal.finiteFacts, Cert.InprojIdeal.Equal.finiteFacts,
    frame_attn, frame_attnIdeal, fun m ρ _ => Cert.AttnIdeal.Gen.frame (F := Ideal) m ρ, frame_attnRefIdeal,
    fun m ρ _ => frame_attnRefIdeal m ρ _root_.trivial, frame_attnRef,
    Cert.MlpIdeal.Gen.frame_bits, frame_mlpIdeal, fun m ρ _ => Cert.MlpIdeal.Gen.frame (F := Ideal) m ρ, frame_mlpRefIdeal,
    fun m ρ _ => frame_mlpRefIdeal m ρ _root_.trivial, frame_mlpRef,
    Cert.InprojIdeal.Gen.frame_bits, frame_inprojIdeal, fun m ρ _ => Cert.InprojIdeal.Gen.frame (F := Ideal) m ρ, frame_inprojRefIdeal,
    fun m ρ _ => frame_inprojRefIdeal m ρ _root_.trivial, frame_inprojRef,
    fun m ρ _ => Cert.Small.Gen.frame (F := Bits) m ρ, fun m ρ _ => Cert.SmallIdeal.Gen.frame (F := Ideal) m ρ, frame_smallRefIdeal, frame_smallRef,
    preserves_attn, _root_.trivial, Cert.AttnIdeal.Bwd.value, _root_.trivial, _root_.trivial, Cert.MlpIdeal.Equal.value,
    _root_.trivial, _root_.trivial, Cert.InprojIdeal.Equal.value, _root_.trivial, _root_.trivial⟩

end Cert.Proof

end
